-- ==== Defs.lean ====
def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_PairRef (m : (ℓ : Loc Cert.PairRef.nD Cert.PairRef.τ Cert.PairRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_BackMix (m : (ℓ : Loc Cert.BackMix.nD Cert.BackMix.τ Cert.BackMix.sig) → Buf (Elt Bits) ℓ) : Prop :=
  True

def Pre_BackMixIdeal (m : (ℓ : Loc Cert.BackMixIdeal.nD Cert.BackMixIdeal.τ Cert.BackMixIdeal.sig) → Buf (Elt Ideal) ℓ) : Prop :=
  True

def Pre_BackMixRefIdeal (m : (ℓ : Loc Cert.BackMixRefIdeal.nD Cert.BackMixRefIdeal.τ Cert.BackMixRefIdeal.sig) → Buf (Elt Ideal) ℓ) : Prop :=
  True

def Pre_BackFfn (m : (ℓ : Loc Cert.BackFfn.nD Cert.BackFfn.τ Cert.BackFfn.sig) → Buf (Elt Bits) ℓ) : Prop :=
  True

def Pre_BackFfnIdeal (m : (ℓ : Loc Cert.BackFfnIdeal.nD Cert.BackFfnIdeal.τ Cert.BackFfnIdeal.sig) → Buf (Elt Ideal) ℓ) : Prop :=
  True

def Pre_BackFfnRefIdeal (m : (ℓ : Loc Cert.BackFfnRefIdeal.nD Cert.BackFfnRefIdeal.τ Cert.BackFfnRefIdeal.sig) → Buf (Elt Ideal) ℓ) : Prop :=
  True

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2)
      ∧ r.2.mem ((c.tc : Thread Cert.Pair.nD Cert.Pair.τ).loc Cert.Pair.main_arg3) = m ((c.tc : Thread Cert.Pair.nD Cert.Pair.τ).loc Cert.Pair.main_arg3))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
      ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2)
      ∧ r.2.mem ((c.tc : Thread Cert.PairRefIdeal.nD Cert.PairRefIdeal.τ).loc Cert.PairRefIdeal.main_arg3) = m ((c.tc : Thread Cert.PairRefIdeal.nD Cert.PairRefIdeal.τ).loc Cert.PairRefIdeal.main_arg3))
      ∧ r.2.sem = fun _ => 0)

def quiescent_PairRef [hPairRef : Cert.PairRef.Facts] : Prop :=
  ∀ (m : (ℓ : Loc Cert.PairRef.nD Cert.PairRef.τ Cert.PairRef.sig) → Buf (Elt Bits) ℓ) (g : Dev Cert.PairRef.nD → PrngReg), Pre_PairRef m →
    θ_run (Cert.PairRef.defs (F := Bits)) (onTc (τ := Cert.PairRef.τ) (Cert.PairRef.main (F := Bits))) ⟨m, fun _ => 0, g⟩ (fun r => (∀ c : Dev Cert.PairRef.nD,
      r.2.mem ((c.tc : Thread Cert.PairRef.nD Cert.PairRef.τ).loc Cert.PairRef.main_arg0) = m ((c.tc : Thread Cert.PairRef.nD Cert.PairRef.τ).loc Cert.PairRef.main_arg0)
      ∧ r.2.mem ((c.tc : Thread Cert.PairRef.nD Cert.PairRef.τ).loc Cert.PairRef.main_arg1) = m ((c.tc : Thread Cert.PairRef.nD Cert.PairRef.τ).loc Cert.PairRef.main_arg1)
      ∧ r.2.mem ((c.tc : Thread Cert.PairRef.nD Cert.PairRef.τ).loc Cert.PairRef.main_arg2) = m ((c.tc : Thread Cert.PairRef.nD Cert.PairRef.τ).loc Cert.PairRef.main_arg2)
      ∧ r.2.mem ((c.tc : Thread Cert.PairRef.nD Cert.PairRef.τ).loc Cert.PairRef.main_arg3) = m ((c.tc : Thread Cert.PairRef.nD Cert.PairRef.τ).loc Cert.PairRef.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2)
      ∧ r.2.mem ((c.tc : Thread Cert.Chips.nD Cert.Chips.τ).loc Cert.Chips.main_arg3) = m ((c.tc : Thread Cert.Chips.nD Cert.Chips.τ).loc Cert.Chips.main_arg3))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
      ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1)
      ∧ r.2.mem ((c.tc : Thread Cert.ChipsRefIdeal.nD Cert.ChipsRefIdeal.τ).loc Cert.ChipsRefIdeal.main_arg2) = m ((c.tc : Thread Cert.ChipsRefIdeal.nD Cert.ChipsRefIdeal.τ).loc Cert.ChipsRefIdeal.main_arg2)
      ∧ r.2.mem ((c.tc : Thread Cert.ChipsRefIdeal.nD Cert.ChipsRefIdeal.τ).loc Cert.ChipsRefIdeal.main_arg3) = m ((c.tc : Thread Cert.ChipsRefIdeal.nD Cert.ChipsRefIdeal.τ).loc Cert.ChipsRefIdeal.main_arg3))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0)
      ∧ r.2.mem ((c.tc : Thread Cert.ChipsRef.nD Cert.ChipsRef.τ).loc Cert.ChipsRef.main_arg1) = m ((c.tc : Thread Cert.ChipsRef.nD Cert.ChipsRef.τ).loc Cert.ChipsRef.main_arg1)
      ∧ r.2.mem ((c.tc : Thread Cert.ChipsRef.nD Cert.ChipsRef.τ).loc Cert.ChipsRef.main_arg2) = m ((c.tc : Thread Cert.ChipsRef.nD Cert.ChipsRef.τ).loc Cert.ChipsRef.main_arg2)
      ∧ r.2.mem ((c.tc : Thread Cert.ChipsRef.nD Cert.ChipsRef.τ).loc Cert.ChipsRef.main_arg3) = m ((c.tc : Thread Cert.ChipsRef.nD Cert.ChipsRef.τ).loc Cert.ChipsRef.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5))
      ∧ r.2.sem = fun _ => 0)

def quiescent_BackMix [hBackMix : Cert.BackMix.Facts] : Prop :=
  ∀ (m : (ℓ : Loc Cert.BackMix.nD Cert.BackMix.τ Cert.BackMix.sig) → Buf (Elt Bits) ℓ) (g : Dev Cert.BackMix.nD → PrngReg), Pre_BackMix m →
    θ_run (Cert.BackMix.defs (F := Bits)) (onTc (τ := Cert.BackMix.τ) (Cert.BackMix.main (F := Bits))) ⟨m, fun _ => 0, g⟩ (fun r => (∀ c : Dev Cert.BackMix.nD,
      r.2.mem ((c.tc : Thread Cert.BackMix.nD Cert.BackMix.τ).loc Cert.BackMix.main_arg0) = m ((c.tc : Thread Cert.BackMix.nD Cert.BackMix.τ).loc Cert.BackMix.main_arg0)
      ∧ r.2.mem ((c.tc : Thread Cert.BackMix.nD Cert.BackMix.τ).loc Cert.BackMix.main_arg1) = m ((c.tc : Thread Cert.BackMix.nD Cert.BackMix.τ).loc Cert.BackMix.main_arg1)
      ∧ r.2.mem ((c.tc : Thread Cert.BackMix.nD Cert.BackMix.τ).loc Cert.BackMix.main_arg2) = m ((c.tc : Thread Cert.BackMix.nD Cert.BackMix.τ).loc Cert.BackMix.main_arg2)
      ∧ r.2.mem ((c.tc : Thread Cert.BackMix.nD Cert.BackMix.τ).loc Cert.BackMix.main_arg3) = m ((c.tc : Thread Cert.BackMix.nD Cert.BackMix.τ).loc Cert.BackMix.main_arg3)
      ∧ r.2.mem ((c.tc : Thread Cert.BackMix.nD Cert.BackMix.τ).loc Cert.BackMix.main_arg4) = m ((c.tc : Thread Cert.BackMix.nD Cert.BackMix.τ).loc Cert.BackMix.main_arg4))
      ∧ r.2.sem = fun _ => 0)

def quiescent_BackMixIdeal [hBackMixIdeal : Cert.BackMixIdeal.Facts] : Prop :=
  ∀ (m : (ℓ : Loc Cert.BackMixIdeal.nD Cert.BackMixIdeal.τ Cert.BackMixIdeal.sig) → Buf (Elt Ideal) ℓ) (g : Dev Cert.BackMixIdeal.nD → PrngReg), Pre_BackMixIdeal m →
    θ_run (Cert.BackMixIdeal.defs (F := Ideal)) (onTc (τ := Cert.BackMixIdeal.τ) (Cert.BackMixIdeal.main (F := Ideal))) ⟨m, fun _ => 0, g⟩ (fun r => (∀ c : Dev Cert.BackMixIdeal.nD,
      r.2.mem ((c.tc : Thread Cert.BackMixIdeal.nD Cert.BackMixIdeal.τ).loc Cert.BackMixIdeal.main_arg0) = m ((c.tc : Thread Cert.BackMixIdeal.nD Cert.BackMixIdeal.τ).loc Cert.BackMixIdeal.main_arg0)
      ∧ r.2.mem ((c.tc : Thread Cert.BackMixIdeal.nD Cert.BackMixIdeal.τ).loc Cert.BackMixIdeal.main_arg1) = m ((c.tc : Thread Cert.BackMixIdeal.nD Cert.BackMixIdeal.τ).loc Cert.BackMixIdeal.main_arg1)
      ∧ r.2.mem ((c.tc : Thread Cert.BackMixIdeal.nD Cert.BackMixIdeal.τ).loc Cert.BackMixIdeal.main_arg2) = m ((c.tc : Thread Cert.BackMixIdeal.nD Cert.BackMixIdeal.τ).loc Cert.BackMixIdeal.main_arg2)
      ∧ r.2.mem ((c.tc : Thread Cert.BackMixIdeal.nD Cert.BackMixIdeal.τ).loc Cert.BackMixIdeal.main_arg3) = m ((c.tc : Thread Cert.BackMixIdeal.nD Cert.BackMixIdeal.τ).loc Cert.BackMixIdeal.main_arg3)
      ∧ r.2.mem ((c.tc : Thread Cert.BackMixIdeal.nD Cert.BackMixIdeal.τ).loc Cert.BackMixIdeal.main_arg4) = m ((c.tc : Thread Cert.BackMixIdeal.nD Cert.BackMixIdeal.τ).loc Cert.BackMixIdeal.main_arg4))
      ∧ r.2.sem = fun _ => 0)

def quiescent_BackMixRefIdeal [hBackMixRefIdeal : Cert.BackMixRefIdeal.Facts] : Prop :=
  ∀ (m : (ℓ : Loc Cert.BackMixRefIdeal.nD Cert.BackMixRefIdeal.τ Cert.BackMixRefIdeal.sig) → Buf (Elt Ideal) ℓ) (g : Dev Cert.BackMixRefIdeal.nD → PrngReg), Pre_BackMixRefIdeal m →
    θ_run (Cert.BackMixRefIdeal.defs (F := Ideal)) (onTc (τ := Cert.BackMixRefIdeal.τ) (Cert.BackMixRefIdeal.main (F := Ideal))) ⟨m, fun _ => 0, g⟩ (fun r => (∀ c : Dev Cert.BackMixRefIdeal.nD,
      r.2.mem ((c.tc : Thread Cert.BackMixRefIdeal.nD Cert.BackMixRefIdeal.τ).loc Cert.BackMixRefIdeal.main_arg0) = m ((c.tc : Thread Cert.BackMixRefIdeal.nD Cert.BackMixRefIdeal.τ).loc Cert.BackMixRefIdeal.main_arg0)
      ∧ r.2.mem ((c.tc : Thread Cert.BackMixRefIdeal.nD Cert.BackMixRefIdeal.τ).loc Cert.BackMixRefIdeal.main_arg1) = m ((c.tc : Thread Cert.BackMixRefIdeal.nD Cert.BackMixRefIdeal.τ).loc Cert.BackMixRefIdeal.main_arg1)
      ∧ r.2.mem ((c.tc : Thread Cert.BackMixRefIdeal.nD Cert.BackMixRefIdeal.τ).loc Cert.BackMixRefIdeal.main_arg2) = m ((c.tc : Thread Cert.BackMixRefIdeal.nD Cert.BackMixRefIdeal.τ).loc Cert.BackMixRefIdeal.main_arg2)
      ∧ r.2.mem ((c.tc : Thread Cert.BackMixRefIdeal.nD Cert.BackMixRefIdeal.τ).loc Cert.BackMixRefIdeal.main_arg3) = m ((c.tc : Thread Cert.BackMixRefIdeal.nD Cert.BackMixRefIdeal.τ).loc Cert.BackMixRefIdeal.main_arg3)
      ∧ r.2.mem ((c.tc : Thread Cert.BackMixRefIdeal.nD Cert.BackMixRefIdeal.τ).loc Cert.BackMixRefIdeal.main_arg4) = m ((c.tc : Thread Cert.BackMixRefIdeal.nD Cert.BackMixRefIdeal.τ).loc Cert.BackMixRefIdeal.main_arg4))
      ∧ r.2.sem = fun _ => 0)

def quiescent_BackFfn [hBackFfn : Cert.BackFfn.Facts] : Prop :=
  ∀ (m : (ℓ : Loc Cert.BackFfn.nD Cert.BackFfn.τ Cert.BackFfn.sig) → Buf (Elt Bits) ℓ) (g : Dev Cert.BackFfn.nD → PrngReg), Pre_BackFfn m →
    θ_run (Cert.BackFfn.defs (F := Bits)) (onTc (τ := Cert.BackFfn.τ) (Cert.BackFfn.main (F := Bits))) ⟨m, fun _ => 0, g⟩ (fun r => (∀ c : Dev Cert.BackFfn.nD,
      r.2.mem ((c.tc : Thread Cert.BackFfn.nD Cert.BackFfn.τ).loc Cert.BackFfn.main_arg0) = m ((c.tc : Thread Cert.BackFfn.nD Cert.BackFfn.τ).loc Cert.BackFfn.main_arg0)
      ∧ r.2.mem ((c.tc : Thread Cert.BackFfn.nD Cert.BackFfn.τ).loc Cert.BackFfn.main_arg1) = m ((c.tc : Thread Cert.BackFfn.nD Cert.BackFfn.τ).loc Cert.BackFfn.main_arg1)
      ∧ r.2.mem ((c.tc : Thread Cert.BackFfn.nD Cert.BackFfn.τ).loc Cert.BackFfn.main_arg2) = m ((c.tc : Thread Cert.BackFfn.nD Cert.BackFfn.τ).loc Cert.BackFfn.main_arg2)
      ∧ r.2.mem ((c.tc : Thread Cert.BackFfn.nD Cert.BackFfn.τ).loc Cert.BackFfn.main_arg3) = m ((c.tc : Thread Cert.BackFfn.nD Cert.BackFfn.τ).loc Cert.BackFfn.main_arg3)
      ∧ r.2.mem ((c.tc : Thread Cert.BackFfn.nD Cert.BackFfn.τ).loc Cert.BackFfn.main_arg4) = m ((c.tc : Thread Cert.BackFfn.nD Cert.BackFfn.τ).loc Cert.BackFfn.main_arg4))
      ∧ r.2.sem = fun _ => 0)

def quiescent_BackFfnIdeal [hBackFfnIdeal : Cert.BackFfnIdeal.Facts] : Prop :=
  ∀ (m : (ℓ : Loc Cert.BackFfnIdeal.nD Cert.BackFfnIdeal.τ Cert.BackFfnIdeal.sig) → Buf (Elt Ideal) ℓ) (g : Dev Cert.BackFfnIdeal.nD → PrngReg), Pre_BackFfnIdeal m →
    θ_run (Cert.BackFfnIdeal.defs (F := Ideal)) (onTc (τ := Cert.BackFfnIdeal.τ) (Cert.BackFfnIdeal.main (F := Ideal))) ⟨m, fun _ => 0, g⟩ (fun r => (∀ c : Dev Cert.BackFfnIdeal.nD,
      r.2.mem ((c.tc : Thread Cert.BackFfnIdeal.nD Cert.BackFfnIdeal.τ).loc Cert.BackFfnIdeal.main_arg0) = m ((c.tc : Thread Cert.BackFfnIdeal.nD Cert.BackFfnIdeal.τ).loc Cert.BackFfnIdeal.main_arg0)
      ∧ r.2.mem ((c.tc : Thread Cert.BackFfnIdeal.nD Cert.BackFfnIdeal.τ).loc Cert.BackFfnIdeal.main_arg1) = m ((c.tc : Thread Cert.BackFfnIdeal.nD Cert.BackFfnIdeal.τ).loc Cert.BackFfnIdeal.main_arg1)
      ∧ r.2.mem ((c.tc : Thread Cert.BackFfnIdeal.nD Cert.BackFfnIdeal.τ).loc Cert.BackFfnIdeal.main_arg2) = m ((c.tc : Thread Cert.BackFfnIdeal.nD Cert.BackFfnIdeal.τ).loc Cert.BackFfnIdeal.main_arg2)
      ∧ r.2.mem ((c.tc : Thread Cert.BackFfnIdeal.nD Cert.BackFfnIdeal.τ).loc Cert.BackFfnIdeal.main_arg3) = m ((c.tc : Thread Cert.BackFfnIdeal.nD Cert.BackFfnIdeal.τ).loc Cert.BackFfnIdeal.main_arg3)
      ∧ r.2.mem ((c.tc : Thread Cert.BackFfnIdeal.nD Cert.BackFfnIdeal.τ).loc Cert.BackFfnIdeal.main_arg4) = m ((c.tc : Thread Cert.BackFfnIdeal.nD Cert.BackFfnIdeal.τ).loc Cert.BackFfnIdeal.main_arg4))
      ∧ r.2.sem = fun _ => 0)

def quiescent_BackFfnRefIdeal [hBackFfnRefIdeal : Cert.BackFfnRefIdeal.Facts] : Prop :=
  ∀ (m : (ℓ : Loc Cert.BackFfnRefIdeal.nD Cert.BackFfnRefIdeal.τ Cert.BackFfnRefIdeal.sig) → Buf (Elt Ideal) ℓ) (g : Dev Cert.BackFfnRefIdeal.nD → PrngReg), Pre_BackFfnRefIdeal m →
    θ_run (Cert.BackFfnRefIdeal.defs (F := Ideal)) (onTc (τ := Cert.BackFfnRefIdeal.τ) (Cert.BackFfnRefIdeal.main (F := Ideal))) ⟨m, fun _ => 0, g⟩ (fun r => (∀ c : Dev Cert.BackFfnRefIdeal.nD,
      r.2.mem ((c.tc : Thread Cert.BackFfnRefIdeal.nD Cert.BackFfnRefIdeal.τ).loc Cert.BackFfnRefIdeal.main_arg0) = m ((c.tc : Thread Cert.BackFfnRefIdeal.nD Cert.BackFfnRefIdeal.τ).loc Cert.BackFfnRefIdeal.main_arg0)
      ∧ r.2.mem ((c.tc : Thread Cert.BackFfnRefIdeal.nD Cert.BackFfnRefIdeal.τ).loc Cert.BackFfnRefIdeal.main_arg1) = m ((c.tc : Thread Cert.BackFfnRefIdeal.nD Cert.BackFfnRefIdeal.τ).loc Cert.BackFfnRefIdeal.main_arg1)
      ∧ r.2.mem ((c.tc : Thread Cert.BackFfnRefIdeal.nD Cert.BackFfnRefIdeal.τ).loc Cert.BackFfnRefIdeal.main_arg2) = m ((c.tc : Thread Cert.BackFfnRefIdeal.nD Cert.BackFfnRefIdeal.τ).loc Cert.BackFfnRefIdeal.main_arg2)
      ∧ r.2.mem ((c.tc : Thread Cert.BackFfnRefIdeal.nD Cert.BackFfnRefIdeal.τ).loc Cert.BackFfnRefIdeal.main_arg3) = m ((c.tc : Thread Cert.BackFfnRefIdeal.nD Cert.BackFfnRefIdeal.τ).loc Cert.BackFfnRefIdeal.main_arg3)
      ∧ r.2.mem ((c.tc : Thread Cert.BackFfnRefIdeal.nD Cert.BackFfnRefIdeal.τ).loc Cert.BackFfnRefIdeal.main_arg4) = m ((c.tc : Thread Cert.BackFfnRefIdeal.nD Cert.BackFfnRefIdeal.τ).loc Cert.BackFfnRefIdeal.main_arg4))
      ∧ r.2.sem = fun _ => 0)

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m ((c.tc : Thread Cert.PairIdeal.nD Cert.PairIdeal.τ).loc Cert.PairIdeal.main_arg0) = Layout.block ⟨3, ![8, 1024, 256]⟩ ⟨3, ![64, 1024, 256]⟩ 0 8 c (m' (((0 : Dev Cert.PairRefIdeal.nD).tc : Thread Cert.PairRefIdeal.nD Cert.PairRefIdeal.τ).loc Cert.PairRefIdeal.main_arg0))
      ∧ m ((c.tc : Thread Cert.PairIdeal.nD Cert.PairIdeal.τ).loc Cert.PairIdeal.main_arg1) = Layout.block ⟨3, ![8, 128, 1024]⟩ ⟨3, ![64, 128, 1024]⟩ 0 8 c (m' (((0 : Dev Cert.PairRefIdeal.nD).tc : Thread Cert.PairRefIdeal.nD Cert.PairRefIdeal.τ).loc Cert.PairRefIdeal.main_arg1))
      ∧ m ((c.tc : Thread Cert.PairIdeal.nD Cert.PairIdeal.τ).loc Cert.PairIdeal.main_arg2) = Layout.block ⟨3, ![8, 1024, 768]⟩ ⟨3, ![64, 1024, 768]⟩ 0 8 c (m' (((0 : Dev Cert.PairRefIdeal.nD).tc : Thread Cert.PairRefIdeal.nD Cert.PairRefIdeal.τ).loc Cert.PairRefIdeal.main_arg2))
      ∧ m ((c.tc : Thread Cert.PairIdeal.nD Cert.PairIdeal.τ).loc Cert.PairIdeal.main_arg3) = Layout.block ⟨3, ![8, 384, 1024]⟩ ⟨3, ![64, 384, 1024]⟩ 0 8 c (m' (((0 : Dev Cert.PairRefIdeal.nD).tc : Thread Cert.PairRefIdeal.nD Cert.PairRefIdeal.τ).loc Cert.PairRefIdeal.main_arg3))) →
    ∃ (v0 : Buf (Elt Ideal) (((0 : Dev Cert.PairRefIdeal.nD).tc : Thread Cert.PairRefIdeal.nD Cert.PairRefIdeal.τ).loc Cert.PairRefIdeal.main_v2)) (v1 : Buf (Elt Ideal) (((0 : Dev Cert.PairRefIdeal.nD).tc : Thread Cert.PairRefIdeal.nD Cert.PairRefIdeal.τ).loc Cert.PairRefIdeal.main_v5)) (v2 : Buf (Elt Ideal) (((0 : Dev Cert.PairRefIdeal.nD).tc : Thread Cert.PairRefIdeal.nD Cert.PairRefIdeal.τ).loc Cert.PairRefIdeal.main_v8)) (v3 : Buf (Elt Ideal) (((0 : Dev Cert.PairRefIdeal.nD).tc : Thread Cert.PairRefIdeal.nD Cert.PairRefIdeal.τ).loc Cert.PairRefIdeal.main_v11)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1_0) = Layout.block ⟨4, ![4, 2, 1024, 256]⟩ ⟨4, ![32, 2, 1024, 256]⟩ 0 8 c v0
          ∧ r.2.mem ((c.tc : Thread Cert.PairIdeal.nD Cert.PairIdeal.τ).loc Cert.PairIdeal.main_v1_1) = Layout.block ⟨4, ![4, 2, 128, 1024]⟩ ⟨4, ![32, 2, 128, 1024]⟩ 0 8 c v1
          ∧ r.2.mem ((c.tc : Thread Cert.PairIdeal.nD Cert.PairIdeal.τ).loc Cert.PairIdeal.main_v1_2) = Layout.block ⟨4, ![4, 2, 1024, 768]⟩ ⟨4, ![32, 2, 1024, 768]⟩ 0 8 c v2
          ∧ r.2.mem ((c.tc : Thread Cert.PairIdeal.nD Cert.PairIdeal.τ).loc Cert.PairIdeal.main_v1_3) = Layout.block ⟨4, ![4, 2, 384, 1024]⟩ ⟨4, ![32, 2, 384, 1024]⟩ 0 8 c v3
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
          ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ θ_run (Cert.PairRefIdeal.defs (F := Ideal)) (onTc (τ := Cert.PairRefIdeal.τ) (Cert.PairRefIdeal.main (F := Ideal))) ⟨m', fun _ => 0, g'⟩ (fun r =>
          r.2.mem (((0 : Dev Cert.PairRefIdeal.nD).tc : Thread Cert.PairRefIdeal.nD Cert.PairRefIdeal.τ).loc Cert.PairRefIdeal.main_v2) = v0
          ∧ r.2.mem (((0 : Dev Cert.PairRefIdeal.nD).tc : Thread Cert.PairRefIdeal.nD Cert.PairRefIdeal.τ).loc Cert.PairRefIdeal.main_v5) = v1
          ∧ r.2.mem (((0 : Dev Cert.PairRefIdeal.nD).tc : Thread Cert.PairRefIdeal.nD Cert.PairRefIdeal.τ).loc Cert.PairRefIdeal.main_v8) = v2
          ∧ r.2.mem (((0 : Dev Cert.PairRefIdeal.nD).tc : Thread Cert.PairRefIdeal.nD Cert.PairRefIdeal.τ).loc Cert.PairRefIdeal.main_v11) = v3
          ∧ r.2.mem (((0 : Dev Cert.PairRefIdeal.nD).tc : Thread Cert.PairRefIdeal.nD Cert.PairRefIdeal.τ).loc Cert.PairRefIdeal.main_arg0) = m' (((0 : Dev Cert.PairRefIdeal.nD).tc : Thread Cert.PairRefIdeal.nD Cert.PairRefIdeal.τ).loc Cert.PairRefIdeal.main_arg0)
          ∧ r.2.mem (((0 : Dev Cert.PairRefIdeal.nD).tc : Thread Cert.PairRefIdeal.nD Cert.PairRefIdeal.τ).loc Cert.PairRefIdeal.main_arg1) = m' (((0 : Dev Cert.PairRefIdeal.nD).tc : Thread Cert.PairRefIdeal.nD Cert.PairRefIdeal.τ).loc Cert.PairRefIdeal.main_arg1)
          ∧ r.2.mem (((0 : Dev Cert.PairRefIdeal.nD).tc : Thread Cert.PairRefIdeal.nD Cert.PairRefIdeal.τ).loc Cert.PairRefIdeal.main_arg2) = m' (((0 : Dev Cert.PairRefIdeal.nD).tc : Thread Cert.PairRefIdeal.nD Cert.PairRefIdeal.τ).loc Cert.PairRefIdeal.main_arg2)
          ∧ r.2.mem (((0 : Dev Cert.PairRefIdeal.nD).tc : Thread Cert.PairRefIdeal.nD Cert.PairRefIdeal.τ).loc Cert.PairRefIdeal.main_arg3) = m' (((0 : Dev Cert.PairRefIdeal.nD).tc : Thread Cert.PairRefIdeal.nD Cert.PairRefIdeal.τ).loc Cert.PairRefIdeal.main_arg3))

def bitexact_Pair_PairRef [hPair : Cert.Pair.Facts] [hPairRef : Cert.PairRef.Facts] : Prop :=
  ∀ (m : (ℓ : Loc Cert.Pair.nD Cert.Pair.τ Cert.Pair.sig) → Buf (Elt Bits) ℓ) (g : Dev Cert.Pair.nD → PrngReg)
    (m' : (ℓ : Loc Cert.PairRef.nD Cert.PairRef.τ Cert.PairRef.sig) → Buf (Elt Bits) ℓ) (g' : Dev Cert.PairRef.nD → PrngReg), Pre_Pair m →
    (∀ c : Dev Cert.Pair.nD,
      m ((c.tc : Thread Cert.Pair.nD Cert.Pair.τ).loc Cert.Pair.main_arg0) = Layout.block ⟨3, ![8, 1024, 256]⟩ ⟨3, ![64, 1024, 256]⟩ 0 8 c (m' (((0 : Dev Cert.PairRef.nD).tc : Thread Cert.PairRef.nD Cert.PairRef.τ).loc Cert.PairRef.main_arg0))
      ∧ m ((c.tc : Thread Cert.Pair.nD Cert.Pair.τ).loc Cert.Pair.main_arg1) = Layout.block ⟨3, ![8, 128, 1024]⟩ ⟨3, ![64, 128, 1024]⟩ 0 8 c (m' (((0 : Dev Cert.PairRef.nD).tc : Thread Cert.PairRef.nD Cert.PairRef.τ).loc Cert.PairRef.main_arg1))
      ∧ m ((c.tc : Thread Cert.Pair.nD Cert.Pair.τ).loc Cert.Pair.main_arg2) = Layout.block ⟨3, ![8, 1024, 768]⟩ ⟨3, ![64, 1024, 768]⟩ 0 8 c (m' (((0 : Dev Cert.PairRef.nD).tc : Thread Cert.PairRef.nD Cert.PairRef.τ).loc Cert.PairRef.main_arg2))
      ∧ m ((c.tc : Thread Cert.Pair.nD Cert.Pair.τ).loc Cert.Pair.main_arg3) = Layout.block ⟨3, ![8, 384, 1024]⟩ ⟨3, ![64, 384, 1024]⟩ 0 8 c (m' (((0 : Dev Cert.PairRef.nD).tc : Thread Cert.PairRef.nD Cert.PairRef.τ).loc Cert.PairRef.main_arg3))) →
    ∃ (v0 : Buf (Elt Bits) (((0 : Dev Cert.PairRef.nD).tc : Thread Cert.PairRef.nD Cert.PairRef.τ).loc Cert.PairRef.main_v2)) (v1 : Buf (Elt Bits) (((0 : Dev Cert.PairRef.nD).tc : Thread Cert.PairRef.nD Cert.PairRef.τ).loc Cert.PairRef.main_v5)) (v2 : Buf (Elt Bits) (((0 : Dev Cert.PairRef.nD).tc : Thread Cert.PairRef.nD Cert.PairRef.τ).loc Cert.PairRef.main_v8)) (v3 : Buf (Elt Bits) (((0 : Dev Cert.PairRef.nD).tc : Thread Cert.PairRef.nD Cert.PairRef.τ).loc Cert.PairRef.main_v11)),
      θ_run (Cert.Pair.defs (F := Bits)) (onTc (τ := Cert.Pair.τ) (Cert.Pair.main (F := Bits))) ⟨m, fun _ => 0, g⟩ (fun r => ∀ c : Dev Cert.Pair.nD,
          r.2.mem ((c.tc : Thread Cert.Pair.nD Cert.Pair.τ).loc Cert.Pair.main_v1_0) = Layout.block ⟨4, ![4, 2, 1024, 256]⟩ ⟨4, ![32, 2, 1024, 256]⟩ 0 8 c v0
          ∧ r.2.mem ((c.tc : Thread Cert.Pair.nD Cert.Pair.τ).loc Cert.Pair.main_v1_1) = Layout.block ⟨4, ![4, 2, 128, 1024]⟩ ⟨4, ![32, 2, 128, 1024]⟩ 0 8 c v1
          ∧ r.2.mem ((c.tc : Thread Cert.Pair.nD Cert.Pair.τ).loc Cert.Pair.main_v1_2) = Layout.block ⟨4, ![4, 2, 1024, 768]⟩ ⟨4, ![32, 2, 1024, 768]⟩ 0 8 c v2
          ∧ r.2.mem ((c.tc : Thread Cert.Pair.nD Cert.Pair.τ).loc Cert.Pair.main_v1_3) = Layout.block ⟨4, ![4, 2, 384, 1024]⟩ ⟨4, ![32, 2, 384, 1024]⟩ 0 8 c v3
          ∧ r.2.mem ((c.tc : Thread Cert.Pair.nD Cert.Pair.τ).loc Cert.Pair.main_arg0) = m ((c.tc : Thread Cert.Pair.nD Cert.Pair.τ).loc Cert.Pair.main_arg0)
          ∧ r.2.mem ((c.tc : Thread Cert.Pair.nD Cert.Pair.τ).loc Cert.Pair.main_arg1) = m ((c.tc : Thread Cert.Pair.nD Cert.Pair.τ).loc Cert.Pair.main_arg1)
          ∧ r.2.mem ((c.tc : Thread Cert.Pair.nD Cert.Pair.τ).loc Cert.Pair.main_arg2) = m ((c.tc : Thread Cert.Pair.nD Cert.Pair.τ).loc Cert.Pair.main_arg2)
          ∧ r.2.mem ((c.tc : Thread Cert.Pair.nD Cert.Pair.τ).loc Cert.Pair.main_arg3) = m ((c.tc : Thread Cert.Pair.nD Cert.Pair.τ).loc Cert.Pair.main_arg3))
      ∧ θ_run (Cert.PairRef.defs (F := Bits)) (onTc (τ := Cert.PairRef.τ) (Cert.PairRef.main (F := Bits))) ⟨m', fun _ => 0, g'⟩ (fun r =>
          r.2.mem (((0 : Dev Cert.PairRef.nD).tc : Thread Cert.PairRef.nD Cert.PairRef.τ).loc Cert.PairRef.main_v2) = v0
          ∧ r.2.mem (((0 : Dev Cert.PairRef.nD).tc : Thread Cert.PairRef.nD Cert.PairRef.τ).loc Cert.PairRef.main_v5) = v1
          ∧ r.2.mem (((0 : Dev Cert.PairRef.nD).tc : Thread Cert.PairRef.nD Cert.PairRef.τ).loc Cert.PairRef.main_v8) = v2
          ∧ r.2.mem (((0 : Dev Cert.PairRef.nD).tc : Thread Cert.PairRef.nD Cert.PairRef.τ).loc Cert.PairRef.main_v11) = v3
          ∧ r.2.mem (((0 : Dev Cert.PairRef.nD).tc : Thread Cert.PairRef.nD Cert.PairRef.τ).loc Cert.PairRef.main_arg0) = m' (((0 : Dev Cert.PairRef.nD).tc : Thread Cert.PairRef.nD Cert.PairRef.τ).loc Cert.PairRef.main_arg0)
          ∧ r.2.mem (((0 : Dev Cert.PairRef.nD).tc : Thread Cert.PairRef.nD Cert.PairRef.τ).loc Cert.PairRef.main_arg1) = m' (((0 : Dev Cert.PairRef.nD).tc : Thread Cert.PairRef.nD Cert.PairRef.τ).loc Cert.PairRef.main_arg1)
          ∧ r.2.mem (((0 : Dev Cert.PairRef.nD).tc : Thread Cert.PairRef.nD Cert.PairRef.τ).loc Cert.PairRef.main_arg2) = m' (((0 : Dev Cert.PairRef.nD).tc : Thread Cert.PairRef.nD Cert.PairRef.τ).loc Cert.PairRef.main_arg2)
          ∧ r.2.mem (((0 : Dev Cert.PairRef.nD).tc : Thread Cert.PairRef.nD Cert.PairRef.τ).loc Cert.PairRef.main_arg3) = m' (((0 : Dev Cert.PairRef.nD).tc : Thread Cert.PairRef.nD Cert.PairRef.τ).loc Cert.PairRef.main_arg3))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 256]⟩ ⟨2, ![1024, 2048]⟩ 1 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![128, 1024]⟩ ⟨2, ![1024, 1024]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![1024, 768]⟩ ⟨2, ![1024, 6144]⟩ 1 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![384, 1024]⟩ ⟨2, ![3072, 1024]⟩ 0 8 c (m' (((0 : Dev Cert.GatherRefIdeal.nD).tc : Thread Cert.GatherRefIdeal.nD Cert.GatherRefIdeal.τ).loc Cert.GatherRefIdeal.main_arg3))) →
    ∃ (v0 : Buf (Elt Ideal) (((0 : Dev Cert.GatherRefIdeal.nD).tc : Thread Cert.GatherRefIdeal.nD Cert.GatherRefIdeal.τ).loc Cert.GatherRefIdeal.main_v1)) (v1 : Buf (Elt Ideal) (((0 : Dev Cert.GatherRefIdeal.nD).tc : Thread Cert.GatherRefIdeal.nD Cert.GatherRefIdeal.τ).loc Cert.GatherRefIdeal.main_v2)) (v2 : Buf (Elt Ideal) (((0 : Dev Cert.GatherRefIdeal.nD).tc : Thread Cert.GatherRefIdeal.nD Cert.GatherRefIdeal.τ).loc Cert.GatherRefIdeal.main_v4)) (v3 : Buf (Elt Ideal) (((0 : Dev Cert.GatherRefIdeal.nD).tc : Thread Cert.GatherRefIdeal.nD Cert.GatherRefIdeal.τ).loc Cert.GatherRefIdeal.main_v5)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v2) = v1
          ∧ r.2.mem (((0 : Dev Cert.GatherRefIdeal.nD).tc : Thread Cert.GatherRefIdeal.nD Cert.GatherRefIdeal.τ).loc Cert.GatherRefIdeal.main_v4) = v2
          ∧ r.2.mem (((0 : Dev Cert.GatherRefIdeal.nD).tc : Thread Cert.GatherRefIdeal.nD Cert.GatherRefIdeal.τ).loc Cert.GatherRefIdeal.main_v5) = v3
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![1024, 256]⟩ ⟨2, ![1024, 2048]⟩ 1 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![128, 1024]⟩ ⟨2, ![1024, 1024]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![1024, 768]⟩ ⟨2, ![1024, 6144]⟩ 1 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![384, 1024]⟩ ⟨2, ![3072, 1024]⟩ 0 8 c (m' (((0 : Dev Cert.GatherRef.nD).tc : Thread Cert.GatherRef.nD Cert.GatherRef.τ).loc Cert.GatherRef.main_arg3))) →
    ∃ (v0 : Buf (Elt Bits) (((0 : Dev Cert.GatherRef.nD).tc : Thread Cert.GatherRef.nD Cert.GatherRef.τ).loc Cert.GatherRef.main_v1)) (v1 : Buf (Elt Bits) (((0 : Dev Cert.GatherRef.nD).tc : Thread Cert.GatherRef.nD Cert.GatherRef.τ).loc Cert.GatherRef.main_v2)) (v2 : Buf (Elt Bits) (((0 : Dev Cert.GatherRef.nD).tc : Thread Cert.GatherRef.nD Cert.GatherRef.τ).loc Cert.GatherRef.main_v4)) (v3 : Buf (Elt Bits) (((0 : Dev Cert.GatherRef.nD).tc : Thread Cert.GatherRef.nD Cert.GatherRef.τ).loc Cert.GatherRef.main_v5)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_v2) = v1
          ∧ r.2.mem (((0 : Dev Cert.GatherRef.nD).tc : Thread Cert.GatherRef.nD Cert.GatherRef.τ).loc Cert.GatherRef.main_v4) = v2
          ∧ r.2.mem (((0 : Dev Cert.GatherRef.nD).tc : Thread Cert.GatherRef.nD Cert.GatherRef.τ).loc Cert.GatherRef.main_v5) = v3
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 1024, 256]⟩ ⟨3, ![32, 1024, 256]⟩ 0 8 c (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.block ⟨3, ![4, 128, 1024]⟩ ⟨3, ![32, 128, 1024]⟩ 0 8 c (m' (((0 : Dev Cert.ChipsRefIdeal.nD).tc : Thread Cert.ChipsRefIdeal.nD Cert.ChipsRefIdeal.τ).loc Cert.ChipsRefIdeal.main_arg1))
      ∧ m ((c.tc : Thread Cert.ChipsIdeal.nD Cert.ChipsIdeal.τ).loc Cert.ChipsIdeal.main_arg2) = Layout.block ⟨3, ![4, 1024, 768]⟩ ⟨3, ![32, 1024, 768]⟩ 0 8 c (m' (((0 : Dev Cert.ChipsRefIdeal.nD).tc : Thread Cert.ChipsRefIdeal.nD Cert.ChipsRefIdeal.τ).loc Cert.ChipsRefIdeal.main_arg2))
      ∧ m ((c.tc : Thread Cert.ChipsIdeal.nD Cert.ChipsIdeal.τ).loc Cert.ChipsIdeal.main_arg3) = Layout.block ⟨3, ![4, 384, 1024]⟩ ⟨3, ![32, 384, 1024]⟩ 0 8 c (m' (((0 : Dev Cert.ChipsRefIdeal.nD).tc : Thread Cert.ChipsRefIdeal.nD Cert.ChipsRefIdeal.τ).loc Cert.ChipsRefIdeal.main_arg3))) →
    ∃ (v0 : Buf (Elt Ideal) (((0 : Dev Cert.ChipsRefIdeal.nD).tc : Thread Cert.ChipsRefIdeal.nD Cert.ChipsRefIdeal.τ).loc Cert.ChipsRefIdeal.main_v2)) (v1 : Buf (Elt Ideal) (((0 : Dev Cert.ChipsRefIdeal.nD).tc : Thread Cert.ChipsRefIdeal.nD Cert.ChipsRefIdeal.τ).loc Cert.ChipsRefIdeal.main_v5)) (v2 : Buf (Elt Ideal) (((0 : Dev Cert.ChipsRefIdeal.nD).tc : Thread Cert.ChipsRefIdeal.nD Cert.ChipsRefIdeal.τ).loc Cert.ChipsRefIdeal.main_v8)) (v3 : Buf (Elt Ideal) (((0 : Dev Cert.ChipsRefIdeal.nD).tc : Thread Cert.ChipsRefIdeal.nD Cert.ChipsRefIdeal.τ).loc Cert.ChipsRefIdeal.main_v11)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1_0) = Layout.block ⟨3, ![4, 1024, 256]⟩ ⟨3, ![32, 1024, 256]⟩ 0 8 c v0
          ∧ r.2.mem ((c.tc : Thread Cert.ChipsIdeal.nD Cert.ChipsIdeal.τ).loc Cert.ChipsIdeal.main_v1_1) = Layout.block ⟨3, ![4, 128, 1024]⟩ ⟨3, ![32, 128, 1024]⟩ 0 8 c v1
          ∧ r.2.mem ((c.tc : Thread Cert.ChipsIdeal.nD Cert.ChipsIdeal.τ).loc Cert.ChipsIdeal.main_v1_2) = Layout.block ⟨3, ![4, 1024, 768]⟩ ⟨3, ![32, 1024, 768]⟩ 0 8 c v2
          ∧ r.2.mem ((c.tc : Thread Cert.ChipsIdeal.nD Cert.ChipsIdeal.τ).loc Cert.ChipsIdeal.main_v1_3) = Layout.block ⟨3, ![4, 384, 1024]⟩ ⟨3, ![32, 384, 1024]⟩ 0 8 c v3
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
          ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v2) = v0
          ∧ r.2.mem (((0 : Dev Cert.ChipsRefIdeal.nD).tc : Thread Cert.ChipsRefIdeal.nD Cert.ChipsRefIdeal.τ).loc Cert.ChipsRefIdeal.main_v5) = v1
          ∧ r.2.mem (((0 : Dev Cert.ChipsRefIdeal.nD).tc : Thread Cert.ChipsRefIdeal.nD Cert.ChipsRefIdeal.τ).loc Cert.ChipsRefIdeal.main_v8) = v2
          ∧ r.2.mem (((0 : Dev Cert.ChipsRefIdeal.nD).tc : Thread Cert.ChipsRefIdeal.nD Cert.ChipsRefIdeal.τ).loc Cert.ChipsRefIdeal.main_v11) = v3
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1)
          ∧ r.2.mem (((0 : Dev Cert.ChipsRefIdeal.nD).tc : Thread Cert.ChipsRefIdeal.nD Cert.ChipsRefIdeal.τ).loc Cert.ChipsRefIdeal.main_arg2) = m' (((0 : Dev Cert.ChipsRefIdeal.nD).tc : Thread Cert.ChipsRefIdeal.nD Cert.ChipsRefIdeal.τ).loc Cert.ChipsRefIdeal.main_arg2)
          ∧ r.2.mem (((0 : Dev Cert.ChipsRefIdeal.nD).tc : Thread Cert.ChipsRefIdeal.nD Cert.ChipsRefIdeal.τ).loc Cert.ChipsRefIdeal.main_arg3) = m' (((0 : Dev Cert.ChipsRefIdeal.nD).tc : Thread Cert.ChipsRefIdeal.nD Cert.ChipsRefIdeal.τ).loc Cert.ChipsRefIdeal.main_arg3))

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 1024, 256]⟩ ⟨3, ![32, 1024, 256]⟩ 0 8 c (m' (((0 : Dev Cert.ChipsRef.nD).tc : Thread Cert.ChipsRef.nD Cert.ChipsRef.τ).loc Cert.ChipsRef.main_arg0))
      ∧ m ((c.tc : Thread Cert.Chips.nD Cert.Chips.τ).loc Cert.Chips.main_arg1) = Layout.block ⟨3, ![4, 128, 1024]⟩ ⟨3, ![32, 128, 1024]⟩ 0 8 c (m' (((0 : Dev Cert.ChipsRef.nD).tc : Thread Cert.ChipsRef.nD Cert.ChipsRef.τ).loc Cert.ChipsRef.main_arg1))
      ∧ m ((c.tc : Thread Cert.Chips.nD Cert.Chips.τ).loc Cert.Chips.main_arg2) = Layout.block ⟨3, ![4, 1024, 768]⟩ ⟨3, ![32, 1024, 768]⟩ 0 8 c (m' (((0 : Dev Cert.ChipsRef.nD).tc : Thread Cert.ChipsRef.nD Cert.ChipsRef.τ).loc Cert.ChipsRef.main_arg2))
      ∧ m ((c.tc : Thread Cert.Chips.nD Cert.Chips.τ).loc Cert.Chips.main_arg3) = Layout.block ⟨3, ![4, 384, 1024]⟩ ⟨3, ![32, 384, 1024]⟩ 0 8 c (m' (((0 : Dev Cert.ChipsRef.nD).tc : Thread Cert.ChipsRef.nD Cert.ChipsRef.τ).loc Cert.ChipsRef.main_arg3))) →
    ∃ (v0 : Buf (Elt Bits) (((0 : Dev Cert.ChipsRef.nD).tc : Thread Cert.ChipsRef.nD Cert.ChipsRef.τ).loc Cert.ChipsRef.main_v2)) (v1 : Buf (Elt Bits) (((0 : Dev Cert.ChipsRef.nD).tc : Thread Cert.ChipsRef.nD Cert.ChipsRef.τ).loc Cert.ChipsRef.main_v5)) (v2 : Buf (Elt Bits) (((0 : Dev Cert.ChipsRef.nD).tc : Thread Cert.ChipsRef.nD Cert.ChipsRef.τ).loc Cert.ChipsRef.main_v8)) (v3 : Buf (Elt Bits) (((0 : Dev Cert.ChipsRef.nD).tc : Thread Cert.ChipsRef.nD Cert.ChipsRef.τ).loc Cert.ChipsRef.main_v11)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1_0) = Layout.block ⟨3, ![4, 1024, 256]⟩ ⟨3, ![32, 1024, 256]⟩ 0 8 c v0
          ∧ r.2.mem ((c.tc : Thread Cert.Chips.nD Cert.Chips.τ).loc Cert.Chips.main_v1_1) = Layout.block ⟨3, ![4, 128, 1024]⟩ ⟨3, ![32, 128, 1024]⟩ 0 8 c v1
          ∧ r.2.mem ((c.tc : Thread Cert.Chips.nD Cert.Chips.τ).loc Cert.Chips.main_v1_2) = Layout.block ⟨3, ![4, 1024, 768]⟩ ⟨3, ![32, 1024, 768]⟩ 0 8 c v2
          ∧ r.2.mem ((c.tc : Thread Cert.Chips.nD Cert.Chips.τ).loc Cert.Chips.main_v1_3) = Layout.block ⟨3, ![4, 384, 1024]⟩ ⟨3, ![32, 384, 1024]⟩ 0 8 c v3
          ∧ r.2.mem ((c.tc : Thread Cert.Chips.nD Cert.Chips.τ).loc Cert.Chips.main_arg0) = m ((c.tc : Thread Cert.Chips.nD Cert.Chips.τ).loc Cert.Chips.main_arg0)
          ∧ r.2.mem ((c.tc : Thread Cert.Chips.nD Cert.Chips.τ).loc Cert.Chips.main_arg1) = m ((c.tc : Thread Cert.Chips.nD Cert.Chips.τ).loc Cert.Chips.main_arg1)
          ∧ r.2.mem ((c.tc : Thread Cert.Chips.nD Cert.Chips.τ).loc Cert.Chips.main_arg2) = m ((c.tc : Thread Cert.Chips.nD Cert.Chips.τ).loc Cert.Chips.main_arg2)
          ∧ r.2.mem ((c.tc : Thread Cert.Chips.nD Cert.Chips.τ).loc Cert.Chips.main_arg3) = m ((c.tc : Thread Cert.Chips.nD Cert.Chips.τ).loc Cert.Chips.main_arg3))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v2) = v0
          ∧ r.2.mem (((0 : Dev Cert.ChipsRef.nD).tc : Thread Cert.ChipsRef.nD Cert.ChipsRef.τ).loc Cert.ChipsRef.main_v5) = v1
          ∧ r.2.mem (((0 : Dev Cert.ChipsRef.nD).tc : Thread Cert.ChipsRef.nD Cert.ChipsRef.τ).loc Cert.ChipsRef.main_v8) = v2
          ∧ r.2.mem (((0 : Dev Cert.ChipsRef.nD).tc : Thread Cert.ChipsRef.nD Cert.ChipsRef.τ).loc Cert.ChipsRef.main_v11) = v3
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0)
          ∧ r.2.mem (((0 : Dev Cert.ChipsRef.nD).tc : Thread Cert.ChipsRef.nD Cert.ChipsRef.τ).loc Cert.ChipsRef.main_arg1) = m' (((0 : Dev Cert.ChipsRef.nD).tc : Thread Cert.ChipsRef.nD Cert.ChipsRef.τ).loc Cert.ChipsRef.main_arg1)
          ∧ r.2.mem (((0 : Dev Cert.ChipsRef.nD).tc : Thread Cert.ChipsRef.nD Cert.ChipsRef.τ).loc Cert.ChipsRef.main_arg2) = m' (((0 : Dev Cert.ChipsRef.nD).tc : Thread Cert.ChipsRef.nD Cert.ChipsRef.τ).loc Cert.ChipsRef.main_arg2)
          ∧ r.2.mem (((0 : Dev Cert.ChipsRef.nD).tc : Thread Cert.ChipsRef.nD Cert.ChipsRef.τ).loc Cert.ChipsRef.main_arg3) = m' (((0 : Dev Cert.ChipsRef.nD).tc : Thread Cert.ChipsRef.nD Cert.ChipsRef.τ).loc Cert.ChipsRef.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v2) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v2) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v2) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg0) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_arg0) = v0 c
          ∧ r.2.mem ((c.tc : Thread Cert.AdamAdaRefIdeal.nD Cert.AdamAdaRefIdeal.τ).loc Cert.AdamAdaRefIdeal.main_v23) = v1 c
          ∧ r.2.mem ((c.tc : Thread Cert.AdamAdaRefIdeal.nD Cert.AdamAdaRefIdeal.τ).loc Cert.AdamAdaRefIdeal.main_v4) = v2 c
          ∧ r.2.mem ((c.tc : Thread Cert.AdamAdaRefIdeal.nD Cert.AdamAdaRefIdeal.τ).loc Cert.AdamAdaRefIdeal.main_v10) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v5) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v4) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v5) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v2) = v0 c
          ∧ r.2.mem ((c.tc : Thread Cert.LossRefIdeal.nD Cert.LossRefIdeal.τ).loc Cert.LossRefIdeal.main_v26) = v1 c
          ∧ r.2.mem ((c.tc : Thread Cert.LossRefIdeal.nD Cert.LossRefIdeal.τ).loc Cert.LossRefIdeal.main_v27) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)) →
    ∃ (v0 : (c : Dev Cert.GradXIdeal.nD) → Buf (Elt Ideal) ((c.tc : Thread Cert.GradXIdeal.nD Cert.GradXIdeal.τ).loc Cert.GradXIdeal.main_v0_0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v65) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5))

def preserves_BackMix_BackMixIdeal : Prop :=
  True

def algebraic_BackMixIdeal_BackMixRefIdeal [hBackMixIdeal : Cert.BackMixIdeal.Facts] [hBackMixRefIdeal : Cert.BackMixRefIdeal.Facts] : Prop :=
  ∀ (m : (ℓ : Loc Cert.BackMixIdeal.nD Cert.BackMixIdeal.τ Cert.BackMixIdeal.sig) → Buf (Elt Ideal) ℓ) (g : Dev Cert.BackMixIdeal.nD → PrngReg)
    (m' : (ℓ : Loc Cert.BackMixRefIdeal.nD Cert.BackMixRefIdeal.τ Cert.BackMixRefIdeal.sig) → Buf (Elt Ideal) ℓ) (g' : Dev Cert.BackMixRefIdeal.nD → PrngReg), Pre_BackMixIdeal m →
    (∀ c : Dev Cert.BackMixIdeal.nD,
      m' ((c.tc : Thread Cert.BackMixRefIdeal.nD Cert.BackMixRefIdeal.τ).loc Cert.BackMixRefIdeal.main_arg0) = m ((c.tc : Thread Cert.BackMixIdeal.nD Cert.BackMixIdeal.τ).loc Cert.BackMixIdeal.main_arg0)
      ∧ m' ((c.tc : Thread Cert.BackMixRefIdeal.nD Cert.BackMixRefIdeal.τ).loc Cert.BackMixRefIdeal.main_arg1) = m ((c.tc : Thread Cert.BackMixIdeal.nD Cert.BackMixIdeal.τ).loc Cert.BackMixIdeal.main_arg1)
      ∧ m' ((c.tc : Thread Cert.BackMixRefIdeal.nD Cert.BackMixRefIdeal.τ).loc Cert.BackMixRefIdeal.main_arg2) = m ((c.tc : Thread Cert.BackMixIdeal.nD Cert.BackMixIdeal.τ).loc Cert.BackMixIdeal.main_arg2)
      ∧ m' ((c.tc : Thread Cert.BackMixRefIdeal.nD Cert.BackMixRefIdeal.τ).loc Cert.BackMixRefIdeal.main_arg3) = m ((c.tc : Thread Cert.BackMixIdeal.nD Cert.BackMixIdeal.τ).loc Cert.BackMixIdeal.main_arg3)
      ∧ m' ((c.tc : Thread Cert.BackMixRefIdeal.nD Cert.BackMixRefIdeal.τ).loc Cert.BackMixRefIdeal.main_arg4) = m ((c.tc : Thread Cert.BackMixIdeal.nD Cert.BackMixIdeal.τ).loc Cert.BackMixIdeal.main_arg4)) →
    ∃ (v0 : (c : Dev Cert.BackMixIdeal.nD) → Buf (Elt Ideal) ((c.tc : Thread Cert.BackMixIdeal.nD Cert.BackMixIdeal.τ).loc Cert.BackMixIdeal.main_v0_0)) (v1 : (c : Dev Cert.BackMixIdeal.nD) → Buf (Elt Ideal) ((c.tc : Thread Cert.BackMixIdeal.nD Cert.BackMixIdeal.τ).loc Cert.BackMixIdeal.main_v0_1)) (v2 : (c : Dev Cert.BackMixIdeal.nD) → Buf (Elt Ideal) ((c.tc : Thread Cert.BackMixIdeal.nD Cert.BackMixIdeal.τ).loc Cert.BackMixIdeal.main_v0_2)),
      θ_run (Cert.BackMixIdeal.defs (F := Ideal)) (onTc (τ := Cert.BackMixIdeal.τ) (Cert.BackMixIdeal.main (F := Ideal))) ⟨m, fun _ => 0, g⟩ (fun r => ∀ c : Dev Cert.BackMixIdeal.nD,
          r.2.mem ((c.tc : Thread Cert.BackMixIdeal.nD Cert.BackMixIdeal.τ).loc Cert.BackMixIdeal.main_v0_0) = v0 c
          ∧ r.2.mem ((c.tc : Thread Cert.BackMixIdeal.nD Cert.BackMixIdeal.τ).loc Cert.BackMixIdeal.main_v0_1) = v1 c
          ∧ r.2.mem ((c.tc : Thread Cert.BackMixIdeal.nD Cert.BackMixIdeal.τ).loc Cert.BackMixIdeal.main_v0_2) = v2 c
          ∧ r.2.mem ((c.tc : Thread Cert.BackMixIdeal.nD Cert.BackMixIdeal.τ).loc Cert.BackMixIdeal.main_arg0) = m ((c.tc : Thread Cert.BackMixIdeal.nD Cert.BackMixIdeal.τ).loc Cert.BackMixIdeal.main_arg0)
          ∧ r.2.mem ((c.tc : Thread Cert.BackMixIdeal.nD Cert.BackMixIdeal.τ).loc Cert.BackMixIdeal.main_arg1) = m ((c.tc : Thread Cert.BackMixIdeal.nD Cert.BackMixIdeal.τ).loc Cert.BackMixIdeal.main_arg1)
          ∧ r.2.mem ((c.tc : Thread Cert.BackMixIdeal.nD Cert.BackMixIdeal.τ).loc Cert.BackMixIdeal.main_arg2) = m ((c.tc : Thread Cert.BackMixIdeal.nD Cert.BackMixIdeal.τ).loc Cert.BackMixIdeal.main_arg2)
          ∧ r.2.mem ((c.tc : Thread Cert.BackMixIdeal.nD Cert.BackMixIdeal.τ).loc Cert.BackMixIdeal.main_arg3) = m ((c.tc : Thread Cert.BackMixIdeal.nD Cert.BackMixIdeal.τ).loc Cert.BackMixIdeal.main_arg3)
          ∧ r.2.mem ((c.tc : Thread Cert.BackMixIdeal.nD Cert.BackMixIdeal.τ).loc Cert.BackMixIdeal.main_arg4) = m ((c.tc : Thread Cert.BackMixIdeal.nD Cert.BackMixIdeal.τ).loc Cert.BackMixIdeal.main_arg4))
      ∧ θ_run (Cert.BackMixRefIdeal.defs (F := Ideal)) (onTc (τ := Cert.BackMixRefIdeal.τ) (Cert.BackMixRefIdeal.main (F := Ideal))) ⟨m', fun _ => 0, g'⟩ (fun r => ∀ c : Dev Cert.BackMixRefIdeal.nD,
          r.2.mem ((c.tc : Thread Cert.BackMixRefIdeal.nD Cert.BackMixRefIdeal.τ).loc Cert.BackMixRefIdeal.main_v41) = v0 c
          ∧ r.2.mem ((c.tc : Thread Cert.BackMixRefIdeal.nD Cert.BackMixRefIdeal.τ).loc Cert.BackMixRefIdeal.main_v44) = v1 c
          ∧ r.2.mem ((c.tc : Thread Cert.BackMixRefIdeal.nD Cert.BackMixRefIdeal.τ).loc Cert.BackMixRefIdeal.main_v46) = v2 c
          ∧ r.2.mem ((c.tc : Thread Cert.BackMixRefIdeal.nD Cert.BackMixRefIdeal.τ).loc Cert.BackMixRefIdeal.main_arg0) = m' ((c.tc : Thread Cert.BackMixRefIdeal.nD Cert.BackMixRefIdeal.τ).loc Cert.BackMixRefIdeal.main_arg0)
          ∧ r.2.mem ((c.tc : Thread Cert.BackMixRefIdeal.nD Cert.BackMixRefIdeal.τ).loc Cert.BackMixRefIdeal.main_arg1) = m' ((c.tc : Thread Cert.BackMixRefIdeal.nD Cert.BackMixRefIdeal.τ).loc Cert.BackMixRefIdeal.main_arg1)
          ∧ r.2.mem ((c.tc : Thread Cert.BackMixRefIdeal.nD Cert.BackMixRefIdeal.τ).loc Cert.BackMixRefIdeal.main_arg2) = m' ((c.tc : Thread Cert.BackMixRefIdeal.nD Cert.BackMixRefIdeal.τ).loc Cert.BackMixRefIdeal.main_arg2)
          ∧ r.2.mem ((c.tc : Thread Cert.BackMixRefIdeal.nD Cert.BackMixRefIdeal.τ).loc Cert.BackMixRefIdeal.main_arg3) = m' ((c.tc : Thread Cert.BackMixRefIdeal.nD Cert.BackMixRefIdeal.τ).loc Cert.BackMixRefIdeal.main_arg3)
          ∧ r.2.mem ((c.tc : Thread Cert.BackMixRefIdeal.nD Cert.BackMixRefIdeal.τ).loc Cert.BackMixRefIdeal.main_arg4) = m' ((c.tc : Thread Cert.BackMixRefIdeal.nD Cert.BackMixRefIdeal.τ).loc Cert.BackMixRefIdeal.main_arg4))

def preserves_BackFfn_BackFfnIdeal : Prop :=
  True

def algebraic_BackFfnIdeal_BackFfnRefIdeal [hBackFfnIdeal : Cert.BackFfnIdeal.Facts] [hBackFfnRefIdeal : Cert.BackFfnRefIdeal.Facts] : Prop :=
  ∀ (m : (ℓ : Loc Cert.BackFfnIdeal.nD Cert.BackFfnIdeal.τ Cert.BackFfnIdeal.sig) → Buf (Elt Ideal) ℓ) (g : Dev Cert.BackFfnIdeal.nD → PrngReg)
    (m' : (ℓ : Loc Cert.BackFfnRefIdeal.nD Cert.BackFfnRefIdeal.τ Cert.BackFfnRefIdeal.sig) → Buf (Elt Ideal) ℓ) (g' : Dev Cert.BackFfnRefIdeal.nD → PrngReg), Pre_BackFfnIdeal m →
    (∀ c : Dev Cert.BackFfnIdeal.nD,
      m' ((c.tc : Thread Cert.BackFfnRefIdeal.nD Cert.BackFfnRefIdeal.τ).loc Cert.BackFfnRefIdeal.main_arg0) = m ((c.tc : Thread Cert.BackFfnIdeal.nD Cert.BackFfnIdeal.τ).loc Cert.BackFfnIdeal.main_arg0)
      ∧ m' ((c.tc : Thread Cert.BackFfnRefIdeal.nD Cert.BackFfnRefIdeal.τ).loc Cert.BackFfnRefIdeal.main_arg1) = m ((c.tc : Thread Cert.BackFfnIdeal.nD Cert.BackFfnIdeal.τ).loc Cert.BackFfnIdeal.main_arg1)
      ∧ m' ((c.tc : Thread Cert.BackFfnRefIdeal.nD Cert.BackFfnRefIdeal.τ).loc Cert.BackFfnRefIdeal.main_arg2) = m ((c.tc : Thread Cert.BackFfnIdeal.nD Cert.BackFfnIdeal.τ).loc Cert.BackFfnIdeal.main_arg2)
      ∧ m' ((c.tc : Thread Cert.BackFfnRefIdeal.nD Cert.BackFfnRefIdeal.τ).loc Cert.BackFfnRefIdeal.main_arg3) = m ((c.tc : Thread Cert.BackFfnIdeal.nD Cert.BackFfnIdeal.τ).loc Cert.BackFfnIdeal.main_arg3)
      ∧ m' ((c.tc : Thread Cert.BackFfnRefIdeal.nD Cert.BackFfnRefIdeal.τ).loc Cert.BackFfnRefIdeal.main_arg4) = m ((c.tc : Thread Cert.BackFfnIdeal.nD Cert.BackFfnIdeal.τ).loc Cert.BackFfnIdeal.main_arg4)) →
    ∃ (v0 : (c : Dev Cert.BackFfnIdeal.nD) → Buf (Elt Ideal) ((c.tc : Thread Cert.BackFfnIdeal.nD Cert.BackFfnIdeal.τ).loc Cert.BackFfnIdeal.main_v0_0)) (v1 : (c : Dev Cert.BackFfnIdeal.nD) → Buf (Elt Ideal) ((c.tc : Thread Cert.BackFfnIdeal.nD Cert.BackFfnIdeal.τ).loc Cert.BackFfnIdeal.main_v0_1)) (v2 : (c : Dev Cert.BackFfnIdeal.nD) → Buf (Elt Ideal) ((c.tc : Thread Cert.BackFfnIdeal.nD Cert.BackFfnIdeal.τ).loc Cert.BackFfnIdeal.main_v0_2)),
      θ_run (Cert.BackFfnIdeal.defs (F := Ideal)) (onTc (τ := Cert.BackFfnIdeal.τ) (Cert.BackFfnIdeal.main (F := Ideal))) ⟨m, fun _ => 0, g⟩ (fun r => ∀ c : Dev Cert.BackFfnIdeal.nD,
          r.2.mem ((c.tc : Thread Cert.BackFfnIdeal.nD Cert.BackFfnIdeal.τ).loc Cert.BackFfnIdeal.main_v0_0) = v0 c
          ∧ r.2.mem ((c.tc : Thread Cert.BackFfnIdeal.nD Cert.BackFfnIdeal.τ).loc Cert.BackFfnIdeal.main_v0_1) = v1 c
          ∧ r.2.mem ((c.tc : Thread Cert.BackFfnIdeal.nD Cert.BackFfnIdeal.τ).loc Cert.BackFfnIdeal.main_v0_2) = v2 c
          ∧ r.2.mem ((c.tc : Thread Cert.BackFfnIdeal.nD Cert.BackFfnIdeal.τ).loc Cert.BackFfnIdeal.main_arg0) = m ((c.tc : Thread Cert.BackFfnIdeal.nD Cert.BackFfnIdeal.τ).loc Cert.BackFfnIdeal.main_arg0)
          ∧ r.2.mem ((c.tc : Thread Cert.BackFfnIdeal.nD Cert.BackFfnIdeal.τ).loc Cert.BackFfnIdeal.main_arg1) = m ((c.tc : Thread Cert.BackFfnIdeal.nD Cert.BackFfnIdeal.τ).loc Cert.BackFfnIdeal.main_arg1)
          ∧ r.2.mem ((c.tc : Thread Cert.BackFfnIdeal.nD Cert.BackFfnIdeal.τ).loc Cert.BackFfnIdeal.main_arg2) = m ((c.tc : Thread Cert.BackFfnIdeal.nD Cert.BackFfnIdeal.τ).loc Cert.BackFfnIdeal.main_arg2)
          ∧ r.2.mem ((c.tc : Thread Cert.BackFfnIdeal.nD Cert.BackFfnIdeal.τ).loc Cert.BackFfnIdeal.main_arg3) = m ((c.tc : Thread Cert.BackFfnIdeal.nD Cert.BackFfnIdeal.τ).loc Cert.BackFfnIdeal.main_arg3)
          ∧ r.2.mem ((c.tc : Thread Cert.BackFfnIdeal.nD Cert.BackFfnIdeal.τ).loc Cert.BackFfnIdeal.main_arg4) = m ((c.tc : Thread Cert.BackFfnIdeal.nD Cert.BackFfnIdeal.τ).loc Cert.BackFfnIdeal.main_arg4))
      ∧ θ_run (Cert.BackFfnRefIdeal.defs (F := Ideal)) (onTc (τ := Cert.BackFfnRefIdeal.τ) (Cert.BackFfnRefIdeal.main (F := Ideal))) ⟨m', fun _ => 0, g'⟩ (fun r => ∀ c : Dev Cert.BackFfnRefIdeal.nD,
          r.2.mem ((c.tc : Thread Cert.BackFfnRefIdeal.nD Cert.BackFfnRefIdeal.τ).loc Cert.BackFfnRefIdeal.main_v41) = v0 c
          ∧ r.2.mem ((c.tc : Thread Cert.BackFfnRefIdeal.nD Cert.BackFfnRefIdeal.τ).loc Cert.BackFfnRefIdeal.main_v45) = v1 c
          ∧ r.2.mem ((c.tc : Thread Cert.BackFfnRefIdeal.nD Cert.BackFfnRefIdeal.τ).loc Cert.BackFfnRefIdeal.main_v47) = v2 c
          ∧ r.2.mem ((c.tc : Thread Cert.BackFfnRefIdeal.nD Cert.BackFfnRefIdeal.τ).loc Cert.BackFfnRefIdeal.main_arg0) = m' ((c.tc : Thread Cert.BackFfnRefIdeal.nD Cert.BackFfnRefIdeal.τ).loc Cert.BackFfnRefIdeal.main_arg0)
          ∧ r.2.mem ((c.tc : Thread Cert.BackFfnRefIdeal.nD Cert.BackFfnRefIdeal.τ).loc Cert.BackFfnRefIdeal.main_arg1) = m' ((c.tc : Thread Cert.BackFfnRefIdeal.nD Cert.BackFfnRefIdeal.τ).loc Cert.BackFfnRefIdeal.main_arg1)
          ∧ r.2.mem ((c.tc : Thread Cert.BackFfnRefIdeal.nD Cert.BackFfnRefIdeal.τ).loc Cert.BackFfnRefIdeal.main_arg2) = m' ((c.tc : Thread Cert.BackFfnRefIdeal.nD Cert.BackFfnRefIdeal.τ).loc Cert.BackFfnRefIdeal.main_arg2)
          ∧ r.2.mem ((c.tc : Thread Cert.BackFfnRefIdeal.nD Cert.BackFfnRefIdeal.τ).loc Cert.BackFfnRefIdeal.main_arg3) = m' ((c.tc : Thread Cert.BackFfnRefIdeal.nD Cert.BackFfnRefIdeal.τ).loc Cert.BackFfnRefIdeal.main_arg3)
          ∧ r.2.mem ((c.tc : Thread Cert.BackFfnRefIdeal.nD Cert.BackFfnRefIdeal.τ).loc Cert.BackFfnRefIdeal.main_arg4) = m' ((c.tc : Thread Cert.BackFfnRefIdeal.nD Cert.BackFfnRefIdeal.τ).loc Cert.BackFfnRefIdeal.main_arg4))

def Claim : Prop :=
  ∃ (hPair : Cert.Pair.Facts) (hPairIdeal : Cert.PairIdeal.Facts) (hPairRefIdeal : Cert.PairRefIdeal.Facts) (hPairRef : Cert.PairRef.Facts) (hGather : Cert.Gather.Facts) (hGatherIdeal : Cert.GatherIdeal.Facts) (hGatherRefIdeal : Cert.GatherRefIdeal.Facts) (hGatherRef : Cert.GatherRef.Facts) (hChips : Cert.Chips.Facts) (hChipsIdeal : Cert.ChipsIdeal.Facts) (hChipsRefIdeal : Cert.ChipsRefIdeal.Facts) (hChipsRef : Cert.ChipsRef.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hAdamAda : Cert.AdamAda.Facts) (hAdamAdaIdeal : Cert.AdamAdaIdeal.Facts) (hAdamAdaRefIdeal : Cert.AdamAdaRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradUp : Cert.GradUp.Facts) (hGradUpIdeal : Cert.GradUpIdeal.Facts) (hGradUpRefIdeal : Cert.GradUpRefIdeal.Facts) (hGradDown : Cert.GradDown.Facts) (hGradDownIdeal : Cert.GradDownIdeal.Facts) (hGradDownRefIdeal : Cert.GradDownRefIdeal.Facts) (hLoss : Cert.Loss.Facts) (hLossIdeal : Cert.LossIdeal.Facts) (hLossRefIdeal : Cert.LossRefIdeal.Facts) (hGradX : Cert.GradX.Facts) (hGradXIdeal : Cert.GradXIdeal.Facts) (hGradXRefIdeal : Cert.GradXRefIdeal.Facts) (hBackMix : Cert.BackMix.Facts) (hBackMixIdeal : Cert.BackMixIdeal.Facts) (hBackMixRefIdeal : Cert.BackMixRefIdeal.Facts) (hBackFfn : Cert.BackFfn.Facts) (hBackFfnIdeal : Cert.BackFfnIdeal.Facts) (hBackFfnRefIdeal : Cert.BackFfnRefIdeal.Facts),
    quiescent_Pair (hPair := hPair)
    ∧ quiescent_PairIdeal (hPairIdeal := hPairIdeal)
    ∧ quiescent_PairRefIdeal (hPairRefIdeal := hPairRefIdeal)
    ∧ quiescent_PairRef (hPairRef := hPairRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_Loss (hLoss := hLoss)
    ∧ quiescent_LossIdeal (hLossIdeal := hLossIdeal)
    ∧ quiescent_LossRefIdeal (hLossRefIdeal := hLossRefIdeal)
    ∧ quiescent_GradX (hGradX := hGradX)
    ∧ quiescent_GradXIdeal (hGradXIdeal := hGradXIdeal)
    ∧ quiescent_GradXRefIdeal (hGradXRefIdeal := hGradXRefIdeal)
    ∧ quiescent_BackMix (hBackMix := hBackMix)
    ∧ quiescent_BackMixIdeal (hBackMixIdeal := hBackMixIdeal)
    ∧ quiescent_BackMixRefIdeal (hBackMixRefIdeal := hBackMixRefIdeal)
    ∧ quiescent_BackFfn (hBackFfn := hBackFfn)
    ∧ quiescent_BackFfnIdeal (hBackFfnIdeal := hBackFfnIdeal)
    ∧ quiescent_BackFfnRefIdeal (hBackFfnRefIdeal := hBackFfnRefIdeal)
    ∧ preserves_Pair_PairIdeal
    ∧ algebraic_PairIdeal_PairRefIdeal (hPairIdeal := hPairIdeal) (hPairRefIdeal := hPairRefIdeal)
    ∧ bitexact_Pair_PairRef (hPair := hPair) (hPairRef := hPairRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Chips_ChipsIdeal
    ∧ algebraic_ChipsIdeal_ChipsRefIdeal (hChipsIdeal := hChipsIdeal) (hChipsRefIdeal := hChipsRefIdeal)
    ∧ bitexact_Chips_ChipsRef (hChips := hChips) (hChipsRef := hChipsRef)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradUp_GradUpIdeal
    ∧ algebraic_GradUpIdeal_GradUpRefIdeal (hGradUpIdeal := hGradUpIdeal) (hGradUpRefIdeal := hGradUpRefIdeal)
    ∧ preserves_GradDown_GradDownIdeal
    ∧ algebraic_GradDownIdeal_GradDownRefIdeal (hGradDownIdeal := hGradDownIdeal) (hGradDownRefIdeal := hGradDownRefIdeal)
    ∧ preserves_Loss_LossIdeal
    ∧ algebraic_LossIdeal_LossRefIdeal (hLossIdeal := hLossIdeal) (hLossRefIdeal := hLossRefIdeal)
    ∧ preserves_GradX_GradXIdeal
    ∧ algebraic_GradXIdeal_GradXRefIdeal (hGradXIdeal := hGradXIdeal) (hGradXRefIdeal := hGradXRefIdeal)
    ∧ preserves_BackMix_BackMixIdeal
    ∧ algebraic_BackMixIdeal_BackMixRefIdeal (hBackMixIdeal := hBackMixIdeal) (hBackMixRefIdeal := hBackMixRefIdeal)
    ∧ preserves_BackFfn_BackFfnIdeal
    ∧ algebraic_BackFfnIdeal_BackFfnRefIdeal (hBackFfnIdeal := hBackFfnIdeal) (hBackFfnRefIdeal := hBackFfnRefIdeal)
-- ==== Pair.lean ====
abbrev S8x1024x256 : Shape := ⟨3, ![8, 1024, 256]⟩
abbrev S8x128x1024 : Shape := ⟨3, ![8, 128, 1024]⟩
abbrev S8x1024x768 : Shape := ⟨3, ![8, 1024, 768]⟩
abbrev S8x384x1024 : Shape := ⟨3, ![8, 384, 1024]⟩
abbrev S4x2x1024x256 : Shape := ⟨4, ![4, 2, 1024, 256]⟩
abbrev S4x2x128x1024 : Shape := ⟨4, ![4, 2, 128, 1024]⟩
abbrev S4x2x1024x768 : Shape := ⟨4, ![4, 2, 1024, 768]⟩
abbrev S4x2x384x1024 : Shape := ⟨4, ![4, 2, 384, 1024]⟩
abbrev S4x4 : Shape := ⟨2, ![4, 4]⟩
abbrev S1x1 : Shape := ⟨2, ![1, 1]⟩
abbrev S_ : Shape := ⟨0, ![]⟩
abbrev S1x1x1024x256 : Shape := ⟨4, ![1, 1, 1024, 256]⟩
abbrev S1024x256 : Shape := ⟨2, ![1024, 256]⟩
abbrev S1x1024x256 : Shape := ⟨3, ![1, 1024, 256]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x1x1024x768 : Shape := ⟨4, ![1, 1, 1024, 768]⟩
abbrev S1024x768 : Shape := ⟨2, ![1024, 768]⟩
abbrev S1x1024x768 : Shape := ⟨3, ![1, 1024, 768]⟩
abbrev S1x1x384x1024 : Shape := ⟨4, ![1, 1, 384, 1024]⟩
abbrev S384x1024 : Shape := ⟨2, ![384, 1024]⟩
abbrev S1x384x1024 : Shape := ⟨3, ![1, 384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x128x1024, .bf16⟩
  | .hbm, ⟨2, _⟩ => ⟨S8x1024x768, .bf16⟩
  | .hbm, ⟨3, _⟩ => ⟨S8x384x1024, .bf16⟩
  | .hbm, ⟨4, _⟩ => ⟨S4x2x1024x256, .bf16⟩
  | .hbm, ⟨5, _⟩ => ⟨S4x2x128x1024, .bf16⟩
  | .hbm, ⟨6, _⟩ => ⟨S4x2x1024x768, .bf16⟩
  | .hbm, ⟨7, _⟩ => ⟨S4x2x384x1024, .bf16⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 4 → Nat :=
  let c0_i32_4 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_7 : BitVec 32 := 0#32
  let c0_i32_8 : BitVec 32 := 0#32
  ![0, v8.toNat, 0, 0]
def k0_off2 (d0 : Dev nD) (c0_i32 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi c0_i32 v8
  let c0_i32_9 : BitVec 32 := 0#32
  let c0_i32_10 : BitVec 32 := 0#32
  ![v10.toNat, 0, 0]
def k0_off3 (d0 : Dev nD) (c1_i32_11 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c0_i32_23 : BitVec 32 := 0#32
  let c0_i32_24 : BitVec 32 := 0#32
  ![v17.toNat, 0, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v18 : BitVec 32 := Scalar.muli v2 c4_i32_17
  let v19 : BitVec 32 := Scalar.addi c0_i32_18 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v20 : BitVec 32 := Scalar.muli v5 c2_i32_19
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v22 : BitVec 32 := Scalar.muli v9 c1_i32_20
  let v23 : BitVec 32 := Scalar.addi v21 v22
  v23.toNat
def k0_off4 (d0 : Dev nD) : Fin 4 → Nat :=
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![1, v8.toNat, 0, 0]
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v40 : BitVec 32 := Scalar.muli v2 c4_i32_38
  let v41 : BitVec 32 := Scalar.addi c0_i32_39 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v42 : BitVec 32 := Scalar.muli v5 c2_i32_40
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_41 : BitVec 32 := 1#32
  let v44 : BitVec 32 := Scalar.muli v9 c1_i32_41
  let v45 : BitVec 32 := Scalar.addi v43 v44
  v45.toNat
def k0_off5 (d0 : Dev nD) : Fin 4 → Nat :=
  let c2_i32_47 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_50 : BitVec 32 := 0#32
  let c0_i32_51 : BitVec 32 := 0#32
  ![2, v8.toNat, 0, 0]
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v62 : BitVec 32 := Scalar.muli v2 c4_i32_59
  let v63 : BitVec 32 := Scalar.addi c0_i32_60 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v64 : BitVec 32 := Scalar.muli v5 c2_i32_61
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v66 : BitVec 32 := Scalar.muli v9 c1_i32_62
  let v67 : BitVec 32 := Scalar.addi v65 v66
  v67.toNat
def k0_off6 (d0 : Dev nD) : Fin 4 → Nat :=
  let c3_i32_67 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_70 : BitVec 32 := 0#32
  let c0_i32_71 : BitVec 32 := 0#32
  ![3, v8.toNat, 0, 0]
def k0_dev4 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v84 : BitVec 32 := Scalar.muli v2 c4_i32_79
  let v85 : BitVec 32 := Scalar.addi c0_i32_80 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v86 : BitVec 32 := Scalar.muli v5 c2_i32_81
  let v87 : BitVec 32 := Scalar.addi v85 v86
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v88 : BitVec 32 := Scalar.muli v9 c1_i32_82
  let v89 : BitVec 32 := Scalar.addi v87 v88
  v89.toNat
def k0_off7 (d0 : Dev nD) : Fin 4 → Nat :=
  let c0_i32_88 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_91 : BitVec 32 := 0#32
  let c0_i32_92 : BitVec 32 := 0#32
  ![0, v8.toNat, 0, 0]
def k0_off8 (d0 : Dev nD) (c0_i32_87 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.addi c0_i32_87 v8
  let c0_i32_93 : BitVec 32 := 0#32
  let c0_i32_94 : BitVec 32 := 0#32
  ![v98.toNat, 0, 0]
def k0_off9 (d0 : Dev nD) (c1_i32_95 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.subi c1_i32_95 v8
  let c0_i32_107 : BitVec 32 := 0#32
  let c0_i32_108 : BitVec 32 := 0#32
  ![v105.toNat, 0, 0]
def k0_dev5 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v106 : BitVec 32 := Scalar.muli v2 c4_i32_101
  let v107 : BitVec 32 := Scalar.addi c0_i32_102 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v108 : BitVec 32 := Scalar.muli v5 c2_i32_103
  let v109 : BitVec 32 := Scalar.addi v107 v108
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v110 : BitVec 32 := Scalar.muli v9 c1_i32_104
  let v111 : BitVec 32 := Scalar.addi v109 v110
  v111.toNat
def k0_off10 (d0 : Dev nD) : Fin 4 → Nat :=
  let c1_i32_110 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_113 : BitVec 32 := 0#32
  let c0_i32_114 : BitVec 32 := 0#32
  ![1, v8.toNat, 0, 0]
def k0_dev6 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v128 : BitVec 32 := Scalar.muli v2 c4_i32_123
  let v129 : BitVec 32 := Scalar.addi c0_i32_124 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v130 : BitVec 32 := Scalar.muli v5 c2_i32_125
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_126 : BitVec 32 := 1#32
  let v132 : BitVec 32 := Scalar.muli v9 c1_i32_126
  let v133 : BitVec 32 := Scalar.addi v131 v132
  v133.toNat
def k0_off11 (d0 : Dev nD) : Fin 4 → Nat :=
  let c2_i32_132 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_135 : BitVec 32 := 0#32
  let c0_i32_136 : BitVec 32 := 0#32
  ![2, v8.toNat, 0, 0]
def k0_dev7 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v150 : BitVec 32 := Scalar.muli v2 c4_i32_145
  let v151 : BitVec 32 := Scalar.addi c0_i32_146 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v152 : BitVec 32 := Scalar.muli v5 c2_i32_147
  let v153 : BitVec 32 := Scalar.addi v151 v152
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_148 : BitVec 32 := 1#32
  let v154 : BitVec 32 := Scalar.muli v9 c1_i32_148
  let v155 : BitVec 32 := Scalar.addi v153 v154
  v155.toNat
def k0_off12 (d0 : Dev nD) : Fin 4 → Nat :=
  let c3_i32_154 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_157 : BitVec 32 := 0#32
  let c0_i32_158 : BitVec 32 := 0#32
  ![3, v8.toNat, 0, 0]
def k0_dev8 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v172 : BitVec 32 := Scalar.muli v2 c4_i32_167
  let v173 : BitVec 32 := Scalar.addi c0_i32_168 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v174 : BitVec 32 := Scalar.muli v5 c2_i32_169
  let v175 : BitVec 32 := Scalar.addi v173 v174
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v176 : BitVec 32 := Scalar.muli v9 c1_i32_170
  let v177 : BitVec 32 := Scalar.addi v175 v176
  v177.toNat
def k0_off13 (d0 : Dev nD) : Fin 4 → Nat :=
  let c0_i32_176 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_179 : BitVec 32 := 0#32
  let c0_i32_180 : BitVec 32 := 0#32
  ![0, v8.toNat, 0, 0]
def k0_off14 (d0 : Dev nD) (c0_i32_175 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.addi c0_i32_175 v8
  let c0_i32_181 : BitVec 32 := 0#32
  let c0_i32_182 : BitVec 32 := 0#32
  ![v186.toNat, 0, 0]
def k0_off15 (d0 : Dev nD) (c1_i32_183 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.subi c1_i32_183 v8
  let c0_i32_195 : BitVec 32 := 0#32
  let c0_i32_196 : BitVec 32 := 0#32
  ![v193.toNat, 0, 0]
def k0_dev9 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v194 : BitVec 32 := Scalar.muli v2 c4_i32_189
  let v195 : BitVec 32 := Scalar.addi c0_i32_190 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v196 : BitVec 32 := Scalar.muli v5 c2_i32_191
  let v197 : BitVec 32 := Scalar.addi v195 v196
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_192 : BitVec 32 := 1#32
  let v198 : BitVec 32 := Scalar.muli v9 c1_i32_192
  let v199 : BitVec 32 := Scalar.addi v197 v198
  v199.toNat
def k0_off16 (d0 : Dev nD) : Fin 4 → Nat :=
  let c1_i32_198 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_201 : BitVec 32 := 0#32
  let c0_i32_202 : BitVec 32 := 0#32
  ![1, v8.toNat, 0, 0]
def k0_dev10 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v216 : BitVec 32 := Scalar.muli v2 c4_i32_211
  let v217 : BitVec 32 := Scalar.addi c0_i32_212 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v218 : BitVec 32 := Scalar.muli v5 c2_i32_213
  let v219 : BitVec 32 := Scalar.addi v217 v218
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_214 : BitVec 32 := 1#32
  let v220 : BitVec 32 := Scalar.muli v9 c1_i32_214
  let v221 : BitVec 32 := Scalar.addi v219 v220
  v221.toNat
def k0_off17 (d0 : Dev nD) : Fin 4 → Nat :=
  let c2_i32_220 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_223 : BitVec 32 := 0#32
  let c0_i32_224 : BitVec 32 := 0#32
  ![2, v8.toNat, 0, 0]
def k0_dev11 (d0 : Dev nD) : Nat :=
  let c0_i32_234 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_233 : BitVec 32 := 4#32
  let v238 : BitVec 32 := Scalar.muli v2 c4_i32_233
  let v239 : BitVec 32 := Scalar.addi c0_i32_234 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v240 : BitVec 32 := Scalar.muli v5 c2_i32_235
  let v241 : BitVec 32 := Scalar.addi v239 v240
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_236 : BitVec 32 := 1#32
  let v242 : BitVec 32 := Scalar.muli v9 c1_i32_236
  let v243 : BitVec 32 := Scalar.addi v241 v242
  v243.toNat
def k0_off18 (d0 : Dev nD) : Fin 4 → Nat :=
  let c3_i32_242 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_245 : BitVec 32 := 0#32
  let c0_i32_246 : BitVec 32 := 0#32
  ![3, v8.toNat, 0, 0]
def k0_dev12 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v260 : BitVec 32 := Scalar.muli v2 c4_i32_255
  let v261 : BitVec 32 := Scalar.addi c0_i32_256 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v262 : BitVec 32 := Scalar.muli v5 c2_i32_257
  let v263 : BitVec 32 := Scalar.addi v261 v262
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_258 : BitVec 32 := 1#32
  let v264 : BitVec 32 := Scalar.muli v9 c1_i32_258
  let v265 : BitVec 32 := Scalar.addi v263 v264
  v265.toNat
def k0_off19 (d0 : Dev nD) : Fin 4 → Nat :=
  let c0_i32_264 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_267 : BitVec 32 := 0#32
  let c0_i32_268 : BitVec 32 := 0#32
  ![0, v8.toNat, 0, 0]
def k0_off20 (d0 : Dev nD) (c0_i32_263 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v274 : BitVec 32 := Scalar.addi c0_i32_263 v8
  let c0_i32_269 : BitVec 32 := 0#32
  let c0_i32_270 : BitVec 32 := 0#32
  ![v274.toNat, 0, 0]
def k0_off21 (d0 : Dev nD) (c1_i32_271 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v281 : BitVec 32 := Scalar.subi c1_i32_271 v8
  let c0_i32_283 : BitVec 32 := 0#32
  let c0_i32_284 : BitVec 32 := 0#32
  ![v281.toNat, 0, 0]
def k0_dev13 (d0 : Dev nD) : Nat :=
  let c0_i32_278 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_277 : BitVec 32 := 4#32
  let v282 : BitVec 32 := Scalar.muli v2 c4_i32_277
  let v283 : BitVec 32 := Scalar.addi c0_i32_278 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v284 : BitVec 32 := Scalar.muli v5 c2_i32_279
  let v285 : BitVec 32 := Scalar.addi v283 v284
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_280 : BitVec 32 := 1#32
  let v286 : BitVec 32 := Scalar.muli v9 c1_i32_280
  let v287 : BitVec 32 := Scalar.addi v285 v286
  v287.toNat
def k0_off22 (d0 : Dev nD) : Fin 4 → Nat :=
  let c1_i32_286 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_289 : BitVec 32 := 0#32
  let c0_i32_290 : BitVec 32 := 0#32
  ![1, v8.toNat, 0, 0]
def k0_dev14 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v304 : BitVec 32 := Scalar.muli v2 c4_i32_299
  let v305 : BitVec 32 := Scalar.addi c0_i32_300 v304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v306 : BitVec 32 := Scalar.muli v5 c2_i32_301
  let v307 : BitVec 32 := Scalar.addi v305 v306
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_302 : BitVec 32 := 1#32
  let v308 : BitVec 32 := Scalar.muli v9 c1_i32_302
  let v309 : BitVec 32 := Scalar.addi v307 v308
  v309.toNat
def k0_off23 (d0 : Dev nD) : Fin 4 → Nat :=
  let c2_i32_308 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_311 : BitVec 32 := 0#32
  let c0_i32_312 : BitVec 32 := 0#32
  ![2, v8.toNat, 0, 0]
def k0_dev15 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_321 : BitVec 32 := 4#32
  let v326 : BitVec 32 := Scalar.muli v2 c4_i32_321
  let v327 : BitVec 32 := Scalar.addi c0_i32_322 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v328 : BitVec 32 := Scalar.muli v5 c2_i32_323
  let v329 : BitVec 32 := Scalar.addi v327 v328
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_324 : BitVec 32 := 1#32
  let v330 : BitVec 32 := Scalar.muli v9 c1_i32_324
  let v331 : BitVec 32 := Scalar.addi v329 v330
  v331.toNat
def k0_off24 (d0 : Dev nD) : Fin 4 → Nat :=
  let c3_i32_330 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_333 : BitVec 32 := 0#32
  let c0_i32_334 : BitVec 32 := 0#32
  ![3, v8.toNat, 0, 0]
def k0_dev16 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v348 : BitVec 32 := Scalar.muli v2 c4_i32_343
  let v349 : BitVec 32 := Scalar.addi c0_i32_344 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v350 : BitVec 32 := Scalar.muli v5 c2_i32_345
  let v351 : BitVec 32 := Scalar.addi v349 v350
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_346 : BitVec 32 := 1#32
  let v352 : BitVec 32 := Scalar.muli v9 c1_i32_346
  let v353 : BitVec 32 := Scalar.addi v351 v352
  v353.toNat
-- ==== PairRef.lean ====
abbrev S64x1024x256 : Shape := ⟨3, ![64, 1024, 256]⟩
abbrev S64x128x1024 : Shape := ⟨3, ![64, 128, 1024]⟩
abbrev S64x1024x768 : Shape := ⟨3, ![64, 1024, 768]⟩
abbrev S64x384x1024 : Shape := ⟨3, ![64, 384, 1024]⟩
abbrev S4x2x4x2x1024x256 : Shape := ⟨6, ![4, 2, 4, 2, 1024, 256]⟩
abbrev S32x2x1024x256 : Shape := ⟨4, ![32, 2, 1024, 256]⟩
abbrev S4x2x4x2x128x1024 : Shape := ⟨6, ![4, 2, 4, 2, 128, 1024]⟩
abbrev S32x2x128x1024 : Shape := ⟨4, ![32, 2, 128, 1024]⟩
abbrev S4x2x4x2x1024x768 : Shape := ⟨6, ![4, 2, 4, 2, 1024, 768]⟩
abbrev S32x2x1024x768 : Shape := ⟨4, ![32, 2, 1024, 768]⟩
abbrev S4x2x4x2x384x1024 : Shape := ⟨6, ![4, 2, 4, 2, 384, 1024]⟩
abbrev S32x2x384x1024 : Shape := ⟨4, ![32, 2, 384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S64x1024x256, .bf16⟩
  | .hbm, ⟨1, _⟩ => ⟨S64x128x1024, .bf16⟩
  | .hbm, ⟨2, _⟩ => ⟨S64x1024x768, .bf16⟩
  | .hbm, ⟨3, _⟩ => ⟨S64x384x1024, .bf16⟩
  | .hbm, ⟨4, _⟩ => ⟨S4x2x4x2x1024x256, .bf16⟩
  | .hbm, ⟨5, _⟩ => ⟨S4x2x4x2x1024x256, .bf16⟩
  | .hbm, ⟨6, _⟩ => ⟨S32x2x1024x256, .bf16⟩
  | .hbm, ⟨7, _⟩ => ⟨S4x2x4x2x128x1024, .bf16⟩
  | .hbm, ⟨8, _⟩ => ⟨S4x2x4x2x128x1024, .bf16⟩
  | .hbm, ⟨9, _⟩ => ⟨S32x2x128x1024, .bf16⟩
  | .hbm, ⟨10, _⟩ => ⟨S4x2x4x2x1024x768, .bf16⟩
  | .hbm, ⟨11, _⟩ => ⟨S4x2x4x2x1024x768, .bf16⟩
  | .hbm, ⟨12, _⟩ => ⟨S32x2x1024x768, .bf16⟩
  | .hbm, ⟨13, _⟩ => ⟨S4x2x4x2x384x1024, .bf16⟩
  | .hbm, ⟨14, _⟩ => ⟨S4x2x4x2x384x1024, .bf16⟩
  | .hbm, ⟨15, _⟩ => ⟨S32x2x384x1024, .bf16⟩
  | _, _ => ⟨S64x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Gather.lean ====
abbrev S1024x256 : Shape := ⟨2, ![1024, 256]⟩
abbrev S128x1024 : Shape := ⟨2, ![128, 1024]⟩
abbrev S1024x768 : Shape := ⟨2, ![1024, 768]⟩
abbrev S384x1024 : Shape := ⟨2, ![384, 1024]⟩
abbrev S8x1024x256 : Shape := ⟨3, ![8, 1024, 256]⟩
abbrev S8x128x1024 : Shape := ⟨3, ![8, 128, 1024]⟩
abbrev S8x1024x768 : Shape := ⟨3, ![8, 1024, 768]⟩
abbrev S8x384x1024 : Shape := ⟨3, ![8, 384, 1024]⟩
abbrev S4x7 : Shape := ⟨2, ![4, 7]⟩
abbrev S4 : Shape := ⟨1, ![4]⟩
abbrev S1 : Shape := ⟨1, ![1]⟩
abbrev S_ : Shape := ⟨0, ![]⟩
abbrev S1x1024x256 : Shape := ⟨3, ![1, 1024, 256]⟩
abbrev S1x128x1024 : Shape := ⟨3, ![1, 128, 1024]⟩
abbrev S1x1024x768 : Shape := ⟨3, ![1, 1024, 768]⟩
abbrev S1x384x1024 : Shape := ⟨3, ![1, 384, 1024]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S128x1024, .bf16⟩
  | .hbm, ⟨2, _⟩ => ⟨S1024x768, .bf16⟩
  | .hbm, ⟨3, _⟩ => ⟨S384x1024, .bf16⟩
  | .hbm, ⟨4, _⟩ => ⟨S8x1024x256, .bf16⟩
  | .hbm, ⟨5, _⟩ => ⟨S8x128x1024, .bf16⟩
  | .hbm, ⟨6, _⟩ => ⟨S8x1024x768, .bf16⟩
  | .hbm, ⟨7, _⟩ => ⟨S8x384x1024, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_13 : BitVec 32 := 0#32
  let c0_i32_14 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_16 : BitVec 32 := 0#32
  let c0_i32_17 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_18 : BitVec 32 := 0#32
  let c0_i32_19 : BitVec 32 := 0#32
  ![v12.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v34 : BitVec 32 := Scalar.muli v2 c4_i32_24
  let v35 : BitVec 32 := Scalar.addi c0_i32_25 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v36 : BitVec 32 := Scalar.muli v5 c2_i32_26
  let v37 : BitVec 32 := Scalar.addi v35 v36
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_27 : BitVec 32 := 1#32
  let v38 : BitVec 32 := Scalar.muli v13 c1_i32_27
  let v39 : BitVec 32 := Scalar.addi v37 v38
  v39.toNat
def k0_dev2 (d0 : Dev nD) : Nat :=
  let c0_i32_35 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_34 : BitVec 32 := 4#32
  let v46 : BitVec 32 := Scalar.muli v14 c4_i32_34
  let v47 : BitVec 32 := Scalar.addi c0_i32_35 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v48 : BitVec 32 := Scalar.muli v5 c2_i32_36
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v50 : BitVec 32 := Scalar.muli v8 c1_i32_37
  let v51 : BitVec 32 := Scalar.addi v49 v50
  v51.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v58 : BitVec 32 := Scalar.muli v2 c4_i32_44
  let v59 : BitVec 32 := Scalar.addi c0_i32_45 v58
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_46 : BitVec 32 := 2#32
  let v60 : BitVec 32 := Scalar.muli v15 c2_i32_46
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v62 : BitVec 32 := Scalar.muli v8 c1_i32_47
  let v63 : BitVec 32 := Scalar.addi v61 v62
  v63.toNat
def k0_dev4 (d0 : Dev nD) : Nat :=
  let c0_i32_55 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_54 : BitVec 32 := 4#32
  let v70 : BitVec 32 := Scalar.muli v16 c4_i32_54
  let v71 : BitVec 32 := Scalar.addi c0_i32_55 v70
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_56 : BitVec 32 := 2#32
  let v72 : BitVec 32 := Scalar.muli v17 c2_i32_56
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v74 : BitVec 32 := Scalar.muli v8 c1_i32_57
  let v75 : BitVec 32 := Scalar.addi v73 v74
  v75.toNat
def k0_dev5 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v82 : BitVec 32 := Scalar.muli v2 c4_i32_64
  let v83 : BitVec 32 := Scalar.addi c0_i32_65 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v84 : BitVec 32 := Scalar.muli v5 c2_i32_66
  let v85 : BitVec 32 := Scalar.addi v83 v84
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_67 : BitVec 32 := 1#32
  let v86 : BitVec 32 := Scalar.muli v13 c1_i32_67
  let v87 : BitVec 32 := Scalar.addi v85 v86
  v87.toNat
def k0_dev6 (d0 : Dev nD) : Nat :=
  let c0_i32_75 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_74 : BitVec 32 := 4#32
  let v94 : BitVec 32 := Scalar.muli v14 c4_i32_74
  let v95 : BitVec 32 := Scalar.addi c0_i32_75 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v96 : BitVec 32 := Scalar.muli v5 c2_i32_76
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v98 : BitVec 32 := Scalar.muli v8 c1_i32_77
  let v99 : BitVec 32 := Scalar.addi v97 v98
  v99.toNat
def k0_dev7 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v106 : BitVec 32 := Scalar.muli v2 c4_i32_84
  let v107 : BitVec 32 := Scalar.addi c0_i32_85 v106
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_86 : BitVec 32 := 2#32
  let v108 : BitVec 32 := Scalar.muli v15 c2_i32_86
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v110 : BitVec 32 := Scalar.muli v8 c1_i32_87
  let v111 : BitVec 32 := Scalar.addi v109 v110
  v111.toNat
def k0_dev8 (d0 : Dev nD) : Nat :=
  let c0_i32_95 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_94 : BitVec 32 := 4#32
  let v118 : BitVec 32 := Scalar.muli v16 c4_i32_94
  let v119 : BitVec 32 := Scalar.addi c0_i32_95 v118
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_96 : BitVec 32 := 2#32
  let v120 : BitVec 32 := Scalar.muli v17 c2_i32_96
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v122 : BitVec 32 := Scalar.muli v8 c1_i32_97
  let v123 : BitVec 32 := Scalar.addi v121 v122
  v123.toNat
def k0_dev9 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v130 : BitVec 32 := Scalar.muli v2 c4_i32_104
  let v131 : BitVec 32 := Scalar.addi c0_i32_105 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v132 : BitVec 32 := Scalar.muli v5 c2_i32_106
  let v133 : BitVec 32 := Scalar.addi v131 v132
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_107 : BitVec 32 := 1#32
  let v134 : BitVec 32 := Scalar.muli v13 c1_i32_107
  let v135 : BitVec 32 := Scalar.addi v133 v134
  v135.toNat
def k0_dev10 (d0 : Dev nD) : Nat :=
  let c0_i32_115 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_114 : BitVec 32 := 4#32
  let v142 : BitVec 32 := Scalar.muli v14 c4_i32_114
  let v143 : BitVec 32 := Scalar.addi c0_i32_115 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v144 : BitVec 32 := Scalar.muli v5 c2_i32_116
  let v145 : BitVec 32 := Scalar.addi v143 v144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v146 : BitVec 32 := Scalar.muli v8 c1_i32_117
  let v147 : BitVec 32 := Scalar.addi v145 v146
  v147.toNat
def k0_dev11 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v154 : BitVec 32 := Scalar.muli v2 c4_i32_124
  let v155 : BitVec 32 := Scalar.addi c0_i32_125 v154
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_126 : BitVec 32 := 2#32
  let v156 : BitVec 32 := Scalar.muli v15 c2_i32_126
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v158 : BitVec 32 := Scalar.muli v8 c1_i32_127
  let v159 : BitVec 32 := Scalar.addi v157 v158
  v159.toNat
def k0_dev12 (d0 : Dev nD) : Nat :=
  let c0_i32_135 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_134 : BitVec 32 := 4#32
  let v166 : BitVec 32 := Scalar.muli v16 c4_i32_134
  let v167 : BitVec 32 := Scalar.addi c0_i32_135 v166
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_136 : BitVec 32 := 2#32
  let v168 : BitVec 32 := Scalar.muli v17 c2_i32_136
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v170 : BitVec 32 := Scalar.muli v8 c1_i32_137
  let v171 : BitVec 32 := Scalar.addi v169 v170
  v171.toNat
def k0_dev13 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v178 : BitVec 32 := Scalar.muli v2 c4_i32_144
  let v179 : BitVec 32 := Scalar.addi c0_i32_145 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v180 : BitVec 32 := Scalar.muli v5 c2_i32_146
  let v181 : BitVec 32 := Scalar.addi v179 v180
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_147 : BitVec 32 := 1#32
  let v182 : BitVec 32 := Scalar.muli v13 c1_i32_147
  let v183 : BitVec 32 := Scalar.addi v181 v182
  v183.toNat
def k0_dev14 (d0 : Dev nD) : Nat :=
  let c0_i32_155 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_154 : BitVec 32 := 4#32
  let v190 : BitVec 32 := Scalar.muli v14 c4_i32_154
  let v191 : BitVec 32 := Scalar.addi c0_i32_155 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v192 : BitVec 32 := Scalar.muli v5 c2_i32_156
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v194 : BitVec 32 := Scalar.muli v8 c1_i32_157
  let v195 : BitVec 32 := Scalar.addi v193 v194
  v195.toNat
def k0_dev15 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v202 : BitVec 32 := Scalar.muli v2 c4_i32_164
  let v203 : BitVec 32 := Scalar.addi c0_i32_165 v202
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_166 : BitVec 32 := 2#32
  let v204 : BitVec 32 := Scalar.muli v15 c2_i32_166
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v206 : BitVec 32 := Scalar.muli v8 c1_i32_167
  let v207 : BitVec 32 := Scalar.addi v205 v206
  v207.toNat
def k0_dev16 (d0 : Dev nD) : Nat :=
  let c0_i32_175 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let c4_i32_174 : BitVec 32 := 4#32
  let v214 : BitVec 32 := Scalar.muli v16 c4_i32_174
  let v215 : BitVec 32 := Scalar.addi c0_i32_175 v214
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c2_i32_176 : BitVec 32 := 2#32
  let v216 : BitVec 32 := Scalar.muli v17 c2_i32_176
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v218 : BitVec 32 := Scalar.muli v8 c1_i32_177
  let v219 : BitVec 32 := Scalar.addi v217 v218
  v219.toNat
def k0_off5 (d0 : Dev nD) : Fin 3 → Nat :=
  let c4_i32_180 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v226 : BitVec 32 := Scalar.muli c4_i32_180 v14
  let c2_i32_181 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.muli c2_i32_181 v5
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v229 : BitVec 32 := Scalar.addi v228 v8
  let c0_i32_190 : BitVec 32 := 0#32
  let c0_i32_191 : BitVec 32 := 0#32
  ![v229.toNat, 0, 0]
def k0_dev17 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v246 : BitVec 32 := Scalar.muli v2 c4_i32_200
  let v247 : BitVec 32 := Scalar.addi c0_i32_201 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v248 : BitVec 32 := Scalar.muli v5 c2_i32_202
  let v249 : BitVec 32 := Scalar.addi v247 v248
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_203 : BitVec 32 := 1#32
  let v250 : BitVec 32 := Scalar.muli v13 c1_i32_203
  let v251 : BitVec 32 := Scalar.addi v249 v250
  v251.toNat
def k0_off6 (d0 : Dev nD) : Fin 3 → Nat :=
  let c4_i32_208 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v260 : BitVec 32 := Scalar.muli c4_i32_208 v14
  let c2_i32_209 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.muli c2_i32_209 v5
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v263 : BitVec 32 := Scalar.addi v262 v8
  let c0_i32_218 : BitVec 32 := 0#32
  let c0_i32_219 : BitVec 32 := 0#32
  ![v263.toNat, 0, 0]
def k0_dev18 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v280 : BitVec 32 := Scalar.muli v2 c4_i32_228
  let v281 : BitVec 32 := Scalar.addi c0_i32_229 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v282 : BitVec 32 := Scalar.muli v5 c2_i32_230
  let v283 : BitVec 32 := Scalar.addi v281 v282
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_231 : BitVec 32 := 1#32
  let v284 : BitVec 32 := Scalar.muli v13 c1_i32_231
  let v285 : BitVec 32 := Scalar.addi v283 v284
  v285.toNat
def k0_off7 (d0 : Dev nD) : Fin 3 → Nat :=
  let c4_i32_236 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v294 : BitVec 32 := Scalar.muli c4_i32_236 v14
  let c2_i32_237 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v295 : BitVec 32 := Scalar.muli c2_i32_237 v5
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v297 : BitVec 32 := Scalar.addi v296 v8
  let c0_i32_246 : BitVec 32 := 0#32
  let c0_i32_247 : BitVec 32 := 0#32
  ![v297.toNat, 0, 0]
def k0_dev19 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v314 : BitVec 32 := Scalar.muli v2 c4_i32_256
  let v315 : BitVec 32 := Scalar.addi c0_i32_257 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v316 : BitVec 32 := Scalar.muli v5 c2_i32_258
  let v317 : BitVec 32 := Scalar.addi v315 v316
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_259 : BitVec 32 := 1#32
  let v318 : BitVec 32 := Scalar.muli v13 c1_i32_259
  let v319 : BitVec 32 := Scalar.addi v317 v318
  v319.toNat
def k0_off8 (d0 : Dev nD) : Fin 3 → Nat :=
  let c4_i32_264 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v328 : BitVec 32 := Scalar.muli c4_i32_264 v14
  let c2_i32_265 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v329 : BitVec 32 := Scalar.muli c2_i32_265 v5
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.addi v330 v8
  let c0_i32_274 : BitVec 32 := 0#32
  let c0_i32_275 : BitVec 32 := 0#32
  ![v331.toNat, 0, 0]
def k0_dev20 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v348 : BitVec 32 := Scalar.muli v2 c4_i32_284
  let v349 : BitVec 32 := Scalar.addi c0_i32_285 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v350 : BitVec 32 := Scalar.muli v5 c2_i32_286
  let v351 : BitVec 32 := Scalar.addi v349 v350
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_287 : BitVec 32 := 1#32
  let v352 : BitVec 32 := Scalar.muli v13 c1_i32_287
  let v353 : BitVec 32 := Scalar.addi v351 v352
  v353.toNat
def k0_off9 (d0 : Dev nD) : Fin 3 → Nat :=
  let c4_i32_292 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.muli c4_i32_292 v2
  let c2_i32_293 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v363 : BitVec 32 := Scalar.muli c2_i32_293 v15
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v365 : BitVec 32 := Scalar.addi v364 v8
  let c0_i32_302 : BitVec 32 := 0#32
  let c0_i32_303 : BitVec 32 := 0#32
  ![v365.toNat, 0, 0]
def k0_dev21 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v382 : BitVec 32 := Scalar.muli v2 c4_i32_311
  let v383 : BitVec 32 := Scalar.addi c0_i32_312 v382
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v384 : BitVec 32 := Scalar.muli v5 c2_i32_313
  let v385 : BitVec 32 := Scalar.addi v383 v384
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_314 : BitVec 32 := 1#32
  let v386 : BitVec 32 := Scalar.muli v13 c1_i32_314
  let v387 : BitVec 32 := Scalar.addi v385 v386
  v387.toNat
def k0_off10 (d0 : Dev nD) : Fin 3 → Nat :=
  let c4_i32_319 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v396 : BitVec 32 := Scalar.muli c4_i32_319 v2
  let c2_i32_320 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v397 : BitVec 32 := Scalar.muli c2_i32_320 v15
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v399 : BitVec 32 := Scalar.addi v398 v8
  let c0_i32_329 : BitVec 32 := 0#32
  let c0_i32_330 : BitVec 32 := 0#32
  ![v399.toNat, 0, 0]
def k0_dev22 (d0 : Dev nD) : Nat :=
  let c0_i32_340 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_339 : BitVec 32 := 4#32
  let v416 : BitVec 32 := Scalar.muli v2 c4_i32_339
  let v417 : BitVec 32 := Scalar.addi c0_i32_340 v416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_341 : BitVec 32 := 2#32
  let v418 : BitVec 32 := Scalar.muli v5 c2_i32_341
  let v419 : BitVec 32 := Scalar.addi v417 v418
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_342 : BitVec 32 := 1#32
  let v420 : BitVec 32 := Scalar.muli v13 c1_i32_342
  let v421 : BitVec 32 := Scalar.addi v419 v420
  v421.toNat
def k0_off11 (d0 : Dev nD) : Fin 3 → Nat :=
  let c4_i32_347 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v430 : BitVec 32 := Scalar.muli c4_i32_347 v2
  let c2_i32_348 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v431 : BitVec 32 := Scalar.muli c2_i32_348 v15
  let v432 : BitVec 32 := Scalar.addi v430 v431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v433 : BitVec 32 := Scalar.addi v432 v8
  let c0_i32_357 : BitVec 32 := 0#32
  let c0_i32_358 : BitVec 32 := 0#32
  ![v433.toNat, 0, 0]
def k0_dev23 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v450 : BitVec 32 := Scalar.muli v2 c4_i32_367
  let v451 : BitVec 32 := Scalar.addi c0_i32_368 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v452 : BitVec 32 := Scalar.muli v5 c2_i32_369
  let v453 : BitVec 32 := Scalar.addi v451 v452
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_370 : BitVec 32 := 1#32
  let v454 : BitVec 32 := Scalar.muli v13 c1_i32_370
  let v455 : BitVec 32 := Scalar.addi v453 v454
  v455.toNat
def k0_off12 (d0 : Dev nD) : Fin 3 → Nat :=
  let c4_i32_375 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v464 : BitVec 32 := Scalar.muli c4_i32_375 v2
  let c2_i32_376 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v465 : BitVec 32 := Scalar.muli c2_i32_376 v15
  let v466 : BitVec 32 := Scalar.addi v464 v465
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v467 : BitVec 32 := Scalar.addi v466 v8
  let c0_i32_385 : BitVec 32 := 0#32
  let c0_i32_386 : BitVec 32 := 0#32
  ![v467.toNat, 0, 0]
def k0_dev24 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v484 : BitVec 32 := Scalar.muli v2 c4_i32_395
  let v485 : BitVec 32 := Scalar.addi c0_i32_396 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v486 : BitVec 32 := Scalar.muli v5 c2_i32_397
  let v487 : BitVec 32 := Scalar.addi v485 v486
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_398 : BitVec 32 := 1#32
  let v488 : BitVec 32 := Scalar.muli v13 c1_i32_398
  let v489 : BitVec 32 := Scalar.addi v487 v488
  v489.toNat
def k0_off13 (d0 : Dev nD) : Fin 3 → Nat :=
  let c4_i32_403 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v498 : BitVec 32 := Scalar.muli c4_i32_403 v16
  let c2_i32_404 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v499 : BitVec 32 := Scalar.muli c2_i32_404 v17
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v501 : BitVec 32 := Scalar.addi v500 v8
  let c0_i32_413 : BitVec 32 := 0#32
  let c0_i32_414 : BitVec 32 := 0#32
  ![v501.toNat, 0, 0]
def k0_dev25 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v518 : BitVec 32 := Scalar.muli v2 c4_i32_422
  let v519 : BitVec 32 := Scalar.addi c0_i32_423 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v520 : BitVec 32 := Scalar.muli v5 c2_i32_424
  let v521 : BitVec 32 := Scalar.addi v519 v520
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_425 : BitVec 32 := 1#32
  let v522 : BitVec 32 := Scalar.muli v13 c1_i32_425
  let v523 : BitVec 32 := Scalar.addi v521 v522
  v523.toNat
def k0_off14 (d0 : Dev nD) : Fin 3 → Nat :=
  let c4_i32_430 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v532 : BitVec 32 := Scalar.muli c4_i32_430 v16
  let c2_i32_431 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v533 : BitVec 32 := Scalar.muli c2_i32_431 v17
  let v534 : BitVec 32 := Scalar.addi v532 v533
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v535 : BitVec 32 := Scalar.addi v534 v8
  let c0_i32_440 : BitVec 32 := 0#32
  let c0_i32_441 : BitVec 32 := 0#32
  ![v535.toNat, 0, 0]
def k0_dev26 (d0 : Dev nD) : Nat :=
  let c0_i32_451 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_450 : BitVec 32 := 4#32
  let v552 : BitVec 32 := Scalar.muli v2 c4_i32_450
  let v553 : BitVec 32 := Scalar.addi c0_i32_451 v552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_452 : BitVec 32 := 2#32
  let v554 : BitVec 32 := Scalar.muli v5 c2_i32_452
  let v555 : BitVec 32 := Scalar.addi v553 v554
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_453 : BitVec 32 := 1#32
  let v556 : BitVec 32 := Scalar.muli v13 c1_i32_453
  let v557 : BitVec 32 := Scalar.addi v555 v556
  v557.toNat
def k0_off15 (d0 : Dev nD) : Fin 3 → Nat :=
  let c4_i32_458 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v566 : BitVec 32 := Scalar.muli c4_i32_458 v16
  let c2_i32_459 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v567 : BitVec 32 := Scalar.muli c2_i32_459 v17
  let v568 : BitVec 32 := Scalar.addi v566 v567
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v569 : BitVec 32 := Scalar.addi v568 v8
  let c0_i32_468 : BitVec 32 := 0#32
  let c0_i32_469 : BitVec 32 := 0#32
  ![v569.toNat, 0, 0]
def k0_dev27 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v586 : BitVec 32 := Scalar.muli v2 c4_i32_478
  let v587 : BitVec 32 := Scalar.addi c0_i32_479 v586
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v588 : BitVec 32 := Scalar.muli v5 c2_i32_480
  let v589 : BitVec 32 := Scalar.addi v587 v588
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_481 : BitVec 32 := 1#32
  let v590 : BitVec 32 := Scalar.muli v13 c1_i32_481
  let v591 : BitVec 32 := Scalar.addi v589 v590
  v591.toNat
def k0_off16 (d0 : Dev nD) : Fin 3 → Nat :=
  let c4_i32_486 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v600 : BitVec 32 := Scalar.muli c4_i32_486 v16
  let c2_i32_487 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v601 : BitVec 32 := Scalar.muli c2_i32_487 v17
  let v602 : BitVec 32 := Scalar.addi v600 v601
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v603 : BitVec 32 := Scalar.addi v602 v8
  let c0_i32_496 : BitVec 32 := 0#32
  let c0_i32_497 : BitVec 32 := 0#32
  ![v603.toNat, 0, 0]
def k0_dev28 (d0 : Dev nD) : Nat :=
  let c0_i32_507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_506 : BitVec 32 := 4#32
  let v620 : BitVec 32 := Scalar.muli v2 c4_i32_506
  let v621 : BitVec 32 := Scalar.addi c0_i32_507 v620
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_508 : BitVec 32 := 2#32
  let v622 : BitVec 32 := Scalar.muli v5 c2_i32_508
  let v623 : BitVec 32 := Scalar.addi v621 v622
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_509 : BitVec 32 := 1#32
  let v624 : BitVec 32 := Scalar.muli v13 c1_i32_509
  let v625 : BitVec 32 := Scalar.addi v623 v624
  v625.toNat
def k0_off17 (d0 : Dev nD) : Fin 3 → Nat :=
  let c4_i32_515 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v635 : BitVec 32 := Scalar.muli c4_i32_515 v2
  let c2_i32_516 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v636 : BitVec 32 := Scalar.muli c2_i32_516 v5
  let v637 : BitVec 32 := Scalar.addi v635 v636
  let c1_i32_514 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v634 : BitVec 32 := Scalar.subi c1_i32_514 v8
  let v638 : BitVec 32 := Scalar.addi v637 v634
  let c0_i32_525 : BitVec 32 := 0#32
  let c0_i32_526 : BitVec 32 := 0#32
  ![v638.toNat, 0, 0]
def k0_off18 (d0 : Dev nD) : Fin 3 → Nat :=
  let c4_i32_530 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v652 : BitVec 32 := Scalar.muli c4_i32_530 v14
  let c2_i32_531 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v653 : BitVec 32 := Scalar.muli c2_i32_531 v5
  let v654 : BitVec 32 := Scalar.addi v652 v653
  let c1_i32_529 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v651 : BitVec 32 := Scalar.subi c1_i32_529 v8
  let v655 : BitVec 32 := Scalar.addi v654 v651
  let c0_i32_540 : BitVec 32 := 0#32
  let c0_i32_541 : BitVec 32 := 0#32
  ![v655.toNat, 0, 0]
def k0_off19 (d0 : Dev nD) : Fin 3 → Nat :=
  let c4_i32_545 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v669 : BitVec 32 := Scalar.muli c4_i32_545 v2
  let c2_i32_546 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v670 : BitVec 32 := Scalar.muli c2_i32_546 v15
  let v671 : BitVec 32 := Scalar.addi v669 v670
  let c1_i32_544 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v668 : BitVec 32 := Scalar.subi c1_i32_544 v8
  let v672 : BitVec 32 := Scalar.addi v671 v668
  let c0_i32_555 : BitVec 32 := 0#32
  let c0_i32_556 : BitVec 32 := 0#32
  ![v672.toNat, 0, 0]
def k0_off20 (d0 : Dev nD) : Fin 3 → Nat :=
  let c4_i32_560 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v686 : BitVec 32 := Scalar.muli c4_i32_560 v16
  let c2_i32_561 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v687 : BitVec 32 := Scalar.muli c2_i32_561 v17
  let v688 : BitVec 32 := Scalar.addi v686 v687
  let c1_i32_559 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v685 : BitVec 32 := Scalar.subi c1_i32_559 v8
  let v689 : BitVec 32 := Scalar.addi v688 v685
  let c0_i32_570 : BitVec 32 := 0#32
  let c0_i32_571 : BitVec 32 := 0#32
  ![v689.toNat, 0, 0]
def k0_off21 (d0 : Dev nD) : Fin 3 → Nat :=
  let c4_i32_575 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v703 : BitVec 32 := Scalar.muli c4_i32_575 v2
  let c2_i32_576 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v704 : BitVec 32 := Scalar.muli c2_i32_576 v5
  let v705 : BitVec 32 := Scalar.addi v703 v704
  let c1_i32_574 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v702 : BitVec 32 := Scalar.subi c1_i32_574 v8
  let v706 : BitVec 32 := Scalar.addi v705 v702
  let c0_i32_585 : BitVec 32 := 0#32
  let c0_i32_586 : BitVec 32 := 0#32
  ![v706.toNat, 0, 0]
def k0_off22 (d0 : Dev nD) : Fin 3 → Nat :=
  let c4_i32_590 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v720 : BitVec 32 := Scalar.muli c4_i32_590 v14
  let c2_i32_591 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v721 : BitVec 32 := Scalar.muli c2_i32_591 v5
  let v722 : BitVec 32 := Scalar.addi v720 v721
  let c1_i32_589 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v719 : BitVec 32 := Scalar.subi c1_i32_589 v8
  let v723 : BitVec 32 := Scalar.addi v722 v719
  let c0_i32_600 : BitVec 32 := 0#32
  let c0_i32_601 : BitVec 32 := 0#32
  ![v723.toNat, 0, 0]
def k0_off23 (d0 : Dev nD) : Fin 3 → Nat :=
  let c4_i32_605 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v737 : BitVec 32 := Scalar.muli c4_i32_605 v2
  let c2_i32_606 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v738 : BitVec 32 := Scalar.muli c2_i32_606 v15
  let v739 : BitVec 32 := Scalar.addi v737 v738
  let c1_i32_604 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v736 : BitVec 32 := Scalar.subi c1_i32_604 v8
  let v740 : BitVec 32 := Scalar.addi v739 v736
  let c0_i32_615 : BitVec 32 := 0#32
  let c0_i32_616 : BitVec 32 := 0#32
  ![v740.toNat, 0, 0]
def k0_off24 (d0 : Dev nD) : Fin 3 → Nat :=
  let c4_i32_620 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v754 : BitVec 32 := Scalar.muli c4_i32_620 v16
  let c2_i32_621 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v755 : BitVec 32 := Scalar.muli c2_i32_621 v17
  let v756 : BitVec 32 := Scalar.addi v754 v755
  let c1_i32_619 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v753 : BitVec 32 := Scalar.subi c1_i32_619 v8
  let v757 : BitVec 32 := Scalar.addi v756 v753
  let c0_i32_630 : BitVec 32 := 0#32
  let c0_i32_631 : BitVec 32 := 0#32
  ![v757.toNat, 0, 0]
def k0_off25 (d0 : Dev nD) : Fin 3 → Nat :=
  let c4_i32_635 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v771 : BitVec 32 := Scalar.muli c4_i32_635 v2
  let c2_i32_636 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v772 : BitVec 32 := Scalar.muli c2_i32_636 v5
  let v773 : BitVec 32 := Scalar.addi v771 v772
  let c1_i32_634 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v770 : BitVec 32 := Scalar.subi c1_i32_634 v8
  let v774 : BitVec 32 := Scalar.addi v773 v770
  let c0_i32_645 : BitVec 32 := 0#32
  let c0_i32_646 : BitVec 32 := 0#32
  ![v774.toNat, 0, 0]
def k0_off26 (d0 : Dev nD) : Fin 3 → Nat :=
  let c4_i32_650 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v788 : BitVec 32 := Scalar.muli c4_i32_650 v14
  let c2_i32_651 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v789 : BitVec 32 := Scalar.muli c2_i32_651 v5
  let v790 : BitVec 32 := Scalar.addi v788 v789
  let c1_i32_649 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v787 : BitVec 32 := Scalar.subi c1_i32_649 v8
  let v791 : BitVec 32 := Scalar.addi v790 v787
  let c0_i32_660 : BitVec 32 := 0#32
  let c0_i32_661 : BitVec 32 := 0#32
  ![v791.toNat, 0, 0]
def k0_off27 (d0 : Dev nD) : Fin 3 → Nat :=
  let c4_i32_665 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v805 : BitVec 32 := Scalar.muli c4_i32_665 v2
  let c2_i32_666 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v806 : BitVec 32 := Scalar.muli c2_i32_666 v15
  let v807 : BitVec 32 := Scalar.addi v805 v806
  let c1_i32_664 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v804 : BitVec 32 := Scalar.subi c1_i32_664 v8
  let v808 : BitVec 32 := Scalar.addi v807 v804
  let c0_i32_675 : BitVec 32 := 0#32
  let c0_i32_676 : BitVec 32 := 0#32
  ![v808.toNat, 0, 0]
def k0_off28 (d0 : Dev nD) : Fin 3 → Nat :=
  let c4_i32_680 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v822 : BitVec 32 := Scalar.muli c4_i32_680 v16
  let c2_i32_681 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v823 : BitVec 32 := Scalar.muli c2_i32_681 v17
  let v824 : BitVec 32 := Scalar.addi v822 v823
  let c1_i32_679 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v821 : BitVec 32 := Scalar.subi c1_i32_679 v8
  let v825 : BitVec 32 := Scalar.addi v824 v821
  let c0_i32_690 : BitVec 32 := 0#32
  let c0_i32_691 : BitVec 32 := 0#32
  ![v825.toNat, 0, 0]
def k0_off29 (d0 : Dev nD) : Fin 3 → Nat :=
  let c4_i32_695 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v839 : BitVec 32 := Scalar.muli c4_i32_695 v2
  let c2_i32_696 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v840 : BitVec 32 := Scalar.muli c2_i32_696 v5
  let v841 : BitVec 32 := Scalar.addi v839 v840
  let c1_i32_694 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v838 : BitVec 32 := Scalar.subi c1_i32_694 v8
  let v842 : BitVec 32 := Scalar.addi v841 v838
  let c0_i32_705 : BitVec 32 := 0#32
  let c0_i32_706 : BitVec 32 := 0#32
  ![v842.toNat, 0, 0]
def k0_off30 (d0 : Dev nD) : Fin 3 → Nat :=
  let c4_i32_710 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v856 : BitVec 32 := Scalar.muli c4_i32_710 v14
  let c2_i32_711 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v857 : BitVec 32 := Scalar.muli c2_i32_711 v5
  let v858 : BitVec 32 := Scalar.addi v856 v857
  let c1_i32_709 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v855 : BitVec 32 := Scalar.subi c1_i32_709 v8
  let v859 : BitVec 32 := Scalar.addi v858 v855
  let c0_i32_720 : BitVec 32 := 0#32
  let c0_i32_721 : BitVec 32 := 0#32
  ![v859.toNat, 0, 0]
def k0_off31 (d0 : Dev nD) : Fin 3 → Nat :=
  let c4_i32_725 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v873 : BitVec 32 := Scalar.muli c4_i32_725 v2
  let c2_i32_726 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v874 : BitVec 32 := Scalar.muli c2_i32_726 v15
  let v875 : BitVec 32 := Scalar.addi v873 v874
  let c1_i32_724 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v872 : BitVec 32 := Scalar.subi c1_i32_724 v8
  let v876 : BitVec 32 := Scalar.addi v875 v872
  let c0_i32_735 : BitVec 32 := 0#32
  let c0_i32_736 : BitVec 32 := 0#32
  ![v876.toNat, 0, 0]
def k0_off32 (d0 : Dev nD) : Fin 3 → Nat :=
  let c4_i32_740 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v890 : BitVec 32 := Scalar.muli c4_i32_740 v16
  let c2_i32_741 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v891 : BitVec 32 := Scalar.muli c2_i32_741 v17
  let v892 : BitVec 32 := Scalar.addi v890 v891
  let c1_i32_739 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v889 : BitVec 32 := Scalar.subi c1_i32_739 v8
  let v893 : BitVec 32 := Scalar.addi v892 v889
  let c0_i32_750 : BitVec 32 := 0#32
  let c0_i32_751 : BitVec 32 := 0#32
  ![v893.toNat, 0, 0]
-- ==== GatherRef.lean ====
abbrev S1024x2048 : Shape := ⟨2, ![1024, 2048]⟩
abbrev S1024x1024 : Shape := ⟨2, ![1024, 1024]⟩
abbrev S1024x6144 : Shape := ⟨2, ![1024, 6144]⟩
abbrev S3072x1024 : Shape := ⟨2, ![3072, 1024]⟩
abbrev S1024x8x256 : Shape := ⟨3, ![1024, 8, 256]⟩
abbrev S8x1024x256 : Shape := ⟨3, ![8, 1024, 256]⟩
abbrev S8x128x1024 : Shape := ⟨3, ![8, 128, 1024]⟩
abbrev S1024x8x768 : Shape := ⟨3, ![1024, 8, 768]⟩
abbrev S8x1024x768 : Shape := ⟨3, ![8, 1024, 768]⟩
abbrev S8x384x1024 : Shape := ⟨3, ![8, 384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x1024, .bf16⟩
  | .hbm, ⟨2, _⟩ => ⟨S1024x6144, .bf16⟩
  | .hbm, ⟨3, _⟩ => ⟨S3072x1024, .bf16⟩
  | .hbm, ⟨4, _⟩ => ⟨S1024x8x256, .bf16⟩
  | .hbm, ⟨5, _⟩ => ⟨S8x1024x256, .bf16⟩
  | .hbm, ⟨6, _⟩ => ⟨S8x128x1024, .bf16⟩
  | .hbm, ⟨7, _⟩ => ⟨S1024x8x768, .bf16⟩
  | .hbm, ⟨8, _⟩ => ⟨S8x1024x768, .bf16⟩
  | .hbm, ⟨9, _⟩ => ⟨S8x384x1024, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Chips.lean ====
abbrev S4x1024x256 : Shape := ⟨3, ![4, 1024, 256]⟩
abbrev S4x128x1024 : Shape := ⟨3, ![4, 128, 1024]⟩
abbrev S4x1024x768 : Shape := ⟨3, ![4, 1024, 768]⟩
abbrev S4x384x1024 : Shape := ⟨3, ![4, 384, 1024]⟩
abbrev S4x4 : Shape := ⟨2, ![4, 4]⟩
abbrev S4 : Shape := ⟨1, ![4]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1 : Shape := ⟨1, ![1]⟩
abbrev S1x128x1024 : Shape := ⟨3, ![1, 128, 1024]⟩
abbrev S128x1024 : Shape := ⟨2, ![128, 1024]⟩
abbrev S1x1024x768 : Shape := ⟨3, ![1, 1024, 768]⟩
abbrev S1024x768 : Shape := ⟨2, ![1024, 768]⟩
abbrev S1x384x1024 : Shape := ⟨3, ![1, 384, 1024]⟩
abbrev S384x1024 : Shape := ⟨2, ![384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x128x1024, .bf16⟩
  | .hbm, ⟨2, _⟩ => ⟨S4x1024x768, .bf16⟩
  | .hbm, ⟨3, _⟩ => ⟨S4x384x1024, .bf16⟩
  | .hbm, ⟨4, _⟩ => ⟨S4x1024x256, .bf16⟩
  | .hbm, ⟨5, _⟩ => ⟨S4x128x1024, .bf16⟩
  | .hbm, ⟨6, _⟩ => ⟨S4x1024x768, .bf16⟩
  | .hbm, ⟨7, _⟩ => ⟨S4x384x1024, .bf16⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_cond1 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let v11 : BitVec 1 := Scalar.cmpi .ne v10 c0_i32
  let v12 : BitVec 32 := Scalar.extui v11
  let c0_i32_4 : BitVec 32 := 0#32
  let v13 : BitVec 1 := Scalar.cmpi .ne v12 c0_i32_4
  v13

def k0_off1 (d0 : Dev nD) : Fin 2 → Nat :=
  let c0_i32_99 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![0, v10.toNat]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev1 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond3 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1_i32_7 : BitVec 32 := 1#32
  let v17 : BitVec 1 := Scalar.cmpi .ne v10 c1_i32_7
  let v18 : BitVec 32 := Scalar.extui v17
  let c0_i32_8 : BitVec 32 := 0#32
  let v19 : BitVec 1 := Scalar.cmpi .ne v18 c0_i32_8
  v19

def k0_off3 (d0 : Dev nD) : Fin 2 → Nat :=
  let c0_i32_99 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![0, v10.toNat]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev2 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond5 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_11 : BitVec 32 := 2#32
  let v23 : BitVec 1 := Scalar.cmpi .ne v10 c2_i32_11
  let v24 : BitVec 32 := Scalar.extui v23
  let c0_i32_12 : BitVec 32 := 0#32
  let v25 : BitVec 1 := Scalar.cmpi .ne v24 c0_i32_12
  v25

def k0_off5 (d0 : Dev nD) : Fin 2 → Nat :=
  let c0_i32_99 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![0, v10.toNat]
def k0_off6 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev3 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond7 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c3_i32 : BitVec 32 := 3#32
  let v29 : BitVec 1 := Scalar.cmpi .ne v10 c3_i32
  let v30 : BitVec 32 := Scalar.extui v29
  let c0_i32_15 : BitVec 32 := 0#32
  let v31 : BitVec 1 := Scalar.cmpi .ne v30 c0_i32_15
  v31

def k0_off7 (d0 : Dev nD) : Fin 2 → Nat :=
  let c0_i32_99 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![0, v10.toNat]
def k0_off8 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev4 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond9 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_18 : BitVec 32 := 0#32
  let v35 : BitVec 1 := Scalar.cmpi .ne v10 c0_i32_18
  let v36 : BitVec 32 := Scalar.extui v35
  let c0_i32_19 : BitVec 32 := 0#32
  let v37 : BitVec 1 := Scalar.cmpi .ne v36 c0_i32_19
  v37

def k0_off9 (d0 : Dev nD) : Fin 2 → Nat :=
  let c1_i32_99 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![1, v10.toNat]
def k0_off10 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev5 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond11 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1_i32_22 : BitVec 32 := 1#32
  let v41 : BitVec 1 := Scalar.cmpi .ne v10 c1_i32_22
  let v42 : BitVec 32 := Scalar.extui v41
  let c0_i32_23 : BitVec 32 := 0#32
  let v43 : BitVec 1 := Scalar.cmpi .ne v42 c0_i32_23
  v43

def k0_off11 (d0 : Dev nD) : Fin 2 → Nat :=
  let c1_i32_99 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![1, v10.toNat]
def k0_off12 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev6 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond13 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_26 : BitVec 32 := 2#32
  let v47 : BitVec 1 := Scalar.cmpi .ne v10 c2_i32_26
  let v48 : BitVec 32 := Scalar.extui v47
  let c0_i32_27 : BitVec 32 := 0#32
  let v49 : BitVec 1 := Scalar.cmpi .ne v48 c0_i32_27
  v49

def k0_off13 (d0 : Dev nD) : Fin 2 → Nat :=
  let c1_i32_99 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![1, v10.toNat]
def k0_off14 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev7 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond15 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c3_i32_30 : BitVec 32 := 3#32
  let v53 : BitVec 1 := Scalar.cmpi .ne v10 c3_i32_30
  let v54 : BitVec 32 := Scalar.extui v53
  let c0_i32_31 : BitVec 32 := 0#32
  let v55 : BitVec 1 := Scalar.cmpi .ne v54 c0_i32_31
  v55

def k0_off15 (d0 : Dev nD) : Fin 2 → Nat :=
  let c1_i32_99 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![1, v10.toNat]
def k0_off16 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev8 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond17 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_34 : BitVec 32 := 0#32
  let v59 : BitVec 1 := Scalar.cmpi .ne v10 c0_i32_34
  let v60 : BitVec 32 := Scalar.extui v59
  let c0_i32_35 : BitVec 32 := 0#32
  let v61 : BitVec 1 := Scalar.cmpi .ne v60 c0_i32_35
  v61

def k0_off17 (d0 : Dev nD) : Fin 2 → Nat :=
  let c2_i32_99 : BitVec 32 := 2#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![2, v10.toNat]
def k0_off18 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev9 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond19 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1_i32_38 : BitVec 32 := 1#32
  let v65 : BitVec 1 := Scalar.cmpi .ne v10 c1_i32_38
  let v66 : BitVec 32 := Scalar.extui v65
  let c0_i32_39 : BitVec 32 := 0#32
  let v67 : BitVec 1 := Scalar.cmpi .ne v66 c0_i32_39
  v67

def k0_off19 (d0 : Dev nD) : Fin 2 → Nat :=
  let c2_i32_99 : BitVec 32 := 2#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![2, v10.toNat]
def k0_off20 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev10 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond21 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_42 : BitVec 32 := 2#32
  let v71 : BitVec 1 := Scalar.cmpi .ne v10 c2_i32_42
  let v72 : BitVec 32 := Scalar.extui v71
  let c0_i32_43 : BitVec 32 := 0#32
  let v73 : BitVec 1 := Scalar.cmpi .ne v72 c0_i32_43
  v73

def k0_off21 (d0 : Dev nD) : Fin 2 → Nat :=
  let c2_i32_99 : BitVec 32 := 2#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![2, v10.toNat]
def k0_off22 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev11 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond23 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c3_i32_46 : BitVec 32 := 3#32
  let v77 : BitVec 1 := Scalar.cmpi .ne v10 c3_i32_46
  let v78 : BitVec 32 := Scalar.extui v77
  let c0_i32_47 : BitVec 32 := 0#32
  let v79 : BitVec 1 := Scalar.cmpi .ne v78 c0_i32_47
  v79

def k0_off23 (d0 : Dev nD) : Fin 2 → Nat :=
  let c2_i32_99 : BitVec 32 := 2#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![2, v10.toNat]
def k0_off24 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev12 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond25 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_50 : BitVec 32 := 0#32
  let v83 : BitVec 1 := Scalar.cmpi .ne v10 c0_i32_50
  let v84 : BitVec 32 := Scalar.extui v83
  let c0_i32_51 : BitVec 32 := 0#32
  let v85 : BitVec 1 := Scalar.cmpi .ne v84 c0_i32_51
  v85

def k0_off25 (d0 : Dev nD) : Fin 2 → Nat :=
  let c3_i32_99 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![3, v10.toNat]
def k0_off26 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev13 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond27 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1_i32_54 : BitVec 32 := 1#32
  let v89 : BitVec 1 := Scalar.cmpi .ne v10 c1_i32_54
  let v90 : BitVec 32 := Scalar.extui v89
  let c0_i32_55 : BitVec 32 := 0#32
  let v91 : BitVec 1 := Scalar.cmpi .ne v90 c0_i32_55
  v91

def k0_off27 (d0 : Dev nD) : Fin 2 → Nat :=
  let c3_i32_99 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![3, v10.toNat]
def k0_off28 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev14 (d0 : Dev nD) : Nat :=
  let c0_i32_105 : BitVec 32 := 0#32
  let c0_i32_102 : BitVec 32 := 0#32
  let c4_i32_104 : BitVec 32 := 4#32
  let v155 : BitVec 32 := Scalar.muli c0_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond29 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_58 : BitVec 32 := 2#32
  let v95 : BitVec 1 := Scalar.cmpi .ne v10 c2_i32_58
  let v96 : BitVec 32 := Scalar.extui v95
  let c0_i32_59 : BitVec 32 := 0#32
  let v97 : BitVec 1 := Scalar.cmpi .ne v96 c0_i32_59
  v97

def k0_off29 (d0 : Dev nD) : Fin 2 → Nat :=
  let c3_i32_99 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![3, v10.toNat]
def k0_off30 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev15 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c0_i32_103 : BitVec 32 := 0#32
  let c2_i32_106 : BitVec 32 := 2#32
  let v157 : BitVec 32 := Scalar.muli c0_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
def k0_cond31 (d0 : Dev nD) : BitVec 1 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c3_i32_62 : BitVec 32 := 3#32
  let v101 : BitVec 1 := Scalar.cmpi .ne v10 c3_i32_62
  let v102 : BitVec 32 := Scalar.extui v101
  let c0_i32_63 : BitVec 32 := 0#32
  let v103 : BitVec 1 := Scalar.cmpi .ne v102 c0_i32_63
  v103

def k0_off31 (d0 : Dev nD) : Fin 2 → Nat :=
  let c3_i32_99 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  ![3, v10.toNat]
def k0_off32 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_108 : BitVec 32 := 0#32
  let c0_i32_109 : BitVec 32 := 0#32
  ![v10.toNat, 0, 0]
def k0_dev16 (d0 : Dev nD) : Nat :=
  let c0_i32_105 : BitVec 32 := 0#32
  let c1_i32_102 : BitVec 32 := 1#32
  let c4_i32_104 : BitVec 32 := 4#32
  let v155 : BitVec 32 := Scalar.muli c1_i32_102 c4_i32_104
  let v156 : BitVec 32 := Scalar.addi c0_i32_105 v155
  let c1_i32_103 : BitVec 32 := 1#32
  let c2_i32_106 : BitVec 32 := 2#32
  let v157 : BitVec 32 := Scalar.muli c1_i32_103 c2_i32_106
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v159 : BitVec 32 := Scalar.muli v8 c1_i32_107
  let v160 : BitVec 32 := Scalar.addi v158 v159
  v160.toNat
-- ==== ChipsRef.lean ====
abbrev S32x1024x256 : Shape := ⟨3, ![32, 1024, 256]⟩
abbrev S32x128x1024 : Shape := ⟨3, ![32, 128, 1024]⟩
abbrev S32x1024x768 : Shape := ⟨3, ![32, 1024, 768]⟩
abbrev S32x384x1024 : Shape := ⟨3, ![32, 384, 1024]⟩
abbrev S4x2x4x1024x256 : Shape := ⟨5, ![4, 2, 4, 1024, 256]⟩
abbrev S4x2x4x128x1024 : Shape := ⟨5, ![4, 2, 4, 128, 1024]⟩
abbrev S4x2x4x1024x768 : Shape := ⟨5, ![4, 2, 4, 1024, 768]⟩
abbrev S4x2x4x384x1024 : Shape := ⟨5, ![4, 2, 4, 384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32x1024x256, .bf16⟩
  | .hbm, ⟨1, _⟩ => ⟨S32x128x1024, .bf16⟩
  | .hbm, ⟨2, _⟩ => ⟨S32x1024x768, .bf16⟩
  | .hbm, ⟨3, _⟩ => ⟨S32x384x1024, .bf16⟩
  | .hbm, ⟨4, _⟩ => ⟨S4x2x4x1024x256, .bf16⟩
  | .hbm, ⟨5, _⟩ => ⟨S4x2x4x1024x256, .bf16⟩
  | .hbm, ⟨6, _⟩ => ⟨S32x1024x256, .bf16⟩
  | .hbm, ⟨7, _⟩ => ⟨S4x2x4x128x1024, .bf16⟩
  | .hbm, ⟨8, _⟩ => ⟨S4x2x4x128x1024, .bf16⟩
  | .hbm, ⟨9, _⟩ => ⟨S32x128x1024, .bf16⟩
  | .hbm, ⟨10, _⟩ => ⟨S4x2x4x1024x768, .bf16⟩
  | .hbm, ⟨11, _⟩ => ⟨S4x2x4x1024x768, .bf16⟩
  | .hbm, ⟨12, _⟩ => ⟨S32x1024x768, .bf16⟩
  | .hbm, ⟨13, _⟩ => ⟨S4x2x4x384x1024, .bf16⟩
  | .hbm, ⟨14, _⟩ => ⟨S4x2x4x384x1024, .bf16⟩
  | .hbm, ⟨15, _⟩ => ⟨S32x384x1024, .bf16⟩
  | _, _ => ⟨S32x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== SumIn.lean ====
abbrev S4x2x1024x256 : Shape := ⟨4, ![4, 2, 1024, 256]⟩
abbrev S4x1024x256 : Shape := ⟨3, ![4, 1024, 256]⟩
abbrev S1x2x128x256 : Shape := ⟨4, ![1, 2, 128, 256]⟩
abbrev S1x128x256 : Shape := ⟨3, ![1, 128, 256]⟩
abbrev S1x1x128x256 : Shape := ⟨4, ![1, 1, 128, 256]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x2x1024x256, .bf16⟩
  | .hbm, ⟨1, _⟩ => ⟨S4x1024x256, .bf16⟩
  | .local _ .vmem, ⟨0, _⟩ => ⟨S1x2x128x256, .bf16⟩
  | .local _ .vmem, ⟨1, _⟩ => ⟨S1x2x128x256, .bf16⟩
  | .local _ .vmem, ⟨2, _⟩ => ⟨S1x128x256, .bf16⟩
  | .local _ .vmem, ⟨3, _⟩ => ⟨S1x128x256, .bf16⟩
  | _, _ => ⟨S4x2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumInIdeal.lean ====
abbrev S4x2x1024x256 : Shape := ⟨4, ![4, 2, 1024, 256]⟩
abbrev S4x1024x256 : Shape := ⟨3, ![4, 1024, 256]⟩
abbrev S1x2x128x256 : Shape := ⟨4, ![1, 2, 128, 256]⟩
abbrev S1x128x256 : Shape := ⟨3, ![1, 128, 256]⟩
abbrev S1x1x128x256 : Shape := ⟨4, ![1, 1, 128, 256]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x2x1024x256, .bf16⟩
  | .hbm, ⟨1, _⟩ => ⟨S4x1024x256, .bf16⟩
  | .local _ .vmem, ⟨0, _⟩ => ⟨S1x2x128x256, .bf16⟩
  | .local _ .vmem, ⟨1, _⟩ => ⟨S1x2x128x256, .bf16⟩
  | .local _ .vmem, ⟨2, _⟩ => ⟨S1x128x256, .bf16⟩
  | .local _ .vmem, ⟨3, _⟩ => ⟨S1x128x256, .bf16⟩
  | _, _ => ⟨S4x2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumInRefIdeal.lean ====
abbrev S4x2x1024x256 : Shape := ⟨4, ![4, 2, 1024, 256]⟩
abbrev S_ : Shape := ⟨0, ![]⟩
abbrev S4x1024x256 : Shape := ⟨3, ![4, 1024, 256]⟩

abbrev nBuf : Space → Nat
  | .hbm => 5
  | .vmem => 0
  | .smem => 0
  | _ => 0

abbrev bufTy : (tb : Table) → Fin (tcTables nBuf tb) → BufTy
  | .hbm, ⟨0, _⟩ => ⟨S4x2x1024x256, .bf16⟩
  | .hbm, ⟨1, _⟩ => ⟨S4x2x1024x256, .f32⟩
  | .hbm, ⟨2, _⟩ => ⟨S_, .f32⟩
  | .hbm, ⟨3, _⟩ => ⟨S4x1024x256, .f32⟩
  | .hbm, ⟨4, _⟩ => ⟨S4x1024x256, .bf16⟩
  | _, _ => ⟨S4x2x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumOut.lean ====
abbrev S4x2x128x1024 : Shape := ⟨4, ![4, 2, 128, 1024]⟩
abbrev S4x128x1024 : Shape := ⟨3, ![4, 128, 1024]⟩
abbrev S1x2x128x1024 : Shape := ⟨4, ![1, 2, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x2x128x1024, .bf16⟩
  | .hbm, ⟨1, _⟩ => ⟨S4x128x1024, .bf16⟩
  | .local _ .vmem, ⟨0, _⟩ => ⟨S1x2x128x1024, .bf16⟩
  | .local _ .vmem, ⟨1, _⟩ => ⟨S1x2x128x1024, .bf16⟩
  | .local _ .vmem, ⟨2, _⟩ => ⟨S1x128x1024, .bf16⟩
  | .local _ .vmem, ⟨3, _⟩ => ⟨S1x128x1024, .bf16⟩
  | _, _ => ⟨S4x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumOutIdeal.lean ====
abbrev S4x2x128x1024 : Shape := ⟨4, ![4, 2, 128, 1024]⟩
abbrev S4x128x1024 : Shape := ⟨3, ![4, 128, 1024]⟩
abbrev S1x2x128x1024 : Shape := ⟨4, ![1, 2, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x2x128x1024, .bf16⟩
  | .hbm, ⟨1, _⟩ => ⟨S4x128x1024, .bf16⟩
  | .local _ .vmem, ⟨0, _⟩ => ⟨S1x2x128x1024, .bf16⟩
  | .local _ .vmem, ⟨1, _⟩ => ⟨S1x2x128x1024, .bf16⟩
  | .local _ .vmem, ⟨2, _⟩ => ⟨S1x128x1024, .bf16⟩
  | .local _ .vmem, ⟨3, _⟩ => ⟨S1x128x1024, .bf16⟩
  | _, _ => ⟨S4x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumOutRefIdeal.lean ====
abbrev S4x2x128x1024 : Shape := ⟨4, ![4, 2, 128, 1024]⟩
abbrev S_ : Shape := ⟨0, ![]⟩
abbrev S4x128x1024 : Shape := ⟨3, ![4, 128, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x2x128x1024, .bf16⟩
  | .hbm, ⟨1, _⟩ => ⟨S4x2x128x1024, .f32⟩
  | .hbm, ⟨2, _⟩ => ⟨S_, .f32⟩
  | .hbm, ⟨3, _⟩ => ⟨S4x128x1024, .f32⟩
  | .hbm, ⟨4, _⟩ => ⟨S4x128x1024, .bf16⟩
  | _, _ => ⟨S4x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumUp.lean ====
abbrev S4x2x1024x768 : Shape := ⟨4, ![4, 2, 1024, 768]⟩
abbrev S4x1024x768 : Shape := ⟨3, ![4, 1024, 768]⟩
abbrev S1x2x128x768 : Shape := ⟨4, ![1, 2, 128, 768]⟩
abbrev S1x128x768 : Shape := ⟨3, ![1, 128, 768]⟩
abbrev S1x1x128x768 : Shape := ⟨4, ![1, 1, 128, 768]⟩
abbrev S128x768 : Shape := ⟨2, ![128, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x2x1024x768, .bf16⟩
  | .hbm, ⟨1, _⟩ => ⟨S4x1024x768, .bf16⟩
  | .local _ .vmem, ⟨0, _⟩ => ⟨S1x2x128x768, .bf16⟩
  | .local _ .vmem, ⟨1, _⟩ => ⟨S1x2x128x768, .bf16⟩
  | .local _ .vmem, ⟨2, _⟩ => ⟨S1x128x768, .bf16⟩
  | .local _ .vmem, ⟨3, _⟩ => ⟨S1x128x768, .bf16⟩
  | _, _ => ⟨S4x2x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumUpIdeal.lean ====
abbrev S4x2x1024x768 : Shape := ⟨4, ![4, 2, 1024, 768]⟩
abbrev S4x1024x768 : Shape := ⟨3, ![4, 1024, 768]⟩
abbrev S1x2x128x768 : Shape := ⟨4, ![1, 2, 128, 768]⟩
abbrev S1x128x768 : Shape := ⟨3, ![1, 128, 768]⟩
abbrev S1x1x128x768 : Shape := ⟨4, ![1, 1, 128, 768]⟩
abbrev S128x768 : Shape := ⟨2, ![128, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x2x1024x768, .bf16⟩
  | .hbm, ⟨1, _⟩ => ⟨S4x1024x768, .bf16⟩
  | .local _ .vmem, ⟨0, _⟩ => ⟨S1x2x128x768, .bf16⟩
  | .local _ .vmem, ⟨1, _⟩ => ⟨S1x2x128x768, .bf16⟩
  | .local _ .vmem, ⟨2, _⟩ => ⟨S1x128x768, .bf16⟩
  | .local _ .vmem, ⟨3, _⟩ => ⟨S1x128x768, .bf16⟩
  | _, _ => ⟨S4x2x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumUpRefIdeal.lean ====
abbrev S4x2x1024x768 : Shape := ⟨4, ![4, 2, 1024, 768]⟩
abbrev S_ : Shape := ⟨0, ![]⟩
abbrev S4x1024x768 : Shape := ⟨3, ![4, 1024, 768]⟩

abbrev nBuf : Space → Nat
  | .hbm => 5
  | .vmem => 0
  | .smem => 0
  | _ => 0

abbrev bufTy : (tb : Table) → Fin (tcTables nBuf tb) → BufTy
  | .hbm, ⟨0, _⟩ => ⟨S4x2x1024x768, .bf16⟩
  | .hbm, ⟨1, _⟩ => ⟨S4x2x1024x768, .f32⟩
  | .hbm, ⟨2, _⟩ => ⟨S_, .f32⟩
  | .hbm, ⟨3, _⟩ => ⟨S4x1024x768, .f32⟩
  | .hbm, ⟨4, _⟩ => ⟨S4x1024x768, .bf16⟩
  | _, _ => ⟨S4x2x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumDown.lean ====
abbrev S4x2x384x1024 : Shape := ⟨4, ![4, 2, 384, 1024]⟩
abbrev S4x384x1024 : Shape := ⟨3, ![4, 384, 1024]⟩
abbrev S1x2x128x1024 : Shape := ⟨4, ![1, 2, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x2x384x1024, .bf16⟩
  | .hbm, ⟨1, _⟩ => ⟨S4x384x1024, .bf16⟩
  | .local _ .vmem, ⟨0, _⟩ => ⟨S1x2x128x1024, .bf16⟩
  | .local _ .vmem, ⟨1, _⟩ => ⟨S1x2x128x1024, .bf16⟩
  | .local _ .vmem, ⟨2, _⟩ => ⟨S1x128x1024, .bf16⟩
  | .local _ .vmem, ⟨3, _⟩ => ⟨S1x128x1024, .bf16⟩
  | _, _ => ⟨S4x2x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumDownRefIdeal.lean ====
abbrev S4x2x384x1024 : Shape := ⟨4, ![4, 2, 384, 1024]⟩
abbrev S_ : Shape := ⟨0, ![]⟩
abbrev S4x384x1024 : Shape := ⟨3, ![4, 384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x2x384x1024, .bf16⟩
  | .hbm, ⟨1, _⟩ => ⟨S4x2x384x1024, .f32⟩
  | .hbm, ⟨2, _⟩ => ⟨S_, .f32⟩
  | .hbm, ⟨3, _⟩ => ⟨S4x384x1024, .f32⟩
  | .hbm, ⟨4, _⟩ => ⟨S4x384x1024, .bf16⟩
  | _, _ => ⟨S4x2x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamIn.lean ====
abbrev S4x1024x256 : Shape := ⟨3, ![4, 1024, 256]⟩
abbrev S1024x256 : Shape := ⟨2, ![1024, 256]⟩
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S4x128x256, .bf16⟩
  | .local _ .vmem, ⟨1, _⟩ => ⟨S4x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x1024x256 : Shape := ⟨3, ![4, 1024, 256]⟩
abbrev S1024x256 : Shape := ⟨2, ![1024, 256]⟩
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S4x128x256, .bf16⟩
  | .local _ .vmem, ⟨1, _⟩ => ⟨S4x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x1024x256 : Shape := ⟨3, ![4, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S4x1024x768 : Shape := ⟨3, ![4, 1024, 768]⟩
abbrev S1024x768 : Shape := ⟨2, ![1024, 768]⟩
abbrev S4x128x768 : Shape := ⟨3, ![4, 128, 768]⟩
abbrev S128x768 : Shape := ⟨2, ![128, 768]⟩
abbrev S1x128x768 : Shape := ⟨3, ![1, 128, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S4x128x768, .bf16⟩
  | .local _ .vmem, ⟨1, _⟩ => ⟨S4x128x768, .bf16⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S4x1024x768 : Shape := ⟨3, ![4, 1024, 768]⟩
abbrev S1024x768 : Shape := ⟨2, ![1024, 768]⟩
abbrev S4x128x768 : Shape := ⟨3, ![4, 128, 768]⟩
abbrev S128x768 : Shape := ⟨2, ![128, 768]⟩
abbrev S1x128x768 : Shape := ⟨3, ![1, 128, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S4x128x768, .bf16⟩
  | .local _ .vmem, ⟨1, _⟩ => ⟨S4x128x768, .bf16⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4x1024x768 : Shape := ⟨3, ![4, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S4x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S4x384x1024 : Shape := ⟨3, ![4, 384, 1024]⟩
abbrev S384x1024 : Shape := ⟨2, ![384, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S4x384x1024 : Shape := ⟨3, ![4, 384, 1024]⟩
abbrev S384x1024 : Shape := ⟨2, ![384, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S4x384x1024 : Shape := ⟨3, ![4, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S4x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S1280x128 : Shape := ⟨2, ![1280, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .hbm, ⟨7, _⟩ => ⟨S1280x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallIdeal.lean ====
abbrev S1280x128 : Shape := ⟨2, ![1280, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .hbm, ⟨7, _⟩ => ⟨S1280x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S1280x128 : Shape := ⟨2, ![1280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S1280x128, .f32⟩
  | .hbm, ⟨7, _⟩ => ⟨S_, .f32⟩
  | .hbm, ⟨8, _⟩ => ⟨S1280x128, .f32⟩
  | .hbm, ⟨9, _⟩ => ⟨S1280x128, .f32⟩
  | .hbm, ⟨10, _⟩ => ⟨S1280x128, .f32⟩
  | .hbm, ⟨11, _⟩ => ⟨S_, .f32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S1280x128, .f32⟩
  | .hbm, ⟨19, _⟩ => ⟨S_, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S1280x128, .f32⟩
  | .hbm, ⟨34, _⟩ => ⟨S_, .f32⟩
  | .hbm, ⟨35, _⟩ => ⟨S1280x128, .f32⟩
  | .hbm, ⟨36, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S1024x768 : Shape := ⟨2, ![1024, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradIn.lean ====
abbrev S4096x1024 : Shape := ⟨2, ![4096, 1024]⟩
abbrev S4096x2048 : Shape := ⟨2, ![4096, 2048]⟩
abbrev S8x1024x256 : Shape := ⟨3, ![8, 1024, 256]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInIdeal.lean ====
abbrev S4096x1024 : Shape := ⟨2, ![4096, 1024]⟩
abbrev S4096x2048 : Shape := ⟨2, ![4096, 2048]⟩
abbrev S8x1024x256 : Shape := ⟨3, ![8, 1024, 256]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S4096x1024 : Shape := ⟨2, ![4096, 1024]⟩
abbrev S4096x2048 : Shape := ⟨2, ![4096, 2048]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S1024x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradOut.lean ====
abbrev S4096x1024 : Shape := ⟨2, ![4096, 1024]⟩
abbrev S8x128x1024 : Shape := ⟨3, ![8, 128, 1024]⟩
abbrev S512x128 : Shape := ⟨2, ![512, 128]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .bf16⟩
  | .local _ .vmem, ⟨0, _⟩ => ⟨S512x128, .bf16⟩
  | .local _ .vmem, ⟨1, _⟩ => ⟨S512x128, .bf16⟩
  | .local _ .vmem, ⟨2, _⟩ => ⟨S512x1024, .bf16⟩
  | .local _ .vmem, ⟨3, _⟩ => ⟨S512x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradOutIdeal.lean ====
abbrev S4096x1024 : Shape := ⟨2, ![4096, 1024]⟩
abbrev S8x128x1024 : Shape := ⟨3, ![8, 128, 1024]⟩
abbrev S512x128 : Shape := ⟨2, ![512, 128]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .bf16⟩
  | .local _ .vmem, ⟨0, _⟩ => ⟨S512x128, .bf16⟩
  | .local _ .vmem, ⟨1, _⟩ => ⟨S512x128, .bf16⟩
  | .local _ .vmem, ⟨2, _⟩ => ⟨S512x1024, .bf16⟩
  | .local _ .vmem, ⟨3, _⟩ => ⟨S512x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradOutRefIdeal.lean ====
abbrev S4096x1024 : Shape := ⟨2, ![4096, 1024]⟩
abbrev S1024x1024 : Shape := ⟨2, ![1024, 1024]⟩
abbrev S8x128x1024 : Shape := ⟨3, ![8, 128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .bf16⟩
  | .hbm, ⟨6, _⟩ => ⟨S8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradUp.lean ====
abbrev S4096x1024 : Shape := ⟨2, ![4096, 1024]⟩
abbrev S4096x6144 : Shape := ⟨2, ![4096, 6144]⟩
abbrev S8x1024x768 : Shape := ⟨3, ![8, 1024, 768]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S8x1024x768, .bf16⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradUpRefIdeal.lean ====
abbrev S4096x1024 : Shape := ⟨2, ![4096, 1024]⟩
abbrev S4096x6144 : Shape := ⟨2, ![4096, 6144]⟩
abbrev S1024x6144 : Shape := ⟨2, ![1024, 6144]⟩
abbrev S1024x8x768 : Shape := ⟨3, ![1024, 8, 768]⟩
abbrev S8x1024x768 : Shape := ⟨3, ![8, 1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S4096x6144, .f32⟩
  | .hbm, ⟨4, _⟩ => ⟨S1024x6144, .f32⟩
  | .hbm, ⟨5, _⟩ => ⟨S1024x6144, .bf16⟩
  | .hbm, ⟨6, _⟩ => ⟨S1024x8x768, .bf16⟩
  | .hbm, ⟨7, _⟩ => ⟨S8x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradDown.lean ====
abbrev S4096x3072 : Shape := ⟨2, ![4096, 3072]⟩
abbrev S4096x1024 : Shape := ⟨2, ![4096, 1024]⟩
abbrev S8x384x1024 : Shape := ⟨3, ![8, 384, 1024]⟩
abbrev S512x384 : Shape := ⟨2, ![512, 384]⟩
abbrev S512x1024 : Shape := ⟨2, ![512, 1024]⟩
abbrev S1x384x1024 : Shape := ⟨3, ![1, 384, 1024]⟩
abbrev S384x1024 : Shape := ⟨2, ![384, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8x384x1024, .bf16⟩
  | .local _ .vmem, ⟨0, _⟩ => ⟨S512x384, .bf16⟩
  | .local _ .vmem, ⟨1, _⟩ => ⟨S512x384, .bf16⟩
  | .local _ .vmem, ⟨2, _⟩ => ⟨S512x1024, .bf16⟩
  | .local _ .vmem, ⟨3, _⟩ => ⟨S512x1024, .bf16⟩
  | .local _ .vmem, ⟨4, _⟩ => ⟨S1x384x1024, .bf16⟩
  | .local _ .vmem, ⟨5, _⟩ => ⟨S1x384x1024, .bf16⟩
  | .local _ .vmem, ⟨6, _⟩ => ⟨S384x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradDownRefIdeal.lean ====
abbrev S4096x3072 : Shape := ⟨2, ![4096, 3072]⟩
abbrev S4096x1024 : Shape := ⟨2, ![4096, 1024]⟩
abbrev S3072x1024 : Shape := ⟨2, ![3072, 1024]⟩
abbrev S8x384x1024 : Shape := ⟨3, ![8, 384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x1024, .f32⟩
  | .hbm, ⟨4, _⟩ => ⟨S3072x1024, .f32⟩
  | .hbm, ⟨5, _⟩ => ⟨S3072x1024, .bf16⟩
  | .hbm, ⟨6, _⟩ => ⟨S8x384x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Loss.lean ====
abbrev S4096x3072 : Shape := ⟨2, ![4096, 3072]⟩
abbrev S4096x1024 : Shape := ⟨2, ![4096, 1024]⟩
abbrev S1x1024 : Shape := ⟨2, ![1, 1024]⟩
abbrev S3072x1024 : Shape := ⟨2, ![3072, 1024]⟩
abbrev S8x128 : Shape := ⟨2, ![8, 128]⟩
abbrev S256x3072 : Shape := ⟨2, ![256, 3072]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S3072x1024, .bf16⟩
  | .hbm, ⟨6, _⟩ => ⟨S4096x1024, .f32⟩
  | .hbm, ⟨7, _⟩ => ⟨S4096x1024, .f32⟩
  | .hbm, ⟨8, _⟩ => ⟨S8x128, .f32⟩
  | .local _ .vmem, ⟨0, _⟩ => ⟨S256x3072, .bf16⟩
  | .local _ .vmem, ⟨1, _⟩ => ⟨S256x3072, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x128, .f32⟩
  | .local _ .vmem, ⟨13, _⟩ => ⟨S3072x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x3072 : Shape := ⟨2, ![4096, 3072]⟩
abbrev S4096x1024 : Shape := ⟨2, ![4096, 1024]⟩
abbrev S1x1024 : Shape := ⟨2, ![1, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 42
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S3072x1024, .bf16⟩
  | .hbm, ⟨6, _⟩ => ⟨S4096x3072, .f32⟩
  | .hbm, ⟨7, _⟩ => ⟨S3072x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S8x128, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== GradX.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S8x1024 : Shape := ⟨2, ![8, 1024]⟩
abbrev S256x2048 : Shape := ⟨2, ![256, 2048]⟩
abbrev S256x1024 : Shape := ⟨2, ![256, 1024]⟩
abbrev S_ : Shape := ⟨0, ![]⟩
abbrev S256x256 : Shape := ⟨2, ![256, 256]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradXRefIdeal.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S1x1024x256 : Shape := ⟨3, ![1, 1024, 256]⟩
abbrev S1024x256 : Shape := ⟨2, ![1024, 256]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024x256, .bf16⟩
  | .hbm, ⟨7, _⟩ => ⟨S1024x256, .bf16⟩
  | .hbm, ⟨8, _⟩ => ⟨S1024x256, .f32⟩
  | .hbm, ⟨9, _⟩ => ⟨S1x1024x256, .bf16⟩
  | .hbm, ⟨10, _⟩ => ⟨S1024x256, .bf16⟩
  | .hbm, ⟨11, _⟩ => ⟨S1024x256, .f32⟩
  | .hbm, ⟨12, _⟩ => ⟨S1x1024x256, .bf16⟩
  | .hbm, ⟨13, _⟩ => ⟨S1024x256, .bf16⟩
  | .hbm, ⟨14, _⟩ => ⟨S1024x256, .f32⟩
  | .hbm, ⟨15, _⟩ => ⟨S1x1024x256, .bf16⟩
  | .hbm, ⟨16, _⟩ => ⟨S1024x256, .bf16⟩
  | .hbm, ⟨17, _⟩ => ⟨S1024x256, .f32⟩
  | .hbm, ⟨18, _⟩ => ⟨S1x1024x256, .bf16⟩
  | .hbm, ⟨19, _⟩ => ⟨S1024x256, .bf16⟩
  | .hbm, ⟨20, _⟩ => ⟨S1024x256, .f32⟩
  | .hbm, ⟨21, _⟩ => ⟨S1x1024x256, .bf16⟩
  | .hbm, ⟨22, _⟩ => ⟨S1024x256, .bf16⟩
  | .hbm, ⟨23, _⟩ => ⟨S1024x256, .f32⟩
  | .hbm, ⟨24, _⟩ => ⟨S1x1024x256, .bf16⟩
  | .hbm, ⟨25, _⟩ => ⟨S1024x256, .bf16⟩
  | .hbm, ⟨26, _⟩ => ⟨S1024x256, .f32⟩
  | .hbm, ⟨27, _⟩ => ⟨S1x1024x256, .bf16⟩
  | .hbm, ⟨28, _⟩ => ⟨S1024x256, .bf16⟩
  | .hbm, ⟨29, _⟩ => ⟨S1024x256, .f32⟩
  | .hbm, ⟨30, _⟩ => ⟨S1024x2048, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x2048, .f32⟩
  | .hbm, ⟨56, _⟩ => ⟨S4096x2048, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== BackMix.lean ====
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S4096x1024, .bf16⟩
  | .hbm, ⟨6, _⟩ => ⟨S4096x1024, .f32⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BackMixRefIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S4096x1024, .f32⟩
  | .hbm, ⟨57, _⟩ => ⟨S1024x1024, .f32⟩
  | .hbm, ⟨58, _⟩ => ⟨S4096x1024, .f32⟩
  | .hbm, ⟨59, _⟩ => ⟨S_, .f32⟩
  | .hbm, ⟨60, _⟩ => ⟨S6x1024, .f32⟩
  | .hbm, ⟨61, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== BackFfn.lean ====
abbrev S4096x1024 : Shape := ⟨2, ![4096, 1024]⟩
abbrev S1x1024 : Shape := ⟨2, ![1, 1024]⟩
abbrev S3072x1024 : Shape := ⟨2, ![3072, 1024]⟩
abbrev S4096x3072 : Shape := ⟨2, ![4096, 3072]⟩
abbrev S8x1024 : Shape := ⟨2, ![8, 1024]⟩
abbrev S256x1024 : Shape := ⟨2, ![256, 1024]⟩
abbrev S256x3072 : Shape := ⟨2, ![256, 3072]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S3072x1024, .bf16⟩
  | .hbm, ⟨5, _⟩ => ⟨S4096x1024, .bf16⟩
  | .hbm, ⟨6, _⟩ => ⟨S4096x3072, .bf16⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x3072, .bf16⟩
  | .local _ .vmem, ⟨9, _⟩ => ⟨S256x3072, .bf16⟩
  | .local _ .vmem, ⟨10, _⟩ => ⟨S8x1024, .f32⟩
  | .local _ .vmem, ⟨11, _⟩ => ⟨S3072x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BackFfnRefIdeal.lean ====
abbrev S4096x1024 : Shape := ⟨2, ![4096, 1024]⟩
abbrev S1x1024 : Shape := ⟨2, ![1, 1024]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x3072 : Shape := ⟨2, ![4096, 3072]⟩
abbrev S6x1024 : Shape := ⟨2, ![6, 1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S3072x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S4096x1024, .f32⟩
  | .hbm, ⟨57, _⟩ => ⟨S3072x1024, .f32⟩
  | .hbm, ⟨58, _⟩ => ⟨S4096x3072, .f32⟩
  | .hbm, ⟨59, _⟩ => ⟨S4096x3072, .bf16⟩
  | .hbm, ⟨60, _⟩ => ⟨S_, .f32⟩
  | .hbm, ⟨61, _⟩ => ⟨S6x1024, .f32⟩
  | .hbm, ⟨62, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.Start.lean ====
/-
# Starting a program whose devices write into each other's arrays from the first instant

A device of this program sends as soon as it enters its kernel, whether or not the device it sends to has
entered. So what is dealt at the start is dealt between the devices: `run_dealt` hands one step (`deal`) the
holdings of every core at once — the scoped storage and semaphores, the arrays, the credit — and lets it
regroup them into what each core runs from (`pre`).
-/
module

public import Idealize.ShloMosaic.Lib.Pipeline.Regions
public import Idealize.ShloMosaic.Lib.Pipeline.Launch
public import Idealize.ShloMosaic.Lib.Tactic

@[expose] public section

noncomputable section

namespace Cert.Start

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type} [Preorder Lvl]
variable {Λ : Labels}

local notation "𝕄" => MT nD τ sig Ix Val Name U Lvl

omit [Preorder Lvl] in
/-- The first of two holdings dropped. -/
theorem drop_left (A B : sProp 𝕄) : iprop(A ∗ B) ⊢ B := by
  iintro ⟨-, H⟩
  iexact H

/-- The TensorCore's rights to assign levels, on every device, spent on the assignment `lv` over `L`. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have others (d : Dev nD) : (bigSep (Finset.univ.erase Proc.tc) fun p : Proc τ => (coreLevAts ((d, p) : Thread nD τ) L lv : sProp 𝕄)) = BI.emp := by
    rw [bigSep_congr (Ψ := fun _ : Proc τ => (BI.emp : sProp 𝕄)) fun p hp => ?_, BI.bigSep_emp_const]
    unfold coreLevAts
    rw [bigSep_congr (Ψ := fun _ : SemLoc sig => (BI.emp : sProp 𝕄)) fun sm _ => ?_, BI.bigSep_emp_const]
    rw [hL (((d, p) : Thread nD τ), sm) (Finset.ne_of_mem_erase hp), BI.bigSep_empty]
  have all : (levAts L lv : sProp 𝕄) = bigSep Finset.univ fun d : Dev nD => coreLevAts (d.tc : Thread nD τ) L lv := by
    rw [show (levAts L lv : sProp 𝕄) = bigSep Finset.univ fun c : Thread nD τ => coreLevAts c L lv
        from bigSep_univ_prod fun g : GSem nD τ sig => bigSep (L g) fun ι => levAt g ι (lv g ι),
      bigSep_threads (fun c : Thread nD τ => coreLevAts c L lv), bigSep_congr (fun d _ => others d), BI.bigSep_emp_const]
    exact BI.equiv_iff.mp BI.sep_emp
  rw [all]
  refine (bigSep_mono fun c _ => lev_assign_cells (c.tc : Thread nD τ) L lv).trans ((BI.bigSep_bupd _ _).trans (BI.bupd_mono ?_))
  rw [bigSep_sep']
  exact drop_left _ _

/-- What the launch deals one core: its scoped storage, its arrays at the launch contents, its other semaphores,
    what it owes, its credit and its generator register. -/
def dealt (m : (ℓ : Loc nD τ sig) → Buf Val ℓ) (g : Dev nD → PrngReg) (O₀ : Dev nD → CellTallies nD τ sig Ix) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- A program whose cores start from `pre`, made by one step over what all of them are dealt (`deal`), and end holding
    `T` and their scoped storage again, owing nothing: every execution terminates, and every final memory has the
    facts `T` reads out of it, and every scoped counter at zero. -/
theorem run_dealt [Infinite Name] (𝔻 : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Ix) (L : GSem nD τ sig → Finset Ix) (lv : GSem nD τ sig → Ix → Lvl)
    (hL : ∀ g : GSem nD τ sig, g.1.2 ≠ .tc → L g = ∅) (u₀ : U) (pre T : Dev nD → sProp 𝕄)
    (deal : iprop((bigSep Finset.univ fun c : Dev nD => dealt m g O₀ c) ∗ levAts L lv ∗ ownU u₀) ⊢ |={Set.univ}=> bigSep Finset.univ pre)
    (run : ∀ c, pre c ⊢ wp frame (wpE 𝔻 𝒱 (c.tc : Thread nD τ) none) Set.univ (main c)
      fun _ => iprop((T c ∗ boundary (c.tc : Thread nD τ)) ∗ ∃ W, owes (c.tc : Thread nD τ) (0 : CellTallies nD τ sig Ix) W))
    (QY : Dev nD → MemSt nD τ sig Val → Prop)
    (fin : ∀ c (s' : Phys nD τ sig Val), iprop(T c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝒱 (owing O₀) 0 (noBookings fun _ => le_rfl) (owing_of_ne O₀) u₀ (fun _ => pre)
      (fun _ c => iprop(T c ∗ boundary (c.tc : Thread nD τ))) (fun _ => iprop(emp)) Set.univ ?_ (fun _ c => run c) fun _ => ?_))
  · have cores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => dealt m g O₀ c)
            ∗ (bigSep Finset.univ fun c : Dev nD => levels0 (Ix := Ix) (Val := Val) (Name := Name) (U := U) (Lvl := Lvl) (τ := τ) (sig := sig) c) : sProp 𝕄) := by
      rw [← bigSep_sep']
      refine bigSep_mono fun c _ => (coreInit_boundary_owing O₀ m g c).trans ?_
      unfold dealt
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr]; · iexact Hcr
        iexact Hpr
      · iexact Hlv
    iintro ⟨Hcores, Hu⟩
    ihave Hc := cores $$ Hcores
    icases Hc with ⟨Hd, Hlv⟩
    imod (assign_levels L lv hL) $$ Hlv with Hla
    imod deal $$ [Hd Hla Hu] with HP
    · isplitl [Hd]; · iexact Hd
      isplitl [Hla] <;> iassumption
    imodintro
    iexists ()
    isplitl [HP]; · iexact HP
    iempintro
  · iintro ⟨H, -, Hsc⟩ %s' HSI
    ihave %hsc := (scSems_read_zero m g s') $$ [Hsc HSI]
    · isplitl [Hsc] <;> iassumption
    imod (posts_fupd Finset.univ (fun c s' => boundary_read c s' (fin c s')) s') $$ [H HSI] with %h
    · isplitl [H] <;> iassumption
    imodintro
    ipureintro
    exact ⟨fun c => h c (Finset.mem_univ c), hsc⟩

end Cert.Start
-- ==== Proof.OneShot.lean ====
/-
# Copies that each land once

The exchanges of this problem use every semaphore cell once: one copy credits it, its owner waits for that credit
and takes what the copy delivered. A `Plan` says, for each semaphore `j` of each device `c`, whether it is used
(`act`), by how much it is credited (`amt`) and what the credit delivers (`pay`). This file has the plan's cells
as one-round cells of the rounds library, opened on every device before any device runs (`open_cells`), the
three steps a device makes — a local copy, a copy to another device, a wait — as triples, the loop over a family
of steps (`loop`), what the devices owe each other at the start (`dues`, `credits`), and the cells closed again at
zero (`close_cells`).
-/
module

public import proofs.«01_k».proof.Proof.Start
public import Idealize.ShloMosaic.Lib.Rounds
public import Idealize.ShloMosaic.Lib.Pipeline.BigSepL
public import Idealize.ShloMosaic.Lib.Pipeline.Launch

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type} {U : Type} [URA U]

local notation "𝕄" => MT nD τ sig Unit Val ℕ U ℕ

/-- Per device and semaphore: whether it is used, the credit of its one copy, and what that copy delivers. -/
structure Plan (nD : Nat) (sig : RefSig) (M : Type) [URA M] (J : Type) where
  osem : J → DmaSem sig
  osem_inj : Function.Injective osem
  act : Dev nD → J → Bool
  amt : Dev nD → J → ℕ
  amt_pos : ∀ c j, 0 < amt c j
  pay : Dev nD → J → sProp M

variable {J : Type} (P : Plan nD sig (MT nD τ sig Unit Val ℕ U ℕ) J) (E : Emb (URounds (GSem nD τ sig) Unit) (MT nD τ sig Unit Val ℕ U ℕ))

namespace Plan

/-- Device `c`'s cell of semaphore `j`. -/
def cell (c : Dev nD) (j : J) : GSem nD τ sig := ((c.tc : Thread nD τ), .dma (P.osem j))

theorem cell_inj {c c' : Dev nD} {j j' : J} (h : P.cell c j = P.cell c' j') : c = c' ∧ j = j' := by
  unfold cell at h
  have h1 : c = c' := congrArg (fun g : GSem nD τ sig => g.1.1) h
  have h2 : (SemLoc.dma (P.osem j) : SemLoc sig) = .dma (P.osem j') := congrArg Prod.snd h
  exact ⟨h1, P.osem_inj (by injection h2)⟩

open Classical in
/-- The one-round schedule of the plan's cells. -/
def sched : Rounds.Schedule (GSem nD τ sig) Unit 𝕄 where
  duties g r := if r = 0 ∧ ∃ k : Dev nD × J, P.cell k.1 k.2 = g ∧ P.act k.1 k.2 = true then {()} else ∅
  unitless _ := False
  amount g _ _ := if h : ∃ k : Dev nD × J, P.cell k.1 k.2 = g then P.amt h.choose.1 h.choose.2 else 1
  payload g _ _ := if h : ∃ k : Dev nD × J, P.cell k.1 k.2 = g then P.pay h.choose.1 h.choose.2 else iprop(emp)
  amount_pos g _ _ _ := by
    by_cases h : ∃ k : Dev nD × J, P.cell k.1 k.2 = g
    · rw [dif_pos h]; exact P.amt_pos _ _
    · rw [dif_neg h]; exact Nat.one_pos

theorem pick (c : Dev nD) (j : J) (h : ∃ k : Dev nD × J, P.cell (τ := τ) k.1 k.2 = P.cell c j) : h.choose = (c, j) := by
  obtain ⟨h1, h2⟩ := P.cell_inj h.choose_spec
  exact Prod.ext h1 h2

theorem duties_act {c : Dev nD} {j : J} (h : P.act c j = true) : P.sched.duties (P.cell c j) 0 = {()} :=
  if_pos ⟨rfl, (c, j), rfl, h⟩

theorem duties_later (g : GSem nD τ sig) (r : ℕ) (hr : 1 ≤ r) : P.sched.duties g r = ∅ :=
  if_neg fun h => by omega

theorem duties_idle {c : Dev nD} {j : J} (h : P.act c j = false) (r : ℕ) : P.sched.duties (P.cell c j) r = ∅ :=
  if_neg fun ⟨_, ⟨c', j'⟩, hk, ha⟩ => by
    obtain ⟨rfl, rfl⟩ := P.cell_inj hk
    exact absurd (h.symm.trans ha) (by decide)

theorem amount_eq (c : Dev nD) (j : J) (u : Unit) : P.sched.amount (P.cell c j) 0 u = P.amt c j := by
  have h : ∃ k : Dev nD × J, P.cell (τ := τ) k.1 k.2 = P.cell c j := ⟨(c, j), rfl⟩
  unfold sched
  dsimp only
  rw [dif_pos h, P.pick c j h]

theorem payload_eq (c : Dev nD) (j : J) (u : Unit) : P.sched.payload (P.cell c j) 0 u = P.pay c j := by
  have h : ∃ k : Dev nD × J, P.cell (τ := τ) k.1 k.2 = P.cell c j := ⟨(c, j), rfl⟩
  unfold sched
  dsimp only
  rw [dif_pos h, P.pick c j h]

theorem expect_eq {c : Dev nD} {j : J} (h : P.act c j = true) : P.sched.expect (P.cell c j) 0 = P.amt c j := by
  unfold Schedule.expect Schedule.amountOf
  rw [P.duties_act h, Finset.sum_singleton, P.amount_eq]

theorem rest_eq {c : Dev nD} {j : J} (h : P.act c j = true) :
    bigSep (P.sched.duties (P.cell c j) 0 \ ∅) (fun u => P.sched.payload (P.cell c j) 0 u) = P.pay c j := by
  rw [Finset.sdiff_empty, P.duties_act h, bigSep_singleton, P.payload_eq]

instance payload_storable [∀ c j, Storable (upEmb : UEmb _ 𝕄) (P.pay c j)] (g : GSem nD τ sig) (r : ℕ) (d : Unit) :
    Storable (upEmb : UEmb _ 𝕄) (P.sched.payload g r d) := by
  unfold sched
  dsimp only
  split <;> infer_instance

/-! ## What is known of a cell, and what is held of it -/

/-- The cell's record, and that its one round is open. -/
def know (c : Dev nD) (j : J) : sProp 𝕄 := iprop(∃ κ : ℕ, cellInv E P.sched κ (P.cell c j) ∗ reached E (P.cell c j) 0)

instance know_persistent (c : Dev nD) (j : J) : Persistent (P.know E c j) := by unfold know; infer_instance

variable [Fintype J]

/-- Every cell's record. -/
def knows : sProp 𝕄 := bigSep Finset.univ fun k : Dev nD × J => P.know E k.1 k.2

instance knows_persistent : Persistent (P.knows E) := by unfold knows; infer_instance

theorem knows_at (c : Dev nD) (j : J) : P.knows E ⊢ P.know E c j := by
  classical
  unfold knows
  exact bigSep_elim (Φ := fun k : Dev nD × J => P.know E k.1 k.2) (Finset.mem_univ (c, j))

/-- The right to make the cell's one copy. -/
def tok (c : Dev nD) (j : J) : sProp 𝕄 := dutyTok E (P.cell c j) 0 ()
/-- The owner's place at its cell before its wait, -/
def place (c : Dev nD) (j : J) : sProp 𝕄 := atPos E (P.cell c j) 0 ∅ 0
/-- and when it is through with it. -/
def over (c : Dev nD) (j : J) : sProp 𝕄 := atPos E (P.cell c j) (if P.act c j then 1 else 0) ∅ 0
/-- The credit of the cell's one copy. -/
def crd (c : Dev nD) (j : J) : sProp 𝕄 := cred (tallyAt (P.cell (τ := τ) c j) () (P.amt c j))
/-- The same as an amount owed, nothing for a cell that is not used. -/
def due (c : Dev nD) (j : J) : CellTallies nD τ sig Unit := if P.act c j then tallyAt (P.cell c j) () (P.amt c j) else 0

theorem over_idle {c : Dev nD} {j : J} (h : P.act c j = false) : P.over E c j = P.place E c j := by
  unfold over place; rw [h]; rfl

end Plan

variable [Fintype J]

/-! ## The steps -/

variable {Λ : Labels} (𝔻 : Defs nD τ sig Val Λ) (𝒱 : Variants)

/-- What a core owes, having waited on whatever it has. -/
def owing (c : Dev nD) (O : CellTallies nD τ sig Unit) : sProp 𝕄 := iprop(∃ W, owes (c.tc : Thread nD τ) O W)

/-- `op`, run by device `c` from `A`, ends with `B`. -/
def Runs (c : Dev nD) (A : sProp 𝕄) (op : Prog (TpuEff nD τ sig Val Λ .tc) PUnit) (B : sProp 𝕄) : Prop :=
  A ⊢ wp frame (wpE 𝔻 𝒱 (c.tc : Thread nD τ) none) Set.univ op (fun _ => B)

variable {𝔻 𝒱}

/-- Nothing is owed at a level at or below `n`. -/
def Above (lvS : SemLoc sig → ℕ) (n : ℕ) (O : CellTallies nD τ sig Unit) : Prop :=
  ∀ g u, 0 < O g u → g.1.2 = Proc.tc ∧ n < lvS g.2

theorem above_zero (lvS : SemLoc sig → ℕ) (n : ℕ) : Above lvS n (0 : CellTallies nD τ sig Unit) :=
  fun _ _ h => absurd h (Nat.lt_irrefl 0)

theorem above_add {lvS : SemLoc sig → ℕ} {n : ℕ} {X Y : CellTallies nD τ sig Unit} (hX : Above lvS n X) (hY : Above lvS n Y) :
    Above lvS n (X + Y) := fun g u h => by
  rw [Pi.add_apply, Finsupp.add_apply] at h
  rcases Nat.add_pos_iff_pos_or_pos.mp h with h | h
  · exact hX g u h
  · exact hY g u h

theorem above_due {lvS : SemLoc sig → ℕ} {n : ℕ} {c : Dev nD} {j : J} (h : n < lvS (.dma (P.osem j))) :
    Above (τ := τ) lvS n (P.due c j) := fun g u hg => by
  unfold Plan.due at hg
  by_cases ha : P.act c j = true
  · rw [if_pos ha, tallyAt_apply] at hg
    by_cases he : g = P.cell c j ∧ u = ()
    · rw [he.1]; exact ⟨rfl, h⟩
    · rw [if_neg he] at hg; exact absurd hg (Nat.lt_irrefl 0)
  · rw [if_neg ha] at hg; exact absurd hg (Nat.lt_irrefl 0)

/-- Every pair of a TensorCore's cell is assigned a level. -/
def Lall (g : GSem nD τ sig) : Finset Unit := if g.1.2 = .tc then {()} else ∅
def lvOf (lvS : SemLoc sig → ℕ) (g : GSem nD τ sig) (_ : Unit) : ℕ := lvS g.2
theorem Lall_of_ne (g : GSem nD τ sig) (h : g.1.2 ≠ .tc) : Lall g = ∅ := if_neg h

theorem mayWait_of_above {lvS : SemLoc sig → ℕ} {O : CellTallies nD τ sig Unit} (c : Dev nD) (s : SemLoc sig) (h : Above lvS (lvS s) O) :
    (levAts Lall (lvOf lvS) : sProp 𝕄) ⊢ MayWait (c.tc : Thread nD τ) s () O :=
  MayOwe.of_cut (L := Lall) (lev := lvOf lvS) (lvS s) (fun p _ => by rw [Lall, if_pos rfl]; exact Finset.mem_singleton_self _)
    (fun g u hg => by rw [Lall, if_pos (h g u hg).1]; exact Finset.mem_singleton_self _)
    (fun p hp => by rw [Finset.mem_singleton.mp hp]; exact le_rfl)
    (fun g u hg => (h g u hg).2)

section Steps

variable {sp sp' : Space} {s : Shape} {e : EltTy}

/-- A copy on the device itself. -/
theorem runs_copy (c : Dev nD) (j : J) {src : Memref sig .tc sp s e} {dst : Memref sig .tc sp' s e}
    {hsrc : src.view.WordExact} {hdst : dst.view.WordExact} {sm : SemLoc sig} {hsem : DmaTarget.Typed (nD := nD) (p := (Proc.tc : Proc τ)) sp sm (.here dst)}
    {q : PosShare TreeShare} {fs : Buf Val (src.view.loc (c.tc : Thread nD τ))} {fd : Buf Val (dst.view.loc (c.tc : Thread nD τ))}
    (hs : sm = .dma (P.osem j)) (ha : P.act c j = true) (hN : dst.view.amount sm = P.amt c j)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ P.pay c j) :
    Runs 𝔻 𝒱 c iprop(P.knows E ∗ (src.view.loc (c.tc : Thread nD τ) ↦[src.view.set]{q} fs)
        ∗ (dst.view.loc (c.tc : Thread nD τ) ↦[dst.view.set]{fullShare} fd) ∗ P.tok E c j)
      (Prog.lift (.enqueueDma src (.here dst) sm hsrc hdst hsem)) (P.crd c j) := by
  subst hs
  unfold Runs Plan.tok
  iintro ⟨#HK, Hs, Hd, Ht⟩
  ihave Hk := (P.knows_at E c j) $$ HK
  unfold Plan.know Prog.lift
  icases Hk with ⟨%κ, #HI, #HR⟩
  iapply (Rounds.wp_copy_pointsTo 𝒱 E P.sched (c.tc : Thread nD τ) none (κ := κ) (r := 0) (d := ()) (sem := .dma (P.osem j))
    (by rw [show (((c.tc : Thread nD τ), SemLoc.dma (P.osem j)) : GSem nD τ sig) = P.cell c j from rfl, P.duties_act ha]; exact Finset.mem_singleton_self _)
    () (P.amt c j) hN (P.amount_eq c j ()) (hpay.trans (Entails.of_eq (P.payload_eq c j ()).symm))) $$ [Hs Hd Ht]
  · isplitr; · iexact HI
    isplitl [Hs]; · iexact Hs
    isplitl [Hd]; · iexact Hd
    isplitl [Ht]; · iexact Ht
    iexact HR
  iintro Hc
  rw [wp_ret]; imodintro
  unfold Plan.crd; iexact Hc

/-- A copy to device `c'`: its send cell is the issuer's, its receive cell the target's, whose credit it owed. -/
theorem runs_send (c c' : Dev nD) (js jr : J) {src : Memref sig .tc sp s e} {dst : Memref sig .tc sp' s e}
    {hsc : (dst : Memref sig (Dev.tc c' : Thread nD τ).2.kind sp' s e).view.ref.isScScratch = false}
    {hsrc : src.view.WordExact} {hdst : dst.view.WordExact} {ss sr : SemLoc sig}
    {hsem : DmaTarget.Typed sp sr (.remote (Dev.tc c' : Thread nD τ) (dst : Memref sig (Dev.tc c' : Thread nD τ).2.kind sp' s e) ss hsc)}
    {q : PosShare TreeShare} {fs : Buf Val (src.view.loc (c.tc : Thread nD τ))} {fd : Buf Val (dst.view.loc (c'.tc : Thread nD τ))}
    (hss : ss = .dma (P.osem js)) (hsr : sr = .dma (P.osem jr)) (has : P.act c js = true) (har : P.act c' jr = true)
    (hNr : dst.view.amount sr = P.amt c' jr) (hNs : P.amt c js = P.amt c' jr)
    (hpay₁ : (src.view.loc (c.tc : Thread nD τ) ↦[src.view.set]{q} fs) ⊢ P.pay c js)
    (hpay₂ : (dst.view.loc (c'.tc : Thread nD τ) ↦[dst.view.set]{fullShare} (dst.view.write Val fd (src.view.read Val fs) Finset.univ)) ⊢ P.pay c' jr)
    (O : CellTallies nD τ sig Unit) (hr : τ.routes (c.tc : Thread nD τ) (c'.tc : Thread nD τ) = true := by routes) :
    Runs 𝔻 𝒱 c iprop(P.knows E ∗ (src.view.loc (c.tc : Thread nD τ) ↦[src.view.set]{q} fs)
        ∗ (dst.view.loc (c'.tc : Thread nD τ) ↦[dst.view.set]{fullShare} fd) ∗ P.tok E c js ∗ P.tok E c' jr ∗ owing c (O + P.due c' jr))
      (Prog.lift (.enqueueDma src (.remote (Dev.tc c' : Thread nD τ) dst ss hsc) sr hsrc hdst hsem)) iprop(P.crd c js ∗ owing c O) := by
  subst hss hsr
  unfold Runs Plan.tok owing
  iintro ⟨#HK, Hs, Hd, Ht, Ht', ⟨%W, Ho⟩⟩
  ihave Hk := (P.knows_at E c js) $$ HK
  ihave Hk' := (P.knows_at E c' jr) $$ HK
  unfold Plan.know Prog.lift
  icases Hk with ⟨%κ, #HI, #HR⟩
  icases Hk' with ⟨%κ', #HI', #HR'⟩
  iapply (Rounds.wp_send_pointsTo 𝒱 E P.sched (c.tc : Thread nD τ) none (c' := (c'.tc : Thread nD τ)) (κ₁ := κ) (κ₂ := κ') (r₁ := 0) (r₂ := 0) (d₁ := ()) (d₂ := ())
    (by rw [show (((c.tc : Thread nD τ), SemLoc.dma (P.osem js)) : GSem nD τ sig) = P.cell c js from rfl, P.duties_act has]; exact Finset.mem_singleton_self _)
    (by rw [show (((c'.tc : Thread nD τ), SemLoc.dma (P.osem jr)) : GSem nD τ sig) = P.cell c' jr from rfl, P.duties_act har]; exact Finset.mem_singleton_self _)
    () () (P.amt c' jr) hNr ((P.amount_eq c js ()).trans hNs) (P.amount_eq c' jr ()) (O₀ := O + P.due c' jr) O (by unfold Plan.due; rw [if_pos har]; rfl)
    (hpay₁.trans (Entails.of_eq (P.payload_eq c js ()).symm)) (hpay₂.trans (Entails.of_eq (P.payload_eq c' jr ()).symm)) hr) $$ [Hs Hd Ht Ht' Ho]
  · isplitr; · iexact HI
    isplitr; · iexact HI'
    isplitl [Hs]; · iexact Hs
    isplitl [Hd]; · iexact Hd
    isplitl [Ho]; · iexact Ho
    isplitl [Ht]; · iexact Ht
    isplitr; · iexact HR
    isplitl [Ht']; · iexact Ht'
    iexact HR'
  iintro ⟨Hc, Ho⟩
  rw [wp_ret]; imodintro
  unfold Plan.crd; rw [hNs]
  isplitl [Hc]; · iexact Hc
  iexists W; iexact Ho

/-- A wait for a cell's one copy. -/
theorem runs_wait (c : Dev nD) (j : J) {lvS : SemLoc sig → ℕ} {w : TpuEff nD τ sig Val Λ .tc PUnit} {sm : SemLoc sig} {k' : ℕ}
    (hw : ∀ K : PUnit → sProp 𝕄, wpE 𝔻 𝒱 (c.tc : Thread nD τ) none Set.univ w K = waitSpec (c.tc : Thread nD τ) Set.univ sm k' K)
    (hs : sm = .dma (P.osem j)) (ha : P.act c j = true) (hN : k' = P.amt c j) (O : CellTallies nD τ sig Unit)
    (hO : Above lvS (lvS (.dma (P.osem j))) O) :
    Runs 𝔻 𝒱 c iprop(P.knows E ∗ levAts Lall (lvOf lvS) ∗ P.crd c j ∗ P.place E c j ∗ owing c O)
      (Prog.lift w) iprop(P.pay c j ∗ P.over E c j ∗ owing c O) := by
  subst hs hN
  unfold Runs Plan.place owing Plan.crd
  iintro ⟨#HK, Hlv, Hc, Hp, ⟨%W, Ho⟩⟩
  ihave Hk := (P.knows_at E c j) $$ HK
  ihave Hm := (mayWait_of_above c _ hO) $$ Hlv
  unfold Plan.know Prog.lift
  icases Hk with ⟨%κ, #HI, -⟩
  iapply (Rounds.wp_wait_rest_token 𝒱 E P.sched (c.tc : Thread nD τ) none (κ := κ) hw (Set.mem_univ _) () (O := O) (W := W) (R := 0) (m := 0) (T := ∅)
      (by rw [Nat.zero_add]; exact (P.expect_eq ha).symm)) $$ [Hc Ho Hp Hm]
  · isplitr; · iexact HI
    isplitl [Hc]; · iexact Hc
    isplitl [Ho]; · iexact Ho
    isplitl [Hm]; · iexact Hm
    iexact Hp
  iintro ⟨Ho, Hp, -, Hpay⟩
  ihave Hpay := (show bigSep (P.sched.duties ((c.tc : Thread nD τ), SemLoc.dma (P.osem j)) 0 \ ∅)
      (fun u => P.sched.payload ((c.tc : Thread nD τ), SemLoc.dma (P.osem j)) 0 u) ⊢ P.pay c j from Entails.of_eq (P.rest_eq ha)) $$ Hpay
  rw [wp_ret]; imodintro
  isplitl [Hpay]; · iexact Hpay
  isplitl [Hp]; · unfold Plan.over; rw [ha]; iexact Hp
  iexists _; iexact Ho

end Steps

/-! ## Steps one after another -/

/-- The programs of a list, in order. -/
def seq : List (Prog (TpuEff nD τ sig Val Λ .tc) PUnit) → Prog (TpuEff nD τ sig Val Λ .tc) PUnit
  | [] => .ret ⟨⟩
  | p :: l => p >>= fun _ => seq l

theorem Runs.mono {c : Dev nD} {A A' B B' : sProp 𝕄} {op : Prog (TpuEff nD τ sig Val Λ .tc) PUnit} (h : Runs 𝔻 𝒱 c A op B)
    (hA : A' ⊢ A) (hB : B ⊢ B') : Runs 𝔻 𝒱 c A' op B' :=
  BIBase.Entails.trans hA (BIBase.Entails.trans h (wp_mono _ _ _ fun _ => hB))

theorem Runs.frame {c : Dev nD} {A B : sProp 𝕄} {op : Prog (TpuEff nD τ sig Val Λ .tc) PUnit} (R : sProp 𝕄) (h : Runs 𝔻 𝒱 c A op B) :
    Runs 𝔻 𝒱 c iprop(A ∗ R) op iprop(B ∗ R) :=
  (sep_mono_left h).trans (wp_frame_r _ _ _)

theorem Runs.bind {c : Dev nD} {A B C : sProp 𝕄} {p q : Prog (TpuEff nD τ sig Val Λ .tc) PUnit} (hp : Runs 𝔻 𝒱 c A p B) (hq : Runs 𝔻 𝒱 c B q C) :
    Runs 𝔻 𝒱 c A (p >>= fun _ => q) C := by
  unfold Runs
  rw [wp_bind]
  exact BIBase.Entails.trans hp (wp_mono _ _ _ fun _ => hq)

theorem Runs.ret {c : Dev nD} {A : sProp 𝕄} : Runs 𝔻 𝒱 c A (.ret ⟨⟩) A := by
  unfold Runs
  rw [wp_ret]
  iintro H; imodintro; iexact H

theorem Runs.append {c : Dev nD} {A B C : sProp 𝕄} {l l' : List (Prog (TpuEff nD τ sig Val Λ .tc) PUnit)} (hp : Runs 𝔻 𝒱 c A (seq l) B)
    (hq : Runs 𝔻 𝒱 c B (seq l') C) : Runs 𝔻 𝒱 c A (seq (l ++ l')) C := by
  have hs : ∀ l : List (Prog (TpuEff nD τ sig Val Λ .tc) PUnit), ∀ Q : PUnit → sProp 𝕄, wp Idealize.ShloMosaic.frame (wpE 𝔻 𝒱 (c.tc : Thread nD τ) none) Set.univ (seq (l ++ l')) Q
      = wp Idealize.ShloMosaic.frame (wpE 𝔻 𝒱 (c.tc : Thread nD τ) none) Set.univ (seq l) fun _ => wp Idealize.ShloMosaic.frame (wpE 𝔻 𝒱 (c.tc : Thread nD τ) none) Set.univ (seq l') Q := by
    intro l Q
    induction l with
    | nil => exact (fupd_wp_eq _ _ _ (seq l') Q).symm
    | cons p l ih => rw [List.cons_append, seq, seq, wp_bind, wp_bind, ih]
  unfold Runs
  rw [hs]
  exact BIBase.Entails.trans hp (wp_mono _ _ _ fun _ => hq)

variable {I : Type}

/-- A family of steps over a list, each paying its own part `t i` of what the core owes, beside a persistent `R`. -/
theorem loopL (c : Dev nD) (R : sProp 𝕄) [Persistent R] (ok : CellTallies nD τ sig Unit → Prop) (hadd : ∀ X Y, ok X → ok Y → ok (X + Y))
    (op : I → Prog (TpuEff nD τ sig Val Λ .tc) PUnit) (A B : I → sProp 𝕄) (t : I → CellTallies nD τ sig Unit)
    (O : CellTallies nD τ sig Unit) (hO : ok O) :
    ∀ l : List I, (∀ i ∈ l, ok (t i)) → (∀ i ∈ l, ∀ X, ok X → Runs 𝔻 𝒱 c iprop(R ∗ A i ∗ owing c (X + t i)) (op i) iprop(B i ∗ owing c X)) →
      Runs 𝔻 𝒱 c iprop(R ∗ bigSepL l A ∗ owing c (O + (l.map t).sum)) (seq (l.map op)) iprop(bigSepL l B ∗ owing c O)
  | [], _, _ => by
    simp only [List.map_nil, List.sum_nil, add_zero, bigSepL_nil, seq]
    refine Runs.ret.mono (A' := _) ?_ Entails.rfl
    iintro ⟨-, H⟩
    iexact H
  | i :: l, ht, hi => by
    have hl : ∀ l : List I, (∀ i ∈ l, ok (t i)) → ok (O + (l.map t).sum) := by
      intro l hl
      induction l with
      | nil => rw [List.map_nil, List.sum_nil, add_zero]; exact hO
      | cons j l ih =>
        rw [List.map_cons, List.sum_cons, add_left_comm]
        exact hadd _ _ (hl j List.mem_cons_self) (ih fun k hk => hl k (List.mem_cons_of_mem _ hk))
    have hrest := loopL c R ok hadd op A B t O hO l (fun j hj => ht j (List.mem_cons_of_mem _ hj)) fun j hj => hi j (List.mem_cons_of_mem _ hj)
    have hthis := hi i List.mem_cons_self (O + (l.map t).sum) (hl l fun j hj => ht j (List.mem_cons_of_mem _ hj))
    rw [List.map_cons, List.map_cons, List.sum_cons, seq, bigSepL_cons', bigSepL_cons']
    refine (Runs.bind (hthis.frame iprop(R ∗ bigSepL l A)) ((hrest.frame (B i)).mono ?_ Entails.rfl)).mono ?_ ?_
    · iintro ⟨⟨HB, Ho⟩, HR, HA⟩
      isplitr [HB]
      · isplitl [HR]; · iexact HR
        isplitl [HA]; · iexact HA
        iexact Ho
      · iexact HB
    · rw [show O + (t i + (l.map t).sum) = O + (l.map t).sum + t i by rw [add_comm (t i), add_assoc]]
      iintro ⟨#HR, ⟨HA, HL⟩, Ho⟩
      isplitl [HA Ho]
      · isplitr; · iexact HR
        isplitl [HA]; · iexact HA
        iexact Ho
      · isplitr; · iexact HR
        iexact HL
    · iintro ⟨⟨HL, Ho⟩, HB⟩
      isplitr [Ho]
      · isplitl [HB]; · iexact HB
        iexact HL
      · iexact Ho

/-- The same over a whole finite type, listed in the order `l`. -/
theorem loop [Fintype I] [DecidableEq I] (l : List I) (hu : Finset.univ = l.toFinset) (hl : l.Nodup)
    (c : Dev nD) (R : sProp 𝕄) [Persistent R] (ok : CellTallies nD τ sig Unit → Prop) (hadd : ∀ X Y, ok X → ok Y → ok (X + Y))
    (op : I → Prog (TpuEff nD τ sig Val Λ .tc) PUnit) (A B : I → sProp 𝕄) (t : I → CellTallies nD τ sig Unit)
    (O : CellTallies nD τ sig Unit) (hO : ok O) (ht : ∀ i, ok (t i))
    (hi : ∀ i X, ok X → Runs 𝔻 𝒱 c iprop(R ∗ A i ∗ owing c (X + t i)) (op i) iprop(B i ∗ owing c X)) :
    Runs 𝔻 𝒱 c iprop(R ∗ bigSep Finset.univ A ∗ owing c (O + ∑ i, t i)) (seq (l.map op)) iprop(bigSep Finset.univ B ∗ owing c O) := by
  rw [bigSep_univ_eq_bigSepL l hu hl A, bigSep_univ_eq_bigSepL l hu hl B, hu, List.sum_toFinset t hl]
  exact loopL c R ok hadd op A B t O hO l (fun i _ => ht i) fun i _ => hi i

/-! ## Opening and closing the cells -/

/-- The plan's cells, and the right to each one's copy, in the rounds library's launch element. -/
def cellSet : Finset (GSem nD τ sig) := Finset.univ.map ⟨fun k : Dev nD × J => P.cell k.1 k.2, fun _ _ h => Prod.ext (P.cell_inj h).1 (P.cell_inj h).2⟩
def tokSet : Finset (GSem nD τ sig × ℕ × Unit) :=
  Finset.univ.map ⟨fun k : Dev nD × J => (P.cell k.1 k.2, 0, ()), fun _ _ h => Prod.ext (P.cell_inj (congrArg Prod.fst h)).1 (P.cell_inj (congrArg Prod.fst h)).2⟩

/-- Every cell opened, on every device, from its counter at zero and the launch element. -/
theorem open_cells [E.LandsIn (upEmb : UEmb _ 𝕄)] [∀ c j, Storable (upEmb : UEmb _ 𝕄) (P.pay c j)] :
    iprop((bigSep Finset.univ fun k : Dev nD × J => semVal (P.cell k.1 k.2) 0) ∗ BI.own (E (initOf (cellSet P) (tokSet P))))
      ⊢ |={Set.univ}=> iprop(P.knows E ∗ (bigSep Finset.univ fun k : Dev nD × J => P.place E k.1 k.2)
          ∗ bigSep Finset.univ fun k : Dev nD × J => P.tok E k.1 k.2) := by
  have hC (Φ : GSem nD τ sig → sProp 𝕄) : bigSep (cellSet P) Φ = bigSep Finset.univ fun k : Dev nD × J => Φ (P.cell k.1 k.2) := by
    unfold cellSet; rw [bigSep_map]; rfl
  have hT : bigSep (tokSet P) (fun x => (dutyTok E x.1 x.2.1 x.2.2 : sProp 𝕄)) = bigSep Finset.univ fun k : Dev nD × J => P.tok E k.1 k.2 := by
    unfold tokSet; rw [bigSep_map]; rfl
  iintro ⟨Hv, HX⟩
  imod (Rounds.fund E P.sched (cellSet P) (tokSet P)) $$ HX with ⟨Hst, Hr, Hat, Htok⟩
  ihave Hst := (Entails.of_eq (hC fun g => roundState E P.sched g 0)) $$ Hst
  ihave Hr := (Entails.of_eq (hC fun g => reached E g 0)) $$ Hr
  ihave Hat := (Entails.of_eq (hC fun g => atPos E g 0 ∅ 0)) $$ Hat
  ihave Htok := (Entails.of_eq hT) $$ Htok
  imod (show iprop((bigSep Finset.univ fun k : Dev nD × J => semVal (P.cell k.1 k.2) 0) ∗ bigSep Finset.univ fun k : Dev nD × J => roundState E P.sched (P.cell k.1 k.2) 0)
      ⊢ (|={Set.univ}=> bigSep Finset.univ fun k : Dev nD × J => iprop(∃ κ : ℕ, cellInv E P.sched κ (P.cell k.1 k.2)) : sProp 𝕄) from by
        rw [← bigSep_sep']
        exact (bigSep_mono fun k _ => (Rounds.body_intro E P.sched (P.cell k.1 k.2)).trans inv_alloc).trans (bigSep_fupd _ _)) $$ [Hv Hst] with Hinv
  · isplitl [Hv] <;> iassumption
  imodintro
  isplitl [Hinv Hr]
  · unfold Plan.knows
    iapply (show iprop((bigSep Finset.univ fun k : Dev nD × J => iprop(∃ κ : ℕ, cellInv E P.sched κ (P.cell k.1 k.2))) ∗ bigSep Finset.univ fun k : Dev nD × J => reached E (P.cell k.1 k.2) 0)
      ⊢ bigSep Finset.univ fun k : Dev nD × J => P.know E k.1 k.2 from by
        rw [← bigSep_sep']
        refine bigSep_mono fun k _ => ?_
        show iprop((∃ κ : ℕ, cellInv E P.sched κ (P.cell k.1 k.2)) ∗ reached E (P.cell k.1 k.2) 0) ⊢ iprop(∃ κ : ℕ, cellInv E P.sched κ (P.cell k.1 k.2) ∗ reached E (P.cell k.1 k.2) 0)
        iintro ⟨⟨%κ, HI⟩, HR⟩
        iexists κ
        isplitl [HI] <;> iassumption)
    isplitl [Hinv] <;> iassumption
  isplitl [Hat]; · iexact Hat
  iexact Htok

/-- A device's cells, each through with, closed at zero. -/
theorem close_cells (c : Dev nD) :
    iprop(P.knows E ∗ bigSep Finset.univ fun j => P.over E c j) ⊢ |={Set.univ}=> bigSep Finset.univ fun j => (semVal (P.cell c j) 0 : sProp 𝕄) := by
  classical
  refine BIBase.Entails.trans ?_ (bigSep_fupd Finset.univ fun j => (semVal (P.cell c j) 0 : sProp 𝕄))
  refine (sep_mono_left (bigSep_intro_persistent (S := (Finset.univ : Finset J)) (R := P.knows E) (Φ := fun j => P.know E c j) (fun j _ => P.knows_at E c j))).trans ?_
  rw [← bigSep_sep']
  refine bigSep_mono fun j _ => ?_
  show iprop(P.know E c j ∗ P.over E c j) ⊢ iprop(|={Set.univ}=> semVal (P.cell c j) 0)
  unfold Plan.know Plan.over
  iintro ⟨⟨%κ, HI, -⟩, Hp⟩
  iapply (Rounds.cell_close E P.sched (Set.mem_univ κ) (fun h => h) (R := if P.act c j then 1 else 0) fun r hr => by
    by_cases h : P.act c j = true
    · rw [if_pos h] at hr; exact P.duties_later _ r hr
    · exact P.duties_idle (by simpa using h) r)
  isplitl [HI] <;> iassumption

/-! ## What is owed at the start -/

variable {X : Type} [Fintype X]

/-- Device `d` makes the copies into the receive cells `e (d, x)`, one for each `x`; what it owes at the start is
    their credits. -/
def dues (rj : X → J) (e : Dev nD × X ≃ Dev nD × X) (d : Dev nD) : CellTallies nD τ sig Unit := ∑ x, P.due (e (d, x)).1 (rj (e (d, x)).2)

/-- and every device holds the credits of its own receive cells. -/
theorem credits (rj : X → J) (e : Dev nD × X ≃ Dev nD × X) (c : Dev nD) :
    (Pipeline.launchCred (dues P rj e) c : sProp 𝕄) = bigSep Finset.univ fun x => cred (P.due c (rj x)) := by
  classical
  rw [Pipeline.launchCred_of_sum (dues P rj e) (fun d => ∑ x, P.due d (rj x)) ?_ ?_ c, Pipeline.cred_finsetSum]
  · unfold dues
    rw [← Fintype.sum_prod_type' (f := fun d x => P.due (e (d, x)).1 (rj (e (d, x)).2)), ← Fintype.sum_prod_type' (f := fun d x => P.due (τ := τ) d (rj x))]
    exact e.sum_comp fun k : Dev nD × X => P.due k.1 (rj k.2)
  · intro d g hg
    rw [Finset.sum_apply] at hg
    obtain ⟨x, -, hx⟩ := Finset.exists_ne_zero_of_sum_ne_zero hg
    unfold Plan.due at hx
    by_cases ha : P.act d (rj x) = true
    · rw [if_pos ha] at hx
      by_contra hne
      exact hx (by
        refine Finsupp.ext fun v => ?_
        rw [tallyAt_apply, if_neg (fun h => hne (by rw [h.1]; rfl))]; rfl)
    · rw [if_neg ha] at hx; exact absurd rfl hx

theorem cred_due {c : Dev nD} {j : J} (h : P.act c j = true) : (cred (P.due c j) : sProp 𝕄) = P.crd c j := by
  unfold Plan.due Plan.crd; rw [if_pos h]

end Cert.OneShot
-- ==== Proof.Blocks.lean ====
/-
# Arrays as stacks of blocks

The exchanges move whole blocks: block `b` of an `[n, r, k]` array, block `(q, e)` of an `[n, n', r, k]` array, each
seen as an `[r, k]` matrix. Here: which elements a block has, what is read through it, an array's ownership as its
blocks', and what a block holds after a copy landed in it.
-/
module

public import Idealize.ShloMosaic.Lib.Pipeline.Frame
public import Idealize.ShloMosaic.Lib.ValueLayout
public import Idealize.ShloMosaic.Lib.ValueIdx
public import Idealize.ShloMosaic.Lib.Pipeline.Launch
public import Idealize.ShloMosaic.Lib.Tactic

@[expose] public section

noncomputable section

namespace Cert.Blocks

open Idealize.ShloMosaic
open Idealize.ShloMosaic.Pipeline Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {sig : RefSig} {sp : Space} {e : EltTy} {n n' r k : ℕ}

abbrev M2 (r k : ℕ) : Shape := ⟨2, ![r, k]⟩
abbrev M3 (n r k : ℕ) : Shape := ⟨3, ![n, r, k]⟩
abbrev M4 (n n' r k : ℕ) : Shape := ⟨4, ![n, n', r, k]⟩

theorem squeezes3 (r k : ℕ) : (M3 1 r k).Squeezes (M2 r k) := by
  show Shape.dropsOnes [k, r, 1] [k, r] = true
  simp [Shape.dropsOnes]

theorem squeezes4 (r k : ℕ) : (M4 1 1 r k).Squeezes (M2 r k) := by
  show Shape.dropsOnes [k, r, 1, 1] [k, r] = true
  simp [Shape.dropsOnes]

theorem fits3 (b : Fin n) : ∀ a, (![b.val, 0, 0] : Fin 3 → ℕ) a + (M3 1 r k).size a ≤ (M3 n r k).size a
  | ⟨0, _⟩ => b.isLt
  | ⟨1, _⟩ => (Nat.zero_add r).le
  | ⟨2, _⟩ => (Nat.zero_add k).le

theorem fits4 (q : Fin n) (b : Fin n') :
    ∀ a, (![q.val, b.val, 0, 0] : Fin 4 → ℕ) a + (M4 1 1 r k).size a ≤ (M4 n n' r k).size a
  | ⟨0, _⟩ => q.isLt
  | ⟨1, _⟩ => b.isLt
  | ⟨2, _⟩ => (Nat.zero_add r).le
  | ⟨3, _⟩ => (Nat.zero_add k).le

/-- The rectangle of block `b`. -/
def rect3 (b : Fin n) : Rect (M3 n r k) := Rect.unit (s := M3 n r k) ![b.val, 0, 0] (M3 1 r k).size (fits3 b)

/-- The rectangle of block `(q, b)`. -/
def rect4 (q : Fin n) (b : Fin n') : Rect (M4 n n' r k) :=
  Rect.unit (s := M4 n n' r k) ![q.val, b.val, 0, 0] (M4 1 1 r k).size (fits4 q b)

/-- Block `b` of an `[n, r, k]` array. -/
abbrev blk3 (A : Memref sig .tc sp (M3 n r k) e) (b : Fin n) : Memref sig .tc sp (M2 r k) e :=
  (A.slice (Rect.unit (s := M3 n r k) ![b.val, 0, 0] (M3 1 r k).size (fits3 b)) (fun _ => rfl)).squeeze (M2 r k) (squeezes3 r k)

/-- Block `(q, b)` of an `[n, n', r, k]` array. -/
abbrev blk4 (A : Memref sig .tc sp (M4 n n' r k) e) (q : Fin n) (b : Fin n') : Memref sig .tc sp (M2 r k) e :=
  (A.slice (Rect.unit (s := M4 n n' r k) ![q.val, b.val, 0, 0] (M4 1 1 r k).size (fits4 q b)) (fun _ => rfl)).squeeze (M2 r k)
    (squeezes4 r k)

variable (A : Memref sig .tc sp (M3 n r k) e) (D : Memref sig .tc sp (M4 n n' r k) e)

theorem set_blk3 (b : Fin n) : (blk3 A b).view.set = (rect3 (r := r) (k := k) b).set.map A.view.emb :=
  ((A.view.slice _).set_reshape _).trans (A.view.set_slice _)

theorem set_blk4 (q : Fin n) (b : Fin n') : (blk4 D q b).view.set = (rect4 (r := r) (k := k) q b).set.map D.view.emb :=
  ((D.view.slice _).set_reshape _).trans (D.view.set_slice _)

theorem mem_rect3 (b : Fin n) (x : (M3 n r k).Idx) : x ∈ (rect3 (r := r) (k := k) b).set ↔ x 0 = b := by
  rw [rect3, Rect.mem_set_unit]
  refine ⟨fun h => ?_, fun h a => ?_⟩
  · have h0 := h 0
    have h1 : b.val ≤ (x 0).val := h0.1
    have h2 : (x 0).val < b.val + 1 := h0.2
    exact Fin.ext (by omega)
  · match a with
    | ⟨0, _⟩ => exact ⟨(congrArg Fin.val h).ge, by
        have : (x 0).val = b.val := congrArg Fin.val h
        show (x 0).val < b.val + 1
        omega⟩
    | ⟨1, _⟩ => exact ⟨Nat.zero_le _, by
        have : (x 1).val < r := (x 1).isLt
        show (x 1).val < 0 + r
        omega⟩
    | ⟨2, _⟩ => exact ⟨Nat.zero_le _, by
        have : (x 2).val < k := (x 2).isLt
        show (x 2).val < 0 + k
        omega⟩

theorem mem_rect4 (q : Fin n) (b : Fin n') (x : (M4 n n' r k).Idx) :
    x ∈ (rect4 (r := r) (k := k) q b).set ↔ x 0 = q ∧ x 1 = b := by
  rw [rect4, Rect.mem_set_unit]
  refine ⟨fun h => ?_, fun h a => ?_⟩
  · have h0 := h 0
    have h1 : q.val ≤ (x 0).val := h0.1
    have h2 : (x 0).val < q.val + 1 := h0.2
    have h0' := h 1
    have h3 : b.val ≤ (x 1).val := h0'.1
    have h4 : (x 1).val < b.val + 1 := h0'.2
    exact ⟨Fin.ext (by omega), Fin.ext (by omega)⟩
  · match a with
    | ⟨0, _⟩ => exact ⟨(congrArg Fin.val h.1).ge, by
        have : (x 0).val = q.val := congrArg Fin.val h.1
        show (x 0).val < q.val + 1
        omega⟩
    | ⟨1, _⟩ => exact ⟨(congrArg Fin.val h.2).ge, by
        have : (x 1).val = b.val := congrArg Fin.val h.2
        show (x 1).val < b.val + 1
        omega⟩
    | ⟨2, _⟩ => exact ⟨Nat.zero_le _, by
        have : (x 2).val < r := (x 2).isLt
        show (x 2).val < 0 + r
        omega⟩
    | ⟨3, _⟩ => exact ⟨Nat.zero_le _, by
        have : (x 3).val < k := (x 3).isLt
        show (x 3).val < 0 + k
        omega⟩

/-- What block `b` reads. -/
theorem read_blk3 {Val : EltTy → Type} (f : A.view.ty.Contents Val) (b : Fin n) (i : Fin r) (j : Fin k) :
    (blk3 A b).view.read Val f (ix2 i j) = A.view.read Val f (ix3 b i j) := by
  have hx : (rect3 (r := r) (k := k) b).emb (Shape.reshapeEquiv (squeezes3 r k).numel_eq (ix2 i j)) = ix3 b i j := by
    rw [reshapeEquiv_ix2_1ab]
    funext a
    refine Fin.ext ?_
    refine (Rect.emb_apply (rect3 (r := r) (k := k) b) _ a).trans ?_
    match a with
    | ⟨0, _⟩ => show b.val + 1 * 0 = b.val; omega
    | ⟨1, _⟩ => show 0 + 1 * i.val = i.val; omega
    | ⟨2, _⟩ => show 0 + 1 * j.val = j.val; omega
  exact congrArg (A.view.read Val f) hx

/-- What block `(q, b)` reads. -/
theorem read_blk4 {Val : EltTy → Type} (f : D.view.ty.Contents Val) (q : Fin n) (b : Fin n') (i : Fin r) (j : Fin k) :
    (blk4 D q b).view.read Val f (ix2 i j) = D.view.read Val f (ix4 q b i j) := by
  have hx : (rect4 (r := r) (k := k) q b).emb (Shape.reshapeEquiv (squeezes4 r k).numel_eq (ix2 i j)) = ix4 q b i j := by
    rw [reshapeEquiv_ix2_11ab]
    funext a
    refine Fin.ext ?_
    refine (Rect.emb_apply (rect4 (r := r) (k := k) q b) _ a).trans ?_
    match a with
    | ⟨0, _⟩ => show q.val + 1 * 0 = q.val; omega
    | ⟨1, _⟩ => show b.val + 1 * 0 = b.val; omega
    | ⟨2, _⟩ => show 0 + 1 * i.val = i.val; omega
    | ⟨3, _⟩ => show 0 + 1 * j.val = j.val; omega
  exact congrArg (D.view.read Val f) hx

section Own

variable {nD : ℕ} {τ : Topo} {Val : EltTy → Type} {U : Type} [URA U]

local notation "𝕄" => MT nD τ sig Unit Val ℕ U ℕ

theorem cover3 (hA : A.IsWhole) : (Finset.univ : Finset A.view.ty.shape.Idx) = Finset.univ.biUnion fun b : Fin n => (blk3 A b).view.set := by
  refine (Finset.eq_univ_of_forall fun y => ?_).symm
  have hy : y ∈ A.view.set := hA.set_eq_univ.symm ▸ Finset.mem_univ y
  obtain ⟨x, -, rfl⟩ := Finset.mem_map.mp hy
  have hx : A.view.emb x ∈ (rect3 (r := r) (k := k) (x 0 : Fin n)).set.map A.view.emb :=
    Finset.mem_map_of_mem _ ((mem_rect3 (x 0 : Fin n) x).mpr rfl)
  exact Finset.mem_biUnion.mpr ⟨(x 0 : Fin n), Finset.mem_univ _, (set_blk3 A (x 0 : Fin n)).symm ▸ hx⟩

theorem apart3 {b b' : Fin n} (h : b ≠ b') : Disjoint (blk3 A b).view.set (blk3 A b').view.set := by
  refine (set_blk3 A b).symm ▸ (set_blk3 A b').symm ▸ (Finset.disjoint_map A.view.emb).mpr (Finset.disjoint_left.mpr ?_)
  intro x hx hx'
  exact h (((mem_rect3 b x).mp hx).symm.trans ((mem_rect3 b' x).mp hx'))

theorem cover4 (hD : D.IsWhole) :
    (Finset.univ : Finset D.view.ty.shape.Idx) = Finset.univ.biUnion fun b : Fin n × Fin n' => (blk4 D b.1 b.2).view.set := by
  refine (Finset.eq_univ_of_forall fun y => ?_).symm
  have hy : y ∈ D.view.set := hD.set_eq_univ.symm ▸ Finset.mem_univ y
  obtain ⟨x, -, rfl⟩ := Finset.mem_map.mp hy
  have hx : D.view.emb x ∈ (rect4 (r := r) (k := k) (x 0 : Fin n) (x 1 : Fin n')).set.map D.view.emb :=
    Finset.mem_map_of_mem _ ((mem_rect4 (x 0 : Fin n) (x 1 : Fin n') x).mpr ⟨rfl, rfl⟩)
  exact Finset.mem_biUnion.mpr ⟨((x 0 : Fin n), (x 1 : Fin n')), Finset.mem_univ _, (set_blk4 D (x 0 : Fin n) (x 1 : Fin n')).symm ▸ hx⟩

theorem apart4 {b b' : Fin n × Fin n'} (h : b ≠ b') : Disjoint (blk4 D b.1 b.2).view.set (blk4 D b'.1 b'.2).view.set := by
  refine (set_blk4 D b.1 b.2).symm ▸ (set_blk4 D b'.1 b'.2).symm ▸ (Finset.disjoint_map D.view.emb).mpr (Finset.disjoint_left.mpr ?_)
  intro x hx hx'
  have h1 := (mem_rect4 b.1 b.2 x).mp hx
  have h2 := (mem_rect4 b'.1 b'.2 x).mp hx'
  exact h (Prod.ext (h1.1.symm.trans h2.1) (h1.2.symm.trans h2.2))

/-- A whole `[n, r, k]` array is its blocks. -/
theorem whole3 (hA : A.IsWhole) (c : Dev nD) (q : PosShare TreeShare) (f : Buf Val (A.view.loc (c.tc : Thread nD τ))) :
    (A.view.loc (c.tc : Thread nD τ) ↦[Finset.univ]{q} f : sProp 𝕄)
      = bigSep Finset.univ fun b : Fin n =>
          ((blk3 A b).view.loc (c.tc : Thread nD τ) ↦[(blk3 A b).view.set]{q} f : sProp 𝕄) :=
  (congrArg (fun I => (A.view.loc (c.tc : Thread nD τ) ↦[I]{q} f : sProp 𝕄)) (cover3 A hA)).trans
    (pointsTo_biUnion (ℓ := A.view.loc (c.tc : Thread nD τ)) Finset.univ (fun b : Fin n => (blk3 A b).view.set) fun _ _ _ _ h => apart3 A h)

/-- A whole `[n, n', r, k]` array is its blocks. -/
theorem whole4 (hD : D.IsWhole) (c : Dev nD) (q : PosShare TreeShare) (f : Buf Val (D.view.loc (c.tc : Thread nD τ))) :
    (D.view.loc (c.tc : Thread nD τ) ↦[Finset.univ]{q} f : sProp 𝕄)
      = bigSep Finset.univ fun b : Fin n × Fin n' =>
          ((blk4 D b.1 b.2).view.loc (c.tc : Thread nD τ) ↦[(blk4 D b.1 b.2).view.set]{q} f : sProp 𝕄) :=
  (congrArg (fun I => (D.view.loc (c.tc : Thread nD τ) ↦[I]{q} f : sProp 𝕄)) (cover4 D hD)).trans
    (pointsTo_biUnion (ℓ := D.view.loc (c.tc : Thread nD τ)) Finset.univ (fun b : Fin n × Fin n' => (blk4 D b.1 b.2).view.set)
      fun _ _ _ _ h => apart4 D h)

variable {sp' : Space} {s : Shape}

/-- A block a copy landed in holds what any contents reading the same there hold. -/
theorem landed {dst : Memref sig .tc sp s e} {src : Memref sig .tc sp' s e} {c c' : Dev nD}
    {q : PosShare TreeShare} {G fd : Buf Val (dst.view.loc (c'.tc : Thread nD τ))} {fs : Buf Val (src.view.loc (c.tc : Thread nD τ))}
    (h : dst.view.read Val G = src.view.read Val fs) :
    (dst.view.loc (c'.tc : Thread nD τ) ↦[dst.view.set]{q} (dst.view.write Val fd (src.view.read Val fs) Finset.univ) : sProp 𝕄)
      = (dst.view.loc (c'.tc : Thread nD τ) ↦[dst.view.set]{q} G) := by
  refine pointsTo_congr fun y hy => ?_
  obtain ⟨x, -, rfl⟩ := Finset.mem_map.mp hy
  have h1 := View.write_emb_of_mem (v := dst.view) fd (src.view.read Val fs) (Finset.mem_univ x)
  refine h1.trans ?_
  rw [← h, View.read_apply]
  exact cast_cast _ _ _ |>.trans (cast_eq _ _)

end Own

end Cert.Blocks
-- ==== Proof.PairPlan.lean ====
/-
# The pair exchange: who hands what to whom

Device `c = 2 p + e` is core `e` of chip `p`. For each of the four gradients and each chip `q` it keeps the block
`2 q + e` of its own gradient (a copy at home, into `out[q, e]`) and sends the block `2 q + 1 - e` to the other core
of its chip, which receives it into its `out[q, e]`. Every copy has its own semaphores and happens once.
-/
module

public import proofs.«01_k».proof.Proof.Gen.PairIdeal
public import proofs.«01_k».proof.Proof.OneShot
public import proofs.«01_k».proof.Proof.Blocks

@[expose] public section

noncomputable section

namespace Cert.PairIdeal.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx
open Cert.OneShot Cert.Blocks
open Cert.PairIdeal Cert.PairIdeal.Gen

set_option Elab.async false

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The mesh -/

/-- The core a device is. -/
def core (c : Dev nD) : Fin 2 := ⟨c.val % 2, Nat.mod_lt _ (by omega)⟩
/-- The other core. -/
def flip (e : Fin 2) : Fin 2 := ⟨1 - e.val, by omega⟩
/-- Core `e` of a device's chip. -/
def mate (c : Dev nD) (e : Fin 2) : Dev nD := ⟨2 * (c.val / 2) + e.val, by have := c.isLt; revert this; generalize c.val = v; intro h; have : v < 8 := h; show _ < 8; omega⟩
/-- The other core of a device's chip. -/
def sib (c : Dev nD) : Dev nD := mate c (flip (core c))

theorem core_sib (c : Dev nD) : core (sib c) = flip (core c) := by revert c; decide
theorem sib_sib (c : Dev nD) : sib (sib c) = c := by revert c; decide
theorem flip_flip (e : Fin 2) : flip (flip e) = e := by revert e; decide
theorem mate_core (c : Dev nD) : mate c (core c) = c := by revert c; decide
theorem mate_sib (c : Dev nD) (e : Fin 2) : mate (sib c) e = mate c e := by revert c e; decide
theorem sib_val (c : Dev nD) : (4 * (c.val / 4) + 2 * ((c.val / 2) % 2) + 1) - (c.val % 2) = (sib c).val := by revert c; decide

/-- Block `2 q + e`: the part for core `e` of chip `q`. -/
def part (q : Fin 4) (e : Fin 2) : Fin 8 := ⟨2 * q.val + e.val, by omega⟩

theorem part_own (c : Dev nD) (q : Fin 4) : 2 * q.val + c.val % 2 = (part q (core c)).val := rfl
theorem part_other (c : Dev nD) (q : Fin 4) : (2 * q.val + 1) - c.val % 2 = (part q (flip (core c))).val := by revert c q; decide

/-! ## The arrays -/

def rows : Fin 4 → ℕ
  | 0 => 1024 | 1 => 128 | 2 => 1024 | 3 => 384
def cols : Fin 4 → ℕ
  | 0 => 256 | 1 => 1024 | 2 => 768 | 3 => 1024

/-- The gradients. -/
def src : (a : Fin 4) → Memref sig .tc .hbm (M3 8 (rows a) (cols a)) .bf16
  | 0 => Memref.whole main_arg0 | 1 => Memref.whole main_arg1 | 2 => Memref.whole main_arg2 | 3 => Memref.whole main_arg3
/-- The results. -/
def out : (a : Fin 4) → Memref sig .tc .hbm (M4 4 2 (rows a) (cols a)) .bf16
  | 0 => Memref.whole main_v1_0 | 1 => Memref.whole main_v1_1 | 2 => Memref.whole main_v1_2 | 3 => Memref.whole main_v1_3

theorem src_whole : (a : Fin 4) → (src a).IsWhole
  | 0 => Memref.isWhole_whole _ | 1 => Memref.isWhole_whole _ | 2 => Memref.isWhole_whole _ | 3 => Memref.isWhole_whole _
theorem out_whole : (a : Fin 4) → (out a).IsWhole
  | 0 => Memref.isWhole_whole _ | 1 => Memref.isWhole_whole _ | 2 => Memref.isWhole_whole _ | 3 => Memref.isWhole_whole _

variable (m : (ℓ : Loc nD τ sig) → Buf (Elt F) ℓ)

/-- Device `c`'s gradient `a` at the start. -/
def given (c : Dev nD) (a : Fin 4) : Buf (Elt F) ((src a).view.loc (c.tc : Thread nD τ)) := m _
/-- Its elements. -/
def grad (c : Dev nD) (a : Fin 4) : (M3 8 (rows a) (cols a)).Idx → Elt F .bf16 := (src a).view.read (Elt F) (given m c a)
/-- What result `a` is to hold on device `c`: at `(q, e)`, the part for `c`'s core of chip `q` of core `e`'s gradient. -/
def gathered (c : Dev nD) (a : Fin 4) : (M4 4 2 (rows a) (cols a)).Idx → Elt F .bf16 := fun x =>
  grad m (mate c (x 1)) a (ix3 (part (x 0) (core c)) (x 2) (x 3))
/-- The same as contents of the array. -/
def want (c : Dev nD) (a : Fin 4) : Buf (Elt F) ((out a).view.loc (c.tc : Thread nD τ)) := (out_whole a).unread (gathered m c a)

/-- Block `b` of device `c`'s gradient, owned. -/
def srcPart (c : Dev nD) (a : Fin 4) (b : Fin 8) : sProp 𝕄 :=
  (blk3 (src a) b).view.loc (c.tc : Thread nD τ) ↦[(blk3 (src a) b).view.set]{fullShare} given m c a
/-- Block `(q, e)` of device `c`'s result, owned, at contents `f`. -/
def outPart (c : Dev nD) (a : Fin 4) (q : Fin 4) (e : Fin 2) (f : Buf (Elt F) ((out a).view.loc (c.tc : Thread nD τ))) : sProp 𝕄 :=
  (blk4 (out a) q e).view.loc (c.tc : Thread nD τ) ↦[(blk4 (out a) q e).view.set]{fullShare} f

/-! ## The plan -/

/-- A semaphore: of the sends (`0`), the arrivals (`1`) or the copies at home (`2`); of which gradient, for which chip. -/
abbrev J : Type := Fin 3 × Fin 4 × Fin 4

def osem (j : J) : DmaSem sig := ⟨16 * j.1.val + 4 * j.2.1.val + j.2.2.val, by
  have h1 := j.1.isLt; have h2 := j.2.1.isLt; have h3 := j.2.2.isLt
  show _ < 48
  omega⟩

theorem osem_inj : Function.Injective osem := by
  rintro ⟨k, a, q⟩ ⟨k', a', q'⟩ h
  have h0 : 16 * k.val + 4 * a.val + q.val = 16 * k'.val + 4 * a'.val + q'.val := congrArg Fin.val h
  have h1 := k.isLt; have h2 := a.isLt; have h3 := q.isLt
  have h1' := k'.isLt; have h2' := a'.isLt; have h3' := q'.isLt
  exact Prod.ext (Fin.ext (by dsimp only; omega)) (Prod.ext (Fin.ext (by dsimp only; omega)) (Fin.ext (by dsimp only; omega)))

/-- The credit of one copy of a block of gradient `a`. -/
def credit (a : Fin 4) : ℕ := (blk4 (out a) 0 0).view.dmaCredit

theorem credit_pos (a : Fin 4) : 0 < credit a := View.dmaCredit_pos _ (by
  match a with
  | 0 => decide +kernel
  | 1 => decide +kernel
  | 2 => decide +kernel
  | 3 => decide +kernel)

/-- What the copy on semaphore `j` of device `c` hands back or delivers. -/
def pay (c : Dev nD) (j : J) : sProp 𝕄 :=
  match j.1 with
  | 0 => srcPart m c j.2.1 (part j.2.2 (flip (core c)))
  | 1 => outPart c j.2.1 j.2.2 (flip (core c)) (want m c j.2.1)
  | 2 => iprop(outPart c j.2.1 j.2.2 (core c) (want m c j.2.1) ∗ srcPart m c j.2.1 (part j.2.2 (core c)))

def plan : Plan nD sig (MT nD τ sig Unit (Elt F) ℕ UU ℕ) J where
  osem := osem
  osem_inj := osem_inj
  act _ _ := true
  amt _ j := credit j.2.1
  amt_pos _ j := credit_pos j.2.1
  pay := pay m

instance storable (c : Dev nD) (j : J) : Storable upEmb ((plan (F := F) m).pay c j) := by
  obtain ⟨k, a, q⟩ := j
  show Storable upEmb (pay m c (k, a, q))
  unfold pay srcPart outPart
  match k with
  | 0 => dsimp only; infer_instance
  | 1 => dsimp only; infer_instance
  | 2 => dsimp only; infer_instance

/-! ## What the copies deliver -/

theorem reads_home (c : Dev nD) (a q : Fin 4) :
    (blk4 (out a) q (core c)).view.read (Elt F) (want m c a) = (blk3 (src a) (part q (core c))).view.read (Elt F) (given m c a) := by
  funext x
  obtain ⟨i, j, rfl⟩ : ∃ i j, x = ix2 i j := ⟨x 0, x 1, eq_ix2 x⟩
  rw [read_blk4, read_blk3, want, Memref.IsWhole.read_unread]
  show grad m (mate c (core c)) a _ = _
  rw [mate_core]
  rfl

theorem reads_sent (c : Dev nD) (a q : Fin 4) :
    (blk4 (out a) q (core c)).view.read (Elt F) (want m (sib c) a)
      = (blk3 (src a) (part q (flip (core c)))).view.read (Elt F) (given m c a) := by
  funext x
  obtain ⟨i, j, rfl⟩ : ∃ i j, x = ix2 i j := ⟨x 0, x 1, eq_ix2 x⟩
  rw [read_blk4, read_blk3, want, Memref.IsWhole.read_unread]
  show grad m (mate (sib c) (core c)) a (ix3 (part q (core (sib c))) i j) = _
  rw [mate_sib, mate_core, core_sib]
  rfl

end Cert.PairIdeal.Pair
-- ==== Proof.PairOps.lean ====
/-
# The pair exchange: the operations the kernel performs

The printed kernel's operations in the order it performs them, in five families over the gradient `a` and the chip
`q`; `body_eq` says the kernel is these, in this order.
-/
module

public import proofs.«01_k».proof.Proof.Gen.PairIdeal.Skeleton
public import proofs.«01_k».proof.Proof.Gen.PairIdeal.Points
public import proofs.«01_k».proof.Proof.OneShot

@[expose] public section

noncomputable section

namespace Cert.PairIdeal.Pair

open Idealize.ShloMosaic Idealize.SL.Sem
open Cert.OneShot
open Cert.PairIdeal Cert.PairIdeal.Gen

set_option Elab.async false

variable {F : FTy → Type} [FloatOps F]

/-- One operation of the kernel, or several. -/
abbrev Op (F : FTy → Type) : Type 1 := Prog (TpuEff nD τ sig (Elt F) Λ₀ .tc) PUnit

/-- A block of an array, without the axes it has one place on. -/
abbrev cut0 (M : Memref sig .tc .hbm S8x1024x256 .bf16) (o : Fin 3 → ℕ) (h : ∀ a, o a + S1x1024x256.size a ≤ S8x1024x256.size a) : Memref sig .tc .hbm S1024x256 .bf16 :=
  (M.slice (Rect.unit (s := S8x1024x256) o S1x1024x256.size h) (fun _ => rfl)).squeeze S1024x256 squeezes_S1x1024x256_S1024x256
abbrev cut1 (M : Memref sig .tc .hbm S4x2x1024x256 .bf16) (o : Fin 4 → ℕ) (h : ∀ a, o a + S1x1x1024x256.size a ≤ S4x2x1024x256.size a) : Memref sig .tc .hbm S1024x256 .bf16 :=
  (M.slice (Rect.unit (s := S4x2x1024x256) o S1x1x1024x256.size h) (fun _ => rfl)).squeeze S1024x256 squeezes_S1x1x1024x256_S1024x256
abbrev cut2 (M : Memref sig .tc .hbm S8x128x1024 .bf16) (o : Fin 3 → ℕ) (h : ∀ a, o a + S1x128x1024.size a ≤ S8x128x1024.size a) : Memref sig .tc .hbm S128x1024 .bf16 :=
  (M.slice (Rect.unit (s := S8x128x1024) o S1x128x1024.size h) (fun _ => rfl)).squeeze S128x1024 squeezes_S1x128x1024_S128x1024
abbrev cut3 (M : Memref sig .tc .hbm S4x2x128x1024 .bf16) (o : Fin 4 → ℕ) (h : ∀ a, o a + S1x1x128x1024.size a ≤ S4x2x128x1024.size a) : Memref sig .tc .hbm S128x1024 .bf16 :=
  (M.slice (Rect.unit (s := S4x2x128x1024) o S1x1x128x1024.size h) (fun _ => rfl)).squeeze S128x1024 squeezes_S1x1x128x1024_S128x1024
abbrev cut4 (M : Memref sig .tc .hbm S8x1024x768 .bf16) (o : Fin 3 → ℕ) (h : ∀ a, o a + S1x1024x768.size a ≤ S8x1024x768.size a) : Memref sig .tc .hbm S1024x768 .bf16 :=
  (M.slice (Rect.unit (s := S8x1024x768) o S1x1024x768.size h) (fun _ => rfl)).squeeze S1024x768 squeezes_S1x1024x768_S1024x768
abbrev cut5 (M : Memref sig .tc .hbm S4x2x1024x768 .bf16) (o : Fin 4 → ℕ) (h : ∀ a, o a + S1x1x1024x768.size a ≤ S4x2x1024x768.size a) : Memref sig .tc .hbm S1024x768 .bf16 :=
  (M.slice (Rect.unit (s := S4x2x1024x768) o S1x1x1024x768.size h) (fun _ => rfl)).squeeze S1024x768 squeezes_S1x1x1024x768_S1024x768
abbrev cut6 (M : Memref sig .tc .hbm S8x384x1024 .bf16) (o : Fin 3 → ℕ) (h : ∀ a, o a + S1x384x1024.size a ≤ S8x384x1024.size a) : Memref sig .tc .hbm S384x1024 .bf16 :=
  (M.slice (Rect.unit (s := S8x384x1024) o S1x384x1024.size h) (fun _ => rfl)).squeeze S384x1024 squeezes_S1x384x1024_S384x1024
abbrev cut7 (M : Memref sig .tc .hbm S4x2x384x1024 .bf16) (o : Fin 4 → ℕ) (h : ∀ a, o a + S1x1x384x1024.size a ≤ S4x2x384x1024.size a) : Memref sig .tc .hbm S384x1024 .bf16 :=
  (M.slice (Rect.unit (s := S4x2x384x1024) o S1x1x384x1024.size h) (fun _ => rfl)).squeeze S384x1024 squeezes_S1x1x384x1024_S384x1024

/-- One semaphore of an array of them. -/
abbrev cell0 (A : DmaSems sig S4x4) (o : Fin 2 → ℕ) (h : ∀ a, o a + S1x1.size a ≤ S4x4.size a) :=
  ((A.slice (Rect.unit (s := S4x4) o S1x1.size h)).squeeze S_ squeezes_S1x1_S_).sem

abbrev arg0 : Memref sig .tc .hbm S8x1024x256 .bf16 := Memref.whole main_arg0
theorem harg0 : arg0.IsWhole := Memref.isWhole_whole _
abbrev arg1 : Memref sig .tc .hbm S8x128x1024 .bf16 := Memref.whole main_arg1
theorem harg1 : arg1.IsWhole := Memref.isWhole_whole _
abbrev arg2 : Memref sig .tc .hbm S8x1024x768 .bf16 := Memref.whole main_arg2
theorem harg2 : arg2.IsWhole := Memref.isWhole_whole _
abbrev arg3 : Memref sig .tc .hbm S8x384x1024 .bf16 := Memref.whole main_arg3
theorem harg3 : arg3.IsWhole := Memref.isWhole_whole _
abbrev arg4 : Memref sig .tc .hbm S4x2x1024x256 .bf16 := Memref.whole main_v1_0
theorem harg4 : arg4.IsWhole := Memref.isWhole_whole _
abbrev arg5 : Memref sig .tc .hbm S4x2x128x1024 .bf16 := Memref.whole main_v1_1
theorem harg5 : arg5.IsWhole := Memref.isWhole_whole _
abbrev arg6 : Memref sig .tc .hbm S4x2x1024x768 .bf16 := Memref.whole main_v1_2
theorem harg6 : arg6.IsWhole := Memref.isWhole_whole _
abbrev arg7 : Memref sig .tc .hbm S4x2x384x1024 .bf16 := Memref.whole main_v1_3
theorem harg7 : arg7.IsWhole := Memref.isWhole_whole _
abbrev arg8 : DmaSems sig S4x4 := cc0_scratch0
abbrev arg9 : DmaSems sig S4x4 := cc0_scratch1
abbrev arg10 : DmaSems sig S4x4 := cc0_scratch2

/-- The copy at home of gradient `a`, for chip `q`, is started. -/
def home (d0 : Dev nD) : Fin 4 → Fin 4 → Op F
  | 0 => fun
    | 0 => Prog.lift (.enqueueDma (cut0 arg0 (k0_off2 d0 0#32) (k0_off2_inb d0 0)) (.here (cut1 arg4 (k0_off1 d0) (k0_off1_inb d0))) (.dma (cell0 arg10 ![0, 0] inb_S4x4_S1x1_0_0)) ((harg0.wordExact_slice rfl _ (k0_off2_wordsbf16 d0 0)).reshape _ _) ((harg4.wordExact_slice rfl _ (k0_off1_wordsbf16 d0)).reshape _ _) ⟨Or.inl rfl, trivial⟩)
    | 1 => Prog.lift (.enqueueDma (cut0 arg0 (k0_off2 d0 2#32) (k0_off2_inb d0 1)) (.here (cut1 arg4 (k0_off4 d0) (k0_off4_inb d0))) (.dma (cell0 arg10 ![0, 1] inb_S4x4_S1x1_0_1)) ((harg0.wordExact_slice rfl _ (k0_off2_wordsbf16 d0 1)).reshape _ _) ((harg4.wordExact_slice rfl _ (k0_off4_wordsbf16 d0)).reshape _ _) ⟨Or.inl rfl, trivial⟩)
    | 2 => Prog.lift (.enqueueDma (cut0 arg0 (k0_off2 d0 4#32) (k0_off2_inb d0 2)) (.here (cut1 arg4 (k0_off5 d0) (k0_off5_inb d0))) (.dma (cell0 arg10 ![0, 2] inb_S4x4_S1x1_0_2)) ((harg0.wordExact_slice rfl _ (k0_off2_wordsbf16 d0 2)).reshape _ _) ((harg4.wordExact_slice rfl _ (k0_off5_wordsbf16 d0)).reshape _ _) ⟨Or.inl rfl, trivial⟩)
    | 3 => Prog.lift (.enqueueDma (cut0 arg0 (k0_off2 d0 6#32) (k0_off2_inb d0 3)) (.here (cut1 arg4 (k0_off6 d0) (k0_off6_inb d0))) (.dma (cell0 arg10 ![0, 3] inb_S4x4_S1x1_0_3)) ((harg0.wordExact_slice rfl _ (k0_off2_wordsbf16 d0 3)).reshape _ _) ((harg4.wordExact_slice rfl _ (k0_off6_wordsbf16 d0)).reshape _ _) ⟨Or.inl rfl, trivial⟩)
  | 1 => fun
    | 0 => Prog.lift (.enqueueDma (cut2 arg1 (k0_off8 d0 0#32) (k0_off8_inb d0 0)) (.here (cut3 arg5 (k0_off7 d0) (k0_off7_inb d0))) (.dma (cell0 arg10 ![1, 0] inb_S4x4_S1x1_1_0)) ((harg1.wordExact_slice rfl _ (k0_off8_wordsbf16 d0 0)).reshape _ _) ((harg5.wordExact_slice rfl _ (k0_off7_wordsbf16 d0)).reshape _ _) ⟨Or.inl rfl, trivial⟩)
    | 1 => Prog.lift (.enqueueDma (cut2 arg1 (k0_off8 d0 2#32) (k0_off8_inb d0 1)) (.here (cut3 arg5 (k0_off10 d0) (k0_off10_inb d0))) (.dma (cell0 arg10 ![1, 1] inb_S4x4_S1x1_1_1)) ((harg1.wordExact_slice rfl _ (k0_off8_wordsbf16 d0 1)).reshape _ _) ((harg5.wordExact_slice rfl _ (k0_off10_wordsbf16 d0)).reshape _ _) ⟨Or.inl rfl, trivial⟩)
    | 2 => Prog.lift (.enqueueDma (cut2 arg1 (k0_off8 d0 4#32) (k0_off8_inb d0 2)) (.here (cut3 arg5 (k0_off11 d0) (k0_off11_inb d0))) (.dma (cell0 arg10 ![1, 2] inb_S4x4_S1x1_1_2)) ((harg1.wordExact_slice rfl _ (k0_off8_wordsbf16 d0 2)).reshape _ _) ((harg5.wordExact_slice rfl _ (k0_off11_wordsbf16 d0)).reshape _ _) ⟨Or.inl rfl, trivial⟩)
    | 3 => Prog.lift (.enqueueDma (cut2 arg1 (k0_off8 d0 6#32) (k0_off8_inb d0 3)) (.here (cut3 arg5 (k0_off12 d0) (k0_off12_inb d0))) (.dma (cell0 arg10 ![1, 3] inb_S4x4_S1x1_1_3)) ((harg1.wordExact_slice rfl _ (k0_off8_wordsbf16 d0 3)).reshape _ _) ((harg5.wordExact_slice rfl _ (k0_off12_wordsbf16 d0)).reshape _ _) ⟨Or.inl rfl, trivial⟩)
  | 2 => fun
    | 0 => Prog.lift (.enqueueDma (cut4 arg2 (k0_off14 d0 0#32) (k0_off14_inb d0 0)) (.here (cut5 arg6 (k0_off13 d0) (k0_off13_inb d0))) (.dma (cell0 arg10 ![2, 0] inb_S4x4_S1x1_2_0)) ((harg2.wordExact_slice rfl _ (k0_off14_wordsbf16 d0 0)).reshape _ _) ((harg6.wordExact_slice rfl _ (k0_off13_wordsbf16 d0)).reshape _ _) ⟨Or.inl rfl, trivial⟩)
    | 1 => Prog.lift (.enqueueDma (cut4 arg2 (k0_off14 d0 2#32) (k0_off14_inb d0 1)) (.here (cut5 arg6 (k0_off16 d0) (k0_off16_inb d0))) (.dma (cell0 arg10 ![2, 1] inb_S4x4_S1x1_2_1)) ((harg2.wordExact_slice rfl _ (k0_off14_wordsbf16 d0 1)).reshape _ _) ((harg6.wordExact_slice rfl _ (k0_off16_wordsbf16 d0)).reshape _ _) ⟨Or.inl rfl, trivial⟩)
    | 2 => Prog.lift (.enqueueDma (cut4 arg2 (k0_off14 d0 4#32) (k0_off14_inb d0 2)) (.here (cut5 arg6 (k0_off17 d0) (k0_off17_inb d0))) (.dma (cell0 arg10 ![2, 2] inb_S4x4_S1x1_2_2)) ((harg2.wordExact_slice rfl _ (k0_off14_wordsbf16 d0 2)).reshape _ _) ((harg6.wordExact_slice rfl _ (k0_off17_wordsbf16 d0)).reshape _ _) ⟨Or.inl rfl, trivial⟩)
    | 3 => Prog.lift (.enqueueDma (cut4 arg2 (k0_off14 d0 6#32) (k0_off14_inb d0 3)) (.here (cut5 arg6 (k0_off18 d0) (k0_off18_inb d0))) (.dma (cell0 arg10 ![2, 3] inb_S4x4_S1x1_2_3)) ((harg2.wordExact_slice rfl _ (k0_off14_wordsbf16 d0 3)).reshape _ _) ((harg6.wordExact_slice rfl _ (k0_off18_wordsbf16 d0)).reshape _ _) ⟨Or.inl rfl, trivial⟩)
  | 3 => fun
    | 0 => Prog.lift (.enqueueDma (cut6 arg3 (k0_off20 d0 0#32) (k0_off20_inb d0 0)) (.here (cut7 arg7 (k0_off19 d0) (k0_off19_inb d0))) (.dma (cell0 arg10 ![3, 0] inb_S4x4_S1x1_3_0)) ((harg3.wordExact_slice rfl _ (k0_off20_wordsbf16 d0 0)).reshape _ _) ((harg7.wordExact_slice rfl _ (k0_off19_wordsbf16 d0)).reshape _ _) ⟨Or.inl rfl, trivial⟩)
    | 1 => Prog.lift (.enqueueDma (cut6 arg3 (k0_off20 d0 2#32) (k0_off20_inb d0 1)) (.here (cut7 arg7 (k0_off22 d0) (k0_off22_inb d0))) (.dma (cell0 arg10 ![3, 1] inb_S4x4_S1x1_3_1)) ((harg3.wordExact_slice rfl _ (k0_off20_wordsbf16 d0 1)).reshape _ _) ((harg7.wordExact_slice rfl _ (k0_off22_wordsbf16 d0)).reshape _ _) ⟨Or.inl rfl, trivial⟩)
    | 2 => Prog.lift (.enqueueDma (cut6 arg3 (k0_off20 d0 4#32) (k0_off20_inb d0 2)) (.here (cut7 arg7 (k0_off23 d0) (k0_off23_inb d0))) (.dma (cell0 arg10 ![3, 2] inb_S4x4_S1x1_3_2)) ((harg3.wordExact_slice rfl _ (k0_off20_wordsbf16 d0 2)).reshape _ _) ((harg7.wordExact_slice rfl _ (k0_off23_wordsbf16 d0)).reshape _ _) ⟨Or.inl rfl, trivial⟩)
    | 3 => Prog.lift (.enqueueDma (cut6 arg3 (k0_off20 d0 6#32) (k0_off20_inb d0 3)) (.here (cut7 arg7 (k0_off24 d0) (k0_off24_inb d0))) (.dma (cell0 arg10 ![3, 3] inb_S4x4_S1x1_3_3)) ((harg3.wordExact_slice rfl _ (k0_off20_wordsbf16 d0 3)).reshape _ _) ((harg7.wordExact_slice rfl _ (k0_off24_wordsbf16 d0)).reshape _ _) ⟨Or.inl rfl, trivial⟩)

/-- The other core's part is sent. -/
def send (d0 : Dev nD) : Fin 4 → Fin 4 → Op F
  | 0 => fun
    | 0 => Prog.lift (.enqueueDma (cut0 arg0 (k0_off3 d0 1#32) (k0_off3_inb d0 0)) (.remote (Dev.tc (⟨k0_dev1 d0, k0_dev1_lt d0⟩ : Dev nD)) (cut1 arg4 (k0_off1 d0) (k0_off1_inb d0)) (.dma (cell0 arg8 ![0, 0] inb_S4x4_S1x1_0_0))) (.dma (cell0 arg9 ![0, 0] inb_S4x4_S1x1_0_0)) ((harg0.wordExact_slice rfl _ (k0_off3_wordsbf16 d0 0)).reshape _ _) ((harg4.wordExact_slice rfl _ (k0_off1_wordsbf16 d0)).reshape _ _) ⟨⟨rfl, Or.inl rfl⟩, trivial⟩)
    | 1 => Prog.lift (.enqueueDma (cut0 arg0 (k0_off3 d0 3#32) (k0_off3_inb d0 1)) (.remote (Dev.tc (⟨k0_dev2 d0, k0_dev2_lt d0⟩ : Dev nD)) (cut1 arg4 (k0_off4 d0) (k0_off4_inb d0)) (.dma (cell0 arg8 ![0, 1] inb_S4x4_S1x1_0_1))) (.dma (cell0 arg9 ![0, 1] inb_S4x4_S1x1_0_1)) ((harg0.wordExact_slice rfl _ (k0_off3_wordsbf16 d0 1)).reshape _ _) ((harg4.wordExact_slice rfl _ (k0_off4_wordsbf16 d0)).reshape _ _) ⟨⟨rfl, Or.inl rfl⟩, trivial⟩)
    | 2 => Prog.lift (.enqueueDma (cut0 arg0 (k0_off3 d0 5#32) (k0_off3_inb d0 2)) (.remote (Dev.tc (⟨k0_dev3 d0, k0_dev3_lt d0⟩ : Dev nD)) (cut1 arg4 (k0_off5 d0) (k0_off5_inb d0)) (.dma (cell0 arg8 ![0, 2] inb_S4x4_S1x1_0_2))) (.dma (cell0 arg9 ![0, 2] inb_S4x4_S1x1_0_2)) ((harg0.wordExact_slice rfl _ (k0_off3_wordsbf16 d0 2)).reshape _ _) ((harg4.wordExact_slice rfl _ (k0_off5_wordsbf16 d0)).reshape _ _) ⟨⟨rfl, Or.inl rfl⟩, trivial⟩)
    | 3 => Prog.lift (.enqueueDma (cut0 arg0 (k0_off3 d0 7#32) (k0_off3_inb d0 3)) (.remote (Dev.tc (⟨k0_dev4 d0, k0_dev4_lt d0⟩ : Dev nD)) (cut1 arg4 (k0_off6 d0) (k0_off6_inb d0)) (.dma (cell0 arg8 ![0, 3] inb_S4x4_S1x1_0_3))) (.dma (cell0 arg9 ![0, 3] inb_S4x4_S1x1_0_3)) ((harg0.wordExact_slice rfl _ (k0_off3_wordsbf16 d0 3)).reshape _ _) ((harg4.wordExact_slice rfl _ (k0_off6_wordsbf16 d0)).reshape _ _) ⟨⟨rfl, Or.inl rfl⟩, trivial⟩)
  | 1 => fun
    | 0 => Prog.lift (.enqueueDma (cut2 arg1 (k0_off9 d0 1#32) (k0_off9_inb d0 0)) (.remote (Dev.tc (⟨k0_dev5 d0, k0_dev5_lt d0⟩ : Dev nD)) (cut3 arg5 (k0_off7 d0) (k0_off7_inb d0)) (.dma (cell0 arg8 ![1, 0] inb_S4x4_S1x1_1_0))) (.dma (cell0 arg9 ![1, 0] inb_S4x4_S1x1_1_0)) ((harg1.wordExact_slice rfl _ (k0_off9_wordsbf16 d0 0)).reshape _ _) ((harg5.wordExact_slice rfl _ (k0_off7_wordsbf16 d0)).reshape _ _) ⟨⟨rfl, Or.inl rfl⟩, trivial⟩)
    | 1 => Prog.lift (.enqueueDma (cut2 arg1 (k0_off9 d0 3#32) (k0_off9_inb d0 1)) (.remote (Dev.tc (⟨k0_dev6 d0, k0_dev6_lt d0⟩ : Dev nD)) (cut3 arg5 (k0_off10 d0) (k0_off10_inb d0)) (.dma (cell0 arg8 ![1, 1] inb_S4x4_S1x1_1_1))) (.dma (cell0 arg9 ![1, 1] inb_S4x4_S1x1_1_1)) ((harg1.wordExact_slice rfl _ (k0_off9_wordsbf16 d0 1)).reshape _ _) ((harg5.wordExact_slice rfl _ (k0_off10_wordsbf16 d0)).reshape _ _) ⟨⟨rfl, Or.inl rfl⟩, trivial⟩)
    | 2 => Prog.lift (.enqueueDma (cut2 arg1 (k0_off9 d0 5#32) (k0_off9_inb d0 2)) (.remote (Dev.tc (⟨k0_dev7 d0, k0_dev7_lt d0⟩ : Dev nD)) (cut3 arg5 (k0_off11 d0) (k0_off11_inb d0)) (.dma (cell0 arg8 ![1, 2] inb_S4x4_S1x1_1_2))) (.dma (cell0 arg9 ![1, 2] inb_S4x4_S1x1_1_2)) ((harg1.wordExact_slice rfl _ (k0_off9_wordsbf16 d0 2)).reshape _ _) ((harg5.wordExact_slice rfl _ (k0_off11_wordsbf16 d0)).reshape _ _) ⟨⟨rfl, Or.inl rfl⟩, trivial⟩)
    | 3 => Prog.lift (.enqueueDma (cut2 arg1 (k0_off9 d0 7#32) (k0_off9_inb d0 3)) (.remote (Dev.tc (⟨k0_dev8 d0, k0_dev8_lt d0⟩ : Dev nD)) (cut3 arg5 (k0_off12 d0) (k0_off12_inb d0)) (.dma (cell0 arg8 ![1, 3] inb_S4x4_S1x1_1_3))) (.dma (cell0 arg9 ![1, 3] inb_S4x4_S1x1_1_3)) ((harg1.wordExact_slice rfl _ (k0_off9_wordsbf16 d0 3)).reshape _ _) ((harg5.wordExact_slice rfl _ (k0_off12_wordsbf16 d0)).reshape _ _) ⟨⟨rfl, Or.inl rfl⟩, trivial⟩)
  | 2 => fun
    | 0 => Prog.lift (.enqueueDma (cut4 arg2 (k0_off15 d0 1#32) (k0_off15_inb d0 0)) (.remote (Dev.tc (⟨k0_dev9 d0, k0_dev9_lt d0⟩ : Dev nD)) (cut5 arg6 (k0_off13 d0) (k0_off13_inb d0)) (.dma (cell0 arg8 ![2, 0] inb_S4x4_S1x1_2_0))) (.dma (cell0 arg9 ![2, 0] inb_S4x4_S1x1_2_0)) ((harg2.wordExact_slice rfl _ (k0_off15_wordsbf16 d0 0)).reshape _ _) ((harg6.wordExact_slice rfl _ (k0_off13_wordsbf16 d0)).reshape _ _) ⟨⟨rfl, Or.inl rfl⟩, trivial⟩)
    | 1 => Prog.lift (.enqueueDma (cut4 arg2 (k0_off15 d0 3#32) (k0_off15_inb d0 1)) (.remote (Dev.tc (⟨k0_dev10 d0, k0_dev10_lt d0⟩ : Dev nD)) (cut5 arg6 (k0_off16 d0) (k0_off16_inb d0)) (.dma (cell0 arg8 ![2, 1] inb_S4x4_S1x1_2_1))) (.dma (cell0 arg9 ![2, 1] inb_S4x4_S1x1_2_1)) ((harg2.wordExact_slice rfl _ (k0_off15_wordsbf16 d0 1)).reshape _ _) ((harg6.wordExact_slice rfl _ (k0_off16_wordsbf16 d0)).reshape _ _) ⟨⟨rfl, Or.inl rfl⟩, trivial⟩)
    | 2 => Prog.lift (.enqueueDma (cut4 arg2 (k0_off15 d0 5#32) (k0_off15_inb d0 2)) (.remote (Dev.tc (⟨k0_dev11 d0, k0_dev11_lt d0⟩ : Dev nD)) (cut5 arg6 (k0_off17 d0) (k0_off17_inb d0)) (.dma (cell0 arg8 ![2, 2] inb_S4x4_S1x1_2_2))) (.dma (cell0 arg9 ![2, 2] inb_S4x4_S1x1_2_2)) ((harg2.wordExact_slice rfl _ (k0_off15_wordsbf16 d0 2)).reshape _ _) ((harg6.wordExact_slice rfl _ (k0_off17_wordsbf16 d0)).reshape _ _) ⟨⟨rfl, Or.inl rfl⟩, trivial⟩)
    | 3 => Prog.lift (.enqueueDma (cut4 arg2 (k0_off15 d0 7#32) (k0_off15_inb d0 3)) (.remote (Dev.tc (⟨k0_dev12 d0, k0_dev12_lt d0⟩ : Dev nD)) (cut5 arg6 (k0_off18 d0) (k0_off18_inb d0)) (.dma (cell0 arg8 ![2, 3] inb_S4x4_S1x1_2_3))) (.dma (cell0 arg9 ![2, 3] inb_S4x4_S1x1_2_3)) ((harg2.wordExact_slice rfl _ (k0_off15_wordsbf16 d0 3)).reshape _ _) ((harg6.wordExact_slice rfl _ (k0_off18_wordsbf16 d0)).reshape _ _) ⟨⟨rfl, Or.inl rfl⟩, trivial⟩)
  | 3 => fun
    | 0 => Prog.lift (.enqueueDma (cut6 arg3 (k0_off21 d0 1#32) (k0_off21_inb d0 0)) (.remote (Dev.tc (⟨k0_dev13 d0, k0_dev13_lt d0⟩ : Dev nD)) (cut7 arg7 (k0_off19 d0) (k0_off19_inb d0)) (.dma (cell0 arg8 ![3, 0] inb_S4x4_S1x1_3_0))) (.dma (cell0 arg9 ![3, 0] inb_S4x4_S1x1_3_0)) ((harg3.wordExact_slice rfl _ (k0_off21_wordsbf16 d0 0)).reshape _ _) ((harg7.wordExact_slice rfl _ (k0_off19_wordsbf16 d0)).reshape _ _) ⟨⟨rfl, Or.inl rfl⟩, trivial⟩)
    | 1 => Prog.lift (.enqueueDma (cut6 arg3 (k0_off21 d0 3#32) (k0_off21_inb d0 1)) (.remote (Dev.tc (⟨k0_dev14 d0, k0_dev14_lt d0⟩ : Dev nD)) (cut7 arg7 (k0_off22 d0) (k0_off22_inb d0)) (.dma (cell0 arg8 ![3, 1] inb_S4x4_S1x1_3_1))) (.dma (cell0 arg9 ![3, 1] inb_S4x4_S1x1_3_1)) ((harg3.wordExact_slice rfl _ (k0_off21_wordsbf16 d0 1)).reshape _ _) ((harg7.wordExact_slice rfl _ (k0_off22_wordsbf16 d0)).reshape _ _) ⟨⟨rfl, Or.inl rfl⟩, trivial⟩)
    | 2 => Prog.lift (.enqueueDma (cut6 arg3 (k0_off21 d0 5#32) (k0_off21_inb d0 2)) (.remote (Dev.tc (⟨k0_dev15 d0, k0_dev15_lt d0⟩ : Dev nD)) (cut7 arg7 (k0_off23 d0) (k0_off23_inb d0)) (.dma (cell0 arg8 ![3, 2] inb_S4x4_S1x1_3_2))) (.dma (cell0 arg9 ![3, 2] inb_S4x4_S1x1_3_2)) ((harg3.wordExact_slice rfl _ (k0_off21_wordsbf16 d0 2)).reshape _ _) ((harg7.wordExact_slice rfl _ (k0_off23_wordsbf16 d0)).reshape _ _) ⟨⟨rfl, Or.inl rfl⟩, trivial⟩)
    | 3 => Prog.lift (.enqueueDma (cut6 arg3 (k0_off21 d0 7#32) (k0_off21_inb d0 3)) (.remote (Dev.tc (⟨k0_dev16 d0, k0_dev16_lt d0⟩ : Dev nD)) (cut7 arg7 (k0_off24 d0) (k0_off24_inb d0)) (.dma (cell0 arg8 ![3, 3] inb_S4x4_S1x1_3_3))) (.dma (cell0 arg9 ![3, 3] inb_S4x4_S1x1_3_3)) ((harg3.wordExact_slice rfl _ (k0_off21_wordsbf16 d0 3)).reshape _ _) ((harg7.wordExact_slice rfl _ (k0_off24_wordsbf16 d0)).reshape _ _) ⟨⟨rfl, Or.inl rfl⟩, trivial⟩)

/-- The copy at home is waited for. -/
def waitHome (d0 : Dev nD) : Fin 4 → Fin 4 → Op F
  | 0 => fun
    | 0 => Prog.lift (.waitDma2 (cell0 arg10 ![0, 0] inb_S4x4_S1x1_0_0) (cut0 arg0 (k0_off2 d0 0#32) (k0_off2_inb d0 0)) (cut1 arg4 (k0_off1 d0) (k0_off1_inb d0)) ((harg0.wordExact_slice rfl _ (k0_off2_wordsbf16 d0 0)).reshape _ _) ((harg4.wordExact_slice rfl _ (k0_off1_wordsbf16 d0)).reshape _ _))
    | 1 => Prog.lift (.waitDma2 (cell0 arg10 ![0, 1] inb_S4x4_S1x1_0_1) (cut0 arg0 (k0_off2 d0 2#32) (k0_off2_inb d0 1)) (cut1 arg4 (k0_off4 d0) (k0_off4_inb d0)) ((harg0.wordExact_slice rfl _ (k0_off2_wordsbf16 d0 1)).reshape _ _) ((harg4.wordExact_slice rfl _ (k0_off4_wordsbf16 d0)).reshape _ _))
    | 2 => Prog.lift (.waitDma2 (cell0 arg10 ![0, 2] inb_S4x4_S1x1_0_2) (cut0 arg0 (k0_off2 d0 4#32) (k0_off2_inb d0 2)) (cut1 arg4 (k0_off5 d0) (k0_off5_inb d0)) ((harg0.wordExact_slice rfl _ (k0_off2_wordsbf16 d0 2)).reshape _ _) ((harg4.wordExact_slice rfl _ (k0_off5_wordsbf16 d0)).reshape _ _))
    | 3 => Prog.lift (.waitDma2 (cell0 arg10 ![0, 3] inb_S4x4_S1x1_0_3) (cut0 arg0 (k0_off2 d0 6#32) (k0_off2_inb d0 3)) (cut1 arg4 (k0_off6 d0) (k0_off6_inb d0)) ((harg0.wordExact_slice rfl _ (k0_off2_wordsbf16 d0 3)).reshape _ _) ((harg4.wordExact_slice rfl _ (k0_off6_wordsbf16 d0)).reshape _ _))
  | 1 => fun
    | 0 => Prog.lift (.waitDma2 (cell0 arg10 ![1, 0] inb_S4x4_S1x1_1_0) (cut2 arg1 (k0_off8 d0 0#32) (k0_off8_inb d0 0)) (cut3 arg5 (k0_off7 d0) (k0_off7_inb d0)) ((harg1.wordExact_slice rfl _ (k0_off8_wordsbf16 d0 0)).reshape _ _) ((harg5.wordExact_slice rfl _ (k0_off7_wordsbf16 d0)).reshape _ _))
    | 1 => Prog.lift (.waitDma2 (cell0 arg10 ![1, 1] inb_S4x4_S1x1_1_1) (cut2 arg1 (k0_off8 d0 2#32) (k0_off8_inb d0 1)) (cut3 arg5 (k0_off10 d0) (k0_off10_inb d0)) ((harg1.wordExact_slice rfl _ (k0_off8_wordsbf16 d0 1)).reshape _ _) ((harg5.wordExact_slice rfl _ (k0_off10_wordsbf16 d0)).reshape _ _))
    | 2 => Prog.lift (.waitDma2 (cell0 arg10 ![1, 2] inb_S4x4_S1x1_1_2) (cut2 arg1 (k0_off8 d0 4#32) (k0_off8_inb d0 2)) (cut3 arg5 (k0_off11 d0) (k0_off11_inb d0)) ((harg1.wordExact_slice rfl _ (k0_off8_wordsbf16 d0 2)).reshape _ _) ((harg5.wordExact_slice rfl _ (k0_off11_wordsbf16 d0)).reshape _ _))
    | 3 => Prog.lift (.waitDma2 (cell0 arg10 ![1, 3] inb_S4x4_S1x1_1_3) (cut2 arg1 (k0_off8 d0 6#32) (k0_off8_inb d0 3)) (cut3 arg5 (k0_off12 d0) (k0_off12_inb d0)) ((harg1.wordExact_slice rfl _ (k0_off8_wordsbf16 d0 3)).reshape _ _) ((harg5.wordExact_slice rfl _ (k0_off12_wordsbf16 d0)).reshape _ _))
  | 2 => fun
    | 0 => Prog.lift (.waitDma2 (cell0 arg10 ![2, 0] inb_S4x4_S1x1_2_0) (cut4 arg2 (k0_off14 d0 0#32) (k0_off14_inb d0 0)) (cut5 arg6 (k0_off13 d0) (k0_off13_inb d0)) ((harg2.wordExact_slice rfl _ (k0_off14_wordsbf16 d0 0)).reshape _ _) ((harg6.wordExact_slice rfl _ (k0_off13_wordsbf16 d0)).reshape _ _))
    | 1 => Prog.lift (.waitDma2 (cell0 arg10 ![2, 1] inb_S4x4_S1x1_2_1) (cut4 arg2 (k0_off14 d0 2#32) (k0_off14_inb d0 1)) (cut5 arg6 (k0_off16 d0) (k0_off16_inb d0)) ((harg2.wordExact_slice rfl _ (k0_off14_wordsbf16 d0 1)).reshape _ _) ((harg6.wordExact_slice rfl _ (k0_off16_wordsbf16 d0)).reshape _ _))
    | 2 => Prog.lift (.waitDma2 (cell0 arg10 ![2, 2] inb_S4x4_S1x1_2_2) (cut4 arg2 (k0_off14 d0 4#32) (k0_off14_inb d0 2)) (cut5 arg6 (k0_off17 d0) (k0_off17_inb d0)) ((harg2.wordExact_slice rfl _ (k0_off14_wordsbf16 d0 2)).reshape _ _) ((harg6.wordExact_slice rfl _ (k0_off17_wordsbf16 d0)).reshape _ _))
    | 3 => Prog.lift (.waitDma2 (cell0 arg10 ![2, 3] inb_S4x4_S1x1_2_3) (cut4 arg2 (k0_off14 d0 6#32) (k0_off14_inb d0 3)) (cut5 arg6 (k0_off18 d0) (k0_off18_inb d0)) ((harg2.wordExact_slice rfl _ (k0_off14_wordsbf16 d0 3)).reshape _ _) ((harg6.wordExact_slice rfl _ (k0_off18_wordsbf16 d0)).reshape _ _))
  | 3 => fun
    | 0 => Prog.lift (.waitDma2 (cell0 arg10 ![3, 0] inb_S4x4_S1x1_3_0) (cut6 arg3 (k0_off20 d0 0#32) (k0_off20_inb d0 0)) (cut7 arg7 (k0_off19 d0) (k0_off19_inb d0)) ((harg3.wordExact_slice rfl _ (k0_off20_wordsbf16 d0 0)).reshape _ _) ((harg7.wordExact_slice rfl _ (k0_off19_wordsbf16 d0)).reshape _ _))
    | 1 => Prog.lift (.waitDma2 (cell0 arg10 ![3, 1] inb_S4x4_S1x1_3_1) (cut6 arg3 (k0_off20 d0 2#32) (k0_off20_inb d0 1)) (cut7 arg7 (k0_off22 d0) (k0_off22_inb d0)) ((harg3.wordExact_slice rfl _ (k0_off20_wordsbf16 d0 1)).reshape _ _) ((harg7.wordExact_slice rfl _ (k0_off22_wordsbf16 d0)).reshape _ _))
    | 2 => Prog.lift (.waitDma2 (cell0 arg10 ![3, 2] inb_S4x4_S1x1_3_2) (cut6 arg3 (k0_off20 d0 4#32) (k0_off20_inb d0 2)) (cut7 arg7 (k0_off23 d0) (k0_off23_inb d0)) ((harg3.wordExact_slice rfl _ (k0_off20_wordsbf16 d0 2)).reshape _ _) ((harg7.wordExact_slice rfl _ (k0_off23_wordsbf16 d0)).reshape _ _))
    | 3 => Prog.lift (.waitDma2 (cell0 arg10 ![3, 3] inb_S4x4_S1x1_3_3) (cut6 arg3 (k0_off20 d0 6#32) (k0_off20_inb d0 3)) (cut7 arg7 (k0_off24 d0) (k0_off24_inb d0)) ((harg3.wordExact_slice rfl _ (k0_off20_wordsbf16 d0 3)).reshape _ _) ((harg7.wordExact_slice rfl _ (k0_off24_wordsbf16 d0)).reshape _ _))

/-- The send is waited for. -/
def waitSent (d0 : Dev nD) : Fin 4 → Fin 4 → Op F
  | 0 => fun
    | 0 => Prog.lift (.waitDma2 (cell0 arg8 ![0, 0] inb_S4x4_S1x1_0_0) (cut1 arg4 (k0_off1 d0) (k0_off1_inb d0)) (cut0 arg0 (k0_off3 d0 1#32) (k0_off3_inb d0 0)) ((harg4.wordExact_slice rfl _ (k0_off1_wordsbf16 d0)).reshape _ _) ((harg0.wordExact_slice rfl _ (k0_off3_wordsbf16 d0 0)).reshape _ _))
    | 1 => Prog.lift (.waitDma2 (cell0 arg8 ![0, 1] inb_S4x4_S1x1_0_1) (cut1 arg4 (k0_off4 d0) (k0_off4_inb d0)) (cut0 arg0 (k0_off3 d0 3#32) (k0_off3_inb d0 1)) ((harg4.wordExact_slice rfl _ (k0_off4_wordsbf16 d0)).reshape _ _) ((harg0.wordExact_slice rfl _ (k0_off3_wordsbf16 d0 1)).reshape _ _))
    | 2 => Prog.lift (.waitDma2 (cell0 arg8 ![0, 2] inb_S4x4_S1x1_0_2) (cut1 arg4 (k0_off5 d0) (k0_off5_inb d0)) (cut0 arg0 (k0_off3 d0 5#32) (k0_off3_inb d0 2)) ((harg4.wordExact_slice rfl _ (k0_off5_wordsbf16 d0)).reshape _ _) ((harg0.wordExact_slice rfl _ (k0_off3_wordsbf16 d0 2)).reshape _ _))
    | 3 => Prog.lift (.waitDma2 (cell0 arg8 ![0, 3] inb_S4x4_S1x1_0_3) (cut1 arg4 (k0_off6 d0) (k0_off6_inb d0)) (cut0 arg0 (k0_off3 d0 7#32) (k0_off3_inb d0 3)) ((harg4.wordExact_slice rfl _ (k0_off6_wordsbf16 d0)).reshape _ _) ((harg0.wordExact_slice rfl _ (k0_off3_wordsbf16 d0 3)).reshape _ _))
  | 1 => fun
    | 0 => Prog.lift (.waitDma2 (cell0 arg8 ![1, 0] inb_S4x4_S1x1_1_0) (cut3 arg5 (k0_off7 d0) (k0_off7_inb d0)) (cut2 arg1 (k0_off9 d0 1#32) (k0_off9_inb d0 0)) ((harg5.wordExact_slice rfl _ (k0_off7_wordsbf16 d0)).reshape _ _) ((harg1.wordExact_slice rfl _ (k0_off9_wordsbf16 d0 0)).reshape _ _))
    | 1 => Prog.lift (.waitDma2 (cell0 arg8 ![1, 1] inb_S4x4_S1x1_1_1) (cut3 arg5 (k0_off10 d0) (k0_off10_inb d0)) (cut2 arg1 (k0_off9 d0 3#32) (k0_off9_inb d0 1)) ((harg5.wordExact_slice rfl _ (k0_off10_wordsbf16 d0)).reshape _ _) ((harg1.wordExact_slice rfl _ (k0_off9_wordsbf16 d0 1)).reshape _ _))
    | 2 => Prog.lift (.waitDma2 (cell0 arg8 ![1, 2] inb_S4x4_S1x1_1_2) (cut3 arg5 (k0_off11 d0) (k0_off11_inb d0)) (cut2 arg1 (k0_off9 d0 5#32) (k0_off9_inb d0 2)) ((harg5.wordExact_slice rfl _ (k0_off11_wordsbf16 d0)).reshape _ _) ((harg1.wordExact_slice rfl _ (k0_off9_wordsbf16 d0 2)).reshape _ _))
    | 3 => Prog.lift (.waitDma2 (cell0 arg8 ![1, 3] inb_S4x4_S1x1_1_3) (cut3 arg5 (k0_off12 d0) (k0_off12_inb d0)) (cut2 arg1 (k0_off9 d0 7#32) (k0_off9_inb d0 3)) ((harg5.wordExact_slice rfl _ (k0_off12_wordsbf16 d0)).reshape _ _) ((harg1.wordExact_slice rfl _ (k0_off9_wordsbf16 d0 3)).reshape _ _))
  | 2 => fun
    | 0 => Prog.lift (.waitDma2 (cell0 arg8 ![2, 0] inb_S4x4_S1x1_2_0) (cut5 arg6 (k0_off13 d0) (k0_off13_inb d0)) (cut4 arg2 (k0_off15 d0 1#32) (k0_off15_inb d0 0)) ((harg6.wordExact_slice rfl _ (k0_off13_wordsbf16 d0)).reshape _ _) ((harg2.wordExact_slice rfl _ (k0_off15_wordsbf16 d0 0)).reshape _ _))
    | 1 => Prog.lift (.waitDma2 (cell0 arg8 ![2, 1] inb_S4x4_S1x1_2_1) (cut5 arg6 (k0_off16 d0) (k0_off16_inb d0)) (cut4 arg2 (k0_off15 d0 3#32) (k0_off15_inb d0 1)) ((harg6.wordExact_slice rfl _ (k0_off16_wordsbf16 d0)).reshape _ _) ((harg2.wordExact_slice rfl _ (k0_off15_wordsbf16 d0 1)).reshape _ _))
    | 2 => Prog.lift (.waitDma2 (cell0 arg8 ![2, 2] inb_S4x4_S1x1_2_2) (cut5 arg6 (k0_off17 d0) (k0_off17_inb d0)) (cut4 arg2 (k0_off15 d0 5#32) (k0_off15_inb d0 2)) ((harg6.wordExact_slice rfl _ (k0_off17_wordsbf16 d0)).reshape _ _) ((harg2.wordExact_slice rfl _ (k0_off15_wordsbf16 d0 2)).reshape _ _))
    | 3 => Prog.lift (.waitDma2 (cell0 arg8 ![2, 3] inb_S4x4_S1x1_2_3) (cut5 arg6 (k0_off18 d0) (k0_off18_inb d0)) (cut4 arg2 (k0_off15 d0 7#32) (k0_off15_inb d0 3)) ((harg6.wordExact_slice rfl _ (k0_off18_wordsbf16 d0)).reshape _ _) ((harg2.wordExact_slice rfl _ (k0_off15_wordsbf16 d0 3)).reshape _ _))
  | 3 => fun
    | 0 => Prog.lift (.waitDma2 (cell0 arg8 ![3, 0] inb_S4x4_S1x1_3_0) (cut7 arg7 (k0_off19 d0) (k0_off19_inb d0)) (cut6 arg3 (k0_off21 d0 1#32) (k0_off21_inb d0 0)) ((harg7.wordExact_slice rfl _ (k0_off19_wordsbf16 d0)).reshape _ _) ((harg3.wordExact_slice rfl _ (k0_off21_wordsbf16 d0 0)).reshape _ _))
    | 1 => Prog.lift (.waitDma2 (cell0 arg8 ![3, 1] inb_S4x4_S1x1_3_1) (cut7 arg7 (k0_off22 d0) (k0_off22_inb d0)) (cut6 arg3 (k0_off21 d0 3#32) (k0_off21_inb d0 1)) ((harg7.wordExact_slice rfl _ (k0_off22_wordsbf16 d0)).reshape _ _) ((harg3.wordExact_slice rfl _ (k0_off21_wordsbf16 d0 1)).reshape _ _))
    | 2 => Prog.lift (.waitDma2 (cell0 arg8 ![3, 2] inb_S4x4_S1x1_3_2) (cut7 arg7 (k0_off23 d0) (k0_off23_inb d0)) (cut6 arg3 (k0_off21 d0 5#32) (k0_off21_inb d0 2)) ((harg7.wordExact_slice rfl _ (k0_off23_wordsbf16 d0)).reshape _ _) ((harg3.wordExact_slice rfl _ (k0_off21_wordsbf16 d0 2)).reshape _ _))
    | 3 => Prog.lift (.waitDma2 (cell0 arg8 ![3, 3] inb_S4x4_S1x1_3_3) (cut7 arg7 (k0_off24 d0) (k0_off24_inb d0)) (cut6 arg3 (k0_off21 d0 7#32) (k0_off21_inb d0 3)) ((harg7.wordExact_slice rfl _ (k0_off24_wordsbf16 d0)).reshape _ _) ((harg3.wordExact_slice rfl _ (k0_off21_wordsbf16 d0 3)).reshape _ _))

/-- The other core's part for this core is waited for. -/
def waitReceived (d0 : Dev nD) : Fin 4 → Fin 4 → Op F
  | 0 => fun
    | 0 => Prog.lift (.waitDma2 (cell0 arg9 ![0, 0] inb_S4x4_S1x1_0_0) (cut0 arg0 (k0_off3 d0 1#32) (k0_off3_inb d0 0)) (cut1 arg4 (k0_off1 d0) (k0_off1_inb d0)) ((harg0.wordExact_slice rfl _ (k0_off3_wordsbf16 d0 0)).reshape _ _) ((harg4.wordExact_slice rfl _ (k0_off1_wordsbf16 d0)).reshape _ _))
    | 1 => Prog.lift (.waitDma2 (cell0 arg9 ![0, 1] inb_S4x4_S1x1_0_1) (cut0 arg0 (k0_off3 d0 3#32) (k0_off3_inb d0 1)) (cut1 arg4 (k0_off4 d0) (k0_off4_inb d0)) ((harg0.wordExact_slice rfl _ (k0_off3_wordsbf16 d0 1)).reshape _ _) ((harg4.wordExact_slice rfl _ (k0_off4_wordsbf16 d0)).reshape _ _))
    | 2 => Prog.lift (.waitDma2 (cell0 arg9 ![0, 2] inb_S4x4_S1x1_0_2) (cut0 arg0 (k0_off3 d0 5#32) (k0_off3_inb d0 2)) (cut1 arg4 (k0_off5 d0) (k0_off5_inb d0)) ((harg0.wordExact_slice rfl _ (k0_off3_wordsbf16 d0 2)).reshape _ _) ((harg4.wordExact_slice rfl _ (k0_off5_wordsbf16 d0)).reshape _ _))
    | 3 => Prog.lift (.waitDma2 (cell0 arg9 ![0, 3] inb_S4x4_S1x1_0_3) (cut0 arg0 (k0_off3 d0 7#32) (k0_off3_inb d0 3)) (cut1 arg4 (k0_off6 d0) (k0_off6_inb d0)) ((harg0.wordExact_slice rfl _ (k0_off3_wordsbf16 d0 3)).reshape _ _) ((harg4.wordExact_slice rfl _ (k0_off6_wordsbf16 d0)).reshape _ _))
  | 1 => fun
    | 0 => Prog.lift (.waitDma2 (cell0 arg9 ![1, 0] inb_S4x4_S1x1_1_0) (cut2 arg1 (k0_off9 d0 1#32) (k0_off9_inb d0 0)) (cut3 arg5 (k0_off7 d0) (k0_off7_inb d0)) ((harg1.wordExact_slice rfl _ (k0_off9_wordsbf16 d0 0)).reshape _ _) ((harg5.wordExact_slice rfl _ (k0_off7_wordsbf16 d0)).reshape _ _))
    | 1 => Prog.lift (.waitDma2 (cell0 arg9 ![1, 1] inb_S4x4_S1x1_1_1) (cut2 arg1 (k0_off9 d0 3#32) (k0_off9_inb d0 1)) (cut3 arg5 (k0_off10 d0) (k0_off10_inb d0)) ((harg1.wordExact_slice rfl _ (k0_off9_wordsbf16 d0 1)).reshape _ _) ((harg5.wordExact_slice rfl _ (k0_off10_wordsbf16 d0)).reshape _ _))
    | 2 => Prog.lift (.waitDma2 (cell0 arg9 ![1, 2] inb_S4x4_S1x1_1_2) (cut2 arg1 (k0_off9 d0 5#32) (k0_off9_inb d0 2)) (cut3 arg5 (k0_off11 d0) (k0_off11_inb d0)) ((harg1.wordExact_slice rfl _ (k0_off9_wordsbf16 d0 2)).reshape _ _) ((harg5.wordExact_slice rfl _ (k0_off11_wordsbf16 d0)).reshape _ _))
    | 3 => Prog.lift (.waitDma2 (cell0 arg9 ![1, 3] inb_S4x4_S1x1_1_3) (cut2 arg1 (k0_off9 d0 7#32) (k0_off9_inb d0 3)) (cut3 arg5 (k0_off12 d0) (k0_off12_inb d0)) ((harg1.wordExact_slice rfl _ (k0_off9_wordsbf16 d0 3)).reshape _ _) ((harg5.wordExact_slice rfl _ (k0_off12_wordsbf16 d0)).reshape _ _))
  | 2 => fun
    | 0 => Prog.lift (.waitDma2 (cell0 arg9 ![2, 0] inb_S4x4_S1x1_2_0) (cut4 arg2 (k0_off15 d0 1#32) (k0_off15_inb d0 0)) (cut5 arg6 (k0_off13 d0) (k0_off13_inb d0)) ((harg2.wordExact_slice rfl _ (k0_off15_wordsbf16 d0 0)).reshape _ _) ((harg6.wordExact_slice rfl _ (k0_off13_wordsbf16 d0)).reshape _ _))
    | 1 => Prog.lift (.waitDma2 (cell0 arg9 ![2, 1] inb_S4x4_S1x1_2_1) (cut4 arg2 (k0_off15 d0 3#32) (k0_off15_inb d0 1)) (cut5 arg6 (k0_off16 d0) (k0_off16_inb d0)) ((harg2.wordExact_slice rfl _ (k0_off15_wordsbf16 d0 1)).reshape _ _) ((harg6.wordExact_slice rfl _ (k0_off16_wordsbf16 d0)).reshape _ _))
    | 2 => Prog.lift (.waitDma2 (cell0 arg9 ![2, 2] inb_S4x4_S1x1_2_2) (cut4 arg2 (k0_off15 d0 5#32) (k0_off15_inb d0 2)) (cut5 arg6 (k0_off17 d0) (k0_off17_inb d0)) ((harg2.wordExact_slice rfl _ (k0_off15_wordsbf16 d0 2)).reshape _ _) ((harg6.wordExact_slice rfl _ (k0_off17_wordsbf16 d0)).reshape _ _))
    | 3 => Prog.lift (.waitDma2 (cell0 arg9 ![2, 3] inb_S4x4_S1x1_2_3) (cut4 arg2 (k0_off15 d0 7#32) (k0_off15_inb d0 3)) (cut5 arg6 (k0_off18 d0) (k0_off18_inb d0)) ((harg2.wordExact_slice rfl _ (k0_off15_wordsbf16 d0 3)).reshape _ _) ((harg6.wordExact_slice rfl _ (k0_off18_wordsbf16 d0)).reshape _ _))
  | 3 => fun
    | 0 => Prog.lift (.waitDma2 (cell0 arg9 ![3, 0] inb_S4x4_S1x1_3_0) (cut6 arg3 (k0_off21 d0 1#32) (k0_off21_inb d0 0)) (cut7 arg7 (k0_off19 d0) (k0_off19_inb d0)) ((harg3.wordExact_slice rfl _ (k0_off21_wordsbf16 d0 0)).reshape _ _) ((harg7.wordExact_slice rfl _ (k0_off19_wordsbf16 d0)).reshape _ _))
    | 1 => Prog.lift (.waitDma2 (cell0 arg9 ![3, 1] inb_S4x4_S1x1_3_1) (cut6 arg3 (k0_off21 d0 3#32) (k0_off21_inb d0 1)) (cut7 arg7 (k0_off22 d0) (k0_off22_inb d0)) ((harg3.wordExact_slice rfl _ (k0_off21_wordsbf16 d0 1)).reshape _ _) ((harg7.wordExact_slice rfl _ (k0_off22_wordsbf16 d0)).reshape _ _))
    | 2 => Prog.lift (.waitDma2 (cell0 arg9 ![3, 2] inb_S4x4_S1x1_3_2) (cut6 arg3 (k0_off21 d0 5#32) (k0_off21_inb d0 2)) (cut7 arg7 (k0_off23 d0) (k0_off23_inb d0)) ((harg3.wordExact_slice rfl _ (k0_off21_wordsbf16 d0 2)).reshape _ _) ((harg7.wordExact_slice rfl _ (k0_off23_wordsbf16 d0)).reshape _ _))
    | 3 => Prog.lift (.waitDma2 (cell0 arg9 ![3, 3] inb_S4x4_S1x1_3_3) (cut6 arg3 (k0_off21 d0 7#32) (k0_off21_inb d0 3)) (cut7 arg7 (k0_off24 d0) (k0_off24_inb d0)) ((harg3.wordExact_slice rfl _ (k0_off21_wordsbf16 d0 3)).reshape _ _) ((harg7.wordExact_slice rfl _ (k0_off24_wordsbf16 d0)).reshape _ _))

/-- The gradients and chips, in the order the kernel takes them. -/
def pairs : List (Fin 4 × Fin 4) :=
  [(0, 0), (0, 1), (0, 2), (0, 3), (1, 0), (1, 1), (1, 2), (1, 3), (2, 0), (2, 1), (2, 2), (2, 3), (3, 0), (3, 1), (3, 2), (3, 3)]

/-- A gradient's part for a chip: kept, and sent. -/
def issue (d0 : Dev nD) (x : Fin 4 × Fin 4) : Op F := (home d0 x.1 x.2).bind fun _ => send d0 x.1 x.2
/-- The three waits for it. -/
def await (d0 : Dev nD) (x : Fin 4 × Fin 4) : Op F :=
  (waitHome d0 x.1 x.2).bind fun _ => (waitSent d0 x.1 x.2).bind fun _ => waitReceived d0 x.1 x.2

set_option maxRecDepth 65536 in
set_option maxHeartbeats 4000000 in
/-- The kernel is these operations. -/
theorem body_eq (t : Fin cfg0.N) : bodyAt0 (F := F) t
    = .op .deviceId fun d0 => (seq (pairs.map (issue d0))).bind fun _ => seq (pairs.map (await d0)) := rfl

end Cert.PairIdeal.Pair
-- ==== Proof.PairSteps.lean ====
/-
# The pair exchange: each operation, from what it needs to what it leaves

A step is proved once for every gradient, chip and device, over the views and semaphores it names; the printed
operations are instances of it.
-/
module

public import proofs.«01_k».proof.Proof.PairPlan
public import proofs.«01_k».proof.Proof.PairOps

@[expose] public section

noncomputable section

namespace Cert.PairIdeal.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx
open Cert.OneShot Cert.Blocks
open Cert.PairIdeal Cert.PairIdeal.Gen

set_option Elab.async false

variable {F : FTy → Type} [FloatOps F]

local notation "𝕄" => MT nD τ sig Unit (Elt F) ℕ UU ℕ

variable (m : (ℓ : Loc nD τ sig) → Buf (Elt F) ℓ)

abbrev 𝒱₀ : Variants := Variants.none

/-- A view of block `b` as the kernel writes it: through some offsets that are the block's. -/
abbrev at3 (a : Fin 4) (off : Fin 3 → ℕ) (inb : ∀ i, off i + (M3 1 (rows a) (cols a)).size i ≤ (M3 8 (rows a) (cols a)).size i)
    (h : (M3 1 (rows a) (cols a)).Squeezes (M2 (rows a) (cols a))) : Memref sig .tc .hbm (M2 (rows a) (cols a)) .bf16 :=
  ((src a).slice (Rect.unit (s := M3 8 (rows a) (cols a)) off (M3 1 (rows a) (cols a)).size inb) (fun _ => rfl)).squeeze (M2 (rows a) (cols a)) h

/-- A view of block `(q, e)`, likewise. -/
abbrev at4 (a : Fin 4) (off : Fin 4 → ℕ) (inb : ∀ i, off i + (M4 1 1 (rows a) (cols a)).size i ≤ (M4 4 2 (rows a) (cols a)).size i)
    (h : (M4 1 1 (rows a) (cols a)).Squeezes (M2 (rows a) (cols a))) : Memref sig .tc .hbm (M2 (rows a) (cols a)) .bf16 :=
  ((out a).slice (Rect.unit (s := M4 4 2 (rows a) (cols a)) off (M4 1 1 (rows a) (cols a)).size inb) (fun _ => rfl)).squeeze (M2 (rows a) (cols a)) h

variable {offA : Fin 3 → ℕ} {offD : Fin 4 → ℕ} {sm sr : SemLoc sig}

theorem step_home (c : Dev nD) (a q : Fin 4) {f : Buf (Elt F) ((out a).view.loc (c.tc : Thread nD τ))}
    (hA : offA = ![(part q (core c)).val, 0, 0]) (hD : offD = ![q.val, (core c).val, 0, 0]) (hs : sm = .dma (osem (2, a, q)))
    {inbA hqA inbD hqD h1 h2} {h3 : DmaTarget.Typed (nD := nD) (p := (Proc.tc : Proc τ)) .hbm sm (.here (at4 a offD inbD hqD))} :
    Runs (defs₀ (F := F)) 𝒱₀ c iprop((plan m).knows ER ∗ srcPart m c a (part q (core c)) ∗ outPart c a q (core c) f ∗ (plan m).tok ER c (2, a, q))
      (Prog.lift (.enqueueDma (at3 a offA inbA hqA) (.here (at4 a offD inbD hqD)) sm h1 h2 h3)) ((plan m).crd c (2, a, q)) := by
  subst hA hD
  exact runs_copy (plan m) ER c (2, a, q) (src := blk3 (src a) (part q (core c))) (dst := blk4 (out a) q (core c)) (q := fullShare)
    (fs := given m c a) (fd := f) hs rfl (by subst hs; rfl) (by
      rw [landed (c := c) (c' := c) (reads_home m c a q)]
      exact Entails.rfl)

theorem step_send (c : Dev nD) (a q : Fin 4) {f : Buf (Elt F) ((out a).view.loc ((sib c).tc : Thread nD τ))}
    (hA : offA = ![(part q (flip (core c))).val, 0, 0]) (hD : offD = ![q.val, (core c).val, 0, 0])
    {d : Dev nD} (hd : d = sib c) (hs : sm = .dma (osem (0, a, q))) (hr : sr = .dma (osem (1, a, q)))
    (O : CellTallies nD τ sig Unit) {inbA hqA inbD hqD hsc h1 h2}
    {h3 : DmaTarget.Typed .hbm sr (.remote (Dev.tc d : Thread nD τ) (at4 a offD inbD hqD : Memref sig (Dev.tc d : Thread nD τ).2.kind .hbm (M2 (rows a) (cols a)) .bf16) sm hsc)} :
    Runs (defs₀ (F := F)) 𝒱₀ c iprop((plan m).knows ER ∗ srcPart m c a (part q (flip (core c))) ∗ outPart (sib c) a q (core c) f
        ∗ (plan m).tok ER c (0, a, q) ∗ (plan m).tok ER (sib c) (1, a, q) ∗ owing c (O + (plan m).due (sib c) (1, a, q)))
      (Prog.lift (.enqueueDma (at3 a offA inbA hqA) (.remote (Dev.tc d : Thread nD τ) (at4 a offD inbD hqD) sm hsc) sr h1 h2 h3))
      iprop((plan m).crd c (0, a, q) ∗ owing c O) := by
  subst hA hD hd
  exact runs_send (plan m) ER c (sib c) (0, a, q) (1, a, q) (src := blk3 (src a) (part q (flip (core c)))) (dst := blk4 (out a) q (core c)) (q := fullShare)
    (fs := given m c a) (fd := f) hs hr rfl rfl (by subst hr; rfl) rfl Entails.rfl (by
      rw [landed (c := c) (c' := sib c) (reads_sent m c a q)]
      show outPart (sib c) a q (core c) (want m (sib c) a) ⊢ outPart (sib c) a q (flip (core (sib c))) (want m (sib c) a)
      rw [core_sib, flip_flip]) O

theorem step_wait (c : Dev nD) (k : Fin 3) (a q : Fin 4) {w : TpuEff nD τ sig (Elt F) Λ₀ .tc PUnit} {k' : ℕ}
    (hw : ∀ K : PUnit → sProp 𝕄, wpE (defs₀ (F := F)) 𝒱₀ (c.tc : Thread nD τ) none Set.univ w K = waitSpec (c.tc : Thread nD τ) Set.univ sm k' K)
    (hs : sm = .dma (osem (k, a, q))) (hN : k' = credit a) :
    Runs (defs₀ (F := F)) 𝒱₀ c iprop((plan m).knows ER ∗ levAts Lall (lvOf fun _ => 0) ∗ (plan m).crd c (k, a, q) ∗ (plan m).place ER c (k, a, q) ∗ owing c 0)
      (Prog.lift w) iprop((plan m).pay c (k, a, q) ∗ (plan m).over ER c (k, a, q) ∗ owing c 0) :=
  runs_wait (plan m) ER c (k, a, q) (lvS := fun _ => 0) hw hs rfl hN 0 (above_zero _ _)

/-! ## The printed operations -/

variable (c : Dev nD)

set_option maxRecDepth 4000

theorem runs_home : ∀ (a q : Fin 4) (f : Buf (Elt F) ((out a).view.loc (c.tc : Thread nD τ))),
    Runs (defs₀ (F := F)) 𝒱₀ c iprop((plan m).knows ER ∗ srcPart m c a (part q (core c)) ∗ outPart c a q (core c) f ∗ (plan m).tok ER c (2, a, q))
      (home c a q) ((plan m).crd c (2, a, q))
  | 0 => fun
    | 0 => fun f => step_home m c 0 0 (f := f) (k0_off2_eq c 0) (k0_off1_eq c) rfl
    | 1 => fun f => step_home m c 0 1 (f := f) (k0_off2_eq c 1) (k0_off4_eq c) rfl
    | 2 => fun f => step_home m c 0 2 (f := f) (k0_off2_eq c 2) (k0_off5_eq c) rfl
    | 3 => fun f => step_home m c 0 3 (f := f) (k0_off2_eq c 3) (k0_off6_eq c) rfl
  | 1 => fun
    | 0 => fun f => step_home m c 1 0 (f := f) (k0_off8_eq c 0) (k0_off7_eq c) rfl
    | 1 => fun f => step_home m c 1 1 (f := f) (k0_off8_eq c 1) (k0_off10_eq c) rfl
    | 2 => fun f => step_home m c 1 2 (f := f) (k0_off8_eq c 2) (k0_off11_eq c) rfl
    | 3 => fun f => step_home m c 1 3 (f := f) (k0_off8_eq c 3) (k0_off12_eq c) rfl
  | 2 => fun
    | 0 => fun f => step_home m c 2 0 (f := f) (k0_off14_eq c 0) (k0_off13_eq c) rfl
    | 1 => fun f => step_home m c 2 1 (f := f) (k0_off14_eq c 1) (k0_off16_eq c) rfl
    | 2 => fun f => step_home m c 2 2 (f := f) (k0_off14_eq c 2) (k0_off17_eq c) rfl
    | 3 => fun f => step_home m c 2 3 (f := f) (k0_off14_eq c 3) (k0_off18_eq c) rfl
  | 3 => fun
    | 0 => fun f => step_home m c 3 0 (f := f) (k0_off20_eq c 0) (k0_off19_eq c) rfl
    | 1 => fun f => step_home m c 3 1 (f := f) (k0_off20_eq c 1) (k0_off22_eq c) rfl
    | 2 => fun f => step_home m c 3 2 (f := f) (k0_off20_eq c 2) (k0_off23_eq c) rfl
    | 3 => fun f => step_home m c 3 3 (f := f) (k0_off20_eq c 3) (k0_off24_eq c) rfl

theorem runs_sent (O : CellTallies nD τ sig Unit) : ∀ (a q : Fin 4) (f : Buf (Elt F) ((out a).view.loc ((sib c).tc : Thread nD τ))),
    Runs (defs₀ (F := F)) 𝒱₀ c iprop((plan m).knows ER ∗ srcPart m c a (part q (flip (core c))) ∗ outPart (sib c) a q (core c) f
        ∗ (plan m).tok ER c (0, a, q) ∗ (plan m).tok ER (sib c) (1, a, q) ∗ owing c (O + (plan m).due (sib c) (1, a, q)))
      (send c a q) iprop((plan m).crd c (0, a, q) ∗ owing c O)
  | 0 => fun
    | 0 => fun f => step_send m c 0 0 (f := f) ((k0_off3_eq c 0).trans (by rw [part_other])) (k0_off1_eq c) (Fin.ext ((k0_dev1_eq c).trans (sib_val c))) rfl rfl O
    | 1 => fun f => step_send m c 0 1 (f := f) ((k0_off3_eq c 1).trans (by rw [part_other])) (k0_off4_eq c) (Fin.ext ((k0_dev2_eq c).trans (sib_val c))) rfl rfl O
    | 2 => fun f => step_send m c 0 2 (f := f) ((k0_off3_eq c 2).trans (by rw [part_other])) (k0_off5_eq c) (Fin.ext ((k0_dev3_eq c).trans (sib_val c))) rfl rfl O
    | 3 => fun f => step_send m c 0 3 (f := f) ((k0_off3_eq c 3).trans (by rw [part_other])) (k0_off6_eq c) (Fin.ext ((k0_dev4_eq c).trans (sib_val c))) rfl rfl O
  | 1 => fun
    | 0 => fun f => step_send m c 1 0 (f := f) ((k0_off9_eq c 0).trans (by rw [part_other])) (k0_off7_eq c) (Fin.ext ((k0_dev5_eq c).trans (sib_val c))) rfl rfl O
    | 1 => fun f => step_send m c 1 1 (f := f) ((k0_off9_eq c 1).trans (by rw [part_other])) (k0_off10_eq c) (Fin.ext ((k0_dev6_eq c).trans (sib_val c))) rfl rfl O
    | 2 => fun f => step_send m c 1 2 (f := f) ((k0_off9_eq c 2).trans (by rw [part_other])) (k0_off11_eq c) (Fin.ext ((k0_dev7_eq c).trans (sib_val c))) rfl rfl O
    | 3 => fun f => step_send m c 1 3 (f := f) ((k0_off9_eq c 3).trans (by rw [part_other])) (k0_off12_eq c) (Fin.ext ((k0_dev8_eq c).trans (sib_val c))) rfl rfl O
  | 2 => fun
    | 0 => fun f => step_send m c 2 0 (f := f) ((k0_off15_eq c 0).trans (by rw [part_other])) (k0_off13_eq c) (Fin.ext ((k0_dev9_eq c).trans (sib_val c))) rfl rfl O
    | 1 => fun f => step_send m c 2 1 (f := f) ((k0_off15_eq c 1).trans (by rw [part_other])) (k0_off16_eq c) (Fin.ext ((k0_dev10_eq c).trans (sib_val c))) rfl rfl O
    | 2 => fun f => step_send m c 2 2 (f := f) ((k0_off15_eq c 2).trans (by rw [part_other])) (k0_off17_eq c) (Fin.ext ((k0_dev11_eq c).trans (sib_val c))) rfl rfl O
    | 3 => fun f => step_send m c 2 3 (f := f) ((k0_off15_eq c 3).trans (by rw [part_other])) (k0_off18_eq c) (Fin.ext ((k0_dev12_eq c).trans (sib_val c))) rfl rfl O
  | 3 => fun
    | 0 => fun f => step_send m c 3 0 (f := f) ((k0_off21_eq c 0).trans (by rw [part_other])) (k0_off19_eq c) (Fin.ext ((k0_dev13_eq c).trans (sib_val c))) rfl rfl O
    | 1 => fun f => step_send m c 3 1 (f := f) ((k0_off21_eq c 1).trans (by rw [part_other])) (k0_off22_eq c) (Fin.ext ((k0_dev14_eq c).trans (sib_val c))) rfl rfl O
    | 2 => fun f => step_send m c 3 2 (f := f) ((k0_off21_eq c 2).trans (by rw [part_other])) (k0_off23_eq c) (Fin.ext ((k0_dev15_eq c).trans (sib_val c))) rfl rfl O
    | 3 => fun f => step_send m c 3 3 (f := f) ((k0_off21_eq c 3).trans (by rw [part_other])) (k0_off24_eq c) (Fin.ext ((k0_dev16_eq c).trans (sib_val c))) rfl rfl O

/-- What a wait takes, -/
def awaits (k : Fin 3) (a q : Fin 4) : sProp 𝕄 :=
  iprop((plan m).knows ER ∗ levAts Lall (lvOf fun _ => 0) ∗ (plan m).crd c (k, a, q) ∗ (plan m).place ER c (k, a, q) ∗ owing c 0)
/-- and what it leaves. -/
def awaited (k : Fin 3) (a q : Fin 4) : sProp 𝕄 := iprop((plan m).pay c (k, a, q) ∗ (plan m).over ER c (k, a, q) ∗ owing c 0)

theorem runs_waitHome : ∀ a q : Fin 4, Runs (defs₀ (F := F)) 𝒱₀ c (awaits m c 2 a q) (waitHome c a q) (awaited m c 2 a q)
  | 0 => fun
    | 0 => step_wait m c 2 0 0 (fun K => wpE_waitDma2_eq 𝒱₀ _ none Set.univ K) rfl rfl
    | 1 => step_wait m c 2 0 1 (fun K => wpE_waitDma2_eq 𝒱₀ _ none Set.univ K) rfl rfl
    | 2 => step_wait m c 2 0 2 (fun K => wpE_waitDma2_eq 𝒱₀ _ none Set.univ K) rfl rfl
    | 3 => step_wait m c 2 0 3 (fun K => wpE_waitDma2_eq 𝒱₀ _ none Set.univ K) rfl rfl
  | 1 => fun
    | 0 => step_wait m c 2 1 0 (fun K => wpE_waitDma2_eq 𝒱₀ _ none Set.univ K) rfl rfl
    | 1 => step_wait m c 2 1 1 (fun K => wpE_waitDma2_eq 𝒱₀ _ none Set.univ K) rfl rfl
    | 2 => step_wait m c 2 1 2 (fun K => wpE_waitDma2_eq 𝒱₀ _ none Set.univ K) rfl rfl
    | 3 => step_wait m c 2 1 3 (fun K => wpE_waitDma2_eq 𝒱₀ _ none Set.univ K) rfl rfl
  | 2 => fun
    | 0 => step_wait m c 2 2 0 (fun K => wpE_waitDma2_eq 𝒱₀ _ none Set.univ K) rfl rfl
    | 1 => step_wait m c 2 2 1 (fun K => wpE_waitDma2_eq 𝒱₀ _ none Set.univ K) rfl rfl
    | 2 => step_wait m c 2 2 2 (fun K => wpE_waitDma2_eq 𝒱₀ _ none Set.univ K) rfl rfl
    | 3 => step_wait m c 2 2 3 (fun K => wpE_waitDma2_eq 𝒱₀ _ none Set.univ K) rfl rfl
  | 3 => fun
    | 0 => step_wait m c 2 3 0 (fun K => wpE_waitDma2_eq 𝒱₀ _ none Set.univ K) rfl rfl
    | 1 => step_wait m c 2 3 1 (fun K => wpE_waitDma2_eq 𝒱₀ _ none Set.univ K) rfl rfl
    | 2 => step_wait m c 2 3 2 (fun K => wpE_waitDma2_eq 𝒱₀ _ none Set.univ K) rfl rfl
    | 3 => step_wait m c 2 3 3 (fun K => wpE_waitDma2_eq 𝒱₀ _ none Set.univ K) rfl rfl

theorem runs_waitSent : ∀ a q : Fin 4, Runs (defs₀ (F := F)) 𝒱₀ c (awaits m c 0 a q) (waitSent c a q) (awaited m c 0 a q)
  | 0 => fun
    | 0 => step_wait m c 0 0 0 (fun K => wpE_waitDma2_eq 𝒱₀ _ none Set.univ K) rfl rfl
    | 1 => step_wait m c 0 0 1 (fun K => wpE_waitDma2_eq 𝒱₀ _ none Set.univ K) rfl rfl
    | 2 => step_wait m c 0 0 2 (fun K => wpE_waitDma2_eq 𝒱₀ _ none Set.univ K) rfl rfl
    | 3 => step_wait m c 0 0 3 (fun K => wpE_waitDma2_eq 𝒱₀ _ none Set.univ K) rfl rfl
  | 1 => fun
    | 0 => step_wait m c 0 1 0 (fun K => wpE_waitDma2_eq 𝒱₀ _ none Set.univ K) rfl rfl
    | 1 => step_wait m c 0 1 1 (fun K => wpE_waitDma2_eq 𝒱₀ _ none Set.univ K) rfl rfl
    | 2 => step_wait m c 0 1 2 (fun K => wpE_waitDma2_eq 𝒱₀ _ none Set.univ K) rfl rfl
    | 3 => step_wait m c 0 1 3 (fun K => wpE_waitDma2_eq 𝒱₀ _ none Set.univ K) rfl rfl
  | 2 => fun
    | 0 => step_wait m c 0 2 0 (fun K => wpE_waitDma2_eq 𝒱₀ _ none Set.univ K) rfl rfl
    | 1 => step_wait m c 0 2 1 (fun K => wpE_waitDma2_eq 𝒱₀ _ none Set.univ K) rfl rfl
    | 2 => step_wait m c 0 2 2 (fun K => wpE_waitDma2_eq 𝒱₀ _ none Set.univ K) rfl rfl
    | 3 => step_wait m c 0 2 3 (fun K => wpE_waitDma2_eq 𝒱₀ _ none Set.univ K) rfl rfl
  | 3 => fun
    | 0 => step_wait m c 0 3 0 (fun K => wpE_waitDma2_eq 𝒱₀ _ none Set.univ K) rfl rfl
    | 1 => step_wait m c 0 3 1 (fun K => wpE_waitDma2_eq 𝒱₀ _ none Set.univ K) rfl rfl
    | 2 => step_wait m c 0 3 2 (fun K => wpE_waitDma2_eq 𝒱₀ _ none Set.univ K) rfl rfl
    | 3 => step_wait m c 0 3 3 (fun K => wpE_waitDma2_eq 𝒱₀ _ none Set.univ K) rfl rfl

theorem runs_waitReceived : ∀ a q : Fin 4, Runs (defs₀ (F := F)) 𝒱₀ c (awaits m c 1 a q) (waitReceived c a q) (awaited m c 1 a q)
  | 0 => fun
    | 0 => step_wait m c 1 0 0 (fun K => wpE_waitDma2_eq 𝒱₀ _ none Set.univ K) rfl rfl
    | 1 => step_wait m c 1 0 1 (fun K => wpE_waitDma2_eq 𝒱₀ _ none Set.univ K) rfl rfl
    | 2 => step_wait m c 1 0 2 (fun K => wpE_waitDma2_eq 𝒱₀ _ none Set.univ K) rfl rfl
    | 3 => step_wait m c 1 0 3 (fun K => wpE_waitDma2_eq 𝒱₀ _ none Set.univ K) rfl rfl
  | 1 => fun
    | 0 => step_wait m c 1 1 0 (fun K => wpE_waitDma2_eq 𝒱₀ _ none Set.univ K) rfl rfl
    | 1 => step_wait m c 1 1 1 (fun K => wpE_waitDma2_eq 𝒱₀ _ none Set.univ K) rfl rfl
    | 2 => step_wait m c 1 1 2 (fun K => wpE_waitDma2_eq 𝒱₀ _ none Set.univ K) rfl rfl
    | 3 => step_wait m c 1 1 3 (fun K => wpE_waitDma2_eq 𝒱₀ _ none Set.univ K) rfl rfl
  | 2 => fun
    | 0 => step_wait m c 1 2 0 (fun K => wpE_waitDma2_eq 𝒱₀ _ none Set.univ K) rfl rfl
    | 1 => step_wait m c 1 2 1 (fun K => wpE_waitDma2_eq 𝒱₀ _ none Set.univ K) rfl rfl
    | 2 => step_wait m c 1 2 2 (fun K => wpE_waitDma2_eq 𝒱₀ _ none Set.univ K) rfl rfl
    | 3 => step_wait m c 1 2 3 (fun K => wpE_waitDma2_eq 𝒱₀ _ none Set.univ K) rfl rfl
  | 3 => fun
    | 0 => step_wait m c 1 3 0 (fun K => wpE_waitDma2_eq 𝒱₀ _ none Set.univ K) rfl rfl
    | 1 => step_wait m c 1 3 1 (fun K => wpE_waitDma2_eq 𝒱₀ _ none Set.univ K) rfl rfl
    | 2 => step_wait m c 1 3 2 (fun K => wpE_waitDma2_eq 𝒱₀ _ none Set.univ K) rfl rfl
    | 3 => step_wait m c 1 3 3 (fun K => wpE_waitDma2_eq 𝒱₀ _ none Set.univ K) rfl rfl

end Cert.PairIdeal.Pair
-- ==== Proof.Region.lean ====
/-
# Entering and leaving a kernel that has no pipelined window

Such a kernel takes whole arrays left where they are: its launch stages nothing, so entering it needs only what
the kernel itself runs from, and what is owed before and after is the kernel's own.
-/
module

public import proofs.«01_k».proof.Proof.Start

@[expose] public section

noncomputable section

namespace Cert.Region

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

set_option Elab.async false

variable {nD : Nat} {τ : Topo} {sig : RefSig} {Val : EltTy → Type} {U : Type} [URA U] {Λ₀ : Labels}

local notation "𝕄" => MT nD τ sig Unit Val ℕ U ℕ

variable (pcs : Fin 1 → PCfg sig Λ₀ Val) (a : (p : Fin 1) → (pcs p).Adm)
  (pdats : (p : Fin 1) → (c : Dev nD) → Dat τ Val Unit ℕ U ℕ (pin pcs a p) c)
  (ER : Emb (URounds (GSem nD τ sig) Unit) (MT nD τ sig Unit Val ℕ U ℕ))
  (phinj : Function.Injective (cellOf (nD := nD) (τ := τ) (pin pcs a)))
  (defs₀ : Defs nD τ sig Val Λ₀) (𝒱₀ : Variants)

theorem none_of {n : ℕ} (h : n = 0) (Φ : Fin n → sProp 𝕄) : bigSep Finset.univ Φ = iprop(emp) := by
  subst h
  rw [show (Finset.univ : Finset (Fin 0)) = ∅ from rfl, bigSep_empty]
  rfl

include phinj ER in
/-- The call of a kernel without windows: from what it owes and runs from, to what it leaves. -/
theorem run_bare [∀ e, Nonempty (Val e)] (hW : (pin pcs a 0).W = 0) (hK : (pcs 0).pre.K = 0) (c : Dev nD)
    (hbody : BodyObligationLoose (pdats 0 c) defs₀ 𝒱₀ () Set.univ)
    {own idle R X Y : sProp 𝕄}
    (hbufs : (scopedBufs (c.tc : Thread nD τ) : sProp 𝕄) = iprop(Dat.staging (pin pcs a 0) c ∗ R))
    (hsems : (scopedSems0 (c.tc : Thread nD τ) : sProp 𝕄) = iprop((cellsSems0 (pin pcs a) 0 c ∗ own) ∗ idle))
    (hin : iprop(X ∗ R) ⊢ (pdats 0 c).Φ 0)
    (hout : (pdats 0 c).Φ (Fin.last (pin pcs a 0).N) ⊢ iprop(Y ∗ own ∗ R)) :
    iprop(owes (c.tc : Thread nD τ) ((pdats 0 c).owed 0) ∅ ∗ X ∗ idle ∗ scopedBufs (c.tc : Thread nD τ))
      ⊢ wp frame (wpE (Pipeline.defs pcs defs₀) (Variants.lift 𝒱₀) (c.tc : Thread nD τ) none) Set.univ
          (Prog.lift (.customCall (entry 0) ()))
          fun _ => iprop((Y ∗ scopedSems0 (c.tc : Thread nD τ) ∗ scopedBufs (c.tc : Thread nD τ))
            ∗ ∃ W, owes (c.tc : Thread nD τ) ((pdats 0 c).owed (Fin.last (pin pcs a 0).N)) W) := by
  have hNone (Φ : Fin (pin pcs a 0).W → sProp 𝕄) : bigSep Finset.univ Φ = iprop(emp) := none_of hW Φ
  have hNoK (Φ : Fin (pcs 0).pre.K → sProp 𝕄) : bigSep Finset.univ Φ = iprop(emp) := none_of hK Φ
  have he := wp_customCall_entry_frame pcs a pdats () ER (fun _ => 0) phinj 0 defs₀ 𝒱₀ (fun _ => fullShare) c Set.univ (fun _ _ => Set.mem_univ _)
    hbody (fun w => absurd w.isLt (by have := w.isLt; omega)) none (fun u h => nomatch h) (X := X) (Y := Y) (R := R) (I := idle)
    (Entails.of_eq hbufs)
    (by
      unfold prefHeld
      rw [hNoK]
      iintro ⟨HX, -, HR⟩
      iapply hin $$ [HX HR]
      isplitl [HX] <;> iassumption)
    (by
      rw [hbufs, hsems]
      iintro ⟨HΦ, Hc, Hs, Hi⟩
      ihave H := hout $$ HΦ
      icases H with ⟨HY, Ho, HR⟩
      isplitl [HY]; · iexact HY
      isplitl [Hc Ho Hi]
      · isplitl [Hc Ho]
        · isplitl [Hc] <;> iassumption
        · iexact Hi
      · isplitl [Hs] <;> iassumption)
    (α := PUnit) (k := fun _ => Prog.ret PUnit.unit) (Q := fun _ => iprop((Y ∗ scopedSems0 (c.tc : Thread nD τ) ∗ scopedBufs (c.tc : Thread nD τ))
            ∗ ∃ W, owes (c.tc : Thread nD τ) ((pdats 0 c).owed (Fin.last (pin pcs a 0).N)) W))
  unfold EntryPre EntryPost PerCore.EntryPre PerCore.EntryPost Dat.arrays Dat.owesAt owesWithin PerCore.cellsWaits PerCore.cellsInit PerCore.toksInit PerCore.RDat.cellsWaits PerCore.RDat.cellsInit prefHeld at he
  simp only [hNone, hNoK] at he
  iintro ⟨HO, HX, HI, HB⟩
  iapply he $$ [HO HX HI HB]
  · isplitl [HO]
    · isplitr; · iempintro
      isplitl [HO]
      · iexists ∅
        isplitr; · ipureintro; rw [Finset.coe_empty]; exact Set.empty_subset _
        iexact HO
      isplitr; · iempintro
      isplitr; · iempintro
      iempintro
    isplitr; · iempintro
    isplitl [HX]; · iexact HX
    isplitl [HI] <;> iassumption
  iintro ⟨⟨-, ⟨%W, -, HW⟩⟩, HY, HS, HB⟩
  rw [wp_ret]; imodintro
  isplitr [HW]
  · isplitl [HY]; · iexact HY
    isplitl [HS] <;> iassumption
  iexists W; iexact HW

end Cert.Region
-- ==== Proof.Exchange.lean ====
/-
# A program that is one exchange

The program of this problem is one kernel that takes whole arrays and runs by a plan of copies that each land once.
`run_exchange` says what is left to show of such a program: how the arrays and the rights to copy are dealt to the
devices, what one device's body does with its share, and what the final memory is read out of.
-/
module

public import proofs.«01_k».proof.Proof.Region
public import proofs.«01_k».proof.Proof.OneShot
public import Idealize.ShloMosaic.Lib.Pipeline.Kit

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Start Cert.OneShot

set_option Elab.async false

variable {nD : Nat} {τ : Topo} {sig : RefSig} {Val : EltTy → Type} {Λ₀ : Labels}

abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (cfgs : Fin 1 → Cfg sig Λ₀) (defs₀ : Defs nD τ sig Val Λ₀)
  {J X : Type} [Fintype J] [DecidableEq J] [Fintype X] [DecidableEq X]
  (P : Plan nD sig (MT nD τ sig Unit Val ℕ (UU nD τ sig) ℕ) J)
  (rj : X → J) (e : Dev nD × X ≃ Dev nD × X) (lvS : SemLoc sig → ℕ) (H H' : Dev nD → sProp (MT nD τ sig Unit Val ℕ (UU nD τ sig) ℕ))

/-- What a device enters the kernel with, -/
def enter (c : Dev nD) : sProp 𝕄 :=
  iprop(P.knows ER ∗ levAts Lall (lvOf lvS) ∗ H c ∗ (bigSep Finset.univ fun x => cred (P.due c (rj x))) ∗ bigSep Finset.univ fun j => P.place ER c j)
/-- and what it leaves with. -/
def leave (c : Dev nD) : sProp 𝕄 := iprop(H' c ∗ bigSep Finset.univ fun j => (semVal (P.cell c j) 0 : sProp 𝕄))

/-- The kernel as the launch sees it. -/
def dat (hW : (cfgs 0).W = 0) (p : Fin 1) (c : Dev nD) : Dat τ Val Unit ℕ (UU nD τ sig) ℕ (cfgs p) c where
  A w := absurd w.isLt (fun h => Nat.not_lt_zero _ (lt_of_lt_of_eq h (Fin.fin_one_eq_zero p ▸ hW)))
  after w := absurd w.isLt (fun h => Nat.not_lt_zero _ (lt_of_lt_of_eq h (Fin.fin_one_eq_zero p ▸ hW)))
  Φ t := if t.val = 0 then enter P rj lvS H c else leave P H' c
  q _ := fullShare
  owed t := if t.val = 0 then dues P rj e c else 0

theorem sep4 {I : Type} (s : Finset I) (A B C D : I → sProp 𝕄) :
    bigSep s (fun i => iprop(A i ∗ B i ∗ C i ∗ D i)) = iprop(bigSep s A ∗ bigSep s B ∗ bigSep s C ∗ bigSep s D) := by
  rw [bigSep_sep' s A (fun i => iprop(B i ∗ C i ∗ D i)), bigSep_sep' s B (fun i => iprop(C i ∗ D i)), bigSep_sep' s C D]

theorem sep5 {I : Type} (s : Finset I) (A B C D E : I → sProp 𝕄) :
    bigSep s (fun i => iprop(A i ∗ B i ∗ C i ∗ D i ∗ E i)) = iprop(bigSep s A ∗ bigSep s B ∗ bigSep s C ∗ bigSep s D ∗ bigSep s E) := by
  rw [bigSep_sep' s A (fun i => iprop(B i ∗ C i ∗ D i ∗ E i)), sep4]

theorem run_exchange [∀ e, Nonempty (Val e)] [∀ c j, Storable (upEmb : UEmb _ 𝕄) (P.pay c j)]
    (hW : (cfgs 0).W = 0) (hN : (cfgs 0).N = 1) (hinj : Function.Injective (cellOf (nD := nD) (τ := τ) cfgs))
    (hwf : WinFacts (cfgs 0).spec) (hst : ∀ w s, (((cfgs 0).spec w).stage s).IsWhole)
    (ho : OwnSemFacts (cfgs 0).spec (fun j => (.dma (P.osem j) : SemLoc sig)))
    (hrest : ∀ c : Dev nD, (scopedRest (cfgs 0).spec c : sProp 𝕄) = BI.emp)
    (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (hmain : ∀ c, main c = Prog.lift (.customCall (entry 0) ()))
    (hdeal : iprop((bigSep Finset.univ fun c : Dev nD => unscopedBufs c (fun b => m ((c.tc : Thread nD τ).loc b)))
        ∗ bigSep Finset.univ fun k : Dev nD × J => P.tok ER k.1 k.2) ⊢ bigSep Finset.univ H)
    (𝒱₀ : Variants)
    (hbody : ∀ c (t : Fin (cfgs 0).N), iprop(enter P rj lvS H c ∗ Cert.OneShot.owing c (dues P rj e c))
      ⊢ wp frame (wpE defs₀ 𝒱₀ (c.tc : Thread nD τ) none) Set.univ (defs₀ .tc (cfgs 0).body ((cfgs 0).bodyArgs t ((cfgs 0).slots t)))
        fun _ => iprop(P.knows ER ∗ H' c ∗ (bigSep Finset.univ fun j => P.over ER c j) ∗ Cert.OneShot.owing c 0))
    (QY : Dev nD → MemSt nD τ sig Val → Prop)
    (fin : ∀ c (s' : Phys nD τ sig Val), iprop(H' c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (fun p => (cfgs p).toPCfg) defs₀) (onTc main) ⟨m, fun _ => 0, g⟩ Q := by
  have hsems (c : Dev nD) := scopedSems0_split (Ix := Unit) (Val := Val) (Name := ℕ) (U := UU nD τ sig) (Lvl := ℕ) cfgs hinj 0 hwf.to₀ ho c
  have hbufs (c : Dev nD) : (scopedBufs (c.tc : Thread nD τ) : sProp 𝕄) = iprop(Dat.staging (cfgs 0) c ∗ emp) := by
    rw [scopedBufs_split cfgs 0 hwf.stage_scoped hwf.stage_inj hst c, hrest c]; rfl
  have hL : (⟨1, by omega⟩ : Fin ((cfgs 0).N + 1)) = Fin.last (cfgs 0).N := Fin.ext hN.symm
  have hob (c : Dev nD) : BodyObligation (dat cfgs P rj e lvS H H' hW 0 c) defs₀ 𝒱₀ () Set.univ := fun t => by
    have h0 : (t.castSucc : Fin _).val = 0 := by have := t.isLt; show t.val = 0; omega
    have h1 : (t.succ : Fin _).val ≠ 0 := by show t.val + 1 ≠ 0; omega
    rw [Cert.Region.none_of hW, Cert.Region.none_of hW]
    unfold Dat.owesAt owesWithin
    unfold dat
    dsimp only
    rw [if_pos h0, if_pos h0, if_neg h1, if_neg h1]
    refine BIBase.Entails.trans ?_ (BIBase.Entails.trans (hbody c t) (BIBase.Entails.trans (wp_mono _ _ _ fun _ => ?_) (wp_fupd _ _ _ _ _)))
    · iintro ⟨HE, ⟨%W, -, HO⟩, -⟩
      isplitl [HE]; · iexact HE
      unfold Cert.OneShot.owing
      iexists W; iexact HO
    · unfold Cert.OneShot.owing leave
      iintro ⟨#HK, HH, HV, ⟨%W', HO⟩⟩
      imod (close_cells P ER c) $$ [HV] with HS
      · isplitr; · iexact HK
        iexact HV
      imodintro
      isplitl [HH HS]
      · isplitl [HH]; · iexact HH
        iexact HS
      isplitl [HO]
      · iexists W'
        isplitr; · ipureintro; exact fun _ _ => Or.inl trivial
        iexact HO
      iempintro
  refine run_dealt (U := UU nD τ sig) _ (Variants.lift 𝒱₀) m g main (dues P rj e) Lall (lvOf lvS) Lall_of_ne
    (u₀ := (1, initOf (cellSet P) (tokSet P)))
    (pre := fun c => iprop(enter P rj lvS H c ∗ idleSems0 cfgs hinj 0 ho c ∗ scopedBufs (c.tc : Thread nD τ) ∗ opIdle (c.tc : Thread nD τ) ∗ owes (c.tc : Thread nD τ) (dues P rj e c) ∅))
    (T := H') ?_ (fun c => ?_) QY fin hQ
  · have split (c : Dev nD) : dealt m g (dues P rj e) c
        ⊢ iprop((bigSep Finset.univ fun j => semVal (P.cell c j) 0) ∗ unscopedBufs c (fun b => m ((c.tc : Thread nD τ).loc b))
          ∗ (bigSep Finset.univ fun x => cred (P.due c (rj x)))
          ∗ (idleSems0 cfgs hinj 0 ho c ∗ scopedBufs (c.tc : Thread nD τ) ∗ opIdle (c.tc : Thread nD τ) ∗ owes (c.tc : Thread nD τ) (dues P rj e c) ∅) : sProp 𝕄) := by
      unfold dealt boundary
      rw [hsems c, credits P rj e c, show (ownSems0 (fun j => (.dma (P.osem j) : SemLoc sig)) c : sProp 𝕄) = bigSep Finset.univ fun j => semVal (P.cell c j) 0 from rfl]
      iintro ⟨⟨Hb, ⟨⟨-, Hs⟩, Hi⟩, Hop⟩, Hu, -, HO, Hc, -⟩
      isplitl [Hs]; · iexact Hs
      isplitl [Hu]; · iexact Hu
      isplitl [Hc]; · iexact Hc
      isplitl [Hi]; · iexact Hi
      isplitl [Hb]; · iexact Hb
      isplitl [Hop] <;> iassumption
    have give : iprop(P.knows ER ∗ levAts Lall (lvOf lvS) ∗ bigSep Finset.univ H ∗ (bigSep Finset.univ fun c : Dev nD => bigSep Finset.univ fun x => cred (P.due c (rj x)))
        ∗ (bigSep Finset.univ fun k : Dev nD × J => P.place ER k.1 k.2) ∗ bigSep Finset.univ fun c : Dev nD => iprop(idleSems0 cfgs hinj 0 ho c ∗ scopedBufs (c.tc : Thread nD τ) ∗ opIdle (c.tc : Thread nD τ) ∗ owes (c.tc : Thread nD τ) (dues P rj e c) ∅))
        ⊢ bigSep Finset.univ fun c : Dev nD => iprop(enter P rj lvS H c ∗ iprop(idleSems0 cfgs hinj 0 ho c ∗ scopedBufs (c.tc : Thread nD τ) ∗ opIdle (c.tc : Thread nD τ) ∗ owes (c.tc : Thread nD τ) (dues P rj e c) ∅)) := by
      rw [bigSep_sep' Finset.univ (enter P rj lvS H)]
      unfold enter
      rw [sep5, bigSep_univ_prod (Φ := fun k : Dev nD × J => P.place ER k.1 k.2)]
      iintro ⟨#HK, Hl, HH, Hc, Hp, Hk⟩
      isplitr [Hk]
      · isplitr
        · iapply (bigSep_intro_persistent (S := (Finset.univ : Finset (Dev nD))) (R := P.knows ER) (Φ := fun _ => P.knows ER) (fun _ _ => Entails.rfl))
          iexact HK
        isplitl [Hl]
        · iapply (bigSep_intro_persistent (S := (Finset.univ : Finset (Dev nD))) (R := levAts Lall (lvOf lvS)) (Φ := fun _ => (levAts Lall (lvOf lvS) : sProp 𝕄)) (fun _ _ => Entails.rfl))
          iexact Hl
        isplitl [HH]; · iexact HH
        isplitl [Hc] <;> iassumption
      · iexact Hk
    refine BIBase.Entails.trans (sep_mono_left (bigSep_mono fun c _ => split c)) ?_
    rw [sep4]
    iintro ⟨⟨Hs, Hu, Hc, Hk⟩, Hl, Ho⟩
    ihave HU := (ownU_pair _ _) $$ Ho
    icases HU with ⟨-, HU⟩
    imod (open_cells P ER) $$ [Hs HU] with ⟨#HK, Hp, Ht⟩
    · isplitl [Hs]
      · rw [bigSep_univ_prod (Φ := fun k : Dev nD × J => (semVal (P.cell k.1 k.2) 0 : sProp 𝕄))]
        iexact Hs
      · iexact HU
    ihave HH := hdeal $$ [Hu Ht]
    · isplitl [Hu] <;> iassumption
    imodintro
    iapply give $$ [HK Hl HH Hc Hp Hk]
    isplitr; · iexact HK
    isplitl [Hl]; · iexact Hl
    isplitl [HH]; · iexact HH
    isplitl [Hc]; · iexact Hc
    isplitl [Hp]; · iexact Hp
    iexact Hk
  · rw [hmain c]
    have h0 : ((0 : Fin ((cfgs 0).N + 1))).val = 0 := rfl
    have h1 : (Fin.last (cfgs 0).N).val ≠ 0 := by rw [Fin.val_last, hN]; omega
    have hd0 : (dat cfgs P rj e lvS H H' hW 0 c).owed 0 = dues P rj e c := by
      exact if_pos (t := dues P rj e c) (e := 0) h0
    have hd1 : (dat cfgs P rj e lvS H H' hW 0 c).owed (Fin.last (cfgs 0).N) = 0 := by
      exact if_neg (t := dues P rj e c) (e := 0) h1
    have hp0 : (dat cfgs P rj e lvS H H' hW 0 c).Φ 0 = enter P rj lvS H c := by
      exact if_pos (t := enter P rj lvS H c) (e := leave P H' c) h0
    have hp1 : (dat cfgs P rj e lvS H H' hW 0 c).Φ (Fin.last (cfgs 0).N) = leave P H' c := by
      exact if_neg (t := enter P rj lvS H c) (e := leave P H' c) h1
    have hr := Cert.Region.run_bare (fun p => (cfgs p).toPCfg) (fun p => (cfgs p).toPCfg_adm) (dat cfgs P rj e lvS H H' hW) EP hinj defs₀ 𝒱₀ hW rfl c
      (hob c).loose (own := bigSep Finset.univ fun j => semVal (P.cell c j) 0) (idle := idleSems0 cfgs hinj 0 ho c) (R := iprop(emp))
      (X := enter P rj lvS H c) (Y := H' c) (hbufs c) (hsems c)
      (by
        refine BIBase.Entails.trans ?_ (Entails.of_eq hp0.symm)
        iintro ⟨H, -⟩; iexact H)
      (by
        refine BIBase.Entails.trans (Entails.of_eq hp1) ?_
        unfold leave
        iintro ⟨HH, HS⟩
        isplitl [HH]; · iexact HH
        isplitl [HS]; · iexact HS
        iempintro)
    rw [hd0] at hr
    refine BIBase.Entails.trans ?_ (BIBase.Entails.trans (sep_mono_left (Q := opIdle (c.tc : Thread nD τ)) hr) (BIBase.Entails.trans (wp_frame_r _ _ _) (wp_mono _ _ _ fun _ => ?_)))
    · iintro ⟨HE, Hi, Hb, Hop, HO⟩
      isplitr [Hop]
      · isplitl [HO]; · iexact HO
        isplitl [HE]; · iexact HE
        isplitl [Hi] <;> iassumption
      · iexact Hop
    · iintro ⟨⟨⟨HH, HS, HB⟩, ⟨%W, HW⟩⟩, Hop⟩
      isplitr [HW]
      · isplitl [HH]; · iexact HH
        unfold boundary
        isplitl [HB]; · iexact HB
        isplitl [HS] <;> iassumption
      · iexists W
        rw [← hd1]
        iexact HW

end Cert.Exchange
-- ==== Proof.PairBody.lean ====
/-
# The pair exchange: one device's body

First the sixteen copies home and the sixteen sends are issued, then all of them are waited for.
-/
module

public import proofs.«01_k».proof.Proof.PairSteps
public import proofs.«01_k».proof.Proof.Exchange

@[expose] public section

noncomputable section

namespace Cert.PairIdeal.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Blocks
open Cert.PairIdeal Cert.PairIdeal.Gen

set_option Elab.async false

variable {F : FTy → Type} [FloatOps F]

local notation "𝕄" => MT nD τ sig Unit (Elt F) ℕ UU ℕ

variable (m : (ℓ : Loc nD τ sig) → Buf (Elt F) ℓ)

/-- The semaphores of the sends, of the arrivals and of the copies at home. -/
theorem three (Φ : J → sProp 𝕄) : bigSep Finset.univ Φ
    = iprop((bigSep Finset.univ fun x => Φ (0, x)) ∗ (bigSep Finset.univ fun x => Φ (1, x)) ∗ bigSep Finset.univ fun x => Φ (2, x)) := by
  rw [bigSep_univ_prod]
  exact bigSep_univ_eq_bigSepL [0, 1, 2] (by decide) (by decide) _

/-- What a device issues copies `x` from: the two blocks of its gradient, the two places they go to, and the rights. -/
def ready (c : Dev nD) (x : Fin 4 × Fin 4) : sProp 𝕄 :=
  iprop(srcPart m c x.1 (part x.2 (core c)) ∗ srcPart m c x.1 (part x.2 (flip (core c))) ∗ (∃ f, outPart c x.1 x.2 (core c) f)
    ∗ (∃ f, outPart (sib c) x.1 x.2 (core c) f) ∗ (plan m).tok ER c (2, x) ∗ (plan m).tok ER c (0, x) ∗ (plan m).tok ER (sib c) (1, x))
/-- What it then holds: the credit to come of both. -/
def issued (c : Dev nD) (x : Fin 4 × Fin 4) : sProp 𝕄 := iprop((plan m).crd c (2, x) ∗ (plan m).crd c (0, x))
/-- What the three waits of `x` take -/
def pend (c : Dev nD) (x : Fin 4 × Fin 4) : sProp 𝕄 :=
  iprop((plan m).crd c (0, x) ∗ (plan m).crd c (1, x) ∗ (plan m).crd c (2, x) ∗ (plan m).place ER c (0, x) ∗ (plan m).place ER c (1, x) ∗ (plan m).place ER c (2, x))
/-- and leave. -/
def done (c : Dev nD) (x : Fin 4 × Fin 4) : sProp 𝕄 :=
  iprop((plan m).pay c (0, x) ∗ (plan m).pay c (1, x) ∗ (plan m).pay c (2, x) ∗ (plan m).over ER c (0, x) ∗ (plan m).over ER c (1, x) ∗ (plan m).over ER c (2, x))

theorem runs_issue (c : Dev nD) (x : Fin 4 × Fin 4) (O : CellTallies nD τ sig Unit) :
    Runs (defs₀ (F := F)) 𝒱₀ c iprop((plan m).knows ER ∗ ready m c x ∗ owing c (O + (plan m).due (sib c) (1, x))) (issue c x)
      iprop(issued m c x ∗ owing c O) := by
  obtain ⟨a, q⟩ := x
  unfold Runs ready
  iintro ⟨#HK, ⟨Hs, Hs', ⟨%f, Ho⟩, ⟨%f', Ho'⟩, Ht2, Ht0, Ht1⟩, HO⟩
  have h1 := (runs_home m c a q f).frame iprop((plan m).knows ER ∗ srcPart m c a (part q (flip (core c))) ∗ outPart (sib c) a q (core c) f'
        ∗ (plan m).tok ER c (0, a, q) ∗ (plan m).tok ER (sib c) (1, a, q) ∗ owing c (O + (plan m).due (sib c) (1, a, q)))
  have h2 := (runs_sent m c O a q f').frame ((plan m).crd c (2, a, q))
  have h := Runs.bind h1 (h2.mono (A' := _) (B' := iprop(issued m c (a, q) ∗ owing c O)) (by
      iintro ⟨Hc, H⟩
      isplitl [H] <;> iassumption) (by
      unfold issued
      iintro ⟨⟨H0, HO⟩, H2⟩
      isplitl [H0 H2]
      · isplitl [H2] <;> iassumption
      · iexact HO))
  unfold Runs at h
  iapply h
  isplitl [Hs Ho Ht2]
  · isplitr; · iexact HK
    isplitl [Hs]; · iexact Hs
    isplitl [Ho] <;> iassumption
  · isplitr; · iexact HK
    isplitl [Hs']; · iexact Hs'
    isplitl [Ho']; · iexact Ho'
    isplitl [Ht0]; · iexact Ht0
    isplitl [Ht1] <;> iassumption

theorem runs_await (c : Dev nD) (x : Fin 4 × Fin 4) :
    Runs (defs₀ (F := F)) 𝒱₀ c iprop(((plan m).knows ER ∗ levAts Lall (lvOf fun _ => 0)) ∗ pend m c x ∗ owing c 0) (await c x)
      iprop(done m c x ∗ owing c 0) := by
  obtain ⟨a, q⟩ := x
  unfold Runs pend
  iintro ⟨⟨#HK, #HL⟩, ⟨H0, H1, H2, P0, P1, P2⟩, HO⟩
  have h2 := (runs_waitHome m c a q).frame iprop(((plan m).knows ER ∗ levAts Lall (lvOf fun _ => 0)) ∗ (plan m).crd c (0, a, q) ∗ (plan m).crd c (1, a, q)
    ∗ (plan m).place ER c (0, a, q) ∗ (plan m).place ER c (1, a, q))
  have h0 := (runs_waitSent m c a q).frame iprop(((plan m).knows ER ∗ levAts Lall (lvOf fun _ => 0)) ∗ (plan m).crd c (1, a, q) ∗ (plan m).place ER c (1, a, q)
    ∗ (plan m).pay c (2, a, q) ∗ (plan m).over ER c (2, a, q))
  have h1 := (runs_waitReceived m c a q).frame iprop((plan m).pay c (0, a, q) ∗ (plan m).over ER c (0, a, q) ∗ (plan m).pay c (2, a, q) ∗ (plan m).over ER c (2, a, q))
  have h := Runs.bind h2 (Runs.bind (h0.mono (A' := _) (B' := _) (by
      unfold awaits awaited
      iintro ⟨⟨Y2, V2, HO⟩, ⟨#HK, #HL⟩, H0, H1, P0, P1⟩
      isplitl [H0 P0 HO]
      · isplitr; · iexact HK
        isplitr; · iexact HL
        isplitl [H0]; · iexact H0
        isplitl [P0] <;> iassumption
      isplitr
      · isplitr; · iexact HK
        iexact HL
      isplitl [H1]; · iexact H1
      isplitl [P1]; · iexact P1
      isplitl [Y2] <;> iassumption) Entails.rfl) (h1.mono (A' := _) (B' := iprop(done m c (a, q) ∗ owing c 0)) (by
      unfold awaits awaited
      iintro ⟨⟨Y0, V0, HO⟩, ⟨#HK, #HL⟩, H1, P1, Y2, V2⟩
      isplitl [H1 P1 HO]
      · isplitr; · iexact HK
        isplitr; · iexact HL
        isplitl [H1]; · iexact H1
        isplitl [P1] <;> iassumption
      isplitl [Y0]; · iexact Y0
      isplitl [V0]; · iexact V0
      isplitl [Y2] <;> iassumption) (by
      unfold awaited done
      iintro ⟨⟨Y1, V1, HO⟩, Y0, V0, Y2, V2⟩
      isplitr [HO]
      · isplitl [Y0]; · iexact Y0
        isplitl [Y1]; · iexact Y1
        isplitl [Y2]; · iexact Y2
        isplitl [V0]; · iexact V0
        isplitl [V1] <;> iassumption
      · iexact HO)))
  unfold Runs at h
  iapply h
  unfold awaits
  isplitl [H2 P2 HO]
  · isplitr; · iexact HK
    isplitr; · iexact HL
    isplitl [H2]; · iexact H2
    isplitl [P2] <;> iassumption
  isplitr
  · isplitr; · iexact HK
    iexact HL
  isplitl [H0]; · iexact H0
  isplitl [H1]; · iexact H1
  isplitl [P0] <;> iassumption

/-- The arrivals: the other core of the chip sends them. -/
def arrivals : Dev nD × (Fin 4 × Fin 4) ≃ Dev nD × (Fin 4 × Fin 4) :=
  ⟨fun k => (sib k.1, k.2), fun k => (sib k.1, k.2), fun k => Prod.ext (sib_sib k.1) rfl, fun k => Prod.ext (sib_sib k.1) rfl⟩

def H (c : Dev nD) : sProp 𝕄 := bigSep Finset.univ (ready m c)
def H' (c : Dev nD) : sProp 𝕄 := bigSep Finset.univ fun j => (plan m).pay c j

theorem at_device (c : Dev nD) (k : Dev nD → Op F) {A : sProp 𝕄} {B : sProp 𝕄}
    (h : A ⊢ wp frame (wpE (defs₀ (F := F)) 𝒱₀ (c.tc : Thread nD τ) none) Set.univ (k c) fun _ => B) :
    A ⊢ wp frame (wpE (defs₀ (F := F)) 𝒱₀ (c.tc : Thread nD τ) none) Set.univ (.op .deviceId k) fun _ => B := by
  rw [wp_deviceId]; exact h

theorem body (c : Dev nD) (t : Fin cfg0.N) :
    iprop(Cert.Exchange.enter (plan m) (fun x => (1, x)) (fun _ => 0) (H m) c ∗ owing c (dues (plan m) (fun x => (1, x)) arrivals c))
      ⊢ wp frame (wpE (defs₀ (F := F)) 𝒱₀ (c.tc : Thread nD τ) none) Set.univ (bodyAt0 t)
        fun _ => iprop((plan m).knows ER ∗ H' m c ∗ (bigSep Finset.univ fun j => (plan m).over ER c j) ∗ owing c 0) := by
  rw [body_eq]
  have h1 := loop (𝔻 := defs₀ (F := F)) (𝒱 := 𝒱₀) pairs (by decide) (by decide) c ((plan m).knows ER) (fun _ => True) (fun _ _ _ _ => trivial) (issue c) (ready m c) (issued m c)
    (fun x => (plan m).due (sib c) (1, x)) 0 trivial (fun _ => trivial) (fun x X _ => runs_issue m c x X)
  have h2 := loop (𝔻 := defs₀ (F := F)) (𝒱 := 𝒱₀) pairs (by decide) (by decide) c iprop((plan m).knows ER ∗ levAts Lall (lvOf fun _ => 0)) (fun X => X = 0) (fun X Y hX hY => by rw [hX, hY, add_zero])
    (await c) (pend m c) (done m c) (fun _ => 0) 0 rfl (fun _ => rfl) (fun x X hX => by
      subst hX
      have h := runs_await m c x
      rwa [show (0 : CellTallies nD τ sig Unit) + 0 = 0 from add_zero 0])
  rw [zero_add] at h1
  rw [Finset.sum_const_zero, add_zero] at h2
  have ht : Runs (defs₀ (F := F)) 𝒱₀ c iprop(((plan m).knows ER ∗ bigSep Finset.univ (ready m c) ∗ owing c (∑ x, (plan m).due (sib c) (1, x)))
        ∗ ((plan m).knows ER ∗ levAts Lall (lvOf fun _ => 0)) ∗ (bigSep Finset.univ fun x => (plan m).crd c (1, x)) ∗ bigSep Finset.univ fun j => (plan m).place ER c j)
      ((seq (pairs.map (issue c))).bind fun _ => seq (pairs.map (await c))) iprop((bigSep Finset.univ (done m c) ∗ owing c 0) ∗ (plan m).knows ER) := by
    refine Runs.bind (h1.frame _) ((h2.frame _).mono (A' := _) (B' := _) ?_ Entails.rfl)
    rw [three]
    unfold issued pend
    rw [bigSep_sep', bigSep_sep', bigSep_sep', bigSep_sep', bigSep_sep', bigSep_sep']
    show iprop(_) ⊢ _
    iintro ⟨⟨⟨H2, H0⟩, HO⟩, ⟨#HK, #HL⟩, H1, P0, P1, P2⟩
    isplitl [H2 H0 HO H1 P0 P1 P2]
    · isplitr
      · isplitr; · iexact HK
        iexact HL
      isplitr [HO]
      · isplitl [H0]; · iexact H0
        isplitl [H1]; · iexact H1
        isplitl [H2]; · iexact H2
        isplitl [P0]; · iexact P0
        isplitl [P1] <;> iassumption
      · iexact HO
    · iexact HK
  unfold Runs at ht
  clear h1 h2
  generalize pairs = l at ht ⊢
  refine at_device c _ ?_
  beta_reduce
  refine BIBase.Entails.trans ?_ (BIBase.Entails.trans ht (wp_mono _ _ _ fun _ => ?_))
  · unfold Cert.Exchange.enter H
    have hc (x : Fin 4 × Fin 4) : (cred ((plan m).due c (1, x)) : sProp 𝕄) = (plan m).crd c (1, x) := cred_due (plan m) rfl
    simp only [hc]
    show iprop(_) ⊢ _
    iintro ⟨⟨#HK, HL, HH, Hc, Hp⟩, HO⟩
    isplitl [HH HO]
    · isplitr; · iexact HK
      isplitl [HH]; · iexact HH
      iexact HO
    isplitl [HL]
    · isplitr; · iexact HK
      iexact HL
    isplitl [Hc] <;> iassumption
  · unfold H' done
    rw [three, three, bigSep_sep', bigSep_sep', bigSep_sep', bigSep_sep', bigSep_sep']
    show iprop(_) ⊢ _
    iintro ⟨⟨⟨Y0, Y1, Y2, V0, V1, V2⟩, HO⟩, HK⟩
    isplitl [HK]; · iexact HK
    isplitl [Y0 Y1 Y2]
    · isplitl [Y0]; · iexact Y0
      isplitl [Y1] <;> iassumption
    isplitr [HO]
    · isplitl [V0]; · iexact V0
      isplitl [V1] <;> iassumption
    · iexact HO

end Cert.PairIdeal.Pair
-- ==== Proof.PairRun.lean ====
/-
# The pair exchange: the whole program

How the arrays are dealt to the devices before any of them runs — a device holds its gradients, its own half of its
results and the other half of its neighbour's — and how they are held together again at the end.
-/
module

public import proofs.«01_k».proof.Proof.PairBody
public import proofs.«01_k».proof.Proof.Gen.PairIdeal.Launch

@[expose] public section

noncomputable section

namespace Cert.PairIdeal.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Blocks
open Cert.PairIdeal Cert.PairIdeal.Gen

set_option Elab.async false

variable {F : FTy → Type} [FloatOps F]

local notation "𝕄" => MT nD τ sig Unit (Elt F) ℕ UU ℕ

variable (m : (ℓ : Loc nD τ sig) → Buf (Elt F) ℓ)

/-! ## Blocks by core -/

theorem two (e : Fin 2) (Φ : Fin 2 → sProp 𝕄) : bigSep Finset.univ Φ = iprop(Φ e ∗ Φ (flip e)) :=
  bigSep_univ_eq_bigSepL [e, flip e] (by revert e; decide) (by revert e; decide) Φ

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The eight blocks of a gradient are the parts of the four chips' two cores. -/
def parts : Fin 4 × Fin 2 ≃ Fin 8 := Equiv.ofBijective (fun x => part x.1 x.2) (by decide)

theorem eight (e : Fin 2) (Φ : Fin 8 → sProp 𝕄) : bigSep Finset.univ Φ
    = iprop((bigSep Finset.univ fun q => Φ (part q e)) ∗ bigSep Finset.univ fun q => Φ (part q (flip e))) := by
  rw [bigSep_univ_equiv parts Φ, bigSep_univ_prod (Φ := fun x : Fin 4 × Fin 2 => Φ (parts x)), ← bigSep_sep']
  exact bigSep_congr fun q _ => two e fun f => Φ (part q f)

/-- The blocks a device keeps, -/
def kept (c : Dev nD) : sProp 𝕄 := bigSep Finset.univ fun x : Fin 4 × Fin 4 => srcPart m c x.1 (part x.2 (core c))
/-- and those it sends. -/
def sends (c : Dev nD) : sProp 𝕄 := bigSep Finset.univ fun x : Fin 4 × Fin 4 => srcPart m c x.1 (part x.2 (flip (core c)))
/-- Core `e`'s half of device `c`'s results, at contents `f`. -/
def half (c : Dev nD) (e : Fin 2) (f : (a : Fin 4) → Buf (Elt F) ((out a).view.loc (c.tc : Thread nD τ))) : sProp 𝕄 :=
  bigSep Finset.univ fun x : Fin 4 × Fin 4 => outPart c x.1 x.2 e (f x.1)

theorem srcs (c : Dev nD) : (bigSep Finset.univ fun a : Fin 4 => ((src a).view.loc (c.tc : Thread nD τ) ↦[Finset.univ]{fullShare} given m c a : sProp 𝕄))
    = iprop(kept m c ∗ sends m c) := by
  unfold kept sends
  rw [bigSep_univ_prod (Φ := fun x : Fin 4 × Fin 4 => srcPart m c x.1 (part x.2 (core c))),
    bigSep_univ_prod (Φ := fun x : Fin 4 × Fin 4 => srcPart m c x.1 (part x.2 (flip (core c)))), ← bigSep_sep']
  exact bigSep_congr fun a _ => (whole3 (src a) (src_whole a) c fullShare (given m c a)).trans (eight (core c) fun b => srcPart m c a b)

theorem outs (c : Dev nD) (f : (a : Fin 4) → Buf (Elt F) ((out a).view.loc (c.tc : Thread nD τ))) :
    (bigSep Finset.univ fun a : Fin 4 => ((out a).view.loc (c.tc : Thread nD τ) ↦[Finset.univ]{fullShare} f a : sProp 𝕄))
    = iprop(half c (core c) f ∗ half c (flip (core c)) f) := by
  unfold half
  rw [bigSep_univ_prod (Φ := fun x : Fin 4 × Fin 4 => outPart c x.1 x.2 (core c) (f x.1)),
    bigSep_univ_prod (Φ := fun x : Fin 4 × Fin 4 => outPart c x.1 x.2 (flip (core c)) (f x.1)), ← bigSep_sep']
  refine bigSep_congr fun a _ => (whole4 (out a) (out_whole a) c fullShare (f a)).trans ?_
  rw [bigSep_univ_prod (Φ := fun b : Fin 4 × Fin 2 => ((blk4 (out a) b.1 b.2).view.loc (c.tc : Thread nD τ) ↦[(blk4 (out a) b.1 b.2).view.set]{fullShare} f a : sProp 𝕄)), ← bigSep_sep']
  exact bigSep_congr fun q _ => two (core c) fun e => outPart c a q e (f a)

/-! ## The deal -/

theorem exists_at {α : Type} (Φ : α → sProp 𝕄) (a : α) : Φ a ⊢ iprop(∃ f, Φ f) := by
  iintro H
  iexists a
  iexact H

theorem regroup (A B C D : sProp 𝕄) : iprop(A ∗ B ∗ C ∗ D) = iprop((D ∗ A) ∗ C ∗ B) := by
  have h1 : iprop(A ∗ B ∗ C ∗ D) ⊢ iprop((D ∗ A) ∗ C ∗ B) := by
    iintro ⟨A, B, C, D⟩
    isplitl [A D]
    · isplitl [D] <;> iassumption
    · isplitl [C] <;> iassumption
  have h2 : iprop((D ∗ A) ∗ C ∗ B) ⊢ iprop(A ∗ B ∗ C ∗ D) := by
    iintro ⟨⟨D, A⟩, C, B⟩
    isplitl [A]; · iexact A
    isplitl [B]; · iexact B
    isplitl [C] <;> iassumption
  exact BI.equiv_iff.mp ⟨h1, h2⟩

/-- The other core of every chip. -/
def across : Dev nD ≃ Dev nD := ⟨sib, sib, sib_sib, sib_sib⟩

/-- A half of device `c`'s results, at whatever contents. -/
def room (c d : Dev nD) : sProp 𝕄 := bigSep Finset.univ fun x : Fin 4 × Fin 4 => iprop(∃ f, outPart d x.1 x.2 (core c) f)

def before (c : Dev nD) (a : Fin 4) : Buf (Elt F) ((out a).view.loc (c.tc : Thread nD τ)) := m _

theorem roomy (c d : Dev nD) (e : Fin 2) (h : e = core c) (f : (a : Fin 4) → Buf (Elt F) ((out a).view.loc (d.tc : Thread nD τ))) :
    half (F := F) d e f ⊢ room c d := by
  subst h
  unfold half room
  refine bigSep_mono fun x _ => ?_
  exact exists_at (fun f => outPart d x.1 x.2 (core c) f) (f x.1)

theorem arrays (c : Dev nD) : unscopedBufs c (fun b => m ((c.tc : Thread nD τ).loc b))
    ⊢ (iprop(kept m c ∗ sends m c ∗ room c c ∗ room (sib c) c) : sProp 𝕄) := by
  have h1 := srcs m c
  have h2 := outs c (before m c)
  rw [four] at h1 h2
  rw [unscopedBufs_split₀ cfgs 0 winFacts0.arr_unscoped c]
  refine BIBase.Entails.trans (Cert.Start.drop_left _ _) ?_
  refine BIBase.Entails.trans (Entails.of_eq (unscopedRest0_eq c _)) ?_
  refine BIBase.Entails.trans (Q := iprop((kept m c ∗ sends m c) ∗ half c (core c) (before m c) ∗ half c (flip (core c)) (before m c))) ?_ ?_
  · rw [← h1, ← h2]
    iintro ⟨H0, H1, H2, H3, G0, G1, G2, G3⟩
    isplitl [H0 H1 H2 H3]
    · isplitl [H0]; · iexact H0
      isplitl [H1]; · iexact H1
      isplitl [H2]; · iexact H2
      iexact H3
    · isplitl [G0]; · iexact G0
      isplitl [G1]; · iexact G1
      isplitl [G2]; · iexact G2
      iexact G3
  · iintro ⟨⟨HK, HS⟩, H1, H2⟩
    isplitl [HK]; · iexact HK
    isplitl [HS]; · iexact HS
    isplitl [H1]
    · iapply (roomy c c (core c) rfl _) $$ H1
    · iapply (roomy (sib c) c (flip (core c)) (core_sib c).symm _) $$ H2

theorem deal : iprop((bigSep Finset.univ fun c : Dev nD => unscopedBufs c (fun b => m ((c.tc : Thread nD τ).loc b)))
      ∗ bigSep Finset.univ fun k : Dev nD × J => (plan (F := F) m).tok ER k.1 k.2) ⊢ bigSep Finset.univ (H m) := by
  refine BIBase.Entails.trans (sep_mono_left (bigSep_mono fun c _ => arrays m c)) ?_
  have toks : (bigSep Finset.univ fun k : Dev nD × J => (plan (F := F) m).tok ER k.1 k.2)
      = iprop((bigSep Finset.univ fun c : Dev nD => bigSep Finset.univ fun x => (plan (F := F) m).tok ER c (0, x))
        ∗ (bigSep Finset.univ fun c : Dev nD => bigSep Finset.univ fun x => (plan (F := F) m).tok ER c (1, x))
        ∗ bigSep Finset.univ fun c : Dev nD => bigSep Finset.univ fun x => (plan (F := F) m).tok ER c (2, x)) := by
    rw [bigSep_univ_prod (Φ := fun k : Dev nD × J => (plan (F := F) m).tok ER k.1 k.2),
      bigSep_congr (fun c _ => three fun j => (plan (F := F) m).tok ER c j), bigSep_sep', bigSep_sep']
  have tail (c : Dev nD) : H m c = iprop(kept m c ∗ sends m c ∗ room c c ∗ room c (sib c) ∗ (bigSep Finset.univ fun x => (plan (F := F) m).tok ER c (2, x))
      ∗ (bigSep Finset.univ fun x => (plan (F := F) m).tok ER c (0, x)) ∗ bigSep Finset.univ fun x => (plan (F := F) m).tok ER (sib c) (1, x)) := by
    unfold H ready
    rw [bigSep_sep', bigSep_sep', bigSep_sep', bigSep_sep', bigSep_sep', bigSep_sep']
    rfl
  have back : (bigSep Finset.univ fun c : Dev nD => room (F := F) (sib c) c) = bigSep Finset.univ fun c : Dev nD => room c (sib c) := by
    rw [bigSep_univ_equiv across]
    refine bigSep_congr fun c _ => ?_
    show room (sib (sib c)) (sib c) = _
    rw [sib_sib]
  rw [toks, bigSep_congr (Ψ := H m) (fun c _ => rfl), bigSep_congr (fun c _ => tail c), bigSep_univ_equiv across (fun c : Dev nD => bigSep Finset.univ fun x => (plan (F := F) m).tok ER c (1, x)),
    Cert.Exchange.sep4, back, bigSep_sep', bigSep_sep', bigSep_sep', bigSep_sep', bigSep_sep', bigSep_sep']
  show iprop(_) ⊢ _
  iintro ⟨⟨HK, HS, H1, H2⟩, T0, T1, T2⟩
  isplitl [HK]; · iexact HK
  isplitl [HS]; · iexact HS
  isplitl [H1]; · iexact H1
  isplitl [H2]; · iexact H2
  isplitl [T2]; · iexact T2
  isplitl [T0]; · iexact T0
  iexact T1

/-! ## The end -/

/-- What memory holds at the end: the gradients as they were, the results gathered. -/
def QY (c : Dev nD) (s : MemSt nD τ sig (Elt F)) : Prop :=
  ∀ a : Fin 4, s.mem ((src a).view.loc (c.tc : Thread nD τ)) = given m c a ∧ s.mem ((out a).view.loc (c.tc : Thread nD τ)) = want m c a

theorem whole (c : Dev nD) : H' m c = iprop((bigSep Finset.univ fun a : Fin 4 => ((src a).view.loc (c.tc : Thread nD τ) ↦[Finset.univ]{fullShare} given m c a : sProp 𝕄))
    ∗ bigSep Finset.univ fun a : Fin 4 => ((out a).view.loc (c.tc : Thread nD τ) ↦[Finset.univ]{fullShare} want m c a : sProp 𝕄)) := by
  have h2 : (bigSep Finset.univ fun x : Fin 4 × Fin 4 => (plan m).pay c (2, x)) = iprop(half c (core c) (want m c) ∗ kept m c) :=
    bigSep_sep' _ _ _
  unfold H'
  rw [srcs, outs, three, h2]
  exact regroup (sends m c) (half c (flip (core c)) (want m c)) (half c (core c) (want m c)) (kept m c)

theorem fin (c : Dev nD) (s' : Phys nD τ sig (Elt F)) : iprop(H' m c ∗ SI s') ⊢ |={Set.univ}=> (iprop(⌜QY m c s'.mem⌝ ∗ SI s') : sProp 𝕄) := by
  rw [whole, four, four]
  show iprop(_) ⊢ _
  iintro ⟨⟨⟨A0, A1, A2, A3⟩, B0, B1, B2, B3⟩, HSI⟩
  ihave %a0 := SI_pointsTo_agree $$ [HSI A0]
  · isplitl [HSI] <;> iassumption
  ihave %a1 := SI_pointsTo_agree $$ [HSI A1]
  · isplitl [HSI] <;> iassumption
  ihave %a2 := SI_pointsTo_agree $$ [HSI A2]
  · isplitl [HSI] <;> iassumption
  ihave %a3 := SI_pointsTo_agree $$ [HSI A3]
  · isplitl [HSI] <;> iassumption
  ihave %b0 := SI_pointsTo_agree $$ [HSI B0]
  · isplitl [HSI] <;> iassumption
  ihave %b1 := SI_pointsTo_agree $$ [HSI B1]
  · isplitl [HSI] <;> iassumption
  ihave %b2 := SI_pointsTo_agree $$ [HSI B2]
  · isplitl [HSI] <;> iassumption
  ihave %b3 := SI_pointsTo_agree $$ [HSI B3]
  · isplitl [HSI] <;> iassumption
  imodintro
  isplitr
  · ipureintro
    intro a
    match a with
    | 0 => exact ⟨funext fun i => a0 i (Finset.mem_univ i), funext fun i => b0 i (Finset.mem_univ i)⟩
    | 1 => exact ⟨funext fun i => a1 i (Finset.mem_univ i), funext fun i => b1 i (Finset.mem_univ i)⟩
    | 2 => exact ⟨funext fun i => a2 i (Finset.mem_univ i), funext fun i => b2 i (Finset.mem_univ i)⟩
    | 3 => exact ⟨funext fun i => a3 i (Finset.mem_univ i), funext fun i => b3 i (Finset.mem_univ i)⟩
  · iexact HSI

theorem ownSemFacts : OwnSemFacts cfg0.spec (fun j : J => (.dma (osem j) : SemLoc sig)) where
  isScoped := by decide
  inj := fun _ _ h => osem_inj (by injection h)
  disj := fun _ w => w.elim0

theorem points : (cfgs 0).N = 1 := by decide

set_option maxRecDepth 16000 in
theorem run_main (ρ : Dev nD → PrngReg) :
    θ_run (defs (F := F)) (onTc (τ := τ) (main (F := F))) ⟨m, fun _ => 0, ρ⟩ (fun r => (∀ c, QY m c r.2) ∧ r.2.sem = fun _ => 0) :=
  Cert.Exchange.run_exchange cfgs defs₀ (plan m) (fun x => (1, x)) arrivals (fun _ => 0) (H m) (H' m)
    rfl points cellOf_inj winFacts0 stage_whole0 ownSemFacts (fun c => scopedRest0_eq c) m ρ main (fun _ => rfl) (deal m)
    𝒱₀ (body m) (QY m) (fin m) (fun s h hs => ⟨h, sem_eq_zero_of_scoped (by decide) hs⟩)

end Cert.PairIdeal.Pair
-- ==== Proof.PairValue.lean ====
/-
# What the plain regrouping of the gradients holds

The reference reads the eight devices' parts as (chip, core) by (chip, core), exchanges the cores of the sender and of
the receiver, and lays the devices side by side again.
-/
module

public import proofs.«01_k».proof.Proof.Blocks
public import Idealize.ShloMosaic.Lib.Pipeline.Value
public import Idealize.ShloMosaic.Lib.ValueIdxRank6
public import Idealize.ShloMosaic.Lib.Layout

@[expose] public section

noncomputable section

namespace Cert.Blocks

open Idealize.ShloMosaic Idealize.ShloMosaic.ValueIdx

variable {α : Type} {R C : ℕ}

/-- From chip, from core, to chip, to core; row, column. -/
abbrev S6 (R C : ℕ) : Shape := ⟨6, ![4, 2, 4, 2, R, C]⟩

/-- The regrouping at device `d`'s part `q`, from core `e`: the row of device `2 (d / 2) + e` for device `2 q + d % 2`. -/
theorem regrouped (v : (M3 64 R C).Idx → α) (h1 : (M3 64 R C).ShapeCasts (S6 R C)) (h2 : (S6 R C).Transposes [0, 3, 2, 1, 4, 5] (S6 R C))
    (h3 : (S6 R C).ShapeCasts (M4 32 2 R C)) (d : Fin 8) (q : Fin 4) (e : Fin 2) (i : Fin R) (j : Fin C)
    (x : Fin 32) (hx : x.val = 4 * d.val + q.val) (y : Fin 64) (hy : y.val = 8 * (2 * (d.val / 2) + e.val) + (2 * q.val + d.val % 2)) :
    shapeCast (M4 32 2 R C) (transpose (S6 R C) [0, 3, 2, 1, 4, 5] (shapeCast (S6 R C) v h1) h2) h3 (ix4 x e i j) = v (ix3 y i j) := by
  have hd := d.isLt
  rw [shapeCast_apply _ h3 _ (ix6 (⟨d.val / 2, by omega⟩ : Fin 4) (⟨d.val % 2, by omega⟩ : Fin 2) q e i j) (by
      rw [Shape.rowMajor_val_six, Shape.rowMajor_val_four]
      show (((((d.val / 2) * 2 + d.val % 2) * 4 + q.val) * 2 + e.val) * R + i.val) * C + j.val = ((x.val * 2 + e.val) * R + i.val) * C + j.val
      rw [hx, show (d.val / 2) * 2 + d.val % 2 = d.val by omega, Nat.mul_comm d.val 4]),
    transpose_apply [0, 3, 2, 1, 4, 5] _ h2 _ (ix6 (⟨d.val / 2, by omega⟩ : Fin 4) e q (⟨d.val % 2, by omega⟩ : Fin 2) i j) (fun b => by
      match b with
      | ⟨0, _⟩ => rfl
      | ⟨1, _⟩ => rfl
      | ⟨2, _⟩ => rfl
      | ⟨3, _⟩ => rfl
      | ⟨4, _⟩ => rfl
      | ⟨5, _⟩ => rfl),
    shapeCast_apply _ h1 _ (ix3 y i j) (by
      rw [Shape.rowMajor_val_six, Shape.rowMajor_val_three]
      show (y.val * R + i.val) * C + j.val = (((((d.val / 2) * 2 + e.val) * 4 + q.val) * 2 + d.val % 2) * R + i.val) * C + j.val
      rw [hy, show ((((d.val / 2) * 2 + e.val) * 4 + q.val) * 2 + d.val % 2) = 8 * (2 * (d.val / 2) + e.val) + (2 * q.val + d.val % 2) by omega])]

/-- Device `c`'s block of an array cut along its first axis of three, read at an index, -/
theorem block3 {n : ℕ} (v : (M3 (8 * n) R C).Idx → α) (h : Layout.Tiles (M3 n R C) (M3 (8 * n) R C) 0 8) (c : Fin 8) (b : Fin n) (i : Fin R) (j : Fin C)
    (y : Fin (8 * n)) (hy : y.val = c.val * n + b.val) : Layout.block (M3 n R C) (M3 (8 * n) R C) 0 8 c v h (ix3 b i j) = v (ix3 y i j) := by
  rw [Layout.block_apply]
  refine congrArg v (funext fun a => Fin.ext ?_)
  rw [Layout.Tiles.idx_val]
  match a with
  | ⟨0, _⟩ => exact hy.symm
  | ⟨1, _⟩ => rfl
  | ⟨2, _⟩ => rfl

/-- and of four. -/
theorem block4 {n n' : ℕ} (v : (M4 (8 * n) n' R C).Idx → α) (h : Layout.Tiles (M4 n n' R C) (M4 (8 * n) n' R C) 0 8) (c : Fin 8) (b : Fin n) (e : Fin n') (i : Fin R) (j : Fin C)
    (y : Fin (8 * n)) (hy : y.val = c.val * n + b.val) : Layout.block (M4 n n' R C) (M4 (8 * n) n' R C) 0 8 c v h (ix4 b e i j) = v (ix4 y e i j) := by
  rw [Layout.block_apply]
  refine congrArg v (funext fun a => Fin.ext ?_)
  rw [Layout.Tiles.idx_val]
  match a with
  | ⟨0, _⟩ => exact hy.symm
  | ⟨1, _⟩ => rfl
  | ⟨2, _⟩ => rfl
  | ⟨3, _⟩ => rfl

/-- Eight devices that each hold, at `(q, e)`, the part for their core of chip `q` of core `e`'s gradient, hold the regrouping's blocks. -/
theorem gathers (v : (M3 64 R C).Idx → α) (h1 : (M3 64 R C).ShapeCasts (S6 R C)) (h2 : (S6 R C).Transposes [0, 3, 2, 1, 4, 5] (S6 R C))
    (h3 : (S6 R C).ShapeCasts (M4 32 2 R C)) (hS : Layout.Tiles (M3 8 R C) (M3 64 R C) 0 8) (hT : Layout.Tiles (M4 4 2 R C) (M4 32 2 R C) 0 8) (c : Fin 8)
    (mate : Fin 2 → Fin 8) (hm : ∀ e, (mate e).val = 2 * (c.val / 2) + e.val) (part : Fin 4 → Fin 8) (hp : ∀ q, (part q).val = 2 * q.val + c.val % 2) :
    (fun x : (M4 4 2 R C).Idx => Layout.block (M3 8 R C) (M3 64 R C) 0 8 (mate (x 1)) v hS (ix3 (part (x 0)) (x 2) (x 3)))
      = Layout.block (M4 4 2 R C) (M4 32 2 R C) 0 8 c (shapeCast (M4 32 2 R C) (transpose (S6 R C) [0, 3, 2, 1, 4, 5] (shapeCast (S6 R C) v h1) h2) h3) hT := by
  funext x
  obtain ⟨q, e, i, j, rfl⟩ : ∃ (q : Fin 4) (e : Fin 2) (i : Fin R) (j : Fin C), x = ix4 q e i j := ⟨x 0, x 1, x 2, x 3, eq_ix4 x⟩
  have hc := c.isLt
  rw [block4 (n := 4) _ hT c q e i j ⟨c.val * 4 + q.val, by omega⟩ rfl,
    regrouped v h1 h2 h3 c q e i j _ (by show c.val * 4 + q.val = _; omega) ⟨8 * (2 * (c.val / 2) + e.val) + (2 * q.val + c.val % 2), by omega⟩ rfl]
  exact block3 (n := 8) v hS (mate e) (part q) i j _ (by rw [hm, hp]; show 8 * _ + _ = _ * 8 + _; omega)

end Cert.Blocks
-- ==== Proof.PairClaims.lean ====
/-
# The claims about the exchange between the two cores of a chip
-/
module

public import proofs.«01_k».proof.Defs
public import proofs.«01_k».proof.Proof.Gen.Pair
public import proofs.«01_k».proof.Proof.Gen.PairRef
public import proofs.«01_k».proof.Proof.PairRun
public import proofs.«01_k».proof.Proof.PairValue
public import proofs.«01_k».proof.Proof.Gen.PairRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem Cert.Blocks Cert.PairIdeal.Pair

/-- The arguments of the exchange survive it, over the ideal values -/
theorem frame_PairIdeal : Cert.quiescent_PairIdeal := fun m ρ _ =>
  (θ_run Cert.PairIdeal.defs _ _).mono (fun _ h => ⟨fun c => ⟨(h.1 c 0).1, (h.1 c 1).1, (h.1 c 2).1, (h.1 c 3).1⟩, h.2⟩) (run_main m ρ)

/-- and over the words: the two programs are the same. -/
theorem frame_Pair : Cert.quiescent_Pair := fun m ρ _ =>
  (θ_run Cert.PairIdeal.defs _ _).mono (fun _ h => ⟨fun c => ⟨(h.1 c 0).1, (h.1 c 1).1, (h.1 c 2).1, (h.1 c 3).1⟩, h.2⟩) (run_main (F := Bits) m ρ)

/-- The reference leaves its arguments alone and has no semaphore. -/
theorem frame_PairRefIdeal : Cert.quiescent_PairRefIdeal := fun m ρ _ =>
  (θ_run Cert.PairRefIdeal.defs _ _).mono (fun r h => ⟨fun c => (h c).2.2.2.2, sem_eq_zero_of_no_sems rfl r.2⟩) (Cert.PairRefIdeal.Value.run m ρ)

/-- So over the words. -/
theorem frame_PairRef : Cert.quiescent_PairRef := fun m ρ _ =>
  (θ_run Cert.PairRefIdeal.defs _ _).mono (fun r h => ⟨fun c => (h c).2.2.2.2, sem_eq_zero_of_no_sems rfl r.2⟩) (Cert.PairRefIdeal.Value.run (F := Bits) m ρ)

/-- Nothing was rewritten. -/
theorem preserves_Pair : Cert.preserves_Pair_PairIdeal := trivial

/-- What device `c` gathers, as the block of the regrouping of the whole gradient. -/
theorem gathered_eq {F : FTy → Type} [FloatOps F] (m : (ℓ : Loc Cert.PairIdeal.nD Cert.PairIdeal.τ Cert.PairIdeal.sig) → Buf (Elt F) ℓ) (a : Fin 4)
    (v : (M3 64 (rows a) (cols a)).Idx → Elt F .bf16) (hS : Layout.Tiles (M3 8 (rows a) (cols a)) (M3 64 (rows a) (cols a)) 0 8)
    (hv : ∀ c, grad m c a = Layout.block (M3 8 (rows a) (cols a)) (M3 64 (rows a) (cols a)) 0 8 c v hS)
    (h1 : (M3 64 (rows a) (cols a)).ShapeCasts (S6 (rows a) (cols a))) (h2 : (S6 (rows a) (cols a)).Transposes [0, 3, 2, 1, 4, 5] (S6 (rows a) (cols a)))
    (h3 : (S6 (rows a) (cols a)).ShapeCasts (M4 32 2 (rows a) (cols a))) (hT : Layout.Tiles (M4 4 2 (rows a) (cols a)) (M4 32 2 (rows a) (cols a)) 0 8)
    (c : Dev Cert.PairIdeal.nD) :
    gathered m c a = Layout.block (M4 4 2 (rows a) (cols a)) (M4 32 2 (rows a) (cols a)) 0 8 c
      (shapeCast (M4 32 2 (rows a) (cols a)) (transpose (S6 (rows a) (cols a)) [0, 3, 2, 1, 4, 5] (shapeCast (S6 (rows a) (cols a)) v h1) h2) h3) hT := by
  rw [← gathers v h1 h2 h3 hS hT c (mate c) (fun _ => rfl) (fun q => part q (core c)) (fun _ => rfl)]
  funext x
  exact congrFun (hv (mate c (x 1))) _

/-- A result is a whole array, so what it is to hold is what the device gathers. -/
theorem want_eq {F : FTy → Type} [FloatOps F] (m : (ℓ : Loc Cert.PairIdeal.nD Cert.PairIdeal.τ Cert.PairIdeal.sig) → Buf (Elt F) ℓ) (c : Dev Cert.PairIdeal.nD) (a : Fin 4) :
    (out a).view.read (Elt F) (want m c a) = gathered m c a := (out_whole a).read_unread _

open Cert.PairRefIdeal.Gen in
/-- Device `c`'s results are the blocks of the reference's. -/
theorem algebraic_Pair : Cert.algebraic_PairIdeal_PairRefIdeal := fun m g m' g' _ hin => by
  refine ⟨_, _, _, _, ?_, (θ_run Cert.PairRefIdeal.defs _ _).mono (fun _ h => h 0) (Cert.PairRefIdeal.Value.run m' g')⟩
  refine (θ_run Cert.PairIdeal.defs _ _).mono (fun _ h c => ⟨
    ((h.1 c 0).2.trans (want_eq m c 0)).trans ?_, ((h.1 c 1).2.trans (want_eq m c 1)).trans ?_, ((h.1 c 2).2.trans (want_eq m c 2)).trans ?_,
    ((h.1 c 3).2.trans (want_eq m c 3)).trans ?_, (h.1 c 0).1, (h.1 c 1).1, (h.1 c 2).1, (h.1 c 3).1⟩) (run_main m g)
  · exact gathered_eq m 0 _ _ (fun c => (hin c).1) shapeCasts_S64x1024x256_S4x2x4x2x1024x256 transposes_S4x2x4x2x1024x256_S4x2x4x2x1024x256_0_3_2_1_4_5 shapeCasts_S4x2x4x2x1024x256_S32x2x1024x256 _ c
  · exact gathered_eq m 1 _ _ (fun c => (hin c).2.1) shapeCasts_S64x128x1024_S4x2x4x2x128x1024 transposes_S4x2x4x2x128x1024_S4x2x4x2x128x1024_0_3_2_1_4_5 shapeCasts_S4x2x4x2x128x1024_S32x2x128x1024 _ c
  · exact gathered_eq m 2 _ _ (fun c => (hin c).2.2.1) shapeCasts_S64x1024x768_S4x2x4x2x1024x768 transposes_S4x2x4x2x1024x768_S4x2x4x2x1024x768_0_3_2_1_4_5 shapeCasts_S4x2x4x2x1024x768_S32x2x1024x768 _ c
  · exact gathered_eq m 3 _ _ (fun c => (hin c).2.2.2) shapeCasts_S64x384x1024_S4x2x4x2x384x1024 transposes_S4x2x4x2x384x1024_S4x2x4x2x384x1024_0_3_2_1_4_5 shapeCasts_S4x2x4x2x384x1024_S32x2x384x1024 _ c

open Cert.PairRefIdeal.Gen in
/-- and so over the words.-/
theorem bitexact_Pair : Cert.bitexact_Pair_PairRef := fun m g m' g' _ hin => by
  refine ⟨_, _, _, _, ?_, (θ_run Cert.PairRefIdeal.defs _ _).mono (fun _ h => h 0) (Cert.PairRefIdeal.Value.run (F := Bits) m' g')⟩
  refine (θ_run Cert.PairIdeal.defs _ _).mono (fun _ h c => ⟨
    ((h.1 c 0).2.trans (want_eq m c 0)).trans ?_, ((h.1 c 1).2.trans (want_eq m c 1)).trans ?_, ((h.1 c 2).2.trans (want_eq m c 2)).trans ?_,
    ((h.1 c 3).2.trans (want_eq m c 3)).trans ?_, (h.1 c 0).1, (h.1 c 1).1, (h.1 c 2).1, (h.1 c 3).1⟩) (run_main (F := Bits) m g)
  · exact gathered_eq m 0 _ _ (fun c => (hin c).1) shapeCasts_S64x1024x256_S4x2x4x2x1024x256 transposes_S4x2x4x2x1024x256_S4x2x4x2x1024x256_0_3_2_1_4_5 shapeCasts_S4x2x4x2x1024x256_S32x2x1024x256 _ c
  · exact gathered_eq m 1 _ _ (fun c => (hin c).2.1) shapeCasts_S64x128x1024_S4x2x4x2x128x1024 transposes_S4x2x4x2x128x1024_S4x2x4x2x128x1024_0_3_2_1_4_5 shapeCasts_S4x2x4x2x128x1024_S32x2x128x1024 _ c
  · exact gathered_eq m 2 _ _ (fun c => (hin c).2.2.1) shapeCasts_S64x1024x768_S4x2x4x2x1024x768 transposes_S4x2x4x2x1024x768_S4x2x4x2x1024x768_0_3_2_1_4_5 shapeCasts_S4x2x4x2x1024x768_S32x2x1024x768 _ c
  · exact gathered_eq m 3 _ _ (fun c => (hin c).2.2.2) shapeCasts_S64x384x1024_S4x2x4x2x384x1024 transposes_S4x2x4x2x384x1024_S4x2x4x2x384x1024_0_3_2_1_4_5 shapeCasts_S4x2x4x2x384x1024_S32x2x384x1024 _ c

end Cert.Proof
-- ==== Proof.GatherPlan.lean ====
/-
# The all-gather: who hands what to whom

Every device sends its shard of each weight to the other core of its chip and to the same core of the three other chips,
and passes what those three send it on to the other core of its chip; its own shard it copies into its result at home.
So block `b` of a device's result is device `b`'s shard, wherever it came from. Every copy has its own semaphores and
happens once.
-/
module

public import proofs.«01_k».proof.Proof.Gen.GatherIdeal
public import proofs.«01_k».proof.Proof.OneShot
public import proofs.«01_k».proof.Proof.Blocks

@[expose] public section

noncomputable section

namespace Cert.GatherIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx
open Cert.OneShot Cert.Blocks
open Cert.GatherIdeal Cert.GatherIdeal.Gen

set_option Elab.async false

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The mesh -/

/-- Where a device sends its shard: to the other core of its chip (`0`), and to the same core of another chip. -/
def mate : Fin 4 → Dev nD → Dev nD
  | 0 => fun c => ⟨(4 * (c.val / 4) + 2 * ((c.val / 2) % 2) + 1) - (c.val % 2), by revert c; decide⟩
  | 1 => fun c => ⟨(2 * ((c.val / 2) % 2) + (c.val % 2) + 4) - 4 * (c.val / 4), by revert c; decide⟩
  | 2 => fun c => ⟨(4 * (c.val / 4) + (c.val % 2) + 2) - 2 * ((c.val / 2) % 2), by revert c; decide⟩
  | 3 => fun c => ⟨((c.val % 2) + 6) - (4 * (c.val / 4) + 2 * ((c.val / 2) % 2)), by revert c; decide⟩

theorem mate_mate (k : Fin 4) (c : Dev nD) : mate k (mate k c) = c := by revert k c; decide

/-- Of a device, the number of its shard. -/
def num (c : Dev nD) : Fin 8 := c

theorem own_val (c : Dev nD) : 4 * (c.val / 4) + 2 * ((c.val / 2) % 2) + (c.val % 2) = (num c).val := by revert c; decide
theorem far1_val (c : Dev nD) : (2 * ((c.val / 2) % 2) + 5) - (4 * (c.val / 4) + (c.val % 2)) = (num (mate 1 (mate 0 c))).val := by revert c; decide
theorem far2_val (c : Dev nD) : (4 * (c.val / 4) + 3) - (2 * ((c.val / 2) % 2) + (c.val % 2)) = (num (mate 2 (mate 0 c))).val := by revert c; decide
theorem far3_val (c : Dev nD) : 7 - (4 * (c.val / 4) + 2 * ((c.val / 2) % 2) + (c.val % 2)) = (num (mate 3 (mate 0 c))).val := by revert c; decide

/-! ## The arrays -/

def rows : Fin 4 → ℕ
  | 0 => 1024 | 1 => 128 | 2 => 1024 | 3 => 384
def cols : Fin 4 → ℕ
  | 0 => 256 | 1 => 1024 | 2 => 768 | 3 => 1024

/-- The shards of the weights. -/
def src : (a : Fin 4) → Memref sig .tc .hbm (M2 (rows a) (cols a)) .bf16
  | 0 => Memref.whole main_arg0 | 1 => Memref.whole main_arg1 | 2 => Memref.whole main_arg2 | 3 => Memref.whole main_arg3
/-- The results. -/
def out : (a : Fin 4) → Memref sig .tc .hbm (M3 8 (rows a) (cols a)) .bf16
  | 0 => Memref.whole main_v1_0 | 1 => Memref.whole main_v1_1 | 2 => Memref.whole main_v1_2 | 3 => Memref.whole main_v1_3

theorem src_whole : (a : Fin 4) → (src a).IsWhole
  | 0 => Memref.isWhole_whole _ | 1 => Memref.isWhole_whole _ | 2 => Memref.isWhole_whole _ | 3 => Memref.isWhole_whole _
theorem out_whole : (a : Fin 4) → (out a).IsWhole
  | 0 => Memref.isWhole_whole _ | 1 => Memref.isWhole_whole _ | 2 => Memref.isWhole_whole _ | 3 => Memref.isWhole_whole _

variable (m : (ℓ : Loc nD τ sig) → Buf (Elt F) ℓ)

/-- Device `c`'s shard of weight `a` at the start. -/
def given (c : Dev nD) (a : Fin 4) : Buf (Elt F) ((src a).view.loc (c.tc : Thread nD τ)) := m _
/-- Its elements. -/
def shard (c : Dev nD) (a : Fin 4) : (M2 (rows a) (cols a)).Idx → Elt F .bf16 := (src a).view.read (Elt F) (given m c a)
/-- What result `a` is to hold on every device: at `b`, device `b`'s shard. -/
def gathered (a : Fin 4) : (M3 8 (rows a) (cols a)).Idx → Elt F .bf16 := fun x => shard m (x 0) a (ix2 (x 1) (x 2))
/-- The same as contents of device `c`'s array. -/
def want (c : Dev nD) (a : Fin 4) : Buf (Elt F) ((out a).view.loc (c.tc : Thread nD τ)) := (out_whole a).unread (gathered m a)

/-! ## Shares of a shard: one for each of its four sends, one for the copy at home -/

/-- The part set aside next, -/
def piece : Fin 4 → PosShare TreeShare
  | 0 => fullShare.left | 1 => fullShare.right.left | 2 => fullShare.right.right.left | 3 => fullShare.right.right.right.left
/-- and what stays. -/
def stays : PosShare TreeShare := fullShare.right.right.right.right

/-- Share `q` of device `c`'s shard of weight `a`. -/
def srcPart (c : Dev nD) (a : Fin 4) (q : PosShare TreeShare) : sProp 𝕄 :=
  (src a).view.loc (c.tc : Thread nD τ) ↦[(src a).view.set]{q} given m c a
/-- Block `b` of device `c`'s result, owned, at contents `f`. -/
def outPart (c : Dev nD) (a : Fin 4) (b : Fin 8) (f : Buf (Elt F) ((out a).view.loc (c.tc : Thread nD τ))) : sProp 𝕄 :=
  (blk3 (out a) b).view.loc (c.tc : Thread nD τ) ↦[(blk3 (out a) b).view.set]{fullShare} f

/-! ## The plan -/

/-- A semaphore: of an arrival `(a, k)` from the device's four partners, of one `(j, a)` the other core passes on, of a
send `(a, k)`, of one `(j, a)` passed on, or of the copy at home. -/
abbrev J : Type := (Fin 4 × Fin 4) ⊕ (Fin 3 × Fin 4) ⊕ (Fin 4 × Fin 4) ⊕ (Fin 3 × Fin 4) ⊕ Fin 4

abbrev came (a k : Fin 4) : J := .inl (a, k)
abbrev relayed (j : Fin 3) (a : Fin 4) : J := .inr (.inl (j, a))
abbrev sent (a k : Fin 4) : J := .inr (.inr (.inl (a, k)))
abbrev passed (j : Fin 3) (a : Fin 4) : J := .inr (.inr (.inr (.inl (j, a))))
abbrev kept (a : Fin 4) : J := .inr (.inr (.inr (.inr a)))

def num60 : J → Fin 60
  | .inl (a, k) => ⟨28 + 7 * a.val + k.val, by omega⟩
  | .inr (.inl (j, a)) => ⟨32 + 7 * a.val + j.val, by omega⟩
  | .inr (.inr (.inl (a, k))) => ⟨7 * a.val + k.val, by omega⟩
  | .inr (.inr (.inr (.inl (j, a)))) => ⟨4 + 7 * a.val + j.val, by omega⟩
  | .inr (.inr (.inr (.inr a))) => ⟨56 + a.val, by omega⟩

def osem (j : J) : DmaSem sig := num60 j

theorem osem_inj : Function.Injective osem := by
  rintro (⟨a, k⟩ | ⟨j, a⟩ | ⟨a, k⟩ | ⟨j, a⟩ | a) (⟨a', k'⟩ | ⟨j', a'⟩ | ⟨a', k'⟩ | ⟨j', a'⟩ | a') h <;>
    (have h0 := congrArg Fin.val h
     simp only [osem, num60] at h0
     first
       | (exfalso; omega)
       | (have h1 : a = a' := Fin.ext (by omega)
          subst h1
          first
            | rfl
            | (have h2 : k = k' := Fin.ext (by omega)
               subst h2; rfl)
            | (have h2 : j = j' := Fin.ext (by omega)
               subst h2; rfl)))

/-- The weight a semaphore's copy is of. -/
def which : J → Fin 4
  | .inl (a, _) => a
  | .inr (.inl (_, a)) => a
  | .inr (.inr (.inl (a, _))) => a
  | .inr (.inr (.inr (.inl (_, a)))) => a
  | .inr (.inr (.inr (.inr a))) => a

/-- The credit of one copy of a shard of weight `a`. -/
def credit (a : Fin 4) : ℕ := (blk3 (out a) 0).view.dmaCredit

theorem credit_pos (a : Fin 4) : 0 < credit a := View.dmaCredit_pos _ (by
  match a with
  | 0 => decide +kernel
  | 1 => decide +kernel
  | 2 => decide +kernel
  | 3 => decide +kernel)

/-- What the copy on semaphore `j` of device `c` hands back or delivers. -/
def pay (c : Dev nD) : J → sProp 𝕄
  | .inl (a, k) => outPart c a (num (mate k c)) (want m c a)
  | .inr (.inl (j, a)) => outPart c a (num (mate j.succ (mate 0 c))) (want m c a)
  | .inr (.inr (.inl (a, k))) => srcPart m c a (piece k)
  | .inr (.inr (.inr (.inl (j, a)))) => outPart c a (num (mate j.succ c)) (want m c a)
  | .inr (.inr (.inr (.inr a))) => iprop(outPart c a (num c) (want m c a) ∗ srcPart m c a stays)

def plan : Plan nD sig (MT nD τ sig Unit (Elt F) ℕ UU ℕ) J where
  osem := osem
  osem_inj := osem_inj
  act _ _ := true
  amt _ j := credit (which j)
  amt_pos _ j := credit_pos (which j)
  pay := pay m

instance storable (c : Dev nD) (j : J) : Storable upEmb ((plan (F := F) m).pay c j) := by
  show Storable upEmb (pay m c j)
  match j with
  | .inl (a, k) => unfold pay outPart; infer_instance
  | .inr (.inl (j, a)) => unfold pay outPart; infer_instance
  | .inr (.inr (.inl (a, k))) => unfold pay srcPart; infer_instance
  | .inr (.inr (.inr (.inl (j, a)))) => unfold pay outPart; infer_instance
  | .inr (.inr (.inr (.inr a))) => unfold pay outPart srcPart; infer_instance

/-- The arrivals by way of the other core come second: they are waited for when nothing is owed. -/
def lvS : SemLoc sig → ℕ
  | .dma i => if 28 ≤ i.val ∧ i.val < 56 ∧ 4 ≤ (i.val - 28) % 7 then 1 else 0
  | _ => 0

theorem lvS_came (a k : Fin 4) : lvS (.dma (osem (came a k))) = 0 := by revert a k; decide +kernel
theorem lvS_relayed (j : Fin 3) (a : Fin 4) : lvS (.dma (osem (relayed j a))) = 1 := by revert j a; decide +kernel

/-! ## What the copies deliver -/

theorem reads_shard (c d : Dev nD) (a : Fin 4) :
    (blk3 (out a) (num c)).view.read (Elt F) (want m d a) = (src a).view.read (Elt F) (given m c a) := by
  funext x
  obtain ⟨i, j, rfl⟩ : ∃ i j, x = ix2 i j := ⟨x 0, x 1, eq_ix2 x⟩
  rw [read_blk3, want, Memref.IsWhole.read_unread]
  rfl

theorem reads_passed (c d : Dev nD) (a : Fin 4) (b : Fin 8) :
    (blk3 (out a) b).view.read (Elt F) (want m d a) = (blk3 (out a) b).view.read (Elt F) (want m c a) := rfl

end Cert.GatherIdeal.Gather
-- ==== Proof.GatherOps.lean ====
/-
# The all-gather: the operations the kernel performs

The printed kernel's operations in the order it performs them, in families over the weight `a` and the chip: `k` counts
the four chips from the device's own, `j` the three others. `body_eq` says the kernel is these, in this order.
-/
module

public import proofs.«01_k».proof.Proof.Gen.GatherIdeal.Skeleton
public import proofs.«01_k».proof.Proof.Gen.GatherIdeal.Points
public import proofs.«01_k».proof.Proof.OneShot

@[expose] public section

noncomputable section

namespace Cert.GatherIdeal.Gather

open Idealize.ShloMosaic Idealize.SL.Sem
open Cert.OneShot
open Cert.GatherIdeal Cert.GatherIdeal.Gen

set_option Elab.async false

variable {F : FTy → Type} [FloatOps F]

/-- One operation of the kernel, or several. -/
abbrev Op (F : FTy → Type) : Type 1 := Prog (TpuEff nD τ sig (Elt F) Λ₀ .tc) PUnit

/-- A block of an array, without the axes it has one place on. -/
abbrev cut0 (M : Memref sig .tc .hbm S8x1024x256 .bf16) (o : Fin 3 → ℕ) (h : ∀ a, o a + S1x1024x256.size a ≤ S8x1024x256.size a) : Memref sig .tc .hbm S1024x256 .bf16 :=
  (M.slice (Rect.unit (s := S8x1024x256) o S1x1024x256.size h) (fun _ => rfl)).squeeze S1024x256 squeezes_S1x1024x256_S1024x256
abbrev cut1 (M : Memref sig .tc .hbm S8x128x1024 .bf16) (o : Fin 3 → ℕ) (h : ∀ a, o a + S1x128x1024.size a ≤ S8x128x1024.size a) : Memref sig .tc .hbm S128x1024 .bf16 :=
  (M.slice (Rect.unit (s := S8x128x1024) o S1x128x1024.size h) (fun _ => rfl)).squeeze S128x1024 squeezes_S1x128x1024_S128x1024
abbrev cut2 (M : Memref sig .tc .hbm S8x1024x768 .bf16) (o : Fin 3 → ℕ) (h : ∀ a, o a + S1x1024x768.size a ≤ S8x1024x768.size a) : Memref sig .tc .hbm S1024x768 .bf16 :=
  (M.slice (Rect.unit (s := S8x1024x768) o S1x1024x768.size h) (fun _ => rfl)).squeeze S1024x768 squeezes_S1x1024x768_S1024x768
abbrev cut3 (M : Memref sig .tc .hbm S8x384x1024 .bf16) (o : Fin 3 → ℕ) (h : ∀ a, o a + S1x384x1024.size a ≤ S8x384x1024.size a) : Memref sig .tc .hbm S384x1024 .bf16 :=
  (M.slice (Rect.unit (s := S8x384x1024) o S1x384x1024.size h) (fun _ => rfl)).squeeze S384x1024 squeezes_S1x384x1024_S384x1024

/-- One semaphore of an array of them. -/
abbrev cell0 (A : DmaSems sig S4x7) (o : Fin 2 → ℕ) (h : ∀ a, o a + S1x1.size a ≤ S4x7.size a) :=
  ((A.slice (Rect.unit (s := S4x7) o S1x1.size h)).squeeze S_ squeezes_S1x1_S_).sem
abbrev cell1 (A : DmaSems sig S4) (o : Fin 1 → ℕ) (h : ∀ a, o a + S1.size a ≤ S4.size a) :=
  ((A.slice (Rect.unit (s := S4) o S1.size h)).squeeze S_ squeezes_S1_S_).sem

abbrev arg0 : Memref sig .tc .hbm S1024x256 .bf16 := Memref.whole main_arg0
theorem harg0 : arg0.IsWhole := Memref.isWhole_whole _
abbrev arg1 : Memref sig .tc .hbm S128x1024 .bf16 := Memref.whole main_arg1
theorem harg1 : arg1.IsWhole := Memref.isWhole_whole _
abbrev arg2 : Memref sig .tc .hbm S1024x768 .bf16 := Memref.whole main_arg2
theorem harg2 : arg2.IsWhole := Memref.isWhole_whole _
abbrev arg3 : Memref sig .tc .hbm S384x1024 .bf16 := Memref.whole main_arg3
theorem harg3 : arg3.IsWhole := Memref.isWhole_whole _
abbrev arg4 : Memref sig .tc .hbm S8x1024x256 .bf16 := Memref.whole main_v1_0
theorem harg4 : arg4.IsWhole := Memref.isWhole_whole _
abbrev arg5 : Memref sig .tc .hbm S8x128x1024 .bf16 := Memref.whole main_v1_1
theorem harg5 : arg5.IsWhole := Memref.isWhole_whole _
abbrev arg6 : Memref sig .tc .hbm S8x1024x768 .bf16 := Memref.whole main_v1_2
theorem harg6 : arg6.IsWhole := Memref.isWhole_whole _
abbrev arg7 : Memref sig .tc .hbm S8x384x1024 .bf16 := Memref.whole main_v1_3
theorem harg7 : arg7.IsWhole := Memref.isWhole_whole _
abbrev arg8 : DmaSems sig S4x7 := cc0_scratch0
abbrev arg9 : DmaSems sig S4x7 := cc0_scratch1
abbrev arg10 : DmaSems sig S4 := cc0_scratch2

/-- The other core's own shard is waited for. -/
def waitNear (d0 : Dev nD) : Fin 4 → Op F
  | 0 => Prog.lift (.waitDma2 (cell0 arg9 ![0, 0] inb_S4x7_S1x1_0_0) (cut0 arg4 (k0_off17 d0) (k0_off17_inb d0)) (cut0 arg4 (k0_off17 d0) (k0_off17_inb d0)) ((harg4.wordExact_slice rfl _ (k0_off17_wordsbf16 d0)).reshape _ _) ((harg4.wordExact_slice rfl _ (k0_off17_wordsbf16 d0)).reshape _ _))
  | 1 => Prog.lift (.waitDma2 (cell0 arg9 ![1, 0] inb_S4x7_S1x1_1_0) (cut1 arg5 (k0_off21 d0) (k0_off21_inb d0)) (cut1 arg5 (k0_off21 d0) (k0_off21_inb d0)) ((harg5.wordExact_slice rfl _ (k0_off21_wordsbf16 d0)).reshape _ _) ((harg5.wordExact_slice rfl _ (k0_off21_wordsbf16 d0)).reshape _ _))
  | 2 => Prog.lift (.waitDma2 (cell0 arg9 ![2, 0] inb_S4x7_S1x1_2_0) (cut2 arg6 (k0_off25 d0) (k0_off25_inb d0)) (cut2 arg6 (k0_off25 d0) (k0_off25_inb d0)) ((harg6.wordExact_slice rfl _ (k0_off25_wordsbf16 d0)).reshape _ _) ((harg6.wordExact_slice rfl _ (k0_off25_wordsbf16 d0)).reshape _ _))
  | 3 => Prog.lift (.waitDma2 (cell0 arg9 ![3, 0] inb_S4x7_S1x1_3_0) (cut3 arg7 (k0_off29 d0) (k0_off29_inb d0)) (cut3 arg7 (k0_off29 d0) (k0_off29_inb d0)) ((harg7.wordExact_slice rfl _ (k0_off29_wordsbf16 d0)).reshape _ _) ((harg7.wordExact_slice rfl _ (k0_off29_wordsbf16 d0)).reshape _ _))

/-- The copy of a device's own shard into its result is started. -/
def home (d0 : Dev nD) : Fin 4 → Op F
  | 0 => Prog.lift (.enqueueDma arg0 (.here (cut0 arg4 (k0_off1 d0) (k0_off1_inb d0))) (.dma (cell1 arg10 ![0] inb_S4_S1_0)) harg0.wordExact ((harg4.wordExact_slice rfl _ (k0_off1_wordsbf16 d0)).reshape _ _) ⟨Or.inl rfl, trivial⟩)
  | 1 => Prog.lift (.enqueueDma arg1 (.here (cut1 arg5 (k0_off2 d0) (k0_off2_inb d0))) (.dma (cell1 arg10 ![1] inb_S4_S1_1)) harg1.wordExact ((harg5.wordExact_slice rfl _ (k0_off2_wordsbf16 d0)).reshape _ _) ⟨Or.inl rfl, trivial⟩)
  | 2 => Prog.lift (.enqueueDma arg2 (.here (cut2 arg6 (k0_off3 d0) (k0_off3_inb d0))) (.dma (cell1 arg10 ![2] inb_S4_S1_2)) harg2.wordExact ((harg6.wordExact_slice rfl _ (k0_off3_wordsbf16 d0)).reshape _ _) ⟨Or.inl rfl, trivial⟩)
  | 3 => Prog.lift (.enqueueDma arg3 (.here (cut3 arg7 (k0_off4 d0) (k0_off4_inb d0))) (.dma (cell1 arg10 ![3] inb_S4_S1_3)) harg3.wordExact ((harg7.wordExact_slice rfl _ (k0_off4_wordsbf16 d0)).reshape _ _) ⟨Or.inl rfl, trivial⟩)

/-- It is waited for. -/
def waitHome (d0 : Dev nD) : Fin 4 → Op F
  | 0 => Prog.lift (.waitDma2 (cell1 arg10 ![0] inb_S4_S1_0) arg0 (cut0 arg4 (k0_off1 d0) (k0_off1_inb d0)) harg0.wordExact ((harg4.wordExact_slice rfl _ (k0_off1_wordsbf16 d0)).reshape _ _))
  | 1 => Prog.lift (.waitDma2 (cell1 arg10 ![1] inb_S4_S1_1) arg1 (cut1 arg5 (k0_off2 d0) (k0_off2_inb d0)) harg1.wordExact ((harg5.wordExact_slice rfl _ (k0_off2_wordsbf16 d0)).reshape _ _))
  | 2 => Prog.lift (.waitDma2 (cell1 arg10 ![2] inb_S4_S1_2) arg2 (cut2 arg6 (k0_off3 d0) (k0_off3_inb d0)) harg2.wordExact ((harg6.wordExact_slice rfl _ (k0_off3_wordsbf16 d0)).reshape _ _))
  | 3 => Prog.lift (.waitDma2 (cell1 arg10 ![3] inb_S4_S1_3) arg3 (cut3 arg7 (k0_off4 d0) (k0_off4_inb d0)) harg3.wordExact ((harg7.wordExact_slice rfl _ (k0_off4_wordsbf16 d0)).reshape _ _))

/-- The shard is sent: to the other core of the chip, and to the same core of the three other chips. -/
def first (d0 : Dev nD) : Fin 4 → Fin 4 → Op F
  | 0 => fun
    | 0 => Prog.lift (.enqueueDma arg0 (.remote (Dev.tc (⟨k0_dev1 d0, k0_dev1_lt d0⟩ : Dev nD)) (cut0 arg4 (k0_off1 d0) (k0_off1_inb d0)) (.dma (cell0 arg8 ![0, 0] inb_S4x7_S1x1_0_0))) (.dma (cell0 arg9 ![0, 0] inb_S4x7_S1x1_0_0)) harg0.wordExact ((harg4.wordExact_slice rfl _ (k0_off1_wordsbf16 d0)).reshape _ _) ⟨⟨rfl, Or.inl rfl⟩, trivial⟩)
    | 1 => Prog.lift (.enqueueDma arg0 (.remote (Dev.tc (⟨k0_dev2 d0, k0_dev2_lt d0⟩ : Dev nD)) (cut0 arg4 (k0_off1 d0) (k0_off1_inb d0)) (.dma (cell0 arg8 ![0, 1] inb_S4x7_S1x1_0_1))) (.dma (cell0 arg9 ![0, 1] inb_S4x7_S1x1_0_1)) harg0.wordExact ((harg4.wordExact_slice rfl _ (k0_off1_wordsbf16 d0)).reshape _ _) ⟨⟨rfl, Or.inl rfl⟩, trivial⟩)
    | 2 => Prog.lift (.enqueueDma arg0 (.remote (Dev.tc (⟨k0_dev3 d0, k0_dev3_lt d0⟩ : Dev nD)) (cut0 arg4 (k0_off1 d0) (k0_off1_inb d0)) (.dma (cell0 arg8 ![0, 2] inb_S4x7_S1x1_0_2))) (.dma (cell0 arg9 ![0, 2] inb_S4x7_S1x1_0_2)) harg0.wordExact ((harg4.wordExact_slice rfl _ (k0_off1_wordsbf16 d0)).reshape _ _) ⟨⟨rfl, Or.inl rfl⟩, trivial⟩)
    | 3 => Prog.lift (.enqueueDma arg0 (.remote (Dev.tc (⟨k0_dev4 d0, k0_dev4_lt d0⟩ : Dev nD)) (cut0 arg4 (k0_off1 d0) (k0_off1_inb d0)) (.dma (cell0 arg8 ![0, 3] inb_S4x7_S1x1_0_3))) (.dma (cell0 arg9 ![0, 3] inb_S4x7_S1x1_0_3)) harg0.wordExact ((harg4.wordExact_slice rfl _ (k0_off1_wordsbf16 d0)).reshape _ _) ⟨⟨rfl, Or.inl rfl⟩, trivial⟩)
  | 1 => fun
    | 0 => Prog.lift (.enqueueDma arg1 (.remote (Dev.tc (⟨k0_dev5 d0, k0_dev5_lt d0⟩ : Dev nD)) (cut1 arg5 (k0_off2 d0) (k0_off2_inb d0)) (.dma (cell0 arg8 ![1, 0] inb_S4x7_S1x1_1_0))) (.dma (cell0 arg9 ![1, 0] inb_S4x7_S1x1_1_0)) harg1.wordExact ((harg5.wordExact_slice rfl _ (k0_off2_wordsbf16 d0)).reshape _ _) ⟨⟨rfl, Or.inl rfl⟩, trivial⟩)
    | 1 => Prog.lift (.enqueueDma arg1 (.remote (Dev.tc (⟨k0_dev6 d0, k0_dev6_lt d0⟩ : Dev nD)) (cut1 arg5 (k0_off2 d0) (k0_off2_inb d0)) (.dma (cell0 arg8 ![1, 1] inb_S4x7_S1x1_1_1))) (.dma (cell0 arg9 ![1, 1] inb_S4x7_S1x1_1_1)) harg1.wordExact ((harg5.wordExact_slice rfl _ (k0_off2_wordsbf16 d0)).reshape _ _) ⟨⟨rfl, Or.inl rfl⟩, trivial⟩)
    | 2 => Prog.lift (.enqueueDma arg1 (.remote (Dev.tc (⟨k0_dev7 d0, k0_dev7_lt d0⟩ : Dev nD)) (cut1 arg5 (k0_off2 d0) (k0_off2_inb d0)) (.dma (cell0 arg8 ![1, 2] inb_S4x7_S1x1_1_2))) (.dma (cell0 arg9 ![1, 2] inb_S4x7_S1x1_1_2)) harg1.wordExact ((harg5.wordExact_slice rfl _ (k0_off2_wordsbf16 d0)).reshape _ _) ⟨⟨rfl, Or.inl rfl⟩, trivial⟩)
    | 3 => Prog.lift (.enqueueDma arg1 (.remote (Dev.tc (⟨k0_dev8 d0, k0_dev8_lt d0⟩ : Dev nD)) (cut1 arg5 (k0_off2 d0) (k0_off2_inb d0)) (.dma (cell0 arg8 ![1, 3] inb_S4x7_S1x1_1_3))) (.dma (cell0 arg9 ![1, 3] inb_S4x7_S1x1_1_3)) harg1.wordExact ((harg5.wordExact_slice rfl _ (k0_off2_wordsbf16 d0)).reshape _ _) ⟨⟨rfl, Or.inl rfl⟩, trivial⟩)
  | 2 => fun
    | 0 => Prog.lift (.enqueueDma arg2 (.remote (Dev.tc (⟨k0_dev9 d0, k0_dev9_lt d0⟩ : Dev nD)) (cut2 arg6 (k0_off3 d0) (k0_off3_inb d0)) (.dma (cell0 arg8 ![2, 0] inb_S4x7_S1x1_2_0))) (.dma (cell0 arg9 ![2, 0] inb_S4x7_S1x1_2_0)) harg2.wordExact ((harg6.wordExact_slice rfl _ (k0_off3_wordsbf16 d0)).reshape _ _) ⟨⟨rfl, Or.inl rfl⟩, trivial⟩)
    | 1 => Prog.lift (.enqueueDma arg2 (.remote (Dev.tc (⟨k0_dev10 d0, k0_dev10_lt d0⟩ : Dev nD)) (cut2 arg6 (k0_off3 d0) (k0_off3_inb d0)) (.dma (cell0 arg8 ![2, 1] inb_S4x7_S1x1_2_1))) (.dma (cell0 arg9 ![2, 1] inb_S4x7_S1x1_2_1)) harg2.wordExact ((harg6.wordExact_slice rfl _ (k0_off3_wordsbf16 d0)).reshape _ _) ⟨⟨rfl, Or.inl rfl⟩, trivial⟩)
    | 2 => Prog.lift (.enqueueDma arg2 (.remote (Dev.tc (⟨k0_dev11 d0, k0_dev11_lt d0⟩ : Dev nD)) (cut2 arg6 (k0_off3 d0) (k0_off3_inb d0)) (.dma (cell0 arg8 ![2, 2] inb_S4x7_S1x1_2_2))) (.dma (cell0 arg9 ![2, 2] inb_S4x7_S1x1_2_2)) harg2.wordExact ((harg6.wordExact_slice rfl _ (k0_off3_wordsbf16 d0)).reshape _ _) ⟨⟨rfl, Or.inl rfl⟩, trivial⟩)
    | 3 => Prog.lift (.enqueueDma arg2 (.remote (Dev.tc (⟨k0_dev12 d0, k0_dev12_lt d0⟩ : Dev nD)) (cut2 arg6 (k0_off3 d0) (k0_off3_inb d0)) (.dma (cell0 arg8 ![2, 3] inb_S4x7_S1x1_2_3))) (.dma (cell0 arg9 ![2, 3] inb_S4x7_S1x1_2_3)) harg2.wordExact ((harg6.wordExact_slice rfl _ (k0_off3_wordsbf16 d0)).reshape _ _) ⟨⟨rfl, Or.inl rfl⟩, trivial⟩)
  | 3 => fun
    | 0 => Prog.lift (.enqueueDma arg3 (.remote (Dev.tc (⟨k0_dev13 d0, k0_dev13_lt d0⟩ : Dev nD)) (cut3 arg7 (k0_off4 d0) (k0_off4_inb d0)) (.dma (cell0 arg8 ![3, 0] inb_S4x7_S1x1_3_0))) (.dma (cell0 arg9 ![3, 0] inb_S4x7_S1x1_3_0)) harg3.wordExact ((harg7.wordExact_slice rfl _ (k0_off4_wordsbf16 d0)).reshape _ _) ⟨⟨rfl, Or.inl rfl⟩, trivial⟩)
    | 1 => Prog.lift (.enqueueDma arg3 (.remote (Dev.tc (⟨k0_dev14 d0, k0_dev14_lt d0⟩ : Dev nD)) (cut3 arg7 (k0_off4 d0) (k0_off4_inb d0)) (.dma (cell0 arg8 ![3, 1] inb_S4x7_S1x1_3_1))) (.dma (cell0 arg9 ![3, 1] inb_S4x7_S1x1_3_1)) harg3.wordExact ((harg7.wordExact_slice rfl _ (k0_off4_wordsbf16 d0)).reshape _ _) ⟨⟨rfl, Or.inl rfl⟩, trivial⟩)
    | 2 => Prog.lift (.enqueueDma arg3 (.remote (Dev.tc (⟨k0_dev15 d0, k0_dev15_lt d0⟩ : Dev nD)) (cut3 arg7 (k0_off4 d0) (k0_off4_inb d0)) (.dma (cell0 arg8 ![3, 2] inb_S4x7_S1x1_3_2))) (.dma (cell0 arg9 ![3, 2] inb_S4x7_S1x1_3_2)) harg3.wordExact ((harg7.wordExact_slice rfl _ (k0_off4_wordsbf16 d0)).reshape _ _) ⟨⟨rfl, Or.inl rfl⟩, trivial⟩)
    | 3 => Prog.lift (.enqueueDma arg3 (.remote (Dev.tc (⟨k0_dev16 d0, k0_dev16_lt d0⟩ : Dev nD)) (cut3 arg7 (k0_off4 d0) (k0_off4_inb d0)) (.dma (cell0 arg8 ![3, 3] inb_S4x7_S1x1_3_3))) (.dma (cell0 arg9 ![3, 3] inb_S4x7_S1x1_3_3)) harg3.wordExact ((harg7.wordExact_slice rfl _ (k0_off4_wordsbf16 d0)).reshape _ _) ⟨⟨rfl, Or.inl rfl⟩, trivial⟩)

/-- A shard of another chip is waited for, -/
def waitDirect (d0 : Dev nD) : Fin 3 → Fin 4 → Op F
  | 0 => fun
    | 0 => Prog.lift (.waitDma2 (cell0 arg9 ![0, 1] inb_S4x7_S1x1_0_1) (cut0 arg4 (k0_off5 d0) (k0_off5_inb d0)) (cut0 arg4 (k0_off5 d0) (k0_off5_inb d0)) ((harg4.wordExact_slice rfl _ (k0_off5_wordsbf16 d0)).reshape _ _) ((harg4.wordExact_slice rfl _ (k0_off5_wordsbf16 d0)).reshape _ _))
    | 1 => Prog.lift (.waitDma2 (cell0 arg9 ![1, 1] inb_S4x7_S1x1_1_1) (cut1 arg5 (k0_off6 d0) (k0_off6_inb d0)) (cut1 arg5 (k0_off6 d0) (k0_off6_inb d0)) ((harg5.wordExact_slice rfl _ (k0_off6_wordsbf16 d0)).reshape _ _) ((harg5.wordExact_slice rfl _ (k0_off6_wordsbf16 d0)).reshape _ _))
    | 2 => Prog.lift (.waitDma2 (cell0 arg9 ![2, 1] inb_S4x7_S1x1_2_1) (cut2 arg6 (k0_off7 d0) (k0_off7_inb d0)) (cut2 arg6 (k0_off7 d0) (k0_off7_inb d0)) ((harg6.wordExact_slice rfl _ (k0_off7_wordsbf16 d0)).reshape _ _) ((harg6.wordExact_slice rfl _ (k0_off7_wordsbf16 d0)).reshape _ _))
    | 3 => Prog.lift (.waitDma2 (cell0 arg9 ![3, 1] inb_S4x7_S1x1_3_1) (cut3 arg7 (k0_off8 d0) (k0_off8_inb d0)) (cut3 arg7 (k0_off8 d0) (k0_off8_inb d0)) ((harg7.wordExact_slice rfl _ (k0_off8_wordsbf16 d0)).reshape _ _) ((harg7.wordExact_slice rfl _ (k0_off8_wordsbf16 d0)).reshape _ _))
  | 1 => fun
    | 0 => Prog.lift (.waitDma2 (cell0 arg9 ![0, 2] inb_S4x7_S1x1_0_2) (cut0 arg4 (k0_off9 d0) (k0_off9_inb d0)) (cut0 arg4 (k0_off9 d0) (k0_off9_inb d0)) ((harg4.wordExact_slice rfl _ (k0_off9_wordsbf16 d0)).reshape _ _) ((harg4.wordExact_slice rfl _ (k0_off9_wordsbf16 d0)).reshape _ _))
    | 1 => Prog.lift (.waitDma2 (cell0 arg9 ![1, 2] inb_S4x7_S1x1_1_2) (cut1 arg5 (k0_off10 d0) (k0_off10_inb d0)) (cut1 arg5 (k0_off10 d0) (k0_off10_inb d0)) ((harg5.wordExact_slice rfl _ (k0_off10_wordsbf16 d0)).reshape _ _) ((harg5.wordExact_slice rfl _ (k0_off10_wordsbf16 d0)).reshape _ _))
    | 2 => Prog.lift (.waitDma2 (cell0 arg9 ![2, 2] inb_S4x7_S1x1_2_2) (cut2 arg6 (k0_off11 d0) (k0_off11_inb d0)) (cut2 arg6 (k0_off11 d0) (k0_off11_inb d0)) ((harg6.wordExact_slice rfl _ (k0_off11_wordsbf16 d0)).reshape _ _) ((harg6.wordExact_slice rfl _ (k0_off11_wordsbf16 d0)).reshape _ _))
    | 3 => Prog.lift (.waitDma2 (cell0 arg9 ![3, 2] inb_S4x7_S1x1_3_2) (cut3 arg7 (k0_off12 d0) (k0_off12_inb d0)) (cut3 arg7 (k0_off12 d0) (k0_off12_inb d0)) ((harg7.wordExact_slice rfl _ (k0_off12_wordsbf16 d0)).reshape _ _) ((harg7.wordExact_slice rfl _ (k0_off12_wordsbf16 d0)).reshape _ _))
  | 2 => fun
    | 0 => Prog.lift (.waitDma2 (cell0 arg9 ![0, 3] inb_S4x7_S1x1_0_3) (cut0 arg4 (k0_off13 d0) (k0_off13_inb d0)) (cut0 arg4 (k0_off13 d0) (k0_off13_inb d0)) ((harg4.wordExact_slice rfl _ (k0_off13_wordsbf16 d0)).reshape _ _) ((harg4.wordExact_slice rfl _ (k0_off13_wordsbf16 d0)).reshape _ _))
    | 1 => Prog.lift (.waitDma2 (cell0 arg9 ![1, 3] inb_S4x7_S1x1_1_3) (cut1 arg5 (k0_off14 d0) (k0_off14_inb d0)) (cut1 arg5 (k0_off14 d0) (k0_off14_inb d0)) ((harg5.wordExact_slice rfl _ (k0_off14_wordsbf16 d0)).reshape _ _) ((harg5.wordExact_slice rfl _ (k0_off14_wordsbf16 d0)).reshape _ _))
    | 2 => Prog.lift (.waitDma2 (cell0 arg9 ![2, 3] inb_S4x7_S1x1_2_3) (cut2 arg6 (k0_off15 d0) (k0_off15_inb d0)) (cut2 arg6 (k0_off15 d0) (k0_off15_inb d0)) ((harg6.wordExact_slice rfl _ (k0_off15_wordsbf16 d0)).reshape _ _) ((harg6.wordExact_slice rfl _ (k0_off15_wordsbf16 d0)).reshape _ _))
    | 3 => Prog.lift (.waitDma2 (cell0 arg9 ![3, 3] inb_S4x7_S1x1_3_3) (cut3 arg7 (k0_off16 d0) (k0_off16_inb d0)) (cut3 arg7 (k0_off16 d0) (k0_off16_inb d0)) ((harg7.wordExact_slice rfl _ (k0_off16_wordsbf16 d0)).reshape _ _) ((harg7.wordExact_slice rfl _ (k0_off16_wordsbf16 d0)).reshape _ _))

/-- and passed on to the other core. -/
def forward (d0 : Dev nD) : Fin 3 → Fin 4 → Op F
  | 0 => fun
    | 0 => Prog.lift (.enqueueDma (cut0 arg4 (k0_off5 d0) (k0_off5_inb d0)) (.remote (Dev.tc (⟨k0_dev17 d0, k0_dev17_lt d0⟩ : Dev nD)) (cut0 arg4 (k0_off5 d0) (k0_off5_inb d0)) (.dma (cell0 arg8 ![0, 4] inb_S4x7_S1x1_0_4))) (.dma (cell0 arg9 ![0, 4] inb_S4x7_S1x1_0_4)) ((harg4.wordExact_slice rfl _ (k0_off5_wordsbf16 d0)).reshape _ _) ((harg4.wordExact_slice rfl _ (k0_off5_wordsbf16 d0)).reshape _ _) ⟨⟨rfl, Or.inl rfl⟩, trivial⟩)
    | 1 => Prog.lift (.enqueueDma (cut1 arg5 (k0_off6 d0) (k0_off6_inb d0)) (.remote (Dev.tc (⟨k0_dev18 d0, k0_dev18_lt d0⟩ : Dev nD)) (cut1 arg5 (k0_off6 d0) (k0_off6_inb d0)) (.dma (cell0 arg8 ![1, 4] inb_S4x7_S1x1_1_4))) (.dma (cell0 arg9 ![1, 4] inb_S4x7_S1x1_1_4)) ((harg5.wordExact_slice rfl _ (k0_off6_wordsbf16 d0)).reshape _ _) ((harg5.wordExact_slice rfl _ (k0_off6_wordsbf16 d0)).reshape _ _) ⟨⟨rfl, Or.inl rfl⟩, trivial⟩)
    | 2 => Prog.lift (.enqueueDma (cut2 arg6 (k0_off7 d0) (k0_off7_inb d0)) (.remote (Dev.tc (⟨k0_dev19 d0, k0_dev19_lt d0⟩ : Dev nD)) (cut2 arg6 (k0_off7 d0) (k0_off7_inb d0)) (.dma (cell0 arg8 ![2, 4] inb_S4x7_S1x1_2_4))) (.dma (cell0 arg9 ![2, 4] inb_S4x7_S1x1_2_4)) ((harg6.wordExact_slice rfl _ (k0_off7_wordsbf16 d0)).reshape _ _) ((harg6.wordExact_slice rfl _ (k0_off7_wordsbf16 d0)).reshape _ _) ⟨⟨rfl, Or.inl rfl⟩, trivial⟩)
    | 3 => Prog.lift (.enqueueDma (cut3 arg7 (k0_off8 d0) (k0_off8_inb d0)) (.remote (Dev.tc (⟨k0_dev20 d0, k0_dev20_lt d0⟩ : Dev nD)) (cut3 arg7 (k0_off8 d0) (k0_off8_inb d0)) (.dma (cell0 arg8 ![3, 4] inb_S4x7_S1x1_3_4))) (.dma (cell0 arg9 ![3, 4] inb_S4x7_S1x1_3_4)) ((harg7.wordExact_slice rfl _ (k0_off8_wordsbf16 d0)).reshape _ _) ((harg7.wordExact_slice rfl _ (k0_off8_wordsbf16 d0)).reshape _ _) ⟨⟨rfl, Or.inl rfl⟩, trivial⟩)
  | 1 => fun
    | 0 => Prog.lift (.enqueueDma (cut0 arg4 (k0_off9 d0) (k0_off9_inb d0)) (.remote (Dev.tc (⟨k0_dev21 d0, k0_dev21_lt d0⟩ : Dev nD)) (cut0 arg4 (k0_off9 d0) (k0_off9_inb d0)) (.dma (cell0 arg8 ![0, 5] inb_S4x7_S1x1_0_5))) (.dma (cell0 arg9 ![0, 5] inb_S4x7_S1x1_0_5)) ((harg4.wordExact_slice rfl _ (k0_off9_wordsbf16 d0)).reshape _ _) ((harg4.wordExact_slice rfl _ (k0_off9_wordsbf16 d0)).reshape _ _) ⟨⟨rfl, Or.inl rfl⟩, trivial⟩)
    | 1 => Prog.lift (.enqueueDma (cut1 arg5 (k0_off10 d0) (k0_off10_inb d0)) (.remote (Dev.tc (⟨k0_dev22 d0, k0_dev22_lt d0⟩ : Dev nD)) (cut1 arg5 (k0_off10 d0) (k0_off10_inb d0)) (.dma (cell0 arg8 ![1, 5] inb_S4x7_S1x1_1_5))) (.dma (cell0 arg9 ![1, 5] inb_S4x7_S1x1_1_5)) ((harg5.wordExact_slice rfl _ (k0_off10_wordsbf16 d0)).reshape _ _) ((harg5.wordExact_slice rfl _ (k0_off10_wordsbf16 d0)).reshape _ _) ⟨⟨rfl, Or.inl rfl⟩, trivial⟩)
    | 2 => Prog.lift (.enqueueDma (cut2 arg6 (k0_off11 d0) (k0_off11_inb d0)) (.remote (Dev.tc (⟨k0_dev23 d0, k0_dev23_lt d0⟩ : Dev nD)) (cut2 arg6 (k0_off11 d0) (k0_off11_inb d0)) (.dma (cell0 arg8 ![2, 5] inb_S4x7_S1x1_2_5))) (.dma (cell0 arg9 ![2, 5] inb_S4x7_S1x1_2_5)) ((harg6.wordExact_slice rfl _ (k0_off11_wordsbf16 d0)).reshape _ _) ((harg6.wordExact_slice rfl _ (k0_off11_wordsbf16 d0)).reshape _ _) ⟨⟨rfl, Or.inl rfl⟩, trivial⟩)
    | 3 => Prog.lift (.enqueueDma (cut3 arg7 (k0_off12 d0) (k0_off12_inb d0)) (.remote (Dev.tc (⟨k0_dev24 d0, k0_dev24_lt d0⟩ : Dev nD)) (cut3 arg7 (k0_off12 d0) (k0_off12_inb d0)) (.dma (cell0 arg8 ![3, 5] inb_S4x7_S1x1_3_5))) (.dma (cell0 arg9 ![3, 5] inb_S4x7_S1x1_3_5)) ((harg7.wordExact_slice rfl _ (k0_off12_wordsbf16 d0)).reshape _ _) ((harg7.wordExact_slice rfl _ (k0_off12_wordsbf16 d0)).reshape _ _) ⟨⟨rfl, Or.inl rfl⟩, trivial⟩)
  | 2 => fun
    | 0 => Prog.lift (.enqueueDma (cut0 arg4 (k0_off13 d0) (k0_off13_inb d0)) (.remote (Dev.tc (⟨k0_dev25 d0, k0_dev25_lt d0⟩ : Dev nD)) (cut0 arg4 (k0_off13 d0) (k0_off13_inb d0)) (.dma (cell0 arg8 ![0, 6] inb_S4x7_S1x1_0_6))) (.dma (cell0 arg9 ![0, 6] inb_S4x7_S1x1_0_6)) ((harg4.wordExact_slice rfl _ (k0_off13_wordsbf16 d0)).reshape _ _) ((harg4.wordExact_slice rfl _ (k0_off13_wordsbf16 d0)).reshape _ _) ⟨⟨rfl, Or.inl rfl⟩, trivial⟩)
    | 1 => Prog.lift (.enqueueDma (cut1 arg5 (k0_off14 d0) (k0_off14_inb d0)) (.remote (Dev.tc (⟨k0_dev26 d0, k0_dev26_lt d0⟩ : Dev nD)) (cut1 arg5 (k0_off14 d0) (k0_off14_inb d0)) (.dma (cell0 arg8 ![1, 6] inb_S4x7_S1x1_1_6))) (.dma (cell0 arg9 ![1, 6] inb_S4x7_S1x1_1_6)) ((harg5.wordExact_slice rfl _ (k0_off14_wordsbf16 d0)).reshape _ _) ((harg5.wordExact_slice rfl _ (k0_off14_wordsbf16 d0)).reshape _ _) ⟨⟨rfl, Or.inl rfl⟩, trivial⟩)
    | 2 => Prog.lift (.enqueueDma (cut2 arg6 (k0_off15 d0) (k0_off15_inb d0)) (.remote (Dev.tc (⟨k0_dev27 d0, k0_dev27_lt d0⟩ : Dev nD)) (cut2 arg6 (k0_off15 d0) (k0_off15_inb d0)) (.dma (cell0 arg8 ![2, 6] inb_S4x7_S1x1_2_6))) (.dma (cell0 arg9 ![2, 6] inb_S4x7_S1x1_2_6)) ((harg6.wordExact_slice rfl _ (k0_off15_wordsbf16 d0)).reshape _ _) ((harg6.wordExact_slice rfl _ (k0_off15_wordsbf16 d0)).reshape _ _) ⟨⟨rfl, Or.inl rfl⟩, trivial⟩)
    | 3 => Prog.lift (.enqueueDma (cut3 arg7 (k0_off16 d0) (k0_off16_inb d0)) (.remote (Dev.tc (⟨k0_dev28 d0, k0_dev28_lt d0⟩ : Dev nD)) (cut3 arg7 (k0_off16 d0) (k0_off16_inb d0)) (.dma (cell0 arg8 ![3, 6] inb_S4x7_S1x1_3_6))) (.dma (cell0 arg9 ![3, 6] inb_S4x7_S1x1_3_6)) ((harg7.wordExact_slice rfl _ (k0_off16_wordsbf16 d0)).reshape _ _) ((harg7.wordExact_slice rfl _ (k0_off16_wordsbf16 d0)).reshape _ _) ⟨⟨rfl, Or.inl rfl⟩, trivial⟩)

/-- and those the other core passes on. -/
def waitRelayed (d0 : Dev nD) : Fin 3 → Fin 4 → Op F
  | 0 => fun
    | 0 => Prog.lift (.waitDma2 (cell0 arg9 ![0, 4] inb_S4x7_S1x1_0_4) (cut0 arg4 (k0_off18 d0) (k0_off18_inb d0)) (cut0 arg4 (k0_off18 d0) (k0_off18_inb d0)) ((harg4.wordExact_slice rfl _ (k0_off18_wordsbf16 d0)).reshape _ _) ((harg4.wordExact_slice rfl _ (k0_off18_wordsbf16 d0)).reshape _ _))
    | 1 => Prog.lift (.waitDma2 (cell0 arg9 ![1, 4] inb_S4x7_S1x1_1_4) (cut1 arg5 (k0_off22 d0) (k0_off22_inb d0)) (cut1 arg5 (k0_off22 d0) (k0_off22_inb d0)) ((harg5.wordExact_slice rfl _ (k0_off22_wordsbf16 d0)).reshape _ _) ((harg5.wordExact_slice rfl _ (k0_off22_wordsbf16 d0)).reshape _ _))
    | 2 => Prog.lift (.waitDma2 (cell0 arg9 ![2, 4] inb_S4x7_S1x1_2_4) (cut2 arg6 (k0_off26 d0) (k0_off26_inb d0)) (cut2 arg6 (k0_off26 d0) (k0_off26_inb d0)) ((harg6.wordExact_slice rfl _ (k0_off26_wordsbf16 d0)).reshape _ _) ((harg6.wordExact_slice rfl _ (k0_off26_wordsbf16 d0)).reshape _ _))
    | 3 => Prog.lift (.waitDma2 (cell0 arg9 ![3, 4] inb_S4x7_S1x1_3_4) (cut3 arg7 (k0_off30 d0) (k0_off30_inb d0)) (cut3 arg7 (k0_off30 d0) (k0_off30_inb d0)) ((harg7.wordExact_slice rfl _ (k0_off30_wordsbf16 d0)).reshape _ _) ((harg7.wordExact_slice rfl _ (k0_off30_wordsbf16 d0)).reshape _ _))
  | 1 => fun
    | 0 => Prog.lift (.waitDma2 (cell0 arg9 ![0, 5] inb_S4x7_S1x1_0_5) (cut0 arg4 (k0_off19 d0) (k0_off19_inb d0)) (cut0 arg4 (k0_off19 d0) (k0_off19_inb d0)) ((harg4.wordExact_slice rfl _ (k0_off19_wordsbf16 d0)).reshape _ _) ((harg4.wordExact_slice rfl _ (k0_off19_wordsbf16 d0)).reshape _ _))
    | 1 => Prog.lift (.waitDma2 (cell0 arg9 ![1, 5] inb_S4x7_S1x1_1_5) (cut1 arg5 (k0_off23 d0) (k0_off23_inb d0)) (cut1 arg5 (k0_off23 d0) (k0_off23_inb d0)) ((harg5.wordExact_slice rfl _ (k0_off23_wordsbf16 d0)).reshape _ _) ((harg5.wordExact_slice rfl _ (k0_off23_wordsbf16 d0)).reshape _ _))
    | 2 => Prog.lift (.waitDma2 (cell0 arg9 ![2, 5] inb_S4x7_S1x1_2_5) (cut2 arg6 (k0_off27 d0) (k0_off27_inb d0)) (cut2 arg6 (k0_off27 d0) (k0_off27_inb d0)) ((harg6.wordExact_slice rfl _ (k0_off27_wordsbf16 d0)).reshape _ _) ((harg6.wordExact_slice rfl _ (k0_off27_wordsbf16 d0)).reshape _ _))
    | 3 => Prog.lift (.waitDma2 (cell0 arg9 ![3, 5] inb_S4x7_S1x1_3_5) (cut3 arg7 (k0_off31 d0) (k0_off31_inb d0)) (cut3 arg7 (k0_off31 d0) (k0_off31_inb d0)) ((harg7.wordExact_slice rfl _ (k0_off31_wordsbf16 d0)).reshape _ _) ((harg7.wordExact_slice rfl _ (k0_off31_wordsbf16 d0)).reshape _ _))
  | 2 => fun
    | 0 => Prog.lift (.waitDma2 (cell0 arg9 ![0, 6] inb_S4x7_S1x1_0_6) (cut0 arg4 (k0_off20 d0) (k0_off20_inb d0)) (cut0 arg4 (k0_off20 d0) (k0_off20_inb d0)) ((harg4.wordExact_slice rfl _ (k0_off20_wordsbf16 d0)).reshape _ _) ((harg4.wordExact_slice rfl _ (k0_off20_wordsbf16 d0)).reshape _ _))
    | 1 => Prog.lift (.waitDma2 (cell0 arg9 ![1, 6] inb_S4x7_S1x1_1_6) (cut1 arg5 (k0_off24 d0) (k0_off24_inb d0)) (cut1 arg5 (k0_off24 d0) (k0_off24_inb d0)) ((harg5.wordExact_slice rfl _ (k0_off24_wordsbf16 d0)).reshape _ _) ((harg5.wordExact_slice rfl _ (k0_off24_wordsbf16 d0)).reshape _ _))
    | 2 => Prog.lift (.waitDma2 (cell0 arg9 ![2, 6] inb_S4x7_S1x1_2_6) (cut2 arg6 (k0_off28 d0) (k0_off28_inb d0)) (cut2 arg6 (k0_off28 d0) (k0_off28_inb d0)) ((harg6.wordExact_slice rfl _ (k0_off28_wordsbf16 d0)).reshape _ _) ((harg6.wordExact_slice rfl _ (k0_off28_wordsbf16 d0)).reshape _ _))
    | 3 => Prog.lift (.waitDma2 (cell0 arg9 ![3, 6] inb_S4x7_S1x1_3_6) (cut3 arg7 (k0_off32 d0) (k0_off32_inb d0)) (cut3 arg7 (k0_off32 d0) (k0_off32_inb d0)) ((harg7.wordExact_slice rfl _ (k0_off32_wordsbf16 d0)).reshape _ _) ((harg7.wordExact_slice rfl _ (k0_off32_wordsbf16 d0)).reshape _ _))

/-- A send is waited for, -/
def waitSent (d0 : Dev nD) : Fin 4 → Fin 4 → Op F
  | 0 => fun
    | 0 => Prog.lift (.waitDma2 (cell0 arg8 ![0, 0] inb_S4x7_S1x1_0_0) (cut0 arg4 (k0_off1 d0) (k0_off1_inb d0)) arg0 ((harg4.wordExact_slice rfl _ (k0_off1_wordsbf16 d0)).reshape _ _) harg0.wordExact)
    | 1 => Prog.lift (.waitDma2 (cell0 arg8 ![0, 1] inb_S4x7_S1x1_0_1) (cut0 arg4 (k0_off1 d0) (k0_off1_inb d0)) arg0 ((harg4.wordExact_slice rfl _ (k0_off1_wordsbf16 d0)).reshape _ _) harg0.wordExact)
    | 2 => Prog.lift (.waitDma2 (cell0 arg8 ![0, 2] inb_S4x7_S1x1_0_2) (cut0 arg4 (k0_off1 d0) (k0_off1_inb d0)) arg0 ((harg4.wordExact_slice rfl _ (k0_off1_wordsbf16 d0)).reshape _ _) harg0.wordExact)
    | 3 => Prog.lift (.waitDma2 (cell0 arg8 ![0, 3] inb_S4x7_S1x1_0_3) (cut0 arg4 (k0_off1 d0) (k0_off1_inb d0)) arg0 ((harg4.wordExact_slice rfl _ (k0_off1_wordsbf16 d0)).reshape _ _) harg0.wordExact)
  | 1 => fun
    | 0 => Prog.lift (.waitDma2 (cell0 arg8 ![1, 0] inb_S4x7_S1x1_1_0) (cut1 arg5 (k0_off2 d0) (k0_off2_inb d0)) arg1 ((harg5.wordExact_slice rfl _ (k0_off2_wordsbf16 d0)).reshape _ _) harg1.wordExact)
    | 1 => Prog.lift (.waitDma2 (cell0 arg8 ![1, 1] inb_S4x7_S1x1_1_1) (cut1 arg5 (k0_off2 d0) (k0_off2_inb d0)) arg1 ((harg5.wordExact_slice rfl _ (k0_off2_wordsbf16 d0)).reshape _ _) harg1.wordExact)
    | 2 => Prog.lift (.waitDma2 (cell0 arg8 ![1, 2] inb_S4x7_S1x1_1_2) (cut1 arg5 (k0_off2 d0) (k0_off2_inb d0)) arg1 ((harg5.wordExact_slice rfl _ (k0_off2_wordsbf16 d0)).reshape _ _) harg1.wordExact)
    | 3 => Prog.lift (.waitDma2 (cell0 arg8 ![1, 3] inb_S4x7_S1x1_1_3) (cut1 arg5 (k0_off2 d0) (k0_off2_inb d0)) arg1 ((harg5.wordExact_slice rfl _ (k0_off2_wordsbf16 d0)).reshape _ _) harg1.wordExact)
  | 2 => fun
    | 0 => Prog.lift (.waitDma2 (cell0 arg8 ![2, 0] inb_S4x7_S1x1_2_0) (cut2 arg6 (k0_off3 d0) (k0_off3_inb d0)) arg2 ((harg6.wordExact_slice rfl _ (k0_off3_wordsbf16 d0)).reshape _ _) harg2.wordExact)
    | 1 => Prog.lift (.waitDma2 (cell0 arg8 ![2, 1] inb_S4x7_S1x1_2_1) (cut2 arg6 (k0_off3 d0) (k0_off3_inb d0)) arg2 ((harg6.wordExact_slice rfl _ (k0_off3_wordsbf16 d0)).reshape _ _) harg2.wordExact)
    | 2 => Prog.lift (.waitDma2 (cell0 arg8 ![2, 2] inb_S4x7_S1x1_2_2) (cut2 arg6 (k0_off3 d0) (k0_off3_inb d0)) arg2 ((harg6.wordExact_slice rfl _ (k0_off3_wordsbf16 d0)).reshape _ _) harg2.wordExact)
    | 3 => Prog.lift (.waitDma2 (cell0 arg8 ![2, 3] inb_S4x7_S1x1_2_3) (cut2 arg6 (k0_off3 d0) (k0_off3_inb d0)) arg2 ((harg6.wordExact_slice rfl _ (k0_off3_wordsbf16 d0)).reshape _ _) harg2.wordExact)
  | 3 => fun
    | 0 => Prog.lift (.waitDma2 (cell0 arg8 ![3, 0] inb_S4x7_S1x1_3_0) (cut3 arg7 (k0_off4 d0) (k0_off4_inb d0)) arg3 ((harg7.wordExact_slice rfl _ (k0_off4_wordsbf16 d0)).reshape _ _) harg3.wordExact)
    | 1 => Prog.lift (.waitDma2 (cell0 arg8 ![3, 1] inb_S4x7_S1x1_3_1) (cut3 arg7 (k0_off4 d0) (k0_off4_inb d0)) arg3 ((harg7.wordExact_slice rfl _ (k0_off4_wordsbf16 d0)).reshape _ _) harg3.wordExact)
    | 2 => Prog.lift (.waitDma2 (cell0 arg8 ![3, 2] inb_S4x7_S1x1_3_2) (cut3 arg7 (k0_off4 d0) (k0_off4_inb d0)) arg3 ((harg7.wordExact_slice rfl _ (k0_off4_wordsbf16 d0)).reshape _ _) harg3.wordExact)
    | 3 => Prog.lift (.waitDma2 (cell0 arg8 ![3, 3] inb_S4x7_S1x1_3_3) (cut3 arg7 (k0_off4 d0) (k0_off4_inb d0)) arg3 ((harg7.wordExact_slice rfl _ (k0_off4_wordsbf16 d0)).reshape _ _) harg3.wordExact)

/-- and one passed on. -/
def waitPassed (d0 : Dev nD) : Fin 3 → Fin 4 → Op F
  | 0 => fun
    | 0 => Prog.lift (.waitDma2 (cell0 arg8 ![0, 4] inb_S4x7_S1x1_0_4) (cut0 arg4 (k0_off5 d0) (k0_off5_inb d0)) (cut0 arg4 (k0_off5 d0) (k0_off5_inb d0)) ((harg4.wordExact_slice rfl _ (k0_off5_wordsbf16 d0)).reshape _ _) ((harg4.wordExact_slice rfl _ (k0_off5_wordsbf16 d0)).reshape _ _))
    | 1 => Prog.lift (.waitDma2 (cell0 arg8 ![1, 4] inb_S4x7_S1x1_1_4) (cut1 arg5 (k0_off6 d0) (k0_off6_inb d0)) (cut1 arg5 (k0_off6 d0) (k0_off6_inb d0)) ((harg5.wordExact_slice rfl _ (k0_off6_wordsbf16 d0)).reshape _ _) ((harg5.wordExact_slice rfl _ (k0_off6_wordsbf16 d0)).reshape _ _))
    | 2 => Prog.lift (.waitDma2 (cell0 arg8 ![2, 4] inb_S4x7_S1x1_2_4) (cut2 arg6 (k0_off7 d0) (k0_off7_inb d0)) (cut2 arg6 (k0_off7 d0) (k0_off7_inb d0)) ((harg6.wordExact_slice rfl _ (k0_off7_wordsbf16 d0)).reshape _ _) ((harg6.wordExact_slice rfl _ (k0_off7_wordsbf16 d0)).reshape _ _))
    | 3 => Prog.lift (.waitDma2 (cell0 arg8 ![3, 4] inb_S4x7_S1x1_3_4) (cut3 arg7 (k0_off8 d0) (k0_off8_inb d0)) (cut3 arg7 (k0_off8 d0) (k0_off8_inb d0)) ((harg7.wordExact_slice rfl _ (k0_off8_wordsbf16 d0)).reshape _ _) ((harg7.wordExact_slice rfl _ (k0_off8_wordsbf16 d0)).reshape _ _))
  | 1 => fun
    | 0 => Prog.lift (.waitDma2 (cell0 arg8 ![0, 5] inb_S4x7_S1x1_0_5) (cut0 arg4 (k0_off9 d0) (k0_off9_inb d0)) (cut0 arg4 (k0_off9 d0) (k0_off9_inb d0)) ((harg4.wordExact_slice rfl _ (k0_off9_wordsbf16 d0)).reshape _ _) ((harg4.wordExact_slice rfl _ (k0_off9_wordsbf16 d0)).reshape _ _))
    | 1 => Prog.lift (.waitDma2 (cell0 arg8 ![1, 5] inb_S4x7_S1x1_1_5) (cut1 arg5 (k0_off10 d0) (k0_off10_inb d0)) (cut1 arg5 (k0_off10 d0) (k0_off10_inb d0)) ((harg5.wordExact_slice rfl _ (k0_off10_wordsbf16 d0)).reshape _ _) ((harg5.wordExact_slice rfl _ (k0_off10_wordsbf16 d0)).reshape _ _))
    | 2 => Prog.lift (.waitDma2 (cell0 arg8 ![2, 5] inb_S4x7_S1x1_2_5) (cut2 arg6 (k0_off11 d0) (k0_off11_inb d0)) (cut2 arg6 (k0_off11 d0) (k0_off11_inb d0)) ((harg6.wordExact_slice rfl _ (k0_off11_wordsbf16 d0)).reshape _ _) ((harg6.wordExact_slice rfl _ (k0_off11_wordsbf16 d0)).reshape _ _))
    | 3 => Prog.lift (.waitDma2 (cell0 arg8 ![3, 5] inb_S4x7_S1x1_3_5) (cut3 arg7 (k0_off12 d0) (k0_off12_inb d0)) (cut3 arg7 (k0_off12 d0) (k0_off12_inb d0)) ((harg7.wordExact_slice rfl _ (k0_off12_wordsbf16 d0)).reshape _ _) ((harg7.wordExact_slice rfl _ (k0_off12_wordsbf16 d0)).reshape _ _))
  | 2 => fun
    | 0 => Prog.lift (.waitDma2 (cell0 arg8 ![0, 6] inb_S4x7_S1x1_0_6) (cut0 arg4 (k0_off13 d0) (k0_off13_inb d0)) (cut0 arg4 (k0_off13 d0) (k0_off13_inb d0)) ((harg4.wordExact_slice rfl _ (k0_off13_wordsbf16 d0)).reshape _ _) ((harg4.wordExact_slice rfl _ (k0_off13_wordsbf16 d0)).reshape _ _))
    | 1 => Prog.lift (.waitDma2 (cell0 arg8 ![1, 6] inb_S4x7_S1x1_1_6) (cut1 arg5 (k0_off14 d0) (k0_off14_inb d0)) (cut1 arg5 (k0_off14 d0) (k0_off14_inb d0)) ((harg5.wordExact_slice rfl _ (k0_off14_wordsbf16 d0)).reshape _ _) ((harg5.wordExact_slice rfl _ (k0_off14_wordsbf16 d0)).reshape _ _))
    | 2 => Prog.lift (.waitDma2 (cell0 arg8 ![2, 6] inb_S4x7_S1x1_2_6) (cut2 arg6 (k0_off15 d0) (k0_off15_inb d0)) (cut2 arg6 (k0_off15 d0) (k0_off15_inb d0)) ((harg6.wordExact_slice rfl _ (k0_off15_wordsbf16 d0)).reshape _ _) ((harg6.wordExact_slice rfl _ (k0_off15_wordsbf16 d0)).reshape _ _))
    | 3 => Prog.lift (.waitDma2 (cell0 arg8 ![3, 6] inb_S4x7_S1x1_3_6) (cut3 arg7 (k0_off16 d0) (k0_off16_inb d0)) (cut3 arg7 (k0_off16 d0) (k0_off16_inb d0)) ((harg7.wordExact_slice rfl _ (k0_off16_wordsbf16 d0)).reshape _ _) ((harg7.wordExact_slice rfl _ (k0_off16_wordsbf16 d0)).reshape _ _))

/-- Weight and chip, and another chip and weight, in the order the kernel takes them. -/
def pairs : List (Fin 4 × Fin 4) :=
  [(0, 0), (0, 1), (0, 2), (0, 3), (1, 0), (1, 1), (1, 2), (1, 3), (2, 0), (2, 1), (2, 2), (2, 3), (3, 0), (3, 1), (3, 2), (3, 3)]
def others : List (Fin 3 × Fin 4) :=
  [(0, 0), (0, 1), (0, 2), (0, 3), (1, 0), (1, 1), (1, 2), (1, 3), (2, 0), (2, 1), (2, 2), (2, 3)]

/-- What is waited for at the end: the other core's shard, those it passes on, sends, sends passed on, copies at home. -/
abbrev W : Type := Fin 4 ⊕ (Fin 3 × Fin 4) ⊕ (Fin 4 × Fin 4) ⊕ (Fin 3 × Fin 4) ⊕ Fin 4
def last : List W :=
  [.inl 0, .inr (.inl (0, 0)), .inr (.inl (1, 0)), .inr (.inl (2, 0)), .inl 1, .inr (.inl (0, 1)), .inr (.inl (1, 1)), .inr (.inl (2, 1)), .inl 2, .inr (.inl (0, 2)), .inr (.inl (1, 2)), .inr (.inl (2, 2)), .inl 3, .inr (.inl (0, 3)), .inr (.inl (1, 3)), .inr (.inl (2, 3))]
    ++ pairs.map (fun x => .inr (.inr (.inl x))) ++ others.map (fun x => .inr (.inr (.inr (.inl x)))) ++ [0, 1, 2, 3].map (fun a => .inr (.inr (.inr (.inr a))))

/-- A shard of another chip, received and passed on. -/
def relay (d0 : Dev nD) (x : Fin 3 × Fin 4) : Op F := (waitDirect d0 x.1 x.2).bind fun _ => forward d0 x.1 x.2
/-- The waits at the end. -/
def await (d0 : Dev nD) : W → Op F
  | .inl a => waitNear d0 a
  | .inr (.inl x) => waitRelayed d0 x.1 x.2
  | .inr (.inr (.inl x)) => waitSent d0 x.1 x.2
  | .inr (.inr (.inr (.inl x))) => waitPassed d0 x.1 x.2
  | .inr (.inr (.inr (.inr a))) => waitHome d0 a

set_option maxRecDepth 65536 in
set_option maxHeartbeats 4000000 in
/-- The kernel is these operations. -/
theorem body_eq (t : Fin cfg0.N) : bodyAt0 (F := F) t
    = .op .deviceId fun d0 => (seq ([0, 1, 2, 3].map (home d0))).bind fun _ => (seq (pairs.map fun x => first d0 x.1 x.2)).bind fun _ =>
        (seq (others.map (relay d0))).bind fun _ => seq (last.map (await d0)) := rfl

end Cert.GatherIdeal.Gather
-- ==== Proof.GatherSteps.lean ====
/-
# The all-gather: each operation, from what it needs to what it leaves

A step is proved once for every weight, chip and device, over the views and semaphores it names; the printed operations
are instances of it.
-/
module

public import proofs.«01_k».proof.Proof.GatherPlan
public import proofs.«01_k».proof.Proof.GatherOps

@[expose] public section

noncomputable section

namespace Cert.GatherIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx
open Cert.OneShot Cert.Blocks
open Cert.GatherIdeal Cert.GatherIdeal.Gen

set_option Elab.async false

variable {F : FTy → Type} [FloatOps F]

local notation "𝕄" => MT nD τ sig Unit (Elt F) ℕ UU ℕ

variable (m : (ℓ : Loc nD τ sig) → Buf (Elt F) ℓ)

abbrev 𝒱₀ : Variants := Variants.none

/-- A view of block `b` of a result as the kernel writes it: through some offsets that are the block's. -/
abbrev at3 (a : Fin 4) (off : Fin 3 → ℕ) (inb : ∀ i, off i + (M3 1 (rows a) (cols a)).size i ≤ (M3 8 (rows a) (cols a)).size i)
    (h : (M3 1 (rows a) (cols a)).Squeezes (M2 (rows a) (cols a))) : Memref sig .tc .hbm (M2 (rows a) (cols a)) .bf16 :=
  ((out a).slice (Rect.unit (s := M3 8 (rows a) (cols a)) off (M3 1 (rows a) (cols a)).size inb) (fun _ => rfl)).squeeze (M2 (rows a) (cols a)) h

variable {offA offD : Fin 3 → ℕ} {sm sr : SemLoc sig}

theorem step_home (c : Dev nD) (a : Fin 4) {f : Buf (Elt F) ((out a).view.loc (c.tc : Thread nD τ))}
    (hD : offD = ![(num c).val, 0, 0]) (hs : sm = .dma (osem (kept a)))
    {inbD hqD h1 h2} {h3 : DmaTarget.Typed (nD := nD) (p := (Proc.tc : Proc τ)) .hbm sm (.here (at3 a offD inbD hqD))} :
    Runs (defs₀ (F := F)) 𝒱₀ c iprop((plan m).knows ER ∗ srcPart m c a stays ∗ outPart c a (num c) f ∗ (plan m).tok ER c (kept a))
      (Prog.lift (.enqueueDma (src a) (.here (at3 a offD inbD hqD)) sm h1 h2 h3)) ((plan m).crd c (kept a)) := by
  subst hD
  exact runs_copy (plan m) ER c (kept a) (src := src a) (dst := blk3 (out a) (num c)) (q := stays)
    (fs := given m c a) (fd := f) hs rfl (by subst hs; rfl) (by
      rw [landed (c := c) (c' := c) (reads_shard m c c a)]
      exact Entails.rfl)

theorem step_first (c : Dev nD) (a k : Fin 4) {f : Buf (Elt F) ((out a).view.loc ((mate k c).tc : Thread nD τ))}
    (hD : offD = ![(num c).val, 0, 0])
    {d : Dev nD} (hd : d = mate k c) (hs : sm = .dma (osem (sent a k))) (hr : sr = .dma (osem (came a k)))
    (O : CellTallies nD τ sig Unit) {inbD hqD hsc h1 h2}
    {h3 : DmaTarget.Typed .hbm sr (.remote (Dev.tc d : Thread nD τ) (at3 a offD inbD hqD : Memref sig (Dev.tc d : Thread nD τ).2.kind .hbm (M2 (rows a) (cols a)) .bf16) sm hsc)} :
    Runs (defs₀ (F := F)) 𝒱₀ c iprop((plan m).knows ER ∗ srcPart m c a (piece k) ∗ outPart (mate k c) a (num c) f
        ∗ (plan m).tok ER c (sent a k) ∗ (plan m).tok ER (mate k c) (came a k) ∗ owing c (O + (plan m).due (mate k c) (came a k)))
      (Prog.lift (.enqueueDma (src a) (.remote (Dev.tc d : Thread nD τ) (at3 a offD inbD hqD) sm hsc) sr h1 h2 h3))
      iprop((plan m).crd c (sent a k) ∗ owing c O) := by
  subst hD hd
  exact runs_send (plan m) ER c (mate k c) (sent a k) (came a k) (src := src a) (dst := blk3 (out a) (num c)) (q := piece k)
    (fs := given m c a) (fd := f) hs hr rfl rfl (by subst hr; rfl) rfl Entails.rfl (by
      rw [landed (c := c) (c' := mate k c) (reads_shard m c (mate k c) a)]
      show outPart (mate k c) a (num c) (want m (mate k c) a) ⊢ outPart (mate k c) a (num (mate k (mate k c))) (want m (mate k c) a)
      rw [mate_mate]) O

theorem step_forward (c : Dev nD) (j : Fin 3) (a : Fin 4) {f : Buf (Elt F) ((out a).view.loc ((mate 0 c).tc : Thread nD τ))}
    (hA : offA = ![(num (mate j.succ c)).val, 0, 0])
    {d : Dev nD} (hd : d = mate 0 c) (hs : sm = .dma (osem (passed j a))) (hr : sr = .dma (osem (relayed j a)))
    (O : CellTallies nD τ sig Unit) {inbA hqA inbD hqD hsc h1 h2}
    {h3 : DmaTarget.Typed .hbm sr (.remote (Dev.tc d : Thread nD τ) (at3 a offA inbD hqD : Memref sig (Dev.tc d : Thread nD τ).2.kind .hbm (M2 (rows a) (cols a)) .bf16) sm hsc)} :
    Runs (defs₀ (F := F)) 𝒱₀ c iprop((plan m).knows ER ∗ outPart c a (num (mate j.succ c)) (want m c a) ∗ outPart (mate 0 c) a (num (mate j.succ c)) f
        ∗ (plan m).tok ER c (passed j a) ∗ (plan m).tok ER (mate 0 c) (relayed j a) ∗ owing c (O + (plan m).due (mate 0 c) (relayed j a)))
      (Prog.lift (.enqueueDma (at3 a offA inbA hqA) (.remote (Dev.tc d : Thread nD τ) (at3 a offA inbD hqD) sm hsc) sr h1 h2 h3))
      iprop((plan m).crd c (passed j a) ∗ owing c O) := by
  subst hA hd
  exact runs_send (plan m) ER c (mate 0 c) (passed j a) (relayed j a) (src := blk3 (out a) (num (mate j.succ c))) (dst := blk3 (out a) (num (mate j.succ c))) (q := fullShare)
    (fs := want m c a) (fd := f) hs hr rfl rfl (by subst hr; rfl) rfl Entails.rfl (by
      rw [landed (c := c) (c' := mate 0 c) (reads_passed m c (mate 0 c) a (num (mate j.succ c)))]
      show outPart (mate 0 c) a (num (mate j.succ c)) (want m (mate 0 c) a) ⊢ outPart (mate 0 c) a (num (mate j.succ (mate 0 (mate 0 c)))) (want m (mate 0 c) a)
      rw [mate_mate]) O

/-- What a wait takes, -/
def awaits (c : Dev nD) (j : J) (O : CellTallies nD τ sig Unit) : sProp 𝕄 :=
  iprop((plan m).knows ER ∗ levAts Lall (lvOf lvS) ∗ (plan m).crd c j ∗ (plan m).place ER c j ∗ owing c O)
/-- and what it leaves. -/
def awaited (c : Dev nD) (j : J) (O : CellTallies nD τ sig Unit) : sProp 𝕄 := iprop((plan m).pay c j ∗ (plan m).over ER c j ∗ owing c O)

theorem step_wait (c : Dev nD) (j : J) {w : TpuEff nD τ sig (Elt F) Λ₀ .tc PUnit} {k' : ℕ} (O : CellTallies nD τ sig Unit)
    (hO : Above lvS (lvS (.dma (osem j))) O)
    (hw : ∀ K : PUnit → sProp 𝕄, wpE (defs₀ (F := F)) 𝒱₀ (c.tc : Thread nD τ) none Set.univ w K = waitSpec (c.tc : Thread nD τ) Set.univ sm k' K)
    (hs : sm = .dma (osem j)) (hN : k' = credit (which j)) :
    Runs (defs₀ (F := F)) 𝒱₀ c (awaits m c j O) (Prog.lift w) (awaited m c j O) :=
  runs_wait (plan m) ER c j (lvS := lvS) hw hs rfl hN O hO

/-! ## The printed operations -/

variable (c : Dev nD)

set_option maxRecDepth 4000

theorem runs_home : ∀ (a : Fin 4) (f : Buf (Elt F) ((out a).view.loc (c.tc : Thread nD τ))),
    Runs (defs₀ (F := F)) 𝒱₀ c iprop((plan m).knows ER ∗ srcPart m c a stays ∗ outPart c a (num c) f ∗ (plan m).tok ER c (kept a))
      (home c a) ((plan m).crd c (kept a))
  | 0 => fun f => step_home m c 0 (f := f) ((k0_off1_eq c).trans (by rw [own_val])) rfl
  | 1 => fun f => step_home m c 1 (f := f) ((k0_off2_eq c).trans (by rw [own_val])) rfl
  | 2 => fun f => step_home m c 2 (f := f) ((k0_off3_eq c).trans (by rw [own_val])) rfl
  | 3 => fun f => step_home m c 3 (f := f) ((k0_off4_eq c).trans (by rw [own_val])) rfl

theorem runs_first (O : CellTallies nD τ sig Unit) : ∀ (a k : Fin 4) (f : Buf (Elt F) ((out a).view.loc ((mate k c).tc : Thread nD τ))),
    Runs (defs₀ (F := F)) 𝒱₀ c iprop((plan m).knows ER ∗ srcPart m c a (piece k) ∗ outPart (mate k c) a (num c) f
        ∗ (plan m).tok ER c (sent a k) ∗ (plan m).tok ER (mate k c) (came a k) ∗ owing c (O + (plan m).due (mate k c) (came a k)))
      (first c a k) iprop((plan m).crd c (sent a k) ∗ owing c O)
  | 0 => fun
    | 0 => fun f => step_first m c 0 0 (f := f) ((k0_off1_eq c).trans (by rw [own_val])) (Fin.ext (k0_dev1_eq c)) rfl rfl O
    | 1 => fun f => step_first m c 0 1 (f := f) ((k0_off1_eq c).trans (by rw [own_val])) (Fin.ext (k0_dev2_eq c)) rfl rfl O
    | 2 => fun f => step_first m c 0 2 (f := f) ((k0_off1_eq c).trans (by rw [own_val])) (Fin.ext (k0_dev3_eq c)) rfl rfl O
    | 3 => fun f => step_first m c 0 3 (f := f) ((k0_off1_eq c).trans (by rw [own_val])) (Fin.ext (k0_dev4_eq c)) rfl rfl O
  | 1 => fun
    | 0 => fun f => step_first m c 1 0 (f := f) ((k0_off2_eq c).trans (by rw [own_val])) (Fin.ext (k0_dev5_eq c)) rfl rfl O
    | 1 => fun f => step_first m c 1 1 (f := f) ((k0_off2_eq c).trans (by rw [own_val])) (Fin.ext (k0_dev6_eq c)) rfl rfl O
    | 2 => fun f => step_first m c 1 2 (f := f) ((k0_off2_eq c).trans (by rw [own_val])) (Fin.ext (k0_dev7_eq c)) rfl rfl O
    | 3 => fun f => step_first m c 1 3 (f := f) ((k0_off2_eq c).trans (by rw [own_val])) (Fin.ext (k0_dev8_eq c)) rfl rfl O
  | 2 => fun
    | 0 => fun f => step_first m c 2 0 (f := f) ((k0_off3_eq c).trans (by rw [own_val])) (Fin.ext (k0_dev9_eq c)) rfl rfl O
    | 1 => fun f => step_first m c 2 1 (f := f) ((k0_off3_eq c).trans (by rw [own_val])) (Fin.ext (k0_dev10_eq c)) rfl rfl O
    | 2 => fun f => step_first m c 2 2 (f := f) ((k0_off3_eq c).trans (by rw [own_val])) (Fin.ext (k0_dev11_eq c)) rfl rfl O
    | 3 => fun f => step_first m c 2 3 (f := f) ((k0_off3_eq c).trans (by rw [own_val])) (Fin.ext (k0_dev12_eq c)) rfl rfl O
  | 3 => fun
    | 0 => fun f => step_first m c 3 0 (f := f) ((k0_off4_eq c).trans (by rw [own_val])) (Fin.ext (k0_dev13_eq c)) rfl rfl O
    | 1 => fun f => step_first m c 3 1 (f := f) ((k0_off4_eq c).trans (by rw [own_val])) (Fin.ext (k0_dev14_eq c)) rfl rfl O
    | 2 => fun f => step_first m c 3 2 (f := f) ((k0_off4_eq c).trans (by rw [own_val])) (Fin.ext (k0_dev15_eq c)) rfl rfl O
    | 3 => fun f => step_first m c 3 3 (f := f) ((k0_off4_eq c).trans (by rw [own_val])) (Fin.ext (k0_dev16_eq c)) rfl rfl O

theorem runs_forward (O : CellTallies nD τ sig Unit) : ∀ (j : Fin 3) (a : Fin 4) (f : Buf (Elt F) ((out a).view.loc ((mate 0 c).tc : Thread nD τ))),
    Runs (defs₀ (F := F)) 𝒱₀ c iprop((plan m).knows ER ∗ outPart c a (num (mate j.succ c)) (want m c a) ∗ outPart (mate 0 c) a (num (mate j.succ c)) f
        ∗ (plan m).tok ER c (passed j a) ∗ (plan m).tok ER (mate 0 c) (relayed j a) ∗ owing c (O + (plan m).due (mate 0 c) (relayed j a)))
      (forward c j a) iprop((plan m).crd c (passed j a) ∗ owing c O)
  | 0 => fun
    | 0 => fun f => step_forward m c 0 0 (f := f) (k0_off5_eq c) (Fin.ext (k0_dev17_eq c)) rfl rfl O
    | 1 => fun f => step_forward m c 0 1 (f := f) (k0_off6_eq c) (Fin.ext (k0_dev18_eq c)) rfl rfl O
    | 2 => fun f => step_forward m c 0 2 (f := f) (k0_off7_eq c) (Fin.ext (k0_dev19_eq c)) rfl rfl O
    | 3 => fun f => step_forward m c 0 3 (f := f) (k0_off8_eq c) (Fin.ext (k0_dev20_eq c)) rfl rfl O
  | 1 => fun
    | 0 => fun f => step_forward m c 1 0 (f := f) (k0_off9_eq c) (Fin.ext (k0_dev21_eq c)) rfl rfl O
    | 1 => fun f => step_forward m c 1 1 (f := f) (k0_off10_eq c) (Fin.ext (k0_dev22_eq c)) rfl rfl O
    | 2 => fun f => step_forward m c 1 2 (f := f) (k0_off11_eq c) (Fin.ext (k0_dev23_eq c)) rfl rfl O
    | 3 => fun f => step_forward m c 1 3 (f := f) (k0_off12_eq c) (Fin.ext (k0_dev24_eq c)) rfl rfl O
  | 2 => fun
    | 0 => fun f => step_forward m c 2 0 (f := f) (k0_off13_eq c) (Fin.ext (k0_dev25_eq c)) rfl rfl O
    | 1 => fun f => step_forward m c 2 1 (f := f) (k0_off14_eq c) (Fin.ext (k0_dev26_eq c)) rfl rfl O
    | 2 => fun f => step_forward m c 2 2 (f := f) (k0_off15_eq c) (Fin.ext (k0_dev27_eq c)) rfl rfl O
    | 3 => fun f => step_forward m c 2 3 (f := f) (k0_off16_eq c) (Fin.ext (k0_dev28_eq c)) rfl rfl O

theorem runs_waitDirect (O : CellTallies nD τ sig Unit) (hO : Above lvS 0 O) : ∀ (j : Fin 3) (a : Fin 4),
    Runs (defs₀ (F := F)) 𝒱₀ c (awaits m c (came a j.succ) O) (waitDirect c j a) (awaited m c (came a j.succ) O)
  | 0 => fun
    | 0 => step_wait m c (came 0 1) O (by rw [lvS_came]; exact hO) (fun K => wpE_waitDma2_eq 𝒱₀ _ none Set.univ K) rfl rfl
    | 1 => step_wait m c (came 1 1) O (by rw [lvS_came]; exact hO) (fun K => wpE_waitDma2_eq 𝒱₀ _ none Set.univ K) rfl rfl
    | 2 => step_wait m c (came 2 1) O (by rw [lvS_came]; exact hO) (fun K => wpE_waitDma2_eq 𝒱₀ _ none Set.univ K) rfl rfl
    | 3 => step_wait m c (came 3 1) O (by rw [lvS_came]; exact hO) (fun K => wpE_waitDma2_eq 𝒱₀ _ none Set.univ K) rfl rfl
  | 1 => fun
    | 0 => step_wait m c (came 0 2) O (by rw [lvS_came]; exact hO) (fun K => wpE_waitDma2_eq 𝒱₀ _ none Set.univ K) rfl rfl
    | 1 => step_wait m c (came 1 2) O (by rw [lvS_came]; exact hO) (fun K => wpE_waitDma2_eq 𝒱₀ _ none Set.univ K) rfl rfl
    | 2 => step_wait m c (came 2 2) O (by rw [lvS_came]; exact hO) (fun K => wpE_waitDma2_eq 𝒱₀ _ none Set.univ K) rfl rfl
    | 3 => step_wait m c (came 3 2) O (by rw [lvS_came]; exact hO) (fun K => wpE_waitDma2_eq 𝒱₀ _ none Set.univ K) rfl rfl
  | 2 => fun
    | 0 => step_wait m c (came 0 3) O (by rw [lvS_came]; exact hO) (fun K => wpE_waitDma2_eq 𝒱₀ _ none Set.univ K) rfl rfl
    | 1 => step_wait m c (came 1 3) O (by rw [lvS_came]; exact hO) (fun K => wpE_waitDma2_eq 𝒱₀ _ none Set.univ K) rfl rfl
    | 2 => step_wait m c (came 2 3) O (by rw [lvS_came]; exact hO) (fun K => wpE_waitDma2_eq 𝒱₀ _ none Set.univ K) rfl rfl
    | 3 => step_wait m c (came 3 3) O (by rw [lvS_came]; exact hO) (fun K => wpE_waitDma2_eq 𝒱₀ _ none Set.univ K) rfl rfl

theorem runs_waitNear : ∀ a : Fin 4, Runs (defs₀ (F := F)) 𝒱₀ c (awaits m c (came a 0) 0) (waitNear c a) (awaited m c (came a 0) 0)
  | 0 => step_wait m c (came 0 0) 0 (above_zero _ _) (fun K => wpE_waitDma2_eq 𝒱₀ _ none Set.univ K) rfl rfl
  | 1 => step_wait m c (came 1 0) 0 (above_zero _ _) (fun K => wpE_waitDma2_eq 𝒱₀ _ none Set.univ K) rfl rfl
  | 2 => step_wait m c (came 2 0) 0 (above_zero _ _) (fun K => wpE_waitDma2_eq 𝒱₀ _ none Set.univ K) rfl rfl
  | 3 => step_wait m c (came 3 0) 0 (above_zero _ _) (fun K => wpE_waitDma2_eq 𝒱₀ _ none Set.univ K) rfl rfl

theorem runs_waitRelayed : ∀ (j : Fin 3) (a : Fin 4), Runs (defs₀ (F := F)) 𝒱₀ c (awaits m c (relayed j a) 0) (waitRelayed c j a) (awaited m c (relayed j a) 0)
  | 0 => fun
    | 0 => step_wait m c (relayed 0 0) 0 (above_zero _ _) (fun K => wpE_waitDma2_eq 𝒱₀ _ none Set.univ K) rfl rfl
    | 1 => step_wait m c (relayed 0 1) 0 (above_zero _ _) (fun K => wpE_waitDma2_eq 𝒱₀ _ none Set.univ K) rfl rfl
    | 2 => step_wait m c (relayed 0 2) 0 (above_zero _ _) (fun K => wpE_waitDma2_eq 𝒱₀ _ none Set.univ K) rfl rfl
    | 3 => step_wait m c (relayed 0 3) 0 (above_zero _ _) (fun K => wpE_waitDma2_eq 𝒱₀ _ none Set.univ K) rfl rfl
  | 1 => fun
    | 0 => step_wait m c (relayed 1 0) 0 (above_zero _ _) (fun K => wpE_waitDma2_eq 𝒱₀ _ none Set.univ K) rfl rfl
    | 1 => step_wait m c (relayed 1 1) 0 (above_zero _ _) (fun K => wpE_waitDma2_eq 𝒱₀ _ none Set.univ K) rfl rfl
    | 2 => step_wait m c (relayed 1 2) 0 (above_zero _ _) (fun K => wpE_waitDma2_eq 𝒱₀ _ none Set.univ K) rfl rfl
    | 3 => step_wait m c (relayed 1 3) 0 (above_zero _ _) (fun K => wpE_waitDma2_eq 𝒱₀ _ none Set.univ K) rfl rfl
  | 2 => fun
    | 0 => step_wait m c (relayed 2 0) 0 (above_zero _ _) (fun K => wpE_waitDma2_eq 𝒱₀ _ none Set.univ K) rfl rfl
    | 1 => step_wait m c (relayed 2 1) 0 (above_zero _ _) (fun K => wpE_waitDma2_eq 𝒱₀ _ none Set.univ K) rfl rfl
    | 2 => step_wait m c (relayed 2 2) 0 (above_zero _ _) (fun K => wpE_waitDma2_eq 𝒱₀ _ none Set.univ K) rfl rfl
    | 3 => step_wait m c (relayed 2 3) 0 (above_zero _ _) (fun K => wpE_waitDma2_eq 𝒱₀ _ none Set.univ K) rfl rfl

theorem runs_waitSent : ∀ (a : Fin 4) (k : Fin 4), Runs (defs₀ (F := F)) 𝒱₀ c (awaits m c (sent a k) 0) (waitSent c a k) (awaited m c (sent a k) 0)
  | 0 => fun
    | 0 => step_wait m c (sent 0 0) 0 (above_zero _ _) (fun K => wpE_waitDma2_eq 𝒱₀ _ none Set.univ K) rfl rfl
    | 1 => step_wait m c (sent 0 1) 0 (above_zero _ _) (fun K => wpE_waitDma2_eq 𝒱₀ _ none Set.univ K) rfl rfl
    | 2 => step_wait m c (sent 0 2) 0 (above_zero _ _) (fun K => wpE_waitDma2_eq 𝒱₀ _ none Set.univ K) rfl rfl
    | 3 => step_wait m c (sent 0 3) 0 (above_zero _ _) (fun K => wpE_waitDma2_eq 𝒱₀ _ none Set.univ K) rfl rfl
  | 1 => fun
    | 0 => step_wait m c (sent 1 0) 0 (above_zero _ _) (fun K => wpE_waitDma2_eq 𝒱₀ _ none Set.univ K) rfl rfl
    | 1 => step_wait m c (sent 1 1) 0 (above_zero _ _) (fun K => wpE_waitDma2_eq 𝒱₀ _ none Set.univ K) rfl rfl
    | 2 => step_wait m c (sent 1 2) 0 (above_zero _ _) (fun K => wpE_waitDma2_eq 𝒱₀ _ none Set.univ K) rfl rfl
    | 3 => step_wait m c (sent 1 3) 0 (above_zero _ _) (fun K => wpE_waitDma2_eq 𝒱₀ _ none Set.univ K) rfl rfl
  | 2 => fun
    | 0 => step_wait m c (sent 2 0) 0 (above_zero _ _) (fun K => wpE_waitDma2_eq 𝒱₀ _ none Set.univ K) rfl rfl
    | 1 => step_wait m c (sent 2 1) 0 (above_zero _ _) (fun K => wpE_waitDma2_eq 𝒱₀ _ none Set.univ K) rfl rfl
    | 2 => step_wait m c (sent 2 2) 0 (above_zero _ _) (fun K => wpE_waitDma2_eq 𝒱₀ _ none Set.univ K) rfl rfl
    | 3 => step_wait m c (sent 2 3) 0 (above_zero _ _) (fun K => wpE_waitDma2_eq 𝒱₀ _ none Set.univ K) rfl rfl
  | 3 => fun
    | 0 => step_wait m c (sent 3 0) 0 (above_zero _ _) (fun K => wpE_waitDma2_eq 𝒱₀ _ none Set.univ K) rfl rfl
    | 1 => step_wait m c (sent 3 1) 0 (above_zero _ _) (fun K => wpE_waitDma2_eq 𝒱₀ _ none Set.univ K) rfl rfl
    | 2 => step_wait m c (sent 3 2) 0 (above_zero _ _) (fun K => wpE_waitDma2_eq 𝒱₀ _ none Set.univ K) rfl rfl
    | 3 => step_wait m c (sent 3 3) 0 (above_zero _ _) (fun K => wpE_waitDma2_eq 𝒱₀ _ none Set.univ K) rfl rfl

theorem runs_waitPassed : ∀ (j : Fin 3) (a : Fin 4), Runs (defs₀ (F := F)) 𝒱₀ c (awaits m c (passed j a) 0) (waitPassed c j a) (awaited m c (passed j a) 0)
  | 0 => fun
    | 0 => step_wait m c (passed 0 0) 0 (above_zero _ _) (fun K => wpE_waitDma2_eq 𝒱₀ _ none Set.univ K) rfl rfl
    | 1 => step_wait m c (passed 0 1) 0 (above_zero _ _) (fun K => wpE_waitDma2_eq 𝒱₀ _ none Set.univ K) rfl rfl
    | 2 => step_wait m c (passed 0 2) 0 (above_zero _ _) (fun K => wpE_waitDma2_eq 𝒱₀ _ none Set.univ K) rfl rfl
    | 3 => step_wait m c (passed 0 3) 0 (above_zero _ _) (fun K => wpE_waitDma2_eq 𝒱₀ _ none Set.univ K) rfl rfl
  | 1 => fun
    | 0 => step_wait m c (passed 1 0) 0 (above_zero _ _) (fun K => wpE_waitDma2_eq 𝒱₀ _ none Set.univ K) rfl rfl
    | 1 => step_wait m c (passed 1 1) 0 (above_zero _ _) (fun K => wpE_waitDma2_eq 𝒱₀ _ none Set.univ K) rfl rfl
    | 2 => step_wait m c (passed 1 2) 0 (above_zero _ _) (fun K => wpE_waitDma2_eq 𝒱₀ _ none Set.univ K) rfl rfl
    | 3 => step_wait m c (passed 1 3) 0 (above_zero _ _) (fun K => wpE_waitDma2_eq 𝒱₀ _ none Set.univ K) rfl rfl
  | 2 => fun
    | 0 => step_wait m c (passed 2 0) 0 (above_zero _ _) (fun K => wpE_waitDma2_eq 𝒱₀ _ none Set.univ K) rfl rfl
    | 1 => step_wait m c (passed 2 1) 0 (above_zero _ _) (fun K => wpE_waitDma2_eq 𝒱₀ _ none Set.univ K) rfl rfl
    | 2 => step_wait m c (passed 2 2) 0 (above_zero _ _) (fun K => wpE_waitDma2_eq 𝒱₀ _ none Set.univ K) rfl rfl
    | 3 => step_wait m c (passed 2 3) 0 (above_zero _ _) (fun K => wpE_waitDma2_eq 𝒱₀ _ none Set.univ K) rfl rfl

theorem runs_waitHome : ∀ a : Fin 4, Runs (defs₀ (F := F)) 𝒱₀ c (awaits m c (kept a) 0) (waitHome c a) (awaited m c (kept a) 0)
  | 0 => step_wait m c (kept 0) 0 (above_zero _ _) (fun K => wpE_waitDma2_eq 𝒱₀ _ none Set.univ K) rfl rfl
  | 1 => step_wait m c (kept 1) 0 (above_zero _ _) (fun K => wpE_waitDma2_eq 𝒱₀ _ none Set.univ K) rfl rfl
  | 2 => step_wait m c (kept 2) 0 (above_zero _ _) (fun K => wpE_waitDma2_eq 𝒱₀ _ none Set.univ K) rfl rfl
  | 3 => step_wait m c (kept 3) 0 (above_zero _ _) (fun K => wpE_waitDma2_eq 𝒱₀ _ none Set.univ K) rfl rfl

end Cert.GatherIdeal.Gather
-- ==== Proof.GatherBody.lean ====
/-
# The all-gather: one device's body

The copies home are started, the sends issued; the other chips' shards are received and passed on; then everything is
waited for.
-/
module

public import proofs.«01_k».proof.Proof.GatherSteps
public import proofs.«01_k».proof.Proof.Exchange

@[expose] public section

noncomputable section

namespace Cert.GatherIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Blocks
open Cert.GatherIdeal Cert.GatherIdeal.Gen

set_option Elab.async false

variable {F : FTy → Type} [FloatOps F]

local notation "𝕄" => MT nD τ sig Unit (Elt F) ℕ UU ℕ

variable (m : (ℓ : Loc nD τ sig) → Buf (Elt F) ℓ)

/-! ## Sorting what is held -/

/-- Of the weights and chips, the device's own chip and the others. -/
def near : Fin 4 ⊕ (Fin 3 × Fin 4) ≃ Fin 4 × Fin 4 :=
  Equiv.ofBijective (fun | .inl a => (a, 0) | .inr x => (x.2, x.1.succ)) (by decide)

theorem sums {A B : Type} [Fintype A] [Fintype B] (Φ : A ⊕ B → sProp 𝕄) : bigSep Finset.univ Φ
    = iprop((bigSep Finset.univ fun a => Φ (.inl a)) ∗ bigSep Finset.univ fun b => Φ (.inr b)) := bigSep_univ_sum Φ

theorem split0 (Φ : Fin 4 × Fin 4 → sProp 𝕄) : bigSep Finset.univ Φ
    = iprop((bigSep Finset.univ fun a => Φ (a, 0)) ∗ bigSep Finset.univ fun x : Fin 3 × Fin 4 => Φ (x.2, x.1.succ)) := by
  rw [bigSep_univ_equiv near Φ, sums]
  rfl

/-- What is waited for at the end, as a semaphore. -/
def atEnd : W → J
  | .inl a => came a 0
  | .inr x => .inr x

theorem sorted (Φ : J → sProp 𝕄) : bigSep Finset.univ Φ
    = iprop((bigSep Finset.univ fun w => Φ (atEnd w)) ∗ bigSep Finset.univ fun x : Fin 3 × Fin 4 => Φ (came x.2 x.1.succ)) := by
  have h1 : bigSep Finset.univ Φ = iprop(((bigSep Finset.univ fun a => Φ (came a 0)) ∗ bigSep Finset.univ fun x : Fin 3 × Fin 4 => Φ (came x.2 x.1.succ))
      ∗ bigSep Finset.univ fun x => Φ (.inr x)) := by
    rw [sums, split0 fun x => Φ (.inl x)]
  have h2 : (bigSep Finset.univ fun w => Φ (atEnd w)) = iprop((bigSep Finset.univ fun a => Φ (came a 0)) ∗ bigSep Finset.univ fun x => Φ (.inr x)) := by
    rw [sums]
    rfl
  rw [h1, h2]
  have e1 (A B C : sProp 𝕄) : iprop((A ∗ B) ∗ C) ⊢ iprop((A ∗ C) ∗ B) := by
    iintro ⟨⟨A, B⟩, C⟩
    isplitl [A C]
    · isplitl [A] <;> iassumption
    · iexact B
  exact BI.equiv_iff.mp ⟨e1 _ _ _, e1 _ _ _⟩

/-! ## What each stage takes and leaves -/

/-- For the copy at home: the share that stays, its place, and the right. -/
def readyHome (c : Dev nD) (a : Fin 4) : sProp 𝕄 :=
  iprop(srcPart m c a stays ∗ (∃ f, outPart c a (num c) f) ∗ (plan m).tok ER c (kept a))
/-- For a send. -/
def readyFirst (c : Dev nD) (x : Fin 4 × Fin 4) : sProp 𝕄 :=
  iprop(srcPart m c x.1 (piece x.2) ∗ (∃ f, outPart (mate x.2 c) x.1 (num c) f) ∗ (plan m).tok ER c (sent x.1 x.2) ∗ (plan m).tok ER (mate x.2 c) (came x.1 x.2))
/-- For passing on: the shard itself comes by the wait. -/
def readyPass (c : Dev nD) (x : Fin 3 × Fin 4) : sProp 𝕄 :=
  iprop((∃ f, outPart (mate 0 c) x.2 (num (mate x.1.succ c)) f) ∗ (plan m).tok ER c (passed x.1 x.2) ∗ (plan m).tok ER (mate 0 c) (relayed x.1 x.2))
def takesPass (c : Dev nD) (x : Fin 3 × Fin 4) : sProp 𝕄 :=
  iprop(readyPass m c x ∗ (plan m).crd c (came x.2 x.1.succ) ∗ (plan m).place ER c (came x.2 x.1.succ))
def leavesPass (c : Dev nD) (x : Fin 3 × Fin 4) : sProp 𝕄 :=
  iprop((plan m).crd c (passed x.1 x.2) ∗ (plan m).over ER c (came x.2 x.1.succ))

theorem stage_home (c : Dev nD) (a : Fin 4) (O : CellTallies nD τ sig Unit) :
    Runs (defs₀ (F := F)) 𝒱₀ c iprop((plan m).knows ER ∗ readyHome m c a ∗ owing c O) (home c a) iprop((plan m).crd c (kept a) ∗ owing c O) := by
  unfold Runs readyHome
  iintro ⟨#HK, ⟨Hs, ⟨%f, Ho⟩, Ht⟩, HO⟩
  have h := (runs_home m c a f).frame (owing c O)
  unfold Runs at h
  iapply h
  isplitr [HO]
  · isplitr; · iexact HK
    isplitl [Hs]; · iexact Hs
    isplitl [Ho] <;> iassumption
  · iexact HO

theorem stage_first (c : Dev nD) (x : Fin 4 × Fin 4) (O : CellTallies nD τ sig Unit) :
    Runs (defs₀ (F := F)) 𝒱₀ c iprop((plan m).knows ER ∗ readyFirst m c x ∗ owing c (O + (plan m).due (mate x.2 c) (came x.1 x.2))) (first c x.1 x.2)
      iprop((plan m).crd c (sent x.1 x.2) ∗ owing c O) := by
  unfold Runs readyFirst
  iintro ⟨#HK, ⟨Hs, ⟨%f, Ho⟩, Ht, Ht'⟩, HO⟩
  have h := runs_first m c O x.1 x.2 f
  unfold Runs at h
  iapply h
  isplitr; · iexact HK
  isplitl [Hs]; · iexact Hs
  isplitl [Ho]; · iexact Ho
  isplitl [Ht]; · iexact Ht
  isplitl [Ht'] <;> iassumption

theorem stage_pass (c : Dev nD) (x : Fin 3 × Fin 4) (O : CellTallies nD τ sig Unit) (hO : Above lvS 0 O) :
    Runs (defs₀ (F := F)) 𝒱₀ c iprop(((plan m).knows ER ∗ levAts Lall (lvOf lvS)) ∗ takesPass m c x ∗ owing c (O + (plan m).due (mate 0 c) (relayed x.1 x.2)))
      (relay c x) iprop(leavesPass m c x ∗ owing c O) := by
  obtain ⟨j, a⟩ := x
  unfold Runs takesPass readyPass
  iintro ⟨⟨#HK, #HL⟩, ⟨⟨⟨%f, Ho⟩, Ht, Ht'⟩, Hc, Hp⟩, HO⟩
  have h1 := (runs_waitDirect m c (O + (plan m).due (mate 0 c) (relayed j a))
    (above_add hO (above_due (plan m) (c := mate 0 c) (j := relayed j a) (by show 0 < lvS (.dma (osem (relayed j a))); rw [lvS_relayed]; exact Nat.one_pos))) j a).frame
    iprop((plan m).knows ER ∗ outPart (mate 0 c) a (num (mate j.succ c)) f ∗ (plan m).tok ER c (passed j a) ∗ (plan m).tok ER (mate 0 c) (relayed j a))
  have h2 := (runs_forward m c O j a f).frame ((plan m).over ER c (came a j.succ))
  have h := Runs.bind h1 (h2.mono (A' := _) (B' := iprop(leavesPass m c (j, a) ∗ owing c O)) (by
      unfold awaited
      show iprop((outPart c a (num (mate j.succ c)) (want m c a) ∗ _) ∗ _) ⊢ _
      iintro ⟨⟨Hy, Hv, HO⟩, #HK, Ho, Ht, Ht'⟩
      isplitr [Hv]
      · isplitr; · iexact HK
        isplitl [Hy]; · iexact Hy
        isplitl [Ho]; · iexact Ho
        isplitl [Ht]; · iexact Ht
        isplitl [Ht'] <;> iassumption
      · iexact Hv) (by
      unfold leavesPass
      iintro ⟨⟨Hc, HO⟩, Hv⟩
      isplitr [HO]
      · isplitl [Hc] <;> iassumption
      · iexact HO))
  unfold Runs at h
  iapply h
  unfold awaits
  isplitl [Hc Hp HO]
  · isplitr; · iexact HK
    isplitr; · iexact HL
    isplitl [Hc]; · iexact Hc
    isplitl [Hp] <;> iassumption
  isplitr; · iexact HK
  isplitl [Ho]; · iexact Ho
  isplitl [Ht] <;> iassumption

theorem runs_last (c : Dev nD) : ∀ w : W, Runs (defs₀ (F := F)) 𝒱₀ c (awaits m c (atEnd w) 0) (await c w) (awaited m c (atEnd w) 0)
  | .inl a => runs_waitNear m c a
  | .inr (.inl (j, a)) => runs_waitRelayed m c j a
  | .inr (.inr (.inl (a, k))) => runs_waitSent m c a k
  | .inr (.inr (.inr (.inl (j, a)))) => runs_waitPassed m c j a
  | .inr (.inr (.inr (.inr a))) => runs_waitHome m c a

def takesLast (c : Dev nD) (w : W) : sProp 𝕄 := iprop((plan m).crd c (atEnd w) ∗ (plan m).place ER c (atEnd w))
def leavesLast (c : Dev nD) (w : W) : sProp 𝕄 := iprop((plan m).pay c (atEnd w) ∗ (plan m).over ER c (atEnd w))

theorem stage_last (c : Dev nD) (w : W) :
    Runs (defs₀ (F := F)) 𝒱₀ c iprop(((plan m).knows ER ∗ levAts Lall (lvOf lvS)) ∗ takesLast m c w ∗ owing c 0) (await c w)
      iprop(leavesLast m c w ∗ owing c 0) := by
  refine (runs_last m c w).mono ?_ ?_
  · unfold awaits takesLast
    iintro ⟨⟨HK, HL⟩, ⟨Hc, Hp⟩, HO⟩
    isplitl [HK]; · iexact HK
    isplitl [HL]; · iexact HL
    isplitl [Hc]; · iexact Hc
    isplitl [Hp] <;> iassumption
  · unfold awaited leavesLast
    iintro ⟨Hy, Hv, HO⟩
    isplitr [HO]
    · isplitl [Hy] <;> iassumption
    · iexact HO

/-! ## The body -/

/-- What is owed to other devices: the sends, and the shards passed on. -/
abbrev X : Type := (Fin 4 × Fin 4) ⊕ (Fin 3 × Fin 4)
def lands : X → J
  | .inl x => came x.1 x.2
  | .inr x => relayed x.1 x.2
/-- The arrivals: who sends them. -/
def goes (k : Dev nD × X) : Dev nD × X :=
  match k.2 with
  | .inl x => (mate x.2 k.1, .inl x)
  | .inr x => (mate 0 k.1, .inr x)
theorem goes_goes (k : Dev nD × X) : goes (goes k) = k := by
  obtain ⟨c, x | x⟩ := k
  · exact Prod.ext (mate_mate x.2 c) rfl
  · exact Prod.ext (mate_mate 0 c) rfl
def arrivals : Dev nD × X ≃ Dev nD × X := ⟨goes, goes, goes_goes, goes_goes⟩

/-- What a device owes for its sends, and for what it passes on. -/
def owedFirst (c : Dev nD) : CellTallies nD τ sig Unit := ∑ x : Fin 4 × Fin 4, (plan (F := F) m).due (mate x.2 c) (came x.1 x.2)
def owedPass (c : Dev nD) : CellTallies nD τ sig Unit := ∑ x : Fin 3 × Fin 4, (plan (F := F) m).due (mate 0 c) (relayed x.1 x.2)

theorem owed_eq (c : Dev nD) : dues (plan (F := F) m) lands arrivals c = owedPass m c + owedFirst m c := by
  rw [add_comm]
  exact Fintype.sum_sum_type _

def H (c : Dev nD) : sProp 𝕄 := iprop(bigSep Finset.univ (readyHome m c) ∗ bigSep Finset.univ (readyFirst m c) ∗ bigSep Finset.univ (readyPass m c))
def H' (c : Dev nD) : sProp 𝕄 := bigSep Finset.univ fun w => (plan m).pay c (atEnd w)

theorem at_device (c : Dev nD) (k : Dev nD → Op F) {A : sProp 𝕄} {B : sProp 𝕄}
    (h : A ⊢ wp frame (wpE (defs₀ (F := F)) 𝒱₀ (c.tc : Thread nD τ) none) Set.univ (k c) fun _ => B) :
    A ⊢ wp frame (wpE (defs₀ (F := F)) 𝒱₀ (c.tc : Thread nD τ) none) Set.univ (.op .deviceId k) fun _ => B := by
  rw [wp_deviceId]; exact h

/-- What a device holds at the start, the credit of the arrivals named. -/
def begins (c : Dev nD) : sProp 𝕄 :=
  iprop(((plan m).knows ER ∗ levAts Lall (lvOf lvS)) ∗ H m c ∗ ((bigSep Finset.univ fun a : Fin 4 => (plan m).crd c (came a 0))
    ∗ bigSep Finset.univ fun x : Fin 3 × Fin 4 => (plan m).crd c (came x.2 x.1.succ))
    ∗ (bigSep Finset.univ fun x : Fin 3 × Fin 4 => (plan m).crd c (relayed x.1 x.2)) ∗ (bigSep Finset.univ fun j => (plan m).place ER c j)
    ∗ owing c (owedPass m c + owedFirst m c))

theorem all_stages (c : Dev nD) :
    Runs (defs₀ (F := F)) 𝒱₀ c (begins m c)
      ((seq ([0, 1, 2, 3].map (home c))).bind fun _ => (seq (pairs.map fun x => first c x.1 x.2)).bind fun _ =>
        (seq (others.map (relay c))).bind fun _ => seq (last.map (await c)))
      iprop((bigSep Finset.univ (leavesLast m c) ∗ owing c 0) ∗ (plan m).knows ER ∗ bigSep Finset.univ fun x : Fin 3 × Fin 4 => (plan m).over ER c (came x.2 x.1.succ)) := by
  have h1 := loop (𝔻 := defs₀ (F := F)) (𝒱 := 𝒱₀) [0, 1, 2, 3] (by decide) (by decide) c ((plan m).knows ER) (fun _ => True) (fun _ _ _ _ => trivial) (home c)
    (readyHome m c) (fun a => (plan m).crd c (kept a)) (fun _ => 0) (owedPass m c + owedFirst m c) trivial (fun _ => trivial) (fun a X _ => by
      rw [add_zero]; exact stage_home m c a X)
  have h2 := loop (𝔻 := defs₀ (F := F)) (𝒱 := 𝒱₀) pairs (by decide) (by decide) c ((plan m).knows ER) (fun _ => True) (fun _ _ _ _ => trivial) (fun x => first c x.1 x.2)
    (readyFirst m c) (fun x => (plan m).crd c (sent x.1 x.2)) (fun x => (plan m).due (mate x.2 c) (came x.1 x.2)) (owedPass m c) trivial (fun _ => trivial)
    (fun x X _ => stage_first m c x X)
  have h3 := loop (𝔻 := defs₀ (F := F)) (𝒱 := 𝒱₀) others (by decide) (by decide) c iprop((plan m).knows ER ∗ levAts Lall (lvOf lvS)) (Above lvS 0) (fun _ _ => above_add) (relay c)
    (takesPass m c) (leavesPass m c) (fun x => (plan m).due (mate 0 c) (relayed x.1 x.2)) 0 (above_zero _ _)
    (fun x => above_due (plan m) (c := mate 0 c) (j := relayed x.1 x.2) (by show 0 < lvS (.dma (osem (relayed x.1 x.2))); rw [lvS_relayed]; exact Nat.one_pos))
    (fun x X hX => stage_pass m c x X hX)
  have h4 := loop (𝔻 := defs₀ (F := F)) (𝒱 := 𝒱₀) last (by decide +kernel) (by decide +kernel) c iprop((plan m).knows ER ∗ levAts Lall (lvOf lvS)) (fun X => X = 0) (fun X Y hX hY => by rw [hX, hY, add_zero])
    (await c) (takesLast m c) (leavesLast m c) (fun _ => 0) 0 rfl (fun _ => rfl) (fun x X hX => by
      subst hX
      have h := stage_last m c x
      rwa [show (0 : CellTallies nD τ sig Unit) + 0 = 0 from add_zero 0])
  rw [Finset.sum_const_zero, add_zero] at h1 h4
  rw [zero_add] at h3
  refine (Runs.bind (h1.frame iprop(((plan m).knows ER ∗ levAts Lall (lvOf lvS)) ∗ bigSep Finset.univ (readyFirst m c) ∗ bigSep Finset.univ (readyPass m c)
      ∗ ((bigSep Finset.univ fun a : Fin 4 => (plan m).crd c (came a 0)) ∗ bigSep Finset.univ fun x : Fin 3 × Fin 4 => (plan m).crd c (came x.2 x.1.succ))
      ∗ (bigSep Finset.univ fun x : Fin 3 × Fin 4 => (plan m).crd c (relayed x.1 x.2)) ∗ (bigSep Finset.univ fun j => (plan m).place ER c j)))
    (Runs.bind ((h2.frame iprop(((plan m).knows ER ∗ levAts Lall (lvOf lvS)) ∗ bigSep Finset.univ (readyPass m c)
      ∗ (bigSep Finset.univ fun a : Fin 4 => (plan m).crd c (kept a))
      ∗ ((bigSep Finset.univ fun a : Fin 4 => (plan m).crd c (came a 0)) ∗ bigSep Finset.univ fun x : Fin 3 × Fin 4 => (plan m).crd c (came x.2 x.1.succ))
      ∗ (bigSep Finset.univ fun x : Fin 3 × Fin 4 => (plan m).crd c (relayed x.1 x.2)) ∗ (bigSep Finset.univ fun j => (plan m).place ER c j))).mono (A' := _) (B' := _) ?_ Entails.rfl)
    (Runs.bind ((h3.frame iprop(((plan m).knows ER ∗ levAts Lall (lvOf lvS)) ∗ (bigSep Finset.univ fun x : Fin 4 × Fin 4 => (plan m).crd c (sent x.1 x.2))
      ∗ (bigSep Finset.univ fun a : Fin 4 => (plan m).crd c (kept a)) ∗ (bigSep Finset.univ fun a : Fin 4 => (plan m).crd c (came a 0))
      ∗ (bigSep Finset.univ fun x : Fin 3 × Fin 4 => (plan m).crd c (relayed x.1 x.2)) ∗ (bigSep Finset.univ fun w => (plan m).place ER c (atEnd w)))).mono (A' := _) (B' := _) ?_ Entails.rfl)
    ((h4.frame iprop((plan m).knows ER ∗ bigSep Finset.univ fun x : Fin 3 × Fin 4 => (plan m).over ER c (came x.2 x.1.succ))).mono (A' := _) (B' := _) ?_ Entails.rfl)))).mono (A' := _) (B' := _) ?_ Entails.rfl
  · iintro ⟨⟨Hk, HO⟩, ⟨#HK, #HL⟩, HF, HP, HC, HR, Hp⟩
    isplitl [HF HO]
    · isplitr; · iexact HK
      isplitl [HF]; · iexact HF
      iexact HO
    isplitr
    · isplitr; · iexact HK
      iexact HL
    isplitl [HP]; · iexact HP
    isplitl [Hk]; · iexact Hk
    isplitl [HC]; · iexact HC
    isplitl [HR]; · iexact HR
    iexact Hp
  · unfold takesPass
    rw [bigSep_sep', bigSep_sep', sorted fun j => (plan m).place ER c j]
    show iprop(_) ⊢ _
    iintro ⟨⟨Hs, HO⟩, ⟨#HK, #HL⟩, HP, Hk, ⟨HN, HC⟩, HR, HpE, Hp⟩
    isplitl [HP HC Hp HO]
    · isplitr
      · isplitr; · iexact HK
        iexact HL
      isplitr [HO]
      · isplitl [HP]; · iexact HP
        isplitl [HC]; · iexact HC
        iexact Hp
      · iexact HO
    isplitr
    · isplitr; · iexact HK
      iexact HL
    isplitl [Hs]; · iexact Hs
    isplitl [Hk]; · iexact Hk
    isplitl [HN]; · iexact HN
    isplitl [HR]; · iexact HR
    iexact HpE
  · have hl : bigSep Finset.univ (leavesPass m c) = iprop((bigSep Finset.univ fun x : Fin 3 × Fin 4 => (plan m).crd c (passed x.1 x.2))
        ∗ bigSep Finset.univ fun x : Fin 3 × Fin 4 => (plan m).over ER c (came x.2 x.1.succ)) := bigSep_sep' _ _ _
    have ht : bigSep Finset.univ (takesLast m c) = iprop(((bigSep Finset.univ fun a : Fin 4 => (plan m).crd c (came a 0))
        ∗ (bigSep Finset.univ fun x : Fin 3 × Fin 4 => (plan m).crd c (relayed x.1 x.2)) ∗ (bigSep Finset.univ fun x : Fin 4 × Fin 4 => (plan m).crd c (sent x.1 x.2))
        ∗ (bigSep Finset.univ fun x : Fin 3 × Fin 4 => (plan m).crd c (passed x.1 x.2)) ∗ (bigSep Finset.univ fun a : Fin 4 => (plan m).crd c (kept a)))
        ∗ bigSep Finset.univ fun w => (plan m).place ER c (atEnd w)) := by
      rw [show takesLast m c = fun w => iprop((plan m).crd c (atEnd w) ∗ (plan m).place ER c (atEnd w)) from rfl, bigSep_sep',
        sums fun w => (plan m).crd c (atEnd w), sums, sums, sums]
      rfl
    rw [hl, ht]
    show iprop(_) ⊢ _
    iintro ⟨⟨⟨HP, HV⟩, HO⟩, ⟨#HK, #HL⟩, Hs, Hk, HN, HR, HpE⟩
    isplitr [HV]
    · isplitr
      · isplitr; · iexact HK
        iexact HL
      isplitr [HO]
      · isplitr [HpE]
        · isplitl [HN]; · iexact HN
          isplitl [HR]; · iexact HR
          isplitl [Hs]; · iexact Hs
          isplitl [HP]; · iexact HP
          iexact Hk
        · iexact HpE
      · iexact HO
    · isplitr; · iexact HK
      iexact HV
  · unfold begins H
    iintro ⟨⟨#HK, #HL⟩, ⟨HH, HF, HP⟩, HC, HR, Hp, HO⟩
    isplitl [HH HO]
    · isplitr; · iexact HK
      isplitl [HH]; · iexact HH
      iexact HO
    isplitr
    · isplitr; · iexact HK
      iexact HL
    isplitl [HF]; · iexact HF
    isplitl [HP]; · iexact HP
    isplitl [HC]; · iexact HC
    isplitl [HR]; · iexact HR
    iexact Hp

theorem body (c : Dev nD) (t : Fin cfg0.N) :
    iprop(Cert.Exchange.enter (plan m) lands lvS (H m) c ∗ owing c (dues (plan m) lands arrivals c))
      ⊢ wp frame (wpE (defs₀ (F := F)) 𝒱₀ (c.tc : Thread nD τ) none) Set.univ (bodyAt0 t)
        fun _ => iprop((plan m).knows ER ∗ H' m c ∗ (bigSep Finset.univ fun j => (plan m).over ER c j) ∗ owing c 0) := by
  rw [body_eq, owed_eq]
  have ht := all_stages m c
  unfold Runs at ht
  generalize pairs = l1 at ht ⊢
  generalize others = l2 at ht ⊢
  generalize last = l3 at ht ⊢
  refine at_device c _ ?_
  beta_reduce
  refine BIBase.Entails.trans ?_ (BIBase.Entails.trans ht (wp_mono _ _ _ fun _ => ?_))
  · unfold Cert.Exchange.enter begins
    have hc (x : X) : (cred ((plan m).due c (lands x)) : sProp 𝕄) = (plan m).crd c (lands x) := cred_due (plan m) rfl
    simp only [hc]
    rw [sums, split0]
    show iprop(_) ⊢ _
    iintro ⟨⟨#HK, #HL, HH, ⟨HC, HR⟩, Hp⟩, HO⟩
    isplitr
    · isplitr; · iexact HK
      iexact HL
    isplitl [HH]; · iexact HH
    isplitl [HC]; · iexact HC
    isplitl [HR]; · iexact HR
    isplitl [Hp]; · iexact Hp
    iexact HO
  · have hl : bigSep Finset.univ (leavesLast m c) = iprop((bigSep Finset.univ fun w => (plan m).pay c (atEnd w)) ∗ bigSep Finset.univ fun w => (plan m).over ER c (atEnd w)) :=
      bigSep_sep' _ _ _
    unfold H'
    rw [hl, sorted fun j => (plan m).over ER c j]
    show iprop(_) ⊢ _
    iintro ⟨⟨⟨HY, HV⟩, HO⟩, HK, HV'⟩
    isplitl [HK]; · iexact HK
    isplitl [HY]; · iexact HY
    isplitr [HO]
    · isplitl [HV]; · iexact HV
      iexact HV'
    · iexact HO

end Cert.GatherIdeal.Gather
-- ==== Proof.GatherRun.lean ====
/-
# The all-gather: every device

At the launch the shards are cut into their shares, the results into their blocks, and both are dealt: device `c` gets
the places its shard goes to and those of the shards it passes on. At the end every result is whole again.
-/
module

public import proofs.«01_k».proof.Proof.GatherBody
public import proofs.«01_k».proof.Proof.Gen.GatherIdeal.Launch

@[expose] public section

noncomputable section

namespace Cert.GatherIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Blocks
open Cert.GatherIdeal Cert.GatherIdeal.Gen

set_option Elab.async false

variable {F : FTy → Type} [FloatOps F]

local notation "𝕄" => MT nD τ sig Unit (Elt F) ℕ UU ℕ

variable (m : (ℓ : Loc nD τ sig) → Buf (Elt F) ℓ)

/-! ## Cutting the arrays -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem single (Φ : Fin 1 → sProp 𝕄) : bigSep Finset.univ Φ = Φ 0 :=
  bigSep_univ_eq_bigSepL [0] (by decide) (by decide) Φ

theorem halves {ℓ : Loc nD τ sig} (S : Finset (Idx ℓ)) (q : PosShare TreeShare) (f : Buf (Elt F) ℓ) :
    (ℓ ↦[S]{q} f : sProp 𝕄) = iprop((ℓ ↦[S]{q.left} f) ∗ ℓ ↦[S]{q.right} f) :=
  BI.equiv_iff.mp ⟨(pointsTo_share (PosShare.mem_left_op_right q)).1, (pointsTo_share (PosShare.mem_left_op_right q)).2⟩

theorem five (A B C D E : sProp 𝕄) : iprop(A ∗ B ∗ C ∗ D ∗ E) = iprop((A ∗ B ∗ C ∗ D) ∗ E) := by
  have h1 : iprop(A ∗ B ∗ C ∗ D ∗ E) ⊢ iprop((A ∗ B ∗ C ∗ D) ∗ E) := by
    iintro ⟨A, B, C, D, E⟩
    isplitr [E]
    · isplitl [A]; · iexact A
      isplitl [B]; · iexact B
      isplitl [C] <;> iassumption
    · iexact E
  have h2 : iprop((A ∗ B ∗ C ∗ D) ∗ E) ⊢ iprop(A ∗ B ∗ C ∗ D ∗ E) := by
    iintro ⟨⟨A, B, C, D⟩, E⟩
    isplitl [A]; · iexact A
    isplitl [B]; · iexact B
    isplitl [C]; · iexact C
    isplitl [D] <;> iassumption
  exact BI.equiv_iff.mp ⟨h1, h2⟩

/-- A shard is its shares. -/
theorem shares (c : Dev nD) (a : Fin 4) : srcPart m c a fullShare
    = iprop((bigSep Finset.univ fun k => srcPart m c a (piece k)) ∗ srcPart m c a stays) := by
  rw [four, ← five]
  unfold srcPart piece stays
  dsimp only
  rw [← halves, ← halves, ← halves, ← halves]

/-- The eight blocks of a result, by where they come from. -/
def blocks (c : Dev nD) : Fin 1 ⊕ Fin 4 ⊕ Fin 3 ≃ Fin 8 :=
  Equiv.ofBijective (fun | .inl _ => num c | .inr (.inl k) => num (mate k c) | .inr (.inr j) => num (mate j.succ (mate 0 c))) (by revert c; decide)

theorem eight (c : Dev nD) (Φ : Fin 8 → sProp 𝕄) : bigSep Finset.univ Φ
    = iprop(Φ (num c) ∗ (bigSep Finset.univ fun k => Φ (num (mate k c))) ∗ bigSep Finset.univ fun j : Fin 3 => Φ (num (mate j.succ (mate 0 c)))) := by
  rw [bigSep_univ_equiv (blocks c) Φ, sums, sums, single]
  rfl

variable (f : (c : Dev nD) → (a : Fin 4) → Buf (Elt F) ((out a).view.loc (c.tc : Thread nD τ)))

/-- The parts of device `d`'s results: its own shard's, its four partners', those passed on to it. -/
def home' (d : Dev nD) : sProp 𝕄 := bigSep Finset.univ fun a : Fin 4 => outPart d a (num d) (f d a)
def first' (d : Dev nD) : sProp 𝕄 := bigSep Finset.univ fun x : Fin 4 × Fin 4 => outPart d x.1 (num (mate x.2 d)) (f d x.1)
def pass' (d : Dev nD) : sProp 𝕄 := bigSep Finset.univ fun x : Fin 3 × Fin 4 => outPart d x.2 (num (mate x.1.succ (mate 0 d))) (f d x.2)
/-- The shares of device `c`'s shards: those sent, -/
def sends (c : Dev nD) : sProp 𝕄 := bigSep Finset.univ fun x : Fin 4 × Fin 4 => srcPart m c x.1 (piece x.2)
/-- and those for the copy at home. -/
def keeps (c : Dev nD) : sProp 𝕄 := bigSep Finset.univ fun a : Fin 4 => srcPart m c a stays

theorem srcs (c : Dev nD) : (bigSep Finset.univ fun a : Fin 4 => ((src a).view.loc (c.tc : Thread nD τ) ↦[Finset.univ]{fullShare} given m c a : sProp 𝕄))
    = iprop(sends m c ∗ keeps m c) := by
  unfold sends keeps
  rw [bigSep_univ_prod (Φ := fun x : Fin 4 × Fin 4 => srcPart m c x.1 (piece x.2)), ← bigSep_sep']
  refine bigSep_congr fun a _ => Eq.trans ?_ (shares m c a)
  unfold srcPart
  rw [Memref.IsWhole.set_eq_univ (src_whole a)]

theorem outs (c : Dev nD) : (bigSep Finset.univ fun a : Fin 4 => ((out a).view.loc (c.tc : Thread nD τ) ↦[Finset.univ]{fullShare} f c a : sProp 𝕄))
    = iprop(home' f c ∗ first' f c ∗ pass' f c) := by
  unfold home' first' pass'
  rw [bigSep_univ_prod (Φ := fun x : Fin 4 × Fin 4 => outPart c x.1 (num (mate x.2 c)) (f c x.1)),
    bigSep_univ_prod (Φ := fun x : Fin 3 × Fin 4 => outPart c x.2 (num (mate x.1.succ (mate 0 c))) (f c x.2)),
    BI.bigSep_univ_comm (fun (j : Fin 3) (a : Fin 4) => outPart c a (num (mate j.succ (mate 0 c))) (f c a)), ← bigSep_sep', ← bigSep_sep']
  exact bigSep_congr fun a _ => (whole3 (out a) (out_whole a) c fullShare (f c a)).trans (eight c fun b => outPart c a b (f c a))

/-! ## The deal -/

theorem exists_at {α : Type} (Φ : α → sProp 𝕄) (a : α) : Φ a ⊢ iprop(∃ f, Φ f) := by
  iintro H
  iexists a
  iexact H

/-- Handing part `x` of each device to its partner is handing out all of it. -/
theorem moved {A : Type} [Fintype A] (σ : A → Dev nD → Dev nD) (hσ : ∀ x c, σ x (σ x c) = c) (Φ : Dev nD → A → sProp 𝕄) :
    (bigSep Finset.univ fun c : Dev nD => bigSep Finset.univ fun x => Φ (σ x c) x) = bigSep Finset.univ fun c : Dev nD => bigSep Finset.univ fun x => Φ c x := by
  rw [BI.bigSep_univ_comm, BI.bigSep_univ_comm fun (c : Dev nD) x => Φ c x]
  refine bigSep_congr fun x _ => ?_
  exact (bigSep_univ_equiv (⟨σ x, σ x, hσ x, hσ x⟩ : Dev nD ≃ Dev nD) fun c => Φ c x).symm

theorem sep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

def roomHome (d : Dev nD) : sProp 𝕄 := bigSep Finset.univ fun a : Fin 4 => iprop(∃ f, outPart d a (num d) f)
def roomFirst (d : Dev nD) (x : Fin 4 × Fin 4) : sProp 𝕄 := iprop(∃ f, outPart d x.1 (num (mate x.2 d)) f)
def roomPass (d : Dev nD) (x : Fin 3 × Fin 4) : sProp 𝕄 := iprop(∃ f, outPart d x.2 (num (mate x.1.succ (mate 0 d))) f)

theorem room_home (d : Dev nD) : home' f d ⊢ roomHome d := by
  unfold home' roomHome
  refine bigSep_mono fun a _ => ?_
  exact exists_at (fun f => outPart d a (num d) f) (f d a)
theorem room_first (d : Dev nD) : first' f d ⊢ bigSep Finset.univ (roomFirst (F := F) d) := by
  unfold first'
  refine bigSep_mono fun x _ => ?_
  exact exists_at (fun f => outPart d x.1 (num (mate x.2 d)) f) (f d x.1)
theorem room_pass (d : Dev nD) : pass' f d ⊢ bigSep Finset.univ (roomPass (F := F) d) := by
  unfold pass'
  refine bigSep_mono fun x _ => ?_
  exact exists_at (fun f => outPart d x.2 (num (mate x.1.succ (mate 0 d))) f) (f d x.2)

def before (c : Dev nD) (a : Fin 4) : Buf (Elt F) ((out a).view.loc (c.tc : Thread nD τ)) := m _

theorem arrays (c : Dev nD) : unscopedBufs c (fun b => m ((c.tc : Thread nD τ).loc b))
    ⊢ (iprop(sends m c ∗ keeps m c ∗ roomHome c ∗ bigSep Finset.univ (roomFirst c) ∗ bigSep Finset.univ (roomPass c)) : sProp 𝕄) := by
  have h1 := srcs m c
  have h2 := outs (before m) c
  rw [four] at h1 h2
  rw [unscopedBufs_split₀ cfgs 0 winFacts0.arr_unscoped c]
  refine BIBase.Entails.trans (Cert.Start.drop_left _ _) ?_
  refine BIBase.Entails.trans (Entails.of_eq (unscopedRest0_eq c _)) ?_
  refine BIBase.Entails.trans (Q := iprop((sends m c ∗ keeps m c) ∗ home' (before m) c ∗ first' (before m) c ∗ pass' (before m) c)) ?_ ?_
  · rw [← h1, ← h2]
    iintro ⟨H0, H1, H2, H3, G0, G1, G2, G3⟩
    isplitl [H0 H1 H2 H3]
    · isplitl [H0]; · iexact H0
      isplitl [H1]; · iexact H1
      isplitl [H2]; · iexact H2
      iexact H3
    · isplitl [G0]; · iexact G0
      isplitl [G1]; · iexact G1
      isplitl [G2]; · iexact G2
      iexact G3
  · iintro ⟨⟨HS, HK⟩, H1, H2, H3⟩
    isplitl [HS]; · iexact HS
    isplitl [HK]; · iexact HK
    isplitl [H1]
    · iapply (room_home (before m) c) $$ H1
    isplitl [H2]
    · iapply (room_first (before m) c) $$ H2
    · iapply (room_pass (before m) c) $$ H3

/-- The rights of the copies, by kind. -/
def rights (c : Dev nD) : sProp 𝕄 :=
  iprop((bigSep Finset.univ fun x : Fin 4 × Fin 4 => (plan (F := F) m).tok ER c (came x.1 x.2)) ∗ (bigSep Finset.univ fun x : Fin 3 × Fin 4 => (plan (F := F) m).tok ER c (relayed x.1 x.2))
    ∗ (bigSep Finset.univ fun x : Fin 4 × Fin 4 => (plan (F := F) m).tok ER c (sent x.1 x.2)) ∗ (bigSep Finset.univ fun x : Fin 3 × Fin 4 => (plan (F := F) m).tok ER c (passed x.1 x.2))
    ∗ bigSep Finset.univ fun a : Fin 4 => (plan (F := F) m).tok ER c (kept a))

theorem rights_eq (c : Dev nD) : (bigSep Finset.univ fun j => (plan (F := F) m).tok ER c j) = rights m c := by
  unfold rights
  rw [sums, sums, sums, sums]

/-- What a device enters with, piece by piece. -/
theorem entry_eq (c : Dev nD) : H m c = iprop((keeps m c ∗ roomHome c ∗ bigSep Finset.univ fun a : Fin 4 => (plan (F := F) m).tok ER c (kept a))
    ∗ (sends m c ∗ (bigSep Finset.univ fun x : Fin 4 × Fin 4 => roomFirst (mate x.2 c) x) ∗ (bigSep Finset.univ fun x : Fin 4 × Fin 4 => (plan (F := F) m).tok ER c (sent x.1 x.2))
      ∗ bigSep Finset.univ fun x : Fin 4 × Fin 4 => (plan (F := F) m).tok ER (mate x.2 c) (came x.1 x.2))
    ∗ (bigSep Finset.univ fun x : Fin 3 × Fin 4 => roomPass (mate 0 c) x) ∗ (bigSep Finset.univ fun x : Fin 3 × Fin 4 => (plan (F := F) m).tok ER c (passed x.1 x.2))
      ∗ bigSep Finset.univ fun x : Fin 3 × Fin 4 => (plan (F := F) m).tok ER (mate 0 c) (relayed x.1 x.2)) := by
  have h1 : bigSep Finset.univ (readyHome m c) = iprop(keeps m c ∗ roomHome c ∗ bigSep Finset.univ fun a : Fin 4 => (plan (F := F) m).tok ER c (kept a)) := by
    unfold readyHome keeps roomHome
    rw [bigSep_sep', bigSep_sep']
  have h2 : bigSep Finset.univ (readyFirst m c) = iprop(sends m c ∗ (bigSep Finset.univ fun x : Fin 4 × Fin 4 => roomFirst (mate x.2 c) x)
      ∗ (bigSep Finset.univ fun x : Fin 4 × Fin 4 => (plan (F := F) m).tok ER c (sent x.1 x.2)) ∗ bigSep Finset.univ fun x : Fin 4 × Fin 4 => (plan (F := F) m).tok ER (mate x.2 c) (came x.1 x.2)) := by
    unfold readyFirst sends roomFirst
    rw [Cert.Exchange.sep4]
    simp only [mate_mate]
  have h3 : bigSep Finset.univ (readyPass m c) = iprop((bigSep Finset.univ fun x : Fin 3 × Fin 4 => roomPass (mate 0 c) x)
      ∗ (bigSep Finset.univ fun x : Fin 3 × Fin 4 => (plan (F := F) m).tok ER c (passed x.1 x.2)) ∗ bigSep Finset.univ fun x : Fin 3 × Fin 4 => (plan (F := F) m).tok ER (mate 0 c) (relayed x.1 x.2)) := by
    unfold readyPass roomPass
    rw [bigSep_sep', bigSep_sep']
    simp only [mate_mate]
  unfold H
  rw [h1, h2, h3]

theorem deal : iprop((bigSep Finset.univ fun c : Dev nD => unscopedBufs c (fun b => m ((c.tc : Thread nD τ).loc b)))
      ∗ bigSep Finset.univ fun k : Dev nD × J => (plan (F := F) m).tok ER k.1 k.2) ⊢ bigSep Finset.univ (H m) := by
  refine BIBase.Entails.trans (sep_mono_left (bigSep_mono fun c _ => arrays m c)) ?_
  rw [bigSep_univ_prod (Φ := fun k : Dev nD × J => (plan (F := F) m).tok ER k.1 k.2), bigSep_congr (fun c _ => rights_eq m c),
    bigSep_congr (Ψ := H m) (fun c _ => rfl), bigSep_congr (fun c _ => entry_eq m c)]
  unfold rights
  rw [Cert.Exchange.sep5, Cert.Exchange.sep5, sep3, sep3, Cert.Exchange.sep4, sep3,
    moved (fun x : Fin 4 × Fin 4 => mate x.2) (fun x => mate_mate x.2) roomFirst, moved (fun _ : Fin 3 × Fin 4 => mate 0) (fun _ => mate_mate 0) roomPass,
    moved (fun x : Fin 4 × Fin 4 => mate x.2) (fun x => mate_mate x.2) (fun c x => (plan (F := F) m).tok ER c (came x.1 x.2)),
    moved (fun _ : Fin 3 × Fin 4 => mate 0) (fun _ => mate_mate 0) (fun c x => (plan (F := F) m).tok ER c (relayed x.1 x.2))]
  show iprop(_) ⊢ _
  iintro ⟨⟨HS, HK, R1, R2, R3⟩, T1, T2, T3, T4, T5⟩
  isplitl [HK R1 T5]
  · isplitl [HK]; · iexact HK
    isplitl [R1]; · iexact R1
    iexact T5
  isplitl [HS R2 T3 T1]
  · isplitl [HS]; · iexact HS
    isplitl [R2]; · iexact R2
    isplitl [T3]; · iexact T3
    iexact T1
  · isplitl [R3]; · iexact R3
    isplitl [T4]; · iexact T4
    iexact T2

/-! ## The end -/

/-- What memory holds at the end: the shards as they were, the results gathered. -/
def QY (c : Dev nD) (s : MemSt nD τ sig (Elt F)) : Prop :=
  ∀ a : Fin 4, s.mem ((src a).view.loc (c.tc : Thread nD τ)) = given m c a ∧ s.mem ((out a).view.loc (c.tc : Thread nD τ)) = want m c a

theorem whole (c : Dev nD) : H' m c ⊢ iprop((bigSep Finset.univ fun a : Fin 4 => ((src a).view.loc (c.tc : Thread nD τ) ↦[Finset.univ]{fullShare} given m c a : sProp 𝕄))
    ∗ bigSep Finset.univ fun a : Fin 4 => ((out a).view.loc (c.tc : Thread nD τ) ↦[Finset.univ]{fullShare} want m c a : sProp 𝕄)) := by
  have hk : (bigSep Finset.univ fun a : Fin 4 => (plan m).pay c (kept a)) = iprop(home' (want m) c ∗ keeps m c) := bigSep_sep' _ _ _
  have hf : first' (want m) c = iprop((bigSep Finset.univ fun a : Fin 4 => (plan m).pay c (came a 0)) ∗ bigSep Finset.univ fun x : Fin 3 × Fin 4 => (plan m).pay c (passed x.1 x.2)) :=
    split0 _
  have hw : H' m c = iprop((bigSep Finset.univ fun a : Fin 4 => (plan m).pay c (came a 0)) ∗ pass' (want m) c ∗ sends m c
      ∗ (bigSep Finset.univ fun x : Fin 3 × Fin 4 => (plan m).pay c (passed x.1 x.2)) ∗ bigSep Finset.univ fun a : Fin 4 => (plan m).pay c (kept a)) := by
    unfold H'
    rw [sums, sums, sums, sums]
    rfl
  have ho : (bigSep Finset.univ fun a : Fin 4 => ((out a).view.loc (c.tc : Thread nD τ) ↦[Finset.univ]{fullShare} want m c a : sProp 𝕄))
      = iprop(home' (want m) c ∗ first' (want m) c ∗ pass' (want m) c) := outs (want m) c
  rw [srcs, ho, hf, hw, hk]
  show iprop(_) ⊢ _
  iintro ⟨HN, HP, HS, HF, HH, HK⟩
  isplitl [HS HK]
  · isplitl [HS] <;> iassumption
  isplitl [HH]; · iexact HH
  isplitr [HP]
  · isplitl [HN] <;> iassumption
  · iexact HP

theorem fin (c : Dev nD) (s' : Phys nD τ sig (Elt F)) : iprop(H' m c ∗ SI s') ⊢ |={Set.univ}=> (iprop(⌜QY m c s'.mem⌝ ∗ SI s') : sProp 𝕄) := by
  refine BIBase.Entails.trans (sep_mono_left (whole m c)) ?_
  rw [four, four]
  show iprop(_) ⊢ _
  iintro ⟨⟨⟨A0, A1, A2, A3⟩, B0, B1, B2, B3⟩, HSI⟩
  ihave %a0 := SI_pointsTo_agree $$ [HSI A0]
  · isplitl [HSI] <;> iassumption
  ihave %a1 := SI_pointsTo_agree $$ [HSI A1]
  · isplitl [HSI] <;> iassumption
  ihave %a2 := SI_pointsTo_agree $$ [HSI A2]
  · isplitl [HSI] <;> iassumption
  ihave %a3 := SI_pointsTo_agree $$ [HSI A3]
  · isplitl [HSI] <;> iassumption
  ihave %b0 := SI_pointsTo_agree $$ [HSI B0]
  · isplitl [HSI] <;> iassumption
  ihave %b1 := SI_pointsTo_agree $$ [HSI B1]
  · isplitl [HSI] <;> iassumption
  ihave %b2 := SI_pointsTo_agree $$ [HSI B2]
  · isplitl [HSI] <;> iassumption
  ihave %b3 := SI_pointsTo_agree $$ [HSI B3]
  · isplitl [HSI] <;> iassumption
  imodintro
  isplitr
  · ipureintro
    intro a
    match a with
    | 0 => exact ⟨funext fun i => a0 i (Finset.mem_univ i), funext fun i => b0 i (Finset.mem_univ i)⟩
    | 1 => exact ⟨funext fun i => a1 i (Finset.mem_univ i), funext fun i => b1 i (Finset.mem_univ i)⟩
    | 2 => exact ⟨funext fun i => a2 i (Finset.mem_univ i), funext fun i => b2 i (Finset.mem_univ i)⟩
    | 3 => exact ⟨funext fun i => a3 i (Finset.mem_univ i), funext fun i => b3 i (Finset.mem_univ i)⟩
  · iexact HSI

theorem ownSemFacts : OwnSemFacts cfg0.spec (fun j : J => (.dma (osem j) : SemLoc sig)) where
  isScoped := by decide
  inj := fun _ _ h => osem_inj (by injection h)
  disj := fun _ w => w.elim0

theorem points : (cfgs 0).N = 1 := by decide

set_option maxRecDepth 16000 in
theorem run_main (ρ : Dev nD → PrngReg) :
    θ_run (defs (F := F)) (onTc (τ := τ) (main (F := F))) ⟨m, fun _ => 0, ρ⟩ (fun r => (∀ c, QY m c r.2) ∧ r.2.sem = fun _ => 0) :=
  Cert.Exchange.run_exchange cfgs defs₀ (plan m) lands arrivals lvS (H m) (H' m)
    rfl points cellOf_inj winFacts0 stage_whole0 ownSemFacts (fun c => scopedRest0_eq c) m ρ main (fun _ => rfl) (deal m)
    𝒱₀ (body m) (QY m) (fin m) (fun s h hs => ⟨h, sem_eq_zero_of_scoped (by decide) hs⟩)

end Cert.GatherIdeal.Gather
-- ==== Proof.GatherValue.lean ====
/-
# What the plain cutting of a weight into eight shards holds

A weight cut along its second axis is reshaped to (row, shard, column) and the shard brought to the front; one cut along
its first axis is only reshaped. Either way the part at `b` is device `b`'s block.
-/
module

public import proofs.«01_k».proof.Proof.Blocks
public import Idealize.ShloMosaic.Lib.Pipeline.Value
public import Idealize.ShloMosaic.Lib.Layout

@[expose] public section

noncomputable section

namespace Cert.Blocks

open Idealize.ShloMosaic Idealize.ShloMosaic.ValueIdx

variable {α : Type} {R C K : ℕ}

/-- Device `b`'s block of a matrix cut along its second axis, -/
theorem block_cols (v : (M2 R K).Idx → α) (h : Layout.Tiles (M2 R C) (M2 R K) 1 8) (b : Fin 8) (i : Fin R) (j : Fin C)
    (y : Fin K) (hy : y.val = b.val * C + j.val) : Layout.block (M2 R C) (M2 R K) 1 8 b v h (ix2 i j) = v (ix2 i y) := by
  rw [Layout.block_apply]
  refine congrArg v (funext fun a => Fin.ext ?_)
  rw [Layout.Tiles.idx_val]
  match a with
  | ⟨0, _⟩ => rfl
  | ⟨1, _⟩ => exact hy.symm

/-- and along its first. -/
theorem block_rows (v : (M2 K C).Idx → α) (h : Layout.Tiles (M2 R C) (M2 K C) 0 8) (b : Fin 8) (i : Fin R) (j : Fin C)
    (y : Fin K) (hy : y.val = b.val * R + i.val) : Layout.block (M2 R C) (M2 K C) 0 8 b v h (ix2 i j) = v (ix2 y j) := by
  rw [Layout.block_apply]
  refine congrArg v (funext fun a => Fin.ext ?_)
  rw [Layout.Tiles.idx_val]
  match a with
  | ⟨0, _⟩ => exact hy.symm
  | ⟨1, _⟩ => rfl

theorem gathers_cols (hK : K = 8 * C) (v : (M2 R K).Idx → α) (h : Layout.Tiles (M2 R C) (M2 R K) 1 8)
    (h1 : (M2 R K).ShapeCasts (M3 R 8 C)) (h2 : (M3 R 8 C).Transposes [1, 0, 2] (M3 8 R C)) :
    (fun x : (M3 8 R C).Idx => Layout.block (M2 R C) (M2 R K) 1 8 (x 0) v h (ix2 (x 1) (x 2)))
      = transpose (M3 8 R C) [1, 0, 2] (shapeCast (M3 R 8 C) v h1) h2 := by
  subst hK
  funext x
  obtain ⟨b, i, j, rfl⟩ : ∃ (b : Fin 8) (i : Fin R) (j : Fin C), x = ix3 b i j := ⟨x 0, x 1, x 2, eq_ix3 x⟩
  have hb := b.isLt
  have hj := j.isLt
  have hlt : b.val * C + j.val < 8 * C := by
    calc b.val * C + j.val < b.val * C + C := by omega
      _ = (b.val + 1) * C := by rw [Nat.add_mul, Nat.one_mul]
      _ ≤ 8 * C := Nat.mul_le_mul_right _ (by omega)
  rw [transpose_apply [1, 0, 2] _ h2 _ (ix3 i b j) (fun b => by
      match b with
      | ⟨0, _⟩ => rfl
      | ⟨1, _⟩ => rfl
      | ⟨2, _⟩ => rfl),
    shapeCast_apply _ h1 _ (ix2 i (⟨b.val * C + j.val, hlt⟩ : Fin (8 * C))) (by
      rw [Shape.rowMajor_val_three, Shape.rowMajor_val_two]
      show i.val * (8 * C) + (b.val * C + j.val) = (i.val * 8 + b.val) * C + j.val
      ring)]
  exact block_cols v h b i j _ rfl

theorem gathers_rows (hK : K = 8 * R) (v : (M2 K C).Idx → α) (h : Layout.Tiles (M2 R C) (M2 K C) 0 8)
    (h1 : (M2 K C).ShapeCasts (M3 8 R C)) :
    (fun x : (M3 8 R C).Idx => Layout.block (M2 R C) (M2 K C) 0 8 (x 0) v h (ix2 (x 1) (x 2))) = shapeCast (M3 8 R C) v h1 := by
  subst hK
  funext x
  obtain ⟨b, i, j, rfl⟩ : ∃ (b : Fin 8) (i : Fin R) (j : Fin C), x = ix3 b i j := ⟨x 0, x 1, x 2, eq_ix3 x⟩
  have hb := b.isLt
  have hi := i.isLt
  have hlt : b.val * R + i.val < 8 * R := by
    calc b.val * R + i.val < b.val * R + R := by omega
      _ = (b.val + 1) * R := by rw [Nat.add_mul, Nat.one_mul]
      _ ≤ 8 * R := Nat.mul_le_mul_right _ (by omega)
  rw [shapeCast_apply _ h1 _ (ix2 (⟨b.val * R + i.val, hlt⟩ : Fin (8 * R)) j) (by
      rw [Shape.rowMajor_val_three, Shape.rowMajor_val_two]
      rfl)]
  exact block_rows v h b i j _ rfl

end Cert.Blocks
-- ==== Proof.GatherClaims.lean ====
/-
# The claims about the all-gather of the weights
-/
module

public import proofs.«01_k».proof.Defs
public import proofs.«01_k».proof.Proof.Gen.Gather
public import proofs.«01_k».proof.Proof.Gen.GatherRef
public import proofs.«01_k».proof.Proof.GatherRun
public import proofs.«01_k».proof.Proof.GatherValue
public import proofs.«01_k».proof.Proof.Gen.GatherRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem Cert.Blocks Cert.GatherIdeal.Gather

/-- The arguments of the all-gather survive it, over the ideal values -/
theorem frame_GatherIdeal : Cert.quiescent_GatherIdeal := fun m ρ _ =>
  (θ_run Cert.GatherIdeal.defs _ _).mono (fun _ h => ⟨fun c => ⟨(h.1 c 0).1, (h.1 c 1).1, (h.1 c 2).1, (h.1 c 3).1⟩, h.2⟩) (run_main m ρ)

/-- and over the words: the two programs are the same. -/
theorem frame_Gather : Cert.quiescent_Gather := fun m ρ _ =>
  (θ_run Cert.GatherIdeal.defs _ _).mono (fun _ h => ⟨fun c => ⟨(h.1 c 0).1, (h.1 c 1).1, (h.1 c 2).1, (h.1 c 3).1⟩, h.2⟩) (run_main (F := Bits) m ρ)

/-- The reference leaves its arguments alone and has no semaphore. -/
theorem frame_GatherRefIdeal : Cert.quiescent_GatherRefIdeal := fun m ρ _ =>
  (θ_run Cert.GatherRefIdeal.defs _ _).mono (fun r h => ⟨fun c => (h c).2.2.2.2, sem_eq_zero_of_no_sems rfl r.2⟩) (Cert.GatherRefIdeal.Value.run m ρ)

/-- So over the words. -/
theorem frame_GatherRef : Cert.quiescent_GatherRef := fun m ρ _ =>
  (θ_run Cert.GatherRefIdeal.defs _ _).mono (fun r h => ⟨fun c => (h c).2.2.2.2, sem_eq_zero_of_no_sems rfl r.2⟩) (Cert.GatherRefIdeal.Value.run (F := Bits) m ρ)

/-- Nothing was rewritten. -/
theorem preserves_Gather : Cert.preserves_Gather_GatherIdeal := trivial

variable {F : FTy → Type} [FloatOps F] (m : (ℓ : Loc Cert.GatherIdeal.nD Cert.GatherIdeal.τ Cert.GatherIdeal.sig) → Buf (Elt F) ℓ)

/-- What every device gathers of a weight cut along its second axis, -/
theorem gathered_cols (a : Fin 4) {K : ℕ} (hK : K = 8 * cols a) (v : (M2 (rows a) K).Idx → Elt F .bf16) (hS : Layout.Tiles (M2 (rows a) (cols a)) (M2 (rows a) K) 1 8)
    (hv : ∀ c, shard m c a = Layout.block (M2 (rows a) (cols a)) (M2 (rows a) K) 1 8 c v hS)
    (h1 : (M2 (rows a) K).ShapeCasts (M3 (rows a) 8 (cols a))) (h2 : (M3 (rows a) 8 (cols a)).Transposes [1, 0, 2] (M3 8 (rows a) (cols a))) :
    gathered m a = transpose (M3 8 (rows a) (cols a)) [1, 0, 2] (shapeCast (M3 (rows a) 8 (cols a)) v h1) h2 := by
  rw [← gathers_cols hK v hS h1 h2]
  funext x
  exact congrFun (hv (x 0)) _

/-- and along its first. -/
theorem gathered_rows (a : Fin 4) {K : ℕ} (hK : K = 8 * rows a) (v : (M2 K (cols a)).Idx → Elt F .bf16) (hS : Layout.Tiles (M2 (rows a) (cols a)) (M2 K (cols a)) 0 8)
    (hv : ∀ c, shard m c a = Layout.block (M2 (rows a) (cols a)) (M2 K (cols a)) 0 8 c v hS) (h1 : (M2 K (cols a)).ShapeCasts (M3 8 (rows a) (cols a))) :
    gathered m a = shapeCast (M3 8 (rows a) (cols a)) v h1 := by
  rw [← gathers_rows hK v hS h1]
  funext x
  exact congrFun (hv (x 0)) _

/-- A result is a whole array, so what it is to hold is what is gathered. -/
theorem wanted_eq (c : Dev Cert.GatherIdeal.nD) (a : Fin 4) : (out a).view.read (Elt F) (want m c a) = gathered m a := (out_whole a).read_unread _

open Cert.GatherRefIdeal.Gen in
/-- Every device's results are the reference's. -/
theorem algebraic_Gather : Cert.algebraic_GatherIdeal_GatherRefIdeal := fun m g m' g' _ hin => by
  refine ⟨_, _, _, _, ?_, (θ_run Cert.GatherRefIdeal.defs _ _).mono (fun _ h => h 0) (Cert.GatherRefIdeal.Value.run m' g')⟩
  refine (θ_run Cert.GatherIdeal.defs _ _).mono (fun _ h c => ⟨
    ((h.1 c 0).2.trans (wanted_eq m c 0)).trans ?_, ((h.1 c 1).2.trans (wanted_eq m c 1)).trans ?_, ((h.1 c 2).2.trans (wanted_eq m c 2)).trans ?_,
    ((h.1 c 3).2.trans (wanted_eq m c 3)).trans ?_, (h.1 c 0).1, (h.1 c 1).1, (h.1 c 2).1, (h.1 c 3).1⟩) (run_main m g)
  · exact gathered_cols m 0 rfl _ _ (fun c => (hin c).1) shapeCasts_S1024x2048_S1024x8x256 transposes_S1024x8x256_S8x1024x256_1_0_2
  · exact gathered_rows m 1 rfl _ _ (fun c => (hin c).2.1) shapeCasts_S1024x1024_S8x128x1024
  · exact gathered_cols m 2 rfl _ _ (fun c => (hin c).2.2.1) shapeCasts_S1024x6144_S1024x8x768 transposes_S1024x8x768_S8x1024x768_1_0_2
  · exact gathered_rows m 3 rfl _ _ (fun c => (hin c).2.2.2) shapeCasts_S3072x1024_S8x384x1024

open Cert.GatherRefIdeal.Gen in
/-- and so over the words.-/
theorem bitexact_Gather : Cert.bitexact_Gather_GatherRef := fun m g m' g' _ hin => by
  refine ⟨_, _, _, _, ?_, (θ_run Cert.GatherRefIdeal.defs _ _).mono (fun _ h => h 0) (Cert.GatherRefIdeal.Value.run (F := Bits) m' g')⟩
  refine (θ_run Cert.GatherIdeal.defs _ _).mono (fun _ h c => ⟨
    ((h.1 c 0).2.trans (wanted_eq m c 0)).trans ?_, ((h.1 c 1).2.trans (wanted_eq m c 1)).trans ?_, ((h.1 c 2).2.trans (wanted_eq m c 2)).trans ?_,
    ((h.1 c 3).2.trans (wanted_eq m c 3)).trans ?_, (h.1 c 0).1, (h.1 c 1).1, (h.1 c 2).1, (h.1 c 3).1⟩) (run_main (F := Bits) m g)
  · exact gathered_cols m 0 rfl _ _ (fun c => (hin c).1) shapeCasts_S1024x2048_S1024x8x256 transposes_S1024x8x256_S8x1024x256_1_0_2
  · exact gathered_rows m 1 rfl _ _ (fun c => (hin c).2.1) shapeCasts_S1024x1024_S8x128x1024
  · exact gathered_cols m 2 rfl _ _ (fun c => (hin c).2.2.1) shapeCasts_S1024x6144_S1024x8x768 transposes_S1024x8x768_S8x1024x768_1_0_2
  · exact gathered_rows m 3 rfl _ _ (fun c => (hin c).2.2.2) shapeCasts_S3072x1024_S8x384x1024

end Cert.Proof
-- ==== Proof.ChipsOps.lean ====
/-
# The reduce-scatter among the chips: the operations the kernel performs

The printed kernel's operations in the order it performs them, in families over the array `a` and the chip `q` a block
is for: it is sent if `q` is another chip, and copied at home if it is the device's own. `body_eq` says the kernel is
these, in this order.
-/
module

public import proofs.«01_k».proof.Proof.Gen.ChipsIdeal.Skeleton
public import proofs.«01_k».proof.Proof.Gen.ChipsIdeal.Points
public import proofs.«01_k».proof.Proof.OneShot

@[expose] public section

noncomputable section

namespace Cert.ChipsIdeal.Chips

open Idealize.ShloMosaic Idealize.SL.Sem
open Cert.OneShot
open Cert.ChipsIdeal Cert.ChipsIdeal.Gen

set_option Elab.async false

variable {F : FTy → Type} [FloatOps F]

/-- One operation of the kernel, or several. -/
abbrev Op (F : FTy → Type) : Type 1 := Prog (TpuEff nD τ sig (Elt F) Λ₀ .tc) PUnit

/-- The chip of a device. -/
def chip (c : Dev nD) : Fin 4 := ⟨c.val / 2, by revert c; decide⟩

/-- A block of an array, without the axes it has one place on. -/
abbrev cut0 (M : Memref sig .tc .hbm S4x1024x256 .bf16) (o : Fin 3 → ℕ) (h : ∀ a, o a + S1x1024x256.size a ≤ S4x1024x256.size a) : Memref sig .tc .hbm S1024x256 .bf16 :=
  (M.slice (Rect.unit (s := S4x1024x256) o S1x1024x256.size h) (fun _ => rfl)).squeeze S1024x256 squeezes_S1x1024x256_S1024x256
abbrev cut1 (M : Memref sig .tc .hbm S4x128x1024 .bf16) (o : Fin 3 → ℕ) (h : ∀ a, o a + S1x128x1024.size a ≤ S4x128x1024.size a) : Memref sig .tc .hbm S128x1024 .bf16 :=
  (M.slice (Rect.unit (s := S4x128x1024) o S1x128x1024.size h) (fun _ => rfl)).squeeze S128x1024 squeezes_S1x128x1024_S128x1024
abbrev cut2 (M : Memref sig .tc .hbm S4x1024x768 .bf16) (o : Fin 3 → ℕ) (h : ∀ a, o a + S1x1024x768.size a ≤ S4x1024x768.size a) : Memref sig .tc .hbm S1024x768 .bf16 :=
  (M.slice (Rect.unit (s := S4x1024x768) o S1x1024x768.size h) (fun _ => rfl)).squeeze S1024x768 squeezes_S1x1024x768_S1024x768
abbrev cut3 (M : Memref sig .tc .hbm S4x384x1024 .bf16) (o : Fin 3 → ℕ) (h : ∀ a, o a + S1x384x1024.size a ≤ S4x384x1024.size a) : Memref sig .tc .hbm S384x1024 .bf16 :=
  (M.slice (Rect.unit (s := S4x384x1024) o S1x384x1024.size h) (fun _ => rfl)).squeeze S384x1024 squeezes_S1x384x1024_S384x1024

/-- One semaphore of an array of them. -/
abbrev cell0 (A : DmaSems sig S4x4) (o : Fin 2 → ℕ) (h : ∀ a, o a + S1x1.size a ≤ S4x4.size a) :=
  ((A.slice (Rect.unit (s := S4x4) o S1x1.size h)).squeeze S_ squeezes_S1x1_S_).sem
abbrev cell1 (A : DmaSems sig S4) (o : Fin 1 → ℕ) (h : ∀ a, o a + S1.size a ≤ S4.size a) :=
  ((A.slice (Rect.unit (s := S4) o S1.size h)).squeeze S_ squeezes_S1_S_).sem

abbrev arg0 : Memref sig .tc .hbm S4x1024x256 .bf16 := Memref.whole main_arg0
theorem harg0 : arg0.IsWhole := Memref.isWhole_whole _
abbrev arg1 : Memref sig .tc .hbm S4x128x1024 .bf16 := Memref.whole main_arg1
theorem harg1 : arg1.IsWhole := Memref.isWhole_whole _
abbrev arg2 : Memref sig .tc .hbm S4x1024x768 .bf16 := Memref.whole main_arg2
theorem harg2 : arg2.IsWhole := Memref.isWhole_whole _
abbrev arg3 : Memref sig .tc .hbm S4x384x1024 .bf16 := Memref.whole main_arg3
theorem harg3 : arg3.IsWhole := Memref.isWhole_whole _
abbrev arg4 : Memref sig .tc .hbm S4x1024x256 .bf16 := Memref.whole main_v1_0
theorem harg4 : arg4.IsWhole := Memref.isWhole_whole _
abbrev arg5 : Memref sig .tc .hbm S4x128x1024 .bf16 := Memref.whole main_v1_1
theorem harg5 : arg5.IsWhole := Memref.isWhole_whole _
abbrev arg6 : Memref sig .tc .hbm S4x1024x768 .bf16 := Memref.whole main_v1_2
theorem harg6 : arg6.IsWhole := Memref.isWhole_whole _
abbrev arg7 : Memref sig .tc .hbm S4x384x1024 .bf16 := Memref.whole main_v1_3
theorem harg7 : arg7.IsWhole := Memref.isWhole_whole _
abbrev arg8 : DmaSems sig S4x4 := cc0_scratch0
abbrev arg9 : DmaSems sig S4x4 := cc0_scratch1
abbrev arg10 : DmaSems sig S4 := cc0_scratch2

/-- That the block is for another chip, as the kernel decides it. -/
def isSent (d0 : Dev nD) : Fin 4 → Fin 4 → Prop
  | 0 => fun
    | 0 => k0_cond1 d0 = 1#1
    | 1 => k0_cond3 d0 = 1#1
    | 2 => k0_cond5 d0 = 1#1
    | 3 => k0_cond7 d0 = 1#1
  | 1 => fun
    | 0 => k0_cond9 d0 = 1#1
    | 1 => k0_cond11 d0 = 1#1
    | 2 => k0_cond13 d0 = 1#1
    | 3 => k0_cond15 d0 = 1#1
  | 2 => fun
    | 0 => k0_cond17 d0 = 1#1
    | 1 => k0_cond19 d0 = 1#1
    | 2 => k0_cond21 d0 = 1#1
    | 3 => k0_cond23 d0 = 1#1
  | 3 => fun
    | 0 => k0_cond25 d0 = 1#1
    | 1 => k0_cond27 d0 = 1#1
    | 2 => k0_cond29 d0 = 1#1
    | 3 => k0_cond31 d0 = 1#1

instance (d0 : Dev nD) : (a q : Fin 4) → Decidable (isSent d0 a q)
  | 0 => fun
    | 0 => inferInstanceAs (Decidable (k0_cond1 d0 = 1#1))
    | 1 => inferInstanceAs (Decidable (k0_cond3 d0 = 1#1))
    | 2 => inferInstanceAs (Decidable (k0_cond5 d0 = 1#1))
    | 3 => inferInstanceAs (Decidable (k0_cond7 d0 = 1#1))
  | 1 => fun
    | 0 => inferInstanceAs (Decidable (k0_cond9 d0 = 1#1))
    | 1 => inferInstanceAs (Decidable (k0_cond11 d0 = 1#1))
    | 2 => inferInstanceAs (Decidable (k0_cond13 d0 = 1#1))
    | 3 => inferInstanceAs (Decidable (k0_cond15 d0 = 1#1))
  | 2 => fun
    | 0 => inferInstanceAs (Decidable (k0_cond17 d0 = 1#1))
    | 1 => inferInstanceAs (Decidable (k0_cond19 d0 = 1#1))
    | 2 => inferInstanceAs (Decidable (k0_cond21 d0 = 1#1))
    | 3 => inferInstanceAs (Decidable (k0_cond23 d0 = 1#1))
  | 3 => fun
    | 0 => inferInstanceAs (Decidable (k0_cond25 d0 = 1#1))
    | 1 => inferInstanceAs (Decidable (k0_cond27 d0 = 1#1))
    | 2 => inferInstanceAs (Decidable (k0_cond29 d0 = 1#1))
    | 3 => inferInstanceAs (Decidable (k0_cond31 d0 = 1#1))

theorem isSent_iff (d0 : Dev nD) : ∀ a q : Fin 4, isSent d0 a q ↔ q ≠ chip d0
  | 0 => fun
    | 0 => by show k0_cond1 d0 = 1#1 ↔ _; revert d0; decide +kernel
    | 1 => by show k0_cond3 d0 = 1#1 ↔ _; revert d0; decide +kernel
    | 2 => by show k0_cond5 d0 = 1#1 ↔ _; revert d0; decide +kernel
    | 3 => by show k0_cond7 d0 = 1#1 ↔ _; revert d0; decide +kernel
  | 1 => fun
    | 0 => by show k0_cond9 d0 = 1#1 ↔ _; revert d0; decide +kernel
    | 1 => by show k0_cond11 d0 = 1#1 ↔ _; revert d0; decide +kernel
    | 2 => by show k0_cond13 d0 = 1#1 ↔ _; revert d0; decide +kernel
    | 3 => by show k0_cond15 d0 = 1#1 ↔ _; revert d0; decide +kernel
  | 2 => fun
    | 0 => by show k0_cond17 d0 = 1#1 ↔ _; revert d0; decide +kernel
    | 1 => by show k0_cond19 d0 = 1#1 ↔ _; revert d0; decide +kernel
    | 2 => by show k0_cond21 d0 = 1#1 ↔ _; revert d0; decide +kernel
    | 3 => by show k0_cond23 d0 = 1#1 ↔ _; revert d0; decide +kernel
  | 3 => fun
    | 0 => by show k0_cond25 d0 = 1#1 ↔ _; revert d0; decide +kernel
    | 1 => by show k0_cond27 d0 = 1#1 ↔ _; revert d0; decide +kernel
    | 2 => by show k0_cond29 d0 = 1#1 ↔ _; revert d0; decide +kernel
    | 3 => by show k0_cond31 d0 = 1#1 ↔ _; revert d0; decide +kernel

/-- The block is sent. -/
def send (d0 : Dev nD) : (a q : Fin 4) → isSent d0 a q → Op F
  | 0 => fun
    | 0 => fun k0_h1 => Prog.lift (.enqueueDma (cut0 arg0 ![0, 0, 0] inb_S4x1024x256_S1x1024x256_0_0_0) (.remote (Dev.tc (⟨k0_dev1 d0, k0_dev1_lt d0 k0_h1⟩ : Dev nD)) (cut0 arg4 (k0_off2 d0) (k0_off2_inb d0 k0_h1)) (.dma (cell0 arg8 ![0, 0] inb_S4x4_S1x1_0_0))) (.dma (cell0 arg9 (k0_off1 d0) (k0_off1_inb d0 k0_h1))) ((harg0.wordExact_slice rfl _ wordsbf16_S4x1024x256_S1x1024x256_0_0_0).reshape _ _) ((harg4.wordExact_slice rfl _ (k0_off2_wordsbf16 d0 k0_h1)).reshape _ _) ⟨⟨rfl, Or.inl rfl⟩, trivial⟩)
    | 1 => fun k0_h3 => Prog.lift (.enqueueDma (cut0 arg0 ![1, 0, 0] inb_S4x1024x256_S1x1024x256_1_0_0) (.remote (Dev.tc (⟨k0_dev2 d0, k0_dev2_lt d0 k0_h3⟩ : Dev nD)) (cut0 arg4 (k0_off4 d0) (k0_off4_inb d0 k0_h3)) (.dma (cell0 arg8 ![0, 1] inb_S4x4_S1x1_0_1))) (.dma (cell0 arg9 (k0_off3 d0) (k0_off3_inb d0 k0_h3))) ((harg0.wordExact_slice rfl _ wordsbf16_S4x1024x256_S1x1024x256_1_0_0).reshape _ _) ((harg4.wordExact_slice rfl _ (k0_off4_wordsbf16 d0 k0_h3)).reshape _ _) ⟨⟨rfl, Or.inl rfl⟩, trivial⟩)
    | 2 => fun k0_h5 => Prog.lift (.enqueueDma (cut0 arg0 ![2, 0, 0] inb_S4x1024x256_S1x1024x256_2_0_0) (.remote (Dev.tc (⟨k0_dev3 d0, k0_dev3_lt d0 k0_h5⟩ : Dev nD)) (cut0 arg4 (k0_off6 d0) (k0_off6_inb d0 k0_h5)) (.dma (cell0 arg8 ![0, 2] inb_S4x4_S1x1_0_2))) (.dma (cell0 arg9 (k0_off5 d0) (k0_off5_inb d0 k0_h5))) ((harg0.wordExact_slice rfl _ wordsbf16_S4x1024x256_S1x1024x256_2_0_0).reshape _ _) ((harg4.wordExact_slice rfl _ (k0_off6_wordsbf16 d0 k0_h5)).reshape _ _) ⟨⟨rfl, Or.inl rfl⟩, trivial⟩)
    | 3 => fun k0_h7 => Prog.lift (.enqueueDma (cut0 arg0 ![3, 0, 0] inb_S4x1024x256_S1x1024x256_3_0_0) (.remote (Dev.tc (⟨k0_dev4 d0, k0_dev4_lt d0 k0_h7⟩ : Dev nD)) (cut0 arg4 (k0_off8 d0) (k0_off8_inb d0 k0_h7)) (.dma (cell0 arg8 ![0, 3] inb_S4x4_S1x1_0_3))) (.dma (cell0 arg9 (k0_off7 d0) (k0_off7_inb d0 k0_h7))) ((harg0.wordExact_slice rfl _ wordsbf16_S4x1024x256_S1x1024x256_3_0_0).reshape _ _) ((harg4.wordExact_slice rfl _ (k0_off8_wordsbf16 d0 k0_h7)).reshape _ _) ⟨⟨rfl, Or.inl rfl⟩, trivial⟩)
  | 1 => fun
    | 0 => fun k0_h9 => Prog.lift (.enqueueDma (cut1 arg1 ![0, 0, 0] inb_S4x128x1024_S1x128x1024_0_0_0) (.remote (Dev.tc (⟨k0_dev5 d0, k0_dev5_lt d0 k0_h9⟩ : Dev nD)) (cut1 arg5 (k0_off10 d0) (k0_off10_inb d0 k0_h9)) (.dma (cell0 arg8 ![1, 0] inb_S4x4_S1x1_1_0))) (.dma (cell0 arg9 (k0_off9 d0) (k0_off9_inb d0 k0_h9))) ((harg1.wordExact_slice rfl _ wordsbf16_S4x128x1024_S1x128x1024_0_0_0).reshape _ _) ((harg5.wordExact_slice rfl _ (k0_off10_wordsbf16 d0 k0_h9)).reshape _ _) ⟨⟨rfl, Or.inl rfl⟩, trivial⟩)
    | 1 => fun k0_h11 => Prog.lift (.enqueueDma (cut1 arg1 ![1, 0, 0] inb_S4x128x1024_S1x128x1024_1_0_0) (.remote (Dev.tc (⟨k0_dev6 d0, k0_dev6_lt d0 k0_h11⟩ : Dev nD)) (cut1 arg5 (k0_off12 d0) (k0_off12_inb d0 k0_h11)) (.dma (cell0 arg8 ![1, 1] inb_S4x4_S1x1_1_1))) (.dma (cell0 arg9 (k0_off11 d0) (k0_off11_inb d0 k0_h11))) ((harg1.wordExact_slice rfl _ wordsbf16_S4x128x1024_S1x128x1024_1_0_0).reshape _ _) ((harg5.wordExact_slice rfl _ (k0_off12_wordsbf16 d0 k0_h11)).reshape _ _) ⟨⟨rfl, Or.inl rfl⟩, trivial⟩)
    | 2 => fun k0_h13 => Prog.lift (.enqueueDma (cut1 arg1 ![2, 0, 0] inb_S4x128x1024_S1x128x1024_2_0_0) (.remote (Dev.tc (⟨k0_dev7 d0, k0_dev7_lt d0 k0_h13⟩ : Dev nD)) (cut1 arg5 (k0_off14 d0) (k0_off14_inb d0 k0_h13)) (.dma (cell0 arg8 ![1, 2] inb_S4x4_S1x1_1_2))) (.dma (cell0 arg9 (k0_off13 d0) (k0_off13_inb d0 k0_h13))) ((harg1.wordExact_slice rfl _ wordsbf16_S4x128x1024_S1x128x1024_2_0_0).reshape _ _) ((harg5.wordExact_slice rfl _ (k0_off14_wordsbf16 d0 k0_h13)).reshape _ _) ⟨⟨rfl, Or.inl rfl⟩, trivial⟩)
    | 3 => fun k0_h15 => Prog.lift (.enqueueDma (cut1 arg1 ![3, 0, 0] inb_S4x128x1024_S1x128x1024_3_0_0) (.remote (Dev.tc (⟨k0_dev8 d0, k0_dev8_lt d0 k0_h15⟩ : Dev nD)) (cut1 arg5 (k0_off16 d0) (k0_off16_inb d0 k0_h15)) (.dma (cell0 arg8 ![1, 3] inb_S4x4_S1x1_1_3))) (.dma (cell0 arg9 (k0_off15 d0) (k0_off15_inb d0 k0_h15))) ((harg1.wordExact_slice rfl _ wordsbf16_S4x128x1024_S1x128x1024_3_0_0).reshape _ _) ((harg5.wordExact_slice rfl _ (k0_off16_wordsbf16 d0 k0_h15)).reshape _ _) ⟨⟨rfl, Or.inl rfl⟩, trivial⟩)
  | 2 => fun
    | 0 => fun k0_h17 => Prog.lift (.enqueueDma (cut2 arg2 ![0, 0, 0] inb_S4x1024x768_S1x1024x768_0_0_0) (.remote (Dev.tc (⟨k0_dev9 d0, k0_dev9_lt d0 k0_h17⟩ : Dev nD)) (cut2 arg6 (k0_off18 d0) (k0_off18_inb d0 k0_h17)) (.dma (cell0 arg8 ![2, 0] inb_S4x4_S1x1_2_0))) (.dma (cell0 arg9 (k0_off17 d0) (k0_off17_inb d0 k0_h17))) ((harg2.wordExact_slice rfl _ wordsbf16_S4x1024x768_S1x1024x768_0_0_0).reshape _ _) ((harg6.wordExact_slice rfl _ (k0_off18_wordsbf16 d0 k0_h17)).reshape _ _) ⟨⟨rfl, Or.inl rfl⟩, trivial⟩)
    | 1 => fun k0_h19 => Prog.lift (.enqueueDma (cut2 arg2 ![1, 0, 0] inb_S4x1024x768_S1x1024x768_1_0_0) (.remote (Dev.tc (⟨k0_dev10 d0, k0_dev10_lt d0 k0_h19⟩ : Dev nD)) (cut2 arg6 (k0_off20 d0) (k0_off20_inb d0 k0_h19)) (.dma (cell0 arg8 ![2, 1] inb_S4x4_S1x1_2_1))) (.dma (cell0 arg9 (k0_off19 d0) (k0_off19_inb d0 k0_h19))) ((harg2.wordExact_slice rfl _ wordsbf16_S4x1024x768_S1x1024x768_1_0_0).reshape _ _) ((harg6.wordExact_slice rfl _ (k0_off20_wordsbf16 d0 k0_h19)).reshape _ _) ⟨⟨rfl, Or.inl rfl⟩, trivial⟩)
    | 2 => fun k0_h21 => Prog.lift (.enqueueDma (cut2 arg2 ![2, 0, 0] inb_S4x1024x768_S1x1024x768_2_0_0) (.remote (Dev.tc (⟨k0_dev11 d0, k0_dev11_lt d0 k0_h21⟩ : Dev nD)) (cut2 arg6 (k0_off22 d0) (k0_off22_inb d0 k0_h21)) (.dma (cell0 arg8 ![2, 2] inb_S4x4_S1x1_2_2))) (.dma (cell0 arg9 (k0_off21 d0) (k0_off21_inb d0 k0_h21))) ((harg2.wordExact_slice rfl _ wordsbf16_S4x1024x768_S1x1024x768_2_0_0).reshape _ _) ((harg6.wordExact_slice rfl _ (k0_off22_wordsbf16 d0 k0_h21)).reshape _ _) ⟨⟨rfl, Or.inl rfl⟩, trivial⟩)
    | 3 => fun k0_h23 => Prog.lift (.enqueueDma (cut2 arg2 ![3, 0, 0] inb_S4x1024x768_S1x1024x768_3_0_0) (.remote (Dev.tc (⟨k0_dev12 d0, k0_dev12_lt d0 k0_h23⟩ : Dev nD)) (cut2 arg6 (k0_off24 d0) (k0_off24_inb d0 k0_h23)) (.dma (cell0 arg8 ![2, 3] inb_S4x4_S1x1_2_3))) (.dma (cell0 arg9 (k0_off23 d0) (k0_off23_inb d0 k0_h23))) ((harg2.wordExact_slice rfl _ wordsbf16_S4x1024x768_S1x1024x768_3_0_0).reshape _ _) ((harg6.wordExact_slice rfl _ (k0_off24_wordsbf16 d0 k0_h23)).reshape _ _) ⟨⟨rfl, Or.inl rfl⟩, trivial⟩)
  | 3 => fun
    | 0 => fun k0_h25 => Prog.lift (.enqueueDma (cut3 arg3 ![0, 0, 0] inb_S4x384x1024_S1x384x1024_0_0_0) (.remote (Dev.tc (⟨k0_dev13 d0, k0_dev13_lt d0 k0_h25⟩ : Dev nD)) (cut3 arg7 (k0_off26 d0) (k0_off26_inb d0 k0_h25)) (.dma (cell0 arg8 ![3, 0] inb_S4x4_S1x1_3_0))) (.dma (cell0 arg9 (k0_off25 d0) (k0_off25_inb d0 k0_h25))) ((harg3.wordExact_slice rfl _ wordsbf16_S4x384x1024_S1x384x1024_0_0_0).reshape _ _) ((harg7.wordExact_slice rfl _ (k0_off26_wordsbf16 d0 k0_h25)).reshape _ _) ⟨⟨rfl, Or.inl rfl⟩, trivial⟩)
    | 1 => fun k0_h27 => Prog.lift (.enqueueDma (cut3 arg3 ![1, 0, 0] inb_S4x384x1024_S1x384x1024_1_0_0) (.remote (Dev.tc (⟨k0_dev14 d0, k0_dev14_lt d0 k0_h27⟩ : Dev nD)) (cut3 arg7 (k0_off28 d0) (k0_off28_inb d0 k0_h27)) (.dma (cell0 arg8 ![3, 1] inb_S4x4_S1x1_3_1))) (.dma (cell0 arg9 (k0_off27 d0) (k0_off27_inb d0 k0_h27))) ((harg3.wordExact_slice rfl _ wordsbf16_S4x384x1024_S1x384x1024_1_0_0).reshape _ _) ((harg7.wordExact_slice rfl _ (k0_off28_wordsbf16 d0 k0_h27)).reshape _ _) ⟨⟨rfl, Or.inl rfl⟩, trivial⟩)
    | 2 => fun k0_h29 => Prog.lift (.enqueueDma (cut3 arg3 ![2, 0, 0] inb_S4x384x1024_S1x384x1024_2_0_0) (.remote (Dev.tc (⟨k0_dev15 d0, k0_dev15_lt d0 k0_h29⟩ : Dev nD)) (cut3 arg7 (k0_off30 d0) (k0_off30_inb d0 k0_h29)) (.dma (cell0 arg8 ![3, 2] inb_S4x4_S1x1_3_2))) (.dma (cell0 arg9 (k0_off29 d0) (k0_off29_inb d0 k0_h29))) ((harg3.wordExact_slice rfl _ wordsbf16_S4x384x1024_S1x384x1024_2_0_0).reshape _ _) ((harg7.wordExact_slice rfl _ (k0_off30_wordsbf16 d0 k0_h29)).reshape _ _) ⟨⟨rfl, Or.inl rfl⟩, trivial⟩)
    | 3 => fun k0_h31 => Prog.lift (.enqueueDma (cut3 arg3 ![3, 0, 0] inb_S4x384x1024_S1x384x1024_3_0_0) (.remote (Dev.tc (⟨k0_dev16 d0, k0_dev16_lt d0 k0_h31⟩ : Dev nD)) (cut3 arg7 (k0_off32 d0) (k0_off32_inb d0 k0_h31)) (.dma (cell0 arg8 ![3, 3] inb_S4x4_S1x1_3_3))) (.dma (cell0 arg9 (k0_off31 d0) (k0_off31_inb d0 k0_h31))) ((harg3.wordExact_slice rfl _ wordsbf16_S4x384x1024_S1x384x1024_3_0_0).reshape _ _) ((harg7.wordExact_slice rfl _ (k0_off32_wordsbf16 d0 k0_h31)).reshape _ _) ⟨⟨rfl, Or.inl rfl⟩, trivial⟩)

/-- The copy of the block at home is started. -/
def home (d0 : Dev nD) : Fin 4 → Fin 4 → Op F
  | 0 => fun
    | 0 => Prog.lift (.enqueueDma (cut0 arg0 ![0, 0, 0] inb_S4x1024x256_S1x1024x256_0_0_0) (.here (cut0 arg4 ![0, 0, 0] inb_S4x1024x256_S1x1024x256_0_0_0)) (.dma (cell1 arg10 ![0] inb_S4_S1_0)) ((harg0.wordExact_slice rfl _ wordsbf16_S4x1024x256_S1x1024x256_0_0_0).reshape _ _) ((harg4.wordExact_slice rfl _ wordsbf16_S4x1024x256_S1x1024x256_0_0_0).reshape _ _) ⟨Or.inl rfl, trivial⟩)
    | 1 => Prog.lift (.enqueueDma (cut0 arg0 ![1, 0, 0] inb_S4x1024x256_S1x1024x256_1_0_0) (.here (cut0 arg4 ![1, 0, 0] inb_S4x1024x256_S1x1024x256_1_0_0)) (.dma (cell1 arg10 ![0] inb_S4_S1_0)) ((harg0.wordExact_slice rfl _ wordsbf16_S4x1024x256_S1x1024x256_1_0_0).reshape _ _) ((harg4.wordExact_slice rfl _ wordsbf16_S4x1024x256_S1x1024x256_1_0_0).reshape _ _) ⟨Or.inl rfl, trivial⟩)
    | 2 => Prog.lift (.enqueueDma (cut0 arg0 ![2, 0, 0] inb_S4x1024x256_S1x1024x256_2_0_0) (.here (cut0 arg4 ![2, 0, 0] inb_S4x1024x256_S1x1024x256_2_0_0)) (.dma (cell1 arg10 ![0] inb_S4_S1_0)) ((harg0.wordExact_slice rfl _ wordsbf16_S4x1024x256_S1x1024x256_2_0_0).reshape _ _) ((harg4.wordExact_slice rfl _ wordsbf16_S4x1024x256_S1x1024x256_2_0_0).reshape _ _) ⟨Or.inl rfl, trivial⟩)
    | 3 => Prog.lift (.enqueueDma (cut0 arg0 ![3, 0, 0] inb_S4x1024x256_S1x1024x256_3_0_0) (.here (cut0 arg4 ![3, 0, 0] inb_S4x1024x256_S1x1024x256_3_0_0)) (.dma (cell1 arg10 ![0] inb_S4_S1_0)) ((harg0.wordExact_slice rfl _ wordsbf16_S4x1024x256_S1x1024x256_3_0_0).reshape _ _) ((harg4.wordExact_slice rfl _ wordsbf16_S4x1024x256_S1x1024x256_3_0_0).reshape _ _) ⟨Or.inl rfl, trivial⟩)
  | 1 => fun
    | 0 => Prog.lift (.enqueueDma (cut1 arg1 ![0, 0, 0] inb_S4x128x1024_S1x128x1024_0_0_0) (.here (cut1 arg5 ![0, 0, 0] inb_S4x128x1024_S1x128x1024_0_0_0)) (.dma (cell1 arg10 ![1] inb_S4_S1_1)) ((harg1.wordExact_slice rfl _ wordsbf16_S4x128x1024_S1x128x1024_0_0_0).reshape _ _) ((harg5.wordExact_slice rfl _ wordsbf16_S4x128x1024_S1x128x1024_0_0_0).reshape _ _) ⟨Or.inl rfl, trivial⟩)
    | 1 => Prog.lift (.enqueueDma (cut1 arg1 ![1, 0, 0] inb_S4x128x1024_S1x128x1024_1_0_0) (.here (cut1 arg5 ![1, 0, 0] inb_S4x128x1024_S1x128x1024_1_0_0)) (.dma (cell1 arg10 ![1] inb_S4_S1_1)) ((harg1.wordExact_slice rfl _ wordsbf16_S4x128x1024_S1x128x1024_1_0_0).reshape _ _) ((harg5.wordExact_slice rfl _ wordsbf16_S4x128x1024_S1x128x1024_1_0_0).reshape _ _) ⟨Or.inl rfl, trivial⟩)
    | 2 => Prog.lift (.enqueueDma (cut1 arg1 ![2, 0, 0] inb_S4x128x1024_S1x128x1024_2_0_0) (.here (cut1 arg5 ![2, 0, 0] inb_S4x128x1024_S1x128x1024_2_0_0)) (.dma (cell1 arg10 ![1] inb_S4_S1_1)) ((harg1.wordExact_slice rfl _ wordsbf16_S4x128x1024_S1x128x1024_2_0_0).reshape _ _) ((harg5.wordExact_slice rfl _ wordsbf16_S4x128x1024_S1x128x1024_2_0_0).reshape _ _) ⟨Or.inl rfl, trivial⟩)
    | 3 => Prog.lift (.enqueueDma (cut1 arg1 ![3, 0, 0] inb_S4x128x1024_S1x128x1024_3_0_0) (.here (cut1 arg5 ![3, 0, 0] inb_S4x128x1024_S1x128x1024_3_0_0)) (.dma (cell1 arg10 ![1] inb_S4_S1_1)) ((harg1.wordExact_slice rfl _ wordsbf16_S4x128x1024_S1x128x1024_3_0_0).reshape _ _) ((harg5.wordExact_slice rfl _ wordsbf16_S4x128x1024_S1x128x1024_3_0_0).reshape _ _) ⟨Or.inl rfl, trivial⟩)
  | 2 => fun
    | 0 => Prog.lift (.enqueueDma (cut2 arg2 ![0, 0, 0] inb_S4x1024x768_S1x1024x768_0_0_0) (.here (cut2 arg6 ![0, 0, 0] inb_S4x1024x768_S1x1024x768_0_0_0)) (.dma (cell1 arg10 ![2] inb_S4_S1_2)) ((harg2.wordExact_slice rfl _ wordsbf16_S4x1024x768_S1x1024x768_0_0_0).reshape _ _) ((harg6.wordExact_slice rfl _ wordsbf16_S4x1024x768_S1x1024x768_0_0_0).reshape _ _) ⟨Or.inl rfl, trivial⟩)
    | 1 => Prog.lift (.enqueueDma (cut2 arg2 ![1, 0, 0] inb_S4x1024x768_S1x1024x768_1_0_0) (.here (cut2 arg6 ![1, 0, 0] inb_S4x1024x768_S1x1024x768_1_0_0)) (.dma (cell1 arg10 ![2] inb_S4_S1_2)) ((harg2.wordExact_slice rfl _ wordsbf16_S4x1024x768_S1x1024x768_1_0_0).reshape _ _) ((harg6.wordExact_slice rfl _ wordsbf16_S4x1024x768_S1x1024x768_1_0_0).reshape _ _) ⟨Or.inl rfl, trivial⟩)
    | 2 => Prog.lift (.enqueueDma (cut2 arg2 ![2, 0, 0] inb_S4x1024x768_S1x1024x768_2_0_0) (.here (cut2 arg6 ![2, 0, 0] inb_S4x1024x768_S1x1024x768_2_0_0)) (.dma (cell1 arg10 ![2] inb_S4_S1_2)) ((harg2.wordExact_slice rfl _ wordsbf16_S4x1024x768_S1x1024x768_2_0_0).reshape _ _) ((harg6.wordExact_slice rfl _ wordsbf16_S4x1024x768_S1x1024x768_2_0_0).reshape _ _) ⟨Or.inl rfl, trivial⟩)
    | 3 => Prog.lift (.enqueueDma (cut2 arg2 ![3, 0, 0] inb_S4x1024x768_S1x1024x768_3_0_0) (.here (cut2 arg6 ![3, 0, 0] inb_S4x1024x768_S1x1024x768_3_0_0)) (.dma (cell1 arg10 ![2] inb_S4_S1_2)) ((harg2.wordExact_slice rfl _ wordsbf16_S4x1024x768_S1x1024x768_3_0_0).reshape _ _) ((harg6.wordExact_slice rfl _ wordsbf16_S4x1024x768_S1x1024x768_3_0_0).reshape _ _) ⟨Or.inl rfl, trivial⟩)
  | 3 => fun
    | 0 => Prog.lift (.enqueueDma (cut3 arg3 ![0, 0, 0] inb_S4x384x1024_S1x384x1024_0_0_0) (.here (cut3 arg7 ![0, 0, 0] inb_S4x384x1024_S1x384x1024_0_0_0)) (.dma (cell1 arg10 ![3] inb_S4_S1_3)) ((harg3.wordExact_slice rfl _ wordsbf16_S4x384x1024_S1x384x1024_0_0_0).reshape _ _) ((harg7.wordExact_slice rfl _ wordsbf16_S4x384x1024_S1x384x1024_0_0_0).reshape _ _) ⟨Or.inl rfl, trivial⟩)
    | 1 => Prog.lift (.enqueueDma (cut3 arg3 ![1, 0, 0] inb_S4x384x1024_S1x384x1024_1_0_0) (.here (cut3 arg7 ![1, 0, 0] inb_S4x384x1024_S1x384x1024_1_0_0)) (.dma (cell1 arg10 ![3] inb_S4_S1_3)) ((harg3.wordExact_slice rfl _ wordsbf16_S4x384x1024_S1x384x1024_1_0_0).reshape _ _) ((harg7.wordExact_slice rfl _ wordsbf16_S4x384x1024_S1x384x1024_1_0_0).reshape _ _) ⟨Or.inl rfl, trivial⟩)
    | 2 => Prog.lift (.enqueueDma (cut3 arg3 ![2, 0, 0] inb_S4x384x1024_S1x384x1024_2_0_0) (.here (cut3 arg7 ![2, 0, 0] inb_S4x384x1024_S1x384x1024_2_0_0)) (.dma (cell1 arg10 ![3] inb_S4_S1_3)) ((harg3.wordExact_slice rfl _ wordsbf16_S4x384x1024_S1x384x1024_2_0_0).reshape _ _) ((harg7.wordExact_slice rfl _ wordsbf16_S4x384x1024_S1x384x1024_2_0_0).reshape _ _) ⟨Or.inl rfl, trivial⟩)
    | 3 => Prog.lift (.enqueueDma (cut3 arg3 ![3, 0, 0] inb_S4x384x1024_S1x384x1024_3_0_0) (.here (cut3 arg7 ![3, 0, 0] inb_S4x384x1024_S1x384x1024_3_0_0)) (.dma (cell1 arg10 ![3] inb_S4_S1_3)) ((harg3.wordExact_slice rfl _ wordsbf16_S4x384x1024_S1x384x1024_3_0_0).reshape _ _) ((harg7.wordExact_slice rfl _ wordsbf16_S4x384x1024_S1x384x1024_3_0_0).reshape _ _) ⟨Or.inl rfl, trivial⟩)

/-- It is waited for. -/
def waitHome (d0 : Dev nD) : Fin 4 → Fin 4 → Op F
  | 0 => fun
    | 0 => Prog.lift (.waitDma2 (cell1 arg10 ![0] inb_S4_S1_0) (cut0 arg0 ![0, 0, 0] inb_S4x1024x256_S1x1024x256_0_0_0) (cut0 arg4 ![0, 0, 0] inb_S4x1024x256_S1x1024x256_0_0_0) ((harg0.wordExact_slice rfl _ wordsbf16_S4x1024x256_S1x1024x256_0_0_0).reshape _ _) ((harg4.wordExact_slice rfl _ wordsbf16_S4x1024x256_S1x1024x256_0_0_0).reshape _ _))
    | 1 => Prog.lift (.waitDma2 (cell1 arg10 ![0] inb_S4_S1_0) (cut0 arg0 ![1, 0, 0] inb_S4x1024x256_S1x1024x256_1_0_0) (cut0 arg4 ![1, 0, 0] inb_S4x1024x256_S1x1024x256_1_0_0) ((harg0.wordExact_slice rfl _ wordsbf16_S4x1024x256_S1x1024x256_1_0_0).reshape _ _) ((harg4.wordExact_slice rfl _ wordsbf16_S4x1024x256_S1x1024x256_1_0_0).reshape _ _))
    | 2 => Prog.lift (.waitDma2 (cell1 arg10 ![0] inb_S4_S1_0) (cut0 arg0 ![2, 0, 0] inb_S4x1024x256_S1x1024x256_2_0_0) (cut0 arg4 ![2, 0, 0] inb_S4x1024x256_S1x1024x256_2_0_0) ((harg0.wordExact_slice rfl _ wordsbf16_S4x1024x256_S1x1024x256_2_0_0).reshape _ _) ((harg4.wordExact_slice rfl _ wordsbf16_S4x1024x256_S1x1024x256_2_0_0).reshape _ _))
    | 3 => Prog.lift (.waitDma2 (cell1 arg10 ![0] inb_S4_S1_0) (cut0 arg0 ![3, 0, 0] inb_S4x1024x256_S1x1024x256_3_0_0) (cut0 arg4 ![3, 0, 0] inb_S4x1024x256_S1x1024x256_3_0_0) ((harg0.wordExact_slice rfl _ wordsbf16_S4x1024x256_S1x1024x256_3_0_0).reshape _ _) ((harg4.wordExact_slice rfl _ wordsbf16_S4x1024x256_S1x1024x256_3_0_0).reshape _ _))
  | 1 => fun
    | 0 => Prog.lift (.waitDma2 (cell1 arg10 ![1] inb_S4_S1_1) (cut1 arg1 ![0, 0, 0] inb_S4x128x1024_S1x128x1024_0_0_0) (cut1 arg5 ![0, 0, 0] inb_S4x128x1024_S1x128x1024_0_0_0) ((harg1.wordExact_slice rfl _ wordsbf16_S4x128x1024_S1x128x1024_0_0_0).reshape _ _) ((harg5.wordExact_slice rfl _ wordsbf16_S4x128x1024_S1x128x1024_0_0_0).reshape _ _))
    | 1 => Prog.lift (.waitDma2 (cell1 arg10 ![1] inb_S4_S1_1) (cut1 arg1 ![1, 0, 0] inb_S4x128x1024_S1x128x1024_1_0_0) (cut1 arg5 ![1, 0, 0] inb_S4x128x1024_S1x128x1024_1_0_0) ((harg1.wordExact_slice rfl _ wordsbf16_S4x128x1024_S1x128x1024_1_0_0).reshape _ _) ((harg5.wordExact_slice rfl _ wordsbf16_S4x128x1024_S1x128x1024_1_0_0).reshape _ _))
    | 2 => Prog.lift (.waitDma2 (cell1 arg10 ![1] inb_S4_S1_1) (cut1 arg1 ![2, 0, 0] inb_S4x128x1024_S1x128x1024_2_0_0) (cut1 arg5 ![2, 0, 0] inb_S4x128x1024_S1x128x1024_2_0_0) ((harg1.wordExact_slice rfl _ wordsbf16_S4x128x1024_S1x128x1024_2_0_0).reshape _ _) ((harg5.wordExact_slice rfl _ wordsbf16_S4x128x1024_S1x128x1024_2_0_0).reshape _ _))
    | 3 => Prog.lift (.waitDma2 (cell1 arg10 ![1] inb_S4_S1_1) (cut1 arg1 ![3, 0, 0] inb_S4x128x1024_S1x128x1024_3_0_0) (cut1 arg5 ![3, 0, 0] inb_S4x128x1024_S1x128x1024_3_0_0) ((harg1.wordExact_slice rfl _ wordsbf16_S4x128x1024_S1x128x1024_3_0_0).reshape _ _) ((harg5.wordExact_slice rfl _ wordsbf16_S4x128x1024_S1x128x1024_3_0_0).reshape _ _))
  | 2 => fun
    | 0 => Prog.lift (.waitDma2 (cell1 arg10 ![2] inb_S4_S1_2) (cut2 arg2 ![0, 0, 0] inb_S4x1024x768_S1x1024x768_0_0_0) (cut2 arg6 ![0, 0, 0] inb_S4x1024x768_S1x1024x768_0_0_0) ((harg2.wordExact_slice rfl _ wordsbf16_S4x1024x768_S1x1024x768_0_0_0).reshape _ _) ((harg6.wordExact_slice rfl _ wordsbf16_S4x1024x768_S1x1024x768_0_0_0).reshape _ _))
    | 1 => Prog.lift (.waitDma2 (cell1 arg10 ![2] inb_S4_S1_2) (cut2 arg2 ![1, 0, 0] inb_S4x1024x768_S1x1024x768_1_0_0) (cut2 arg6 ![1, 0, 0] inb_S4x1024x768_S1x1024x768_1_0_0) ((harg2.wordExact_slice rfl _ wordsbf16_S4x1024x768_S1x1024x768_1_0_0).reshape _ _) ((harg6.wordExact_slice rfl _ wordsbf16_S4x1024x768_S1x1024x768_1_0_0).reshape _ _))
    | 2 => Prog.lift (.waitDma2 (cell1 arg10 ![2] inb_S4_S1_2) (cut2 arg2 ![2, 0, 0] inb_S4x1024x768_S1x1024x768_2_0_0) (cut2 arg6 ![2, 0, 0] inb_S4x1024x768_S1x1024x768_2_0_0) ((harg2.wordExact_slice rfl _ wordsbf16_S4x1024x768_S1x1024x768_2_0_0).reshape _ _) ((harg6.wordExact_slice rfl _ wordsbf16_S4x1024x768_S1x1024x768_2_0_0).reshape _ _))
    | 3 => Prog.lift (.waitDma2 (cell1 arg10 ![2] inb_S4_S1_2) (cut2 arg2 ![3, 0, 0] inb_S4x1024x768_S1x1024x768_3_0_0) (cut2 arg6 ![3, 0, 0] inb_S4x1024x768_S1x1024x768_3_0_0) ((harg2.wordExact_slice rfl _ wordsbf16_S4x1024x768_S1x1024x768_3_0_0).reshape _ _) ((harg6.wordExact_slice rfl _ wordsbf16_S4x1024x768_S1x1024x768_3_0_0).reshape _ _))
  | 3 => fun
    | 0 => Prog.lift (.waitDma2 (cell1 arg10 ![3] inb_S4_S1_3) (cut3 arg3 ![0, 0, 0] inb_S4x384x1024_S1x384x1024_0_0_0) (cut3 arg7 ![0, 0, 0] inb_S4x384x1024_S1x384x1024_0_0_0) ((harg3.wordExact_slice rfl _ wordsbf16_S4x384x1024_S1x384x1024_0_0_0).reshape _ _) ((harg7.wordExact_slice rfl _ wordsbf16_S4x384x1024_S1x384x1024_0_0_0).reshape _ _))
    | 1 => Prog.lift (.waitDma2 (cell1 arg10 ![3] inb_S4_S1_3) (cut3 arg3 ![1, 0, 0] inb_S4x384x1024_S1x384x1024_1_0_0) (cut3 arg7 ![1, 0, 0] inb_S4x384x1024_S1x384x1024_1_0_0) ((harg3.wordExact_slice rfl _ wordsbf16_S4x384x1024_S1x384x1024_1_0_0).reshape _ _) ((harg7.wordExact_slice rfl _ wordsbf16_S4x384x1024_S1x384x1024_1_0_0).reshape _ _))
    | 2 => Prog.lift (.waitDma2 (cell1 arg10 ![3] inb_S4_S1_3) (cut3 arg3 ![2, 0, 0] inb_S4x384x1024_S1x384x1024_2_0_0) (cut3 arg7 ![2, 0, 0] inb_S4x384x1024_S1x384x1024_2_0_0) ((harg3.wordExact_slice rfl _ wordsbf16_S4x384x1024_S1x384x1024_2_0_0).reshape _ _) ((harg7.wordExact_slice rfl _ wordsbf16_S4x384x1024_S1x384x1024_2_0_0).reshape _ _))
    | 3 => Prog.lift (.waitDma2 (cell1 arg10 ![3] inb_S4_S1_3) (cut3 arg3 ![3, 0, 0] inb_S4x384x1024_S1x384x1024_3_0_0) (cut3 arg7 ![3, 0, 0] inb_S4x384x1024_S1x384x1024_3_0_0) ((harg3.wordExact_slice rfl _ wordsbf16_S4x384x1024_S1x384x1024_3_0_0).reshape _ _) ((harg7.wordExact_slice rfl _ wordsbf16_S4x384x1024_S1x384x1024_3_0_0).reshape _ _))

/-- A send is waited for. -/
def waitSent (d0 : Dev nD) : Fin 4 → Fin 4 → Op F
  | 0 => fun
    | 0 => Prog.lift (.waitDma2 (cell0 arg8 ![0, 0] inb_S4x4_S1x1_0_0) (cut0 arg4 ![0, 0, 0] inb_S4x1024x256_S1x1024x256_0_0_0) (cut0 arg0 ![0, 0, 0] inb_S4x1024x256_S1x1024x256_0_0_0) ((harg4.wordExact_slice rfl _ wordsbf16_S4x1024x256_S1x1024x256_0_0_0).reshape _ _) ((harg0.wordExact_slice rfl _ wordsbf16_S4x1024x256_S1x1024x256_0_0_0).reshape _ _))
    | 1 => Prog.lift (.waitDma2 (cell0 arg8 ![0, 1] inb_S4x4_S1x1_0_1) (cut0 arg4 ![1, 0, 0] inb_S4x1024x256_S1x1024x256_1_0_0) (cut0 arg0 ![1, 0, 0] inb_S4x1024x256_S1x1024x256_1_0_0) ((harg4.wordExact_slice rfl _ wordsbf16_S4x1024x256_S1x1024x256_1_0_0).reshape _ _) ((harg0.wordExact_slice rfl _ wordsbf16_S4x1024x256_S1x1024x256_1_0_0).reshape _ _))
    | 2 => Prog.lift (.waitDma2 (cell0 arg8 ![0, 2] inb_S4x4_S1x1_0_2) (cut0 arg4 ![2, 0, 0] inb_S4x1024x256_S1x1024x256_2_0_0) (cut0 arg0 ![2, 0, 0] inb_S4x1024x256_S1x1024x256_2_0_0) ((harg4.wordExact_slice rfl _ wordsbf16_S4x1024x256_S1x1024x256_2_0_0).reshape _ _) ((harg0.wordExact_slice rfl _ wordsbf16_S4x1024x256_S1x1024x256_2_0_0).reshape _ _))
    | 3 => Prog.lift (.waitDma2 (cell0 arg8 ![0, 3] inb_S4x4_S1x1_0_3) (cut0 arg4 ![3, 0, 0] inb_S4x1024x256_S1x1024x256_3_0_0) (cut0 arg0 ![3, 0, 0] inb_S4x1024x256_S1x1024x256_3_0_0) ((harg4.wordExact_slice rfl _ wordsbf16_S4x1024x256_S1x1024x256_3_0_0).reshape _ _) ((harg0.wordExact_slice rfl _ wordsbf16_S4x1024x256_S1x1024x256_3_0_0).reshape _ _))
  | 1 => fun
    | 0 => Prog.lift (.waitDma2 (cell0 arg8 ![1, 0] inb_S4x4_S1x1_1_0) (cut1 arg5 ![0, 0, 0] inb_S4x128x1024_S1x128x1024_0_0_0) (cut1 arg1 ![0, 0, 0] inb_S4x128x1024_S1x128x1024_0_0_0) ((harg5.wordExact_slice rfl _ wordsbf16_S4x128x1024_S1x128x1024_0_0_0).reshape _ _) ((harg1.wordExact_slice rfl _ wordsbf16_S4x128x1024_S1x128x1024_0_0_0).reshape _ _))
    | 1 => Prog.lift (.waitDma2 (cell0 arg8 ![1, 1] inb_S4x4_S1x1_1_1) (cut1 arg5 ![1, 0, 0] inb_S4x128x1024_S1x128x1024_1_0_0) (cut1 arg1 ![1, 0, 0] inb_S4x128x1024_S1x128x1024_1_0_0) ((harg5.wordExact_slice rfl _ wordsbf16_S4x128x1024_S1x128x1024_1_0_0).reshape _ _) ((harg1.wordExact_slice rfl _ wordsbf16_S4x128x1024_S1x128x1024_1_0_0).reshape _ _))
    | 2 => Prog.lift (.waitDma2 (cell0 arg8 ![1, 2] inb_S4x4_S1x1_1_2) (cut1 arg5 ![2, 0, 0] inb_S4x128x1024_S1x128x1024_2_0_0) (cut1 arg1 ![2, 0, 0] inb_S4x128x1024_S1x128x1024_2_0_0) ((harg5.wordExact_slice rfl _ wordsbf16_S4x128x1024_S1x128x1024_2_0_0).reshape _ _) ((harg1.wordExact_slice rfl _ wordsbf16_S4x128x1024_S1x128x1024_2_0_0).reshape _ _))
    | 3 => Prog.lift (.waitDma2 (cell0 arg8 ![1, 3] inb_S4x4_S1x1_1_3) (cut1 arg5 ![3, 0, 0] inb_S4x128x1024_S1x128x1024_3_0_0) (cut1 arg1 ![3, 0, 0] inb_S4x128x1024_S1x128x1024_3_0_0) ((harg5.wordExact_slice rfl _ wordsbf16_S4x128x1024_S1x128x1024_3_0_0).reshape _ _) ((harg1.wordExact_slice rfl _ wordsbf16_S4x128x1024_S1x128x1024_3_0_0).reshape _ _))
  | 2 => fun
    | 0 => Prog.lift (.waitDma2 (cell0 arg8 ![2, 0] inb_S4x4_S1x1_2_0) (cut2 arg6 ![0, 0, 0] inb_S4x1024x768_S1x1024x768_0_0_0) (cut2 arg2 ![0, 0, 0] inb_S4x1024x768_S1x1024x768_0_0_0) ((harg6.wordExact_slice rfl _ wordsbf16_S4x1024x768_S1x1024x768_0_0_0).reshape _ _) ((harg2.wordExact_slice rfl _ wordsbf16_S4x1024x768_S1x1024x768_0_0_0).reshape _ _))
    | 1 => Prog.lift (.waitDma2 (cell0 arg8 ![2, 1] inb_S4x4_S1x1_2_1) (cut2 arg6 ![1, 0, 0] inb_S4x1024x768_S1x1024x768_1_0_0) (cut2 arg2 ![1, 0, 0] inb_S4x1024x768_S1x1024x768_1_0_0) ((harg6.wordExact_slice rfl _ wordsbf16_S4x1024x768_S1x1024x768_1_0_0).reshape _ _) ((harg2.wordExact_slice rfl _ wordsbf16_S4x1024x768_S1x1024x768_1_0_0).reshape _ _))
    | 2 => Prog.lift (.waitDma2 (cell0 arg8 ![2, 2] inb_S4x4_S1x1_2_2) (cut2 arg6 ![2, 0, 0] inb_S4x1024x768_S1x1024x768_2_0_0) (cut2 arg2 ![2, 0, 0] inb_S4x1024x768_S1x1024x768_2_0_0) ((harg6.wordExact_slice rfl _ wordsbf16_S4x1024x768_S1x1024x768_2_0_0).reshape _ _) ((harg2.wordExact_slice rfl _ wordsbf16_S4x1024x768_S1x1024x768_2_0_0).reshape _ _))
    | 3 => Prog.lift (.waitDma2 (cell0 arg8 ![2, 3] inb_S4x4_S1x1_2_3) (cut2 arg6 ![3, 0, 0] inb_S4x1024x768_S1x1024x768_3_0_0) (cut2 arg2 ![3, 0, 0] inb_S4x1024x768_S1x1024x768_3_0_0) ((harg6.wordExact_slice rfl _ wordsbf16_S4x1024x768_S1x1024x768_3_0_0).reshape _ _) ((harg2.wordExact_slice rfl _ wordsbf16_S4x1024x768_S1x1024x768_3_0_0).reshape _ _))
  | 3 => fun
    | 0 => Prog.lift (.waitDma2 (cell0 arg8 ![3, 0] inb_S4x4_S1x1_3_0) (cut3 arg7 ![0, 0, 0] inb_S4x384x1024_S1x384x1024_0_0_0) (cut3 arg3 ![0, 0, 0] inb_S4x384x1024_S1x384x1024_0_0_0) ((harg7.wordExact_slice rfl _ wordsbf16_S4x384x1024_S1x384x1024_0_0_0).reshape _ _) ((harg3.wordExact_slice rfl _ wordsbf16_S4x384x1024_S1x384x1024_0_0_0).reshape _ _))
    | 1 => Prog.lift (.waitDma2 (cell0 arg8 ![3, 1] inb_S4x4_S1x1_3_1) (cut3 arg7 ![1, 0, 0] inb_S4x384x1024_S1x384x1024_1_0_0) (cut3 arg3 ![1, 0, 0] inb_S4x384x1024_S1x384x1024_1_0_0) ((harg7.wordExact_slice rfl _ wordsbf16_S4x384x1024_S1x384x1024_1_0_0).reshape _ _) ((harg3.wordExact_slice rfl _ wordsbf16_S4x384x1024_S1x384x1024_1_0_0).reshape _ _))
    | 2 => Prog.lift (.waitDma2 (cell0 arg8 ![3, 2] inb_S4x4_S1x1_3_2) (cut3 arg7 ![2, 0, 0] inb_S4x384x1024_S1x384x1024_2_0_0) (cut3 arg3 ![2, 0, 0] inb_S4x384x1024_S1x384x1024_2_0_0) ((harg7.wordExact_slice rfl _ wordsbf16_S4x384x1024_S1x384x1024_2_0_0).reshape _ _) ((harg3.wordExact_slice rfl _ wordsbf16_S4x384x1024_S1x384x1024_2_0_0).reshape _ _))
    | 3 => Prog.lift (.waitDma2 (cell0 arg8 ![3, 3] inb_S4x4_S1x1_3_3) (cut3 arg7 ![3, 0, 0] inb_S4x384x1024_S1x384x1024_3_0_0) (cut3 arg3 ![3, 0, 0] inb_S4x384x1024_S1x384x1024_3_0_0) ((harg7.wordExact_slice rfl _ wordsbf16_S4x384x1024_S1x384x1024_3_0_0).reshape _ _) ((harg3.wordExact_slice rfl _ wordsbf16_S4x384x1024_S1x384x1024_3_0_0).reshape _ _))

/-- An arrival is waited for. -/
def waitCame (d0 : Dev nD) : Fin 4 → Fin 4 → Op F
  | 0 => fun
    | 0 => Prog.lift (.waitDma2 (cell0 arg9 ![0, 0] inb_S4x4_S1x1_0_0) (cut0 arg0 ![0, 0, 0] inb_S4x1024x256_S1x1024x256_0_0_0) (cut0 arg4 ![0, 0, 0] inb_S4x1024x256_S1x1024x256_0_0_0) ((harg0.wordExact_slice rfl _ wordsbf16_S4x1024x256_S1x1024x256_0_0_0).reshape _ _) ((harg4.wordExact_slice rfl _ wordsbf16_S4x1024x256_S1x1024x256_0_0_0).reshape _ _))
    | 1 => Prog.lift (.waitDma2 (cell0 arg9 ![0, 1] inb_S4x4_S1x1_0_1) (cut0 arg0 ![1, 0, 0] inb_S4x1024x256_S1x1024x256_1_0_0) (cut0 arg4 ![1, 0, 0] inb_S4x1024x256_S1x1024x256_1_0_0) ((harg0.wordExact_slice rfl _ wordsbf16_S4x1024x256_S1x1024x256_1_0_0).reshape _ _) ((harg4.wordExact_slice rfl _ wordsbf16_S4x1024x256_S1x1024x256_1_0_0).reshape _ _))
    | 2 => Prog.lift (.waitDma2 (cell0 arg9 ![0, 2] inb_S4x4_S1x1_0_2) (cut0 arg0 ![2, 0, 0] inb_S4x1024x256_S1x1024x256_2_0_0) (cut0 arg4 ![2, 0, 0] inb_S4x1024x256_S1x1024x256_2_0_0) ((harg0.wordExact_slice rfl _ wordsbf16_S4x1024x256_S1x1024x256_2_0_0).reshape _ _) ((harg4.wordExact_slice rfl _ wordsbf16_S4x1024x256_S1x1024x256_2_0_0).reshape _ _))
    | 3 => Prog.lift (.waitDma2 (cell0 arg9 ![0, 3] inb_S4x4_S1x1_0_3) (cut0 arg0 ![3, 0, 0] inb_S4x1024x256_S1x1024x256_3_0_0) (cut0 arg4 ![3, 0, 0] inb_S4x1024x256_S1x1024x256_3_0_0) ((harg0.wordExact_slice rfl _ wordsbf16_S4x1024x256_S1x1024x256_3_0_0).reshape _ _) ((harg4.wordExact_slice rfl _ wordsbf16_S4x1024x256_S1x1024x256_3_0_0).reshape _ _))
  | 1 => fun
    | 0 => Prog.lift (.waitDma2 (cell0 arg9 ![1, 0] inb_S4x4_S1x1_1_0) (cut1 arg1 ![0, 0, 0] inb_S4x128x1024_S1x128x1024_0_0_0) (cut1 arg5 ![0, 0, 0] inb_S4x128x1024_S1x128x1024_0_0_0) ((harg1.wordExact_slice rfl _ wordsbf16_S4x128x1024_S1x128x1024_0_0_0).reshape _ _) ((harg5.wordExact_slice rfl _ wordsbf16_S4x128x1024_S1x128x1024_0_0_0).reshape _ _))
    | 1 => Prog.lift (.waitDma2 (cell0 arg9 ![1, 1] inb_S4x4_S1x1_1_1) (cut1 arg1 ![1, 0, 0] inb_S4x128x1024_S1x128x1024_1_0_0) (cut1 arg5 ![1, 0, 0] inb_S4x128x1024_S1x128x1024_1_0_0) ((harg1.wordExact_slice rfl _ wordsbf16_S4x128x1024_S1x128x1024_1_0_0).reshape _ _) ((harg5.wordExact_slice rfl _ wordsbf16_S4x128x1024_S1x128x1024_1_0_0).reshape _ _))
    | 2 => Prog.lift (.waitDma2 (cell0 arg9 ![1, 2] inb_S4x4_S1x1_1_2) (cut1 arg1 ![2, 0, 0] inb_S4x128x1024_S1x128x1024_2_0_0) (cut1 arg5 ![2, 0, 0] inb_S4x128x1024_S1x128x1024_2_0_0) ((harg1.wordExact_slice rfl _ wordsbf16_S4x128x1024_S1x128x1024_2_0_0).reshape _ _) ((harg5.wordExact_slice rfl _ wordsbf16_S4x128x1024_S1x128x1024_2_0_0).reshape _ _))
    | 3 => Prog.lift (.waitDma2 (cell0 arg9 ![1, 3] inb_S4x4_S1x1_1_3) (cut1 arg1 ![3, 0, 0] inb_S4x128x1024_S1x128x1024_3_0_0) (cut1 arg5 ![3, 0, 0] inb_S4x128x1024_S1x128x1024_3_0_0) ((harg1.wordExact_slice rfl _ wordsbf16_S4x128x1024_S1x128x1024_3_0_0).reshape _ _) ((harg5.wordExact_slice rfl _ wordsbf16_S4x128x1024_S1x128x1024_3_0_0).reshape _ _))
  | 2 => fun
    | 0 => Prog.lift (.waitDma2 (cell0 arg9 ![2, 0] inb_S4x4_S1x1_2_0) (cut2 arg2 ![0, 0, 0] inb_S4x1024x768_S1x1024x768_0_0_0) (cut2 arg6 ![0, 0, 0] inb_S4x1024x768_S1x1024x768_0_0_0) ((harg2.wordExact_slice rfl _ wordsbf16_S4x1024x768_S1x1024x768_0_0_0).reshape _ _) ((harg6.wordExact_slice rfl _ wordsbf16_S4x1024x768_S1x1024x768_0_0_0).reshape _ _))
    | 1 => Prog.lift (.waitDma2 (cell0 arg9 ![2, 1] inb_S4x4_S1x1_2_1) (cut2 arg2 ![1, 0, 0] inb_S4x1024x768_S1x1024x768_1_0_0) (cut2 arg6 ![1, 0, 0] inb_S4x1024x768_S1x1024x768_1_0_0) ((harg2.wordExact_slice rfl _ wordsbf16_S4x1024x768_S1x1024x768_1_0_0).reshape _ _) ((harg6.wordExact_slice rfl _ wordsbf16_S4x1024x768_S1x1024x768_1_0_0).reshape _ _))
    | 2 => Prog.lift (.waitDma2 (cell0 arg9 ![2, 2] inb_S4x4_S1x1_2_2) (cut2 arg2 ![2, 0, 0] inb_S4x1024x768_S1x1024x768_2_0_0) (cut2 arg6 ![2, 0, 0] inb_S4x1024x768_S1x1024x768_2_0_0) ((harg2.wordExact_slice rfl _ wordsbf16_S4x1024x768_S1x1024x768_2_0_0).reshape _ _) ((harg6.wordExact_slice rfl _ wordsbf16_S4x1024x768_S1x1024x768_2_0_0).reshape _ _))
    | 3 => Prog.lift (.waitDma2 (cell0 arg9 ![2, 3] inb_S4x4_S1x1_2_3) (cut2 arg2 ![3, 0, 0] inb_S4x1024x768_S1x1024x768_3_0_0) (cut2 arg6 ![3, 0, 0] inb_S4x1024x768_S1x1024x768_3_0_0) ((harg2.wordExact_slice rfl _ wordsbf16_S4x1024x768_S1x1024x768_3_0_0).reshape _ _) ((harg6.wordExact_slice rfl _ wordsbf16_S4x1024x768_S1x1024x768_3_0_0).reshape _ _))
  | 3 => fun
    | 0 => Prog.lift (.waitDma2 (cell0 arg9 ![3, 0] inb_S4x4_S1x1_3_0) (cut3 arg3 ![0, 0, 0] inb_S4x384x1024_S1x384x1024_0_0_0) (cut3 arg7 ![0, 0, 0] inb_S4x384x1024_S1x384x1024_0_0_0) ((harg3.wordExact_slice rfl _ wordsbf16_S4x384x1024_S1x384x1024_0_0_0).reshape _ _) ((harg7.wordExact_slice rfl _ wordsbf16_S4x384x1024_S1x384x1024_0_0_0).reshape _ _))
    | 1 => Prog.lift (.waitDma2 (cell0 arg9 ![3, 1] inb_S4x4_S1x1_3_1) (cut3 arg3 ![1, 0, 0] inb_S4x384x1024_S1x384x1024_1_0_0) (cut3 arg7 ![1, 0, 0] inb_S4x384x1024_S1x384x1024_1_0_0) ((harg3.wordExact_slice rfl _ wordsbf16_S4x384x1024_S1x384x1024_1_0_0).reshape _ _) ((harg7.wordExact_slice rfl _ wordsbf16_S4x384x1024_S1x384x1024_1_0_0).reshape _ _))
    | 2 => Prog.lift (.waitDma2 (cell0 arg9 ![3, 2] inb_S4x4_S1x1_3_2) (cut3 arg3 ![2, 0, 0] inb_S4x384x1024_S1x384x1024_2_0_0) (cut3 arg7 ![2, 0, 0] inb_S4x384x1024_S1x384x1024_2_0_0) ((harg3.wordExact_slice rfl _ wordsbf16_S4x384x1024_S1x384x1024_2_0_0).reshape _ _) ((harg7.wordExact_slice rfl _ wordsbf16_S4x384x1024_S1x384x1024_2_0_0).reshape _ _))
    | 3 => Prog.lift (.waitDma2 (cell0 arg9 ![3, 3] inb_S4x4_S1x1_3_3) (cut3 arg3 ![3, 0, 0] inb_S4x384x1024_S1x384x1024_3_0_0) (cut3 arg7 ![3, 0, 0] inb_S4x384x1024_S1x384x1024_3_0_0) ((harg3.wordExact_slice rfl _ wordsbf16_S4x384x1024_S1x384x1024_3_0_0).reshape _ _) ((harg7.wordExact_slice rfl _ wordsbf16_S4x384x1024_S1x384x1024_3_0_0).reshape _ _))

/-- Array and chip, in the order the kernel takes them. -/
def pairs : List (Fin 4 × Fin 4) :=
  [(0, 0), (0, 1), (0, 2), (0, 3), (1, 0), (1, 1), (1, 2), (1, 3), (2, 0), (2, 1), (2, 2), (2, 3), (3, 0), (3, 1), (3, 2), (3, 3)]

/-- A block leaves: to another chip, or into the device's own result. -/
def issue (d0 : Dev nD) (x : Fin 4 × Fin 4) : Op F :=
  if h : isSent d0 x.1 x.2 then send d0 x.1 x.2 h else (home d0 x.1 x.2).bind fun _ => waitHome d0 x.1 x.2
/-- What was sent to another chip, and what came from it, is waited for. -/
def await (d0 : Dev nD) (x : Fin 4 × Fin 4) : Op F :=
  if isSent d0 x.1 x.2 then (waitSent d0 x.1 x.2).bind fun _ => waitCame d0 x.1 x.2 else .ret ⟨⟩

set_option maxRecDepth 65536 in
set_option maxHeartbeats 8000000 in
/-- The kernel is these operations. -/
theorem body_eq (t : Fin cfg0.N) : ∃ k, bodyAt0 (F := F) t = .op .deviceId k
    ∧ ∀ d0 : Dev nD, k d0 = (seq (pairs.map (issue d0))).bind fun _ => seq (pairs.map (await d0)) :=
  ⟨_, rfl, fun
    | 0 => rfl
    | 1 => rfl
    | 2 => rfl
    | 3 => rfl
    | 4 => rfl
    | 5 => rfl
    | 6 => rfl
    | 7 => rfl⟩

end Cert.ChipsIdeal.Chips
-- ==== Proof.ChipsPlan.lean ====
/-
# The reduce-scatter among the chips: who hands what to whom

A device holds, of each gradient, a block for each chip. It sends the blocks of the other chips to the device of its own
core there, and copies the block of its own chip into its result at home. So block `q` of a device's result is the block
for its chip of the device of its core on chip `q`. Every copy has its own semaphores and happens once; those of the
device's own chip carry no copy between devices, and are not used.
-/
module

public import proofs.«01_k».proof.Proof.Gen.ChipsIdeal
public import proofs.«01_k».proof.Proof.ChipsOps
public import proofs.«01_k».proof.Proof.Blocks

@[expose] public section

noncomputable section

namespace Cert.ChipsIdeal.Chips

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx
open Cert.OneShot Cert.Blocks
open Cert.ChipsIdeal Cert.ChipsIdeal.Gen

set_option Elab.async false

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The mesh -/

/-- The device of the same core on chip `q`. -/
def peer (q : Fin 4) (c : Dev nD) : Dev nD := ⟨2 * q.val + c.val % 2, by revert q c; decide⟩

theorem peer_peer (q : Fin 4) (c : Dev nD) : peer (chip c) (peer q c) = c := by revert q c; decide
theorem chip_peer (q : Fin 4) (c : Dev nD) : chip (peer q c) = q := by revert q c; decide
theorem peer_chip (c : Dev nD) : peer (chip c) c = c := by revert c; decide
theorem chip_val (c : Dev nD) : 2 * (c.val / 4) + ((c.val / 2) % 2) = (chip c).val := by revert c; decide

/-! ## The arrays -/

def rows : Fin 4 → ℕ
  | 0 => 1024 | 1 => 128 | 2 => 1024 | 3 => 384
def cols : Fin 4 → ℕ
  | 0 => 256 | 1 => 1024 | 2 => 768 | 3 => 1024

/-- The gradients, summed over a chip. -/
def src : (a : Fin 4) → Memref sig .tc .hbm (M3 4 (rows a) (cols a)) .bf16
  | 0 => Memref.whole main_arg0 | 1 => Memref.whole main_arg1 | 2 => Memref.whole main_arg2 | 3 => Memref.whole main_arg3
/-- The results. -/
def out : (a : Fin 4) → Memref sig .tc .hbm (M3 4 (rows a) (cols a)) .bf16
  | 0 => Memref.whole main_v1_0 | 1 => Memref.whole main_v1_1 | 2 => Memref.whole main_v1_2 | 3 => Memref.whole main_v1_3

theorem src_whole : (a : Fin 4) → (src a).IsWhole
  | 0 => Memref.isWhole_whole _ | 1 => Memref.isWhole_whole _ | 2 => Memref.isWhole_whole _ | 3 => Memref.isWhole_whole _
theorem out_whole : (a : Fin 4) → (out a).IsWhole
  | 0 => Memref.isWhole_whole _ | 1 => Memref.isWhole_whole _ | 2 => Memref.isWhole_whole _ | 3 => Memref.isWhole_whole _

variable (m : (ℓ : Loc nD τ sig) → Buf (Elt F) ℓ)

/-- Device `c`'s gradient `a` at the start. -/
def given (c : Dev nD) (a : Fin 4) : Buf (Elt F) ((src a).view.loc (c.tc : Thread nD τ)) := m _
/-- Its elements. -/
def grad (c : Dev nD) (a : Fin 4) : (M3 4 (rows a) (cols a)).Idx → Elt F .bf16 := (src a).view.read (Elt F) (given m c a)
/-- What result `a` is to hold on device `c`: at `q`, the block for `c`'s chip of the device of its core on chip `q`. -/
def gathered (c : Dev nD) (a : Fin 4) : (M3 4 (rows a) (cols a)).Idx → Elt F .bf16 := fun x =>
  grad m (peer (x 0) c) a (ix3 (chip c) (x 1) (x 2))
/-- The same as contents of the array. -/
def want (c : Dev nD) (a : Fin 4) : Buf (Elt F) ((out a).view.loc (c.tc : Thread nD τ)) := (out_whole a).unread (gathered m c a)

/-- Block `q` of device `c`'s gradient, owned. -/
def srcPart (c : Dev nD) (a q : Fin 4) : sProp 𝕄 :=
  (blk3 (src a) q).view.loc (c.tc : Thread nD τ) ↦[(blk3 (src a) q).view.set]{fullShare} given m c a
/-- Block `q` of device `c`'s result, owned, at contents `f`. -/
def outPart (c : Dev nD) (a q : Fin 4) (f : Buf (Elt F) ((out a).view.loc (c.tc : Thread nD τ))) : sProp 𝕄 :=
  (blk3 (out a) q).view.loc (c.tc : Thread nD τ) ↦[(blk3 (out a) q).view.set]{fullShare} f

/-! ## The plan -/

/-- A semaphore: of a send of gradient `a` to chip `q`, of the arrival from it, or of the copy at home. -/
abbrev J : Type := (Fin 4 × Fin 4) ⊕ (Fin 4 × Fin 4) ⊕ Fin 4

abbrev sent (a q : Fin 4) : J := .inl (a, q)
abbrev came (a q : Fin 4) : J := .inr (.inl (a, q))
abbrev kept (a : Fin 4) : J := .inr (.inr a)

def num36 : J → Fin 36
  | .inl (a, q) => ⟨4 * a.val + q.val, by omega⟩
  | .inr (.inl (a, q)) => ⟨16 + 4 * a.val + q.val, by omega⟩
  | .inr (.inr a) => ⟨32 + a.val, by omega⟩

def osem (j : J) : DmaSem sig := num36 j

theorem osem_inj : Function.Injective osem := by
  rintro (⟨a, q⟩ | ⟨a, q⟩ | a) (⟨a', q'⟩ | ⟨a', q'⟩ | a') h <;>
    (have h0 := congrArg Fin.val h
     simp only [osem, num36] at h0
     first
       | (exfalso; omega)
       | (have h1 : a = a' := Fin.ext (by omega)
          subst h1
          first
            | rfl
            | (have h2 : q = q' := Fin.ext (by omega)
               subst h2; rfl)))

/-- The gradient a semaphore's copy is of. -/
def which : J → Fin 4
  | .inl (a, _) => a
  | .inr (.inl (a, _)) => a
  | .inr (.inr a) => a

/-- Whether device `c` uses the semaphore: nothing is sent to the own chip, nor arrives from it. -/
def used (c : Dev nD) : J → Bool
  | .inl (_, q) => decide (q ≠ chip c)
  | .inr (.inl (_, q)) => decide (q ≠ chip c)
  | .inr (.inr _) => true

/-- The credit of one copy of a block of gradient `a`. -/
def credit (a : Fin 4) : ℕ := (blk3 (out a) 0).view.dmaCredit

theorem credit_pos (a : Fin 4) : 0 < credit a := View.dmaCredit_pos _ (by
  match a with
  | 0 => decide +kernel
  | 1 => decide +kernel
  | 2 => decide +kernel
  | 3 => decide +kernel)

/-- What the copy on semaphore `j` of device `c` hands back or delivers. -/
def pay (c : Dev nD) : J → sProp 𝕄
  | .inl (a, q) => srcPart m c a q
  | .inr (.inl (a, q)) => outPart c a q (want m c a)
  | .inr (.inr a) => iprop(outPart c a (chip c) (want m c a) ∗ srcPart m c a (chip c))

def plan : Plan nD sig (MT nD τ sig Unit (Elt F) ℕ UU ℕ) J where
  osem := osem
  osem_inj := osem_inj
  act := used
  amt _ j := credit (which j)
  amt_pos _ j := credit_pos (which j)
  pay := pay m

instance storable (c : Dev nD) (j : J) : Storable upEmb ((plan (F := F) m).pay c j) := by
  show Storable upEmb (pay m c j)
  match j with
  | .inl (a, q) => unfold pay srcPart; infer_instance
  | .inr (.inl (a, q)) => unfold pay outPart; infer_instance
  | .inr (.inr a) => unfold pay outPart srcPart; infer_instance

/-- The arrivals come second: they are waited for when nothing is owed. -/
def lvS : SemLoc sig → ℕ
  | .dma i => if 16 ≤ i.val ∧ i.val < 32 then 1 else 0
  | _ => 0

theorem lvS_kept (a : Fin 4) : lvS (.dma (osem (kept a))) = 0 := by revert a; decide +kernel
theorem lvS_came (a q : Fin 4) : lvS (.dma (osem (came a q))) = 1 := by revert a q; decide +kernel

theorem used_sent {c : Dev nD} {a q : Fin 4} (h : q ≠ chip c) : (plan (F := F) m).act c (sent a q) = true := decide_eq_true h
theorem used_came {c : Dev nD} {a q : Fin 4} (h : q ≠ chip c) : (plan (F := F) m).act c (came a q) = true := decide_eq_true h
theorem idle_sent (c : Dev nD) (a : Fin 4) : (plan (F := F) m).act c (sent a (chip c)) = false := decide_eq_false (fun h => h rfl)
theorem idle_came (c : Dev nD) (a : Fin 4) : (plan (F := F) m).act c (came a (chip c)) = false := decide_eq_false (fun h => h rfl)
theorem used_there {c : Dev nD} {a q : Fin 4} (h : q ≠ chip c) : (plan (F := F) m).act (peer q c) (came a (chip c)) = true :=
  used_came m (by rw [chip_peer]; exact h.symm)

/-! ## What the copies deliver -/

theorem reads_sent (c : Dev nD) (a q : Fin 4) :
    (blk3 (out a) (chip c)).view.read (Elt F) (want m (peer q c) a) = (blk3 (src a) q).view.read (Elt F) (given m c a) := by
  funext x
  obtain ⟨i, j, rfl⟩ : ∃ i j, x = ix2 i j := ⟨x 0, x 1, eq_ix2 x⟩
  rw [read_blk3, read_blk3, want, Memref.IsWhole.read_unread]
  show grad m (peer (chip c) (peer q c)) a (ix3 (chip (peer q c)) i j) = _
  rw [peer_peer, chip_peer]
  rfl

theorem reads_home (c : Dev nD) (a : Fin 4) :
    (blk3 (out a) (chip c)).view.read (Elt F) (want m c a) = (blk3 (src a) (chip c)).view.read (Elt F) (given m c a) := by
  have h := reads_sent m c a (chip c)
  rwa [peer_chip] at h

end Cert.ChipsIdeal.Chips
-- ==== Proof.ChipsSteps.lean ====
/-
# The reduce-scatter among the chips: each operation, from what it needs to what it leaves

A step is proved once for every gradient, chip and device, over the views and semaphores it names; the printed operations
are instances of it.
-/
module

public import proofs.«01_k».proof.Proof.ChipsPlan

@[expose] public section

noncomputable section

namespace Cert.ChipsIdeal.Chips

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx
open Cert.OneShot Cert.Blocks
open Cert.ChipsIdeal Cert.ChipsIdeal.Gen

set_option Elab.async false

variable {F : FTy → Type} [FloatOps F]

local notation "𝕄" => MT nD τ sig Unit (Elt F) ℕ UU ℕ

variable (m : (ℓ : Loc nD τ sig) → Buf (Elt F) ℓ)

abbrev 𝒱₀ : Variants := Variants.none

/-- A view of a block of a gradient as the kernel writes it: through some offsets that are the block's. -/
abbrev from3 (a : Fin 4) (off : Fin 3 → ℕ) (inb : ∀ i, off i + (M3 1 (rows a) (cols a)).size i ≤ (M3 4 (rows a) (cols a)).size i)
    (h : (M3 1 (rows a) (cols a)).Squeezes (M2 (rows a) (cols a))) : Memref sig .tc .hbm (M2 (rows a) (cols a)) .bf16 :=
  ((src a).slice (Rect.unit (s := M3 4 (rows a) (cols a)) off (M3 1 (rows a) (cols a)).size inb) (fun _ => rfl)).squeeze (M2 (rows a) (cols a)) h

/-- A view of a block of a result, likewise. -/
abbrev at3 (a : Fin 4) (off : Fin 3 → ℕ) (inb : ∀ i, off i + (M3 1 (rows a) (cols a)).size i ≤ (M3 4 (rows a) (cols a)).size i)
    (h : (M3 1 (rows a) (cols a)).Squeezes (M2 (rows a) (cols a))) : Memref sig .tc .hbm (M2 (rows a) (cols a)) .bf16 :=
  ((out a).slice (Rect.unit (s := M3 4 (rows a) (cols a)) off (M3 1 (rows a) (cols a)).size inb) (fun _ => rfl)).squeeze (M2 (rows a) (cols a)) h

variable {offA offD : Fin 3 → ℕ} {sm sr : SemLoc sig}

theorem step_home (c : Dev nD) (a q : Fin 4) (hq : q = chip c) {f : Buf (Elt F) ((out a).view.loc (c.tc : Thread nD τ))}
    (hA : offA = ![q.val, 0, 0]) (hD : offD = ![q.val, 0, 0]) (hs : sm = .dma (osem (kept a)))
    {inbA hqA inbD hqD h1 h2} {h3 : DmaTarget.Typed (nD := nD) (p := (Proc.tc : Proc τ)) .hbm sm (.here (at3 a offD inbD hqD))} :
    Runs (defs₀ (F := F)) 𝒱₀ c iprop((plan m).knows ER ∗ srcPart m c a q ∗ outPart c a q f ∗ (plan m).tok ER c (kept a))
      (Prog.lift (.enqueueDma (from3 a offA inbA hqA) (.here (at3 a offD inbD hqD)) sm h1 h2 h3)) ((plan m).crd c (kept a)) := by
  subst hA hD hq
  exact runs_copy (plan m) ER c (kept a) (src := blk3 (src a) (chip c)) (dst := blk3 (out a) (chip c)) (q := fullShare)
    (fs := given m c a) (fd := f) hs rfl (by subst hs; rfl) (by
      rw [landed (c := c) (c' := c) (reads_home m c a)]
      exact Entails.rfl)

theorem step_send (c : Dev nD) (a q : Fin 4) (hq : q ≠ chip c) {f : Buf (Elt F) ((out a).view.loc ((peer q c).tc : Thread nD τ))}
    (hA : offA = ![q.val, 0, 0]) (hD : offD = ![(chip c).val, 0, 0])
    {d : Dev nD} (hd : d = peer q c) (hs : sm = .dma (osem (sent a q))) (hr : sr = .dma (osem (came a (chip c))))
    (O : CellTallies nD τ sig Unit) {inbA hqA inbD hqD hsc h1 h2}
    {h3 : DmaTarget.Typed .hbm sr (.remote (Dev.tc d : Thread nD τ) (at3 a offD inbD hqD : Memref sig (Dev.tc d : Thread nD τ).2.kind .hbm (M2 (rows a) (cols a)) .bf16) sm hsc)} :
    Runs (defs₀ (F := F)) 𝒱₀ c iprop((plan m).knows ER ∗ srcPart m c a q ∗ outPart (peer q c) a (chip c) f
        ∗ (plan m).tok ER c (sent a q) ∗ (plan m).tok ER (peer q c) (came a (chip c)) ∗ owing c (O + (plan m).due (peer q c) (came a (chip c))))
      (Prog.lift (.enqueueDma (from3 a offA inbA hqA) (.remote (Dev.tc d : Thread nD τ) (at3 a offD inbD hqD) sm hsc) sr h1 h2 h3))
      iprop((plan m).crd c (sent a q) ∗ owing c O) := by
  subst hA hD hd
  exact runs_send (plan m) ER c (peer q c) (sent a q) (came a (chip c)) (src := blk3 (src a) q) (dst := blk3 (out a) (chip c)) (q := fullShare)
    (fs := given m c a) (fd := f) hs hr (used_sent m hq) (used_there m hq) (by subst hr; rfl) rfl Entails.rfl (by
      rw [landed (c := c) (c' := peer q c) (reads_sent m c a q)]
      exact Entails.rfl) O

/-- What a wait takes, -/
def awaits (c : Dev nD) (j : J) (O : CellTallies nD τ sig Unit) : sProp 𝕄 :=
  iprop((plan m).knows ER ∗ levAts Lall (lvOf lvS) ∗ (plan m).crd c j ∗ (plan m).place ER c j ∗ owing c O)
/-- and what it leaves. -/
def awaited (c : Dev nD) (j : J) (O : CellTallies nD τ sig Unit) : sProp 𝕄 := iprop((plan m).pay c j ∗ (plan m).over ER c j ∗ owing c O)

theorem step_wait (c : Dev nD) (j : J) {w : TpuEff nD τ sig (Elt F) Λ₀ .tc PUnit} {k' : ℕ} (O : CellTallies nD τ sig Unit) (hu : used c j = true)
    (hO : Above lvS (lvS (.dma (osem j))) O)
    (hw : ∀ K : PUnit → sProp 𝕄, wpE (defs₀ (F := F)) 𝒱₀ (c.tc : Thread nD τ) none Set.univ w K = waitSpec (c.tc : Thread nD τ) Set.univ sm k' K)
    (hs : sm = .dma (osem j)) (hN : k' = credit (which j)) :
    Runs (defs₀ (F := F)) 𝒱₀ c (awaits m c j O) (Prog.lift w) (awaited m c j O) :=
  runs_wait (plan m) ER c j (lvS := lvS) hw hs hu hN O hO

set_option maxRecDepth 8000 in
/-- The semaphore of an arrival, through offsets that are its own. -/
theorem sem_came {off : Fin 2 → ℕ} (a q : Fin 4) (h : off = ![a.val, q.val]) (inb : ∀ i, off i + S1x1.size i ≤ S4x4.size i) :
    ((arg9.slice (Rect.unit (s := S4x4) off S1x1.size inb)).squeeze S_ squeezes_S1x1_S_).sem = osem (came a q) := by
  subst h
  revert inb
  match a, q with
  | 0, 0 => exact fun _ => (rfl : ((arg9.slice (Rect.unit (s := S4x4) ![0, 0] S1x1.size inb_S4x4_S1x1_0_0)).squeeze S_ squeezes_S1x1_S_).sem = osem (came 0 0))
  | 0, 1 => exact fun _ => (rfl : ((arg9.slice (Rect.unit (s := S4x4) ![0, 1] S1x1.size inb_S4x4_S1x1_0_1)).squeeze S_ squeezes_S1x1_S_).sem = osem (came 0 1))
  | 0, 2 => exact fun _ => (rfl : ((arg9.slice (Rect.unit (s := S4x4) ![0, 2] S1x1.size inb_S4x4_S1x1_0_2)).squeeze S_ squeezes_S1x1_S_).sem = osem (came 0 2))
  | 0, 3 => exact fun _ => (rfl : ((arg9.slice (Rect.unit (s := S4x4) ![0, 3] S1x1.size inb_S4x4_S1x1_0_3)).squeeze S_ squeezes_S1x1_S_).sem = osem (came 0 3))
  | 1, 0 => exact fun _ => (rfl : ((arg9.slice (Rect.unit (s := S4x4) ![1, 0] S1x1.size inb_S4x4_S1x1_1_0)).squeeze S_ squeezes_S1x1_S_).sem = osem (came 1 0))
  | 1, 1 => exact fun _ => (rfl : ((arg9.slice (Rect.unit (s := S4x4) ![1, 1] S1x1.size inb_S4x4_S1x1_1_1)).squeeze S_ squeezes_S1x1_S_).sem = osem (came 1 1))
  | 1, 2 => exact fun _ => (rfl : ((arg9.slice (Rect.unit (s := S4x4) ![1, 2] S1x1.size inb_S4x4_S1x1_1_2)).squeeze S_ squeezes_S1x1_S_).sem = osem (came 1 2))
  | 1, 3 => exact fun _ => (rfl : ((arg9.slice (Rect.unit (s := S4x4) ![1, 3] S1x1.size inb_S4x4_S1x1_1_3)).squeeze S_ squeezes_S1x1_S_).sem = osem (came 1 3))
  | 2, 0 => exact fun _ => (rfl : ((arg9.slice (Rect.unit (s := S4x4) ![2, 0] S1x1.size inb_S4x4_S1x1_2_0)).squeeze S_ squeezes_S1x1_S_).sem = osem (came 2 0))
  | 2, 1 => exact fun _ => (rfl : ((arg9.slice (Rect.unit (s := S4x4) ![2, 1] S1x1.size inb_S4x4_S1x1_2_1)).squeeze S_ squeezes_S1x1_S_).sem = osem (came 2 1))
  | 2, 2 => exact fun _ => (rfl : ((arg9.slice (Rect.unit (s := S4x4) ![2, 2] S1x1.size inb_S4x4_S1x1_2_2)).squeeze S_ squeezes_S1x1_S_).sem = osem (came 2 2))
  | 2, 3 => exact fun _ => (rfl : ((arg9.slice (Rect.unit (s := S4x4) ![2, 3] S1x1.size inb_S4x4_S1x1_2_3)).squeeze S_ squeezes_S1x1_S_).sem = osem (came 2 3))
  | 3, 0 => exact fun _ => (rfl : ((arg9.slice (Rect.unit (s := S4x4) ![3, 0] S1x1.size inb_S4x4_S1x1_3_0)).squeeze S_ squeezes_S1x1_S_).sem = osem (came 3 0))
  | 3, 1 => exact fun _ => (rfl : ((arg9.slice (Rect.unit (s := S4x4) ![3, 1] S1x1.size inb_S4x4_S1x1_3_1)).squeeze S_ squeezes_S1x1_S_).sem = osem (came 3 1))
  | 3, 2 => exact fun _ => (rfl : ((arg9.slice (Rect.unit (s := S4x4) ![3, 2] S1x1.size inb_S4x4_S1x1_3_2)).squeeze S_ squeezes_S1x1_S_).sem = osem (came 3 2))
  | 3, 3 => exact fun _ => (rfl : ((arg9.slice (Rect.unit (s := S4x4) ![3, 3] S1x1.size inb_S4x4_S1x1_3_3)).squeeze S_ squeezes_S1x1_S_).sem = osem (came 3 3))

/-! ## The printed operations -/

variable (c : Dev nD)

set_option maxRecDepth 4000

theorem runs_send' (O : CellTallies nD τ sig Unit) : ∀ (a q : Fin 4) (h : isSent c a q) (f : Buf (Elt F) ((out a).view.loc ((peer q c).tc : Thread nD τ))),
    Runs (defs₀ (F := F)) 𝒱₀ c iprop((plan m).knows ER ∗ srcPart m c a q ∗ outPart (peer q c) a (chip c) f
        ∗ (plan m).tok ER c (sent a q) ∗ (plan m).tok ER (peer q c) (came a (chip c)) ∗ owing c (O + (plan m).due (peer q c) (came a (chip c))))
      (send c a q h) iprop((plan m).crd c (sent a q) ∗ owing c O)
  | 0 => fun
    | 0 => fun h f => step_send m c 0 0 ((isSent_iff c 0 0).mp h) (f := f) rfl ((k0_off2_eq c).trans (by rw [chip_val])) (Fin.ext ((k0_dev1_eq c).trans (by show _ = 2 * 0 + c.val % 2; omega))) rfl (congrArg SemLoc.dma (sem_came 0 (chip c) ((k0_off1_eq c).trans (by rw [chip_val]; rfl)) _)) O
    | 1 => fun h f => step_send m c 0 1 ((isSent_iff c 0 1).mp h) (f := f) rfl ((k0_off4_eq c).trans (by rw [chip_val])) (Fin.ext ((k0_dev2_eq c).trans (by show _ = 2 * 1 + c.val % 2; omega))) rfl (congrArg SemLoc.dma (sem_came 0 (chip c) ((k0_off3_eq c).trans (by rw [chip_val]; rfl)) _)) O
    | 2 => fun h f => step_send m c 0 2 ((isSent_iff c 0 2).mp h) (f := f) rfl ((k0_off6_eq c).trans (by rw [chip_val])) (Fin.ext ((k0_dev3_eq c).trans (by show _ = 2 * 2 + c.val % 2; omega))) rfl (congrArg SemLoc.dma (sem_came 0 (chip c) ((k0_off5_eq c).trans (by rw [chip_val]; rfl)) _)) O
    | 3 => fun h f => step_send m c 0 3 ((isSent_iff c 0 3).mp h) (f := f) rfl ((k0_off8_eq c).trans (by rw [chip_val])) (Fin.ext ((k0_dev4_eq c).trans (by show _ = 2 * 3 + c.val % 2; omega))) rfl (congrArg SemLoc.dma (sem_came 0 (chip c) ((k0_off7_eq c).trans (by rw [chip_val]; rfl)) _)) O
  | 1 => fun
    | 0 => fun h f => step_send m c 1 0 ((isSent_iff c 1 0).mp h) (f := f) rfl ((k0_off10_eq c).trans (by rw [chip_val])) (Fin.ext ((k0_dev5_eq c).trans (by show _ = 2 * 0 + c.val % 2; omega))) rfl (congrArg SemLoc.dma (sem_came 1 (chip c) ((k0_off9_eq c).trans (by rw [chip_val]; rfl)) _)) O
    | 1 => fun h f => step_send m c 1 1 ((isSent_iff c 1 1).mp h) (f := f) rfl ((k0_off12_eq c).trans (by rw [chip_val])) (Fin.ext ((k0_dev6_eq c).trans (by show _ = 2 * 1 + c.val % 2; omega))) rfl (congrArg SemLoc.dma (sem_came 1 (chip c) ((k0_off11_eq c).trans (by rw [chip_val]; rfl)) _)) O
    | 2 => fun h f => step_send m c 1 2 ((isSent_iff c 1 2).mp h) (f := f) rfl ((k0_off14_eq c).trans (by rw [chip_val])) (Fin.ext ((k0_dev7_eq c).trans (by show _ = 2 * 2 + c.val % 2; omega))) rfl (congrArg SemLoc.dma (sem_came 1 (chip c) ((k0_off13_eq c).trans (by rw [chip_val]; rfl)) _)) O
    | 3 => fun h f => step_send m c 1 3 ((isSent_iff c 1 3).mp h) (f := f) rfl ((k0_off16_eq c).trans (by rw [chip_val])) (Fin.ext ((k0_dev8_eq c).trans (by show _ = 2 * 3 + c.val % 2; omega))) rfl (congrArg SemLoc.dma (sem_came 1 (chip c) ((k0_off15_eq c).trans (by rw [chip_val]; rfl)) _)) O
  | 2 => fun
    | 0 => fun h f => step_send m c 2 0 ((isSent_iff c 2 0).mp h) (f := f) rfl ((k0_off18_eq c).trans (by rw [chip_val])) (Fin.ext ((k0_dev9_eq c).trans (by show _ = 2 * 0 + c.val % 2; omega))) rfl (congrArg SemLoc.dma (sem_came 2 (chip c) ((k0_off17_eq c).trans (by rw [chip_val]; rfl)) _)) O
    | 1 => fun h f => step_send m c 2 1 ((isSent_iff c 2 1).mp h) (f := f) rfl ((k0_off20_eq c).trans (by rw [chip_val])) (Fin.ext ((k0_dev10_eq c).trans (by show _ = 2 * 1 + c.val % 2; omega))) rfl (congrArg SemLoc.dma (sem_came 2 (chip c) ((k0_off19_eq c).trans (by rw [chip_val]; rfl)) _)) O
    | 2 => fun h f => step_send m c 2 2 ((isSent_iff c 2 2).mp h) (f := f) rfl ((k0_off22_eq c).trans (by rw [chip_val])) (Fin.ext ((k0_dev11_eq c).trans (by show _ = 2 * 2 + c.val % 2; omega))) rfl (congrArg SemLoc.dma (sem_came 2 (chip c) ((k0_off21_eq c).trans (by rw [chip_val]; rfl)) _)) O
    | 3 => fun h f => step_send m c 2 3 ((isSent_iff c 2 3).mp h) (f := f) rfl ((k0_off24_eq c).trans (by rw [chip_val])) (Fin.ext ((k0_dev12_eq c).trans (by show _ = 2 * 3 + c.val % 2; omega))) rfl (congrArg SemLoc.dma (sem_came 2 (chip c) ((k0_off23_eq c).trans (by rw [chip_val]; rfl)) _)) O
  | 3 => fun
    | 0 => fun h f => step_send m c 3 0 ((isSent_iff c 3 0).mp h) (f := f) rfl ((k0_off26_eq c).trans (by rw [chip_val])) (Fin.ext ((k0_dev13_eq c).trans (by show _ = 2 * 0 + c.val % 2; omega))) rfl (congrArg SemLoc.dma (sem_came 3 (chip c) ((k0_off25_eq c).trans (by rw [chip_val]; rfl)) _)) O
    | 1 => fun h f => step_send m c 3 1 ((isSent_iff c 3 1).mp h) (f := f) rfl ((k0_off28_eq c).trans (by rw [chip_val])) (Fin.ext ((k0_dev14_eq c).trans (by show _ = 2 * 1 + c.val % 2; omega))) rfl (congrArg SemLoc.dma (sem_came 3 (chip c) ((k0_off27_eq c).trans (by rw [chip_val]; rfl)) _)) O
    | 2 => fun h f => step_send m c 3 2 ((isSent_iff c 3 2).mp h) (f := f) rfl ((k0_off30_eq c).trans (by rw [chip_val])) (Fin.ext ((k0_dev15_eq c).trans (by show _ = 2 * 2 + c.val % 2; omega))) rfl (congrArg SemLoc.dma (sem_came 3 (chip c) ((k0_off29_eq c).trans (by rw [chip_val]; rfl)) _)) O
    | 3 => fun h f => step_send m c 3 3 ((isSent_iff c 3 3).mp h) (f := f) rfl ((k0_off32_eq c).trans (by rw [chip_val])) (Fin.ext ((k0_dev16_eq c).trans (by show _ = 2 * 3 + c.val % 2; omega))) rfl (congrArg SemLoc.dma (sem_came 3 (chip c) ((k0_off31_eq c).trans (by rw [chip_val]; rfl)) _)) O

theorem runs_home : ∀ (a q : Fin 4) (_ : q = chip c) (f : Buf (Elt F) ((out a).view.loc (c.tc : Thread nD τ))),
    Runs (defs₀ (F := F)) 𝒱₀ c iprop((plan m).knows ER ∗ srcPart m c a q ∗ outPart c a q f ∗ (plan m).tok ER c (kept a))
      (home c a q) ((plan m).crd c (kept a))
  | 0 => fun
    | 0 => fun h f => step_home m c 0 0 h (f := f) rfl rfl rfl
    | 1 => fun h f => step_home m c 0 1 h (f := f) rfl rfl rfl
    | 2 => fun h f => step_home m c 0 2 h (f := f) rfl rfl rfl
    | 3 => fun h f => step_home m c 0 3 h (f := f) rfl rfl rfl
  | 1 => fun
    | 0 => fun h f => step_home m c 1 0 h (f := f) rfl rfl rfl
    | 1 => fun h f => step_home m c 1 1 h (f := f) rfl rfl rfl
    | 2 => fun h f => step_home m c 1 2 h (f := f) rfl rfl rfl
    | 3 => fun h f => step_home m c 1 3 h (f := f) rfl rfl rfl
  | 2 => fun
    | 0 => fun h f => step_home m c 2 0 h (f := f) rfl rfl rfl
    | 1 => fun h f => step_home m c 2 1 h (f := f) rfl rfl rfl
    | 2 => fun h f => step_home m c 2 2 h (f := f) rfl rfl rfl
    | 3 => fun h f => step_home m c 2 3 h (f := f) rfl rfl rfl
  | 3 => fun
    | 0 => fun h f => step_home m c 3 0 h (f := f) rfl rfl rfl
    | 1 => fun h f => step_home m c 3 1 h (f := f) rfl rfl rfl
    | 2 => fun h f => step_home m c 3 2 h (f := f) rfl rfl rfl
    | 3 => fun h f => step_home m c 3 3 h (f := f) rfl rfl rfl

theorem runs_waitHome (O : CellTallies nD τ sig Unit) (hO : Above lvS 0 O) : ∀ a q : Fin 4,
    Runs (defs₀ (F := F)) 𝒱₀ c (awaits m c (kept a) O) (waitHome c a q) (awaited m c (kept a) O)
  | 0 => fun
    | 0 => step_wait m c (kept 0) O rfl (by rw [lvS_kept]; exact hO) (fun K => wpE_waitDma2_eq 𝒱₀ _ none Set.univ K) rfl rfl
    | 1 => step_wait m c (kept 0) O rfl (by rw [lvS_kept]; exact hO) (fun K => wpE_waitDma2_eq 𝒱₀ _ none Set.univ K) rfl rfl
    | 2 => step_wait m c (kept 0) O rfl (by rw [lvS_kept]; exact hO) (fun K => wpE_waitDma2_eq 𝒱₀ _ none Set.univ K) rfl rfl
    | 3 => step_wait m c (kept 0) O rfl (by rw [lvS_kept]; exact hO) (fun K => wpE_waitDma2_eq 𝒱₀ _ none Set.univ K) rfl rfl
  | 1 => fun
    | 0 => step_wait m c (kept 1) O rfl (by rw [lvS_kept]; exact hO) (fun K => wpE_waitDma2_eq 𝒱₀ _ none Set.univ K) rfl rfl
    | 1 => step_wait m c (kept 1) O rfl (by rw [lvS_kept]; exact hO) (fun K => wpE_waitDma2_eq 𝒱₀ _ none Set.univ K) rfl rfl
    | 2 => step_wait m c (kept 1) O rfl (by rw [lvS_kept]; exact hO) (fun K => wpE_waitDma2_eq 𝒱₀ _ none Set.univ K) rfl rfl
    | 3 => step_wait m c (kept 1) O rfl (by rw [lvS_kept]; exact hO) (fun K => wpE_waitDma2_eq 𝒱₀ _ none Set.univ K) rfl rfl
  | 2 => fun
    | 0 => step_wait m c (kept 2) O rfl (by rw [lvS_kept]; exact hO) (fun K => wpE_waitDma2_eq 𝒱₀ _ none Set.univ K) rfl rfl
    | 1 => step_wait m c (kept 2) O rfl (by rw [lvS_kept]; exact hO) (fun K => wpE_waitDma2_eq 𝒱₀ _ none Set.univ K) rfl rfl
    | 2 => step_wait m c (kept 2) O rfl (by rw [lvS_kept]; exact hO) (fun K => wpE_waitDma2_eq 𝒱₀ _ none Set.univ K) rfl rfl
    | 3 => step_wait m c (kept 2) O rfl (by rw [lvS_kept]; exact hO) (fun K => wpE_waitDma2_eq 𝒱₀ _ none Set.univ K) rfl rfl
  | 3 => fun
    | 0 => step_wait m c (kept 3) O rfl (by rw [lvS_kept]; exact hO) (fun K => wpE_waitDma2_eq 𝒱₀ _ none Set.univ K) rfl rfl
    | 1 => step_wait m c (kept 3) O rfl (by rw [lvS_kept]; exact hO) (fun K => wpE_waitDma2_eq 𝒱₀ _ none Set.univ K) rfl rfl
    | 2 => step_wait m c (kept 3) O rfl (by rw [lvS_kept]; exact hO) (fun K => wpE_waitDma2_eq 𝒱₀ _ none Set.univ K) rfl rfl
    | 3 => step_wait m c (kept 3) O rfl (by rw [lvS_kept]; exact hO) (fun K => wpE_waitDma2_eq 𝒱₀ _ none Set.univ K) rfl rfl

theorem runs_waitSent : ∀ (a q : Fin 4) (_ : q ≠ chip c), Runs (defs₀ (F := F)) 𝒱₀ c (awaits m c (sent a q) 0) (waitSent c a q) (awaited m c (sent a q) 0)
  | 0 => fun
    | 0 => fun h => step_wait m c (sent 0 0) 0 (used_sent (F := F) m (a := 0) h) (above_zero _ _) (fun K => wpE_waitDma2_eq 𝒱₀ _ none Set.univ K) rfl rfl
    | 1 => fun h => step_wait m c (sent 0 1) 0 (used_sent (F := F) m (a := 0) h) (above_zero _ _) (fun K => wpE_waitDma2_eq 𝒱₀ _ none Set.univ K) rfl rfl
    | 2 => fun h => step_wait m c (sent 0 2) 0 (used_sent (F := F) m (a := 0) h) (above_zero _ _) (fun K => wpE_waitDma2_eq 𝒱₀ _ none Set.univ K) rfl rfl
    | 3 => fun h => step_wait m c (sent 0 3) 0 (used_sent (F := F) m (a := 0) h) (above_zero _ _) (fun K => wpE_waitDma2_eq 𝒱₀ _ none Set.univ K) rfl rfl
  | 1 => fun
    | 0 => fun h => step_wait m c (sent 1 0) 0 (used_sent (F := F) m (a := 1) h) (above_zero _ _) (fun K => wpE_waitDma2_eq 𝒱₀ _ none Set.univ K) rfl rfl
    | 1 => fun h => step_wait m c (sent 1 1) 0 (used_sent (F := F) m (a := 1) h) (above_zero _ _) (fun K => wpE_waitDma2_eq 𝒱₀ _ none Set.univ K) rfl rfl
    | 2 => fun h => step_wait m c (sent 1 2) 0 (used_sent (F := F) m (a := 1) h) (above_zero _ _) (fun K => wpE_waitDma2_eq 𝒱₀ _ none Set.univ K) rfl rfl
    | 3 => fun h => step_wait m c (sent 1 3) 0 (used_sent (F := F) m (a := 1) h) (above_zero _ _) (fun K => wpE_waitDma2_eq 𝒱₀ _ none Set.univ K) rfl rfl
  | 2 => fun
    | 0 => fun h => step_wait m c (sent 2 0) 0 (used_sent (F := F) m (a := 2) h) (above_zero _ _) (fun K => wpE_waitDma2_eq 𝒱₀ _ none Set.univ K) rfl rfl
    | 1 => fun h => step_wait m c (sent 2 1) 0 (used_sent (F := F) m (a := 2) h) (above_zero _ _) (fun K => wpE_waitDma2_eq 𝒱₀ _ none Set.univ K) rfl rfl
    | 2 => fun h => step_wait m c (sent 2 2) 0 (used_sent (F := F) m (a := 2) h) (above_zero _ _) (fun K => wpE_waitDma2_eq 𝒱₀ _ none Set.univ K) rfl rfl
    | 3 => fun h => step_wait m c (sent 2 3) 0 (used_sent (F := F) m (a := 2) h) (above_zero _ _) (fun K => wpE_waitDma2_eq 𝒱₀ _ none Set.univ K) rfl rfl
  | 3 => fun
    | 0 => fun h => step_wait m c (sent 3 0) 0 (used_sent (F := F) m (a := 3) h) (above_zero _ _) (fun K => wpE_waitDma2_eq 𝒱₀ _ none Set.univ K) rfl rfl
    | 1 => fun h => step_wait m c (sent 3 1) 0 (used_sent (F := F) m (a := 3) h) (above_zero _ _) (fun K => wpE_waitDma2_eq 𝒱₀ _ none Set.univ K) rfl rfl
    | 2 => fun h => step_wait m c (sent 3 2) 0 (used_sent (F := F) m (a := 3) h) (above_zero _ _) (fun K => wpE_waitDma2_eq 𝒱₀ _ none Set.univ K) rfl rfl
    | 3 => fun h => step_wait m c (sent 3 3) 0 (used_sent (F := F) m (a := 3) h) (above_zero _ _) (fun K => wpE_waitDma2_eq 𝒱₀ _ none Set.univ K) rfl rfl

theorem runs_waitCame : ∀ (a q : Fin 4) (_ : q ≠ chip c), Runs (defs₀ (F := F)) 𝒱₀ c (awaits m c (came a q) 0) (waitCame c a q) (awaited m c (came a q) 0)
  | 0 => fun
    | 0 => fun h => step_wait m c (came 0 0) 0 (used_came (F := F) m (a := 0) h) (above_zero _ _) (fun K => wpE_waitDma2_eq 𝒱₀ _ none Set.univ K) rfl rfl
    | 1 => fun h => step_wait m c (came 0 1) 0 (used_came (F := F) m (a := 0) h) (above_zero _ _) (fun K => wpE_waitDma2_eq 𝒱₀ _ none Set.univ K) rfl rfl
    | 2 => fun h => step_wait m c (came 0 2) 0 (used_came (F := F) m (a := 0) h) (above_zero _ _) (fun K => wpE_waitDma2_eq 𝒱₀ _ none Set.univ K) rfl rfl
    | 3 => fun h => step_wait m c (came 0 3) 0 (used_came (F := F) m (a := 0) h) (above_zero _ _) (fun K => wpE_waitDma2_eq 𝒱₀ _ none Set.univ K) rfl rfl
  | 1 => fun
    | 0 => fun h => step_wait m c (came 1 0) 0 (used_came (F := F) m (a := 1) h) (above_zero _ _) (fun K => wpE_waitDma2_eq 𝒱₀ _ none Set.univ K) rfl rfl
    | 1 => fun h => step_wait m c (came 1 1) 0 (used_came (F := F) m (a := 1) h) (above_zero _ _) (fun K => wpE_waitDma2_eq 𝒱₀ _ none Set.univ K) rfl rfl
    | 2 => fun h => step_wait m c (came 1 2) 0 (used_came (F := F) m (a := 1) h) (above_zero _ _) (fun K => wpE_waitDma2_eq 𝒱₀ _ none Set.univ K) rfl rfl
    | 3 => fun h => step_wait m c (came 1 3) 0 (used_came (F := F) m (a := 1) h) (above_zero _ _) (fun K => wpE_waitDma2_eq 𝒱₀ _ none Set.univ K) rfl rfl
  | 2 => fun
    | 0 => fun h => step_wait m c (came 2 0) 0 (used_came (F := F) m (a := 2) h) (above_zero _ _) (fun K => wpE_waitDma2_eq 𝒱₀ _ none Set.univ K) rfl rfl
    | 1 => fun h => step_wait m c (came 2 1) 0 (used_came (F := F) m (a := 2) h) (above_zero _ _) (fun K => wpE_waitDma2_eq 𝒱₀ _ none Set.univ K) rfl rfl
    | 2 => fun h => step_wait m c (came 2 2) 0 (used_came (F := F) m (a := 2) h) (above_zero _ _) (fun K => wpE_waitDma2_eq 𝒱₀ _ none Set.univ K) rfl rfl
    | 3 => fun h => step_wait m c (came 2 3) 0 (used_came (F := F) m (a := 2) h) (above_zero _ _) (fun K => wpE_waitDma2_eq 𝒱₀ _ none Set.univ K) rfl rfl
  | 3 => fun
    | 0 => fun h => step_wait m c (came 3 0) 0 (used_came (F := F) m (a := 3) h) (above_zero _ _) (fun K => wpE_waitDma2_eq 𝒱₀ _ none Set.univ K) rfl rfl
    | 1 => fun h => step_wait m c (came 3 1) 0 (used_came (F := F) m (a := 3) h) (above_zero _ _) (fun K => wpE_waitDma2_eq 𝒱₀ _ none Set.univ K) rfl rfl
    | 2 => fun h => step_wait m c (came 3 2) 0 (used_came (F := F) m (a := 3) h) (above_zero _ _) (fun K => wpE_waitDma2_eq 𝒱₀ _ none Set.univ K) rfl rfl
    | 3 => fun h => step_wait m c (came 3 3) 0 (used_came (F := F) m (a := 3) h) (above_zero _ _) (fun K => wpE_waitDma2_eq 𝒱₀ _ none Set.univ K) rfl rfl

end Cert.ChipsIdeal.Chips
-- ==== Proof.ChipsBody.lean ====
/-
# The reduce-scatter among the chips: one device's body

Every block is sent, or copied at home and waited for; then the sends and the arrivals are waited for.
-/
module

public import proofs.«01_k».proof.Proof.ChipsSteps
public import proofs.«01_k».proof.Proof.Exchange

@[expose] public section

noncomputable section

namespace Cert.ChipsIdeal.Chips

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Blocks
open Cert.ChipsIdeal Cert.ChipsIdeal.Gen

set_option Elab.async false

variable {F : FTy → Type} [FloatOps F]

local notation "𝕄" => MT nD τ sig Unit (Elt F) ℕ UU ℕ

variable (m : (ℓ : Loc nD τ sig) → Buf (Elt F) ℓ)

/-! ## Sorting what is held -/

theorem sums {A B : Type} [Fintype A] [Fintype B] (Φ : A ⊕ B → sProp 𝕄) : bigSep Finset.univ Φ
    = iprop((bigSep Finset.univ fun a => Φ (.inl a)) ∗ bigSep Finset.univ fun b => Φ (.inr b)) := bigSep_univ_sum Φ

theorem three (Φ : J → sProp 𝕄) : bigSep Finset.univ Φ
    = iprop((bigSep Finset.univ fun x : Fin 4 × Fin 4 => Φ (sent x.1 x.2)) ∗ (bigSep Finset.univ fun x : Fin 4 × Fin 4 => Φ (came x.1 x.2))
      ∗ bigSep Finset.univ fun a => Φ (kept a)) := by
  rw [sums, sums]

/-- What is held for a gradient, at the block of the device's own chip. -/
def here (c : Dev nD) (Φ : Fin 4 → sProp 𝕄) (x : Fin 4 × Fin 4) : sProp 𝕄 := if x.2 = chip c then Φ x.1 else iprop(emp)

theorem here_own (c : Dev nD) (Φ : Fin 4 → sProp 𝕄) (a : Fin 4) : here c Φ (a, chip c) = Φ a := if_pos rfl
theorem here_other {c : Dev nD} (Φ : Fin 4 → sProp 𝕄) (a : Fin 4) {q : Fin 4} (h : q ≠ chip c) : here c Φ (a, q) = iprop(emp) := if_neg h

theorem here_all (c : Dev nD) (Φ : Fin 4 → sProp 𝕄) : bigSep Finset.univ (here c Φ) = bigSep Finset.univ Φ := by
  rw [bigSep_univ_prod (Φ := here c Φ)]
  exact bigSep_congr fun a _ => by
    show bigSep Finset.univ (fun q => if q = chip c then Φ a else iprop(emp)) = Φ a
    refine (bigSep_filter Finset.univ (· = chip c) fun _ => Φ a).symm.trans ?_
    rw [Finset.filter_eq', if_pos (Finset.mem_univ _), bigSep_singleton]

/-! ## What each stage takes and leaves -/

/-- For a block to leave: itself, the place it goes to, and the rights. -/
def ready (c : Dev nD) (x : Fin 4 × Fin 4) : sProp 𝕄 :=
  iprop(srcPart m c x.1 x.2 ∗ (∃ f, outPart (peer x.2 c) x.1 (chip c) f) ∗ (plan m).tok ER c (sent x.1 x.2)
    ∗ (plan m).tok ER (peer x.2 c) (came x.1 (chip c)) ∗ here c (fun a => (plan m).tok ER c (kept a)) x)
def takes (c : Dev nD) (x : Fin 4 × Fin 4) : sProp 𝕄 := iprop(ready m c x ∗ here c (fun a => (plan m).place ER c (kept a)) x)
/-- What has left: a copy at home has landed, a send is still to be waited for. -/
def left (c : Dev nD) (x : Fin 4 × Fin 4) : sProp 𝕄 := if x.2 = chip c then (plan m).pay c (kept x.1) else (plan m).crd c (sent x.1 x.2)
def leaves (c : Dev nD) (x : Fin 4 × Fin 4) : sProp 𝕄 := iprop(left m c x ∗ here c (fun a => (plan m).over ER c (kept a)) x)
/-- The waits of `x` take -/
def pend (c : Dev nD) (x : Fin 4 × Fin 4) : sProp 𝕄 :=
  iprop(left m c x ∗ cred ((plan m).due c (came x.1 x.2)) ∗ (plan m).place ER c (sent x.1 x.2) ∗ (plan m).place ER c (came x.1 x.2))
/-- and leave the block that left and the block that came. -/
def ends (c : Dev nD) (x : Fin 4 × Fin 4) : sProp 𝕄 := iprop(outPart c x.1 x.2 (want m c x.1) ∗ srcPart m c x.1 x.2)
def done (c : Dev nD) (x : Fin 4 × Fin 4) : sProp 𝕄 := iprop(ends m c x ∗ (plan m).over ER c (sent x.1 x.2) ∗ (plan m).over ER c (came x.1 x.2))

theorem left_own (c : Dev nD) (a : Fin 4) : left m c (a, chip c) = (plan m).pay c (kept a) := if_pos rfl
theorem left_other {c : Dev nD} (a : Fin 4) {q : Fin 4} (h : q ≠ chip c) : left m c (a, q) = (plan m).crd c (sent a q) := if_neg h

theorem due_own (c : Dev nD) (a : Fin 4) : (plan (F := F) m).due c (came a (chip c)) = (0 : CellTallies nD τ sig Unit) := by
  unfold Plan.due
  rw [idle_came]
  rfl

theorem stage_issue (c : Dev nD) (x : Fin 4 × Fin 4) (O : CellTallies nD τ sig Unit) (hO : Above lvS 0 O) :
    Runs (defs₀ (F := F)) 𝒱₀ c iprop(((plan m).knows ER ∗ levAts Lall (lvOf lvS)) ∗ takes m c x ∗ owing c (O + (plan m).due (peer x.2 c) (came x.1 (chip c))))
      (issue c x) iprop(leaves m c x ∗ owing c O) := by
  obtain ⟨a, q⟩ := x
  unfold issue takes ready leaves
  dsimp only
  by_cases hs : isSent c a q
  · have hq := (isSent_iff c a q).mp hs
    rw [dif_pos hs, left_other m a hq]
    simp only [here_other (h := hq)]
    unfold Runs
    iintro ⟨⟨#HK, #HL⟩, ⟨⟨Hs, ⟨%f, Ho⟩, Ht, Ht', He⟩, Hp⟩, HO⟩
    have h' := ((runs_send' m c O a q hs f).frame iprop(emp)).mono (A' := _) (B' := iprop(((plan m).crd c (sent a q) ∗ emp) ∗ owing c O)) Entails.rfl (by
      iintro ⟨⟨Hc, HO⟩, He⟩
      isplitr [HO]
      · isplitl [Hc] <;> iassumption
      · iexact HO)
    unfold Runs at h'
    iapply h'
    isplitr [He]
    · isplitr; · iexact HK
      isplitl [Hs]; · iexact Hs
      isplitl [Ho]; · iexact Ho
      isplitl [Ht]; · iexact Ht
      isplitl [Ht'] <;> iassumption
    · iexact He
  · have hq : q = chip c := by
      by_contra h
      exact hs ((isSent_iff c a q).mpr h)
    subst hq
    rw [dif_neg hs, left_own, here_own, here_own, here_own, peer_chip, due_own, add_zero]
    unfold Runs
    iintro ⟨⟨#HK, #HL⟩, ⟨⟨Hs, ⟨%f, Ho⟩, Ht, Ht', Hk⟩, Hp⟩, HO⟩
    have h1 := (runs_home m c a (chip c) rfl f).frame iprop((plan m).knows ER ∗ levAts Lall (lvOf lvS) ∗ (plan m).place ER c (kept a) ∗ owing c O)
    have h2 := runs_waitHome m c O hO a (chip c)
    have h := Runs.bind h1 (h2.mono (A' := _) (B' := iprop(((plan m).pay c (kept a) ∗ (plan m).over ER c (kept a)) ∗ owing c O)) (by
      unfold awaits
      iintro ⟨Hc, HK, HL, Hp, HO⟩
      isplitl [HK]; · iexact HK
      isplitl [HL]; · iexact HL
      isplitl [Hc]; · iexact Hc
      isplitl [Hp] <;> iassumption) (by
      unfold awaited
      iintro ⟨Hy, Hv, HO⟩
      isplitr [HO]
      · isplitl [Hy] <;> iassumption
      · iexact HO))
    unfold Runs at h
    iapply h
    isplitl [Hs Ho Hk]
    · isplitr; · iexact HK
      isplitl [Hs]; · iexact Hs
      isplitl [Ho] <;> iassumption
    isplitr; · iexact HK
    isplitr; · iexact HL
    isplitl [Hp] <;> iassumption

theorem stage_await (c : Dev nD) (x : Fin 4 × Fin 4) :
    Runs (defs₀ (F := F)) 𝒱₀ c iprop(((plan m).knows ER ∗ levAts Lall (lvOf lvS)) ∗ pend m c x ∗ owing c 0) (await c x)
      iprop(done m c x ∗ owing c 0) := by
  obtain ⟨a, q⟩ := x
  unfold await pend done ends
  dsimp only
  by_cases hs : isSent c a q
  · have hq := (isSent_iff c a q).mp hs
    have hc : (cred ((plan m).due c (came a q)) : sProp 𝕄) = (plan m).crd c (came a q) := cred_due (plan m) (used_came m hq)
    rw [if_pos hs, left_other m a hq, hc]
    have h1 := (runs_waitSent m c a q hq).frame iprop(((plan m).knows ER ∗ levAts Lall (lvOf lvS)) ∗ (plan m).crd c (came a q) ∗ (plan m).place ER c (came a q))
    have h2 := (runs_waitCame m c a q hq).frame iprop((plan m).pay c (sent a q) ∗ (plan m).over ER c (sent a q))
    refine (Runs.bind h1 (h2.mono (A' := _) (B' := _) ?_ ?_)).mono ?_ Entails.rfl
    · unfold awaits awaited
      iintro ⟨⟨Y, V, HO⟩, ⟨HK, HL⟩, Hc, Hp⟩
      isplitr [Y V]
      · isplitl [HK]; · iexact HK
        isplitl [HL]; · iexact HL
        isplitl [Hc]; · iexact Hc
        isplitl [Hp] <;> iassumption
      · isplitl [Y] <;> iassumption
    · unfold awaited
      show iprop((outPart c a q (want m c a) ∗ _) ∗ srcPart m c a q ∗ _) ⊢ _
      iintro ⟨⟨Y', V', HO⟩, Y, V⟩
      isplitr [HO]
      · isplitl [Y Y']
        · isplitl [Y'] <;> iassumption
        · isplitl [V] <;> iassumption
      · iexact HO
    · unfold awaits
      iintro ⟨⟨#HK, #HL⟩, ⟨H, H', P, P'⟩, HO⟩
      isplitl [H P HO]
      · isplitr; · iexact HK
        isplitr; · iexact HL
        isplitl [H]; · iexact H
        isplitl [P] <;> iassumption
      isplitr
      · isplitr; · iexact HK
        iexact HL
      isplitl [H'] <;> iassumption
  · have hq : q = chip c := by
      by_contra h
      exact hs ((isSent_iff c a q).mpr h)
    subst hq
    rw [if_neg hs, left_own, Plan.over_idle (plan m) ER (idle_sent m c a), Plan.over_idle (plan m) ER (idle_came m c a)]
    refine Runs.ret.mono (A' := _) (B' := _) ?_ Entails.rfl
    show iprop(_ ∗ ((outPart c a (chip c) (want m c a) ∗ srcPart m c a (chip c)) ∗ _) ∗ _) ⊢ _
    iintro ⟨⟨HK, HL⟩, ⟨⟨Ho, Hs⟩, Hc, P, P'⟩, HO⟩
    isplitr [HO]
    · isplitl [Ho Hs]
      · isplitl [Ho] <;> iassumption
      · isplitl [P] <;> iassumption
    · iexact HO

/-! ## The body -/

def lands (x : Fin 4 × Fin 4) : J := came x.1 x.2
/-- The arrivals: who sends them. -/
def goes (k : Dev nD × (Fin 4 × Fin 4)) : Dev nD × (Fin 4 × Fin 4) := (peer k.2.2 k.1, (k.2.1, chip k.1))
theorem goes_goes (k : Dev nD × (Fin 4 × Fin 4)) : goes (goes k) = k := by
  obtain ⟨c, a, q⟩ := k
  exact Prod.ext (peer_peer q c) (Prod.ext rfl (chip_peer q c))
def arrivals : Dev nD × (Fin 4 × Fin 4) ≃ Dev nD × (Fin 4 × Fin 4) := ⟨goes, goes, goes_goes, goes_goes⟩

def H (c : Dev nD) : sProp 𝕄 := bigSep Finset.univ (ready m c)
def H' (c : Dev nD) : sProp 𝕄 := bigSep Finset.univ (ends m c)

theorem at_device (c : Dev nD) (k : Dev nD → Op F) {A : sProp 𝕄} {B : sProp 𝕄}
    (h : A ⊢ wp frame (wpE (defs₀ (F := F)) 𝒱₀ (c.tc : Thread nD τ) none) Set.univ (k c) fun _ => B) :
    A ⊢ wp frame (wpE (defs₀ (F := F)) 𝒱₀ (c.tc : Thread nD τ) none) Set.univ (.op .deviceId k) fun _ => B := by
  rw [wp_deviceId]; exact h

set_option maxHeartbeats 1000000 in
theorem all_stages (c : Dev nD) :
    Runs (defs₀ (F := F)) 𝒱₀ c
      iprop(((plan m).knows ER ∗ levAts Lall (lvOf lvS)) ∗ H m c ∗ (bigSep Finset.univ fun x => cred ((plan m).due c (lands x)))
        ∗ (bigSep Finset.univ fun j => (plan m).place ER c j) ∗ owing c (dues (plan m) lands arrivals c))
      ((seq (pairs.map (issue c))).bind fun _ => seq (pairs.map (await c)))
      iprop((bigSep Finset.univ (done m c) ∗ owing c 0) ∗ (plan m).knows ER ∗ bigSep Finset.univ fun a => (plan m).over ER c (kept a)) := by
  have h1 := loop (𝔻 := defs₀ (F := F)) (𝒱 := 𝒱₀) pairs (by decide) (by decide) c iprop((plan m).knows ER ∗ levAts Lall (lvOf lvS)) (Above lvS 0) (fun _ _ => above_add) (issue c)
    (takes m c) (leaves m c) (fun x => (plan m).due (peer x.2 c) (came x.1 (chip c))) 0 (above_zero _ _)
    (fun x => above_due (plan m) (c := peer x.2 c) (j := came x.1 (chip c)) (by show 0 < lvS (.dma (osem (came x.1 (chip c)))); rw [lvS_came]; exact Nat.one_pos))
    (fun x X hX => stage_issue m c x X hX)
  have h2 := loop (𝔻 := defs₀ (F := F)) (𝒱 := 𝒱₀) pairs (by decide) (by decide) c iprop((plan m).knows ER ∗ levAts Lall (lvOf lvS)) (fun X => X = 0) (fun X Y hX hY => by rw [hX, hY, add_zero])
    (await c) (pend m c) (done m c) (fun _ => 0) 0 rfl (fun _ => rfl) (fun x X hX => by
      subst hX
      have h := stage_await m c x
      rwa [show (0 : CellTallies nD τ sig Unit) + 0 = 0 from add_zero 0])
  rw [zero_add] at h1
  rw [Finset.sum_const_zero, add_zero] at h2
  have ht : bigSep Finset.univ (takes m c) = iprop(H m c ∗ bigSep Finset.univ fun a => (plan m).place ER c (kept a)) := by
    rw [show takes m c = fun x => iprop(ready m c x ∗ here c (fun a => (plan m).place ER c (kept a)) x) from rfl, bigSep_sep', here_all]
    rfl
  have hl : bigSep Finset.univ (leaves m c) = iprop(bigSep Finset.univ (left m c) ∗ bigSep Finset.univ fun a => (plan m).over ER c (kept a)) := by
    rw [show leaves m c = fun x => iprop(left m c x ∗ here c (fun a => (plan m).over ER c (kept a)) x) from rfl, bigSep_sep', here_all]
  have hp : bigSep Finset.univ (pend m c) = iprop(bigSep Finset.univ (left m c) ∗ (bigSep Finset.univ fun x => cred ((plan m).due c (lands x)))
      ∗ (bigSep Finset.univ fun x : Fin 4 × Fin 4 => (plan m).place ER c (sent x.1 x.2)) ∗ bigSep Finset.univ fun x : Fin 4 × Fin 4 => (plan m).place ER c (came x.1 x.2)) :=
    Cert.Exchange.sep4 Finset.univ (left m c) (fun x => cred ((plan m).due c (lands x))) (fun x : Fin 4 × Fin 4 => (plan m).place ER c (sent x.1 x.2))
      (fun x : Fin 4 × Fin 4 => (plan m).place ER c (came x.1 x.2))
  refine (Runs.bind (h1.frame iprop(((plan m).knows ER ∗ levAts Lall (lvOf lvS)) ∗ (bigSep Finset.univ fun x => cred ((plan m).due c (lands x)))
      ∗ (bigSep Finset.univ fun x : Fin 4 × Fin 4 => (plan m).place ER c (sent x.1 x.2)) ∗ bigSep Finset.univ fun x : Fin 4 × Fin 4 => (plan m).place ER c (came x.1 x.2)))
    ((h2.frame iprop((plan m).knows ER ∗ bigSep Finset.univ fun a => (plan m).over ER c (kept a))).mono (A' := _) (B' := _) ?_ Entails.rfl)).mono (A' := _) (B' := _) ?_ Entails.rfl
  · rw [hl, hp]
    show iprop(_) ⊢ _
    iintro ⟨⟨⟨HL', HV⟩, HO⟩, ⟨#HK, #HL⟩, HC, P, P'⟩
    isplitr [HV]
    · isplitr
      · isplitr; · iexact HK
        iexact HL
      isplitr [HO]
      · isplitl [HL']; · iexact HL'
        isplitl [HC]; · iexact HC
        isplitl [P]; · iexact P
        iexact P'
      · iexact HO
    · isplitr; · iexact HK
      iexact HV
  · rw [ht, three fun j => (plan m).place ER c j]
    show iprop(_) ⊢ _
    iintro ⟨⟨#HK, #HL⟩, HH, HC, ⟨P, P', Pk⟩, HO⟩
    isplitl [HH Pk HO]
    · isplitr
      · isplitr; · iexact HK
        iexact HL
      isplitl [HH Pk]
      · isplitl [HH]; · iexact HH
        iexact Pk
      · iexact HO
    isplitr
    · isplitr; · iexact HK
      iexact HL
    isplitl [HC]; · iexact HC
    isplitl [P]; · iexact P
    iexact P'

theorem body (c : Dev nD) (t : Fin cfg0.N) :
    iprop(Cert.Exchange.enter (plan m) lands lvS (H m) c ∗ owing c (dues (plan m) lands arrivals c))
      ⊢ wp frame (wpE (defs₀ (F := F)) 𝒱₀ (c.tc : Thread nD τ) none) Set.univ (bodyAt0 t)
        fun _ => iprop((plan m).knows ER ∗ H' m c ∗ (bigSep Finset.univ fun j => (plan m).over ER c j) ∗ owing c 0) := by
  obtain ⟨k, hk, hd⟩ := body_eq (F := F) t
  rw [hk]
  refine at_device c k ?_
  rw [hd c]
  have ht := all_stages m c
  unfold Runs at ht
  generalize pairs = l at ht ⊢
  refine BIBase.Entails.trans ?_ (BIBase.Entails.trans ht (wp_mono _ _ _ fun _ => ?_))
  · unfold Cert.Exchange.enter
    iintro ⟨⟨HK, HL, HH, HC, Hp⟩, HO⟩
    isplitl [HK HL]
    · isplitl [HK] <;> iassumption
    isplitl [HH]; · iexact HH
    isplitl [HC]; · iexact HC
    isplitl [Hp]; · iexact Hp
    iexact HO
  · have hl : bigSep Finset.univ (done m c) = iprop(bigSep Finset.univ (ends m c) ∗ (bigSep Finset.univ fun x : Fin 4 × Fin 4 => (plan m).over ER c (sent x.1 x.2))
        ∗ bigSep Finset.univ fun x : Fin 4 × Fin 4 => (plan m).over ER c (came x.1 x.2)) := by
      rw [show done m c = fun x => iprop(ends m c x ∗ (plan m).over ER c (sent x.1 x.2) ∗ (plan m).over ER c (came x.1 x.2)) from rfl, bigSep_sep', bigSep_sep']
    unfold H'
    rw [hl, three fun j => (plan m).over ER c j]
    show iprop(_) ⊢ _
    iintro ⟨⟨⟨HY, HV, HV'⟩, HO⟩, HK, HV''⟩
    isplitl [HK]; · iexact HK
    isplitl [HY]; · iexact HY
    isplitr [HO]
    · isplitl [HV]; · iexact HV
      isplitl [HV']; · iexact HV'
      iexact HV''
    · iexact HO

end Cert.ChipsIdeal.Chips
-- ==== Proof.ChipsRun.lean ====
/-
# The reduce-scatter among the chips: every device

At the launch the gradients and the results are cut into their blocks, and the blocks are dealt: device `c` gets the
places its blocks go to. At the end every result is whole again.
-/
module

public import proofs.«01_k».proof.Proof.ChipsBody
public import proofs.«01_k».proof.Proof.Gen.ChipsIdeal.Launch

@[expose] public section

noncomputable section

namespace Cert.ChipsIdeal.Chips

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.OneShot Cert.Blocks
open Cert.ChipsIdeal Cert.ChipsIdeal.Gen

set_option Elab.async false

variable {F : FTy → Type} [FloatOps F]

local notation "𝕄" => MT nD τ sig Unit (Elt F) ℕ UU ℕ

variable (m : (ℓ : Loc nD τ sig) → Buf (Elt F) ℓ)

/-! ## Cutting the arrays -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The blocks of a device's gradients, -/
def sources (c : Dev nD) : sProp 𝕄 := bigSep Finset.univ fun x : Fin 4 × Fin 4 => srcPart m c x.1 x.2
/-- and of its results, at contents `f`, -/
def results (c : Dev nD) (f : (a : Fin 4) → Buf (Elt F) ((out a).view.loc (c.tc : Thread nD τ))) : sProp 𝕄 :=
  bigSep Finset.univ fun x : Fin 4 × Fin 4 => outPart c x.1 x.2 (f x.1)
/-- at whatever contents. -/
def room (c : Dev nD) : sProp 𝕄 := bigSep Finset.univ fun x : Fin 4 × Fin 4 => iprop(∃ f, outPart c x.1 x.2 f)

theorem srcs (c : Dev nD) : (bigSep Finset.univ fun a : Fin 4 => ((src a).view.loc (c.tc : Thread nD τ) ↦[Finset.univ]{fullShare} given m c a : sProp 𝕄))
    = sources m c := by
  unfold sources
  rw [bigSep_univ_prod (Φ := fun x : Fin 4 × Fin 4 => srcPart m c x.1 x.2)]
  exact bigSep_congr fun a _ => whole3 (src a) (src_whole a) c fullShare (given m c a)

theorem outs (c : Dev nD) (f : (a : Fin 4) → Buf (Elt F) ((out a).view.loc (c.tc : Thread nD τ))) :
    (bigSep Finset.univ fun a : Fin 4 => ((out a).view.loc (c.tc : Thread nD τ) ↦[Finset.univ]{fullShare} f a : sProp 𝕄)) = results c f := by
  unfold results
  rw [bigSep_univ_prod (Φ := fun x : Fin 4 × Fin 4 => outPart c x.1 x.2 (f x.1))]
  exact bigSep_congr fun a _ => whole3 (out a) (out_whole a) c fullShare (f a)

/-! ## The deal -/

theorem exists_at {α : Type} (Φ : α → sProp 𝕄) (a : α) : Φ a ⊢ iprop(∃ f, Φ f) := by
  iintro H
  iexists a
  iexact H

def before (c : Dev nD) (a : Fin 4) : Buf (Elt F) ((out a).view.loc (c.tc : Thread nD τ)) := m _

theorem roomy (c : Dev nD) (f : (a : Fin 4) → Buf (Elt F) ((out a).view.loc (c.tc : Thread nD τ))) : results (F := F) c f ⊢ room c := by
  unfold results room
  exact bigSep_mono fun x _ => exists_at (fun f => outPart c x.1 x.2 f) (f x.1)

theorem arrays (c : Dev nD) : unscopedBufs c (fun b => m ((c.tc : Thread nD τ).loc b)) ⊢ (iprop(sources m c ∗ room c) : sProp 𝕄) := by
  have h1 := srcs m c
  have h2 := outs c (before m c)
  rw [four] at h1 h2
  rw [unscopedBufs_split₀ cfgs 0 winFacts0.arr_unscoped c]
  refine BIBase.Entails.trans (Cert.Start.drop_left _ _) ?_
  refine BIBase.Entails.trans (Entails.of_eq (unscopedRest0_eq c _)) ?_
  refine BIBase.Entails.trans (Q := iprop(sources m c ∗ results c (before m c))) ?_ (sep_mono_right (roomy c _))
  rw [← h1, ← h2]
  iintro ⟨H0, H1, H2, H3, G0, G1, G2, G3⟩
  isplitl [H0 H1 H2 H3]
  · isplitl [H0]; · iexact H0
    isplitl [H1]; · iexact H1
    isplitl [H2]; · iexact H2
    iexact H3
  · isplitl [G0]; · iexact G0
    isplitl [G1]; · iexact G1
    isplitl [G2]; · iexact G2
    iexact G3

/-- Over every device and block, what comes to a device is what its sender has. -/
theorem moved (Φ : Dev nD → Fin 4 → Fin 4 → sProp 𝕄) :
    (bigSep Finset.univ fun c : Dev nD => bigSep Finset.univ fun x : Fin 4 × Fin 4 => Φ c x.1 x.2)
      = bigSep Finset.univ fun c : Dev nD => bigSep Finset.univ fun x : Fin 4 × Fin 4 => Φ (peer x.2 c) x.1 (chip c) := by
  rw [← bigSep_univ_prod (Φ := fun k : Dev nD × (Fin 4 × Fin 4) => Φ k.1 k.2.1 k.2.2),
    ← bigSep_univ_prod (Φ := fun k : Dev nD × (Fin 4 × Fin 4) => Φ (peer k.2.2 k.1) k.2.1 (chip k.1)),
    bigSep_univ_equiv arrivals]
  rfl

theorem deal : iprop((bigSep Finset.univ fun c : Dev nD => unscopedBufs c (fun b => m ((c.tc : Thread nD τ).loc b)))
      ∗ bigSep Finset.univ fun k : Dev nD × J => (plan (F := F) m).tok ER k.1 k.2) ⊢ bigSep Finset.univ (H m) := by
  refine BIBase.Entails.trans (sep_mono_left (bigSep_mono fun c _ => arrays m c)) ?_
  have toks : (bigSep Finset.univ fun k : Dev nD × J => (plan (F := F) m).tok ER k.1 k.2)
      = iprop((bigSep Finset.univ fun c : Dev nD => bigSep Finset.univ fun x : Fin 4 × Fin 4 => (plan (F := F) m).tok ER c (sent x.1 x.2))
        ∗ (bigSep Finset.univ fun c : Dev nD => bigSep Finset.univ fun x : Fin 4 × Fin 4 => (plan (F := F) m).tok ER c (came x.1 x.2))
        ∗ bigSep Finset.univ fun c : Dev nD => bigSep Finset.univ fun a => (plan (F := F) m).tok ER c (kept a)) := by
    rw [bigSep_univ_prod (Φ := fun k : Dev nD × J => (plan (F := F) m).tok ER k.1 k.2),
      bigSep_congr (fun c _ => three fun j => (plan (F := F) m).tok ER c j), bigSep_sep', bigSep_sep']
  have tail (c : Dev nD) : H m c = iprop(sources m c ∗ (bigSep Finset.univ fun x : Fin 4 × Fin 4 => iprop(∃ f, outPart (peer x.2 c) x.1 (chip c) f))
      ∗ (bigSep Finset.univ fun x : Fin 4 × Fin 4 => (plan m).tok ER c (sent x.1 x.2))
      ∗ (bigSep Finset.univ fun x : Fin 4 × Fin 4 => (plan m).tok ER (peer x.2 c) (came x.1 (chip c)))
      ∗ bigSep Finset.univ fun a => (plan m).tok ER c (kept a)) := by
    unfold H sources
    rw [← here_all c fun a => (plan m).tok ER c (kept a)]
    exact Cert.Exchange.sep5 Finset.univ (fun x : Fin 4 × Fin 4 => srcPart m c x.1 x.2) (fun x : Fin 4 × Fin 4 => iprop(∃ f, outPart (peer x.2 c) x.1 (chip c) f))
      (fun x : Fin 4 × Fin 4 => (plan m).tok ER c (sent x.1 x.2)) (fun x : Fin 4 × Fin 4 => (plan m).tok ER (peer x.2 c) (came x.1 (chip c)))
      (here c fun a => (plan m).tok ER c (kept a))
  have rooms : (bigSep Finset.univ fun c : Dev nD => room (F := F) c)
      = bigSep Finset.univ fun c : Dev nD => bigSep Finset.univ fun x : Fin 4 × Fin 4 => iprop(∃ f, outPart (F := F) (peer x.2 c) x.1 (chip c) f) :=
    moved fun c a q => iprop(∃ f, outPart c a q f)
  rw [toks, bigSep_congr (Ψ := H m) (fun c _ => rfl), bigSep_congr (fun c _ => tail c), moved fun c a q => (plan (F := F) m).tok ER c (came a q),
    bigSep_sep', rooms, Cert.Exchange.sep5]
  show iprop(_) ⊢ _
  iintro ⟨⟨HS, HR⟩, T0, T1, T2⟩
  isplitl [HS]; · iexact HS
  isplitl [HR]; · iexact HR
  isplitl [T0]; · iexact T0
  isplitl [T1]; · iexact T1
  iexact T2

/-! ## The end -/

/-- What memory holds at the end: the gradients as they were, the results gathered. -/
def QY (c : Dev nD) (s : MemSt nD τ sig (Elt F)) : Prop :=
  ∀ a : Fin 4, s.mem ((src a).view.loc (c.tc : Thread nD τ)) = given m c a ∧ s.mem ((out a).view.loc (c.tc : Thread nD τ)) = want m c a

theorem swap (A B : sProp 𝕄) : iprop(A ∗ B) = iprop(B ∗ A) := by
  have h (A B : sProp 𝕄) : iprop(A ∗ B) ⊢ iprop(B ∗ A) := by
    iintro ⟨A, B⟩
    isplitl [B] <;> iassumption
  exact BI.equiv_iff.mp ⟨h A B, h B A⟩

theorem whole (c : Dev nD) : H' m c = iprop((bigSep Finset.univ fun a : Fin 4 => ((src a).view.loc (c.tc : Thread nD τ) ↦[Finset.univ]{fullShare} given m c a : sProp 𝕄))
    ∗ bigSep Finset.univ fun a : Fin 4 => ((out a).view.loc (c.tc : Thread nD τ) ↦[Finset.univ]{fullShare} want m c a : sProp 𝕄)) := by
  have h2 : H' m c = iprop(results c (want m c) ∗ sources m c) := bigSep_sep' _ _ _
  rw [srcs, outs, h2]
  exact swap _ _

theorem fin (c : Dev nD) (s' : Phys nD τ sig (Elt F)) : iprop(H' m c ∗ SI s') ⊢ |={Set.univ}=> (iprop(⌜QY m c s'.mem⌝ ∗ SI s') : sProp 𝕄) := by
  rw [whole, four, four]
  show iprop(_) ⊢ _
  iintro ⟨⟨⟨A0, A1, A2, A3⟩, B0, B1, B2, B3⟩, HSI⟩
  ihave %a0 := SI_pointsTo_agree $$ [HSI A0]
  · isplitl [HSI] <;> iassumption
  ihave %a1 := SI_pointsTo_agree $$ [HSI A1]
  · isplitl [HSI] <;> iassumption
  ihave %a2 := SI_pointsTo_agree $$ [HSI A2]
  · isplitl [HSI] <;> iassumption
  ihave %a3 := SI_pointsTo_agree $$ [HSI A3]
  · isplitl [HSI] <;> iassumption
  ihave %b0 := SI_pointsTo_agree $$ [HSI B0]
  · isplitl [HSI] <;> iassumption
  ihave %b1 := SI_pointsTo_agree $$ [HSI B1]
  · isplitl [HSI] <;> iassumption
  ihave %b2 := SI_pointsTo_agree $$ [HSI B2]
  · isplitl [HSI] <;> iassumption
  ihave %b3 := SI_pointsTo_agree $$ [HSI B3]
  · isplitl [HSI] <;> iassumption
  imodintro
  isplitr
  · ipureintro
    intro a
    match a with
    | 0 => exact ⟨funext fun i => a0 i (Finset.mem_univ i), funext fun i => b0 i (Finset.mem_univ i)⟩
    | 1 => exact ⟨funext fun i => a1 i (Finset.mem_univ i), funext fun i => b1 i (Finset.mem_univ i)⟩
    | 2 => exact ⟨funext fun i => a2 i (Finset.mem_univ i), funext fun i => b2 i (Finset.mem_univ i)⟩
    | 3 => exact ⟨funext fun i => a3 i (Finset.mem_univ i), funext fun i => b3 i (Finset.mem_univ i)⟩
  · iexact HSI

theorem ownSemFacts : OwnSemFacts cfg0.spec (fun j : J => (.dma (osem j) : SemLoc sig)) where
  isScoped := by decide
  inj := fun _ _ h => osem_inj (by injection h)
  disj := fun _ w => w.elim0

theorem points : (cfgs 0).N = 1 := by decide

set_option maxRecDepth 16000 in
theorem run_main (ρ : Dev nD → PrngReg) :
    θ_run (defs (F := F)) (onTc (τ := τ) (main (F := F))) ⟨m, fun _ => 0, ρ⟩ (fun r => (∀ c, QY m c r.2) ∧ r.2.sem = fun _ => 0) :=
  Cert.Exchange.run_exchange cfgs defs₀ (plan m) lands arrivals lvS (H m) (H' m)
    rfl points cellOf_inj winFacts0 stage_whole0 ownSemFacts (fun c => scopedRest0_eq c) m ρ main (fun _ => rfl) (deal m)
    𝒱₀ (body m) (QY m) (fin m) (fun s h hs => ⟨h, sem_eq_zero_of_scoped (by decide) hs⟩)

end Cert.ChipsIdeal.Chips
-- ==== Proof.ChipsValue.lean ====
/-
# What the plain exchange of the chip sums holds

The reference reads the eight devices' parts as chip, core, chip the part is for, exchanges the two chips, and lays the
devices side by side again.
-/
module

public import proofs.«01_k».proof.Proof.PairValue

@[expose] public section

noncomputable section

namespace Cert.Blocks

open Idealize.ShloMosaic Idealize.ShloMosaic.ValueIdx

variable {α : Type} {R C : ℕ}

/-- From chip, core, to chip; row, column. -/
abbrev S5 (R C : ℕ) : Shape := ⟨5, ![4, 2, 4, R, C]⟩

/-- The exchange at device `d`'s part `q`: the part for chip `d / 2` of the device of chip `q` with `d`'s core. -/
theorem crossed (v : (M3 32 R C).Idx → α) (h1 : (M3 32 R C).ShapeCasts (S5 R C)) (h2 : (S5 R C).Transposes [2, 1, 0, 3, 4] (S5 R C))
    (h3 : (S5 R C).ShapeCasts (M3 32 R C)) (d : Fin 8) (q : Fin 4) (i : Fin R) (j : Fin C)
    (x : Fin 32) (hx : x.val = 4 * d.val + q.val) (y : Fin 32) (hy : y.val = 4 * (2 * q.val + d.val % 2) + d.val / 2) :
    shapeCast (M3 32 R C) (transpose (S5 R C) [2, 1, 0, 3, 4] (shapeCast (S5 R C) v h1) h2) h3 (ix3 x i j) = v (ix3 y i j) := by
  have hd := d.isLt
  rw [shapeCast_apply _ h3 _ (ix5 (⟨d.val / 2, by omega⟩ : Fin 4) (⟨d.val % 2, by omega⟩ : Fin 2) q i j) (by
      rw [Shape.rowMajor_val_five, Shape.rowMajor_val_three]
      show ((((d.val / 2) * 2 + d.val % 2) * 4 + q.val) * R + i.val) * C + j.val = (x.val * R + i.val) * C + j.val
      rw [hx, show (d.val / 2) * 2 + d.val % 2 = d.val by omega, Nat.mul_comm d.val 4]),
    transpose_apply [2, 1, 0, 3, 4] _ h2 _ (ix5 q (⟨d.val % 2, by omega⟩ : Fin 2) (⟨d.val / 2, by omega⟩ : Fin 4) i j) (fun b => by
      match b with
      | ⟨0, _⟩ => rfl
      | ⟨1, _⟩ => rfl
      | ⟨2, _⟩ => rfl
      | ⟨3, _⟩ => rfl
      | ⟨4, _⟩ => rfl),
    shapeCast_apply _ h1 _ (ix3 y i j) (by
      rw [Shape.rowMajor_val_five, Shape.rowMajor_val_three]
      show (y.val * R + i.val) * C + j.val = ((((q.val * 2 + d.val % 2) * 4 + d.val / 2) * R + i.val) * C + j.val)
      rw [hy, show (q.val * 2 + d.val % 2) * 4 + d.val / 2 = 4 * (2 * q.val + d.val % 2) + d.val / 2 by omega])]

/-- Eight devices that each hold, at `q`, the part for their chip of chip `q`'s device, hold the exchange's blocks. -/
theorem crosses (v : (M3 32 R C).Idx → α) (h1 : (M3 32 R C).ShapeCasts (S5 R C)) (h2 : (S5 R C).Transposes [2, 1, 0, 3, 4] (S5 R C))
    (h3 : (S5 R C).ShapeCasts (M3 32 R C)) (h : Layout.Tiles (M3 4 R C) (M3 32 R C) 0 8) (c : Fin 8)
    (peer : Fin 4 → Fin 8) (hp : ∀ q, (peer q).val = 2 * q.val + c.val % 2) (chip : Fin 4) (hc : chip.val = c.val / 2) :
    (fun x : (M3 4 R C).Idx => Layout.block (M3 4 R C) (M3 32 R C) 0 8 (peer (x 0)) v h (ix3 chip (x 1) (x 2)))
      = Layout.block (M3 4 R C) (M3 32 R C) 0 8 c (shapeCast (M3 32 R C) (transpose (S5 R C) [2, 1, 0, 3, 4] (shapeCast (S5 R C) v h1) h2) h3) h := by
  funext x
  obtain ⟨q, i, j, rfl⟩ : ∃ (q : Fin 4) (i : Fin R) (j : Fin C), x = ix3 q i j := ⟨x 0, x 1, x 2, eq_ix3 x⟩
  have hlt := c.isLt
  have hq := q.isLt
  rw [block3 (n := 4) _ h c q i j ⟨c.val * 4 + q.val, by omega⟩ rfl,
    crossed v h1 h2 h3 c q i j _ (by show c.val * 4 + q.val = _; omega) ⟨4 * (2 * q.val + c.val % 2) + c.val / 2, by omega⟩ rfl]
  exact block3 (n := 4) v h (peer q) chip i j _ (by rw [hp, hc]; show 4 * _ + _ = _ * 4 + _; omega)

end Cert.Blocks
-- ==== Proof.ChipsClaims.lean ====
/-
# The claims about the reduce-scatter among the chips
-/
module

public import proofs.«01_k».proof.Defs
public import proofs.«01_k».proof.Proof.Gen.Chips
public import proofs.«01_k».proof.Proof.Gen.ChipsRef
public import proofs.«01_k».proof.Proof.ChipsRun
public import proofs.«01_k».proof.Proof.ChipsValue
public import proofs.«01_k».proof.Proof.Gen.ChipsRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem Cert.Blocks Cert.ChipsIdeal.Chips

/-- The arguments of the reduce-scatter survive it, over the ideal values -/
theorem frame_ChipsIdeal : Cert.quiescent_ChipsIdeal := fun m ρ _ =>
  (θ_run Cert.ChipsIdeal.defs _ _).mono (fun _ h => ⟨fun c => ⟨(h.1 c 0).1, (h.1 c 1).1, (h.1 c 2).1, (h.1 c 3).1⟩, h.2⟩) (run_main m ρ)

/-- and over the words: the two programs are the same. -/
theorem frame_Chips : Cert.quiescent_Chips := fun m ρ _ =>
  (θ_run Cert.ChipsIdeal.defs _ _).mono (fun _ h => ⟨fun c => ⟨(h.1 c 0).1, (h.1 c 1).1, (h.1 c 2).1, (h.1 c 3).1⟩, h.2⟩) (run_main (F := Bits) m ρ)

/-- The reference leaves its arguments alone and has no semaphore. -/
theorem frame_ChipsRefIdeal : Cert.quiescent_ChipsRefIdeal := fun m ρ _ =>
  (θ_run Cert.ChipsRefIdeal.defs _ _).mono (fun r h => ⟨fun c => (h c).2.2.2.2, sem_eq_zero_of_no_sems rfl r.2⟩) (Cert.ChipsRefIdeal.Value.run m ρ)

/-- So over the words. -/
theorem frame_ChipsRef : Cert.quiescent_ChipsRef := fun m ρ _ =>
  (θ_run Cert.ChipsRefIdeal.defs _ _).mono (fun r h => ⟨fun c => (h c).2.2.2.2, sem_eq_zero_of_no_sems rfl r.2⟩) (Cert.ChipsRefIdeal.Value.run (F := Bits) m ρ)

/-- Nothing was rewritten. -/
theorem preserves_Chips : Cert.preserves_Chips_ChipsIdeal := trivial

/-- What device `c` gathers, as the block of the exchange of the whole gradient. -/
theorem crossed_eq {F : FTy → Type} [FloatOps F] (m : (ℓ : Loc Cert.ChipsIdeal.nD Cert.ChipsIdeal.τ Cert.ChipsIdeal.sig) → Buf (Elt F) ℓ) (a : Fin 4)
    (v : (M3 32 (rows a) (cols a)).Idx → Elt F .bf16) (h : Layout.Tiles (M3 4 (rows a) (cols a)) (M3 32 (rows a) (cols a)) 0 8)
    (hv : ∀ c, grad m c a = Layout.block (M3 4 (rows a) (cols a)) (M3 32 (rows a) (cols a)) 0 8 c v h)
    (h1 : (M3 32 (rows a) (cols a)).ShapeCasts (S5 (rows a) (cols a))) (h2 : (S5 (rows a) (cols a)).Transposes [2, 1, 0, 3, 4] (S5 (rows a) (cols a)))
    (h3 : (S5 (rows a) (cols a)).ShapeCasts (M3 32 (rows a) (cols a))) (c : Dev Cert.ChipsIdeal.nD) :
    gathered m c a = Layout.block (M3 4 (rows a) (cols a)) (M3 32 (rows a) (cols a)) 0 8 c
      (shapeCast (M3 32 (rows a) (cols a)) (transpose (S5 (rows a) (cols a)) [2, 1, 0, 3, 4] (shapeCast (S5 (rows a) (cols a)) v h1) h2) h3) h := by
  rw [← crosses v h1 h2 h3 h c (fun q => peer q c) (fun _ => rfl) (chip c) (by have := chip_val c; omega)]
  funext x
  exact congrFun (hv (peer (x 0) c)) _

/-- A result is a whole array, so what it is to hold is what the device gathers. -/
theorem held_eq {F : FTy → Type} [FloatOps F] (m : (ℓ : Loc Cert.ChipsIdeal.nD Cert.ChipsIdeal.τ Cert.ChipsIdeal.sig) → Buf (Elt F) ℓ) (c : Dev Cert.ChipsIdeal.nD) (a : Fin 4) :
    (out a).view.read (Elt F) (want m c a) = gathered m c a := (out_whole a).read_unread _

open Cert.ChipsRefIdeal.Gen in
/-- Device `c`'s results are the blocks of the reference's. -/
theorem algebraic_Chips : Cert.algebraic_ChipsIdeal_ChipsRefIdeal := fun m g m' g' _ hin => by
  refine ⟨_, _, _, _, ?_, (θ_run Cert.ChipsRefIdeal.defs _ _).mono (fun _ h => h 0) (Cert.ChipsRefIdeal.Value.run m' g')⟩
  refine (θ_run Cert.ChipsIdeal.defs _ _).mono (fun _ h c => ⟨
    ((h.1 c 0).2.trans (held_eq m c 0)).trans ?_, ((h.1 c 1).2.trans (held_eq m c 1)).trans ?_, ((h.1 c 2).2.trans (held_eq m c 2)).trans ?_,
    ((h.1 c 3).2.trans (held_eq m c 3)).trans ?_, (h.1 c 0).1, (h.1 c 1).1, (h.1 c 2).1, (h.1 c 3).1⟩) (run_main m g)
  · exact crossed_eq m 0 _ _ (fun c => (hin c).1) shapeCasts_S32x1024x256_S4x2x4x1024x256 transposes_S4x2x4x1024x256_S4x2x4x1024x256_2_1_0_3_4 shapeCasts_S4x2x4x1024x256_S32x1024x256 c
  · exact crossed_eq m 1 _ _ (fun c => (hin c).2.1) shapeCasts_S32x128x1024_S4x2x4x128x1024 transposes_S4x2x4x128x1024_S4x2x4x128x1024_2_1_0_3_4 shapeCasts_S4x2x4x128x1024_S32x128x1024 c
  · exact crossed_eq m 2 _ _ (fun c => (hin c).2.2.1) shapeCasts_S32x1024x768_S4x2x4x1024x768 transposes_S4x2x4x1024x768_S4x2x4x1024x768_2_1_0_3_4 shapeCasts_S4x2x4x1024x768_S32x1024x768 c
  · exact crossed_eq m 3 _ _ (fun c => (hin c).2.2.2) shapeCasts_S32x384x1024_S4x2x4x384x1024 transposes_S4x2x4x384x1024_S4x2x4x384x1024_2_1_0_3_4 shapeCasts_S4x2x4x384x1024_S32x384x1024 c

open Cert.ChipsRefIdeal.Gen in
/-- and so over the words.-/
theorem bitexact_Chips : Cert.bitexact_Chips_ChipsRef := fun m g m' g' _ hin => by
  refine ⟨_, _, _, _, ?_, (θ_run Cert.ChipsRefIdeal.defs _ _).mono (fun _ h => h 0) (Cert.ChipsRefIdeal.Value.run (F := Bits) m' g')⟩
  refine (θ_run Cert.ChipsIdeal.defs _ _).mono (fun _ h c => ⟨
    ((h.1 c 0).2.trans (held_eq m c 0)).trans ?_, ((h.1 c 1).2.trans (held_eq m c 1)).trans ?_, ((h.1 c 2).2.trans (held_eq m c 2)).trans ?_,
    ((h.1 c 3).2.trans (held_eq m c 3)).trans ?_, (h.1 c 0).1, (h.1 c 1).1, (h.1 c 2).1, (h.1 c 3).1⟩) (run_main (F := Bits) m g)
  · exact crossed_eq m 0 _ _ (fun c => (hin c).1) shapeCasts_S32x1024x256_S4x2x4x1024x256 transposes_S4x2x4x1024x256_S4x2x4x1024x256_2_1_0_3_4 shapeCasts_S4x2x4x1024x256_S32x1024x256 c
  · exact crossed_eq m 1 _ _ (fun c => (hin c).2.1) shapeCasts_S32x128x1024_S4x2x4x128x1024 transposes_S4x2x4x128x1024_S4x2x4x128x1024_2_1_0_3_4 shapeCasts_S4x2x4x128x1024_S32x128x1024 c
  · exact crossed_eq m 2 _ _ (fun c => (hin c).2.2.1) shapeCasts_S32x1024x768_S4x2x4x1024x768 transposes_S4x2x4x1024x768_S4x2x4x1024x768_2_1_0_3_4 shapeCasts_S4x2x4x1024x768_S32x1024x768 c
  · exact crossed_eq m 3 _ _ (fun c => (hin c).2.2.2) shapeCasts_S32x384x1024_S4x2x4x384x1024 transposes_S4x2x4x384x1024_S4x2x4x384x1024_2_1_0_3_4 shapeCasts_S4x2x4x384x1024_S32x384x1024 c

end Cert.Proof
-- ==== Proof.Optimizer.lean ====
/-
# One AdamW step of one parameter

What the optimizer does to one element, over any float values: the new first moment, the new second moment and the
change of the parameter. Over the ideal values the reference's line for a whole array is this, element by element, and
its sum of four parts is their sum in the kernel's order.
-/
module

public import proofs.«01_k».proof.Proof.Blocks
public import Idealize.ShloMosaic.PureOps.Ideal
public import Idealize.ShloMosaic.PureOps.Contract
public import Idealize.ShloMosaic.Lib.Pipeline.Value
public import Idealize.ShloMosaic.Lib.Pointwise

@[expose] public section

noncomputable section

namespace Cert.Optimizer

open Idealize.ShloMosaic Cert.Blocks

/-- The offsets of a whole block are zero. -/
theorem zero2 : (![0, 0] : Fin 2 → Nat) = fun _ => 0 := funext fun a => by fin_cases a <;> rfl

/-- Blocks of 128 rows, one for each point, cover the array: every index lies in the block of its row's point. -/
theorem rows_tiled {R N k : Nat} (hR : R = 128 * N) (j : Fin N → Fin 2 → Nat) (hj : ∀ t, j t 0 = t.val ∧ j t 1 = 0) (i : (M2 R k).Idx) :
    ∃ t : Fin N, ∀ a : Fin 2, j t a * (M2 128 k).size a ≤ (i a).val ∧ (i a).val < j t a * (M2 128 k).size a + (M2 128 k).size a := by
  have h0 : (i 0).val < R := (i 0).isLt
  have h1 : (i 1).val < k := (i 1).isLt
  refine ⟨⟨(i 0).val / 128, by omega⟩, Fin.forall_fin_two.2 ⟨?_, ?_⟩⟩
  · show j _ 0 * 128 ≤ (i 0).val ∧ (i 0).val < j _ 0 * 128 + 128
    rw [(hj _).1]
    dsimp only
    omega
  · show j _ 1 * k ≤ (i 1).val ∧ (i 1).val < j _ 1 * k + k
    rw [(hj _).2]
    omega

/-- An index within the bounds of a rectangle of a whole buffer is one of the rectangle's. -/
theorem mem_block {sig : RefSig} {κ : Kind} (b : Ref sig κ) (off size : Fin b.ty.shape.rank → Nat) (inb : ∀ a, off a + size a ≤ b.ty.shape.size a)
    (i : b.ty.shape.Idx) (h : ∀ a, off a ≤ (i a).val ∧ (i a).val < off a + size a) :
    i ∈ ((View.whole b).slice (Rect.unit off size inb)).set := by
  rw [View.set_slice_whole, Rect.mem_set_unit]
  exact h

section Step

variable {F : FTy → Type} [FloatOps F]

/-- The new first moment of a parameter with gradient `g` and first moment `m`. -/
def mom (g m : F .f32) : F .f32 :=
  FloatOps.addf (FloatOps.mulf (Scalar.ofBits .f32 0x3F666666#32) m) (FloatOps.mulf (Scalar.ofBits .f32 0x3DCCCCCD#32) g)

/-- The new second moment of a parameter with gradient `g` and second moment `v`. -/
def vel (g v : F .f32) : F .f32 :=
  FloatOps.addf (FloatOps.mulf (Scalar.ofBits .f32 0x3F7FBE77#32) v)
    (FloatOps.mulf (Scalar.ofBits .f32 0x3A83126F#32) (FloatOps.mulf g g))

/-- The change of a parameter `w` with gradient `g` and moments `m` and `v`. -/
def step (g w m v : F .f32) : F .f32 :=
  FloatOps.mulf (Scalar.ofBits .f32 0xBA83126F#32)
    (FloatOps.addf
      (FloatOps.divf (FloatOps.divf (mom g m) (Scalar.ofBits .f32 0x3F26BD02#32))
        (FloatOps.addf (FloatOps.sqrt (FloatOps.divf (vel g v) (Scalar.ofBits .f32 0x3C231ACC#32)))
          (Scalar.ofBits .f32 0x322BCC77#32)))
      (FloatOps.mulf (Scalar.ofBits .f32 0x3C23D70A#32) w))

/-- The sum of four parts in half precision, in the kernel's order. -/
def sum4 (p : Fin 4 → F .bf16) : F .f32 :=
  FloatOps.addf (FloatOps.addf (FloatOps.addf (FloatOps.extf .f32 (by decide) (p 0)) (FloatOps.extf .f32 (by decide) (p 1)))
    (FloatOps.extf .f32 (by decide) (p 2))) (FloatOps.extf .f32 (by decide) (p 3))

/-- One plane of a block of four, read at an index. -/
theorem plane_apply {α : Type} {n k : Nat} (x : (M3 4 n k).Idx → α) (q : Fin 4) (o : Nat) (ho : o = q.val)
    (i : ∀ a, (![o, 0, 0] : Fin 3 → Nat) a + (M3 1 n k).size a ≤ (M3 4 n k).size a)
    (h : (M3 1 n k).ShapeCasts (M2 n k)) (y : (M2 n k).Idx) :
    shapeCast (M2 n k) (fun z => x ((Rect.unit (s := M3 4 n k) ![o, 0, 0] (M3 1 n k).size i).idx z)) h y = x (ix3 q (y 0) (y 1)) := by
  refine (shapeCast_dropUnit_apply ![n, k] _ h y).trans (congrArg x (funext fun a => Fin.ext ?_))
  subst ho
  match a with
  | ⟨0, _⟩ => show q.val + 1 * 0 = q.val; omega
  | ⟨1, _⟩ => show 0 + 1 * (y 0).val = (y 0).val; omega
  | ⟨2, _⟩ => show 0 + 1 * (y 1).val = (y 1).val; omega

/-- The body's sum of the four planes of a block, at an index. -/
theorem planes_apply {n k : Nat} (x : (M3 4 n k).Idx → F .bf16)
    (i0 : ∀ a, (![0, 0, 0] : Fin 3 → Nat) a + (M3 1 n k).size a ≤ (M3 4 n k).size a)
    (i1 : ∀ a, (![1, 0, 0] : Fin 3 → Nat) a + (M3 1 n k).size a ≤ (M3 4 n k).size a)
    (i2 : ∀ a, (![2, 0, 0] : Fin 3 → Nat) a + (M3 1 n k).size a ≤ (M3 4 n k).size a)
    (i3 : ∀ a, (![3, 0, 0] : Fin 3 → Nat) a + (M3 1 n k).size a ≤ (M3 4 n k).size a)
    (h : (M3 1 n k).ShapeCasts (M2 n k)) (hb : FTy.bf16.bits < FTy.f32.bits) (y : (M2 n k).Idx) :
    addf (addf (addf
      (extf .f32 (shapeCast (M2 n k) (fun z => x ((Rect.unit (s := M3 4 n k) ![0, 0, 0] (M3 1 n k).size i0).idx z)) h) hb)
      (extf .f32 (shapeCast (M2 n k) (fun z => x ((Rect.unit (s := M3 4 n k) ![1, 0, 0] (M3 1 n k).size i1).idx z)) h) hb))
      (extf .f32 (shapeCast (M2 n k) (fun z => x ((Rect.unit (s := M3 4 n k) ![2, 0, 0] (M3 1 n k).size i2).idx z)) h) hb))
      (extf .f32 (shapeCast (M2 n k) (fun z => x ((Rect.unit (s := M3 4 n k) ![3, 0, 0] (M3 1 n k).size i3).idx z)) h) hb) y
      = sum4 fun q => x (ix3 q (y 0) (y 1)) := by
  show FloatOps.addf (FloatOps.addf (FloatOps.addf (FloatOps.extf .f32 hb (shapeCast _ _ h y)) (FloatOps.extf .f32 hb (shapeCast _ _ h y)))
    (FloatOps.extf .f32 hb (shapeCast _ _ h y))) (FloatOps.extf .f32 hb (shapeCast _ _ h y)) = _
  rw [plane_apply x 0 0 rfl i0 h y, plane_apply x 1 1 rfl i1 h y, plane_apply x 2 2 rfl i2 h y, plane_apply x 3 3 rfl i3 h y]
  rfl

end Step

/-! ## Over the ideal values -/

/-- The reference's sum of four planes is the kernel's. -/
theorem sum4_host {n k : Nat} {u : Shape} (g : (M3 4 n k).Idx → Ideal .bf16) (hb : FTy.bf16.bits < FTy.f32.bits)
    (h : (M3 4 n k).ReducesTo [0] (M2 n k)) (hu : 0 < u.numel) :
    Host.reduceAdd (F := Ideal) (extf .f32 (s := M3 4 n k) g hb) (constant u .f32 0x00000000#32) h hu
      = fun i => sum4 fun q => g (ix3 q (i 0) (i 1)) := by
  funext i
  rw [Host.reduceAdd_apply, Ideal.hostReduceAdd_def, Ideal.hostReduceAdd_r3_a0, Fin.sum_univ_four]
  show Ideal.ofBits .f32 0x00000000#32 + (_ : EReal) = _
  rw [Ideal.ofBits_zero_f32, zero_add]
  rfl

/-- The reference's first moment, -/
theorem mom_host {S u : Shape} (g m : S.Idx → Ideal .f32) (d : Fin u.rank → Fin S.rank) (h : u.BroadcastsInDim S d) :
    addf (F := Ideal) (mulf (broadcastInDim S d h (constant u .f32 0x3F666666#32)) m) (mulf (broadcastInDim S d h (constant u .f32 0x3DCCCCCD#32)) g)
      = fun i => mom (g i) (m i) := rfl

/-- its second moment, -/
theorem vel_host {S u : Shape} (g v : S.Idx → Ideal .f32) (d : Fin u.rank → Fin S.rank) (h : u.BroadcastsInDim S d) :
    addf (F := Ideal) (mulf (broadcastInDim S d h (constant u .f32 0x3F7FBE77#32)) v)
      (mulf (broadcastInDim S d h (constant u .f32 0x3A83126F#32)) (mulf g g)) = fun i => vel (g i) (v i) := rfl

/-- and its change of the parameter. -/
theorem step_host {S u : Shape} (g w m v : S.Idx → Ideal .f32) (d : Fin u.rank → Fin S.rank) (h : u.BroadcastsInDim S d) :
    mulf (F := Ideal) (broadcastInDim S d h (constant u .f32 0xBA83126F#32)) (addf
      (Host.divf (Host.divf (addf (mulf (broadcastInDim S d h (constant u .f32 0x3F666666#32)) m) (mulf (broadcastInDim S d h (constant u .f32 0x3DCCCCCD#32)) g))
          (broadcastInDim S d h (constant u .f32 0x3F26BD02#32)))
        (addf (Host.sqrt (Host.divf (addf (mulf (broadcastInDim S d h (constant u .f32 0x3F7FBE77#32)) v)
            (mulf (broadcastInDim S d h (constant u .f32 0x3A83126F#32)) (mulf g g))) (broadcastInDim S d h (constant u .f32 0x3C231ACC#32))))
          (broadcastInDim S d h (constant u .f32 0x322BCC77#32))))
      (mulf (broadcastInDim S d h (constant u .f32 0x3C23D70A#32)) w)) = fun i => step (g i) (w i) (m i) (v i) := rfl

end Cert.Optimizer
-- ==== Proof.Halves.lean ====
/-
# The sum of the two halves of a pair

What `pair_sum` does to one element, and how its blocks of 128 rows cover each of the four planes.
-/
module

public import proofs.«01_k».proof.Proof.Blocks
public import Idealize.ShloMosaic.PureOps.Ideal
public import Idealize.ShloMosaic.PureOps.Contract
public import Idealize.ShloMosaic.Lib.Pipeline.Value
public import Idealize.ShloMosaic.Lib.Pointwise

@[expose] public section

noncomputable section

namespace Cert.Halves

open Idealize.ShloMosaic Cert.Blocks

/-- Blocks of 128 rows, `n` to a plane, cover the planes: every index lies in the block of its plane and row. -/
theorem planes_tiled {R n N k : Nat} (hR : R = 128 * n) (hN : N = 4 * n) (j : Fin N → Fin 3 → Nat)
    (hj : ∀ t, j t 0 = t.val / n ∧ j t 1 = t.val % n ∧ j t 2 = 0) (i : (M3 4 R k).Idx) :
    ∃ t : Fin N, ∀ a : Fin 3, j t a * (M3 1 128 k).size a ≤ (i a).val ∧ (i a).val < j t a * (M3 1 128 k).size a + (M3 1 128 k).size a := by
  have h0 : (i 0).val < 4 := (i 0).isLt
  have h1 : (i 1).val < R := (i 1).isLt
  have h2 : (i 2).val < k := (i 2).isLt
  have hq : (i 1).val / 128 < n := by omega
  have ht : (i 0).val * n + (i 1).val / 128 < N := by
    have : ((i 0).val + 1) * n ≤ 4 * n := Nat.mul_le_mul_right n h0
    rw [Nat.succ_mul] at this
    omega
  obtain ⟨e0, e1, e2⟩ := hj ⟨_, ht⟩
  have e0' : j ⟨_, ht⟩ 0 = (i 0).val := e0.trans (by
    show ((i 0).val * n + (i 1).val / 128) / n = (i 0).val
    rw [Nat.mul_comm, Nat.mul_add_div (by omega), Nat.div_eq_of_lt hq, Nat.add_zero])
  have e1' : j ⟨_, ht⟩ 1 = (i 1).val / 128 := e1.trans (by
    show ((i 0).val * n + (i 1).val / 128) % n = (i 1).val / 128
    rw [Nat.mul_comm, Nat.mul_add_mod, Nat.mod_eq_of_lt hq])
  refine ⟨⟨_, ht⟩, fun a => ?_⟩
  match a with
  | ⟨0, _⟩ =>
    show j _ 0 * 1 ≤ (i 0).val ∧ (i 0).val < j _ 0 * 1 + 1
    rw [e0']
    omega
  | ⟨1, _⟩ =>
    show j _ 1 * 128 ≤ (i 1).val ∧ (i 1).val < j _ 1 * 128 + 128
    rw [e1']
    omega
  | ⟨2, _⟩ =>
    show j _ 2 * k ≤ (i 2).val ∧ (i 2).val < j _ 2 * k + k
    rw [e2]
    omega

/-- The sum of two halves, taken in full precision and rounded once. -/
def sum2 {F : FTy → Type} [FloatOps F] (p : Fin 2 → F .bf16) : F .bf16 :=
  FloatOps.truncf .bf16 (by decide) (FloatOps.addf (FloatOps.extf .f32 (by decide) (p 0)) (FloatOps.extf .f32 (by decide) (p 1)))

/-- The sum of two halves from its summands. -/
theorem sum2_of {F : FTy → Type} [FloatOps F] {p : Fin 2 → F .bf16} {a b : F .bf16} (h0 : a = p 0) (h1 : b = p 1)
    (ht : FTy.bf16.bits < FTy.f32.bits) :
    FloatOps.truncf .bf16 ht (FloatOps.addf (FloatOps.extf .f32 ht a) (FloatOps.extf .f32 ht b)) = sum2 p := by
  subst h0 h1
  rfl

/-- Over the ideal values the reference's sum of the halves is the kernel's. -/
theorem sum2_host {n r k : Nat} {u : Shape} (b : (⟨4, ![n, 2, r, k]⟩ : Shape).Idx → Ideal .bf16) (hb : FTy.bf16.bits < FTy.f32.bits)
    (h : (⟨4, ![n, 2, r, k]⟩ : Shape).ReducesTo [1] (M3 n r k)) (hu : 0 < u.numel) :
    truncf (F := Ideal) .bf16 (Host.reduceAdd (F := Ideal) (extf .f32 (s := ⟨4, ![n, 2, r, k]⟩) b hb) (constant u .f32 0x00000000#32) h hu) hb
      = fun i => sum2 fun q => b (ix4 (i 0) q (i 1) (i 2)) := by
  funext i
  show Host.reduceAdd (F := Ideal) (extf .f32 (s := ⟨4, ![n, 2, r, k]⟩) b hb) (constant u .f32 0x00000000#32) h hu i = _
  rw [Host.reduceAdd_apply, Ideal.hostReduceAdd_def, Ideal.hostReduceAdd_r4_a1, Fin.sum_univ_two]
  show Ideal.ofBits .f32 0x00000000#32 + (_ : EReal) = _
  rw [Ideal.ofBits_zero_f32, zero_add]
  rfl

end Cert.Halves
-- ==== Proof.SumInClaims.lean ====
/-
# The sum of the halves of `w_in`
-/
module

public import proofs.«01_k».proof.Defs
public import proofs.«01_k».proof.Proof.Optimizer
public import proofs.«01_k».proof.Proof.Halves
public import proofs.«01_k».proof.Proof.Gen.SumIn.Frame
public import proofs.«01_k».proof.Proof.Gen.SumInIdeal.Value
public import proofs.«01_k».proof.Proof.Gen.SumInRefIdeal.Run
public import Idealize.ShloMosaic.Lib.Quiescent

@[expose] public section

noncomputable section

namespace Cert.SumInIdeal.Sum

open Idealize.ShloMosaic Idealize.ShloMosaic.TcCoe Idealize.SL.Sem Cert.SumInIdeal Cert.SumInIdeal.Gen Cert.Halves Cert.Optimizer Cert.Blocks

variable {F : FTy → Type} [FloatOps F]
variable (m : (ℓ : Loc nD τ sig) → Buf (Elt F) ℓ)

/-- What the halves sum to. -/
abbrev total (c : Dev nD) : S4x1024x256.Idx → F .bf16 := fun i => sum2 fun q => m ((c : Thread nD τ).loc main_arg0) (ix4 (i 0) q (i 1) (i 2))

/-- The points' blocks cover the result. -/
theorem tiled : ∀ i : S4x1024x256.Idx, ∃ t : Fin grid0.N, ∀ a : Fin 3, win0_1.index t a * (M3 1 128 256).size a ≤ (i a).val
    ∧ (i a).val < win0_1.index t a * (M3 1 128 256).size a + (M3 1 128 256).size a :=
  planes_tiled (n := 8) rfl (by rw [N_0]) (fun t => win0_1.index t) (by decide +kernel)

/-- The result is the sum of the halves. -/
theorem final (c : Dev nD) : (dats m 0 c).arrAt 1 cfg0.N = total m c := by
  refine Pipeline.Dat.arrAt_eq_of_cover _ 1 _ (fun t _ => funext fun y => ?_) fun i => (tiled i).imp fun t h => ⟨flush0_1 t, mem_block main_v0 _ _ _ i h⟩
  have h0 : (y 0 : Nat) < 1 := (y 0).isLt
  rw [Value.flushed1]
  unfold out0_1
  refine (Value.canon1_eq _ _ y).trans (show _ = total m c ((win0_1.rect t).emb y) from ?_)
  refine sum2_of ?_ ?_ _
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (0 + 1 * 0) = 0; omega
    | ⟨2, _⟩ => show win0_1.index t 1 * 128 + 1 * (0 + 1 * (y 1 : Nat)) = win0_1.index t 1 * 128 + 1 * (y 1 : Nat); omega
    | ⟨3, _⟩ => show 0 * 256 + 1 * (0 + 1 * (y 2 : Nat)) = 0 * 256 + 1 * (y 2 : Nat); omega
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (1 + 1 * 0) = 1; omega
    | ⟨2, _⟩ => show win0_1.index t 1 * 128 + 1 * (0 + 1 * (y 1 : Nat)) = win0_1.index t 1 * 128 + 1 * (y 1 : Nat); omega
    | ⟨3, _⟩ => show 0 * 256 + 1 * (0 + 1 * (y 2 : Nat)) = 0 * 256 + 1 * (y 2 : Nat); omega

end Cert.SumInIdeal.Sum

namespace Cert.Proof

open Idealize.ShloMosaic Idealize.SL.Sem Cert.Halves Cert.SumInRefIdeal.Gen

theorem frame_SumInIdeal : Cert.quiescent_SumInIdeal := fun m ρ _ => Cert.SumInIdeal.Gen.frame m ρ

theorem frame_SumIn : Cert.quiescent_SumIn := fun m ρ _ => Cert.SumIn.Gen.frame m ρ

theorem frame_SumInRefIdeal : Cert.quiescent_SumInRefIdeal := fun m ρ _ =>
  (θ_run Cert.SumInRefIdeal.defs _ _).mono (fun r h => ⟨fun c => (h c).2, sem_eq_zero_of_no_sems rfl r.2⟩) (Cert.SumInRefIdeal.Value.run m ρ)

theorem preserves_SumIn : Cert.preserves_SumIn_SumInIdeal := trivial

/-- The call leaves the reference's sum. -/
theorem algebraic_SumIn : Cert.algebraic_SumInIdeal_SumInRefIdeal := fun m g m' g' _ hin => by
  refine ⟨_, ?_, Cert.SumInRefIdeal.Value.run m' g'⟩
  refine (θ_run Cert.SumInIdeal.defs _ _).mono (fun _ h c => ⟨(h c).1.trans ((Cert.SumInIdeal.Sum.final m c).trans ?_), (h c).2⟩)
    (Cert.SumInIdeal.Value.run_blocks m g)
  rw [sum2_host _ bitsLt_bf16_f32 reducesTo_S4x2x1024x256_S4x1024x256_d1 h_S_, hin c]

end Cert.Proof
-- ==== Proof.SumOutClaims.lean ====
/-
# The sum of the halves of `w_out`
-/
module

public import proofs.«01_k».proof.Defs
public import proofs.«01_k».proof.Proof.Optimizer
public import proofs.«01_k».proof.Proof.Halves
public import proofs.«01_k».proof.Proof.Gen.SumOut.Frame
public import proofs.«01_k».proof.Proof.Gen.SumOutIdeal.Value
public import proofs.«01_k».proof.Proof.Gen.SumOutRefIdeal.Run
public import Idealize.ShloMosaic.Lib.Quiescent

@[expose] public section

noncomputable section

namespace Cert.SumOutIdeal.Sum

open Idealize.ShloMosaic Idealize.ShloMosaic.TcCoe Idealize.SL.Sem Cert.SumOutIdeal Cert.SumOutIdeal.Gen Cert.Halves Cert.Optimizer Cert.Blocks

variable {F : FTy → Type} [FloatOps F]
variable (m : (ℓ : Loc nD τ sig) → Buf (Elt F) ℓ)

/-- What the halves sum to. -/
abbrev total (c : Dev nD) : S4x128x1024.Idx → F .bf16 := fun i => sum2 fun q => m ((c : Thread nD τ).loc main_arg0) (ix4 (i 0) q (i 1) (i 2))

/-- The points' blocks cover the result. -/
theorem tiled : ∀ i : S4x128x1024.Idx, ∃ t : Fin grid0.N, ∀ a : Fin 3, win0_1.index t a * (M3 1 128 1024).size a ≤ (i a).val
    ∧ (i a).val < win0_1.index t a * (M3 1 128 1024).size a + (M3 1 128 1024).size a :=
  planes_tiled (n := 1) rfl (by rw [N_0]) (fun t => win0_1.index t) (by decide +kernel)

/-- The result is the sum of the halves. -/
theorem final (c : Dev nD) : (dats m 0 c).arrAt 1 cfg0.N = total m c := by
  refine Pipeline.Dat.arrAt_eq_of_cover _ 1 _ (fun t _ => funext fun y => ?_) fun i => (tiled i).imp fun t h => ⟨flush0_1 t, mem_block main_v0 _ _ _ i h⟩
  have h0 : (y 0 : Nat) < 1 := (y 0).isLt
  rw [Value.flushed1]
  unfold out0_1
  refine (Value.canon1_eq _ _ y).trans (show _ = total m c ((win0_1.rect t).emb y) from ?_)
  refine sum2_of ?_ ?_ _
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (0 + 1 * 0) = 0; omega
    | ⟨2, _⟩ => show win0_1.index t 1 * 128 + 1 * (0 + 1 * (y 1 : Nat)) = win0_1.index t 1 * 128 + 1 * (y 1 : Nat); omega
    | ⟨3, _⟩ => show 0 * 1024 + 1 * (0 + 1 * (y 2 : Nat)) = 0 * 1024 + 1 * (y 2 : Nat); omega
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (1 + 1 * 0) = 1; omega
    | ⟨2, _⟩ => show win0_1.index t 1 * 128 + 1 * (0 + 1 * (y 1 : Nat)) = win0_1.index t 1 * 128 + 1 * (y 1 : Nat); omega
    | ⟨3, _⟩ => show 0 * 1024 + 1 * (0 + 1 * (y 2 : Nat)) = 0 * 1024 + 1 * (y 2 : Nat); omega

end Cert.SumOutIdeal.Sum

namespace Cert.Proof

open Idealize.ShloMosaic Idealize.SL.Sem Cert.Halves Cert.SumOutRefIdeal.Gen

theorem frame_SumOutIdeal : Cert.quiescent_SumOutIdeal := fun m ρ _ => Cert.SumOutIdeal.Gen.frame m ρ

theorem frame_SumOut : Cert.quiescent_SumOut := fun m ρ _ => Cert.SumOut.Gen.frame m ρ

theorem frame_SumOutRefIdeal : Cert.quiescent_SumOutRefIdeal := fun m ρ _ =>
  (θ_run Cert.SumOutRefIdeal.defs _ _).mono (fun r h => ⟨fun c => (h c).2, sem_eq_zero_of_no_sems rfl r.2⟩) (Cert.SumOutRefIdeal.Value.run m ρ)

theorem preserves_SumOut : Cert.preserves_SumOut_SumOutIdeal := trivial

/-- The call leaves the reference's sum. -/
theorem algebraic_SumOut : Cert.algebraic_SumOutIdeal_SumOutRefIdeal := fun m g m' g' _ hin => by
  refine ⟨_, ?_, Cert.SumOutRefIdeal.Value.run m' g'⟩
  refine (θ_run Cert.SumOutIdeal.defs _ _).mono (fun _ h c => ⟨(h c).1.trans ((Cert.SumOutIdeal.Sum.final m c).trans ?_), (h c).2⟩)
    (Cert.SumOutIdeal.Value.run_blocks m g)
  rw [sum2_host _ bitsLt_bf16_f32 reducesTo_S4x2x128x1024_S4x128x1024_d1 h_S_, hin c]

end Cert.Proof
-- ==== Proof.SumUpClaims.lean ====
/-
# The sum of the halves of `w_up`
-/
module

public import proofs.«01_k».proof.Defs
public import proofs.«01_k».proof.Proof.Optimizer
public import proofs.«01_k».proof.Proof.Halves
public import proofs.«01_k».proof.Proof.Gen.SumUp.Frame
public import proofs.«01_k».proof.Proof.Gen.SumUpIdeal.Value
public import proofs.«01_k».proof.Proof.Gen.SumUpRefIdeal.Run
public import Idealize.ShloMosaic.Lib.Quiescent

@[expose] public section

noncomputable section

namespace Cert.SumUpIdeal.Sum

open Idealize.ShloMosaic Idealize.ShloMosaic.TcCoe Idealize.SL.Sem Cert.SumUpIdeal Cert.SumUpIdeal.Gen Cert.Halves Cert.Optimizer Cert.Blocks

variable {F : FTy → Type} [FloatOps F]
variable (m : (ℓ : Loc nD τ sig) → Buf (Elt F) ℓ)

/-- What the halves sum to. -/
abbrev total (c : Dev nD) : S4x1024x768.Idx → F .bf16 := fun i => sum2 fun q => m ((c : Thread nD τ).loc main_arg0) (ix4 (i 0) q (i 1) (i 2))

/-- The points' blocks cover the result. -/
theorem tiled : ∀ i : S4x1024x768.Idx, ∃ t : Fin grid0.N, ∀ a : Fin 3, win0_1.index t a * (M3 1 128 768).size a ≤ (i a).val
    ∧ (i a).val < win0_1.index t a * (M3 1 128 768).size a + (M3 1 128 768).size a :=
  planes_tiled (n := 8) rfl (by rw [N_0]) (fun t => win0_1.index t) (by decide +kernel)

/-- The result is the sum of the halves. -/
theorem final (c : Dev nD) : (dats m 0 c).arrAt 1 cfg0.N = total m c := by
  refine Pipeline.Dat.arrAt_eq_of_cover _ 1 _ (fun t _ => funext fun y => ?_) fun i => (tiled i).imp fun t h => ⟨flush0_1 t, mem_block main_v0 _ _ _ i h⟩
  have h0 : (y 0 : Nat) < 1 := (y 0).isLt
  rw [Value.flushed1]
  unfold out0_1
  refine (Value.canon1_eq _ _ y).trans (show _ = total m c ((win0_1.rect t).emb y) from ?_)
  refine sum2_of ?_ ?_ _
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (0 + 1 * 0) = 0; omega
    | ⟨2, _⟩ => show win0_1.index t 1 * 128 + 1 * (0 + 1 * (y 1 : Nat)) = win0_1.index t 1 * 128 + 1 * (y 1 : Nat); omega
    | ⟨3, _⟩ => show 0 * 768 + 1 * (0 + 1 * (y 2 : Nat)) = 0 * 768 + 1 * (y 2 : Nat); omega
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (1 + 1 * 0) = 1; omega
    | ⟨2, _⟩ => show win0_1.index t 1 * 128 + 1 * (0 + 1 * (y 1 : Nat)) = win0_1.index t 1 * 128 + 1 * (y 1 : Nat); omega
    | ⟨3, _⟩ => show 0 * 768 + 1 * (0 + 1 * (y 2 : Nat)) = 0 * 768 + 1 * (y 2 : Nat); omega

end Cert.SumUpIdeal.Sum

namespace Cert.Proof

open Idealize.ShloMosaic Idealize.SL.Sem Cert.Halves Cert.SumUpRefIdeal.Gen

theorem frame_SumUpIdeal : Cert.quiescent_SumUpIdeal := fun m ρ _ => Cert.SumUpIdeal.Gen.frame m ρ

theorem frame_SumUp : Cert.quiescent_SumUp := fun m ρ _ => Cert.SumUp.Gen.frame m ρ

theorem frame_SumUpRefIdeal : Cert.quiescent_SumUpRefIdeal := fun m ρ _ =>
  (θ_run Cert.SumUpRefIdeal.defs _ _).mono (fun r h => ⟨fun c => (h c).2, sem_eq_zero_of_no_sems rfl r.2⟩) (Cert.SumUpRefIdeal.Value.run m ρ)

theorem preserves_SumUp : Cert.preserves_SumUp_SumUpIdeal := trivial

/-- The call leaves the reference's sum. -/
theorem algebraic_SumUp : Cert.algebraic_SumUpIdeal_SumUpRefIdeal := fun m g m' g' _ hin => by
  refine ⟨_, ?_, Cert.SumUpRefIdeal.Value.run m' g'⟩
  refine (θ_run Cert.SumUpIdeal.defs _ _).mono (fun _ h c => ⟨(h c).1.trans ((Cert.SumUpIdeal.Sum.final m c).trans ?_), (h c).2⟩)
    (Cert.SumUpIdeal.Value.run_blocks m g)
  rw [sum2_host _ bitsLt_bf16_f32 reducesTo_S4x2x1024x768_S4x1024x768_d1 h_S_, hin c]

end Cert.Proof
-- ==== Proof.SumDownClaims.lean ====
/-
# The sum of the halves of `w_down`
-/
module

public import proofs.«01_k».proof.Defs
public import proofs.«01_k».proof.Proof.Optimizer
public import proofs.«01_k».proof.Proof.Halves
public import proofs.«01_k».proof.Proof.Gen.SumDown.Frame
public import proofs.«01_k».proof.Proof.Gen.SumDownIdeal.Value
public import proofs.«01_k».proof.Proof.Gen.SumDownRefIdeal.Run
public import Idealize.ShloMosaic.Lib.Quiescent

@[expose] public section

noncomputable section

namespace Cert.SumDownIdeal.Sum

open Idealize.ShloMosaic Idealize.ShloMosaic.TcCoe Idealize.SL.Sem Cert.SumDownIdeal Cert.SumDownIdeal.Gen Cert.Halves Cert.Optimizer Cert.Blocks

variable {F : FTy → Type} [FloatOps F]
variable (m : (ℓ : Loc nD τ sig) → Buf (Elt F) ℓ)

/-- What the halves sum to. -/
abbrev total (c : Dev nD) : S4x384x1024.Idx → F .bf16 := fun i => sum2 fun q => m ((c : Thread nD τ).loc main_arg0) (ix4 (i 0) q (i 1) (i 2))

/-- The points' blocks cover the result. -/
theorem tiled : ∀ i : S4x384x1024.Idx, ∃ t : Fin grid0.N, ∀ a : Fin 3, win0_1.index t a * (M3 1 128 1024).size a ≤ (i a).val
    ∧ (i a).val < win0_1.index t a * (M3 1 128 1024).size a + (M3 1 128 1024).size a :=
  planes_tiled (n := 3) rfl (by rw [N_0]) (fun t => win0_1.index t) (by decide +kernel)

/-- The result is the sum of the halves. -/
theorem final (c : Dev nD) : (dats m 0 c).arrAt 1 cfg0.N = total m c := by
  refine Pipeline.Dat.arrAt_eq_of_cover _ 1 _ (fun t _ => funext fun y => ?_) fun i => (tiled i).imp fun t h => ⟨flush0_1 t, mem_block main_v0 _ _ _ i h⟩
  have h0 : (y 0 : Nat) < 1 := (y 0).isLt
  rw [Value.flushed1]
  unfold out0_1
  refine (Value.canon1_eq _ _ y).trans (show _ = total m c ((win0_1.rect t).emb y) from ?_)
  refine sum2_of ?_ ?_ _
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (0 + 1 * 0) = 0; omega
    | ⟨2, _⟩ => show win0_1.index t 1 * 128 + 1 * (0 + 1 * (y 1 : Nat)) = win0_1.index t 1 * 128 + 1 * (y 1 : Nat); omega
    | ⟨3, _⟩ => show 0 * 1024 + 1 * (0 + 1 * (y 2 : Nat)) = 0 * 1024 + 1 * (y 2 : Nat); omega
  · refine congrArg (m ((c : Thread nD τ).loc main_arg0)) (funext fun a => Fin.ext ?_)
    match a with
    | ⟨0, _⟩ => show win0_1.index t 0 * 1 + 1 * (0 + 1 * 0) = win0_1.index t 0 * 1 + 1 * (y 0 : Nat); omega
    | ⟨1, _⟩ => show 0 * 2 + 1 * (1 + 1 * 0) = 1; omega
    | ⟨2, _⟩ => show win0_1.index t 1 * 128 + 1 * (0 + 1 * (y 1 : Nat)) = win0_1.index t 1 * 128 + 1 * (y 1 : Nat); omega
    | ⟨3, _⟩ => show 0 * 1024 + 1 * (0 + 1 * (y 2 : Nat)) = 0 * 1024 + 1 * (y 2 : Nat); omega

end Cert.SumDownIdeal.Sum

namespace Cert.Proof

open Idealize.ShloMosaic Idealize.SL.Sem Cert.Halves Cert.SumDownRefIdeal.Gen

theorem frame_SumDownIdeal : Cert.quiescent_SumDownIdeal := fun m ρ _ => Cert.SumDownIdeal.Gen.frame m ρ

theorem frame_SumDown : Cert.quiescent_SumDown := fun m ρ _ => Cert.SumDown.Gen.frame m ρ

theorem frame_SumDownRefIdeal : Cert.quiescent_SumDownRefIdeal := fun m ρ _ =>
  (θ_run Cert.SumDownRefIdeal.defs _ _).mono (fun r h => ⟨fun c => (h c).2, sem_eq_zero_of_no_sems rfl r.2⟩) (Cert.SumDownRefIdeal.Value.run m ρ)

theorem preserves_SumDown : Cert.preserves_SumDown_SumDownIdeal := trivial

/-- The call leaves the reference's sum. -/
theorem algebraic_SumDown : Cert.algebraic_SumDownIdeal_SumDownRefIdeal := fun m g m' g' _ hin => by
  refine ⟨_, ?_, Cert.SumDownRefIdeal.Value.run m' g'⟩
  refine (θ_run Cert.SumDownIdeal.defs _ _).mono (fun _ h c => ⟨(h c).1.trans ((Cert.SumDownIdeal.Sum.final m c).trans ?_), (h c).2⟩)
    (Cert.SumDownIdeal.Value.run_blocks m g)
  rw [sum2_host _ bitsLt_bf16_f32 reducesTo_S4x2x384x1024_S4x384x1024_d1 h_S_, hin c]

end Cert.Proof
-- ==== Proof.AdamInClaims.lean ====
/-
# What the optimizer's call leaves for `w_in`
-/
module

public import proofs.«01_k».proof.Defs
public import proofs.«01_k».proof.Proof.Optimizer
public import proofs.«01_k».proof.Proof.Gen.AdamIn.Frame
public import proofs.«01_k».proof.Proof.Gen.AdamInIdeal.Value
public import proofs.«01_k».proof.Proof.Gen.AdamInRefIdeal.Run
public import Idealize.ShloMosaic.Lib.Quiescent

@[expose] public section

noncomputable section

namespace Cert.AdamInIdeal.Adam

open Idealize.ShloMosaic Idealize.ShloMosaic.TcCoe Idealize.SL.Sem Cert.AdamInIdeal Cert.AdamInIdeal.Gen Cert.Optimizer Cert.Blocks

variable {F : FTy → Type} [FloatOps F]
variable (m : (ℓ : Loc nD τ sig) → Buf (Elt F) ℓ)

/-- The gradient: the sum of the four chips' parts. -/
abbrev grad (c : Dev nD) : S1024x256.Idx → F .f32 := fun i => sum4 fun q => m ((c : Thread nD τ).loc main_arg0) (ix3 q (i 0) (i 1))

/-- What the body sums at point `t` is the gradient under its block. -/
theorem grad_block (c : Dev nD) (t : Fin cfg0.N) (x : Vec F S4x128x256 .bf16) (hx : x = iblk m c 0 t) :
    k0_pay2 (View.ld x r0_0) (View.ld x r0_1) (View.ld x r0_2) (View.ld x r0_3)
      = fun y => grad m c ((win0_4.rect t).emb y) := by
  subst hx
  funext y
  refine (planes_apply (iblk m c 0 t) _ _ _ _ _ _ y).trans (congrArg sum4 (funext fun q => ?_))
  refine congrArg (m ((c : Thread nD τ).loc main_arg0)) (funext fun a => Fin.ext ?_)
  match a with
  | ⟨0, _⟩ => show 0 * 4 + 1 * q.val = q.val; omega
  | ⟨1, _⟩ => rfl
  | ⟨2, _⟩ => rfl

/-- The points' blocks of rows cover a result. -/
theorem tiled : ∀ i : S1024x256.Idx, ∃ t : Fin grid0.N, ∀ a : Fin 2, win0_4.index t a * (M2 128 256).size a ≤ (i a).val
    ∧ (i a).val < win0_4.index t a * (M2 128 256).size a + (M2 128 256).size a :=
  rows_tiled (by rw [N_0]) (fun t => win0_4.index t) (by decide +kernel)

/-- The four results: the gradient, the change of the parameter, the new moments. -/
theorem finals (c : Dev nD) :
    (dats m 0 c).arrAt 4 cfg0.N = grad m c
      ∧ (dats m 0 c).arrAt 5 cfg0.N = (fun i => step (grad m c i) (m ((c : Thread nD τ).loc main_arg1) i)
        (m ((c : Thread nD τ).loc main_arg2) i) (m ((c : Thread nD τ).loc main_arg3) i))
      ∧ (dats m 0 c).arrAt 6 cfg0.N = (fun i => mom (grad m c i) (m ((c : Thread nD τ).loc main_arg2) i))
      ∧ (dats m 0 c).arrAt 7 cfg0.N = (fun i => vel (grad m c i) (m ((c : Thread nD τ).loc main_arg3) i)) := by
  refine ⟨Pipeline.Dat.arrAt_eq_of_cover _ 4 _ (fun t _ => ?_) fun i => (tiled i).imp fun t h => ⟨flush0_4 t, mem_block main_v0_0 _ _ _ i h⟩,
    Pipeline.Dat.arrAt_eq_of_cover _ 5 _ (fun t _ => ?_) fun i => (tiled i).imp fun t h => ⟨flush0_5 t, mem_block main_v0_1 _ _ _ i h⟩,
    Pipeline.Dat.arrAt_eq_of_cover _ 6 _ (fun t _ => ?_) fun i => (tiled i).imp fun t h => ⟨flush0_6 t, mem_block main_v0_2 _ _ _ i h⟩,
    Pipeline.Dat.arrAt_eq_of_cover _ 7 _ (fun t _ => ?_) fun i => (tiled i).imp fun t h => ⟨flush0_7 t, mem_block main_v0_3 _ _ _ i h⟩⟩
  · rw [Value.flushed4]; unfold out0_4
    rw [View.canon_unit_zero zero2, grad_block m c t _ rfl]
    rfl
  · rw [Value.flushed5]; unfold out0_5 k0_pay6 k0_pay4 k0_pay5 k0_pay3
    rw [View.canon_unit_zero zero2, View.ld_unit_zero zero2, View.ld_unit_zero zero2, View.ld_unit_zero zero2, grad_block m c t _ rfl]
    rfl
  · rw [Value.flushed6]; unfold out0_6 k0_pay3
    rw [View.canon_unit_zero zero2, View.ld_unit_zero zero2, grad_block m c t _ rfl]
    rfl
  · rw [Value.flushed7]; unfold out0_7 k0_pay6 k0_pay4
    rw [View.canon_unit_zero zero2, View.ld_unit_zero zero2, grad_block m c t _ rfl]
    rfl

end Cert.AdamInIdeal.Adam

namespace Cert.Proof

open Idealize.ShloMosaic Idealize.SL.Sem Cert.Optimizer Cert.AdamInRefIdeal.Gen

theorem frame_AdamInIdeal : Cert.quiescent_AdamInIdeal := fun m ρ _ => Cert.AdamInIdeal.Gen.frame m ρ

theorem frame_AdamIn : Cert.quiescent_AdamIn := fun m ρ _ => Cert.AdamIn.Gen.frame m ρ

theorem frame_AdamInRefIdeal : Cert.quiescent_AdamInRefIdeal := fun m ρ _ =>
  (θ_run Cert.AdamInRefIdeal.defs _ _).mono (fun r h => ⟨fun c => (h c).2.2.2.2, sem_eq_zero_of_no_sems rfl r.2⟩) (Cert.AdamInRefIdeal.Value.run m ρ)

theorem preserves_AdamIn : Cert.preserves_AdamIn_AdamInIdeal := trivial

/-- The call leaves the reference's gradient, change of the parameter and moments. -/
theorem algebraic_AdamIn : Cert.algebraic_AdamInIdeal_AdamInRefIdeal := fun m g m' g' _ hin => by
  refine ⟨_, _, _, _, ?_, Cert.AdamInRefIdeal.Value.run m' g'⟩
  refine (θ_run Cert.AdamInIdeal.defs _ _).mono (fun _ h c => ?_) (Cert.AdamInIdeal.Value.run_blocks m g)
  obtain ⟨r0, r1, r2, r3, ra⟩ := h c
  obtain ⟨e0, e1, e2, e3⟩ := Cert.AdamInIdeal.Adam.finals m c
  obtain ⟨a0, a1, a2, a3⟩ := hin c
  have hg := sum4_host (m' ((c.tc : Thread Cert.AdamInRefIdeal.nD Cert.AdamInRefIdeal.τ).loc Cert.AdamInRefIdeal.main_arg0))
    bitsLt_bf16_f32 reducesTo_S4x1024x256_S1024x256_d0 h_S_
  refine ⟨r0.trans (e0.trans ?_), r1.trans (e1.trans ?_), r2.trans (e2.trans ?_), r3.trans (e3.trans ?_), ra⟩
  · rw [hg, a0]
  · rw [step_host, hg, a0, a1, a2, a3]
  · rw [mom_host, hg, a0, a2]
  · rw [vel_host, hg, a0, a3]

end Cert.Proof
-- ==== Proof.AdamOutClaims.lean ====
/-
# What the optimizer's call leaves for `w_out`
-/
module

public import proofs.«01_k».proof.Defs
public import proofs.«01_k».proof.Proof.Optimizer
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Quiescent

@[expose] public section

noncomputable section

namespace Cert.AdamOutIdeal.Adam

open Idealize.ShloMosaic Idealize.ShloMosaic.TcCoe Idealize.SL.Sem Cert.AdamOutIdeal Cert.AdamOutIdeal.Gen Cert.Optimizer Cert.Blocks

variable {F : FTy → Type} [FloatOps F]
variable (m : (ℓ : Loc nD τ sig) → Buf (Elt F) ℓ)

/-- The gradient: the sum of the four chips' parts. -/
abbrev grad (c : Dev nD) : S128x1024.Idx → F .f32 := fun i => sum4 fun q => m ((c : Thread nD τ).loc main_arg0) (ix3 q (i 0) (i 1))

/-- What the body sums at point `t` is the gradient under its block. -/
theorem grad_block (c : Dev nD) (t : Fin cfg0.N) (x : Vec F S4x128x1024 .bf16) (hx : x = iblk m c 0 t) :
    k0_pay2 (View.ld x r0_0) (View.ld x r0_1) (View.ld x r0_2) (View.ld x r0_3)
      = fun y => grad m c ((win0_4.rect t).emb y) := by
  subst hx
  funext y
  refine (planes_apply (iblk m c 0 t) _ _ _ _ _ _ y).trans (congrArg sum4 (funext fun q => ?_))
  refine congrArg (m ((c : Thread nD τ).loc main_arg0)) (funext fun a => Fin.ext ?_)
  match a with
  | ⟨0, _⟩ => show 0 * 4 + 1 * q.val = q.val; omega
  | ⟨1, _⟩ => rfl
  | ⟨2, _⟩ => rfl

/-- The points' blocks of rows cover a result. -/
theorem tiled : ∀ i : S128x1024.Idx, ∃ t : Fin grid0.N, ∀ a : Fin 2, win0_4.index t a * (M2 128 1024).size a ≤ (i a).val
    ∧ (i a).val < win0_4.index t a * (M2 128 1024).size a + (M2 128 1024).size a :=
  rows_tiled (by rw [N_0]) (fun t => win0_4.index t) (by decide +kernel)

/-- The four results: the gradient, the change of the parameter, the new moments. -/
theorem finals (c : Dev nD) :
    (dats m 0 c).arrAt 4 cfg0.N = grad m c
      ∧ (dats m 0 c).arrAt 5 cfg0.N = (fun i => step (grad m c i) (m ((c : Thread nD τ).loc main_arg1) i)
        (m ((c : Thread nD τ).loc main_arg2) i) (m ((c : Thread nD τ).loc main_arg3) i))
      ∧ (dats m 0 c).arrAt 6 cfg0.N = (fun i => mom (grad m c i) (m ((c : Thread nD τ).loc main_arg2) i))
      ∧ (dats m 0 c).arrAt 7 cfg0.N = (fun i => vel (grad m c i) (m ((c : Thread nD τ).loc main_arg3) i)) := by
  refine ⟨Pipeline.Dat.arrAt_eq_of_cover _ 4 _ (fun t _ => ?_) fun i => (tiled i).imp fun t h => ⟨flush0_4 t, mem_block main_v0_0 _ _ _ i h⟩,
    Pipeline.Dat.arrAt_eq_of_cover _ 5 _ (fun t _ => ?_) fun i => (tiled i).imp fun t h => ⟨flush0_5 t, mem_block main_v0_1 _ _ _ i h⟩,
    Pipeline.Dat.arrAt_eq_of_cover _ 6 _ (fun t _ => ?_) fun i => (tiled i).imp fun t h => ⟨flush0_6 t, mem_block main_v0_2 _ _ _ i h⟩,
    Pipeline.Dat.arrAt_eq_of_cover _ 7 _ (fun t _ => ?_) fun i => (tiled i).imp fun t h => ⟨flush0_7 t, mem_block main_v0_3 _ _ _ i h⟩⟩
  · rw [Value.flushed4]; unfold out0_4
    rw [View.canon_unit_zero zero2, grad_block m c t _ rfl]
    rfl
  · rw [Value.flushed5]; unfold out0_5 k0_pay6 k0_pay4 k0_pay5 k0_pay3
    rw [View.canon_unit_zero zero2, View.ld_unit_zero zero2, View.ld_unit_zero zero2, View.ld_unit_zero zero2, grad_block m c t _ rfl]
    rfl
  · rw [Value.flushed6]; unfold out0_6 k0_pay3
    rw [View.canon_unit_zero zero2, View.ld_unit_zero zero2, grad_block m c t _ rfl]
    rfl
  · rw [Value.flushed7]; unfold out0_7 k0_pay6 k0_pay4
    rw [View.canon_unit_zero zero2, View.ld_unit_zero zero2, grad_block m c t _ rfl]
    rfl

end Cert.AdamOutIdeal.Adam

namespace Cert.Proof

open Idealize.ShloMosaic Idealize.SL.Sem Cert.Optimizer Cert.AdamOutRefIdeal.Gen

theorem frame_AdamOutIdeal : Cert.quiescent_AdamOutIdeal := fun m ρ _ => Cert.AdamOutIdeal.Gen.frame m ρ

theorem frame_AdamOut : Cert.quiescent_AdamOut := fun m ρ _ => Cert.AdamOut.Gen.frame m ρ

theorem frame_AdamOutRefIdeal : Cert.quiescent_AdamOutRefIdeal := fun m ρ _ =>
  (θ_run Cert.AdamOutRefIdeal.defs _ _).mono (fun r h => ⟨fun c => (h c).2.2.2.2, sem_eq_zero_of_no_sems rfl r.2⟩) (Cert.AdamOutRefIdeal.Value.run m ρ)

theorem preserves_AdamOut : Cert.preserves_AdamOut_AdamOutIdeal := trivial

/-- The call leaves the reference's gradient, change of the parameter and moments. -/
theorem algebraic_AdamOut : Cert.algebraic_AdamOutIdeal_AdamOutRefIdeal := fun m g m' g' _ hin => by
  refine ⟨_, _, _, _, ?_, Cert.AdamOutRefIdeal.Value.run m' g'⟩
  refine (θ_run Cert.AdamOutIdeal.defs _ _).mono (fun _ h c => ?_) (Cert.AdamOutIdeal.Value.run_blocks m g)
  obtain ⟨r0, r1, r2, r3, ra⟩ := h c
  obtain ⟨e0, e1, e2, e3⟩ := Cert.AdamOutIdeal.Adam.finals m c
  obtain ⟨a0, a1, a2, a3⟩ := hin c
  have hg := sum4_host (m' ((c.tc : Thread Cert.AdamOutRefIdeal.nD Cert.AdamOutRefIdeal.τ).loc Cert.AdamOutRefIdeal.main_arg0))
    bitsLt_bf16_f32 reducesTo_S4x128x1024_S128x1024_d0 h_S_
  refine ⟨r0.trans (e0.trans ?_), r1.trans (e1.trans ?_), r2.trans (e2.trans ?_), r3.trans (e3.trans ?_), ra⟩
  · rw [hg, a0]
  · rw [step_host, hg, a0, a1, a2, a3]
  · rw [mom_host, hg, a0, a2]
  · rw [vel_host, hg, a0, a3]

end Cert.Proof
-- ==== Proof.AdamUpClaims.lean ====
/-
# What the optimizer's call leaves for `w_up`
-/
module

public import proofs.«01_k».proof.Defs
public import proofs.«01_k».proof.Proof.Optimizer
public import proofs.«01_k».proof.Proof.Gen.AdamUp.Frame
public import proofs.«01_k».proof.Proof.Gen.AdamUpIdeal.Value
public import proofs.«01_k».proof.Proof.Gen.AdamUpRefIdeal.Run
public import Idealize.ShloMosaic.Lib.Quiescent

@[expose] public section

noncomputable section

namespace Cert.AdamUpIdeal.Adam

open Idealize.ShloMosaic Idealize.ShloMosaic.TcCoe Idealize.SL.Sem Cert.AdamUpIdeal Cert.AdamUpIdeal.Gen Cert.Optimizer Cert.Blocks

variable {F : FTy → Type} [FloatOps F]
variable (m : (ℓ : Loc nD τ sig) → Buf (Elt F) ℓ)

/-- The gradient: the sum of the four chips' parts. -/
abbrev grad (c : Dev nD) : S1024x768.Idx → F .f32 := fun i => sum4 fun q => m ((c : Thread nD τ).loc main_arg0) (ix3 q (i 0) (i 1))

/-- What the body sums at point `t` is the gradient under its block. -/
theorem grad_block (c : Dev nD) (t : Fin cfg0.N) (x : Vec F S4x128x768 .bf16) (hx : x = iblk m c 0 t) :
    k0_pay2 (View.ld x r0_0) (View.ld x r0_1) (View.ld x r0_2) (View.ld x r0_3)
      = fun y => grad m c ((win0_4.rect t).emb y) := by
  subst hx
  funext y
  refine (planes_apply (iblk m c 0 t) _ _ _ _ _ _ y).trans (congrArg sum4 (funext fun q => ?_))
  refine congrArg (m ((c : Thread nD τ).loc main_arg0)) (funext fun a => Fin.ext ?_)
  match a with
  | ⟨0, _⟩ => show 0 * 4 + 1 * q.val = q.val; omega
  | ⟨1, _⟩ => rfl
  | ⟨2, _⟩ => rfl

/-- The points' blocks of rows cover a result. -/
theorem tiled : ∀ i : S1024x768.Idx, ∃ t : Fin grid0.N, ∀ a : Fin 2, win0_4.index t a * (M2 128 768).size a ≤ (i a).val
    ∧ (i a).val < win0_4.index t a * (M2 128 768).size a + (M2 128 768).size a :=
  rows_tiled (by rw [N_0]) (fun t => win0_4.index t) (by decide +kernel)

/-- The four results: the gradient, the change of the parameter, the new moments. -/
theorem finals (c : Dev nD) :
    (dats m 0 c).arrAt 4 cfg0.N = grad m c
      ∧ (dats m 0 c).arrAt 5 cfg0.N = (fun i => step (grad m c i) (m ((c : Thread nD τ).loc main_arg1) i)
        (m ((c : Thread nD τ).loc main_arg2) i) (m ((c : Thread nD τ).loc main_arg3) i))
      ∧ (dats m 0 c).arrAt 6 cfg0.N = (fun i => mom (grad m c i) (m ((c : Thread nD τ).loc main_arg2) i))
      ∧ (dats m 0 c).arrAt 7 cfg0.N = (fun i => vel (grad m c i) (m ((c : Thread nD τ).loc main_arg3) i)) := by
  refine ⟨Pipeline.Dat.arrAt_eq_of_cover _ 4 _ (fun t _ => ?_) fun i => (tiled i).imp fun t h => ⟨flush0_4 t, mem_block main_v0_0 _ _ _ i h⟩,
    Pipeline.Dat.arrAt_eq_of_cover _ 5 _ (fun t _ => ?_) fun i => (tiled i).imp fun t h => ⟨flush0_5 t, mem_block main_v0_1 _ _ _ i h⟩,
    Pipeline.Dat.arrAt_eq_of_cover _ 6 _ (fun t _ => ?_) fun i => (tiled i).imp fun t h => ⟨flush0_6 t, mem_block main_v0_2 _ _ _ i h⟩,
    Pipeline.Dat.arrAt_eq_of_cover _ 7 _ (fun t _ => ?_) fun i => (tiled i).imp fun t h => ⟨flush0_7 t, mem_block main_v0_3 _ _ _ i h⟩⟩
  · rw [Value.flushed4]; unfold out0_4
    rw [View.canon_unit_zero zero2, grad_block m c t _ rfl]
    rfl
  · rw [Value.flushed5]; unfold out0_5 k0_pay6 k0_pay4 k0_pay5 k0_pay3
    rw [View.canon_unit_zero zero2, View.ld_unit_zero zero2, View.ld_unit_zero zero2, View.ld_unit_zero zero2, grad_block m c t _ rfl]
    rfl
  · rw [Value.flushed6]; unfold out0_6 k0_pay3
    rw [View.canon_unit_zero zero2, View.ld_unit_zero zero2, grad_block m c t _ rfl]
    rfl
  · rw [Value.flushed7]; unfold out0_7 k0_pay6 k0_pay4
    rw [View.canon_unit_zero zero2, View.ld_unit_zero zero2, grad_block m c t _ rfl]
    rfl

end Cert.AdamUpIdeal.Adam

namespace Cert.Proof

open Idealize.ShloMosaic Idealize.SL.Sem Cert.Optimizer Cert.AdamUpRefIdeal.Gen

theorem frame_AdamUpIdeal : Cert.quiescent_AdamUpIdeal := fun m ρ _ => Cert.AdamUpIdeal.Gen.frame m ρ

theorem frame_AdamUp : Cert.quiescent_AdamUp := fun m ρ _ => Cert.AdamUp.Gen.frame m ρ

theorem frame_AdamUpRefIdeal : Cert.quiescent_AdamUpRefIdeal := fun m ρ _ =>
  (θ_run Cert.AdamUpRefIdeal.defs _ _).mono (fun r h => ⟨fun c => (h c).2.2.2.2, sem_eq_zero_of_no_sems rfl r.2⟩) (Cert.AdamUpRefIdeal.Value.run m ρ)

theorem preserves_AdamUp : Cert.preserves_AdamUp_AdamUpIdeal := trivial

/-- The call leaves the reference's gradient, change of the parameter and moments. -/
theorem algebraic_AdamUp : Cert.algebraic_AdamUpIdeal_AdamUpRefIdeal := fun m g m' g' _ hin => by
  refine ⟨_, _, _, _, ?_, Cert.AdamUpRefIdeal.Value.run m' g'⟩
  refine (θ_run Cert.AdamUpIdeal.defs _ _).mono (fun _ h c => ?_) (Cert.AdamUpIdeal.Value.run_blocks m g)
  obtain ⟨r0, r1, r2, r3, ra⟩ := h c
  obtain ⟨e0, e1, e2, e3⟩ := Cert.AdamUpIdeal.Adam.finals m c
  obtain ⟨a0, a1, a2, a3⟩ := hin c
  have hg := sum4_host (m' ((c.tc : Thread Cert.AdamUpRefIdeal.nD Cert.AdamUpRefIdeal.τ).loc Cert.AdamUpRefIdeal.main_arg0))
    bitsLt_bf16_f32 reducesTo_S4x1024x768_S1024x768_d0 h_S_
  refine ⟨r0.trans (e0.trans ?_), r1.trans (e1.trans ?_), r2.trans (e2.trans ?_), r3.trans (e3.trans ?_), ra⟩
  · rw [hg, a0]
  · rw [step_host, hg, a0, a1, a2, a3]
  · rw [mom_host, hg, a0, a2]
  · rw [vel_host, hg, a0, a3]

end Cert.Proof
-- ==== Proof.AdamDownClaims.lean ====
/-
# What the optimizer's call leaves for `w_down`
-/
module

public import proofs.«01_k».proof.Defs
public import proofs.«01_k».proof.Proof.Optimizer
public import proofs.«01_k».proof.Proof.Gen.AdamDown.Frame
public import proofs.«01_k».proof.Proof.Gen.AdamDownIdeal.Value
public import proofs.«01_k».proof.Proof.Gen.AdamDownRefIdeal.Run
public import Idealize.ShloMosaic.Lib.Quiescent

@[expose] public section

noncomputable section

namespace Cert.AdamDownIdeal.Adam

open Idealize.ShloMosaic Idealize.ShloMosaic.TcCoe Idealize.SL.Sem Cert.AdamDownIdeal Cert.AdamDownIdeal.Gen Cert.Optimizer Cert.Blocks

variable {F : FTy → Type} [FloatOps F]
variable (m : (ℓ : Loc nD τ sig) → Buf (Elt F) ℓ)

/-- The gradient: the sum of the four chips' parts. -/
abbrev grad (c : Dev nD) : S384x1024.Idx → F .f32 := fun i => sum4 fun q => m ((c : Thread nD τ).loc main_arg0) (ix3 q (i 0) (i 1))

/-- What the body sums at point `t` is the gradient under its block. -/
theorem grad_block (c : Dev nD) (t : Fin cfg0.N) (x : Vec F S4x128x1024 .bf16) (hx : x = iblk m c 0 t) :
    k0_pay2 (View.ld x r0_0) (View.ld x r0_1) (View.ld x r0_2) (View.ld x r0_3)
      = fun y => grad m c ((win0_4.rect t).emb y) := by
  subst hx
  funext y
  refine (planes_apply (iblk m c 0 t) _ _ _ _ _ _ y).trans (congrArg sum4 (funext fun q => ?_))
  refine congrArg (m ((c : Thread nD τ).loc main_arg0)) (funext fun a => Fin.ext ?_)
  match a with
  | ⟨0, _⟩ => show 0 * 4 + 1 * q.val = q.val; omega
  | ⟨1, _⟩ => rfl
  | ⟨2, _⟩ => rfl

/-- The points' blocks of rows cover a result. -/
theorem tiled : ∀ i : S384x1024.Idx, ∃ t : Fin grid0.N, ∀ a : Fin 2, win0_4.index t a * (M2 128 1024).size a ≤ (i a).val
    ∧ (i a).val < win0_4.index t a * (M2 128 1024).size a + (M2 128 1024).size a :=
  rows_tiled (by rw [N_0]) (fun t => win0_4.index t) (by decide +kernel)

/-- The four results: the gradient, the change of the parameter, the new moments. -/
theorem finals (c : Dev nD) :
    (dats m 0 c).arrAt 4 cfg0.N = grad m c
      ∧ (dats m 0 c).arrAt 5 cfg0.N = (fun i => step (grad m c i) (m ((c : Thread nD τ).loc main_arg1) i)
        (m ((c : Thread nD τ).loc main_arg2) i) (m ((c : Thread nD τ).loc main_arg3) i))
      ∧ (dats m 0 c).arrAt 6 cfg0.N = (fun i => mom (grad m c i) (m ((c : Thread nD τ).loc main_arg2) i))
      ∧ (dats m 0 c).arrAt 7 cfg0.N = (fun i => vel (grad m c i) (m ((c : Thread nD τ).loc main_arg3) i)) := by
  refine ⟨Pipeline.Dat.arrAt_eq_of_cover _ 4 _ (fun t _ => ?_) fun i => (tiled i).imp fun t h => ⟨flush0_4 t, mem_block main_v0_0 _ _ _ i h⟩,
    Pipeline.Dat.arrAt_eq_of_cover _ 5 _ (fun t _ => ?_) fun i => (tiled i).imp fun t h => ⟨flush0_5 t, mem_block main_v0_1 _ _ _ i h⟩,
    Pipeline.Dat.arrAt_eq_of_cover _ 6 _ (fun t _ => ?_) fun i => (tiled i).imp fun t h => ⟨flush0_6 t, mem_block main_v0_2 _ _ _ i h⟩,
    Pipeline.Dat.arrAt_eq_of_cover _ 7 _ (fun t _ => ?_) fun i => (tiled i).imp fun t h => ⟨flush0_7 t, mem_block main_v0_3 _ _ _ i h⟩⟩
  · rw [Value.flushed4]; unfold out0_4
    rw [View.canon_unit_zero zero2, grad_block m c t _ rfl]
    rfl
  · rw [Value.flushed5]; unfold out0_5 k0_pay6 k0_pay4 k0_pay5 k0_pay3
    rw [View.canon_unit_zero zero2, View.ld_unit_zero zero2, View.ld_unit_zero zero2, View.ld_unit_zero zero2, grad_block m c t _ rfl]
    rfl
  · rw [Value.flushed6]; unfold out0_6 k0_pay3
    rw [View.canon_unit_zero zero2, View.ld_unit_zero zero2, grad_block m c t _ rfl]
    rfl
  · rw [Value.flushed7]; unfold out0_7 k0_pay6 k0_pay4
    rw [View.canon_unit_zero zero2, View.ld_unit_zero zero2, grad_block m c t _ rfl]
    rfl

end Cert.AdamDownIdeal.Adam

namespace Cert.Proof

open Idealize.ShloMosaic Idealize.SL.Sem Cert.Optimizer Cert.AdamDownRefIdeal.Gen

theorem frame_AdamDownIdeal : Cert.quiescent_AdamDownIdeal := fun m ρ _ => Cert.AdamDownIdeal.Gen.frame m ρ

theorem frame_AdamDown : Cert.quiescent_AdamDown := fun m ρ _ => Cert.AdamDown.Gen.frame m ρ

theorem frame_AdamDownRefIdeal : Cert.quiescent_AdamDownRefIdeal := fun m ρ _ =>
  (θ_run Cert.AdamDownRefIdeal.defs _ _).mono (fun r h => ⟨fun c => (h c).2.2.2.2, sem_eq_zero_of_no_sems rfl r.2⟩) (Cert.AdamDownRefIdeal.Value.run m ρ)

theorem preserves_AdamDown : Cert.preserves_AdamDown_AdamDownIdeal := trivial

/-- The call leaves the reference's gradient, change of the parameter and moments. -/
theorem algebraic_AdamDown : Cert.algebraic_AdamDownIdeal_AdamDownRefIdeal := fun m g m' g' _ hin => by
  refine ⟨_, _, _, _, ?_, Cert.AdamDownRefIdeal.Value.run m' g'⟩
  refine (θ_run Cert.AdamDownIdeal.defs _ _).mono (fun _ h c => ?_) (Cert.AdamDownIdeal.Value.run_blocks m g)
  obtain ⟨r0, r1, r2, r3, ra⟩ := h c
  obtain ⟨e0, e1, e2, e3⟩ := Cert.AdamDownIdeal.Adam.finals m c
  obtain ⟨a0, a1, a2, a3⟩ := hin c
  have hg := sum4_host (m' ((c.tc : Thread Cert.AdamDownRefIdeal.nD Cert.AdamDownRefIdeal.τ).loc Cert.AdamDownRefIdeal.main_arg0))
    bitsLt_bf16_f32 reducesTo_S4x384x1024_S384x1024_d0 h_S_
  refine ⟨r0.trans (e0.trans ?_), r1.trans (e1.trans ?_), r2.trans (e2.trans ?_), r3.trans (e3.trans ?_), ra⟩
  · rw [hg, a0]
  · rw [step_host, hg, a0, a1, a2, a3]
  · rw [mom_host, hg, a0, a2]
  · rw [vel_host, hg, a0, a3]

end Cert.Proof
-- ==== Proof.AdamSmallClaims.lean ====
/-
# The optimizer's call for the small parameters

Its gradient comes whole and in full precision, so there is nothing to sum.
-/
module

public import proofs.«01_k».proof.Defs
public import proofs.«01_k».proof.Proof.Optimizer
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Quiescent

@[expose] public section

noncomputable section

namespace Cert.AdamSmallIdeal.Adam

open Idealize.ShloMosaic Idealize.ShloMosaic.TcCoe Idealize.SL.Sem Cert.AdamSmallIdeal Cert.AdamSmallIdeal.Gen Cert.Optimizer Cert.Blocks

variable {F : FTy → Type} [FloatOps F]
variable (m : (ℓ : Loc nD τ sig) → Buf (Elt F) ℓ)

/-- The gradient. -/
abbrev grad (c : Dev nD) : S1280x128.Idx → F .f32 := m ((c : Thread nD τ).loc main_arg0)

/-- The points' blocks of rows cover a result. -/
theorem tiled : ∀ i : S1280x128.Idx, ∃ t : Fin grid0.N, ∀ a : Fin 2, win0_4.index t a * (M2 128 128).size a ≤ (i a).val
    ∧ (i a).val < win0_4.index t a * (M2 128 128).size a + (M2 128 128).size a :=
  rows_tiled (by rw [N_0]) (fun t => win0_4.index t) (by decide +kernel)

/-- The four results: the gradient, the change of the parameter, the new moments. -/
theorem finals (c : Dev nD) :
    (dats m 0 c).arrAt 4 cfg0.N = grad m c
      ∧ (dats m 0 c).arrAt 5 cfg0.N = (fun i => step (grad m c i) (m ((c : Thread nD τ).loc main_arg1) i)
        (m ((c : Thread nD τ).loc main_arg2) i) (m ((c : Thread nD τ).loc main_arg3) i))
      ∧ (dats m 0 c).arrAt 6 cfg0.N = (fun i => mom (grad m c i) (m ((c : Thread nD τ).loc main_arg2) i))
      ∧ (dats m 0 c).arrAt 7 cfg0.N = (fun i => vel (grad m c i) (m ((c : Thread nD τ).loc main_arg3) i)) := by
  refine ⟨Pipeline.Dat.arrAt_eq_of_cover _ 4 _ (fun t _ => ?_) fun i => (tiled i).imp fun t h => ⟨flush0_4 t, mem_block main_v0_0 _ _ _ i h⟩,
    Pipeline.Dat.arrAt_eq_of_cover _ 5 _ (fun t _ => ?_) fun i => (tiled i).imp fun t h => ⟨flush0_5 t, mem_block main_v0_1 _ _ _ i h⟩,
    Pipeline.Dat.arrAt_eq_of_cover _ 6 _ (fun t _ => ?_) fun i => (tiled i).imp fun t h => ⟨flush0_6 t, mem_block main_v0_2 _ _ _ i h⟩,
    Pipeline.Dat.arrAt_eq_of_cover _ 7 _ (fun t _ => ?_) fun i => (tiled i).imp fun t h => ⟨flush0_7 t, mem_block main_v0_3 _ _ _ i h⟩⟩
  · rw [Value.flushed4]; unfold out0_4
    rw [View.canon_unit_zero zero2, View.ld_unit_zero zero2]
    rfl
  · rw [Value.flushed5]; unfold out0_5
    rw [View.canon_unit_zero zero2, View.ld_unit_zero zero2, View.ld_unit_zero zero2, View.ld_unit_zero zero2, View.ld_unit_zero zero2]
    rfl
  · rw [Value.flushed6]; unfold out0_6
    rw [View.canon_unit_zero zero2, View.ld_unit_zero zero2, View.ld_unit_zero zero2]
    rfl
  · rw [Value.flushed7]; unfold out0_7
    rw [View.canon_unit_zero zero2, View.ld_unit_zero zero2, View.ld_unit_zero zero2]
    rfl

end Cert.AdamSmallIdeal.Adam

namespace Cert.Proof

open Idealize.ShloMosaic Idealize.SL.Sem Cert.Optimizer Cert.AdamSmallRefIdeal.Gen

theorem frame_AdamSmallIdeal : Cert.quiescent_AdamSmallIdeal := fun m ρ _ => Cert.AdamSmallIdeal.Gen.frame m ρ

theorem frame_AdamSmall : Cert.quiescent_AdamSmall := fun m ρ _ => Cert.AdamSmall.Gen.frame m ρ

theorem frame_AdamSmallRefIdeal : Cert.quiescent_AdamSmallRefIdeal := fun m ρ _ =>
  (θ_run Cert.AdamSmallRefIdeal.defs _ _).mono (fun r h => ⟨fun c => (h c).2.2.2.2, sem_eq_zero_of_no_sems rfl r.2⟩) (Cert.AdamSmallRefIdeal.Value.run m ρ)

theorem preserves_AdamSmall : Cert.preserves_AdamSmall_AdamSmallIdeal := trivial

/-- The call leaves the gradient and the reference's change of the parameter and moments. -/
theorem algebraic_AdamSmall : Cert.algebraic_AdamSmallIdeal_AdamSmallRefIdeal := fun m g m' g' _ hin => by
  refine ⟨_, _, _, _, ?_, Cert.AdamSmallRefIdeal.Value.run m' g'⟩
  refine (θ_run Cert.AdamSmallIdeal.defs _ _).mono (fun _ h c => ?_) (Cert.AdamSmallIdeal.Value.run_blocks m g)
  obtain ⟨r0, r1, r2, r3, ra⟩ := h c
  obtain ⟨e0, e1, e2, e3⟩ := Cert.AdamSmallIdeal.Adam.finals m c
  obtain ⟨a0, a1, a2, a3⟩ := hin c
  refine ⟨r0.trans (e0.trans ?_), r1.trans (e1.trans ?_), r2.trans (e2.trans ?_), r3.trans (e3.trans ?_), ra⟩
  · rw [a0]
  · rw [step_host, a0, a1, a2, a3]
  · rw [mom_host, a0, a2]
  · rw [vel_host, a0, a3]

end Cert.Proof
-- ==== Proof.AdamAdaClaims.lean ====
/-
# The optimizer's call for `w_ada`

Its gradient comes whole and in full precision, so there is nothing to sum.
-/
module

public import proofs.«01_k».proof.Defs
public import proofs.«01_k».proof.Proof.Optimizer
public import proofs.«01_k».proof.Proof.Gen.AdamAda.Frame
public import proofs.«01_k».proof.Proof.Gen.AdamAdaIdeal.Value
public import proofs.«01_k».proof.Proof.Gen.AdamAdaRefIdeal.Run
public import Idealize.ShloMosaic.Lib.Quiescent

@[expose] public section

noncomputable section

namespace Cert.AdamAdaIdeal.Adam

open Idealize.ShloMosaic Idealize.ShloMosaic.TcCoe Idealize.SL.Sem Cert.AdamAdaIdeal Cert.AdamAdaIdeal.Gen Cert.Optimizer Cert.Blocks

variable {F : FTy → Type} [FloatOps F]
variable (m : (ℓ : Loc nD τ sig) → Buf (Elt F) ℓ)

/-- The gradient. -/
abbrev grad (c : Dev nD) : S1024x768.Idx → F .f32 := m ((c : Thread nD τ).loc main_arg0)

/-- The points' blocks of rows cover a result. -/
theorem tiled : ∀ i : S1024x768.Idx, ∃ t : Fin grid0.N, ∀ a : Fin 2, win0_4.index t a * (M2 128 768).size a ≤ (i a).val
    ∧ (i a).val < win0_4.index t a * (M2 128 768).size a + (M2 128 768).size a :=
  rows_tiled (by rw [N_0]) (fun t => win0_4.index t) (by decide +kernel)

/-- The four results: the gradient, the change of the parameter, the new moments. -/
theorem finals (c : Dev nD) :
    (dats m 0 c).arrAt 4 cfg0.N = grad m c
      ∧ (dats m 0 c).arrAt 5 cfg0.N = (fun i => step (grad m c i) (m ((c : Thread nD τ).loc main_arg1) i)
        (m ((c : Thread nD τ).loc main_arg2) i) (m ((c : Thread nD τ).loc main_arg3) i))
      ∧ (dats m 0 c).arrAt 6 cfg0.N = (fun i => mom (grad m c i) (m ((c : Thread nD τ).loc main_arg2) i))
      ∧ (dats m 0 c).arrAt 7 cfg0.N = (fun i => vel (grad m c i) (m ((c : Thread nD τ).loc main_arg3) i)) := by
  refine ⟨Pipeline.Dat.arrAt_eq_of_cover _ 4 _ (fun t _ => ?_) fun i => (tiled i).imp fun t h => ⟨flush0_4 t, mem_block main_v0_0 _ _ _ i h⟩,
    Pipeline.Dat.arrAt_eq_of_cover _ 5 _ (fun t _ => ?_) fun i => (tiled i).imp fun t h => ⟨flush0_5 t, mem_block main_v0_1 _ _ _ i h⟩,
    Pipeline.Dat.arrAt_eq_of_cover _ 6 _ (fun t _ => ?_) fun i => (tiled i).imp fun t h => ⟨flush0_6 t, mem_block main_v0_2 _ _ _ i h⟩,
    Pipeline.Dat.arrAt_eq_of_cover _ 7 _ (fun t _ => ?_) fun i => (tiled i).imp fun t h => ⟨flush0_7 t, mem_block main_v0_3 _ _ _ i h⟩⟩
  · rw [Value.flushed4]; unfold out0_4
    rw [View.canon_unit_zero zero2, View.ld_unit_zero zero2]
    rfl
  · rw [Value.flushed5]; unfold out0_5
    rw [View.canon_unit_zero zero2, View.ld_unit_zero zero2, View.ld_unit_zero zero2, View.ld_unit_zero zero2, View.ld_unit_zero zero2]
    rfl
  · rw [Value.flushed6]; unfold out0_6
    rw [View.canon_unit_zero zero2, View.ld_unit_zero zero2, View.ld_unit_zero zero2]
    rfl
  · rw [Value.flushed7]; unfold out0_7
    rw [View.canon_unit_zero zero2, View.ld_unit_zero zero2, View.ld_unit_zero zero2]
    rfl

end Cert.AdamAdaIdeal.Adam

namespace Cert.Proof

open Idealize.ShloMosaic Idealize.SL.Sem Cert.Optimizer Cert.AdamAdaRefIdeal.Gen

theorem frame_AdamAdaIdeal : Cert.quiescent_AdamAdaIdeal := fun m ρ _ => Cert.AdamAdaIdeal.Gen.frame m ρ

theorem frame_AdamAda : Cert.quiescent_AdamAda := fun m ρ _ => Cert.AdamAda.Gen.frame m ρ

theorem frame_AdamAdaRefIdeal : Cert.quiescent_AdamAdaRefIdeal := fun m ρ _ =>
  (θ_run Cert.AdamAdaRefIdeal.defs _ _).mono (fun r h => ⟨fun c => (h c).2.2.2.2, sem_eq_zero_of_no_sems rfl r.2⟩) (Cert.AdamAdaRefIdeal.Value.run m ρ)

theorem preserves_AdamAda : Cert.preserves_AdamAda_AdamAdaIdeal := trivial

/-- The call leaves the gradient and the reference's change of the parameter and moments. -/
theorem algebraic_AdamAda : Cert.algebraic_AdamAdaIdeal_AdamAdaRefIdeal := fun m g m' g' _ hin => by
  refine ⟨_, _, _, _, ?_, Cert.AdamAdaRefIdeal.Value.run m' g'⟩
  refine (θ_run Cert.AdamAdaIdeal.defs _ _).mono (fun _ h c => ?_) (Cert.AdamAdaIdeal.Value.run_blocks m g)
  obtain ⟨r0, r1, r2, r3, ra⟩ := h c
  obtain ⟨e0, e1, e2, e3⟩ := Cert.AdamAdaIdeal.Adam.finals m c
  obtain ⟨a0, a1, a2, a3⟩ := hin c
  refine ⟨r0.trans (e0.trans ?_), r1.trans (e1.trans ?_), r2.trans (e2.trans ?_), r3.trans (e3.trans ?_), ra⟩
  · rw [a0]
  · rw [step_host, a0, a1, a2, a3]
  · rw [mom_host, a0, a2]
  · rw [vel_host, a0, a3]

end Cert.Proof
-- ==== Proof.Grad.lean ====
/-
# A weight's gradient, summed over stretches of tokens

The call walks the blocks of the weight, and for each block the tokens in stretches of 512. What it keeps starts from zero at a
block's first stretch and gains each stretch's product; after the last stretch it is the sum over all tokens.
-/
module

public import Idealize.ShloMosaic.Lib.Pipeline.ValueKit
public import Idealize.ShloMosaic.Lib.Pointwise
public import proofs.«01_k».proof.Proof.Blocks

@[expose] public section

noncomputable section

namespace Cert.Grad

open Idealize.ShloMosaic Cert.Blocks

theorem zero3 : (![0, 0, 0] : Fin 3 → Nat) = fun _ => 0 := funext fun a => by fin_cases a <;> rfl

/-- The block of a point. -/
abbrev blockOf {N : ℕ} (hN : N = 64) (t : Fin N) : Fin 8 := ⟨t.val / 8, by have := t.isLt; omega⟩

/-- Token `k` of the stretch of a point. -/
abbrev tokenOf {N : ℕ} (t : Fin N) (k : Fin 512) : Fin 4096 := ⟨t.val % 8 * 512 + k.val, by have := k.isLt; omega⟩

/-- What is kept at the last stretch of a block: the sum over all tokens. -/
theorem kept {N : ℕ} (hN : N = 64) {ι : Type} (f : (n : ℕ) → n < N → ι → EReal) (g : Fin 8 → ι → Fin 4096 → EReal)
    (h0 : ∀ t : Fin N, t.val % 8 = 0 → ∀ i, f t.val t.isLt i = 0 + ∑ k : Fin 512, g (blockOf hN t) i (tokenOf t k))
    (hs : ∀ t : Fin N, ¬t.val % 8 = 0 → ∀ i, f t.val t.isLt i
      = f (t.val - 1) (Nat.lt_of_le_of_lt (Nat.sub_le _ _) t.isLt) i + ∑ k : Fin 512, g (blockOf hN t) i (tokenOf t k))
    (t : Fin N) (hr : t.val % 8 = 7) (i : ι) : f t.val t.isLt i = ∑ l : Fin 4096, g (blockOf hN t) i l := by
  rw [Pipeline.eq_sum_fin_of_reset_step_apply_of_flush f 8 (fun _ => 0) (fun t i => ∑ k : Fin 512, g (blockOf hN t) i (tokenOf t k)) h0 hs t hr i,
    zero_add]
  refine Fin.sum_mul_add_congr (fun s k hl => ?_)
  have hs := s.isLt
  exact congrArg₂ (fun q l => g q i l) (Fin.ext (by show (8 * (t.val / 8) + s.val) / 8 = t.val / 8; omega))
    (Fin.ext (by show (8 * (t.val / 8) + s.val) % 8 * 512 + k.val = s.val * 512 + k.val; omega))

/-- The blocks stored at the last stretches cover the result. -/
theorem tiled {N r k : ℕ} (hN : N = 64) (j : Fin N → Fin 3 → ℕ) (hj : ∀ t, j t 0 = t.val / 8 ∧ j t 1 = 0 ∧ j t 2 = 0) (i : (M3 8 r k).Idx) :
    ∃ t : Fin N, t.val % 8 = 7 ∧ ∀ a : Fin 3, j t a * (M3 1 r k).size a ≤ (i a).val ∧ (i a).val < j t a * (M3 1 r k).size a + (M3 1 r k).size a := by
  have h0 : (i 0).val < 8 := (i 0).isLt
  have h1 : (i 1).val < r := (i 1).isLt
  have h2 : (i 2).val < k := (i 2).isLt
  refine ⟨⟨8 * (i 0).val + 7, by omega⟩, by show (8 * (i 0).val + 7) % 8 = 7; omega, fun a => ?_⟩
  obtain ⟨e0, e1, e2⟩ := hj ⟨8 * (i 0).val + 7, by omega⟩
  match a with
  | ⟨0, _⟩ =>
    show j _ 0 * 1 ≤ (i 0).val ∧ (i 0).val < j _ 0 * 1 + 1
    rw [e0]; show (8 * (i 0).val + 7) / 8 * 1 ≤ _ ∧ _ < (8 * (i 0).val + 7) / 8 * 1 + 1; omega
  | ⟨1, _⟩ => show j _ 1 * r ≤ (i 1).val ∧ (i 1).val < j _ 1 * r + r; rw [e1]; omega
  | ⟨2, _⟩ => show j _ 2 * k ≤ (i 2).val ∧ (i 2).val < j _ 2 * k + k; rw [e2]; omega

end Cert.Grad
-- ==== Proof.GradInClaims.lean ====
/-
# One device's part of the gradient of `w_in`
-/
module

public import proofs.«01_k».proof.Defs
public import proofs.«01_k».proof.Proof.Grad
public import proofs.«01_k».proof.Proof.Optimizer
public import proofs.«01_k».proof.Proof.Gen.GradIn.Frame
public import proofs.«01_k».proof.Proof.Gen.GradInIdeal.Value
public import proofs.«01_k».proof.Proof.Gen.GradInRefIdeal.Run
public import Idealize.ShloMosaic.Lib.Quiescent

@[expose] public section

noncomputable section

namespace Cert.GradInIdeal.Grad

open Idealize.ShloMosaic Idealize.ShloMosaic.TcCoe Idealize.SL.Sem Cert.GradInIdeal Cert.GradInIdeal.Gen Cert.Grad Cert.Optimizer Cert.Blocks

section body

variable {c : Dev nD} {i : grid0.Coords} {a2 : Memref sig .tc .vmem S512x1024 .bf16} {h2 : a2.IsWhole} {a3 : Memref sig .tc .vmem S512x256 .bf16}
  {h3 : a3.IsWhole} {a4 : Memref sig .tc .vmem S1x1024x256 .bf16} {h4 : a4.IsWhole} {a5 : Memref sig .tc .vmem S1024x256 .f32} {h5 : a5.IsWhole}
  {x : Vec Ideal S512x1024 .bf16} {w : Vec Ideal S512x256 .bf16} {s : Vec Ideal S1024x256 .f32}

/-- A stretch's product on top of what was kept. -/
theorem gain (y : S1024x256.Idx) : k0_pay2 s x w y = s y + ∑ k : Fin 512, x (ix2 k (y 0)) * w (ix2 k (y 1)) := by
  unfold k0_pay2
  simp only [shapeCast_self, pointwise, zero_add]

/-- Nothing is kept at first. -/
theorem none (y : S1024x256.Idx) : k0_pay1 (F := Ideal) y = 0 := by
  unfold k0_pay1
  simp only [shapeCast_self, pointwise]

theorem first {hc0 hc1} : sout0_A_0 (F := Ideal) c i a2 h2 a3 h3 a4 h4 a5 h5 hc0 hc1 x w = k0_pay2 k0_pay1 x w := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1024x256) zero2, View.readCov_unit_zero (S := S1024x256) _ zero2]
  simp only [View.readAt_eq_ld, h2.read_unread, h3.read_unread, View.ld_unit_zero (S := S512x1024) zero2, View.ld_unit_zero (S := S512x256) zero2]

theorem between {hc0 hc1} : sout0_B_0 (F := Ideal) c i a2 h2 a3 h3 a4 h4 a5 h5 hc0 hc1 x w s = k0_pay2 s x w := by
  unfold sout0_B_0
  rw [View.read_writes_eq_canon _ _ _ (scover0_B_0 c i a2 h2 a3 h3 a4 h4 a5 h5 hc0 hc1 x w s)]
  unfold kernelRun0_B
  dsimp only
  rw [View.canon_unit_zero zero2]
  simp only [View.readAt_eq_ld, h2.read_unread, h3.read_unread, h5.read_unread, View.ld_unit_zero (S := S1024x256) zero2,
    View.ld_unit_zero (S := S512x1024) zero2, View.ld_unit_zero (S := S512x256) zero2]

theorem last {hc0 hc1} : sout0_C_0 (F := Ideal) c i a2 h2 a3 h3 a4 h4 a5 h5 hc0 hc1 x w s = k0_pay2 s x w := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero zero2]
  simp only [View.readAt_eq_ld, h2.read_unread, h3.read_unread, h5.read_unread, View.ld_unit_zero (S := S1024x256) zero2,
    View.ld_unit_zero (S := S512x1024) zero2, View.ld_unit_zero (S := S512x256) zero2]

/-- What the last stretch stores. -/
theorem stored {hc0 hc1} : out0_C_2 (F := Ideal) c i a2 h2 a3 h3 a4 h4 a5 h5 hc0 hc1 x w s = k0_pay3 (k0_pay2 s x w) := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero zero3, View.readCov_unit_zero (S := S1024x256) _ zero2]
  simp only [View.readAt_eq_ld, h2.read_unread, h3.read_unread, h5.read_unread, View.ld_unit_zero (S := S1024x256) zero2,
    View.ld_unit_zero (S := S512x1024) zero2, View.ld_unit_zero (S := S512x256) zero2]

end body

variable (m : (ℓ : Loc nD τ sig) → Buf (Elt Ideal) ℓ)

/-- The operands. -/
abbrev lhs (c : Dev nD) : S4096x1024.Idx → EReal := m ((c : Thread nD τ).loc main_arg0)
abbrev rhs (c : Dev nD) : S4096x2048.Idx → EReal := m ((c : Thread nD τ).loc main_arg1)

/-- One token's part of an entry of block `q`. -/
abbrev part (c : Dev nD) (q : Fin 8) (y : S1024x256.Idx) (l : Fin 4096) : EReal :=
  lhs m c (ix2 l (y 0)) * rhs m c (ix2 l ⟨q.val * 256 + (y 1).val, by have := q.isLt; have : (y 1).val < 256 := (y 1).isLt; omega⟩)

/-- A point's blocks hold the rows of its tokens. -/
theorem block (c : Dev nD) (t : Fin cfg0.N) (y : S1024x256.Idx) (k : Fin 512) (x : S512x1024.Idx → EReal) (hx : x = iblk m c 0 t)
    (w : S512x256.Idx → EReal) (hw : w = iblk m c 1 t) : x (ix2 k (y 0)) * w (ix2 k (y 1)) = part m c (blockOf N_0 t) y (tokenOf t k) := by
  subst hx hw
  have e := (by decide +kernel : ∀ t : Fin grid0.N, win0_0.index t 0 = t.val % 8 ∧ win0_0.index t 1 = 0 ∧ win0_1.index t 0 = t.val % 8 ∧ win0_1.index t 1 = t.val / 8) t
  refine congrArg₂ (· * ·) (congrArg (lhs m c) (funext fun a => Fin.ext ?_)) (congrArg (rhs m c) (funext fun a => Fin.ext ?_))
  · match a with
    | ⟨0, _⟩ => show win0_0.index t 0 * 512 + 1 * (k : Nat) = t.val % 8 * 512 + k; omega
    | ⟨1, _⟩ => show win0_0.index t 1 * 1024 + 1 * (y 0 : Nat) = (y 0 : Nat); omega
  · match a with
    | ⟨0, _⟩ => show win0_1.index t 0 * 512 + 1 * (k : Nat) = t.val % 8 * 512 + k; omega
    | ⟨1, _⟩ => show win0_1.index t 1 * 256 + 1 * (y 1 : Nat) = t.val / 8 * 256 + (y 1 : Nat); omega

/-- What a point keeps, from what the point before kept. -/
theorem keeps_first (c : Dev nD) (t : Fin cfg0.N) (h : t.val % 8 = 0) :
    (outsAt0 m c t.val t.isLt).2 = k0_pay2 k0_pay1 (iblk m c 0 t) (iblk m c 1 t) := by
  simp only [outsAt0_A m c t h (by omega), first]

theorem keeps_next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h7 : t.val % 8 = 7
  · simp only [outsAt0_C m c t h h7, last]
  · simp only [outsAt0_B m c t h h7, between]

/-- What is kept after a block's last stretch. -/
theorem kept (c : Dev nD) (t : Fin cfg0.N) (hr : t.val % 8 = 7) (y : S1024x256.Idx) :
    (outsAt0 m c t.val t.isLt).2 y = ∑ l : Fin 4096, part m c (blockOf N_0 t) y l := by
  refine Cert.Grad.kept N_0 (fun n h => (outsAt0 m c n h).2) (part m c) (fun t h y => ?_) (fun t h y => ?_) t hr y
  · refine (congrFun (keeps_first m c t h) y).trans ((gain y).trans ?_)
    exact congrArg₂ (· + ·) (none y) (Finset.sum_congr rfl fun k _ => block m c t y k _ rfl _ rfl)
  · refine (congrFun (keeps_next m c t h) y).trans ((gain y).trans ?_)
    exact congrArg (_ + ·) (Finset.sum_congr rfl fun k _ => block m c t y k _ rfl _ rfl)

/-- The gradient in blocks of columns. -/
abbrev total (c : Dev nD) : S8x1024x256.Idx → Ideal .bf16 := fun i => ∑ l : Fin 4096, part m c (i 0) (ix2 (i 1) (i 2)) l

/-- What is stored of what is kept. -/
theorem stores (c : Dev nD) (t : Fin cfg0.N) (h : t.val % 8 = 7) : (outsAt0 m c t.val t.isLt).1 = k0_pay3 (outsAt0 m c t.val t.isLt).2 := by
  simp only [outsAt0_C m c t (by omega) h, last, stored]

theorem stored_apply (s : Vec Ideal S1024x256 .f32) (y : S1x1024x256.Idx) : k0_pay3 s y = s (ix2 (y 1) (y 2)) := by
  unfold k0_pay3
  simp only [pointwise]

/-- The result is the gradient. -/
theorem final (c : Dev nD) : (dats m 0 c).arrAt 2 cfg0.N = total m c := by
  have e := (by decide +kernel : ∀ t : Fin grid0.N, win0_2.index t 0 = t.val / 8 ∧ win0_2.index t 1 = 0 ∧ win0_2.index t 2 = 0)
  refine Pipeline.Dat.arrAt_eq_of_cover _ 2 _ (fun t hf => funext fun y => ?_)
    fun i => (tiled N_0 (fun t => win0_2.index t) e i).imp fun t h => ⟨(flush0_2 t).mpr h.1, mem_block main_v0 _ _ _ i h.2⟩
  have h0 : (y 0 : Nat) < 1 := (y 0).isLt
  obtain ⟨e0, e1, e2⟩ := e t
  rw [Value.flushed2, stores m c t ((flush0_2 t).mp hf)]
  refine (stored_apply _ y).trans ((kept m c t ((flush0_2 t).mp hf) _).trans (show _ = total m c ((win0_2.rect t).emb y) from ?_))
  refine Finset.sum_congr rfl fun l _ => congrArg₂ (fun q y => part m c q y l) (Fin.ext ?_) (congrArg₂ ix2 (Fin.ext ?_) (Fin.ext ?_))
  · show t.val / 8 = win0_2.index t 0 * 1 + 1 * (y 0 : Nat); omega
  · show (y 1 : Nat) = win0_2.index t 1 * 1024 + 1 * (y 1 : Nat); omega
  · show (y 2 : Nat) = win0_2.index t 2 * 256 + 1 * (y 2 : Nat); omega

end Cert.GradInIdeal.Grad

namespace Cert.Proof

open Idealize.ShloMosaic Idealize.SL.Sem Cert.GradInRefIdeal.Gen

theorem frame_GradInIdeal : Cert.quiescent_GradInIdeal := fun m ρ _ => Cert.GradInIdeal.Gen.frame m ρ

theorem frame_GradIn : Cert.quiescent_GradIn := fun m ρ _ => Cert.GradIn.Gen.frame m ρ

theorem frame_GradInRefIdeal : Cert.quiescent_GradInRefIdeal := fun m ρ _ =>
  (θ_run Cert.GradInRefIdeal.defs _ _).mono (fun r h => ⟨fun c => (h c).2, sem_eq_zero_of_no_sems rfl r.2⟩) (Cert.GradInRefIdeal.Value.run m ρ)

theorem preserves_GradIn : Cert.preserves_GradIn_GradInIdeal := trivial

/-- The call leaves the reference's gradient. -/
theorem algebraic_GradIn : Cert.algebraic_GradInIdeal_GradInRefIdeal := fun m g m' g' _ hin => by
  refine ⟨_, ?_, Cert.GradInRefIdeal.Value.run m' g'⟩
  refine (θ_run Cert.GradInIdeal.defs _ _).mono (fun _ h c => ⟨(h c).1.trans ((Cert.GradInIdeal.Grad.final m c).trans ?_), (h c).2⟩)
    (Cert.GradInIdeal.Value.run_blocks m g)
  obtain ⟨a0, a1⟩ := hin c
  rw [a0, a1]
  funext i
  simp only [pointwise]
  exact (zero_add _).symm

end Cert.Proof
-- ==== Proof.GradOutClaims.lean ====
/-
# One device's part of the gradient of `w_out`
-/
module

public import proofs.«01_k».proof.Defs
public import proofs.«01_k».proof.Proof.Grad
public import proofs.«01_k».proof.Proof.Optimizer
public import proofs.«01_k».proof.Proof.Gen.GradOut.Frame
public import proofs.«01_k».proof.Proof.Gen.GradOutIdeal.Value
public import proofs.«01_k».proof.Proof.Gen.GradOutRefIdeal.Run
public import Idealize.ShloMosaic.Lib.Quiescent

@[expose] public section

noncomputable section

namespace Cert.GradOutIdeal.Grad

open Idealize.ShloMosaic Idealize.ShloMosaic.TcCoe Idealize.SL.Sem Cert.GradOutIdeal Cert.GradOutIdeal.Gen Cert.Grad Cert.Optimizer Cert.Blocks

section body

variable {c : Dev nD} {i : grid0.Coords} {a2 : Memref sig .tc .vmem S512x128 .bf16} {h2 : a2.IsWhole} {a3 : Memref sig .tc .vmem S512x1024 .bf16}
  {h3 : a3.IsWhole} {a4 : Memref sig .tc .vmem S1x128x1024 .bf16} {h4 : a4.IsWhole} {a5 : Memref sig .tc .vmem S128x1024 .f32} {h5 : a5.IsWhole}
  {x : Vec Ideal S512x128 .bf16} {w : Vec Ideal S512x1024 .bf16} {s : Vec Ideal S128x1024 .f32}

/-- A stretch's product on top of what was kept. -/
theorem gain (y : S128x1024.Idx) : k0_pay2 s x w y = s y + ∑ k : Fin 512, x (ix2 k (y 0)) * w (ix2 k (y 1)) := by
  unfold k0_pay2
  simp only [shapeCast_self, pointwise, zero_add]

/-- Nothing is kept at first. -/
theorem none (y : S128x1024.Idx) : k0_pay1 (F := Ideal) y = 0 := by
  unfold k0_pay1
  simp only [shapeCast_self, pointwise]

theorem first {hc0 hc1} : sout0_A_0 (F := Ideal) c i a2 h2 a3 h3 a4 h4 a5 h5 hc0 hc1 x w = k0_pay2 k0_pay1 x w := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S128x1024) zero2, View.readCov_unit_zero (S := S128x1024) _ zero2]
  simp only [View.readAt_eq_ld, h2.read_unread, h3.read_unread, View.ld_unit_zero (S := S512x128) zero2, View.ld_unit_zero (S := S512x1024) zero2]

theorem between {hc0 hc1} : sout0_B_0 (F := Ideal) c i a2 h2 a3 h3 a4 h4 a5 h5 hc0 hc1 x w s = k0_pay2 s x w := by
  unfold sout0_B_0
  rw [View.read_writes_eq_canon _ _ _ (scover0_B_0 c i a2 h2 a3 h3 a4 h4 a5 h5 hc0 hc1 x w s)]
  unfold kernelRun0_B
  dsimp only
  rw [View.canon_unit_zero zero2]
  simp only [View.readAt_eq_ld, h2.read_unread, h3.read_unread, h5.read_unread, View.ld_unit_zero (S := S128x1024) zero2,
    View.ld_unit_zero (S := S512x128) zero2, View.ld_unit_zero (S := S512x1024) zero2]

theorem last {hc0 hc1} : sout0_C_0 (F := Ideal) c i a2 h2 a3 h3 a4 h4 a5 h5 hc0 hc1 x w s = k0_pay2 s x w := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero zero2]
  simp only [View.readAt_eq_ld, h2.read_unread, h3.read_unread, h5.read_unread, View.ld_unit_zero (S := S128x1024) zero2,
    View.ld_unit_zero (S := S512x128) zero2, View.ld_unit_zero (S := S512x1024) zero2]

/-- What the last stretch stores. -/
theorem stored {hc0 hc1} : out0_C_2 (F := Ideal) c i a2 h2 a3 h3 a4 h4 a5 h5 hc0 hc1 x w s = k0_pay3 (k0_pay2 s x w) := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero zero3, View.readCov_unit_zero (S := S128x1024) _ zero2]
  simp only [View.readAt_eq_ld, h2.read_unread, h3.read_unread, h5.read_unread, View.ld_unit_zero (S := S128x1024) zero2,
    View.ld_unit_zero (S := S512x128) zero2, View.ld_unit_zero (S := S512x1024) zero2]

end body

variable (m : (ℓ : Loc nD τ sig) → Buf (Elt Ideal) ℓ)

/-- The operands. -/
abbrev lhs (c : Dev nD) : S4096x1024.Idx → EReal := m ((c : Thread nD τ).loc main_arg0)
abbrev rhs (c : Dev nD) : S4096x1024.Idx → EReal := m ((c : Thread nD τ).loc main_arg1)

/-- One token's part of an entry of block `q`. -/
abbrev part (c : Dev nD) (q : Fin 8) (y : S128x1024.Idx) (l : Fin 4096) : EReal :=
  lhs m c (ix2 l ⟨q.val * 128 + (y 0).val, by have := q.isLt; have : (y 0).val < 128 := (y 0).isLt; omega⟩) * rhs m c (ix2 l (y 1))

/-- A point's blocks hold the rows of its tokens. -/
theorem block (c : Dev nD) (t : Fin cfg0.N) (y : S128x1024.Idx) (k : Fin 512) (x : S512x128.Idx → EReal) (hx : x = iblk m c 0 t)
    (w : S512x1024.Idx → EReal) (hw : w = iblk m c 1 t) : x (ix2 k (y 0)) * w (ix2 k (y 1)) = part m c (blockOf N_0 t) y (tokenOf t k) := by
  subst hx hw
  have e := (by decide +kernel : ∀ t : Fin grid0.N, win0_0.index t 0 = t.val % 8 ∧ win0_0.index t 1 = t.val / 8 ∧ win0_1.index t 0 = t.val % 8 ∧ win0_1.index t 1 = 0) t
  refine congrArg₂ (· * ·) (congrArg (lhs m c) (funext fun a => Fin.ext ?_)) (congrArg (rhs m c) (funext fun a => Fin.ext ?_))
  · match a with
    | ⟨0, _⟩ => show win0_0.index t 0 * 512 + 1 * (k : Nat) = t.val % 8 * 512 + k; omega
    | ⟨1, _⟩ => show win0_0.index t 1 * 128 + 1 * (y 0 : Nat) = t.val / 8 * 128 + (y 0 : Nat); omega
  · match a with
    | ⟨0, _⟩ => show win0_1.index t 0 * 512 + 1 * (k : Nat) = t.val % 8 * 512 + k; omega
    | ⟨1, _⟩ => show win0_1.index t 1 * 1024 + 1 * (y 1 : Nat) = (y 1 : Nat); omega

/-- What a point keeps, from what the point before kept. -/
theorem keeps_first (c : Dev nD) (t : Fin cfg0.N) (h : t.val % 8 = 0) :
    (outsAt0 m c t.val t.isLt).2 = k0_pay2 k0_pay1 (iblk m c 0 t) (iblk m c 1 t) := by
  simp only [outsAt0_A m c t h (by omega), first]

theorem keeps_next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h7 : t.val % 8 = 7
  · simp only [outsAt0_C m c t h h7, last]
  · simp only [outsAt0_B m c t h h7, between]

/-- What is kept after a block's last stretch. -/
theorem kept (c : Dev nD) (t : Fin cfg0.N) (hr : t.val % 8 = 7) (y : S128x1024.Idx) :
    (outsAt0 m c t.val t.isLt).2 y = ∑ l : Fin 4096, part m c (blockOf N_0 t) y l := by
  refine Cert.Grad.kept N_0 (fun n h => (outsAt0 m c n h).2) (part m c) (fun t h y => ?_) (fun t h y => ?_) t hr y
  · refine (congrFun (keeps_first m c t h) y).trans ((gain y).trans ?_)
    exact congrArg₂ (· + ·) (none y) (Finset.sum_congr rfl fun k _ => block m c t y k _ rfl _ rfl)
  · refine (congrFun (keeps_next m c t h) y).trans ((gain y).trans ?_)
    exact congrArg (_ + ·) (Finset.sum_congr rfl fun k _ => block m c t y k _ rfl _ rfl)

/-- The gradient in blocks of rows. -/
abbrev total (c : Dev nD) : S8x128x1024.Idx → Ideal .bf16 := fun i => ∑ l : Fin 4096, part m c (i 0) (ix2 (i 1) (i 2)) l

/-- What is stored of what is kept. -/
theorem stores (c : Dev nD) (t : Fin cfg0.N) (h : t.val % 8 = 7) : (outsAt0 m c t.val t.isLt).1 = k0_pay3 (outsAt0 m c t.val t.isLt).2 := by
  simp only [outsAt0_C m c t (by omega) h, last, stored]

theorem stored_apply (s : Vec Ideal S128x1024 .f32) (y : S1x128x1024.Idx) : k0_pay3 s y = s (ix2 (y 1) (y 2)) := by
  unfold k0_pay3
  simp only [pointwise]

/-- The result is the gradient. -/
theorem final (c : Dev nD) : (dats m 0 c).arrAt 2 cfg0.N = total m c := by
  have e := (by decide +kernel : ∀ t : Fin grid0.N, win0_2.index t 0 = t.val / 8 ∧ win0_2.index t 1 = 0 ∧ win0_2.index t 2 = 0)
  refine Pipeline.Dat.arrAt_eq_of_cover _ 2 _ (fun t hf => funext fun y => ?_)
    fun i => (tiled N_0 (fun t => win0_2.index t) e i).imp fun t h => ⟨(flush0_2 t).mpr h.1, mem_block main_v0 _ _ _ i h.2⟩
  have h0 : (y 0 : Nat) < 1 := (y 0).isLt
  obtain ⟨e0, e1, e2⟩ := e t
  rw [Value.flushed2, stores m c t ((flush0_2 t).mp hf)]
  refine (stored_apply _ y).trans ((kept m c t ((flush0_2 t).mp hf) _).trans (show _ = total m c ((win0_2.rect t).emb y) from ?_))
  refine Finset.sum_congr rfl fun l _ => congrArg₂ (fun q y => part m c q y l) (Fin.ext ?_) (congrArg₂ ix2 (Fin.ext ?_) (Fin.ext ?_))
  · show t.val / 8 = win0_2.index t 0 * 1 + 1 * (y 0 : Nat); omega
  · show (y 1 : Nat) = win0_2.index t 1 * 128 + 1 * (y 1 : Nat); omega
  · show (y 2 : Nat) = win0_2.index t 2 * 1024 + 1 * (y 2 : Nat); omega

end Cert.GradOutIdeal.Grad

namespace Cert.Proof

open Idealize.ShloMosaic Idealize.SL.Sem Cert.GradOutRefIdeal.Gen

theorem frame_GradOutIdeal : Cert.quiescent_GradOutIdeal := fun m ρ _ => Cert.GradOutIdeal.Gen.frame m ρ

theorem frame_GradOut : Cert.quiescent_GradOut := fun m ρ _ => Cert.GradOut.Gen.frame m ρ

theorem frame_GradOutRefIdeal : Cert.quiescent_GradOutRefIdeal := fun m ρ _ =>
  (θ_run Cert.GradOutRefIdeal.defs _ _).mono (fun r h => ⟨fun c => (h c).2, sem_eq_zero_of_no_sems rfl r.2⟩) (Cert.GradOutRefIdeal.Value.run m ρ)

theorem preserves_GradOut : Cert.preserves_GradOut_GradOutIdeal := trivial

/-- The call leaves the reference's gradient. -/
theorem algebraic_GradOut : Cert.algebraic_GradOutIdeal_GradOutRefIdeal := fun m g m' g' _ hin => by
  refine ⟨_, ?_, Cert.GradOutRefIdeal.Value.run m' g'⟩
  refine (θ_run Cert.GradOutIdeal.defs _ _).mono (fun _ h c => ⟨(h c).1.trans ((Cert.GradOutIdeal.Grad.final m c).trans ?_), (h c).2⟩)
    (Cert.GradOutIdeal.Value.run_blocks m g)
  obtain ⟨a0, a1⟩ := hin c
  rw [a0, a1]
  funext i
  simp only [pointwise]
  exact (zero_add _).symm

end Cert.Proof
-- ==== Proof.GradUpClaims.lean ====
/-
# One device's part of the gradient of `w_up`
-/
module

public import proofs.«01_k».proof.Defs
public import proofs.«01_k».proof.Proof.Grad
public import proofs.«01_k».proof.Proof.Optimizer
public import proofs.«01_k».proof.Proof.Gen.GradUp.Frame
public import proofs.«01_k».proof.Proof.Gen.GradUpIdeal.Value
public import proofs.«01_k».proof.Proof.Gen.GradUpRefIdeal.Run
public import Idealize.ShloMosaic.Lib.Quiescent

@[expose] public section

noncomputable section

namespace Cert.GradUpIdeal.Grad

open Idealize.ShloMosaic Idealize.ShloMosaic.TcCoe Idealize.SL.Sem Cert.GradUpIdeal Cert.GradUpIdeal.Gen Cert.Grad Cert.Optimizer Cert.Blocks

section body

variable {c : Dev nD} {i : grid0.Coords} {a2 : Memref sig .tc .vmem S512x1024 .bf16} {h2 : a2.IsWhole} {a3 : Memref sig .tc .vmem S512x768 .bf16}
  {h3 : a3.IsWhole} {a4 : Memref sig .tc .vmem S1x1024x768 .bf16} {h4 : a4.IsWhole} {a5 : Memref sig .tc .vmem S1024x768 .f32} {h5 : a5.IsWhole}
  {x : Vec Ideal S512x1024 .bf16} {w : Vec Ideal S512x768 .bf16} {s : Vec Ideal S1024x768 .f32}

/-- A stretch's product on top of what was kept. -/
theorem gain (y : S1024x768.Idx) : k0_pay2 s x w y = s y + ∑ k : Fin 512, x (ix2 k (y 0)) * w (ix2 k (y 1)) := by
  unfold k0_pay2
  simp only [shapeCast_self, pointwise, zero_add]

/-- Nothing is kept at first. -/
theorem none (y : S1024x768.Idx) : k0_pay1 (F := Ideal) y = 0 := by
  unfold k0_pay1
  simp only [shapeCast_self, pointwise]

theorem first {hc0 hc1} : sout0_A_0 (F := Ideal) c i a2 h2 a3 h3 a4 h4 a5 h5 hc0 hc1 x w = k0_pay2 k0_pay1 x w := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1024x768) zero2, View.readCov_unit_zero (S := S1024x768) _ zero2]
  simp only [View.readAt_eq_ld, h2.read_unread, h3.read_unread, View.ld_unit_zero (S := S512x1024) zero2, View.ld_unit_zero (S := S512x768) zero2]

theorem between {hc0 hc1} : sout0_B_0 (F := Ideal) c i a2 h2 a3 h3 a4 h4 a5 h5 hc0 hc1 x w s = k0_pay2 s x w := by
  unfold sout0_B_0
  rw [View.read_writes_eq_canon _ _ _ (scover0_B_0 c i a2 h2 a3 h3 a4 h4 a5 h5 hc0 hc1 x w s)]
  unfold kernelRun0_B
  dsimp only
  rw [View.canon_unit_zero zero2]
  simp only [View.readAt_eq_ld, h2.read_unread, h3.read_unread, h5.read_unread, View.ld_unit_zero (S := S1024x768) zero2,
    View.ld_unit_zero (S := S512x1024) zero2, View.ld_unit_zero (S := S512x768) zero2]

theorem last {hc0 hc1} : sout0_C_0 (F := Ideal) c i a2 h2 a3 h3 a4 h4 a5 h5 hc0 hc1 x w s = k0_pay2 s x w := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero zero2]
  simp only [View.readAt_eq_ld, h2.read_unread, h3.read_unread, h5.read_unread, View.ld_unit_zero (S := S1024x768) zero2,
    View.ld_unit_zero (S := S512x1024) zero2, View.ld_unit_zero (S := S512x768) zero2]

/-- What the last stretch stores. -/
theorem stored {hc0 hc1} : out0_C_2 (F := Ideal) c i a2 h2 a3 h3 a4 h4 a5 h5 hc0 hc1 x w s = k0_pay3 (k0_pay2 s x w) := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero zero3, View.readCov_unit_zero (S := S1024x768) _ zero2]
  simp only [View.readAt_eq_ld, h2.read_unread, h3.read_unread, h5.read_unread, View.ld_unit_zero (S := S1024x768) zero2,
    View.ld_unit_zero (S := S512x1024) zero2, View.ld_unit_zero (S := S512x768) zero2]

end body

variable (m : (ℓ : Loc nD τ sig) → Buf (Elt Ideal) ℓ)

/-- The operands. -/
abbrev lhs (c : Dev nD) : S4096x1024.Idx → EReal := m ((c : Thread nD τ).loc main_arg0)
abbrev rhs (c : Dev nD) : S4096x6144.Idx → EReal := m ((c : Thread nD τ).loc main_arg1)

/-- One token's part of an entry of block `q`. -/
abbrev part (c : Dev nD) (q : Fin 8) (y : S1024x768.Idx) (l : Fin 4096) : EReal :=
  lhs m c (ix2 l (y 0)) * rhs m c (ix2 l ⟨q.val * 768 + (y 1).val, by have := q.isLt; have : (y 1).val < 768 := (y 1).isLt; omega⟩)

/-- A point's blocks hold the rows of its tokens. -/
theorem block (c : Dev nD) (t : Fin cfg0.N) (y : S1024x768.Idx) (k : Fin 512) (x : S512x1024.Idx → EReal) (hx : x = iblk m c 0 t)
    (w : S512x768.Idx → EReal) (hw : w = iblk m c 1 t) : x (ix2 k (y 0)) * w (ix2 k (y 1)) = part m c (blockOf N_0 t) y (tokenOf t k) := by
  subst hx hw
  have e := (by decide +kernel : ∀ t : Fin grid0.N, win0_0.index t 0 = t.val % 8 ∧ win0_0.index t 1 = 0 ∧ win0_1.index t 0 = t.val % 8 ∧ win0_1.index t 1 = t.val / 8) t
  refine congrArg₂ (· * ·) (congrArg (lhs m c) (funext fun a => Fin.ext ?_)) (congrArg (rhs m c) (funext fun a => Fin.ext ?_))
  · match a with
    | ⟨0, _⟩ => show win0_0.index t 0 * 512 + 1 * (k : Nat) = t.val % 8 * 512 + k; omega
    | ⟨1, _⟩ => show win0_0.index t 1 * 1024 + 1 * (y 0 : Nat) = (y 0 : Nat); omega
  · match a with
    | ⟨0, _⟩ => show win0_1.index t 0 * 512 + 1 * (k : Nat) = t.val % 8 * 512 + k; omega
    | ⟨1, _⟩ => show win0_1.index t 1 * 768 + 1 * (y 1 : Nat) = t.val / 8 * 768 + (y 1 : Nat); omega

/-- What a point keeps, from what the point before kept. -/
theorem keeps_first (c : Dev nD) (t : Fin cfg0.N) (h : t.val % 8 = 0) :
    (outsAt0 m c t.val t.isLt).2 = k0_pay2 k0_pay1 (iblk m c 0 t) (iblk m c 1 t) := by
  simp only [outsAt0_A m c t h (by omega), first]

theorem keeps_next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h7 : t.val % 8 = 7
  · simp only [outsAt0_C m c t h h7, last]
  · simp only [outsAt0_B m c t h h7, between]

/-- What is kept after a block's last stretch. -/
theorem kept (c : Dev nD) (t : Fin cfg0.N) (hr : t.val % 8 = 7) (y : S1024x768.Idx) :
    (outsAt0 m c t.val t.isLt).2 y = ∑ l : Fin 4096, part m c (blockOf N_0 t) y l := by
  refine Cert.Grad.kept N_0 (fun n h => (outsAt0 m c n h).2) (part m c) (fun t h y => ?_) (fun t h y => ?_) t hr y
  · refine (congrFun (keeps_first m c t h) y).trans ((gain y).trans ?_)
    exact congrArg₂ (· + ·) (none y) (Finset.sum_congr rfl fun k _ => block m c t y k _ rfl _ rfl)
  · refine (congrFun (keeps_next m c t h) y).trans ((gain y).trans ?_)
    exact congrArg (_ + ·) (Finset.sum_congr rfl fun k _ => block m c t y k _ rfl _ rfl)

/-- The gradient in blocks of columns. -/
abbrev total (c : Dev nD) : S8x1024x768.Idx → Ideal .bf16 := fun i => ∑ l : Fin 4096, part m c (i 0) (ix2 (i 1) (i 2)) l

/-- What is stored of what is kept. -/
theorem stores (c : Dev nD) (t : Fin cfg0.N) (h : t.val % 8 = 7) : (outsAt0 m c t.val t.isLt).1 = k0_pay3 (outsAt0 m c t.val t.isLt).2 := by
  simp only [outsAt0_C m c t (by omega) h, last, stored]

theorem stored_apply (s : Vec Ideal S1024x768 .f32) (y : S1x1024x768.Idx) : k0_pay3 s y = s (ix2 (y 1) (y 2)) := by
  unfold k0_pay3
  simp only [pointwise]

/-- The result is the gradient. -/
theorem final (c : Dev nD) : (dats m 0 c).arrAt 2 cfg0.N = total m c := by
  have e := (by decide +kernel : ∀ t : Fin grid0.N, win0_2.index t 0 = t.val / 8 ∧ win0_2.index t 1 = 0 ∧ win0_2.index t 2 = 0)
  refine Pipeline.Dat.arrAt_eq_of_cover _ 2 _ (fun t hf => funext fun y => ?_)
    fun i => (tiled N_0 (fun t => win0_2.index t) e i).imp fun t h => ⟨(flush0_2 t).mpr h.1, mem_block main_v0 _ _ _ i h.2⟩
  have h0 : (y 0 : Nat) < 1 := (y 0).isLt
  obtain ⟨e0, e1, e2⟩ := e t
  rw [Value.flushed2, stores m c t ((flush0_2 t).mp hf)]
  refine (stored_apply _ y).trans ((kept m c t ((flush0_2 t).mp hf) _).trans (show _ = total m c ((win0_2.rect t).emb y) from ?_))
  refine Finset.sum_congr rfl fun l _ => congrArg₂ (fun q y => part m c q y l) (Fin.ext ?_) (congrArg₂ ix2 (Fin.ext ?_) (Fin.ext ?_))
  · show t.val / 8 = win0_2.index t 0 * 1 + 1 * (y 0 : Nat); omega
  · show (y 1 : Nat) = win0_2.index t 1 * 1024 + 1 * (y 1 : Nat); omega
  · show (y 2 : Nat) = win0_2.index t 2 * 768 + 1 * (y 2 : Nat); omega

end Cert.GradUpIdeal.Grad

namespace Cert.Proof

open Idealize.ShloMosaic Idealize.SL.Sem Cert.GradUpRefIdeal.Gen

theorem frame_GradUpIdeal : Cert.quiescent_GradUpIdeal := fun m ρ _ => Cert.GradUpIdeal.Gen.frame m ρ

theorem frame_GradUp : Cert.quiescent_GradUp := fun m ρ _ => Cert.GradUp.Gen.frame m ρ

theorem frame_GradUpRefIdeal : Cert.quiescent_GradUpRefIdeal := fun m ρ _ =>
  (θ_run Cert.GradUpRefIdeal.defs _ _).mono (fun r h => ⟨fun c => (h c).2, sem_eq_zero_of_no_sems rfl r.2⟩) (Cert.GradUpRefIdeal.Value.run m ρ)

theorem preserves_GradUp : Cert.preserves_GradUp_GradUpIdeal := trivial

/-- The call leaves the reference's gradient. -/
theorem algebraic_GradUp : Cert.algebraic_GradUpIdeal_GradUpRefIdeal := fun m g m' g' _ hin => by
  refine ⟨_, ?_, Cert.GradUpRefIdeal.Value.run m' g'⟩
  refine (θ_run Cert.GradUpIdeal.defs _ _).mono (fun _ h c => ⟨(h c).1.trans ((Cert.GradUpIdeal.Grad.final m c).trans ?_), (h c).2⟩)
    (Cert.GradUpIdeal.Value.run_blocks m g)
  obtain ⟨a0, a1⟩ := hin c
  rw [a0, a1]
  funext i
  simp only [pointwise]
  exact (zero_add _).symm

end Cert.Proof
-- ==== Proof.GradDownClaims.lean ====
/-
# One device's part of the gradient of `w_down`
-/
module

public import proofs.«01_k».proof.Defs
public import proofs.«01_k».proof.Proof.Grad
public import proofs.«01_k».proof.Proof.Optimizer
public import proofs.«01_k».proof.Proof.Gen.GradDown.Frame
public import proofs.«01_k».proof.Proof.Gen.GradDownIdeal.Value
public import proofs.«01_k».proof.Proof.Gen.GradDownRefIdeal.Run
public import Idealize.ShloMosaic.Lib.Quiescent

@[expose] public section

noncomputable section

namespace Cert.GradDownIdeal.Grad

open Idealize.ShloMosaic Idealize.ShloMosaic.TcCoe Idealize.SL.Sem Cert.GradDownIdeal Cert.GradDownIdeal.Gen Cert.Grad Cert.Optimizer Cert.Blocks

section body

variable {c : Dev nD} {i : grid0.Coords} {a2 : Memref sig .tc .vmem S512x384 .bf16} {h2 : a2.IsWhole} {a3 : Memref sig .tc .vmem S512x1024 .bf16}
  {h3 : a3.IsWhole} {a4 : Memref sig .tc .vmem S1x384x1024 .bf16} {h4 : a4.IsWhole} {a5 : Memref sig .tc .vmem S384x1024 .f32} {h5 : a5.IsWhole}
  {x : Vec Ideal S512x384 .bf16} {w : Vec Ideal S512x1024 .bf16} {s : Vec Ideal S384x1024 .f32}

/-- A stretch's product on top of what was kept. -/
theorem gain (y : S384x1024.Idx) : k0_pay2 s x w y = s y + ∑ k : Fin 512, x (ix2 k (y 0)) * w (ix2 k (y 1)) := by
  unfold k0_pay2
  simp only [shapeCast_self, pointwise, zero_add]

/-- Nothing is kept at first. -/
theorem none (y : S384x1024.Idx) : k0_pay1 (F := Ideal) y = 0 := by
  unfold k0_pay1
  simp only [shapeCast_self, pointwise]

theorem first {hc0 hc1} : sout0_A_0 (F := Ideal) c i a2 h2 a3 h3 a4 h4 a5 h5 hc0 hc1 x w = k0_pay2 k0_pay1 x w := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S384x1024) zero2, View.readCov_unit_zero (S := S384x1024) _ zero2]
  simp only [View.readAt_eq_ld, h2.read_unread, h3.read_unread, View.ld_unit_zero (S := S512x384) zero2, View.ld_unit_zero (S := S512x1024) zero2]

theorem between {hc0 hc1} : sout0_B_0 (F := Ideal) c i a2 h2 a3 h3 a4 h4 a5 h5 hc0 hc1 x w s = k0_pay2 s x w := by
  unfold sout0_B_0
  rw [View.read_writes_eq_canon _ _ _ (scover0_B_0 c i a2 h2 a3 h3 a4 h4 a5 h5 hc0 hc1 x w s)]
  unfold kernelRun0_B
  dsimp only
  rw [View.canon_unit_zero zero2]
  simp only [View.readAt_eq_ld, h2.read_unread, h3.read_unread, h5.read_unread, View.ld_unit_zero (S := S384x1024) zero2,
    View.ld_unit_zero (S := S512x384) zero2, View.ld_unit_zero (S := S512x1024) zero2]

theorem last {hc0 hc1} : sout0_C_0 (F := Ideal) c i a2 h2 a3 h3 a4 h4 a5 h5 hc0 hc1 x w s = k0_pay2 s x w := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero zero2]
  simp only [View.readAt_eq_ld, h2.read_unread, h3.read_unread, h5.read_unread, View.ld_unit_zero (S := S384x1024) zero2,
    View.ld_unit_zero (S := S512x384) zero2, View.ld_unit_zero (S := S512x1024) zero2]

/-- What the last stretch stores. -/
theorem stored {hc0 hc1} : out0_C_2 (F := Ideal) c i a2 h2 a3 h3 a4 h4 a5 h5 hc0 hc1 x w s = k0_pay3 (k0_pay2 s x w) := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero zero3, View.readCov_unit_zero (S := S384x1024) _ zero2]
  simp only [View.readAt_eq_ld, h2.read_unread, h3.read_unread, h5.read_unread, View.ld_unit_zero (S := S384x1024) zero2,
    View.ld_unit_zero (S := S512x384) zero2, View.ld_unit_zero (S := S512x1024) zero2]

end body

variable (m : (ℓ : Loc nD τ sig) → Buf (Elt Ideal) ℓ)

/-- The operands. -/
abbrev lhs (c : Dev nD) : S4096x3072.Idx → EReal := m ((c : Thread nD τ).loc main_arg0)
abbrev rhs (c : Dev nD) : S4096x1024.Idx → EReal := m ((c : Thread nD τ).loc main_arg1)

/-- One token's part of an entry of block `q`. -/
abbrev part (c : Dev nD) (q : Fin 8) (y : S384x1024.Idx) (l : Fin 4096) : EReal :=
  lhs m c (ix2 l ⟨q.val * 384 + (y 0).val, by have := q.isLt; have : (y 0).val < 384 := (y 0).isLt; omega⟩) * rhs m c (ix2 l (y 1))

/-- A point's blocks hold the rows of its tokens. -/
theorem block (c : Dev nD) (t : Fin cfg0.N) (y : S384x1024.Idx) (k : Fin 512) (x : S512x384.Idx → EReal) (hx : x = iblk m c 0 t)
    (w : S512x1024.Idx → EReal) (hw : w = iblk m c 1 t) : x (ix2 k (y 0)) * w (ix2 k (y 1)) = part m c (blockOf N_0 t) y (tokenOf t k) := by
  subst hx hw
  have e := (by decide +kernel : ∀ t : Fin grid0.N, win0_0.index t 0 = t.val % 8 ∧ win0_0.index t 1 = t.val / 8 ∧ win0_1.index t 0 = t.val % 8 ∧ win0_1.index t 1 = 0) t
  refine congrArg₂ (· * ·) (congrArg (lhs m c) (funext fun a => Fin.ext ?_)) (congrArg (rhs m c) (funext fun a => Fin.ext ?_))
  · match a with
    | ⟨0, _⟩ => show win0_0.index t 0 * 512 + 1 * (k : Nat) = t.val % 8 * 512 + k; omega
    | ⟨1, _⟩ => show win0_0.index t 1 * 384 + 1 * (y 0 : Nat) = t.val / 8 * 384 + (y 0 : Nat); omega
  · match a with
    | ⟨0, _⟩ => show win0_1.index t 0 * 512 + 1 * (k : Nat) = t.val % 8 * 512 + k; omega
    | ⟨1, _⟩ => show win0_1.index t 1 * 1024 + 1 * (y 1 : Nat) = (y 1 : Nat); omega

/-- What a point keeps, from what the point before kept. -/
theorem keeps_first (c : Dev nD) (t : Fin cfg0.N) (h : t.val % 8 = 0) :
    (outsAt0 m c t.val t.isLt).2 = k0_pay2 k0_pay1 (iblk m c 0 t) (iblk m c 1 t) := by
  simp only [outsAt0_A m c t h (by omega), first]

theorem keeps_next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h7 : t.val % 8 = 7
  · simp only [outsAt0_C m c t h h7, last]
  · simp only [outsAt0_B m c t h h7, between]

/-- What is kept after a block's last stretch. -/
theorem kept (c : Dev nD) (t : Fin cfg0.N) (hr : t.val % 8 = 7) (y : S384x1024.Idx) :
    (outsAt0 m c t.val t.isLt).2 y = ∑ l : Fin 4096, part m c (blockOf N_0 t) y l := by
  refine Cert.Grad.kept N_0 (fun n h => (outsAt0 m c n h).2) (part m c) (fun t h y => ?_) (fun t h y => ?_) t hr y
  · refine (congrFun (keeps_first m c t h) y).trans ((gain y).trans ?_)
    exact congrArg₂ (· + ·) (none y) (Finset.sum_congr rfl fun k _ => block m c t y k _ rfl _ rfl)
  · refine (congrFun (keeps_next m c t h) y).trans ((gain y).trans ?_)
    exact congrArg (_ + ·) (Finset.sum_congr rfl fun k _ => block m c t y k _ rfl _ rfl)

/-- The gradient in blocks of rows. -/
abbrev total (c : Dev nD) : S8x384x1024.Idx → Ideal .bf16 := fun i => ∑ l : Fin 4096, part m c (i 0) (ix2 (i 1) (i 2)) l

/-- What is stored of what is kept. -/
theorem stores (c : Dev nD) (t : Fin cfg0.N) (h : t.val % 8 = 7) : (outsAt0 m c t.val t.isLt).1 = k0_pay3 (outsAt0 m c t.val t.isLt).2 := by
  simp only [outsAt0_C m c t (by omega) h, last, stored]

theorem stored_apply (s : Vec Ideal S384x1024 .f32) (y : S1x384x1024.Idx) : k0_pay3 s y = s (ix2 (y 1) (y 2)) := by
  unfold k0_pay3
  simp only [pointwise]

/-- The result is the gradient. -/
theorem final (c : Dev nD) : (dats m 0 c).arrAt 2 cfg0.N = total m c := by
  have e := (by decide +kernel : ∀ t : Fin grid0.N, win0_2.index t 0 = t.val / 8 ∧ win0_2.index t 1 = 0 ∧ win0_2.index t 2 = 0)
  refine Pipeline.Dat.arrAt_eq_of_cover _ 2 _ (fun t hf => funext fun y => ?_)
    fun i => (tiled N_0 (fun t => win0_2.index t) e i).imp fun t h => ⟨(flush0_2 t).mpr h.1, mem_block main_v0 _ _ _ i h.2⟩
  have h0 : (y 0 : Nat) < 1 := (y 0).isLt
  obtain ⟨e0, e1, e2⟩ := e t
  rw [Value.flushed2, stores m c t ((flush0_2 t).mp hf)]
  refine (stored_apply _ y).trans ((kept m c t ((flush0_2 t).mp hf) _).trans (show _ = total m c ((win0_2.rect t).emb y) from ?_))
  refine Finset.sum_congr rfl fun l _ => congrArg₂ (fun q y => part m c q y l) (Fin.ext ?_) (congrArg₂ ix2 (Fin.ext ?_) (Fin.ext ?_))
  · show t.val / 8 = win0_2.index t 0 * 1 + 1 * (y 0 : Nat); omega
  · show (y 1 : Nat) = win0_2.index t 1 * 384 + 1 * (y 1 : Nat); omega
  · show (y 2 : Nat) = win0_2.index t 2 * 1024 + 1 * (y 2 : Nat); omega

end Cert.GradDownIdeal.Grad

namespace Cert.Proof

open Idealize.ShloMosaic Idealize.SL.Sem Cert.GradDownRefIdeal.Gen

theorem frame_GradDownIdeal : Cert.quiescent_GradDownIdeal := fun m ρ _ => Cert.GradDownIdeal.Gen.frame m ρ

theorem frame_GradDown : Cert.quiescent_GradDown := fun m ρ _ => Cert.GradDown.Gen.frame m ρ

theorem frame_GradDownRefIdeal : Cert.quiescent_GradDownRefIdeal := fun m ρ _ =>
  (θ_run Cert.GradDownRefIdeal.defs _ _).mono (fun r h => ⟨fun c => (h c).2, sem_eq_zero_of_no_sems rfl r.2⟩) (Cert.GradDownRefIdeal.Value.run m ρ)

theorem preserves_GradDown : Cert.preserves_GradDown_GradDownIdeal := trivial

/-- The call leaves the reference's gradient. -/
theorem algebraic_GradDown : Cert.algebraic_GradDownIdeal_GradDownRefIdeal := fun m g m' g' _ hin => by
  refine ⟨_, ?_, Cert.GradDownRefIdeal.Value.run m' g'⟩
  refine (θ_run Cert.GradDownIdeal.defs _ _).mono (fun _ h c => ⟨(h c).1.trans ((Cert.GradDownIdeal.Grad.final m c).trans ?_), (h c).2⟩)
    (Cert.GradDownIdeal.Value.run_blocks m g)
  obtain ⟨a0, a1⟩ := hin c
  rw [a0, a1]
  funext i
  simp only [pointwise]
  exact (zero_add _).symm

end Cert.Proof
-- ==== Proof.Norm.lean ====
/-
# Norms of rows and means over the ideal values

A row over the root of the mean of its squares, how a factor that is a nonnegative number passes through sums, and the gradient through the norm.
-/
module

public import Idealize.ShloMosaic.PureOps.Ideal
public import Idealize.ShloMosaic.Lib.Pointwise

@[expose] public section

noncomputable section

namespace Cert.Norm

open Idealize.ShloMosaic

/-- The number of a row's elements, and what is added to the mean of their squares. -/
abbrev count : EReal := Ideal.ofBits .f32 0x44800000#32
abbrev eps : EReal := Ideal.ofBits .f32 0x358637BD#32

/-- One over the root of the mean of a row's squares. -/
abbrev inv (x : Fin 1024 → EReal) : EReal := Ideal.rsqrt (Ideal.div (∑ k, x k * x k) count + eps)

/-- The residual connection: `r` and the gated norm of a row `x`, at one of its elements. -/
abbrev residual (r s : EReal) (x : Fin 1024 → EReal) (j : Fin 1024) (g : EReal) : EReal := r + s * (x j * inv x * g)

theorem count_eq : count = ((1024 : ℝ) : EReal) := by
  simp [count, Ideal.ofBits, Ideal.ieee, -EReal.coe_mul]; norm_num

theorem part_eq : Ideal.ofBits .f32 0x3A800000#32 = ((1024⁻¹ : ℝ) : EReal) := by
  simp [Ideal.ofBits, Ideal.ieee, -EReal.coe_mul]; norm_num

theorem half_eq : Ideal.ofBits .f32 0x3F000000#32 = ((2⁻¹ : ℝ) : EReal) := by
  simp [Ideal.ofBits, Ideal.ieee, -EReal.coe_mul]; norm_num

theorem half_part_eq : Ideal.ofBits .f32 0x3A000000#32 = ((2048⁻¹ : ℝ) : EReal) := by
  simp [Ideal.ofBits, Ideal.ieee, -EReal.coe_mul]; norm_num

/-- Over the number of elements, and times its inverse. -/
theorem div_count (x : EReal) : Ideal.div x count = x * ((1024⁻¹ : ℝ) : EReal) := by
  rw [Ideal.div, count_eq, if_neg (by norm_num), ← EReal.coe_inv]

/-- A nonnegative number passes through a sum. -/
theorem sum_mul {ι : Type} (s : Finset ι) (f : ι → EReal) {a : EReal} (h0 : 0 ≤ a) (ht : a ≠ ⊤) : (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ht, ih]

/-- Half the sum of rows' means, from the sum of the rows. -/
theorem half_sum {ι : Type} (s : Finset ι) (f : ι → EReal) :
    (∑ i ∈ s, f i) * Ideal.ofBits .f32 0x3A000000#32 = Ideal.ofBits .f32 0x3F000000#32 * ∑ i ∈ s, Ideal.div (f i) count := by
  simp only [div_count]
  rw [← sum_mul s f (by norm_num [← EReal.coe_inv]) (EReal.coe_ne_top _), half_part_eq, half_eq, mul_comm, mul_left_comm, mul_comm _ (∑ i ∈ s, f i), ← EReal.coe_mul]
  norm_num

/-- A sum of numbers. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- What is added to the mean is a positive number. -/
theorem eps_pos : ∃ e : ℝ, eps = (e : EReal) ∧ 0 < e := by
  refine ⟨_, by simp [eps, Ideal.ofBits, Ideal.ieee, -EReal.coe_mul]; exact rfl, ?_⟩
  norm_num

theorem minus_half_eq : Ideal.ofBits .f32 0xBF000000#32 = ((-2⁻¹ : ℝ) : EReal) := by
  simp [Ideal.ofBits, Ideal.ieee, -EReal.coe_mul]; norm_num

theorem one_eq : Ideal.ofBits .f32 0x3F800000#32 = 1 := by
  simp [Ideal.ofBits, Ideal.ieee, -EReal.coe_mul]; norm_num

/-- The mean of squares, with what is added to it, is infinite or a positive number; then the row's elements are numbers. -/
theorem square_cases (x : Fin 1024 → EReal) : Ideal.div (∑ k, x k * x k) count + eps = ⊤
    ∨ ∃ (v : ℝ) (y : Fin 1024 → ℝ), 0 < v ∧ Ideal.div (∑ k, x k * x k) count + eps = (v : EReal) ∧ ∀ k, x k = (y k : EReal) := by
  obtain ⟨e, he, hp⟩ := eps_pos
  have h0 : ∀ k, 0 ≤ x k * x k := fun k => by
    rcases le_total 0 (x k) with h | h
    · exact mul_nonneg h h
    · exact EReal.mul_nonneg_iff.2 (Or.inr ⟨h, h⟩)
  by_cases hx : ∀ k, x k ≠ ⊤ ∧ x k ≠ ⊥
  · refine Or.inr ⟨(∑ k, (x k).toReal * (x k).toReal) * 1024⁻¹ + e, fun k => (x k).toReal, ?_, ?_, fun k => (EReal.coe_toReal (hx k).1 (hx k).2).symm⟩
    · have : 0 ≤ ∑ k, (x k).toReal * (x k).toReal := Finset.sum_nonneg fun k _ => mul_self_nonneg _
      positivity
    · rw [div_count, he, EReal.coe_add, EReal.coe_mul]
      have : ∀ k, x k * x k = (((x k).toReal * (x k).toReal : ℝ) : EReal) := fun k => by
        rw [EReal.coe_mul, EReal.coe_toReal (hx k).1 (hx k).2]
      simp only [this, coe_sum]
  · refine Or.inl ?_
    obtain ⟨k, hk⟩ : ∃ k, x k * x k = ⊤ := by
      push_neg at hx
      obtain ⟨k, hk⟩ := hx
      refine ⟨k, ?_⟩
      by_cases h : x k = ⊤
      · rw [h]; rfl
      · rw [hk h]; rfl
    have : ∑ k, x k * x k = ⊤ := top_le_iff.1 (hk ▸ Finset.single_le_sum (fun k _ => h0 k) (Finset.mem_univ k))
    rw [div_count, this, he, EReal.top_mul_coe_of_pos (by norm_num), EReal.top_add_coe]

/-- Twice an ideal value. -/
theorem twice (y : EReal) : y + y = y * ((2 : ℝ) : EReal) := by
  have := EReal.right_distrib_of_nonneg (a := 1) (b := 1) (c := y) zero_le_one zero_le_one
  rw [one_mul] at this
  rw [← this, mul_comm]
  exact congrArg (y * ·) (by rw [← EReal.coe_one, ← EReal.coe_add]; norm_num)

/-- A row's gradient through its norm: `r`, and the factor of the norm times `d` less the row's own share, at one of its elements. -/
abbrev through (r : EReal) (x d : Fin 1024 → EReal) (j : Fin 1024) : EReal :=
  r + inv x * (d j - x j * inv x * Ideal.div (∑ k, d k * (x k * inv x)) count)

/-- The gradient of a row through its norm: `d` times the norm's factor, less the row's own share, in the two ways of writing it. -/
theorem norm_grad (x d : Fin 1024 → EReal) (j : Fin 1024) :
    inv x * (d j - x j * inv x * Ideal.div (∑ k, d k * (x k * inv x)) count)
      = (d j * inv x + x j * Ideal.div ((∑ k, x k * d k) * (Ideal.ofBits .f32 0xBF000000#32 * Ideal.div (inv x) (Ideal.div (∑ k, x k * x k) count + eps))) count)
        + Ideal.div ((∑ k, x k * d k) * (Ideal.ofBits .f32 0xBF000000#32 * Ideal.div (inv x) (Ideal.div (∑ k, x k * x k) count + eps))) count * x j := by
  rcases square_cases x with h | ⟨v, y, hv, h, hy⟩
  · have hr : inv x = 0 := by rw [inv, h]; rfl
    have hd : Ideal.div 0 ⊤ = 0 := by rw [Ideal.div, if_neg EReal.top_ne_zero, zero_mul]
    rw [hr, h, hd]
    simp [div_count]
  · have hs : 0 < Real.sqrt v := Real.sqrt_pos.2 hv
    have hr : inv x = (((Real.sqrt v)⁻¹ : ℝ) : EReal) := by
      rw [inv, h]
      show (if v < 0 then ⊥ else if v = 0 then ⊤ else _) = _
      rw [if_neg hv.not_gt, if_neg hv.ne']
    set r := (Real.sqrt v)⁻¹ with hrr
    have hr0 : 0 < r := inv_pos.2 hs
    have hd : Ideal.div (r : EReal) (v : EReal) = ((r * v⁻¹ : ℝ) : EReal) := by
      rw [Ideal.div, if_neg (by exact_mod_cast hv.ne'), ← EReal.coe_inv, EReal.coe_mul]
    have hS : ∑ k, d k * (x k * (r : EReal)) = (∑ k, x k * d k) * (r : EReal) := by
      rw [sum_mul _ _ (by exact_mod_cast hr0.le) (EReal.coe_ne_top _)]
      exact Finset.sum_congr rfl fun k _ => by rw [mul_left_comm, mul_assoc]
    rw [hr, h, hd, hS, hy j, minus_half_eq]
    simp only [div_count]
    generalize (∑ k, x k * d k) = S
    have e1 : (y j : EReal) * (r : EReal) * (S * (r : EReal) * ((1024⁻¹ : ℝ) : EReal)) = S * ((y j * r * r * 1024⁻¹ : ℝ) : EReal) := by
      simp only [EReal.coe_mul]; ac_rfl
    have e2 : S * (((-2⁻¹ : ℝ) : EReal) * ((r * v⁻¹ : ℝ) : EReal)) * ((1024⁻¹ : ℝ) : EReal) * (y j : EReal) = S * ((-2⁻¹ * (r * v⁻¹) * 1024⁻¹ * y j : ℝ) : EReal) := by
      simp only [EReal.coe_mul]; ac_rfl
    have hv' : v⁻¹ = r * r := by rw [hrr, ← mul_inv, Real.mul_self_sqrt hv.le]
    rw [e1, mul_comm (y j : EReal), e2, add_assoc, twice, mul_assoc S, ← EReal.coe_mul, sub_eq_add_neg,
      EReal.left_distrib_of_nonneg_of_ne_top (by exact_mod_cast hr0.le) (EReal.coe_ne_top _), mul_comm (r : EReal) (d j), ← mul_neg, ← EReal.coe_neg,
      mul_left_comm (r : EReal), ← EReal.coe_mul, hv']
    refine congrArg (fun q : ℝ => _ + S * (q : EReal)) ?_
    ring

end Cert.Norm
-- ==== Proof.LossBody.lean ====
/-
# The last product's points

What a point of the call stores, as a function of its blocks, the weight and the loss so far.
-/
module

public import proofs.«01_k».proof.Proof.Grad
public import proofs.«01_k».proof.Proof.Norm
public import proofs.«01_k».proof.Proof.Optimizer
public import proofs.«01_k».proof.Proof.Gen.LossIdeal.Value
public import Idealize.ShloMosaic.Lib.Pointwise

@[expose] public section

noncomputable section

namespace Cert.LossIdeal.Body

open Idealize.ShloMosaic Idealize.ShloMosaic.TcCoe Idealize.SL.Sem Cert.LossIdeal Cert.LossIdeal.Gen Cert.Grad Cert.Optimizer Cert.Blocks

section cases

variable {c : Dev nD} {i : grid0.Coords} {a1 : Memref sig .tc .vmem S256x3072 .bf16} {h1 : a1.IsWhole} {a2 : Memref sig .tc .vmem S256x1024 .f32}
  {h2 : a2.IsWhole} {a3 a4 : Memref sig .tc .vmem S1x1024 .f32} {h3 : a3.IsWhole} {h4 : a4.IsWhole} {a5 a7 a8 : Memref sig .tc .vmem S256x1024 .f32}
  {h5 : a5.IsWhole} {h7 : a7.IsWhole} {h8 : a8.IsWhole} {a9 : Memref sig .tc .vmem S8x128 .f32} {h9 : a9.IsWhole}
  {a10 : Memref sig .tc .vmem S3072x1024 .bf16} {h10 : a10.IsWhole} {x : Vec Ideal S256x3072 .bf16} {r : Vec Ideal S256x1024 .f32}
  {g s : Vec Ideal S1x1024 .f32} {t : Vec Ideal S256x1024 .f32} {l : Vec Ideal S8x128 .f32} {w : Vec Ideal S3072x1024 .bf16}

/-- What the weight's transfer brought is the weight. -/
theorem brought (w : Vec Ideal S3072x1024 .bf16) (inb) :
    a10.view.readCov [⟨Rect.whole S3072x1024, ReadAs.same.apply (View.read (Elt Ideal) (Memref.whole main_arg5).view w)⟩]
      (Rect.unit ![0, 0] S3072x1024.size inb).toLoadRect = w :=
  (View.readCov_eq_canon' _ _ _).trans (funext fun j => (congrFun (View.canon_unit_zero (S := S3072x1024) rfl _ _) _).trans
    (congrFun (View.ld_unit_zero (S := S3072x1024) zero2 inb w) j))

/-- The weight is kept, -/
theorem weight_A {hc0 hc1} : sout0_A_0 (F := Ideal) c i a1 h1 a2 h2 a3 h3 a4 h4 a5 h5 a7 h7 a8 h8 a9 h9 a10 h10 hc0 hc1 x r g s t w = w := by
  unfold sout0_A_0
  rw [View.read_writes_eq_canon _ _ _ (scover0_A_0 c i a1 h1 a2 h2 a3 h3 a4 h4 a5 h5 a7 h7 a8 h8 a9 h9 a10 h10 hc0 hc1 x r g s t w)]
  unfold kernelRun0_A
  dsimp only
  sl_unfold_words
  exact View.canon_unit_zero (S := S3072x1024) rfl _ _

/-- a point stores its product, -/
theorem product_A {hc0 hc1} : out0_A_5 (F := Ideal) c i a1 h1 a2 h2 a3 h3 a4 h4 a5 h5 a7 h7 a8 h8 a9 h9 a10 h10 hc0 hc1 x r g s t w = k0_pay2 x w := by
  unfold out0_A_5
  rw [View.read_writes_eq_canon _ _ _ (cover0_A_5 c i a1 h1 a2 h2 a3 h3 a4 h4 a5 h5 a7 h7 a8 h8 a9 h9 a10 h10 hc0 hc1 x r g s t w)]
  unfold kernelRun0_A
  dsimp only
  sl_unfold_words
  rw [View.canon_unit_zero zero2]
  rw [brought]
  simp only [View.readAt_eq_ld, h1.read_unread, h2.read_unread, h3.read_unread, h4.read_unread, h5.read_unread, View.ld_unit_zero (S := S256x3072) zero2,
    View.ld_unit_zero (S := S256x1024) zero2, View.ld_unit_zero (S := S1x1024) zero2]

/-- the scaled difference, -/
theorem err_A {hc0 hc1} : out0_A_6 (F := Ideal) c i a1 h1 a2 h2 a3 h3 a4 h4 a5 h5 a7 h7 a8 h8 a9 h9 a10 h10 hc0 hc1 x r g s t w = k0_pay5 x w r s g t := by
  unfold out0_A_6
  rw [View.read_writes_eq_canon _ _ _ (cover0_A_6 c i a1 h1 a2 h2 a3 h3 a4 h4 a5 h5 a7 h7 a8 h8 a9 h9 a10 h10 hc0 hc1 x r g s t w)]
  unfold kernelRun0_A
  dsimp only
  sl_unfold_words
  rw [View.canon_unit_zero zero2]
  rw [brought]
  simp only [View.readAt_eq_ld, h1.read_unread, h2.read_unread, h3.read_unread, h4.read_unread, h5.read_unread, View.ld_unit_zero (S := S256x3072) zero2,
    View.ld_unit_zero (S := S256x1024) zero2, View.ld_unit_zero (S := S1x1024) zero2]

/-- and the loss so far. -/
theorem loss_A {hc0 hc1} : out0_A_7 (F := Ideal) c i a1 h1 a2 h2 a3 h3 a4 h4 a5 h5 a7 h7 a8 h8 a9 h9 a10 h10 hc0 hc1 x r g s t w = k0_pay1 (k0_pay4 x w r s g t) (k0_pay3 (F := Ideal)) := by
  unfold out0_A_7
  rw [View.read_writes_eq_canon _ _ _ (cover0_A_7 c i a1 h1 a2 h2 a3 h3 a4 h4 a5 h5 a7 h7 a8 h8 a9 h9 a10 h10 hc0 hc1 x r g s t w)]
  unfold kernelRun0_A
  dsimp only
  sl_unfold_words
  rw [View.canon_cons_unit_zero (S := S8x128) zero2, View.readCov_unit_zero (S := S8x128) _ zero2]
  rw [brought]
  simp only [View.readAt_eq_ld, h1.read_unread, h2.read_unread, h3.read_unread, h4.read_unread, h5.read_unread, View.ld_unit_zero (S := S256x3072) zero2,
    View.ld_unit_zero (S := S256x1024) zero2, View.ld_unit_zero (S := S1x1024) zero2]

theorem product_B {hc0 hc1 f} : out0_B_5 (F := Ideal) c i a1 h1 a2 h2 a3 h3 a4 h4 a5 h5 a7 h7 a8 h8 a9 h9 a10 h10 hc0 hc1 x r g s t l w f = k0_pay2 x w := by
  unfold out0_B_5
  rw [View.read_writes_eq_canon _ _ _ (cover0_B_5 c i a1 h1 a2 h2 a3 h3 a4 h4 a5 h5 a7 h7 a8 h8 a9 h9 a10 h10 hc0 hc1 x r g s t l w f)]
  unfold kernelRun0_B
  dsimp only
  sl_unfold_words
  rw [View.canon_unit_zero zero2]
  simp only [View.readAt_eq_ld, h1.read_unread, h2.read_unread, h3.read_unread, h4.read_unread, h5.read_unread, h9.read_unread, h10.read_unread,
    View.ld_unit_zero (S := S256x3072) zero2, View.ld_unit_zero (S := S256x1024) zero2, View.ld_unit_zero (S := S1x1024) zero2,
    View.ld_unit_zero (S := S8x128) zero2, View.ld_unit_zero (S := S3072x1024) zero2]

theorem err_B {hc0 hc1 f} : out0_B_6 (F := Ideal) c i a1 h1 a2 h2 a3 h3 a4 h4 a5 h5 a7 h7 a8 h8 a9 h9 a10 h10 hc0 hc1 x r g s t l w f = k0_pay5 x w r s g t := by
  unfold out0_B_6
  rw [View.read_writes_eq_canon _ _ _ (cover0_B_6 c i a1 h1 a2 h2 a3 h3 a4 h4 a5 h5 a7 h7 a8 h8 a9 h9 a10 h10 hc0 hc1 x r g s t l w f)]
  unfold kernelRun0_B
  dsimp only
  sl_unfold_words
  rw [View.canon_unit_zero zero2]
  simp only [View.readAt_eq_ld, h1.read_unread, h2.read_unread, h3.read_unread, h4.read_unread, h5.read_unread, h9.read_unread, h10.read_unread,
    View.ld_unit_zero (S := S256x3072) zero2, View.ld_unit_zero (S := S256x1024) zero2, View.ld_unit_zero (S := S1x1024) zero2,
    View.ld_unit_zero (S := S8x128) zero2, View.ld_unit_zero (S := S3072x1024) zero2]

theorem loss_B {hc0 hc1 f} : out0_B_7 (F := Ideal) c i a1 h1 a2 h2 a3 h3 a4 h4 a5 h5 a7 h7 a8 h8 a9 h9 a10 h10 hc0 hc1 x r g s t l w f = k0_pay1 (k0_pay4 x w r s g t) l := by
  unfold out0_B_7
  rw [View.read_writes_eq_canon _ _ _ (cover0_B_7 c i a1 h1 a2 h2 a3 h3 a4 h4 a5 h5 a7 h7 a8 h8 a9 h9 a10 h10 hc0 hc1 x r g s t l w f)]
  unfold kernelRun0_B
  dsimp only
  sl_unfold_words
  rw [View.canon_unit_zero zero2]
  simp only [View.readAt_eq_ld, h1.read_unread, h2.read_unread, h3.read_unread, h4.read_unread, h5.read_unread, h9.read_unread, h10.read_unread,
    View.ld_unit_zero (S := S256x3072) zero2, View.ld_unit_zero (S := S256x1024) zero2, View.ld_unit_zero (S := S1x1024) zero2,
    View.ld_unit_zero (S := S8x128) zero2, View.ld_unit_zero (S := S3072x1024) zero2]

theorem weight_B {hc0 hc1 f} : sout0_B_0 (F := Ideal) c i a1 h1 a2 h2 a3 h3 a4 h4 a5 h5 a7 h7 a8 h8 a9 h9 a10 h10 hc0 hc1 x r g s t l w f = w := rfl

end cases

theorem product_apply (x : Vec Ideal S256x3072 .bf16) (w : Vec Ideal S3072x1024 .bf16) (y : S256x1024.Idx) :
    k0_pay2 x w y = ∑ k : Fin 3072, x (ix2 (y 0) k) * w (ix2 k (y 1)) := by
  unfold k0_pay2
  simp only [pointwise, zero_add]

theorem err_apply (x : Vec Ideal S256x3072 .bf16) (w : Vec Ideal S3072x1024 .bf16) (r t : Vec Ideal S256x1024 .f32) (g s : Vec Ideal S1x1024 .f32)
    (y : S256x1024.Idx) : k0_pay4 x w r s g t y
      = Cert.Norm.residual (r y) (s (ix2 0 (y 1))) (fun k => k0_pay2 x w (ix2 (y 0) k)) (y 1) (g (ix2 0 (y 1))) - t y := by
  unfold k0_pay4
  simp only [shapeCast_self, pointwise, zero_add]
  have e : k0_pay2 x w y = k0_pay2 x w (ix2 (y 0) (y 1)) := congrArg _ (funext fun a => by fin_cases a <;> rfl)
  rw [e]
  rfl

theorem loss_apply (e : Vec Ideal S256x1024 .f32) (l : Vec Ideal S8x128 .f32) (y : S8x128.Idx) :
    k0_pay1 e l y = l y + (∑ k, ∑ n, e (ix2 k n) * e (ix2 k n)) * Ideal.ofBits .f32 0x3A000000#32 := by
  unfold k0_pay1
  simp only [shapeCast_self, pointwise, zero_add]

theorem scaled_apply (x : Vec Ideal S256x3072 .bf16) (w : Vec Ideal S3072x1024 .bf16) (r t : Vec Ideal S256x1024 .f32) (g s : Vec Ideal S1x1024 .f32)
    (y : S256x1024.Idx) : k0_pay5 x w r s g t y = k0_pay4 x w r s g t y * Ideal.ofBits .f32 0x3A800000#32 := rfl

theorem none (y : S8x128.Idx) : k0_pay3 (F := Ideal) y = 0 := by
  unfold k0_pay3
  simp only [pointwise]

end Cert.LossIdeal.Body
-- ==== Proof.LossClaims.lean ====
/-
# The last product, its residual's error and one device's loss
-/
module

public import proofs.«01_k».proof.Defs
public import proofs.«01_k».proof.Proof.LossBody
public import proofs.«01_k».proof.Proof.Gen.Loss.Frame
public import proofs.«01_k».proof.Proof.Gen.LossRefIdeal.Run
public import Idealize.ShloMosaic.Lib.Quiescent

@[expose] public section

noncomputable section

namespace Cert.LossIdeal.Grad

open Idealize.ShloMosaic Idealize.ShloMosaic.TcCoe Idealize.SL.Sem Cert.LossIdeal Cert.LossIdeal.Gen Cert.LossIdeal.Body Cert.Optimizer Cert.Blocks

variable (m : (ℓ : Loc nD τ sig) → Buf (Elt Ideal) ℓ)

/-- The operands. -/
abbrev acts (c : Dev nD) : S4096x3072.Idx → EReal := m ((c : Thread nD τ).loc main_arg0)
abbrev xres (c : Dev nD) : S4096x1024.Idx → EReal := m ((c : Thread nD τ).loc main_arg1)
abbrev gain (c : Dev nD) : S1x1024.Idx → EReal := m ((c : Thread nD τ).loc main_arg2)
abbrev gate (c : Dev nD) : S1x1024.Idx → EReal := m ((c : Thread nD τ).loc main_arg3)
abbrev target (c : Dev nD) : S4096x1024.Idx → EReal := m ((c : Thread nD τ).loc main_arg4)
abbrev weight (c : Dev nD) : S3072x1024.Idx → EReal := m ((c : Thread nD τ).loc main_arg5)

/-- The product, -/
abbrev out (c : Dev nD) : S4096x1024.Idx → EReal := fun i => ∑ k : Fin 3072, acts m c (ix2 (i 0) k) * weight m c (ix2 k (i 1))

/-- the error, -/
abbrev err (c : Dev nD) : S4096x1024.Idx → EReal := fun i =>
  Norm.residual (xres m c i) (gate m c (ix2 0 (i 1))) (fun k => out m c (ix2 (i 0) k)) (i 1) (gain m c (ix2 0 (i 1))) - target m c i

/-- and one token's squared error. -/
abbrev square (c : Dev nD) (l : Fin 4096) : EReal := ∑ k : Fin 1024, err m c (ix2 l k) * err m c (ix2 l k)

/-- Token `k` of a point. -/
abbrev row (t : Fin cfg0.N) (k : Fin 256) : Fin 4096 := ⟨t.val * 256 + k.val, by have := k.isLt; have : t.val < 16 := t.isLt; omega⟩

theorem places (t : Fin grid0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) := by
  revert t
  decide +kernel

/-- What a point's blocks hold. -/
theorem acts_block (c : Dev nD) (t : Fin cfg0.N) (a : Fin 256) (k : Fin 3072) : iblk m c 0 t (ix2 a k) = acts m c (ix2 (row t a) k) := by
  obtain ⟨⟨e0, e1⟩, -⟩ := places t
  refine congrArg (acts m c) (funext fun d => Fin.ext ?_)
  match d with
  | ⟨0, _⟩ => show win0_0.index t 0 * 256 + 1 * (a : Nat) = t.val * 256 + a; omega
  | ⟨1, _⟩ => show win0_0.index t 1 * 3072 + 1 * (k : Nat) = k; omega

theorem xres_block (c : Dev nD) (t : Fin cfg0.N) (a : Fin 256) (k : Fin 1024) : iblk m c 1 t (ix2 a k) = xres m c (ix2 (row t a) k) := by
  obtain ⟨-, ⟨e0, e1⟩, -⟩ := places t
  refine congrArg (xres m c) (funext fun d => Fin.ext ?_)
  match d with
  | ⟨0, _⟩ => show win0_1.index t 0 * 256 + 1 * (a : Nat) = t.val * 256 + a; omega
  | ⟨1, _⟩ => show win0_1.index t 1 * 1024 + 1 * (k : Nat) = k; omega

theorem gain_block (c : Dev nD) (t : Fin cfg0.N) (k : Fin 1024) : iblk m c 2 t (ix2 0 k) = gain m c (ix2 0 k) := by
  obtain ⟨-, -, ⟨e0, e1⟩, -⟩ := places t
  refine congrArg (gain m c) (funext fun d => Fin.ext ?_)
  match d with
  | ⟨0, _⟩ => show win0_2.index t 0 * 1 + 1 * 0 = 0; omega
  | ⟨1, _⟩ => show win0_2.index t 1 * 1024 + 1 * (k : Nat) = k; omega

theorem gate_block (c : Dev nD) (t : Fin cfg0.N) (k : Fin 1024) : iblk m c 3 t (ix2 0 k) = gate m c (ix2 0 k) := by
  obtain ⟨-, -, -, ⟨e0, e1⟩, -⟩ := places t
  refine congrArg (gate m c) (funext fun d => Fin.ext ?_)
  match d with
  | ⟨0, _⟩ => show win0_3.index t 0 * 1 + 1 * 0 = 0; omega
  | ⟨1, _⟩ => show win0_3.index t 1 * 1024 + 1 * (k : Nat) = k; omega

theorem target_block (c : Dev nD) (t : Fin cfg0.N) (a : Fin 256) (k : Fin 1024) : iblk m c 4 t (ix2 a k) = target m c (ix2 (row t a) k) := by
  obtain ⟨-, -, -, -, ⟨e0, e1⟩, -⟩ := places t
  refine congrArg (target m c) (funext fun d => Fin.ext ?_)
  match d with
  | ⟨0, _⟩ => show win0_4.index t 0 * 256 + 1 * (a : Nat) = t.val * 256 + a; omega
  | ⟨1, _⟩ => show win0_4.index t 1 * 1024 + 1 * (k : Nat) = k; omega

/-- A point's product and error are those of its tokens. -/
theorem product_point (c : Dev nD) (t : Fin cfg0.N) (a : Fin 256) (k : Fin 1024) :
    k0_pay2 (iblk m c 0 t) (weight m c) (ix2 a k) = out m c (ix2 (row t a) k) :=
  (product_apply _ _ _).trans (Finset.sum_congr rfl fun n _ => congrArg (· * _) (acts_block m c t a n))

abbrev errs (c : Dev nD) (t : Fin cfg0.N) : FVec Ideal S256x1024 .f32 :=
  k0_pay4 (iblk m c 0 t) (weight m c) (iblk m c 1 t) (iblk m c 3 t) (iblk m c 2 t) (iblk m c 4 t)

theorem err_point (c : Dev nD) (t : Fin cfg0.N) (a : Fin 256) (k : Fin 1024) : errs m c t (ix2 a k) = err m c (ix2 (row t a) k) := by
  refine (err_apply _ _ _ _ _ _ _).trans ?_
  have e : (fun n => k0_pay2 (iblk m c 0 t) (weight m c) (ix2 a n)) = fun n => out m c (ix2 (row t a) n) :=
    funext fun n => product_point m c t a n
  exact congrArg₂ (· - ·) (by
    show Norm.residual (iblk m c 1 t (ix2 a k)) (iblk m c 3 t (ix2 0 k)) (fun n => k0_pay2 (iblk m c 0 t) (weight m c) (ix2 a n)) k (iblk m c 2 t (ix2 0 k)) = _
    rw [e, xres_block, gate_block, gain_block]
    rfl) (target_block m c t a k)

/-- The weight is at hand at every point. -/
theorem weight_first (c : Dev nD) (t : Fin cfg0.N) (h : t.val % 16 = 0) : (outsAt0 m c t.val t.isLt).2.2.2 = weight m c := by
  simp only [outsAt0_A m c t h h]
  exact weight_A

theorem weight_next (c : Dev nD) (t : Fin cfg0.N) (h : ¬t.val % 16 = 0) :
    (outsAt0 m c t.val t.isLt).2.2.2 = (outsAt0 m c (t.val - 1) (Nat.lt_of_le_of_lt (Nat.sub_le _ _) t.isLt)).2.2.2 := by
  simp only [outsAt0_B m c t h h]
  exact weight_B

theorem held (c : Dev nD) (n : Nat) : ∀ hn : n < cfg0.N, (outsAt0 m c n hn).2.2.2 = weight m c := by
  induction n with
  | zero => exact fun hn => weight_first m c ⟨0, hn⟩ rfl
  | succ n ih =>
    intro hn
    have : n + 1 < 16 := hn
    exact (weight_next m c ⟨n + 1, hn⟩ (by show ¬(n + 1) % 16 = 0; omega)).trans (ih _)

theorem before (c : Dev nD) (t : Fin cfg0.N) : (outsAt0 m c (t.val - 1) (Nat.lt_of_le_of_lt (Nat.sub_le _ _) t.isLt)).2.2.2 = weight m c :=
  held m c _ _

/-- What a point stores. -/
theorem stores_product (c : Dev nD) (t : Fin cfg0.N) : (outsAt0 m c t.val t.isLt).1 = k0_pay2 (iblk m c 0 t) (weight m c) := by
  by_cases h : t.val % 16 = 0
  · simp only [outsAt0_A m c t h h]
    exact product_A
  · simp only [outsAt0_B m c t h h, before m c t]
    exact product_B

theorem stores_err (c : Dev nD) (t : Fin cfg0.N) : (outsAt0 m c t.val t.isLt).2.1
    = k0_pay5 (iblk m c 0 t) (weight m c) (iblk m c 1 t) (iblk m c 3 t) (iblk m c 2 t) (iblk m c 4 t) := by
  by_cases h : t.val % 16 = 0
  · simp only [outsAt0_A m c t h h]
    exact err_A
  · simp only [outsAt0_B m c t h h, before m c t]
    exact err_B

theorem loss_first (c : Dev nD) (t : Fin cfg0.N) (h : t.val % 16 = 0) : (outsAt0 m c t.val t.isLt).2.2.1 = k0_pay1 (errs m c t) (k0_pay3 (F := Ideal)) := by
  simp only [outsAt0_A m c t h h]
  exact loss_A

theorem loss_next (c : Dev nD) (t : Fin cfg0.N) (h : ¬t.val % 16 = 0) : (outsAt0 m c t.val t.isLt).2.2.1
    = k0_pay1 (errs m c t) (outsAt0 m c (t.val - 1) (Nat.lt_of_le_of_lt (Nat.sub_le _ _) t.isLt)).2.2.1 := by
  simp only [outsAt0_B m c t h h, before m c t]
  exact loss_B

/-- A point's part of the loss. -/
abbrev part (c : Dev nD) (t : Fin cfg0.N) : EReal := (∑ k : Fin 256, square m c (row t k)) * Ideal.ofBits .f32 0x3A000000#32

theorem part_eq (c : Dev nD) (t : Fin cfg0.N) :
    (∑ k, ∑ n, errs m c t (ix2 k n) * errs m c t (ix2 k n)) * Ideal.ofBits .f32 0x3A000000#32 = part m c t :=
  congrArg (· * _) (Finset.sum_congr rfl fun k _ => Finset.sum_congr rfl fun n _ => congrArg₂ (· * ·) (err_point m c t k n) (err_point m c t k n))

/-- The device's loss. -/
abbrev loss (c : Dev nD) : EReal := Ideal.ofBits .f32 0x3F000000#32 * ∑ l : Fin 4096, Ideal.div (square m c l) Norm.count

/-- After the last point the whole loss is there. -/
theorem loss_last (c : Dev nD) (t : Fin cfg0.N) (h : t.val % 16 = 15) (y : S8x128.Idx) : (outsAt0 m c t.val t.isLt).2.2.1 y = loss m c := by
  refine (Pipeline.eq_sum_fin_of_reset_step_apply_of_flush (fun n h => (outsAt0 m c n h).2.2.1) 16 (fun _ => 0) (fun t _ => part m c t)
    (fun t h y => (congrFun (loss_first m c t h) y).trans ((loss_apply _ _ y).trans (congrArg₂ (· + ·) (none y) (part_eq m c t))))
    (fun t h y => (congrFun (loss_next m c t h) y).trans ((loss_apply _ _ y).trans (congrArg (_ + ·) (part_eq m c t)))) t h y).trans ?_
  have ht : t.val < 16 := t.isLt
  rw [zero_add, loss, ← Norm.half_sum, ← Norm.sum_mul _ _ (by rw [Norm.half_part_eq]; norm_num [← EReal.coe_inv]) (by rw [Norm.half_part_eq]; exact EReal.coe_ne_top _)]
  refine congrArg (· * _) (Fin.sum_mul_add_congr fun s k hl => ?_)
  exact congrArg (square m c) (Fin.ext (by show (16 * (t.val / 16) + s.val) * 256 + k.val = s.val * 256 + k.val; omega))

/-- The blocks of a point's tokens cover an array. -/
theorem covered (j : Fin cfg0.N → Fin 2 → ℕ) (hj : ∀ t, j t 0 = t.val ∧ j t 1 = 0) (i : S4096x1024.Idx) :
    ∃ t, ∀ a : Fin 2, j t a * S256x1024.size a ≤ (i a).val ∧ (i a).val < j t a * S256x1024.size a + S256x1024.size a := by
  have h0 : (i 0).val < 4096 := (i 0).isLt
  have h1 : (i 1).val < 1024 := (i 1).isLt
  refine ⟨⟨(i 0).val / 256, by show _ < 16; omega⟩, Fin.forall_fin_two.2 ⟨?_, ?_⟩⟩
  · show j _ 0 * 256 ≤ (i 0).val ∧ (i 0).val < j _ 0 * 256 + 256
    rw [(hj _).1]; dsimp only; omega
  · show j _ 1 * 1024 ≤ (i 1).val ∧ (i 1).val < j _ 1 * 1024 + 1024
    rw [(hj _).2]; omega

/-- The first result is the product, -/
theorem final_product (c : Dev nD) : (dats m 0 c).arrAt 5 cfg0.N = out m c := by
  refine Pipeline.Dat.arrAt_eq_of_cover _ 5 _ (fun t _ => funext fun y => ?_)
    fun i => (covered (fun t => win0_5.index t) (fun t => (places t).2.2.2.2.2.1) i).imp fun t h => ⟨flush0_5 t, mem_block main_v0_0 _ _ _ i h⟩
  rw [Value.flushed5, stores_product m c t]
  have e : y = ix2 (y 0) (y 1) := funext fun a => by fin_cases a <;> rfl
  refine ((congrArg _ e).trans (product_point m c t (y 0) (y 1))).trans (show _ = out m c ((win0_5.rect t).emb y) from congrArg (out m c) ?_)
  obtain ⟨e0, e1⟩ := (places t).2.2.2.2.2.1
  funext d
  refine Fin.ext ?_
  match d with
  | ⟨0, _⟩ => show t.val * 256 + (y 0 : Nat) = win0_5.index t 0 * 256 + 1 * (y 0 : Nat); omega
  | ⟨1, _⟩ => show (y 1 : Nat) = win0_5.index t 1 * 1024 + 1 * (y 1 : Nat); omega

/-- the second the error over the number of a token's elements, -/
theorem final_err (c : Dev nD) : (dats m 0 c).arrAt 6 cfg0.N = fun i => Ideal.div (err m c i) Norm.count := by
  refine Pipeline.Dat.arrAt_eq_of_cover _ 6 _ (fun t _ => funext fun y => ?_)
    fun i => (covered (fun t => win0_6.index t) (fun t => (places t).2.2.2.2.2.2.1) i).imp fun t h => ⟨flush0_6 t, mem_block main_v0_1 _ _ _ i h⟩
  rw [Value.flushed6, stores_err m c t]
  have e : y = ix2 (y 0) (y 1) := funext fun a => by fin_cases a <;> rfl
  refine (scaled_apply _ _ _ _ _ _ y).trans ((congrArg (· * _) ((congrArg _ e).trans (err_point m c t (y 0) (y 1)))).trans ?_)
  rw [Norm.part_eq, ← Norm.div_count]
  refine show _ = Ideal.div (err m c ((win0_6.rect t).emb y)) Norm.count from congrArg (fun i => Ideal.div (err m c i) Norm.count) ?_
  obtain ⟨e0, e1⟩ := (places t).2.2.2.2.2.2.1
  funext d
  refine Fin.ext ?_
  match d with
  | ⟨0, _⟩ => show t.val * 256 + (y 0 : Nat) = win0_6.index t 0 * 256 + 1 * (y 0 : Nat); omega
  | ⟨1, _⟩ => show (y 1 : Nat) = win0_6.index t 1 * 1024 + 1 * (y 1 : Nat); omega

/-- and the third the loss. -/
theorem final_loss (c : Dev nD) : (dats m 0 c).arrAt 7 cfg0.N = fun _ => loss m c := by
  refine Pipeline.Dat.arrAt_eq_of_cover _ 7 _ (fun t hf => funext fun y => ?_)
    fun i => ⟨⟨15, by decide⟩, (flush0_7 _).mpr rfl, mem_block main_v0_2 _ _ _ i (Fin.forall_fin_two.2 ⟨?_, ?_⟩)⟩
  · rw [Value.flushed7]
    exact loss_last m c t ((flush0_7 t).mp hf) y
  · obtain ⟨e0, -⟩ := (places ⟨15, by decide⟩).2.2.2.2.2.2.2
    have : (i 0).val < 8 := (i 0).isLt
    show win0_7.index _ 0 * 8 ≤ (i 0).val ∧ (i 0).val < win0_7.index _ 0 * 8 + 8
    omega
  · obtain ⟨-, e1⟩ := (places ⟨15, by decide⟩).2.2.2.2.2.2.2
    have : (i 1).val < 128 := (i 1).isLt
    show win0_7.index _ 1 * 128 ≤ (i 1).val ∧ (i 1).val < win0_7.index _ 1 * 128 + 128
    omega

end Cert.LossIdeal.Grad

namespace Cert.Proof

open Idealize.ShloMosaic Idealize.SL.Sem Cert.LossRefIdeal.Gen

theorem frame_LossIdeal : Cert.quiescent_LossIdeal := fun m ρ _ => Cert.LossIdeal.Gen.frame m ρ

theorem frame_Loss : Cert.quiescent_Loss := fun m ρ _ => Cert.Loss.Gen.frame m ρ

theorem frame_LossRefIdeal : Cert.quiescent_LossRefIdeal := fun m ρ _ =>
  (θ_run Cert.LossRefIdeal.defs _ _).mono (fun r h => ⟨fun c => (h c).2.2.2, sem_eq_zero_of_no_sems rfl r.2⟩) (Cert.LossRefIdeal.Value.run m ρ)

theorem preserves_Loss : Cert.preserves_Loss_LossIdeal := trivial

/-- The call leaves the reference's product, error and loss. -/
theorem algebraic_Loss : Cert.algebraic_LossIdeal_LossRefIdeal := fun m g m' g' _ hin => by
  refine ⟨_, _, _, ?_, Cert.LossRefIdeal.Value.run m' g'⟩
  refine (θ_run Cert.LossIdeal.defs _ _).mono (fun _ h c => ?_) (Cert.LossIdeal.Value.run_blocks m g)
  obtain ⟨a0, a1, a2, a3, a4, a5⟩ := hin c
  refine ⟨(h c).1.trans ((Cert.LossIdeal.Grad.final_product m c).trans ?_), (h c).2.1.trans ((Cert.LossIdeal.Grad.final_err m c).trans ?_),
    (h c).2.2.1.trans ((Cert.LossIdeal.Grad.final_loss m c).trans ?_), (h c).2.2.2⟩
  · rw [a0, a5]
    funext i
    simp only [pointwise, zero_add]
  · rw [a0, a1, a2, a3, a4, a5]
    funext i
    simp only [pointwise, zero_add]
    rfl
  · rw [a0, a1, a2, a3, a4, a5]
    funext i
    simp only [pointwise, zero_add]
    rfl

end Cert.Proof
-- ==== Proof.GradXBody.lean ====
/-
# The points of the gradient of x

What a point of the call stores, as a function of its blocks and the weight.
-/
module

public import proofs.«01_k».proof.Proof.Grad
public import proofs.«01_k».proof.Proof.Norm
public import proofs.«01_k».proof.Proof.Optimizer
public import proofs.«01_k».proof.Proof.Gen.GradXIdeal.Value
public import Idealize.ShloMosaic.Lib.Pointwise

@[expose] public section

noncomputable section

namespace Cert.GradXIdeal.Body

open Idealize.ShloMosaic Idealize.ShloMosaic.TcCoe Idealize.SL.Sem Cert.GradXIdeal Cert.GradXIdeal.Gen Cert.Grad Cert.Optimizer Cert.Blocks

/-- The product of a point's block with the weight, by the weight's eight shards. -/
abbrev shards (d : Vec Ideal S256x2048 .bf16) (w : Vec Ideal S8x1024x256 .bf16) : FVec Ideal S256x1024 .f32 := k0_pay4
    (k0_pay3 (View.ld d (Rect.unit ![0, 0] ![256, 256] inb_S256x2048_S256x256_0_0)) (View.ld w (Rect.unit ![0, 0, 0] ![1, 1024, 256] inb_S8x1024x256_S1x1024x256_0_0_0))
      (View.ld d (Rect.unit ![0, 256] ![256, 256] inb_S256x2048_S256x256_0_256)) (View.ld w (Rect.unit ![1, 0, 0] ![1, 1024, 256] inb_S8x1024x256_S1x1024x256_1_0_0))
      (View.ld d (Rect.unit ![0, 512] ![256, 256] inb_S256x2048_S256x256_0_512)) (View.ld w (Rect.unit ![2, 0, 0] ![1, 1024, 256] inb_S8x1024x256_S1x1024x256_2_0_0))
      (View.ld d (Rect.unit ![0, 768] ![256, 256] inb_S256x2048_S256x256_0_768)) (View.ld w (Rect.unit ![3, 0, 0] ![1, 1024, 256] inb_S8x1024x256_S1x1024x256_3_0_0)))
    (View.ld d (Rect.unit ![0, 1024] ![256, 256] inb_S256x2048_S256x256_0_1024)) (View.ld w (Rect.unit ![4, 0, 0] ![1, 1024, 256] inb_S8x1024x256_S1x1024x256_4_0_0))
    (View.ld d (Rect.unit ![0, 1280] ![256, 256] inb_S256x2048_S256x256_0_1280)) (View.ld w (Rect.unit ![5, 0, 0] ![1, 1024, 256] inb_S8x1024x256_S1x1024x256_5_0_0))
    (View.ld d (Rect.unit ![0, 1536] ![256, 256] inb_S256x2048_S256x256_0_1536)) (View.ld w (Rect.unit ![6, 0, 0] ![1, 1024, 256] inb_S8x1024x256_S1x1024x256_6_0_0))
    (View.ld d (Rect.unit ![0, 1792] ![256, 256] inb_S256x2048_S256x256_0_1792)) (View.ld w (Rect.unit ![7, 0, 0] ![1, 1024, 256] inb_S8x1024x256_S1x1024x256_7_0_0))

/-- What a point stores. -/
abbrev stored (d : Vec Ideal S256x2048 .bf16) (x : Vec Ideal S256x1024 .f32) (g s : Vec Ideal S1x1024 .f32) (r : Vec Ideal S256x1024 .f32)
    (w : Vec Ideal S8x1024x256 .bf16) : FVec Ideal S256x1024 .f32 :=
  k0_pay1 (k0_pay5 x) (k0_pay6 x) (k0_pay12 (shards d w) s g) r (k0_pay13 (shards d w) (k0_pay6 x) s g)

section cases

variable {c : Dev nD} {i : grid0.Coords} {a1 : Memref sig .tc .vmem S256x2048 .bf16} {h1 : a1.IsWhole} {a2 : Memref sig .tc .vmem S256x1024 .f32}
  {h2 : a2.IsWhole} {a3 a4 : Memref sig .tc .vmem S1x1024 .f32} {h3 : a3.IsWhole} {h4 : a4.IsWhole} {a5 a7 : Memref sig .tc .vmem S256x1024 .f32}
  {h5 : a5.IsWhole} {h7 : a7.IsWhole} {a8 : Memref sig .tc .vmem S8x1024 .f32} {h8 : a8.IsWhole}
  {a9 : Memref sig .tc .vmem S8x1024x256 .bf16} {h9 : a9.IsWhole} {d : Vec Ideal S256x2048 .bf16} {x : Vec Ideal S256x1024 .f32}
  {g s : Vec Ideal S1x1024 .f32} {r : Vec Ideal S256x1024 .f32} {l : Vec Ideal S8x1024 .f32} {w : Vec Ideal S8x1024x256 .bf16}

/-- What is loaded of the weight's transfer is what is loaded of the weight. -/
theorem brought (w : Vec Ideal S8x1024x256 .bf16) (o : Fin 3 → ℕ) (inb) :
    a9.view.readCov [⟨Rect.whole S8x1024x256, ReadAs.same.apply (View.read (Elt Ideal) (Memref.whole main_arg1).view w)⟩]
      (Rect.unit o ![1, 1024, 256] inb).toLoadRect = View.ld w (Rect.unit o ![1, 1024, 256] inb) :=
  (View.readCov_eq_canon' _ _ _).trans (funext fun j => congrFun (View.canon_unit_zero (S := S8x1024x256) rfl _ _) _)

/-- The weight is kept, -/
theorem weight_A {hc0 hc1} : sout0_A_0 (F := Ideal) c i a1 h1 a2 h2 a3 h3 a4 h4 a5 h5 a7 h7 a8 h8 a9 h9 hc0 hc1 d x g s r w = w := by
  unfold sout0_A_0
  rw [View.read_writes_eq_canon _ _ _ (scover0_A_0 c i a1 h1 a2 h2 a3 h3 a4 h4 a5 h5 a7 h7 a8 h8 a9 h9 hc0 hc1 d x g s r w)]
  unfold kernelRun0_A
  dsimp only
  sl_unfold_words
  exact View.canon_unit_zero (S := S8x1024x256) rfl _ _

/-- and a point stores its tokens' gradient. -/
theorem stored_A {hc0 hc1} : out0_A_5 (F := Ideal) c i a1 h1 a2 h2 a3 h3 a4 h4 a5 h5 a7 h7 a8 h8 a9 h9 hc0 hc1 d x g s r w = stored d x g s r w := by
  unfold out0_A_5
  rw [View.read_writes_eq_canon _ _ _ (cover0_A_5 c i a1 h1 a2 h2 a3 h3 a4 h4 a5 h5 a7 h7 a8 h8 a9 h9 hc0 hc1 d x g s r w)]
  unfold kernelRun0_A
  dsimp only
  sl_unfold_words
  rw [View.canon_unit_zero zero2]
  rw [brought, brought, brought, brought, brought, brought, brought, brought]
  simp only [View.readAt_eq_ld, h1.read_unread, h2.read_unread, h3.read_unread, h4.read_unread, h5.read_unread,
    View.ld_unit_zero (S := S256x1024) zero2, View.ld_unit_zero (S := S1x1024) zero2]

theorem stored_B {hc0 hc1 f} : out0_B_5 (F := Ideal) c i a1 h1 a2 h2 a3 h3 a4 h4 a5 h5 a7 h7 a8 h8 a9 h9 hc0 hc1 d x g s r l w f = stored d x g s r w := by
  unfold out0_B_5
  rw [View.read_writes_eq_canon _ _ _ (cover0_B_5 c i a1 h1 a2 h2 a3 h3 a4 h4 a5 h5 a7 h7 a8 h8 a9 h9 hc0 hc1 d x g s r l w f)]
  unfold kernelRun0_B
  dsimp only
  sl_unfold_words
  rw [View.canon_unit_zero zero2]
  simp only [View.readAt_eq_ld, h1.read_unread, h2.read_unread, h3.read_unread, h4.read_unread, h5.read_unread, h9.read_unread,
    View.ld_unit_zero (S := S256x1024) zero2, View.ld_unit_zero (S := S1x1024) zero2]

theorem weight_B {hc0 hc1 f} : sout0_B_0 (F := Ideal) c i a1 h1 a2 h2 a3 h3 a4 h4 a5 h5 a7 h7 a8 h8 a9 h9 hc0 hc1 d x g s r l w f = w := rfl

end cases

/-- One shard's part, at its columns of the block. -/
theorem shard (d : Vec Ideal S256x2048 .bf16) (w : Vec Ideal S8x1024x256 .bf16) (a : Fin 256) (b : Fin 1024) (j : Fin 8) (n : ℕ) (hn : n = j.val * 256)
    (hd hw) : ∑ k : Fin 256, View.ld d (Rect.unit ![0, n] ![256, 256] hd) (ix2 a k) * View.ld w (Rect.unit ![j.val, 0, 0] ![1, 1024, 256] hw) (ix3 0 b k)
      = ∑ k : Fin 256, d (ix2 a ⟨j.val * 256 + k.val, by have := j.isLt; have := k.isLt; omega⟩) * w (ix3 j b k) := by
  subst hn
  refine Finset.sum_congr rfl fun k _ => congrArg₂ (· * ·) (congrArg d (funext fun e => Fin.ext ?_)) (congrArg w (funext fun e => Fin.ext ?_))
  · match e with
    | ⟨0, _⟩ => show 0 + 1 * a.val = a.val; omega
    | ⟨1, _⟩ => show j.val * 256 + 1 * k.val = j.val * 256 + k.val; omega
  · match e with
    | ⟨0, _⟩ => show j.val + 1 * 0 = j.val; omega
    | ⟨1, _⟩ => show 0 + 1 * b.val = b.val; omega
    | ⟨2, _⟩ => show 0 + 1 * k.val = k.val; omega

/-- The shards' parts are the product with the shards side by side. -/
theorem shards_apply (d : Vec Ideal S256x2048 .bf16) (w : Vec Ideal S8x1024x256 .bf16) (y : S256x1024.Idx) :
    shards d w y = ∑ n : Fin 2048, d (ix2 (y 0) n) * w (ix3 ⟨n.val / 256, by have := n.isLt; omega⟩ (y 1) ⟨n.val % 256, by omega⟩) := by
  refine Eq.trans ?_ ((Fin.sum_univ_eight (fun j : Fin 8 => ∑ k : Fin 256,
    d (ix2 (y 0) ⟨j.val * 256 + k.val, by have := j.isLt; have := k.isLt; omega⟩) * w (ix3 j (y 1) k))).symm.trans (Fin.sum_mul_add_congr fun j k hl => ?_))
  · rw [← shard d w (y 0) (y 1) 0 0 rfl inb_S256x2048_S256x256_0_0 inb_S8x1024x256_S1x1024x256_0_0_0,
      ← shard d w (y 0) (y 1) 1 256 rfl inb_S256x2048_S256x256_0_256 inb_S8x1024x256_S1x1024x256_1_0_0,
      ← shard d w (y 0) (y 1) 2 512 rfl inb_S256x2048_S256x256_0_512 inb_S8x1024x256_S1x1024x256_2_0_0,
      ← shard d w (y 0) (y 1) 3 768 rfl inb_S256x2048_S256x256_0_768 inb_S8x1024x256_S1x1024x256_3_0_0,
      ← shard d w (y 0) (y 1) 4 1024 rfl inb_S256x2048_S256x256_0_1024 inb_S8x1024x256_S1x1024x256_4_0_0,
      ← shard d w (y 0) (y 1) 5 1280 rfl inb_S256x2048_S256x256_0_1280 inb_S8x1024x256_S1x1024x256_5_0_0,
      ← shard d w (y 0) (y 1) 6 1536 rfl inb_S256x2048_S256x256_0_1536 inb_S8x1024x256_S1x1024x256_6_0_0,
      ← shard d w (y 0) (y 1) 7 1792 rfl inb_S256x2048_S256x256_0_1792 inb_S8x1024x256_S1x1024x256_7_0_0]
    unfold shards k0_pay4 k0_pay3
    simp only [shapeCast_self, pointwise, zero_add]
    rfl
  · have hj := j.isLt
    have hk := k.isLt
    refine congrArg₂ (fun n q => d (ix2 (y 0) n) * w q) rfl (funext fun e => Fin.ext ?_)
    match e with
    | ⟨0, _⟩ => show j.val = (j.val * 256 + k.val) / 256; omega
    | ⟨1, _⟩ => rfl
    | ⟨2, _⟩ => show k.val = (j.val * 256 + k.val) % 256; omega

theorem stored_apply (d : Vec Ideal S256x2048 .bf16) (x : Vec Ideal S256x1024 .f32) (g s : Vec Ideal S1x1024 .f32) (r : Vec Ideal S256x1024 .f32)
    (w : Vec Ideal S8x1024x256 .bf16) (a : Fin 256) (b : Fin 1024) : stored d x g s r w (ix2 a b)
      = Norm.through (r (ix2 a b)) (fun k => x (ix2 a k)) (fun k => shards d w (ix2 a k) * (g (ix2 0 k) * (1 + s (ix2 0 k)))) b := by
  unfold stored k0_pay1 k0_pay13 k0_pay12 k0_pay6 k0_pay5 k0_pay7
  generalize shards d w = q
  simp only [shapeCast_self, pointwise, zero_add]
  rfl

end Cert.GradXIdeal.Body
-- ==== Proof.GradXRef.lean ====
/-
# The reference's gradient of x

The weight's shards side by side, the product with them, and the gradient through the norm, by elements.
-/
module

public import proofs.«01_k».proof.Proof.Norm
public import proofs.«01_k».proof.Proof.Blocks
public import proofs.«01_k».proof.Proof.Optimizer
public import proofs.«01_k».proof.Proof.Gen.GradXRefIdeal.Run
public import Idealize.ShloMosaic.Lib.Pointwise

@[expose] public section

noncomputable section

namespace Cert.GradXRefIdeal.Grad

open Idealize.ShloMosaic Idealize.ShloMosaic.TcCoe Idealize.SL.Sem Cert.GradXRefIdeal Cert.GradXRefIdeal.Gen Cert.Optimizer Cert.Blocks

variable (m : (ℓ : Loc nD τ sig) → Buf (Elt Ideal) ℓ)

/-- The operands. -/
abbrev dout (c : Dev nD) : S4096x2048.Idx → EReal := m ((c.tc : Thread nD τ).loc main_arg0)
abbrev weight (c : Dev nD) : S8x1024x256.Idx → EReal := m ((c.tc : Thread nD τ).loc main_arg1)
abbrev x (c : Dev nD) : S4096x1024.Idx → EReal := m ((c.tc : Thread nD τ).loc main_arg2)
abbrev gain (c : Dev nD) : S1x1024.Idx → EReal := m ((c.tc : Thread nD τ).loc main_arg3)
abbrev scale (c : Dev nD) : S1x1024.Idx → EReal := m ((c.tc : Thread nD τ).loc main_arg4)
abbrev dres (c : Dev nD) : S4096x1024.Idx → EReal := m ((c.tc : Thread nD τ).loc main_arg5)

/-- The gradient before the weight. -/
abbrev dh (c : Dev nD) : S4096x1024.Idx → EReal := fun i => ∑ n : Fin 2048,
  dout m c (ix2 (i 0) n) * weight m c (ix3 ⟨n.val / 256, by have := n.isLt; omega⟩ (i 1) ⟨n.val % 256, by omega⟩)

/-- Column `q` of piece `j`. -/
theorem place (P : Fin 8 → S1024x256.Idx → EReal) (b : Fin 1024) (n : Fin 2048) (j : Fin 8) (p : S1024x256.Idx → EReal) (hp : P j = p) (q : ℕ) (i : S1024x256.Idx) (h0 : (i 0).val = b.val)
    (h1 : (i 1).val = q) (hq : q < 256) (hn : j.val * 256 + q = n.val) :
    p i = P ⟨n.val / 256, by have := n.isLt; omega⟩ (ix2 b ⟨n.val % 256, by omega⟩) := by
  subst hp
  refine congrArg₂ P (Fin.ext (show j.val = n.val / 256 by omega)) (funext fun e => Fin.ext ?_)
  match e with
  | ⟨0, _⟩ => exact h0
  | ⟨1, _⟩ => show (i 1).val = n.val % 256; omega

/-- The pieces side by side. -/
theorem side (P : Fin 8 → S1024x256.Idx → EReal) (b : Fin 1024) (n : Fin 2048) : concatenate S1024x2048 1 [
    ⟨S1024x256, P 0⟩, ⟨S1024x256, P 1⟩, ⟨S1024x256, P 2⟩, ⟨S1024x256, P 3⟩, ⟨S1024x256, P 4⟩, ⟨S1024x256, P 5⟩, ⟨S1024x256, P 6⟩, ⟨S1024x256, P 7⟩]
      concatenates_S1024x256_S1024x256_S1024x256_S1024x256_S1024x256_S1024x256_S1024x256_S1024x256_S1024x2048_d1 (ix2 b n)
    = P ⟨n.val / 256, by have := n.isLt; omega⟩ (ix2 b ⟨n.val % 256, by omega⟩) := by
  have e : ((0 : Fin S1024x256.rank).val = (1 : Fin S1024x2048.rank).val) = False := eq_false (by decide)
  simp only [pointwise, Matrix.cons_val_one, Matrix.cons_val_zero, Matrix.cons_val_fin_one, if_true, e, if_false]
  have hn := n.isLt
  by_cases k0 : n.val < 256
  · rw [dif_pos k0]
    exact place P b n 0 _ rfl (n.val) _ rfl rfl (by omega) (show 0 * 256 + (n.val) = n.val by omega)
  rw [dif_neg k0]
  by_cases k1 : n.val - 256 < 256
  · rw [dif_pos k1]
    exact place P b n 1 _ rfl (n.val - 256) _ rfl rfl (by omega) (show 1 * 256 + (n.val - 256) = n.val by omega)
  rw [dif_neg k1]
  by_cases k2 : n.val - 256 - 256 < 256
  · rw [dif_pos k2]
    exact place P b n 2 _ rfl (n.val - 256 - 256) _ rfl rfl (by omega) (show 2 * 256 + (n.val - 256 - 256) = n.val by omega)
  rw [dif_neg k2]
  by_cases k3 : n.val - 256 - 256 - 256 < 256
  · rw [dif_pos k3]
    exact place P b n 3 _ rfl (n.val - 256 - 256 - 256) _ rfl rfl (by omega) (show 3 * 256 + (n.val - 256 - 256 - 256) = n.val by omega)
  rw [dif_neg k3]
  by_cases k4 : n.val - 256 - 256 - 256 - 256 < 256
  · rw [dif_pos k4]
    exact place P b n 4 _ rfl (n.val - 256 - 256 - 256 - 256) _ rfl rfl (by omega) (show 4 * 256 + (n.val - 256 - 256 - 256 - 256) = n.val by omega)
  rw [dif_neg k4]
  by_cases k5 : n.val - 256 - 256 - 256 - 256 - 256 < 256
  · rw [dif_pos k5]
    exact place P b n 5 _ rfl (n.val - 256 - 256 - 256 - 256 - 256) _ rfl rfl (by omega) (show 5 * 256 + (n.val - 256 - 256 - 256 - 256 - 256) = n.val by omega)
  rw [dif_neg k5]
  by_cases k6 : n.val - 256 - 256 - 256 - 256 - 256 - 256 < 256
  · rw [dif_pos k6]
    exact place P b n 6 _ rfl (n.val - 256 - 256 - 256 - 256 - 256 - 256) _ rfl rfl (by omega) (show 6 * 256 + (n.val - 256 - 256 - 256 - 256 - 256 - 256) = n.val by omega)
  rw [dif_neg k6]
  exact place P b n 7 _ rfl (n.val - 256 - 256 - 256 - 256 - 256 - 256 - 256) _ rfl rfl (by omega) (show 7 * 256 + (n.val - 256 - 256 - 256 - 256 - 256 - 256 - 256) = n.val by omega)

/-- The product with them. -/
theorem contract (d : FVec Ideal S4096x2048 .f32) (w : FVec Ideal S1024x2048 .f32) (a : Fin 4096) (b : Fin 1024) :
    Host.dotGeneral dot_S4096x2048_S1024x2048_S4096x1024_1_1_0_0_n_n none d w (ix2 a b) = ∑ n : Fin 2048, d (ix2 a n) * w (ix2 b n) := by
  simp only [pointwise, zero_add]

/-- One shard. -/
abbrev piece (w : Vec Ideal S8x1024x256 .bf16) (j : ℕ) (h : S8x1024x256.Slices ![j, 0, 0] S1x1024x256) : FVec Ideal S1024x256 .f32 :=
  extf .f32 (shapeCast S1024x256 (extractStridedSlice S1x1024x256 ![j, 0, 0] w h) shapeCasts_S1x1024x256_S1024x256) bitsLt_bf16_f32

theorem piece_apply (w : Vec Ideal S8x1024x256 .bf16) (j : Fin 8) (h) (b : Fin 1024) (k : Fin 256) : piece w j.val h (ix2 b k) = w (ix3 j b k) := by
  simp only [pointwise]
  refine congrArg w (funext fun e => Fin.ext ?_)
  match e with
  | ⟨0, _⟩ => show j.val + 0 = j.val; omega
  | ⟨1, _⟩ => show 0 + b.val = b.val; omega
  | ⟨2, _⟩ => show 0 + k.val = k.val; omega

/-- The product with the shards side by side. -/
theorem product (c : Dev nD) (a : Fin 4096) (b : Fin 1024) (h : ∀ j : Fin 8, S8x1024x256.Slices ![j.val, 0, 0] S1x1024x256) : Host.dotGeneral dot_S4096x2048_S1024x2048_S4096x1024_1_1_0_0_n_n none
    (extf .f32 (m ((c.tc : Thread nD τ).loc main_arg0)) bitsLt_bf16_f32 : FVec Ideal S4096x2048 .f32)
    (concatenate S1024x2048 1 [
      ⟨S1024x256, piece (weight m c) 0 (h 0)⟩, ⟨S1024x256, piece (weight m c) 1 (h 1)⟩, ⟨S1024x256, piece (weight m c) 2 (h 2)⟩, ⟨S1024x256, piece (weight m c) 3 (h 3)⟩,
      ⟨S1024x256, piece (weight m c) 4 (h 4)⟩, ⟨S1024x256, piece (weight m c) 5 (h 5)⟩, ⟨S1024x256, piece (weight m c) 6 (h 6)⟩, ⟨S1024x256, piece (weight m c) 7 (h 7)⟩]
      concatenates_S1024x256_S1024x256_S1024x256_S1024x256_S1024x256_S1024x256_S1024x256_S1024x256_S1024x2048_d1) (ix2 a b) = dh m c (ix2 a b) := by
  refine (contract _ _ a b).trans (Finset.sum_congr rfl fun n _ => congrArg (HMul.hMul (α := EReal) (β := EReal) (γ := EReal) _)
    ((side (fun j => piece (weight m c) j.val (h j)) b n).trans (piece_apply _ _ _ _ _)))

/-- The reference's gradient of x. -/
theorem formula (c : Dev nD) (a : Fin 4096) (b : Fin 1024) : Value.res_main_v65 m c (ix2 a b) = Norm.through (dres m c (ix2 a b)) (fun k => x m c (ix2 a k))
    (fun k => dh m c (ix2 a k) * (gain m c (ix2 0 k) * (1 + scale m c (ix2 0 k)))) b := by
  unfold Value.res_main_v65
  generalize hD : Host.dotGeneral dot_S4096x2048_S1024x2048_S4096x1024_1_1_0_0_n_n none (_ : FVec Ideal S4096x2048 .f32) (_ : FVec Ideal S1024x2048 .f32) = D
  have e : (fun k => dh m c (ix2 a k) * (gain m c (ix2 0 k) * (1 + scale m c (ix2 0 k))))
      = fun k => (D (ix2 a k) * (1 + scale m c (ix2 0 k))) * gain m c (ix2 0 k) := funext fun k => by
    rw [← (congrFun hD (ix2 a k)).symm.trans (product m c a k (by decide))]
    exact (congrArg (_ * ·) (mul_comm _ _)).trans (mul_assoc _ _ _).symm
  clear hD
  rw [e]
  simp only [pointwise, zero_add, Fin.sum_univ_one]
  exact (congrArg (dres m c (ix2 a b) + ·) (Norm.norm_grad (fun k => x m c (ix2 a k))
    (fun k => D (ix2 a k) * (1 + scale m c (ix2 0 k)) * gain m c (ix2 0 k)) b)).symm

end Cert.GradXRefIdeal.Grad
-- ==== Proof.GradXClaims.lean ====
/-
# The gradient of x
-/
module

public import proofs.«01_k».proof.Defs
public import proofs.«01_k».proof.Proof.GradXBody
public import proofs.«01_k».proof.Proof.GradXRef
public import proofs.«01_k».proof.Proof.Gen.GradX.Frame
public import Idealize.ShloMosaic.Lib.Quiescent

@[expose] public section

noncomputable section

namespace Cert.GradXIdeal.Grad

open Idealize.ShloMosaic Idealize.ShloMosaic.TcCoe Idealize.SL.Sem Cert.GradXIdeal Cert.GradXIdeal.Gen Cert.GradXIdeal.Body Cert.Optimizer Cert.Blocks

variable (m : (ℓ : Loc nD τ sig) → Buf (Elt Ideal) ℓ)

/-- The operands. -/
abbrev dout (c : Dev nD) : S4096x2048.Idx → EReal := m ((c : Thread nD τ).loc main_arg0)
abbrev weight (c : Dev nD) : S8x1024x256.Idx → EReal := m ((c : Thread nD τ).loc main_arg1)
abbrev x (c : Dev nD) : S4096x1024.Idx → EReal := m ((c : Thread nD τ).loc main_arg2)
abbrev gain (c : Dev nD) : S1x1024.Idx → EReal := m ((c : Thread nD τ).loc main_arg3)
abbrev scale (c : Dev nD) : S1x1024.Idx → EReal := m ((c : Thread nD τ).loc main_arg4)
abbrev dres (c : Dev nD) : S4096x1024.Idx → EReal := m ((c : Thread nD τ).loc main_arg5)

/-- The gradient before the weight, -/
abbrev dh (c : Dev nD) : S4096x1024.Idx → EReal := fun i => ∑ n : Fin 2048,
  dout m c (ix2 (i 0) n) * weight m c (ix3 ⟨n.val / 256, by have := n.isLt; omega⟩ (i 1) ⟨n.val % 256, by omega⟩)

/-- and the gradient of x. -/
abbrev out (c : Dev nD) : S4096x1024.Idx → EReal := fun i => Norm.through (dres m c i) (fun k => x m c (ix2 (i 0) k))
  (fun k => dh m c (ix2 (i 0) k) * (gain m c (ix2 0 k) * (1 + scale m c (ix2 0 k)))) (i 1)

/-- Token `k` of a point. -/
abbrev row (t : Fin cfg0.N) (k : Fin 256) : Fin 4096 := ⟨t.val * 256 + k.val, by have := k.isLt; have : t.val < 16 := t.isLt; omega⟩

theorem places (t : Fin grid0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) := by
  revert t
  decide +kernel

/-- What a point's blocks hold. -/
theorem dout_block (c : Dev nD) (t : Fin cfg0.N) (a : Fin 256) (k : Fin 2048) : iblk m c 0 t (ix2 a k) = dout m c (ix2 (row t a) k) := by
  obtain ⟨⟨e0, e1⟩, -⟩ := places t
  refine congrArg (dout m c) (funext fun d => Fin.ext ?_)
  match d with
  | ⟨0, _⟩ => show win0_0.index t 0 * 256 + 1 * (a : Nat) = t.val * 256 + a; omega
  | ⟨1, _⟩ => show win0_0.index t 1 * 2048 + 1 * (k : Nat) = k; omega

theorem x_block (c : Dev nD) (t : Fin cfg0.N) (a : Fin 256) (k : Fin 1024) : iblk m c 1 t (ix2 a k) = x m c (ix2 (row t a) k) := by
  obtain ⟨-, ⟨e0, e1⟩, -⟩ := places t
  refine congrArg (x m c) (funext fun d => Fin.ext ?_)
  match d with
  | ⟨0, _⟩ => show win0_1.index t 0 * 256 + 1 * (a : Nat) = t.val * 256 + a; omega
  | ⟨1, _⟩ => show win0_1.index t 1 * 1024 + 1 * (k : Nat) = k; omega

theorem gain_block (c : Dev nD) (t : Fin cfg0.N) (k : Fin 1024) : iblk m c 2 t (ix2 0 k) = gain m c (ix2 0 k) := by
  obtain ⟨-, -, ⟨e0, e1⟩, -⟩ := places t
  refine congrArg (gain m c) (funext fun d => Fin.ext ?_)
  match d with
  | ⟨0, _⟩ => show win0_2.index t 0 * 1 + 1 * 0 = 0; omega
  | ⟨1, _⟩ => show win0_2.index t 1 * 1024 + 1 * (k : Nat) = k; omega

theorem scale_block (c : Dev nD) (t : Fin cfg0.N) (k : Fin 1024) : iblk m c 3 t (ix2 0 k) = scale m c (ix2 0 k) := by
  obtain ⟨-, -, -, ⟨e0, e1⟩, -⟩ := places t
  refine congrArg (scale m c) (funext fun d => Fin.ext ?_)
  match d with
  | ⟨0, _⟩ => show win0_3.index t 0 * 1 + 1 * 0 = 0; omega
  | ⟨1, _⟩ => show win0_3.index t 1 * 1024 + 1 * (k : Nat) = k; omega

theorem dres_block (c : Dev nD) (t : Fin cfg0.N) (a : Fin 256) (k : Fin 1024) : iblk m c 4 t (ix2 a k) = dres m c (ix2 (row t a) k) := by
  obtain ⟨-, -, -, -, ⟨e0, e1⟩, -⟩ := places t
  refine congrArg (dres m c) (funext fun d => Fin.ext ?_)
  match d with
  | ⟨0, _⟩ => show win0_4.index t 0 * 256 + 1 * (a : Nat) = t.val * 256 + a; omega
  | ⟨1, _⟩ => show win0_4.index t 1 * 1024 + 1 * (k : Nat) = k; omega

/-- A point's gradients are those of its tokens. -/
theorem dh_point (c : Dev nD) (t : Fin cfg0.N) (a : Fin 256) (k : Fin 1024) :
    shards (iblk m c 0 t) (weight m c) (ix2 a k) = dh m c (ix2 (row t a) k) :=
  (shards_apply _ _ _).trans (Finset.sum_congr rfl fun n _ => congrArg (· * _) (dout_block m c t a n))

theorem point (c : Dev nD) (t : Fin cfg0.N) (a : Fin 256) (b : Fin 1024) :
    stored (iblk m c 0 t) (iblk m c 1 t) (iblk m c 2 t) (iblk m c 3 t) (iblk m c 4 t) (weight m c) (ix2 a b) = out m c (ix2 (row t a) b) := by
  refine (stored_apply _ _ _ _ _ _ _ _).trans ?_
  rw [dres_block]
  exact congrArg₂ (fun p q => Norm.through _ p q b) (funext fun k => x_block m c t a k)
    (funext fun k => congrArg₂ (· * ·) (dh_point m c t a k) (congrArg₂ (· * ·) (gain_block m c t k) (congrArg (1 + ·) (scale_block m c t k))))

/-- The weight is at hand at every point. -/
theorem weight_first (c : Dev nD) (t : Fin cfg0.N) (h : t.val % 16 = 0) : (outsAt0 m c t.val t.isLt).2.2 = weight m c := by
  simp only [outsAt0_A m c t h h]
  exact weight_A

theorem weight_next (c : Dev nD) (t : Fin cfg0.N) (h : ¬t.val % 16 = 0) :
    (outsAt0 m c t.val t.isLt).2.2 = (outsAt0 m c (t.val - 1) (Nat.lt_of_le_of_lt (Nat.sub_le _ _) t.isLt)).2.2 := by
  simp only [outsAt0_B m c t h h]
  exact weight_B

theorem held (c : Dev nD) (n : Nat) : ∀ hn : n < cfg0.N, (outsAt0 m c n hn).2.2 = weight m c := by
  induction n with
  | zero => exact fun hn => weight_first m c ⟨0, hn⟩ rfl
  | succ n ih =>
    intro hn
    have : n + 1 < 16 := hn
    exact (weight_next m c ⟨n + 1, hn⟩ (by show ¬(n + 1) % 16 = 0; omega)).trans (ih _)

/-- What a point stores. -/
theorem stores (c : Dev nD) (t : Fin cfg0.N) : (outsAt0 m c t.val t.isLt).1
    = stored (iblk m c 0 t) (iblk m c 1 t) (iblk m c 2 t) (iblk m c 3 t) (iblk m c 4 t) (weight m c) := by
  by_cases h : t.val % 16 = 0
  · simp only [outsAt0_A m c t h h]
    exact stored_A
  · simp only [outsAt0_B m c t h h, held m c _ (Nat.lt_of_le_of_lt (Nat.sub_le _ _) t.isLt)]
    exact stored_B

/-- The blocks of the points' tokens cover the result. -/
theorem covered (i : S4096x1024.Idx) : ∃ t : Fin cfg0.N, ∀ a : Fin 2,
    win0_5.index t a * S256x1024.size a ≤ (i a).val ∧ (i a).val < win0_5.index t a * S256x1024.size a + S256x1024.size a := by
  have h0 : (i 0).val < 4096 := (i 0).isLt
  have h1 : (i 1).val < 1024 := (i 1).isLt
  refine ⟨⟨(i 0).val / 256, by show _ < 16; omega⟩, ?_⟩
  obtain ⟨e0, e1⟩ := (places ⟨(i 0).val / 256, by show _ < 16; omega⟩).2.2.2.2.2
  refine Fin.forall_fin_two.2 ⟨?_, ?_⟩
  · show win0_5.index _ 0 * 256 ≤ (i 0).val ∧ (i 0).val < win0_5.index _ 0 * 256 + 256
    rw [e0]; dsimp only; omega
  · show win0_5.index _ 1 * 1024 ≤ (i 1).val ∧ (i 1).val < win0_5.index _ 1 * 1024 + 1024
    rw [e1]; omega

/-- The call's first result is the gradient of x. -/
theorem final (c : Dev nD) : (dats m 0 c).arrAt 5 cfg0.N = out m c := by
  refine Pipeline.Dat.arrAt_eq_of_cover _ 5 _ (fun t _ => funext fun y => ?_)
    fun i => (covered i).imp fun t h => ⟨flush0_5 t, mem_block main_v0_0 _ _ _ i h⟩
  rw [Value.flushed5, stores m c t]
  have e : y = ix2 (y 0) (y 1) := funext fun a => by fin_cases a <;> rfl
  refine ((congrArg _ e).trans (point m c t (y 0) (y 1))).trans (show _ = out m c ((win0_5.rect t).emb y) from congrArg (out m c) ?_)
  obtain ⟨e0, e1⟩ := (places t).2.2.2.2.2
  funext d
  refine Fin.ext ?_
  match d with
  | ⟨0, _⟩ => show t.val * 256 + (y 0 : Nat) = win0_5.index t 0 * 256 + 1 * (y 0 : Nat); omega
  | ⟨1, _⟩ => show (y 1 : Nat) = win0_5.index t 1 * 1024 + 1 * (y 1 : Nat); omega

end Cert.GradXIdeal.Grad

namespace Cert.Proof

open Idealize.ShloMosaic Idealize.SL.Sem Cert.GradXRefIdeal.Gen

theorem frame_GradXIdeal : Cert.quiescent_GradXIdeal := fun m ρ _ => Cert.GradXIdeal.Gen.frame m ρ

theorem frame_GradX : Cert.quiescent_GradX := fun m ρ _ => Cert.GradX.Gen.frame m ρ

theorem frame_GradXRefIdeal : Cert.quiescent_GradXRefIdeal := fun m ρ _ =>
  (θ_run Cert.GradXRefIdeal.defs _ _).mono (fun r h => ⟨fun c => (h c).2, sem_eq_zero_of_no_sems rfl r.2⟩) (Cert.GradXRefIdeal.Value.run m ρ)

theorem preserves_GradX : Cert.preserves_GradX_GradXIdeal := trivial

/-- The call leaves the reference's gradient of x. -/
theorem algebraic_GradX : Cert.algebraic_GradXIdeal_GradXRefIdeal := fun m g m' g' _ hin => by
  refine ⟨_, ?_, Cert.GradXRefIdeal.Value.run m' g'⟩
  refine (θ_run Cert.GradXIdeal.defs _ _).mono (fun _ h c => ?_) (Cert.GradXIdeal.Value.run_blocks m g)
  obtain ⟨a0, a1, a2, a3, a4, a5⟩ := hin c
  refine ⟨(h c).1.trans ((Cert.GradXIdeal.Grad.final m c).trans ?_), (h c).2.2⟩
  funext i
  obtain ⟨a, b, rfl⟩ : ∃ (a : Fin 4096) (b : Fin 1024), i = ix2 a b := ⟨i 0, i 1, funext fun d => by fin_cases d <;> rfl⟩
  refine Eq.trans ?_ (Cert.GradXRefIdeal.Grad.formula m' c a b).symm
  unfold Cert.GradXRefIdeal.Grad.dres Cert.GradXRefIdeal.Grad.x Cert.GradXRefIdeal.Grad.dh Cert.GradXRefIdeal.Grad.dout Cert.GradXRefIdeal.Grad.weight
    Cert.GradXRefIdeal.Grad.gain Cert.GradXRefIdeal.Grad.scale
  rw [a0, a1, a2, a3, a4, a5]
  rfl

end Cert.Proof
-- ==== Proof.BackMixBody.lean ====
/-
# The points of the gradient through a gated norm and a product

What a point of the call stores, as a function of its blocks, the weight and the sums so far.
-/
module

public import proofs.«01_k».proof.Proof.Grad
public import proofs.«01_k».proof.Proof.Norm
public import proofs.«01_k».proof.Proof.Optimizer
public import proofs.«01_k».proof.Proof.Gen.BackMixIdeal.Value
public import Idealize.ShloMosaic.Lib.Pointwise
public import Idealize.ShloMosaic.Lib.WritesUnit

@[expose] public section

noncomputable section

namespace Cert.BackMixIdeal.Body

open Idealize.ShloMosaic Idealize.ShloMosaic.TcCoe Idealize.SL.Sem Cert.BackMixIdeal Cert.BackMixIdeal.Gen Cert.Grad Cert.Optimizer Cert.Blocks

/-- A point's gradient of the rows, -/
abbrev dys (d x : Vec Ideal S256x1024 .f32) (g s : Vec Ideal S1x1024 .f32) : FVec Ideal S256x1024 .bf16 :=
  k0_pay2 (k0_pay5 x) (k0_pay6 x) (k0_pay8 d s) g

/-- and its product with the weight. -/
abbrev das (d x : Vec Ideal S256x1024 .f32) (g s : Vec Ideal S1x1024 .f32) (w : Vec Ideal S1024x1024 .bf16) : FVec Ideal S256x1024 .f32 :=
  k0_pay3 (k0_pay5 x) (k0_pay6 x) (k0_pay8 d s) g w

/-- What a point adds to the gate's and the gain's gradients. -/
abbrev adds (d x : Vec Ideal S256x1024 .f32) (g s : Vec Ideal S1x1024 .f32) : S8x1024.Idx → EReal := fun y =>
  if (y 0).val = 1 then ∑ a : Fin 256, d (ix2 a (y 1)) * s (ix2 0 (y 1)) * (x (ix2 a (y 1)) * Norm.inv fun k => x (ix2 a k))
  else if (y 0).val = 0 then ∑ a : Fin 256, d (ix2 a (y 1)) * (x (ix2 a (y 1)) * (Norm.inv fun k => x (ix2 a k)) * g (ix2 0 (y 1)))
  else 0

theorem dys_apply (d x : Vec Ideal S256x1024 .f32) (g s : Vec Ideal S1x1024 .f32) (a : Fin 256) (b : Fin 1024) : dys d x g s (ix2 a b)
    = Norm.through 0 (fun k => x (ix2 a k)) (fun k => d (ix2 a k) * s (ix2 0 k) * g (ix2 0 k)) b := by
  unfold dys k0_pay2 k0_pay8 k0_pay6 k0_pay5
  simp only [shapeCast_self, pointwise, zero_add, Norm.through]
  rfl

theorem das_apply (d x : Vec Ideal S256x1024 .f32) (g s : Vec Ideal S1x1024 .f32) (w : Vec Ideal S1024x1024 .bf16) (a : Fin 256) (b : Fin 1024) :
    das d x g s w (ix2 a b) = ∑ k : Fin 1024, dys d x g s (ix2 a k) * w (ix2 b k) := by
  unfold das k0_pay3
  simp only [pointwise, zero_add]

theorem gate_apply (d x : Vec Ideal S256x1024 .f32) (z g : Vec Ideal S1x1024 .f32) (b : Fin 1024) : k0_pay7 x d z g (ix2 0 b)
    = z (ix2 0 b) + ∑ a : Fin 256, d (ix2 a b) * (x (ix2 a b) * (Norm.inv fun k => x (ix2 a k)) * g (ix2 0 b)) := by
  unfold k0_pay7 k0_pay6 k0_pay5
  simp only [shapeCast_self, pointwise, zero_add]
  rfl

theorem gain_apply (d x : Vec Ideal S256x1024 .f32) (z s : Vec Ideal S1x1024 .f32) (b : Fin 1024) : k0_pay1 (k0_pay9 z) (k0_pay10 x d s) (ix2 0 b)
    = z (ix2 0 b) + ∑ a : Fin 256, d (ix2 a b) * s (ix2 0 b) * (x (ix2 a b) * Norm.inv fun k => x (ix2 a k)) := by
  unfold k0_pay1 k0_pay9 k0_pay10 k0_pay8 k0_pay6 k0_pay5
  simp only [shapeCast_self, pointwise, zero_add]
  rfl

/-- Rows 0 and 1 written over what there was. -/
theorem written {sig} (v : View sig .tc .vmem S8x1024 .f32) (f : v.ty.Contents (Elt Ideal)) (p q : S1x1024.Idx → EReal) (L) (h1 h0) (l e : S8x1024.Idx → EReal)
    (hp : ∀ b, p (ix2 0 b) = l (ix2 1 b) + e (ix2 1 b)) (hq : ∀ b, q (ix2 0 b) = l (ix2 0 b) + e (ix2 0 b))
    (hl : ∀ y, (y 0).val ≠ 1 → (y 0).val ≠ 0 → v.read (Elt Ideal) (v.writes (Elt Ideal) f L) y = l y + e y) :
    v.read (Elt Ideal) (v.writes (Elt Ideal) f (⟨Rect.unit ![1, 0] ![1, 1024] h1, p⟩ :: ⟨Rect.unit ![0, 0] ![1, 1024] h0, q⟩ :: L)) = fun y => l y + e y := by
  funext y
  by_cases k1 : (y 0).val = 1
  · have hy : y = ix2 1 (y 1) := funext fun a => by fin_cases a; exacts [Fin.ext k1, rfl]
    exact (View.read_writes_cons_rows_of_mem v f h1 p _ y (ix2 0 (y 1)) rfl k1 rfl).trans ((hp _).trans (congrArg (fun y => l y + e y) hy.symm))
  refine (View.read_writes_cons_rows_of_not_mem (W := 1) v f h1 p _ y rfl rfl (by omega)).trans ?_
  by_cases k0 : (y 0).val = 0
  · have hy : y = ix2 0 (y 1) := funext fun a => by fin_cases a; exacts [Fin.ext k0, rfl]
    exact (View.read_writes_cons_rows_of_mem v f h0 q _ y (ix2 0 (y 1)) rfl k0 rfl).trans ((hq _).trans (congrArg (fun y => l y + e y) hy.symm))
  exact (View.read_writes_cons_rows_of_not_mem (W := 1) v f h0 q _ y rfl rfl (by omega)).trans (hl y k1 k0)

/-- Zero everywhere. -/
theorem none {sig} (v : View sig .tc .vmem S8x1024 .f32) (f : v.ty.Contents (Elt Ideal)) (inb) (y : S8x1024.Idx) : v.read (Elt Ideal)
    (v.writes (Elt Ideal) f [⟨Rect.unit ![0, 0] ![8, 1024] inb, k0_pay4 (F := Ideal)⟩]) y = 0 := by
  refine (View.read_writes_cons_rows_of_mem v f inb _ _ y y rfl (by omega) rfl).trans ?_
  unfold k0_pay4
  simp only [pointwise]

section cases

variable {c : Dev nD} {i : grid0.Coords} {a1 a2 : Memref sig .tc .vmem S256x1024 .f32} {h1 : a1.IsWhole} {h2 : a2.IsWhole}
  {a3 a4 : Memref sig .tc .vmem S1x1024 .f32} {h3 : a3.IsWhole} {h4 : a4.IsWhole} {a6 : Memref sig .tc .vmem S256x1024 .bf16} {h6 : a6.IsWhole}
  {a7 : Memref sig .tc .vmem S256x1024 .f32} {h7 : a7.IsWhole} {a8 : Memref sig .tc .vmem S8x1024 .f32} {h8 : a8.IsWhole}
  {a9 : Memref sig .tc .vmem S1024x1024 .bf16} {h9 : a9.IsWhole} {d x : Vec Ideal S256x1024 .f32} {g s : Vec Ideal S1x1024 .f32}
  {l : Vec Ideal S8x1024 .f32} {w : Vec Ideal S1024x1024 .bf16}

/-- What the weight's transfer brought is the weight. -/
theorem brought (w : Vec Ideal S1024x1024 .bf16) (inb) :
    a9.view.readCov [⟨Rect.whole S1024x1024, ReadAs.same.apply (View.read (Elt Ideal) (Memref.whole main_arg4).view w)⟩]
      (Rect.unit ![0, 0] S1024x1024.size inb).toLoadRect = w :=
  (View.readCov_eq_canon' _ _ _).trans (funext fun j => (congrFun (View.canon_unit_zero (S := S1024x1024) rfl _ _) _).trans
    (congrFun (View.ld_unit_zero (S := S1024x1024) zero2 inb w) j))

/-- The weight is kept, -/
theorem weight_A {hc0 hc1} : sout0_A_0 (F := Ideal) c i a1 h1 a2 h2 a3 h3 a4 h4 a6 h6 a7 h7 a8 h8 a9 h9 hc0 hc1 d x g s w = w := by
  unfold sout0_A_0
  rw [View.read_writes_eq_canon _ _ _ (scover0_A_0 c i a1 h1 a2 h2 a3 h3 a4 h4 a6 h6 a7 h7 a8 h8 a9 h9 hc0 hc1 d x g s w)]
  unfold kernelRun0_A
  dsimp only
  sl_unfold_words
  exact View.canon_unit_zero (S := S1024x1024) rfl _ _

/-- a point stores its gradient of the rows, -/
theorem dys_A {hc0 hc1} : out0_A_4 (F := Ideal) c i a1 h1 a2 h2 a3 h3 a4 h4 a6 h6 a7 h7 a8 h8 a9 h9 hc0 hc1 d x g s w = dys d x g s := by
  unfold out0_A_4
  rw [View.read_writes_eq_canon _ _ _ (cover0_A_4 c i a1 h1 a2 h2 a3 h3 a4 h4 a6 h6 a7 h7 a8 h8 a9 h9 hc0 hc1 d x g s w)]
  unfold kernelRun0_A
  dsimp only
  sl_unfold_words
  rw [View.canon_unit_zero zero2]
  simp only [View.readAt_eq_ld, h1.read_unread, h2.read_unread, h3.read_unread, h4.read_unread,
    View.ld_unit_zero (S := S256x1024) zero2, View.ld_unit_zero (S := S1x1024) zero2]

/-- its product with the weight, -/
theorem das_A {hc0 hc1} : out0_A_5 (F := Ideal) c i a1 h1 a2 h2 a3 h3 a4 h4 a6 h6 a7 h7 a8 h8 a9 h9 hc0 hc1 d x g s w = das d x g s w := by
  unfold out0_A_5
  rw [View.read_writes_eq_canon _ _ _ (cover0_A_5 c i a1 h1 a2 h2 a3 h3 a4 h4 a6 h6 a7 h7 a8 h8 a9 h9 hc0 hc1 d x g s w)]
  unfold kernelRun0_A
  dsimp only
  sl_unfold_words
  rw [View.canon_unit_zero zero2]
  rw [brought]
  simp only [View.readAt_eq_ld, h1.read_unread, h2.read_unread, h3.read_unread, h4.read_unread,
    View.ld_unit_zero (S := S256x1024) zero2, View.ld_unit_zero (S := S1x1024) zero2]

/-- and the sums so far. -/
theorem sums_A {hc0 hc1} : out0_A_6 (F := Ideal) c i a1 h1 a2 h2 a3 h3 a4 h4 a6 h6 a7 h7 a8 h8 a9 h9 hc0 hc1 d x g s w = fun y => 0 + adds d x g s y := by
  unfold out0_A_6 kernelRun0_A
  dsimp only
  sl_unfold_words
  simp only [View.readAt_eq_ld, h1.read_unread, h2.read_unread, h3.read_unread, h4.read_unread,
    View.ld_unit_zero (S := S256x1024) zero2, View.ld_unit_zero (S := S1x1024) zero2]
  refine written _ _ _ _ _ _ _ (fun _ => 0) (adds d x g s) (fun b => (gain_apply d x _ s b).trans (congrArg (· + _) ?_))
    (fun b => (gate_apply d x _ g b).trans (congrArg (· + _) (none a8.view _ _ _)))
    fun y k1 k0 => (none _ _ _ y).trans (by simp only [adds, if_neg k1, if_neg k0, add_zero])
  exact (View.read_writes_cons_rows_of_not_mem (W := 1) a8.view _ _ _ _ _ rfl rfl (Or.inr (by show 0 + 1 ≤ 1 + 1 * 0; omega))).trans (none a8.view _ _ _)

theorem dys_B {hc0 hc1 f} : out0_B_4 (F := Ideal) c i a1 h1 a2 h2 a3 h3 a4 h4 a6 h6 a7 h7 a8 h8 a9 h9 hc0 hc1 d x g s l w f = dys d x g s := by
  unfold out0_B_4
  rw [View.read_writes_eq_canon _ _ _ (cover0_B_4 c i a1 h1 a2 h2 a3 h3 a4 h4 a6 h6 a7 h7 a8 h8 a9 h9 hc0 hc1 d x g s l w f)]
  unfold kernelRun0_B
  dsimp only
  sl_unfold_words
  rw [View.canon_unit_zero zero2]
  simp only [View.readAt_eq_ld, h1.read_unread, h2.read_unread, h3.read_unread, h4.read_unread,
    View.ld_unit_zero (S := S256x1024) zero2, View.ld_unit_zero (S := S1x1024) zero2]

theorem das_B {hc0 hc1 f} : out0_B_5 (F := Ideal) c i a1 h1 a2 h2 a3 h3 a4 h4 a6 h6 a7 h7 a8 h8 a9 h9 hc0 hc1 d x g s l w f = das d x g s w := by
  unfold out0_B_5
  rw [View.read_writes_eq_canon _ _ _ (cover0_B_5 c i a1 h1 a2 h2 a3 h3 a4 h4 a6 h6 a7 h7 a8 h8 a9 h9 hc0 hc1 d x g s l w f)]
  unfold kernelRun0_B
  dsimp only
  sl_unfold_words
  rw [View.canon_unit_zero zero2]
  simp only [View.readAt_eq_ld, h1.read_unread, h2.read_unread, h3.read_unread, h4.read_unread, h9.read_unread,
    View.ld_unit_zero (S := S256x1024) zero2, View.ld_unit_zero (S := S1x1024) zero2, View.ld_unit_zero (S := S1024x1024) zero2]

theorem sums_B {hc0 hc1 f} : out0_B_6 (F := Ideal) c i a1 h1 a2 h2 a3 h3 a4 h4 a6 h6 a7 h7 a8 h8 a9 h9 hc0 hc1 d x g s l w f = fun y => l y + adds d x g s y := by
  unfold out0_B_6 kernelRun0_B
  dsimp only
  sl_unfold_words
  simp only [View.readAt_eq_ld, h1.read_unread, h2.read_unread, h3.read_unread, h4.read_unread, h8.read_unread,
    View.ld_unit_zero (S := S256x1024) zero2, View.ld_unit_zero (S := S1x1024) zero2]
  have e : ∀ (r : Fin 8) (b : Fin 1024) (inb), View.ld l (Rect.unit ![r.val, 0] ![1, 1024] inb) (ix2 0 b) = l (ix2 r b) := fun r b inb =>
    congrArg l (funext fun a => Fin.ext (match a with
      | ⟨0, _⟩ => (by show r.val + 1 * 0 = r.val; omega)
      | ⟨1, _⟩ => (by show 0 + 1 * b.val = b.val; omega)))
  exact written _ _ _ _ _ _ _ l (adds d x g s) (fun b => (gain_apply d x _ s b).trans (congrArg (· + _) (e 1 b _)))
    (fun b => (gate_apply d x _ g b).trans (congrArg (· + _) (e 0 b _)))
    fun y k1 k0 => (congrFun (h8.read_unread l) y).trans (by simp only [adds, if_neg k1, if_neg k0, add_zero])

theorem weight_B {hc0 hc1 f} : sout0_B_0 (F := Ideal) c i a1 h1 a2 h2 a3 h3 a4 h4 a6 h6 a7 h7 a8 h8 a9 h9 hc0 hc1 d x g s l w f = w := rfl

end cases

end Cert.BackMixIdeal.Body
-- ==== Proof.BackMixClaims.lean ====
/-
# The gradient through a gated norm and a product
-/
module

public import proofs.«01_k».proof.Defs
public import proofs.«01_k».proof.Proof.BackMixBody
public import proofs.«01_k».proof.Proof.Gen.BackMix.Frame
public import proofs.«01_k».proof.Proof.Gen.BackMixRefIdeal.Run
public import Idealize.ShloMosaic.Lib.Quiescent

@[expose] public section

noncomputable section

namespace Cert.BackMixIdeal.Grad

open Idealize.ShloMosaic Idealize.ShloMosaic.TcCoe Idealize.SL.Sem Cert.BackMixIdeal Cert.BackMixIdeal.Gen Cert.BackMixIdeal.Body Cert.Optimizer Cert.Blocks

variable (m : (ℓ : Loc nD τ sig) → Buf (Elt Ideal) ℓ)

/-- The operands. -/
abbrev dx (c : Dev nD) : S4096x1024.Idx → EReal := m ((c : Thread nD τ).loc main_arg0)
abbrev rows (c : Dev nD) : S4096x1024.Idx → EReal := m ((c : Thread nD τ).loc main_arg1)
abbrev gain (c : Dev nD) : S1x1024.Idx → EReal := m ((c : Thread nD τ).loc main_arg2)
abbrev gate (c : Dev nD) : S1x1024.Idx → EReal := m ((c : Thread nD τ).loc main_arg3)
abbrev weight (c : Dev nD) : S1024x1024.Idx → EReal := m ((c : Thread nD τ).loc main_arg4)

/-- The gradient of the rows, -/
abbrev dy (c : Dev nD) : S4096x1024.Idx → EReal := fun i => Norm.through 0 (fun k => rows m c (ix2 (i 0) k))
  (fun k => dx m c (ix2 (i 0) k) * gate m c (ix2 0 k) * gain m c (ix2 0 k)) (i 1)

/-- its product with the weight, -/
abbrev da (c : Dev nD) : S4096x1024.Idx → EReal := fun i => ∑ k : Fin 1024, dy m c (ix2 (i 0) k) * weight m c (ix2 (i 1) k)

/-- and one token's part of the gradients of the gate and of the gain. -/
abbrev token (c : Dev nD) (y : S8x1024.Idx) (l : Fin 4096) : EReal :=
  if (y 0).val = 1 then dx m c (ix2 l (y 1)) * gate m c (ix2 0 (y 1)) * (rows m c (ix2 l (y 1)) * Norm.inv fun k => rows m c (ix2 l k))
  else if (y 0).val = 0 then dx m c (ix2 l (y 1)) * (rows m c (ix2 l (y 1)) * (Norm.inv fun k => rows m c (ix2 l k)) * gain m c (ix2 0 (y 1)))
  else 0

/-- Token `k` of a point. -/
abbrev row (t : Fin cfg0.N) (k : Fin 256) : Fin 4096 := ⟨t.val * 256 + k.val, by have := k.isLt; have : t.val < 16 := t.isLt; omega⟩

theorem places (t : Fin grid0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by
  revert t
  decide +kernel

/-- What a point's blocks hold. -/
theorem dx_block (c : Dev nD) (t : Fin cfg0.N) (a : Fin 256) (k : Fin 1024) : iblk m c 0 t (ix2 a k) = dx m c (ix2 (row t a) k) := by
  obtain ⟨⟨e0, e1⟩, -⟩ := places t
  refine congrArg (dx m c) (funext fun d => Fin.ext ?_)
  match d with
  | ⟨0, _⟩ => show win0_0.index t 0 * 256 + 1 * (a : Nat) = t.val * 256 + a; omega
  | ⟨1, _⟩ => show win0_0.index t 1 * 1024 + 1 * (k : Nat) = k; omega

theorem rows_block (c : Dev nD) (t : Fin cfg0.N) (a : Fin 256) (k : Fin 1024) : iblk m c 1 t (ix2 a k) = rows m c (ix2 (row t a) k) := by
  obtain ⟨-, ⟨e0, e1⟩, -⟩ := places t
  refine congrArg (rows m c) (funext fun d => Fin.ext ?_)
  match d with
  | ⟨0, _⟩ => show win0_1.index t 0 * 256 + 1 * (a : Nat) = t.val * 256 + a; omega
  | ⟨1, _⟩ => show win0_1.index t 1 * 1024 + 1 * (k : Nat) = k; omega

theorem gain_block (c : Dev nD) (t : Fin cfg0.N) (k : Fin 1024) : iblk m c 2 t (ix2 0 k) = gain m c (ix2 0 k) := by
  obtain ⟨-, -, ⟨e0, e1⟩, -⟩ := places t
  refine congrArg (gain m c) (funext fun d => Fin.ext ?_)
  match d with
  | ⟨0, _⟩ => show win0_2.index t 0 * 1 + 1 * 0 = 0; omega
  | ⟨1, _⟩ => show win0_2.index t 1 * 1024 + 1 * (k : Nat) = k; omega

theorem gate_block (c : Dev nD) (t : Fin cfg0.N) (k : Fin 1024) : iblk m c 3 t (ix2 0 k) = gate m c (ix2 0 k) := by
  obtain ⟨-, -, -, ⟨e0, e1⟩, -⟩ := places t
  refine congrArg (gate m c) (funext fun d => Fin.ext ?_)
  match d with
  | ⟨0, _⟩ => show win0_3.index t 0 * 1 + 1 * 0 = 0; omega
  | ⟨1, _⟩ => show win0_3.index t 1 * 1024 + 1 * (k : Nat) = k; omega

/-- A point's gradients are those of its tokens. -/
theorem dy_point (c : Dev nD) (t : Fin cfg0.N) (a : Fin 256) (b : Fin 1024) :
    dys (iblk m c 0 t) (iblk m c 1 t) (iblk m c 2 t) (iblk m c 3 t) (ix2 a b) = dy m c (ix2 (row t a) b) :=
  (dys_apply _ _ _ _ _ _).trans (congrArg₂ (fun p q => Norm.through 0 p q b) (funext fun k => rows_block m c t a k)
    (funext fun k => congrArg₂ (· * ·) (congrArg₂ (· * ·) (dx_block m c t a k) (gate_block m c t k)) (gain_block m c t k)))

theorem da_point (c : Dev nD) (t : Fin cfg0.N) (a : Fin 256) (b : Fin 1024) :
    das (iblk m c 0 t) (iblk m c 1 t) (iblk m c 2 t) (iblk m c 3 t) (weight m c) (ix2 a b) = da m c (ix2 (row t a) b) :=
  (das_apply _ _ _ _ _ _ _).trans (Finset.sum_congr rfl fun k _ => congrArg (· * _) (dy_point m c t a k))

theorem sums_point (c : Dev nD) (t : Fin cfg0.N) (y : S8x1024.Idx) :
    adds (iblk m c 0 t) (iblk m c 1 t) (iblk m c 2 t) (iblk m c 3 t) y = ∑ a : Fin 256, token m c y (row t a) := by
  have e : ∀ a, (fun k => iblk m c 1 t (ix2 a k)) = fun k => rows m c (ix2 (row t a) k) := fun a => funext fun k => rows_block m c t a k
  unfold adds token
  split
  · exact Finset.sum_congr rfl fun a _ => congrArg₂ (· * ·) (congrArg₂ (· * ·) (dx_block m c t a _) (gate_block m c t _))
      (congrArg₂ (· * ·) (rows_block m c t a _) (congrArg Norm.inv (e a)))
  split
  · exact Finset.sum_congr rfl fun a _ => congrArg₂ (· * ·) (dx_block m c t a _)
      (congrArg₂ (· * ·) (congrArg₂ (· * ·) (rows_block m c t a _) (congrArg Norm.inv (e a))) (gain_block m c t _))
  · exact Finset.sum_const_zero.symm

/-- What a point leaves: at the first point, -/
theorem first (c : Dev nD) (t : Fin cfg0.N) (h : t.val % 16 = 0) : outsAt0 m c t.val t.isLt
    = (dys (iblk m c 0 t) (iblk m c 1 t) (iblk m c 2 t) (iblk m c 3 t), das (iblk m c 0 t) (iblk m c 1 t) (iblk m c 2 t) (iblk m c 3 t) (weight m c),
      (fun y => 0 + adds (iblk m c 0 t) (iblk m c 1 t) (iblk m c 2 t) (iblk m c 3 t) y), weight m c) := by
  rw [outsAt0_A m c t h h, dys_A, das_A, sums_A, weight_A]

/-- and after another. -/
theorem next (c : Dev nD) (t : Fin cfg0.N) (h : ¬t.val % 16 = 0) (o) (ho : outsAt0 m c (t.val - 1) (Nat.lt_of_le_of_lt (Nat.sub_le _ _) t.isLt) = o) : outsAt0 m c t.val t.isLt
    = (dys (iblk m c 0 t) (iblk m c 1 t) (iblk m c 2 t) (iblk m c 3 t), das (iblk m c 0 t) (iblk m c 1 t) (iblk m c 2 t) (iblk m c 3 t) o.2.2.2,
      (fun y => o.2.2.1 y + adds (iblk m c 0 t) (iblk m c 1 t) (iblk m c 2 t) (iblk m c 3 t) y), o.2.2.2) := by
  rw [outsAt0_B m c t h h, dys_B, das_B, sums_B, weight_B, ho]

/-- The weight is at hand at every point. -/
theorem held (c : Dev nD) (n : Nat) : ∀ hn : n < cfg0.N, (outsAt0 m c n hn).2.2.2 = weight m c := by
  induction n with
  | zero => exact fun hn => by rw [first m c ⟨0, hn⟩ rfl]
  | succ n ih =>
    intro hn
    have : n + 1 < 16 := hn
    exact (congrArg (·.2.2.2) (next m c ⟨n + 1, hn⟩ (by show ¬(n + 1) % 16 = 0; omega) _ rfl)).trans (ih _)

/-- What a point stores. -/
theorem stores (c : Dev nD) (t : Fin cfg0.N) : (outsAt0 m c t.val t.isLt).1 = dys (iblk m c 0 t) (iblk m c 1 t) (iblk m c 2 t) (iblk m c 3 t)
    ∧ (outsAt0 m c t.val t.isLt).2.1 = das (iblk m c 0 t) (iblk m c 1 t) (iblk m c 2 t) (iblk m c 3 t) (weight m c) := by
  by_cases h : t.val % 16 = 0
  · rw [first m c t h]
    exact ⟨rfl, rfl⟩
  · rw [next m c t h _ rfl, held m c]
    exact ⟨rfl, rfl⟩

/-- After the last point the whole sums are there. -/
theorem sums_last (c : Dev nD) (t : Fin cfg0.N) (h : t.val % 16 = 15) (y : S8x1024.Idx) :
    (outsAt0 m c t.val t.isLt).2.2.1 y = ∑ l : Fin 4096, token m c y l := by
  refine (Pipeline.eq_sum_fin_of_reset_step_apply_of_flush (fun n h => (outsAt0 m c n h).2.2.1) 16 (fun _ => 0) (fun t y => ∑ a : Fin 256, token m c y (row t a))
    (fun t h y => (congrFun (congrArg (·.2.2.1) (first m c t h)) y).trans (congrArg (0 + ·) (sums_point m c t y)))
    (fun t h y => (congrFun (congrArg (·.2.2.1) (next m c t h _ rfl)) y).trans (congrArg (_ + ·) (sums_point m c t y))) t h y).trans ?_
  have ht : t.val < 16 := t.isLt
  rw [zero_add]
  refine Fin.sum_mul_add_congr fun s k hl => ?_
  exact congrArg (token m c y) (Fin.ext (by show (16 * (t.val / 16) + s.val) * 256 + k.val = s.val * 256 + k.val; omega))

/-- The blocks of a point's tokens cover an array. -/
theorem covered {C : ℕ} (j : Fin 16 → Fin 2 → ℕ) (hj : ∀ t, j t 0 = t.val ∧ j t 1 = 0) (i : Shape.Idx ⟨2, ![4096, C]⟩) :
    ∃ t, ∀ a : Fin 2, j t a * Shape.size ⟨2, ![256, C]⟩ a ≤ (i a).val ∧ (i a).val < j t a * Shape.size ⟨2, ![256, C]⟩ a + Shape.size ⟨2, ![256, C]⟩ a := by
  have h0 : (i 0).val < 4096 := (i 0).isLt
  have h1 : (i 1).val < C := (i 1).isLt
  refine ⟨⟨(i 0).val / 256, by omega⟩, Fin.forall_fin_two.2 ⟨?_, ?_⟩⟩
  · show j _ 0 * 256 ≤ (i 0).val ∧ (i 0).val < j _ 0 * 256 + 256
    rw [(hj _).1]; dsimp only; omega
  · show j _ 1 * C ≤ (i 1).val ∧ (i 1).val < j _ 1 * C + C
    rw [(hj _).2]; omega

/-- The first result is the gradient of the rows, -/
theorem final_dy (c : Dev nD) : (dats m 0 c).arrAt 4 cfg0.N = dy m c := by
  refine Pipeline.Dat.arrAt_eq_of_cover _ 4 _ (fun t _ => funext fun y => ?_)
    fun i => (covered (fun t => win0_4.index t) (fun t => (places t).2.2.2.2.1) i).imp fun t h => ⟨flush0_4 t, mem_block main_v0_0 _ _ _ i h⟩
  rw [Value.flushed4, (stores m c t).1]
  have e : y = ix2 (y 0) (y 1) := funext fun a => by fin_cases a <;> rfl
  refine ((congrArg _ e).trans (dy_point m c t (y 0) (y 1))).trans (show _ = dy m c ((win0_4.rect t).emb y) from congrArg (dy m c) ?_)
  obtain ⟨e0, e1⟩ := (places t).2.2.2.2.1
  funext d
  refine Fin.ext ?_
  match d with
  | ⟨0, _⟩ => show t.val * 256 + (y 0 : Nat) = win0_4.index t 0 * 256 + 1 * (y 0 : Nat); omega
  | ⟨1, _⟩ => show (y 1 : Nat) = win0_4.index t 1 * 1024 + 1 * (y 1 : Nat); omega

/-- the second its product with the weight, -/
theorem final_da (c : Dev nD) : (dats m 0 c).arrAt 5 cfg0.N = da m c := by
  refine Pipeline.Dat.arrAt_eq_of_cover _ 5 _ (fun t _ => funext fun y => ?_)
    fun i => (covered (fun t => win0_5.index t) (fun t => (places t).2.2.2.2.2.1) i).imp fun t h => ⟨flush0_5 t, mem_block main_v0_1 _ _ _ i h⟩
  rw [Value.flushed5, (stores m c t).2]
  have e : y = ix2 (y 0) (y 1) := funext fun a => by fin_cases a <;> rfl
  refine ((congrArg _ e).trans (da_point m c t (y 0) (y 1))).trans (show _ = da m c ((win0_5.rect t).emb y) from congrArg (da m c) ?_)
  obtain ⟨e0, e1⟩ := (places t).2.2.2.2.2.1
  funext d
  refine Fin.ext ?_
  match d with
  | ⟨0, _⟩ => show t.val * 256 + (y 0 : Nat) = win0_5.index t 0 * 256 + 1 * (y 0 : Nat); omega
  | ⟨1, _⟩ => show (y 1 : Nat) = win0_5.index t 1 * 1024 + 1 * (y 1 : Nat); omega

/-- and the third the sums over the tokens. -/
theorem final_sums (c : Dev nD) : (dats m 0 c).arrAt 6 cfg0.N = fun y => ∑ l : Fin 4096, token m c y l := by
  refine Pipeline.Dat.arrAt_eq_of_cover _ 6 _ (fun t hf => funext fun y => ?_)
    fun i => ⟨⟨15, by decide⟩, (flush0_6 _).mpr rfl, mem_block main_v0_2 _ _ _ i (Fin.forall_fin_two.2 ⟨?_, ?_⟩)⟩
  · rw [Value.flushed6]
    refine (sums_last m c t ((flush0_6 t).mp hf) y).trans ?_
    obtain ⟨e0, e1⟩ := (places t).2.2.2.2.2.2
    refine show _ = ∑ l : Fin 4096, token m c ((win0_6.rect t).emb y) l from congrArg (fun y => ∑ l : Fin 4096, token m c y l) (funext fun d => Fin.ext ?_)
    match d with
    | ⟨0, _⟩ => show (y 0 : Nat) = win0_6.index t 0 * 8 + 1 * (y 0 : Nat); omega
    | ⟨1, _⟩ => show (y 1 : Nat) = win0_6.index t 1 * 1024 + 1 * (y 1 : Nat); omega
  · obtain ⟨e0, -⟩ := (places ⟨15, by decide⟩).2.2.2.2.2.2
    have : (i 0).val < 8 := (i 0).isLt
    show win0_6.index _ 0 * 8 ≤ (i 0).val ∧ (i 0).val < win0_6.index _ 0 * 8 + 8
    omega
  · obtain ⟨-, e1⟩ := (places ⟨15, by decide⟩).2.2.2.2.2.2
    have : (i 1).val < 1024 := (i 1).isLt
    show win0_6.index _ 1 * 1024 ≤ (i 1).val ∧ (i 1).val < win0_6.index _ 1 * 1024 + 1024
    omega

end Cert.BackMixIdeal.Grad

namespace Cert.BackMixRefIdeal.Grad

open Idealize.ShloMosaic Idealize.ShloMosaic.TcCoe Idealize.SL.Sem Cert.BackMixRefIdeal Cert.BackMixRefIdeal.Gen Cert.Optimizer Cert.Blocks

/-- The product over the weight's columns. -/
theorem contract (d w) (a : Fin 4096) (b : Fin 1024) :
    Host.dotGeneral (F := Ideal) dot_S4096x1024_S1024x1024_S4096x1024_1_1_0_0_n_n none d w (ix2 a b) = ∑ k : Fin 1024, d (ix2 a k) * w (ix2 b k) := by
  simp only [pointwise, zero_add]

/-- Two rows over six of zeros. -/
theorem stacked (p q : S1x1024.Idx → EReal) (z : S6x1024.Idx → EReal) (hz : ∀ i, z i = 0) (y : S8x1024.Idx) :
    concatenate S8x1024 0 [⟨S1x1024, p⟩, ⟨S1x1024, q⟩, ⟨S6x1024, z⟩] concatenates_S1x1024_S1x1024_S6x1024_S8x1024_d0 y
      = if (y 0).val = 1 then q (ix2 0 (y 1)) else if (y 0).val = 0 then p (ix2 0 (y 1)) else 0 := by
  obtain ⟨r, b, rfl⟩ : ∃ (r : Fin 8) (b : Fin 1024), y = ix2 r b := ⟨y 0, y 1, funext fun d => by fin_cases d <;> rfl⟩
  have e : ((1 : Fin S1x1024.rank).val = (0 : Fin S8x1024.rank).val) = False := eq_false (by decide)
  simp only [pointwise, Matrix.cons_val_one, Matrix.cons_val_zero, Matrix.cons_val_fin_one, if_true, e, if_false]
  by_cases k0 : r.val < 1
  · rw [dif_pos k0]
    exact (congrArg (fun r => p (ix2 r b)) (Fin.ext (by show r.val = 0; omega))).trans ((if_neg (show ¬r.val = 1 by omega)).trans (if_pos (show r.val = 0 by omega))).symm
  rw [dif_neg k0]
  by_cases k1 : r.val - 1 < 1
  · rw [dif_pos k1]
    exact (congrArg (fun r => q (ix2 r b)) (Fin.ext (by show r.val - 1 = 0; omega))).trans (if_pos (show r.val = 1 by omega)).symm
  · rw [dif_neg k1]
    exact (hz _).trans ((if_neg (show ¬r.val = 1 by omega)).trans (if_neg (show ¬r.val = 0 by omega))).symm

/-- The reference's gradient of the rows. -/
theorem formula (m : (ℓ : Loc nD τ sig) → Buf (Elt Ideal) ℓ) (c : Dev nD) (dx rows : S4096x1024.Idx → EReal) (gain gate : S1x1024.Idx → EReal)
    (h0 : m ((c.tc : Thread nD τ).loc main_arg0) = dx) (h1 : m ((c.tc : Thread nD τ).loc main_arg1) = rows)
    (h2 : m ((c.tc : Thread nD τ).loc main_arg2) = gain) (h3 : m ((c.tc : Thread nD τ).loc main_arg3) = gate) (a : Fin 4096) (b : Fin 1024) :
    Value.res_main_v41 m c (ix2 a b) = Norm.through 0 (fun k => rows (ix2 a k)) (fun k => dx (ix2 a k) * gate (ix2 0 k) * gain (ix2 0 k)) b := by
  unfold Value.res_main_v41
  rw [h0, h1, h2, h3]
  simp only [pointwise, zero_add, Fin.sum_univ_one, mul_comm (gate _)]
  exact (Norm.norm_grad (fun k => rows (ix2 a k)) (fun k => dx (ix2 a k) * gate (ix2 0 k) * gain (ix2 0 k)) b).symm

end Cert.BackMixRefIdeal.Grad

namespace Cert.Proof

open Idealize.ShloMosaic Idealize.SL.Sem Cert.BackMixRefIdeal.Gen Cert.Optimizer Cert.Blocks

theorem frame_BackMixIdeal : Cert.quiescent_BackMixIdeal := fun m ρ _ => Cert.BackMixIdeal.Gen.frame m ρ

theorem frame_BackMix : Cert.quiescent_BackMix := fun m ρ _ => Cert.BackMix.Gen.frame m ρ

theorem frame_BackMixRefIdeal : Cert.quiescent_BackMixRefIdeal := fun m ρ _ =>
  (θ_run Cert.BackMixRefIdeal.defs _ _).mono (fun r h => ⟨fun c => (h c).2.2.2, sem_eq_zero_of_no_sems rfl r.2⟩) (Cert.BackMixRefIdeal.Value.run m ρ)

theorem preserves_BackMix : Cert.preserves_BackMix_BackMixIdeal := trivial

/-- The call leaves the reference's gradients. -/
theorem algebraic_BackMix : Cert.algebraic_BackMixIdeal_BackMixRefIdeal := fun m g m' g' _ hin => by
  refine ⟨_, _, _, ?_, Cert.BackMixRefIdeal.Value.run m' g'⟩
  refine (θ_run Cert.BackMixIdeal.defs _ _).mono (fun _ h c => ?_) (Cert.BackMixIdeal.Value.run_blocks m g)
  obtain ⟨a0, a1, a2, a3, a4⟩ := hin c
  refine ⟨(h c).1.trans ((Cert.BackMixIdeal.Grad.final_dy m c).trans ?_), (h c).2.1.trans ((Cert.BackMixIdeal.Grad.final_da m c).trans ?_),
    (h c).2.2.1.trans ((Cert.BackMixIdeal.Grad.final_sums m c).trans ?_), (h c).2.2.2⟩
  · funext i
    obtain ⟨a, b, rfl⟩ : ∃ (a : Fin 4096) (b : Fin 1024), i = ix2 a b := ⟨i 0, i 1, funext fun d => by fin_cases d <;> rfl⟩
    exact (Cert.BackMixRefIdeal.Grad.formula m' c _ _ _ _ a0 a1 a2 a3 a b).symm
  · funext i
    obtain ⟨a, b, rfl⟩ : ∃ (a : Fin 4096) (b : Fin 1024), i = ix2 a b := ⟨i 0, i 1, funext fun d => by fin_cases d <;> rfl⟩
    have e := fun k => (Cert.BackMixRefIdeal.Grad.formula m' c _ _ _ _ a0 a1 a2 a3 a k).symm
    refine (Finset.sum_congr rfl fun k _ => congrArg₂ (· * ·) (e k) (congrFun a4.symm (ix2 b k))).trans ?_
    unfold Cert.BackMixRefIdeal.Value.res_main_v44
    exact (Cert.BackMixRefIdeal.Grad.contract _ _ a b).symm
  · rw [a0, a1, a2, a3]
    funext i
    refine Eq.trans ?_ (Cert.BackMixRefIdeal.Grad.stacked _ _ _ ?_ i).symm
    · simp only [pointwise, zero_add, Cert.BackMixIdeal.Grad.token]
      by_cases k1 : (i 0).val = 1
      · simp only [if_pos k1]
        exact Finset.sum_congr rfl fun l _ => (mul_comm _ _).trans (congrArg (_ * ·) (mul_comm _ _))
      simp only [if_neg k1]
      by_cases k0 : (i 0).val = 0
      · simp only [if_pos k0]
        rfl
      · simp only [if_neg k0, Finset.sum_const_zero]
    · simp only [pointwise, implies_true]

end Cert.Proof
-- ==== Proof.BackFfnBody.lean ====
/-
# The points of the second gradient through a gated norm and a product

What a point of the call stores, as a function of its blocks, the weight and the sums so far.
-/
module

public import proofs.«01_k».proof.Proof.BackMixBody
public import proofs.«01_k».proof.Proof.Gen.BackFfnIdeal.Value

@[expose] public section

noncomputable section

namespace Cert.BackFfnIdeal.Body

open Idealize.ShloMosaic Idealize.ShloMosaic.TcCoe Idealize.SL.Sem Cert.BackFfnIdeal Cert.BackFfnIdeal.Gen Cert.Grad Cert.Optimizer Cert.Blocks

/-- A point's gradient of the rows, -/
abbrev dys (d x : Vec Ideal S256x1024 .f32) (g s : Vec Ideal S1x1024 .f32) : FVec Ideal S256x1024 .bf16 :=
  k0_pay2 (k0_pay5 x) (k0_pay6 x) (k0_pay8 d s) g

/-- and its product with the weight. -/
abbrev das (d x : Vec Ideal S256x1024 .f32) (g s : Vec Ideal S1x1024 .f32) (w : Vec Ideal S3072x1024 .bf16) : FVec Ideal S256x3072 .bf16 :=
  k0_pay3 (k0_pay5 x) (k0_pay6 x) (k0_pay8 d s) g w

theorem dys_apply (d x : Vec Ideal S256x1024 .f32) (g s : Vec Ideal S1x1024 .f32) (a : Fin 256) (b : Fin 1024) : dys d x g s (ix2 a b)
    = Norm.through 0 (fun k => x (ix2 a k)) (fun k => d (ix2 a k) * s (ix2 0 k) * g (ix2 0 k)) b :=
  BackMixIdeal.Body.dys_apply d x g s a b

theorem das_apply (d x : Vec Ideal S256x1024 .f32) (g s : Vec Ideal S1x1024 .f32) (w : Vec Ideal S3072x1024 .bf16) (a : Fin 256) (b : Fin 3072) :
    das d x g s w (ix2 a b) = ∑ k : Fin 1024, dys d x g s (ix2 a k) * w (ix2 b k) := by
  unfold das k0_pay3
  simp only [pointwise, zero_add]

theorem gate_apply (d x : Vec Ideal S256x1024 .f32) (z g : Vec Ideal S1x1024 .f32) (b : Fin 1024) : k0_pay7 x d z g (ix2 0 b)
    = z (ix2 0 b) + ∑ a : Fin 256, d (ix2 a b) * (x (ix2 a b) * (Norm.inv fun k => x (ix2 a k)) * g (ix2 0 b)) :=
  BackMixIdeal.Body.gate_apply d x z g b

theorem gain_apply (d x : Vec Ideal S256x1024 .f32) (z s : Vec Ideal S1x1024 .f32) (b : Fin 1024) : k0_pay1 (k0_pay9 z) (k0_pay10 x d s) (ix2 0 b)
    = z (ix2 0 b) + ∑ a : Fin 256, d (ix2 a b) * s (ix2 0 b) * (x (ix2 a b) * Norm.inv fun k => x (ix2 a k)) :=
  BackMixIdeal.Body.gain_apply d x z s b

open Cert.BackMixIdeal.Body (adds written none)

section cases

variable {c : Dev nD} {i : grid0.Coords} {a1 a2 : Memref sig .tc .vmem S256x1024 .f32} {h1 : a1.IsWhole} {h2 : a2.IsWhole}
  {a3 a4 : Memref sig .tc .vmem S1x1024 .f32} {h3 : a3.IsWhole} {h4 : a4.IsWhole} {a6 : Memref sig .tc .vmem S256x1024 .bf16} {h6 : a6.IsWhole}
  {a7 : Memref sig .tc .vmem S256x3072 .bf16} {h7 : a7.IsWhole} {a8 : Memref sig .tc .vmem S8x1024 .f32} {h8 : a8.IsWhole}
  {a9 : Memref sig .tc .vmem S3072x1024 .bf16} {h9 : a9.IsWhole} {d x : Vec Ideal S256x1024 .f32} {g s : Vec Ideal S1x1024 .f32}
  {l : Vec Ideal S8x1024 .f32} {w : Vec Ideal S3072x1024 .bf16}

/-- What the weight's transfer brought is the weight. -/
theorem brought (w : Vec Ideal S3072x1024 .bf16) (inb) :
    a9.view.readCov [⟨Rect.whole S3072x1024, ReadAs.same.apply (View.read (Elt Ideal) (Memref.whole main_arg4).view w)⟩]
      (Rect.unit ![0, 0] S3072x1024.size inb).toLoadRect = w :=
  (View.readCov_eq_canon' _ _ _).trans (funext fun j => (congrFun (View.canon_unit_zero (S := S3072x1024) rfl _ _) _).trans
    (congrFun (View.ld_unit_zero (S := S3072x1024) zero2 inb w) j))

/-- The weight is kept, -/
theorem weight_A {hc0 hc1} : sout0_A_0 (F := Ideal) c i a1 h1 a2 h2 a3 h3 a4 h4 a6 h6 a7 h7 a8 h8 a9 h9 hc0 hc1 d x g s w = w := by
  unfold sout0_A_0
  rw [View.read_writes_eq_canon _ _ _ (scover0_A_0 c i a1 h1 a2 h2 a3 h3 a4 h4 a6 h6 a7 h7 a8 h8 a9 h9 hc0 hc1 d x g s w)]
  unfold kernelRun0_A
  dsimp only
  sl_unfold_words
  exact View.canon_unit_zero (S := S3072x1024) rfl _ _

/-- a point stores its gradient of the rows, -/
theorem dys_A {hc0 hc1} : out0_A_4 (F := Ideal) c i a1 h1 a2 h2 a3 h3 a4 h4 a6 h6 a7 h7 a8 h8 a9 h9 hc0 hc1 d x g s w = dys d x g s := by
  unfold out0_A_4
  rw [View.read_writes_eq_canon _ _ _ (cover0_A_4 c i a1 h1 a2 h2 a3 h3 a4 h4 a6 h6 a7 h7 a8 h8 a9 h9 hc0 hc1 d x g s w)]
  unfold kernelRun0_A
  dsimp only
  sl_unfold_words
  rw [View.canon_unit_zero zero2]
  simp only [View.readAt_eq_ld, h1.read_unread, h2.read_unread, h3.read_unread, h4.read_unread,
    View.ld_unit_zero (S := S256x1024) zero2, View.ld_unit_zero (S := S1x1024) zero2]

/-- its product with the weight, -/
theorem das_A {hc0 hc1} : out0_A_5 (F := Ideal) c i a1 h1 a2 h2 a3 h3 a4 h4 a6 h6 a7 h7 a8 h8 a9 h9 hc0 hc1 d x g s w = das d x g s w := by
  unfold out0_A_5
  rw [View.read_writes_eq_canon _ _ _ (cover0_A_5 c i a1 h1 a2 h2 a3 h3 a4 h4 a6 h6 a7 h7 a8 h8 a9 h9 hc0 hc1 d x g s w)]
  unfold kernelRun0_A
  dsimp only
  sl_unfold_words
  rw [View.canon_unit_zero zero2]
  rw [brought]
  simp only [View.readAt_eq_ld, h1.read_unread, h2.read_unread, h3.read_unread, h4.read_unread,
    View.ld_unit_zero (S := S256x1024) zero2, View.ld_unit_zero (S := S1x1024) zero2]

/-- and the sums so far. -/
theorem sums_A {hc0 hc1} : out0_A_6 (F := Ideal) c i a1 h1 a2 h2 a3 h3 a4 h4 a6 h6 a7 h7 a8 h8 a9 h9 hc0 hc1 d x g s w = fun y => 0 + adds d x g s y := by
  unfold out0_A_6 kernelRun0_A
  dsimp only
  sl_unfold_words
  simp only [View.readAt_eq_ld, h1.read_unread, h2.read_unread, h3.read_unread, h4.read_unread,
    View.ld_unit_zero (S := S256x1024) zero2, View.ld_unit_zero (S := S1x1024) zero2]
  refine written _ _ _ _ _ _ _ (fun _ => 0) (adds d x g s) (fun b => (gain_apply d x _ s b).trans (congrArg (· + _) ?_))
    (fun b => (gate_apply d x _ g b).trans (congrArg (· + _) (none a8.view _ _ _)))
    fun y k1 k0 => (none _ _ _ y).trans (by simp only [adds, if_neg k1, if_neg k0, add_zero])
  exact (View.read_writes_cons_rows_of_not_mem (W := 1) a8.view _ _ _ _ _ rfl rfl (Or.inr (by show 0 + 1 ≤ 1 + 1 * 0; omega))).trans (none a8.view _ _ _)

theorem dys_B {hc0 hc1 f} : out0_B_4 (F := Ideal) c i a1 h1 a2 h2 a3 h3 a4 h4 a6 h6 a7 h7 a8 h8 a9 h9 hc0 hc1 d x g s l w f = dys d x g s := by
  unfold out0_B_4
  rw [View.read_writes_eq_canon _ _ _ (cover0_B_4 c i a1 h1 a2 h2 a3 h3 a4 h4 a6 h6 a7 h7 a8 h8 a9 h9 hc0 hc1 d x g s l w f)]
  unfold kernelRun0_B
  dsimp only
  sl_unfold_words
  rw [View.canon_unit_zero zero2]
  simp only [View.readAt_eq_ld, h1.read_unread, h2.read_unread, h3.read_unread, h4.read_unread,
    View.ld_unit_zero (S := S256x1024) zero2, View.ld_unit_zero (S := S1x1024) zero2]

theorem das_B {hc0 hc1 f} : out0_B_5 (F := Ideal) c i a1 h1 a2 h2 a3 h3 a4 h4 a6 h6 a7 h7 a8 h8 a9 h9 hc0 hc1 d x g s l w f = das d x g s w := by
  unfold out0_B_5
  rw [View.read_writes_eq_canon _ _ _ (cover0_B_5 c i a1 h1 a2 h2 a3 h3 a4 h4 a6 h6 a7 h7 a8 h8 a9 h9 hc0 hc1 d x g s l w f)]
  unfold kernelRun0_B
  dsimp only
  sl_unfold_words
  rw [View.canon_unit_zero zero2]
  simp only [View.readAt_eq_ld, h1.read_unread, h2.read_unread, h3.read_unread, h4.read_unread, h9.read_unread,
    View.ld_unit_zero (S := S256x1024) zero2, View.ld_unit_zero (S := S1x1024) zero2, View.ld_unit_zero (S := S3072x1024) zero2]

theorem sums_B {hc0 hc1 f} : out0_B_6 (F := Ideal) c i a1 h1 a2 h2 a3 h3 a4 h4 a6 h6 a7 h7 a8 h8 a9 h9 hc0 hc1 d x g s l w f = fun y => l y + adds d x g s y := by
  unfold out0_B_6 kernelRun0_B
  dsimp only
  sl_unfold_words
  simp only [View.readAt_eq_ld, h1.read_unread, h2.read_unread, h3.read_unread, h4.read_unread, h8.read_unread,
    View.ld_unit_zero (S := S256x1024) zero2, View.ld_unit_zero (S := S1x1024) zero2]
  have e : ∀ (r : Fin 8) (b : Fin 1024) (inb), View.ld l (Rect.unit ![r.val, 0] ![1, 1024] inb) (ix2 0 b) = l (ix2 r b) := fun r b inb =>
    congrArg l (funext fun a => Fin.ext (match a with
      | ⟨0, _⟩ => (by show r.val + 1 * 0 = r.val; omega)
      | ⟨1, _⟩ => (by show 0 + 1 * b.val = b.val; omega)))
  exact written _ _ _ _ _ _ _ l (adds d x g s) (fun b => (gain_apply d x _ s b).trans (congrArg (· + _) (e 1 b _)))
    (fun b => (gate_apply d x _ g b).trans (congrArg (· + _) (e 0 b _)))
    fun y k1 k0 => (congrFun (h8.read_unread l) y).trans (by simp only [adds, if_neg k1, if_neg k0, add_zero])

theorem weight_B {hc0 hc1 f} : sout0_B_0 (F := Ideal) c i a1 h1 a2 h2 a3 h3 a4 h4 a6 h6 a7 h7 a8 h8 a9 h9 hc0 hc1 d x g s l w f = w := rfl

end cases

end Cert.BackFfnIdeal.Body
-- ==== Proof.BackFfnClaims.lean ====
/-
# The second gradient through a gated norm and a product
-/
module

public import proofs.«01_k».proof.Defs
public import proofs.«01_k».proof.Proof.BackFfnBody
public import proofs.«01_k».proof.Proof.BackMixClaims
public import proofs.«01_k».proof.Proof.Gen.BackFfn.Frame
public import proofs.«01_k».proof.Proof.Gen.BackFfnRefIdeal.Run
public import Idealize.ShloMosaic.Lib.Quiescent

@[expose] public section

noncomputable section

namespace Cert.BackFfnIdeal.Grad

open Idealize.ShloMosaic Idealize.ShloMosaic.TcCoe Idealize.SL.Sem Cert.BackFfnIdeal Cert.BackFfnIdeal.Gen Cert.BackFfnIdeal.Body Cert.Optimizer Cert.Blocks

open Cert.BackMixIdeal.Body (adds)
open Cert.BackMixIdeal.Grad (covered)

variable (m : (ℓ : Loc nD τ sig) → Buf (Elt Ideal) ℓ)

/-- The operands. -/
abbrev dx (c : Dev nD) : S4096x1024.Idx → EReal := m ((c : Thread nD τ).loc main_arg0)
abbrev rows (c : Dev nD) : S4096x1024.Idx → EReal := m ((c : Thread nD τ).loc main_arg1)
abbrev gain (c : Dev nD) : S1x1024.Idx → EReal := m ((c : Thread nD τ).loc main_arg2)
abbrev gate (c : Dev nD) : S1x1024.Idx → EReal := m ((c : Thread nD τ).loc main_arg3)
abbrev weight (c : Dev nD) : S3072x1024.Idx → EReal := m ((c : Thread nD τ).loc main_arg4)

/-- The gradient of the rows, -/
abbrev dy (c : Dev nD) : S4096x1024.Idx → EReal := fun i => Norm.through 0 (fun k => rows m c (ix2 (i 0) k))
  (fun k => dx m c (ix2 (i 0) k) * gate m c (ix2 0 k) * gain m c (ix2 0 k)) (i 1)

/-- its product with the weight, -/
abbrev da (c : Dev nD) : S4096x3072.Idx → EReal := fun i => ∑ k : Fin 1024, dy m c (ix2 (i 0) k) * weight m c (ix2 (i 1) k)

/-- and one token's part of the gradients of the gate and of the gain. -/
abbrev token (c : Dev nD) (y : S8x1024.Idx) (l : Fin 4096) : EReal :=
  if (y 0).val = 1 then dx m c (ix2 l (y 1)) * gate m c (ix2 0 (y 1)) * (rows m c (ix2 l (y 1)) * Norm.inv fun k => rows m c (ix2 l k))
  else if (y 0).val = 0 then dx m c (ix2 l (y 1)) * (rows m c (ix2 l (y 1)) * (Norm.inv fun k => rows m c (ix2 l k)) * gain m c (ix2 0 (y 1)))
  else 0

/-- Token `k` of a point. -/
abbrev row (t : Fin cfg0.N) (k : Fin 256) : Fin 4096 := ⟨t.val * 256 + k.val, by have := k.isLt; have : t.val < 16 := t.isLt; omega⟩

theorem places (t : Fin grid0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by
  revert t
  decide +kernel

/-- What a point's blocks hold. -/
theorem dx_block (c : Dev nD) (t : Fin cfg0.N) (a : Fin 256) (k : Fin 1024) : iblk m c 0 t (ix2 a k) = dx m c (ix2 (row t a) k) := by
  obtain ⟨⟨e0, e1⟩, -⟩ := places t
  refine congrArg (dx m c) (funext fun d => Fin.ext ?_)
  match d with
  | ⟨0, _⟩ => show win0_0.index t 0 * 256 + 1 * (a : Nat) = t.val * 256 + a; omega
  | ⟨1, _⟩ => show win0_0.index t 1 * 1024 + 1 * (k : Nat) = k; omega

theorem rows_block (c : Dev nD) (t : Fin cfg0.N) (a : Fin 256) (k : Fin 1024) : iblk m c 1 t (ix2 a k) = rows m c (ix2 (row t a) k) := by
  obtain ⟨-, ⟨e0, e1⟩, -⟩ := places t
  refine congrArg (rows m c) (funext fun d => Fin.ext ?_)
  match d with
  | ⟨0, _⟩ => show win0_1.index t 0 * 256 + 1 * (a : Nat) = t.val * 256 + a; omega
  | ⟨1, _⟩ => show win0_1.index t 1 * 1024 + 1 * (k : Nat) = k; omega

theorem gain_block (c : Dev nD) (t : Fin cfg0.N) (k : Fin 1024) : iblk m c 2 t (ix2 0 k) = gain m c (ix2 0 k) := by
  obtain ⟨-, -, ⟨e0, e1⟩, -⟩ := places t
  refine congrArg (gain m c) (funext fun d => Fin.ext ?_)
  match d with
  | ⟨0, _⟩ => show win0_2.index t 0 * 1 + 1 * 0 = 0; omega
  | ⟨1, _⟩ => show win0_2.index t 1 * 1024 + 1 * (k : Nat) = k; omega

theorem gate_block (c : Dev nD) (t : Fin cfg0.N) (k : Fin 1024) : iblk m c 3 t (ix2 0 k) = gate m c (ix2 0 k) := by
  obtain ⟨-, -, -, ⟨e0, e1⟩, -⟩ := places t
  refine congrArg (gate m c) (funext fun d => Fin.ext ?_)
  match d with
  | ⟨0, _⟩ => show win0_3.index t 0 * 1 + 1 * 0 = 0; omega
  | ⟨1, _⟩ => show win0_3.index t 1 * 1024 + 1 * (k : Nat) = k; omega

/-- A point's gradients are those of its tokens. -/
theorem dy_point (c : Dev nD) (t : Fin cfg0.N) (a : Fin 256) (b : Fin 1024) :
    dys (iblk m c 0 t) (iblk m c 1 t) (iblk m c 2 t) (iblk m c 3 t) (ix2 a b) = dy m c (ix2 (row t a) b) :=
  (dys_apply _ _ _ _ _ _).trans (congrArg₂ (fun p q => Norm.through 0 p q b) (funext fun k => rows_block m c t a k)
    (funext fun k => congrArg₂ (· * ·) (congrArg₂ (· * ·) (dx_block m c t a k) (gate_block m c t k)) (gain_block m c t k)))

theorem da_point (c : Dev nD) (t : Fin cfg0.N) (a : Fin 256) (b : Fin 3072) :
    das (iblk m c 0 t) (iblk m c 1 t) (iblk m c 2 t) (iblk m c 3 t) (weight m c) (ix2 a b) = da m c (ix2 (row t a) b) :=
  (das_apply _ _ _ _ _ _ _).trans (Finset.sum_congr rfl fun k _ => congrArg (· * _) (dy_point m c t a k))

theorem sums_point (c : Dev nD) (t : Fin cfg0.N) (y : S8x1024.Idx) :
    adds (iblk m c 0 t) (iblk m c 1 t) (iblk m c 2 t) (iblk m c 3 t) y = ∑ a : Fin 256, token m c y (row t a) := by
  have e : ∀ a, (fun k => iblk m c 1 t (ix2 a k)) = fun k => rows m c (ix2 (row t a) k) := fun a => funext fun k => rows_block m c t a k
  unfold adds token
  split
  · exact Finset.sum_congr rfl fun a _ => congrArg₂ (· * ·) (congrArg₂ (· * ·) (dx_block m c t a _) (gate_block m c t _))
      (congrArg₂ (· * ·) (rows_block m c t a _) (congrArg Norm.inv (e a)))
  split
  · exact Finset.sum_congr rfl fun a _ => congrArg₂ (· * ·) (dx_block m c t a _)
      (congrArg₂ (· * ·) (congrArg₂ (· * ·) (rows_block m c t a _) (congrArg Norm.inv (e a))) (gain_block m c t _))
  · exact Finset.sum_const_zero.symm

/-- What a point leaves: at the first point, -/
theorem first (c : Dev nD) (t : Fin cfg0.N) (h : t.val % 16 = 0) : outsAt0 m c t.val t.isLt
    = (dys (iblk m c 0 t) (iblk m c 1 t) (iblk m c 2 t) (iblk m c 3 t), das (iblk m c 0 t) (iblk m c 1 t) (iblk m c 2 t) (iblk m c 3 t) (weight m c),
      (fun y => 0 + adds (iblk m c 0 t) (iblk m c 1 t) (iblk m c 2 t) (iblk m c 3 t) y), weight m c) := by
  rw [outsAt0_A m c t h h, dys_A, das_A, sums_A, weight_A]

/-- and after another. -/
theorem next (c : Dev nD) (t : Fin cfg0.N) (h : ¬t.val % 16 = 0) (o) (ho : outsAt0 m c (t.val - 1) (Nat.lt_of_le_of_lt (Nat.sub_le _ _) t.isLt) = o) : outsAt0 m c t.val t.isLt
    = (dys (iblk m c 0 t) (iblk m c 1 t) (iblk m c 2 t) (iblk m c 3 t), das (iblk m c 0 t) (iblk m c 1 t) (iblk m c 2 t) (iblk m c 3 t) o.2.2.2,
      (fun y => o.2.2.1 y + adds (iblk m c 0 t) (iblk m c 1 t) (iblk m c 2 t) (iblk m c 3 t) y), o.2.2.2) := by
  rw [outsAt0_B m c t h h, dys_B, das_B, sums_B, weight_B, ho]

/-- The weight is at hand at every point. -/
theorem held (c : Dev nD) (n : Nat) : ∀ hn : n < cfg0.N, (outsAt0 m c n hn).2.2.2 = weight m c := by
  induction n with
  | zero => exact fun hn => by rw [first m c ⟨0, hn⟩ rfl]
  | succ n ih =>
    intro hn
    have : n + 1 < 16 := hn
    exact (congrArg (·.2.2.2) (next m c ⟨n + 1, hn⟩ (by show ¬(n + 1) % 16 = 0; omega) _ rfl)).trans (ih _)

/-- What a point stores. -/
theorem stores (c : Dev nD) (t : Fin cfg0.N) : (outsAt0 m c t.val t.isLt).1 = dys (iblk m c 0 t) (iblk m c 1 t) (iblk m c 2 t) (iblk m c 3 t)
    ∧ (outsAt0 m c t.val t.isLt).2.1 = das (iblk m c 0 t) (iblk m c 1 t) (iblk m c 2 t) (iblk m c 3 t) (weight m c) := by
  by_cases h : t.val % 16 = 0
  · rw [first m c t h]
    exact ⟨rfl, rfl⟩
  · rw [next m c t h _ rfl, held m c]
    exact ⟨rfl, rfl⟩

/-- After the last point the whole sums are there. -/
theorem sums_last (c : Dev nD) (t : Fin cfg0.N) (h : t.val % 16 = 15) (y : S8x1024.Idx) :
    (outsAt0 m c t.val t.isLt).2.2.1 y = ∑ l : Fin 4096, token m c y l := by
  refine (Pipeline.eq_sum_fin_of_reset_step_apply_of_flush (fun n h => (outsAt0 m c n h).2.2.1) 16 (fun _ => 0) (fun t y => ∑ a : Fin 256, token m c y (row t a))
    (fun t h y => (congrFun (congrArg (·.2.2.1) (first m c t h)) y).trans (congrArg (0 + ·) (sums_point m c t y)))
    (fun t h y => (congrFun (congrArg (·.2.2.1) (next m c t h _ rfl)) y).trans (congrArg (_ + ·) (sums_point m c t y))) t h y).trans ?_
  have ht : t.val < 16 := t.isLt
  rw [zero_add]
  refine Fin.sum_mul_add_congr fun s k hl => ?_
  exact congrArg (token m c y) (Fin.ext (by show (16 * (t.val / 16) + s.val) * 256 + k.val = s.val * 256 + k.val; omega))

/-- The first result is the gradient of the rows, -/
theorem final_dy (c : Dev nD) : (dats m 0 c).arrAt 4 cfg0.N = dy m c := by
  refine Pipeline.Dat.arrAt_eq_of_cover _ 4 _ (fun t _ => funext fun y => ?_)
    fun i => (covered (fun t => win0_4.index t) (fun t => (places t).2.2.2.2.1) i).imp fun t h => ⟨flush0_4 t, mem_block main_v0_0 _ _ _ i h⟩
  rw [Value.flushed4, (stores m c t).1]
  have e : y = ix2 (y 0) (y 1) := funext fun a => by fin_cases a <;> rfl
  refine ((congrArg _ e).trans (dy_point m c t (y 0) (y 1))).trans (show _ = dy m c ((win0_4.rect t).emb y) from congrArg (dy m c) ?_)
  obtain ⟨e0, e1⟩ := (places t).2.2.2.2.1
  funext d
  refine Fin.ext ?_
  match d with
  | ⟨0, _⟩ => show t.val * 256 + (y 0 : Nat) = win0_4.index t 0 * 256 + 1 * (y 0 : Nat); omega
  | ⟨1, _⟩ => show (y 1 : Nat) = win0_4.index t 1 * 1024 + 1 * (y 1 : Nat); omega

/-- the second its product with the weight, -/
theorem final_da (c : Dev nD) : (dats m 0 c).arrAt 5 cfg0.N = da m c := by
  refine Pipeline.Dat.arrAt_eq_of_cover _ 5 _ (fun t _ => funext fun y => ?_)
    fun i => (covered (fun t => win0_5.index t) (fun t => (places t).2.2.2.2.2.1) i).imp fun t h => ⟨flush0_5 t, mem_block main_v0_1 _ _ _ i h⟩
  rw [Value.flushed5, (stores m c t).2]
  have e : y = ix2 (y 0) (y 1) := funext fun a => by fin_cases a <;> rfl
  refine ((congrArg _ e).trans (da_point m c t (y 0) (y 1))).trans (show _ = da m c ((win0_5.rect t).emb y) from congrArg (da m c) ?_)
  obtain ⟨e0, e1⟩ := (places t).2.2.2.2.2.1
  funext d
  refine Fin.ext ?_
  match d with
  | ⟨0, _⟩ => show t.val * 256 + (y 0 : Nat) = win0_5.index t 0 * 256 + 1 * (y 0 : Nat); omega
  | ⟨1, _⟩ => show (y 1 : Nat) = win0_5.index t 1 * 3072 + 1 * (y 1 : Nat); omega

/-- and the third the sums over the tokens. -/
theorem final_sums (c : Dev nD) : (dats m 0 c).arrAt 6 cfg0.N = fun y => ∑ l : Fin 4096, token m c y l := by
  refine Pipeline.Dat.arrAt_eq_of_cover _ 6 _ (fun t hf => funext fun y => ?_)
    fun i => ⟨⟨15, by decide⟩, (flush0_6 _).mpr rfl, mem_block main_v0_2 _ _ _ i (Fin.forall_fin_two.2 ⟨?_, ?_⟩)⟩
  · rw [Value.flushed6]
    refine (sums_last m c t ((flush0_6 t).mp hf) y).trans ?_
    obtain ⟨e0, e1⟩ := (places t).2.2.2.2.2.2
    refine show _ = ∑ l : Fin 4096, token m c ((win0_6.rect t).emb y) l from congrArg (fun y => ∑ l : Fin 4096, token m c y l) (funext fun d => Fin.ext ?_)
    match d with
    | ⟨0, _⟩ => show (y 0 : Nat) = win0_6.index t 0 * 8 + 1 * (y 0 : Nat); omega
    | ⟨1, _⟩ => show (y 1 : Nat) = win0_6.index t 1 * 1024 + 1 * (y 1 : Nat); omega
  · obtain ⟨e0, -⟩ := (places ⟨15, by decide⟩).2.2.2.2.2.2
    have : (i 0).val < 8 := (i 0).isLt
    show win0_6.index _ 0 * 8 ≤ (i 0).val ∧ (i 0).val < win0_6.index _ 0 * 8 + 8
    omega
  · obtain ⟨-, e1⟩ := (places ⟨15, by decide⟩).2.2.2.2.2.2
    have : (i 1).val < 1024 := (i 1).isLt
    show win0_6.index _ 1 * 1024 ≤ (i 1).val ∧ (i 1).val < win0_6.index _ 1 * 1024 + 1024
    omega

end Cert.BackFfnIdeal.Grad

namespace Cert.BackFfnRefIdeal.Grad

open Idealize.ShloMosaic Idealize.ShloMosaic.TcCoe Idealize.SL.Sem Cert.BackFfnRefIdeal Cert.BackFfnRefIdeal.Gen Cert.Optimizer Cert.Blocks

/-- The product over the weight's columns. -/
theorem contract (d w) (a : Fin 4096) (b : Fin 3072) :
    Host.dotGeneral (F := Ideal) dot_S4096x1024_S3072x1024_S4096x3072_1_1_0_0_n_n none d w (ix2 a b) = ∑ k : Fin 1024, d (ix2 a k) * w (ix2 b k) := by
  simp only [pointwise, zero_add]

/-- The reference's gradient of the rows. -/
theorem formula (m : (ℓ : Loc nD τ sig) → Buf (Elt Ideal) ℓ) (c : Dev nD) (dx rows : S4096x1024.Idx → EReal) (gain gate : S1x1024.Idx → EReal)
    (h0 : m ((c.tc : Thread nD τ).loc main_arg0) = dx) (h1 : m ((c.tc : Thread nD τ).loc main_arg1) = rows)
    (h2 : m ((c.tc : Thread nD τ).loc main_arg2) = gain) (h3 : m ((c.tc : Thread nD τ).loc main_arg3) = gate) (a : Fin 4096) (b : Fin 1024) :
    Value.res_main_v41 m c (ix2 a b) = Norm.through 0 (fun k => rows (ix2 a k)) (fun k => dx (ix2 a k) * gate (ix2 0 k) * gain (ix2 0 k)) b := by
  unfold Value.res_main_v41
  rw [h0, h1, h2, h3]
  simp only [pointwise, zero_add, Fin.sum_univ_one, mul_comm (gate _)]
  exact (Norm.norm_grad (fun k => rows (ix2 a k)) (fun k => dx (ix2 a k) * gate (ix2 0 k) * gain (ix2 0 k)) b).symm

end Cert.BackFfnRefIdeal.Grad

namespace Cert.Proof

open Idealize.ShloMosaic Idealize.SL.Sem Cert.BackFfnRefIdeal.Gen Cert.Optimizer Cert.Blocks

theorem frame_BackFfnIdeal : Cert.quiescent_BackFfnIdeal := fun m ρ _ => Cert.BackFfnIdeal.Gen.frame m ρ

theorem frame_BackFfn : Cert.quiescent_BackFfn := fun m ρ _ => Cert.BackFfn.Gen.frame m ρ

theorem frame_BackFfnRefIdeal : Cert.quiescent_BackFfnRefIdeal := fun m ρ _ =>
  (θ_run Cert.BackFfnRefIdeal.defs _ _).mono (fun r h => ⟨fun c => (h c).2.2.2, sem_eq_zero_of_no_sems rfl r.2⟩) (Cert.BackFfnRefIdeal.Value.run m ρ)

theorem preserves_BackFfn : Cert.preserves_BackFfn_BackFfnIdeal := trivial

/-- The call leaves the reference's gradients. -/
theorem algebraic_BackFfn : Cert.algebraic_BackFfnIdeal_BackFfnRefIdeal := fun m g m' g' _ hin => by
  refine ⟨_, _, _, ?_, Cert.BackFfnRefIdeal.Value.run m' g'⟩
  refine (θ_run Cert.BackFfnIdeal.defs _ _).mono (fun _ h c => ?_) (Cert.BackFfnIdeal.Value.run_blocks m g)
  obtain ⟨a0, a1, a2, a3, a4⟩ := hin c
  refine ⟨(h c).1.trans ((Cert.BackFfnIdeal.Grad.final_dy m c).trans ?_), (h c).2.1.trans ((Cert.BackFfnIdeal.Grad.final_da m c).trans ?_),
    (h c).2.2.1.trans ((Cert.BackFfnIdeal.Grad.final_sums m c).trans ?_), (h c).2.2.2⟩
  · funext i
    obtain ⟨a, b, rfl⟩ : ∃ (a : Fin 4096) (b : Fin 1024), i = ix2 a b := ⟨i 0, i 1, funext fun d => by fin_cases d <;> rfl⟩
    exact (Cert.BackFfnRefIdeal.Grad.formula m' c _ _ _ _ a0 a1 a2 a3 a b).symm
  · funext i
    obtain ⟨a, b, rfl⟩ : ∃ (a : Fin 4096) (b : Fin 3072), i = ix2 a b := ⟨i 0, i 1, funext fun d => by fin_cases d <;> rfl⟩
    have e := fun k => (Cert.BackFfnRefIdeal.Grad.formula m' c _ _ _ _ a0 a1 a2 a3 a k).symm
    refine (Finset.sum_congr rfl fun k _ => congrArg₂ (· * ·) (e k) (congrFun a4.symm (ix2 b k))).trans ?_
    unfold Cert.BackFfnRefIdeal.Value.res_main_v45
    exact (Cert.BackFfnRefIdeal.Grad.contract _ _ a b).symm
  · rw [a0, a1, a2, a3]
    funext i
    refine Eq.trans ?_ (Cert.BackMixRefIdeal.Grad.stacked _ _ _ ?_ i).symm
    · simp only [pointwise, zero_add, Cert.BackFfnIdeal.Grad.token]
      by_cases k1 : (i 0).val = 1
      · simp only [if_pos k1]
        exact Finset.sum_congr rfl fun l _ => (mul_comm _ _).trans (congrArg (_ * ·) (mul_comm _ _))
      simp only [if_neg k1]
      by_cases k0 : (i 0).val = 0
      · simp only [if_pos k0]
        rfl
      · simp only [if_neg k0, Finset.sum_const_zero]
    · simp only [pointwise, implies_true]

end Cert.Proof
-- ==== Proof.lean ====
/- The claims. -/
module

public import proofs.«01_k».proof.Proof.PairClaims
public import proofs.«01_k».proof.Proof.GatherClaims
public import proofs.«01_k».proof.Proof.ChipsClaims
public import proofs.«01_k».proof.Proof.SumInClaims
public import proofs.«01_k».proof.Proof.SumOutClaims
public import proofs.«01_k».proof.Proof.SumUpClaims
public import proofs.«01_k».proof.Proof.SumDownClaims
public import proofs.«01_k».proof.Proof.AdamInClaims
public import proofs.«01_k».proof.Proof.AdamOutClaims
public import proofs.«01_k».proof.Proof.AdamUpClaims
public import proofs.«01_k».proof.Proof.AdamDownClaims
public import proofs.«01_k».proof.Proof.AdamSmallClaims
public import proofs.«01_k».proof.Proof.AdamAdaClaims
public import proofs.«01_k».proof.Proof.GradInClaims
public import proofs.«01_k».proof.Proof.GradOutClaims
public import proofs.«01_k».proof.Proof.GradUpClaims
public import proofs.«01_k».proof.Proof.GradDownClaims
public import proofs.«01_k».proof.Proof.LossClaims
public import proofs.«01_k».proof.Proof.GradXClaims
public import proofs.«01_k».proof.Proof.BackMixClaims
public import proofs.«01_k».proof.Proof.BackFfnClaims

@[expose] public section

noncomputable section

namespace Cert.Proof

theorem claim : Cert.Claim := ⟨Cert.Pair.Gen.facts, Cert.PairIdeal.Gen.facts, Cert.PairRefIdeal.Gen.facts, Cert.PairRef.Gen.facts,
  Cert.Gather.Gen.facts, Cert.GatherIdeal.Gen.facts, Cert.GatherRefIdeal.Gen.facts, Cert.GatherRef.Gen.facts,
  Cert.Chips.Gen.facts, Cert.ChipsIdeal.Gen.facts, Cert.ChipsRefIdeal.Gen.facts, Cert.ChipsRef.Gen.facts,
  Cert.SumIn.Gen.facts, Cert.SumInIdeal.Gen.facts, Cert.SumInRefIdeal.Gen.facts,
  Cert.SumOut.Gen.facts, Cert.SumOutIdeal.Gen.facts, Cert.SumOutRefIdeal.Gen.facts,
  Cert.SumUp.Gen.facts, Cert.SumUpIdeal.Gen.facts, Cert.SumUpRefIdeal.Gen.facts,
  Cert.SumDown.Gen.facts, Cert.SumDownIdeal.Gen.facts, Cert.SumDownRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.AdamAda.Gen.facts, Cert.AdamAdaIdeal.Gen.facts, Cert.AdamAdaRefIdeal.Gen.facts,
  Cert.GradIn.Gen.facts, Cert.GradInIdeal.Gen.facts, Cert.GradInRefIdeal.Gen.facts,
  Cert.GradOut.Gen.facts, Cert.GradOutIdeal.Gen.facts, Cert.GradOutRefIdeal.Gen.facts,
  Cert.GradUp.Gen.facts, Cert.GradUpIdeal.Gen.facts, Cert.GradUpRefIdeal.Gen.facts,
  Cert.GradDown.Gen.facts, Cert.GradDownIdeal.Gen.facts, Cert.GradDownRefIdeal.Gen.facts,
  Cert.Loss.Gen.facts, Cert.LossIdeal.Gen.facts, Cert.LossRefIdeal.Gen.facts,
  Cert.GradX.Gen.facts, Cert.GradXIdeal.Gen.facts, Cert.GradXRefIdeal.Gen.facts,
  Cert.BackMix.Gen.facts, Cert.BackMixIdeal.Gen.facts, Cert.BackMixRefIdeal.Gen.facts,
  Cert.BackFfn.Gen.facts, Cert.BackFfnIdeal.Gen.facts, Cert.BackFfnRefIdeal.Gen.facts,
  frame_Pair, frame_PairIdeal, frame_PairRefIdeal, frame_PairRef,
  frame_Gather, frame_GatherIdeal, frame_GatherRefIdeal, frame_GatherRef,
  frame_Chips, frame_ChipsIdeal, frame_ChipsRefIdeal, frame_ChipsRef,
  frame_SumIn, frame_SumInIdeal, frame_SumInRefIdeal,
  frame_SumOut, frame_SumOutIdeal, frame_SumOutRefIdeal,
  frame_SumUp, frame_SumUpIdeal, frame_SumUpRefIdeal,
  frame_SumDown, frame_SumDownIdeal, frame_SumDownRefIdeal,
  frame_AdamIn, frame_AdamInIdeal, frame_AdamInRefIdeal,
  frame_AdamOut, frame_AdamOutIdeal, frame_AdamOutRefIdeal,
  frame_AdamUp, frame_AdamUpIdeal, frame_AdamUpRefIdeal,
  frame_AdamDown, frame_AdamDownIdeal, frame_AdamDownRefIdeal,
  frame_AdamSmall, frame_AdamSmallIdeal, frame_AdamSmallRefIdeal,
  frame_AdamAda, frame_AdamAdaIdeal, frame_AdamAdaRefIdeal,
  frame_GradIn, frame_GradInIdeal, frame_GradInRefIdeal,
  frame_GradOut, frame_GradOutIdeal, frame_GradOutRefIdeal,
  frame_GradUp, frame_GradUpIdeal, frame_GradUpRefIdeal,
  frame_GradDown, frame_GradDownIdeal, frame_GradDownRefIdeal,
  frame_Loss, frame_LossIdeal, frame_LossRefIdeal,
  frame_GradX, frame_GradXIdeal, frame_GradXRefIdeal,
  frame_BackMix, frame_BackMixIdeal, frame_BackMixRefIdeal,
  frame_BackFfn, frame_BackFfnIdeal, frame_BackFfnRefIdeal,
  preserves_Pair, algebraic_Pair, bitexact_Pair,
  preserves_Gather, algebraic_Gather, bitexact_Gather,
  preserves_Chips, algebraic_Chips, bitexact_Chips,
  preserves_SumIn, algebraic_SumIn,
  preserves_SumOut, algebraic_SumOut,
  preserves_SumUp, algebraic_SumUp,
  preserves_SumDown, algebraic_SumDown,
  preserves_AdamIn, algebraic_AdamIn,
  preserves_AdamOut, algebraic_AdamOut,
  preserves_AdamUp, algebraic_AdamUp,
  preserves_AdamDown, algebraic_AdamDown,
  preserves_AdamSmall, algebraic_AdamSmall,
  preserves_AdamAda, algebraic_AdamAda,
  preserves_GradIn, algebraic_GradIn,
  preserves_GradOut, algebraic_GradOut,
  preserves_GradUp, algebraic_GradUp,
  preserves_GradDown, algebraic_GradDown,
  preserves_Loss, algebraic_Loss,
  preserves_GradX, algebraic_GradX,
  preserves_BackMix, algebraic_BackMix,
  preserves_BackFfn, algebraic_BackFfn⟩

end Cert.Proof

end
